-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Blend (m : (ℓ : Loc Cert.Blend.nD Cert.Blend.τ Cert.Blend.sig) → Buf (Elt Bits) ℓ) : Prop :=
  True

def Pre_BlendIdeal (m : (ℓ : Loc Cert.BlendIdeal.nD Cert.BlendIdeal.τ Cert.BlendIdeal.sig) → Buf (Elt Ideal) ℓ) : Prop :=
  True

def Pre_BlendRefIdeal (m : (ℓ : Loc Cert.BlendRefIdeal.nD Cert.BlendRefIdeal.τ Cert.BlendRefIdeal.sig) → Buf (Elt Ideal) ℓ) : Prop :=
  True

def Pre_Coeff (m : (ℓ : Loc Cert.Coeff.nD Cert.Coeff.τ Cert.Coeff.sig) → Buf (Elt Bits) ℓ) : Prop :=
  True

def Pre_CoeffIdeal (m : (ℓ : Loc Cert.CoeffIdeal.nD Cert.CoeffIdeal.τ Cert.CoeffIdeal.sig) → Buf (Elt Ideal) ℓ) : Prop :=
  True

def Pre_CoeffRefIdeal (m : (ℓ : Loc Cert.CoeffRefIdeal.nD Cert.CoeffRefIdeal.τ Cert.CoeffRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Taps (m : (ℓ : Loc Cert.Taps.nD Cert.Taps.τ Cert.Taps.sig) → Buf (Elt Bits) ℓ) : Prop :=
  True

def Pre_TapsIdeal (m : (ℓ : Loc Cert.TapsIdeal.nD Cert.TapsIdeal.τ Cert.TapsIdeal.sig) → Buf (Elt Ideal) ℓ) : Prop :=
  True

def Pre_TapsRefIdeal (m : (ℓ : Loc Cert.TapsRefIdeal.nD Cert.TapsRefIdeal.τ Cert.TapsRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Add (m : (ℓ : Loc Cert.Add.nD Cert.Add.τ Cert.Add.sig) → Buf (Elt Bits) ℓ) : Prop :=
  True

def Pre_AddIdeal (m : (ℓ : Loc Cert.AddIdeal.nD Cert.AddIdeal.τ Cert.AddIdeal.sig) → Buf (Elt Ideal) ℓ) : Prop :=
  True

def Pre_AddRefIdeal (m : (ℓ : Loc Cert.AddRefIdeal.nD Cert.AddRefIdeal.τ Cert.AddRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Flat (m : (ℓ : Loc Cert.Flat.nD Cert.Flat.τ Cert.Flat.sig) → Buf (Elt Bits) ℓ) : Prop :=
  True

def Pre_FlatIdeal (m : (ℓ : Loc Cert.FlatIdeal.nD Cert.FlatIdeal.τ Cert.FlatIdeal.sig) → Buf (Elt Ideal) ℓ) : Prop :=
  True

def Pre_FlatRefIdeal (m : (ℓ : Loc Cert.FlatRefIdeal.nD Cert.FlatRefIdeal.τ Cert.FlatRefIdeal.sig) → Buf (Elt Ideal) ℓ) : Prop :=
  True

def Pre_Cols (m : (ℓ : Loc Cert.Cols.nD Cert.Cols.τ Cert.Cols.sig) → Buf (Elt Bits) ℓ) : Prop :=
  True

def Pre_ColsIdeal (m : (ℓ : Loc Cert.ColsIdeal.nD Cert.ColsIdeal.τ Cert.ColsIdeal.sig) → Buf (Elt Ideal) ℓ) : Prop :=
  True

def Pre_ColsRefIdeal (m : (ℓ : Loc Cert.ColsRefIdeal.nD Cert.ColsRefIdeal.τ Cert.ColsRefIdeal.sig) → Buf (Elt Ideal) ℓ) : Prop :=
  True

def Pre_Kern (m : (ℓ : Loc Cert.Kern.nD Cert.Kern.τ Cert.Kern.sig) → Buf (Elt Bits) ℓ) : Prop :=
  True

def Pre_KernIdeal (m : (ℓ : Loc Cert.KernIdeal.nD Cert.KernIdeal.τ Cert.KernIdeal.sig) → Buf (Elt Ideal) ℓ) : Prop :=
  True

def Pre_KernRefIdeal (m : (ℓ : Loc Cert.KernRefIdeal.nD Cert.KernRefIdeal.τ Cert.KernRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Blend [hBlend : Cert.Blend.Facts] : Prop :=
  ∀ (m : (ℓ : Loc Cert.Blend.nD Cert.Blend.τ Cert.Blend.sig) → Buf (Elt Bits) ℓ) (g : Dev Cert.Blend.nD → PrngReg), Pre_Blend m →
    θ_run (Cert.Blend.defs (F := Bits)) (onTc (τ := Cert.Blend.τ) (Cert.Blend.main (F := Bits))) ⟨m, fun _ => 0, g⟩ (fun r => (∀ c : Dev Cert.Blend.nD,
      r.2.mem ((c.tc : Thread Cert.Blend.nD Cert.Blend.τ).loc Cert.Blend.main_arg0) = m ((c.tc : Thread Cert.Blend.nD Cert.Blend.τ).loc Cert.Blend.main_arg0)
      ∧ r.2.mem ((c.tc : Thread Cert.Blend.nD Cert.Blend.τ).loc Cert.Blend.main_arg1) = m ((c.tc : Thread Cert.Blend.nD Cert.Blend.τ).loc Cert.Blend.main_arg1)
      ∧ r.2.mem ((c.tc : Thread Cert.Blend.nD Cert.Blend.τ).loc Cert.Blend.main_arg2) = m ((c.tc : Thread Cert.Blend.nD Cert.Blend.τ).loc Cert.Blend.main_arg2)
      ∧ r.2.mem ((c.tc : Thread Cert.Blend.nD Cert.Blend.τ).loc Cert.Blend.main_arg3) = m ((c.tc : Thread Cert.Blend.nD Cert.Blend.τ).loc Cert.Blend.main_arg3)
      ∧ r.2.mem ((c.tc : Thread Cert.Blend.nD Cert.Blend.τ).loc Cert.Blend.main_arg4) = m ((c.tc : Thread Cert.Blend.nD Cert.Blend.τ).loc Cert.Blend.main_arg4)
      ∧ r.2.mem ((c.tc : Thread Cert.Blend.nD Cert.Blend.τ).loc Cert.Blend.main_arg5) = m ((c.tc : Thread Cert.Blend.nD Cert.Blend.τ).loc Cert.Blend.main_arg5)
      ∧ r.2.mem ((c.tc : Thread Cert.Blend.nD Cert.Blend.τ).loc Cert.Blend.main_arg6) = m ((c.tc : Thread Cert.Blend.nD Cert.Blend.τ).loc Cert.Blend.main_arg6)
      ∧ r.2.mem ((c.tc : Thread Cert.Blend.nD Cert.Blend.τ).loc Cert.Blend.main_arg7) = m ((c.tc : Thread Cert.Blend.nD Cert.Blend.τ).loc Cert.Blend.main_arg7)
      ∧ r.2.mem ((c.tc : Thread Cert.Blend.nD Cert.Blend.τ).loc Cert.Blend.main_arg8) = m ((c.tc : Thread Cert.Blend.nD Cert.Blend.τ).loc Cert.Blend.main_arg8)
      ∧ r.2.mem ((c.tc : Thread Cert.Blend.nD Cert.Blend.τ).loc Cert.Blend.main_arg9) = m ((c.tc : Thread Cert.Blend.nD Cert.Blend.τ).loc Cert.Blend.main_arg9)
      ∧ r.2.mem ((c.tc : Thread Cert.Blend.nD Cert.Blend.τ).loc Cert.Blend.main_arg10) = m ((c.tc : Thread Cert.Blend.nD Cert.Blend.τ).loc Cert.Blend.main_arg10)
      ∧ r.2.mem ((c.tc : Thread Cert.Blend.nD Cert.Blend.τ).loc Cert.Blend.main_arg11) = m ((c.tc : Thread Cert.Blend.nD Cert.Blend.τ).loc Cert.Blend.main_arg11)
      ∧ r.2.mem ((c.tc : Thread Cert.Blend.nD Cert.Blend.τ).loc Cert.Blend.main_arg12) = m ((c.tc : Thread Cert.Blend.nD Cert.Blend.τ).loc Cert.Blend.main_arg12)
      ∧ r.2.mem ((c.tc : Thread Cert.Blend.nD Cert.Blend.τ).loc Cert.Blend.main_arg13) = m ((c.tc : Thread Cert.Blend.nD Cert.Blend.τ).loc Cert.Blend.main_arg13))
      ∧ r.2.sem = fun _ => 0)

def quiescent_BlendIdeal [hBlendIdeal : Cert.BlendIdeal.Facts] : Prop :=
  ∀ (m : (ℓ : Loc Cert.BlendIdeal.nD Cert.BlendIdeal.τ Cert.BlendIdeal.sig) → Buf (Elt Ideal) ℓ) (g : Dev Cert.BlendIdeal.nD → PrngReg), Pre_BlendIdeal m →
    θ_run (Cert.BlendIdeal.defs (F := Ideal)) (onTc (τ := Cert.BlendIdeal.τ) (Cert.BlendIdeal.main (F := Ideal))) ⟨m, fun _ => 0, g⟩ (fun r => (∀ c : Dev Cert.BlendIdeal.nD,
      r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
      ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
      ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
      ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
      ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4)
      ∧ r.2.mem ((c.tc : Thread Cert.BlendIdeal.nD Cert.BlendIdeal.τ).loc Cert.BlendIdeal.main_arg5) = m ((c.tc : Thread Cert.BlendIdeal.nD Cert.BlendIdeal.τ).loc Cert.BlendIdeal.main_arg5)
      ∧ r.2.mem ((c.tc : Thread Cert.BlendIdeal.nD Cert.BlendIdeal.τ).loc Cert.BlendIdeal.main_arg6) = m ((c.tc : Thread Cert.BlendIdeal.nD Cert.BlendIdeal.τ).loc Cert.BlendIdeal.main_arg6)
      ∧ r.2.mem ((c.tc : Thread Cert.BlendIdeal.nD Cert.BlendIdeal.τ).loc Cert.BlendIdeal.main_arg7) = m ((c.tc : Thread Cert.BlendIdeal.nD Cert.BlendIdeal.τ).loc Cert.BlendIdeal.main_arg7)
      ∧ r.2.mem ((c.tc : Thread Cert.BlendIdeal.nD Cert.BlendIdeal.τ).loc Cert.BlendIdeal.main_arg8) = m ((c.tc : Thread Cert.BlendIdeal.nD Cert.BlendIdeal.τ).loc Cert.BlendIdeal.main_arg8)
      ∧ r.2.mem ((c.tc : Thread Cert.BlendIdeal.nD Cert.BlendIdeal.τ).loc Cert.BlendIdeal.main_arg9) = m ((c.tc : Thread Cert.BlendIdeal.nD Cert.BlendIdeal.τ).loc Cert.BlendIdeal.main_arg9)
      ∧ r.2.mem ((c.tc : Thread Cert.BlendIdeal.nD Cert.BlendIdeal.τ).loc Cert.BlendIdeal.main_arg10) = m ((c.tc : Thread Cert.BlendIdeal.nD Cert.BlendIdeal.τ).loc Cert.BlendIdeal.main_arg10)
      ∧ r.2.mem ((c.tc : Thread Cert.BlendIdeal.nD Cert.BlendIdeal.τ).loc Cert.BlendIdeal.main_arg11) = m ((c.tc : Thread Cert.BlendIdeal.nD Cert.BlendIdeal.τ).loc Cert.BlendIdeal.main_arg11)
      ∧ r.2.mem ((c.tc : Thread Cert.BlendIdeal.nD Cert.BlendIdeal.τ).loc Cert.BlendIdeal.main_arg12) = m ((c.tc : Thread Cert.BlendIdeal.nD Cert.BlendIdeal.τ).loc Cert.BlendIdeal.main_arg12)
      ∧ r.2.mem ((c.tc : Thread Cert.BlendIdeal.nD Cert.BlendIdeal.τ).loc Cert.BlendIdeal.main_arg13) = m ((c.tc : Thread Cert.BlendIdeal.nD Cert.BlendIdeal.τ).loc Cert.BlendIdeal.main_arg13))
      ∧ r.2.sem = fun _ => 0)

def quiescent_BlendRefIdeal [hBlendRefIdeal : Cert.BlendRefIdeal.Facts] : Prop :=
  ∀ (m : (ℓ : Loc Cert.BlendRefIdeal.nD Cert.BlendRefIdeal.τ Cert.BlendRefIdeal.sig) → Buf (Elt Ideal) ℓ) (g : Dev Cert.BlendRefIdeal.nD → PrngReg), Pre_BlendRefIdeal m →
    θ_run (Cert.BlendRefIdeal.defs (F := Ideal)) (onTc (τ := Cert.BlendRefIdeal.τ) (Cert.BlendRefIdeal.main (F := Ideal))) ⟨m, fun _ => 0, g⟩ (fun r => (∀ c : Dev Cert.BlendRefIdeal.nD,
      r.2.mem ((c.tc : Thread Cert.BlendRefIdeal.nD Cert.BlendRefIdeal.τ).loc Cert.BlendRefIdeal.main_arg0) = m ((c.tc : Thread Cert.BlendRefIdeal.nD Cert.BlendRefIdeal.τ).loc Cert.BlendRefIdeal.main_arg0)
      ∧ r.2.mem ((c.tc : Thread Cert.BlendRefIdeal.nD Cert.BlendRefIdeal.τ).loc Cert.BlendRefIdeal.main_arg1) = m ((c.tc : Thread Cert.BlendRefIdeal.nD Cert.BlendRefIdeal.τ).loc Cert.BlendRefIdeal.main_arg1)
      ∧ r.2.mem ((c.tc : Thread Cert.BlendRefIdeal.nD Cert.BlendRefIdeal.τ).loc Cert.BlendRefIdeal.main_arg2) = m ((c.tc : Thread Cert.BlendRefIdeal.nD Cert.BlendRefIdeal.τ).loc Cert.BlendRefIdeal.main_arg2)
      ∧ r.2.mem ((c.tc : Thread Cert.BlendRefIdeal.nD Cert.BlendRefIdeal.τ).loc Cert.BlendRefIdeal.main_arg3) = m ((c.tc : Thread Cert.BlendRefIdeal.nD Cert.BlendRefIdeal.τ).loc Cert.BlendRefIdeal.main_arg3)
      ∧ r.2.mem ((c.tc : Thread Cert.BlendRefIdeal.nD Cert.BlendRefIdeal.τ).loc Cert.BlendRefIdeal.main_arg4) = m ((c.tc : Thread Cert.BlendRefIdeal.nD Cert.BlendRefIdeal.τ).loc Cert.BlendRefIdeal.main_arg4)
      ∧ r.2.mem ((c.tc : Thread Cert.BlendRefIdeal.nD Cert.BlendRefIdeal.τ).loc Cert.BlendRefIdeal.main_arg5) = m ((c.tc : Thread Cert.BlendRefIdeal.nD Cert.BlendRefIdeal.τ).loc Cert.BlendRefIdeal.main_arg5)
      ∧ r.2.mem ((c.tc : Thread Cert.BlendRefIdeal.nD Cert.BlendRefIdeal.τ).loc Cert.BlendRefIdeal.main_arg6) = m ((c.tc : Thread Cert.BlendRefIdeal.nD Cert.BlendRefIdeal.τ).loc Cert.BlendRefIdeal.main_arg6)
      ∧ r.2.mem ((c.tc : Thread Cert.BlendRefIdeal.nD Cert.BlendRefIdeal.τ).loc Cert.BlendRefIdeal.main_arg7) = m ((c.tc : Thread Cert.BlendRefIdeal.nD Cert.BlendRefIdeal.τ).loc Cert.BlendRefIdeal.main_arg7)
      ∧ r.2.mem ((c.tc : Thread Cert.BlendRefIdeal.nD Cert.BlendRefIdeal.τ).loc Cert.BlendRefIdeal.main_arg8) = m ((c.tc : Thread Cert.BlendRefIdeal.nD Cert.BlendRefIdeal.τ).loc Cert.BlendRefIdeal.main_arg8)
      ∧ r.2.mem ((c.tc : Thread Cert.BlendRefIdeal.nD Cert.BlendRefIdeal.τ).loc Cert.BlendRefIdeal.main_arg9) = m ((c.tc : Thread Cert.BlendRefIdeal.nD Cert.BlendRefIdeal.τ).loc Cert.BlendRefIdeal.main_arg9)
      ∧ r.2.mem ((c.tc : Thread Cert.BlendRefIdeal.nD Cert.BlendRefIdeal.τ).loc Cert.BlendRefIdeal.main_arg10) = m ((c.tc : Thread Cert.BlendRefIdeal.nD Cert.BlendRefIdeal.τ).loc Cert.BlendRefIdeal.main_arg10)
      ∧ r.2.mem ((c.tc : Thread Cert.BlendRefIdeal.nD Cert.BlendRefIdeal.τ).loc Cert.BlendRefIdeal.main_arg11) = m ((c.tc : Thread Cert.BlendRefIdeal.nD Cert.BlendRefIdeal.τ).loc Cert.BlendRefIdeal.main_arg11)
      ∧ r.2.mem ((c.tc : Thread Cert.BlendRefIdeal.nD Cert.BlendRefIdeal.τ).loc Cert.BlendRefIdeal.main_arg12) = m ((c.tc : Thread Cert.BlendRefIdeal.nD Cert.BlendRefIdeal.τ).loc Cert.BlendRefIdeal.main_arg12)
      ∧ r.2.mem ((c.tc : Thread Cert.BlendRefIdeal.nD Cert.BlendRefIdeal.τ).loc Cert.BlendRefIdeal.main_arg13) = m ((c.tc : Thread Cert.BlendRefIdeal.nD Cert.BlendRefIdeal.τ).loc Cert.BlendRefIdeal.main_arg13))
      ∧ r.2.sem = fun _ => 0)

def quiescent_Coeff [hCoeff : Cert.Coeff.Facts] : Prop :=
  ∀ (m : (ℓ : Loc Cert.Coeff.nD Cert.Coeff.τ Cert.Coeff.sig) → Buf (Elt Bits) ℓ) (g : Dev Cert.Coeff.nD → PrngReg), Pre_Coeff m →
    θ_run (Cert.Coeff.defs (F := Bits)) (onTc (τ := Cert.Coeff.τ) (Cert.Coeff.main (F := Bits))) ⟨m, fun _ => 0, g⟩ (fun r => (∀ c : Dev Cert.Coeff.nD,
      r.2.mem ((c.tc : Thread Cert.Coeff.nD Cert.Coeff.τ).loc Cert.Coeff.main_arg0) = m ((c.tc : Thread Cert.Coeff.nD Cert.Coeff.τ).loc Cert.Coeff.main_arg0)
      ∧ r.2.mem ((c.tc : Thread Cert.Coeff.nD Cert.Coeff.τ).loc Cert.Coeff.main_arg1) = m ((c.tc : Thread Cert.Coeff.nD Cert.Coeff.τ).loc Cert.Coeff.main_arg1)
      ∧ r.2.mem ((c.tc : Thread Cert.Coeff.nD Cert.Coeff.τ).loc Cert.Coeff.main_arg2) = m ((c.tc : Thread Cert.Coeff.nD Cert.Coeff.τ).loc Cert.Coeff.main_arg2)
      ∧ r.2.mem ((c.tc : Thread Cert.Coeff.nD Cert.Coeff.τ).loc Cert.Coeff.main_arg3) = m ((c.tc : Thread Cert.Coeff.nD Cert.Coeff.τ).loc Cert.Coeff.main_arg3)
      ∧ r.2.mem ((c.tc : Thread Cert.Coeff.nD Cert.Coeff.τ).loc Cert.Coeff.main_arg4) = m ((c.tc : Thread Cert.Coeff.nD Cert.Coeff.τ).loc Cert.Coeff.main_arg4)
      ∧ r.2.mem ((c.tc : Thread Cert.Coeff.nD Cert.Coeff.τ).loc Cert.Coeff.main_arg5) = m ((c.tc : Thread Cert.Coeff.nD Cert.Coeff.τ).loc Cert.Coeff.main_arg5)
      ∧ r.2.mem ((c.tc : Thread Cert.Coeff.nD Cert.Coeff.τ).loc Cert.Coeff.main_arg6) = m ((c.tc : Thread Cert.Coeff.nD Cert.Coeff.τ).loc Cert.Coeff.main_arg6))
      ∧ r.2.sem = fun _ => 0)

def quiescent_CoeffIdeal [hCoeffIdeal : Cert.CoeffIdeal.Facts] : Prop :=
  ∀ (m : (ℓ : Loc Cert.CoeffIdeal.nD Cert.CoeffIdeal.τ Cert.CoeffIdeal.sig) → Buf (Elt Ideal) ℓ) (g : Dev Cert.CoeffIdeal.nD → PrngReg), Pre_CoeffIdeal m →
    θ_run (Cert.CoeffIdeal.defs (F := Ideal)) (onTc (τ := Cert.CoeffIdeal.τ) (Cert.CoeffIdeal.main (F := Ideal))) ⟨m, fun _ => 0, g⟩ (fun r => (∀ c : Dev Cert.CoeffIdeal.nD,
      r.2.mem ((c.tc : Thread Cert.CoeffIdeal.nD Cert.CoeffIdeal.τ).loc Cert.CoeffIdeal.main_arg0) = m ((c.tc : Thread Cert.CoeffIdeal.nD Cert.CoeffIdeal.τ).loc Cert.CoeffIdeal.main_arg0)
      ∧ r.2.mem ((c.tc : Thread Cert.CoeffIdeal.nD Cert.CoeffIdeal.τ).loc Cert.CoeffIdeal.main_arg1) = m ((c.tc : Thread Cert.CoeffIdeal.nD Cert.CoeffIdeal.τ).loc Cert.CoeffIdeal.main_arg1)
      ∧ r.2.mem ((c.tc : Thread Cert.CoeffIdeal.nD Cert.CoeffIdeal.τ).loc Cert.CoeffIdeal.main_arg2) = m ((c.tc : Thread Cert.CoeffIdeal.nD Cert.CoeffIdeal.τ).loc Cert.CoeffIdeal.main_arg2)
      ∧ r.2.mem ((c.tc : Thread Cert.CoeffIdeal.nD Cert.CoeffIdeal.τ).loc Cert.CoeffIdeal.main_arg3) = m ((c.tc : Thread Cert.CoeffIdeal.nD Cert.CoeffIdeal.τ).loc Cert.CoeffIdeal.main_arg3)
      ∧ r.2.mem ((c.tc : Thread Cert.CoeffIdeal.nD Cert.CoeffIdeal.τ).loc Cert.CoeffIdeal.main_arg4) = m ((c.tc : Thread Cert.CoeffIdeal.nD Cert.CoeffIdeal.τ).loc Cert.CoeffIdeal.main_arg4)
      ∧ r.2.mem ((c.tc : Thread Cert.CoeffIdeal.nD Cert.CoeffIdeal.τ).loc Cert.CoeffIdeal.main_arg5) = m ((c.tc : Thread Cert.CoeffIdeal.nD Cert.CoeffIdeal.τ).loc Cert.CoeffIdeal.main_arg5)
      ∧ r.2.mem ((c.tc : Thread Cert.CoeffIdeal.nD Cert.CoeffIdeal.τ).loc Cert.CoeffIdeal.main_arg6) = m ((c.tc : Thread Cert.CoeffIdeal.nD Cert.CoeffIdeal.τ).loc Cert.CoeffIdeal.main_arg6))
      ∧ r.2.sem = fun _ => 0)

def quiescent_CoeffRefIdeal [hCoeffRefIdeal : Cert.CoeffRefIdeal.Facts] : Prop :=
  ∀ (m : (ℓ : Loc Cert.CoeffRefIdeal.nD Cert.CoeffRefIdeal.τ Cert.CoeffRefIdeal.sig) → Buf (Elt Ideal) ℓ) (g : Dev Cert.CoeffRefIdeal.nD → PrngReg), Pre_CoeffRefIdeal m →
    θ_run (Cert.CoeffRefIdeal.defs (F := Ideal)) (onTc (τ := Cert.CoeffRefIdeal.τ) (Cert.CoeffRefIdeal.main (F := Ideal))) ⟨m, fun _ => 0, g⟩ (fun r => (∀ c : Dev Cert.CoeffRefIdeal.nD,
      r.2.mem ((c.tc : Thread Cert.CoeffRefIdeal.nD Cert.CoeffRefIdeal.τ).loc Cert.CoeffRefIdeal.main_arg0) = m ((c.tc : Thread Cert.CoeffRefIdeal.nD Cert.CoeffRefIdeal.τ).loc Cert.CoeffRefIdeal.main_arg0)
      ∧ r.2.mem ((c.tc : Thread Cert.CoeffRefIdeal.nD Cert.CoeffRefIdeal.τ).loc Cert.CoeffRefIdeal.main_arg1) = m ((c.tc : Thread Cert.CoeffRefIdeal.nD Cert.CoeffRefIdeal.τ).loc Cert.CoeffRefIdeal.main_arg1)
      ∧ r.2.mem ((c.tc : Thread Cert.CoeffRefIdeal.nD Cert.CoeffRefIdeal.τ).loc Cert.CoeffRefIdeal.main_arg2) = m ((c.tc : Thread Cert.CoeffRefIdeal.nD Cert.CoeffRefIdeal.τ).loc Cert.CoeffRefIdeal.main_arg2)
      ∧ r.2.mem ((c.tc : Thread Cert.CoeffRefIdeal.nD Cert.CoeffRefIdeal.τ).loc Cert.CoeffRefIdeal.main_arg3) = m ((c.tc : Thread Cert.CoeffRefIdeal.nD Cert.CoeffRefIdeal.τ).loc Cert.CoeffRefIdeal.main_arg3)
      ∧ r.2.mem ((c.tc : Thread Cert.CoeffRefIdeal.nD Cert.CoeffRefIdeal.τ).loc Cert.CoeffRefIdeal.main_arg4) = m ((c.tc : Thread Cert.CoeffRefIdeal.nD Cert.CoeffRefIdeal.τ).loc Cert.CoeffRefIdeal.main_arg4)
      ∧ r.2.mem ((c.tc : Thread Cert.CoeffRefIdeal.nD Cert.CoeffRefIdeal.τ).loc Cert.CoeffRefIdeal.main_arg5) = m ((c.tc : Thread Cert.CoeffRefIdeal.nD Cert.CoeffRefIdeal.τ).loc Cert.CoeffRefIdeal.main_arg5)
      ∧ r.2.mem ((c.tc : Thread Cert.CoeffRefIdeal.nD Cert.CoeffRefIdeal.τ).loc Cert.CoeffRefIdeal.main_arg6) = m ((c.tc : Thread Cert.CoeffRefIdeal.nD Cert.CoeffRefIdeal.τ).loc Cert.CoeffRefIdeal.main_arg6))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Taps [hTaps : Cert.Taps.Facts] : Prop :=
  ∀ (m : (ℓ : Loc Cert.Taps.nD Cert.Taps.τ Cert.Taps.sig) → Buf (Elt Bits) ℓ) (g : Dev Cert.Taps.nD → PrngReg), Pre_Taps m →
    θ_run (Cert.Taps.defs (F := Bits)) (onTc (τ := Cert.Taps.τ) (Cert.Taps.main (F := Bits))) ⟨m, fun _ => 0, g⟩ (fun r => (∀ c : Dev Cert.Taps.nD,
      r.2.mem ((c.tc : Thread Cert.Taps.nD Cert.Taps.τ).loc Cert.Taps.main_arg0) = m ((c.tc : Thread Cert.Taps.nD Cert.Taps.τ).loc Cert.Taps.main_arg0)
      ∧ r.2.mem ((c.tc : Thread Cert.Taps.nD Cert.Taps.τ).loc Cert.Taps.main_arg1) = m ((c.tc : Thread Cert.Taps.nD Cert.Taps.τ).loc Cert.Taps.main_arg1)
      ∧ r.2.mem ((c.tc : Thread Cert.Taps.nD Cert.Taps.τ).loc Cert.Taps.main_arg2) = m ((c.tc : Thread Cert.Taps.nD Cert.Taps.τ).loc Cert.Taps.main_arg2))
      ∧ r.2.sem = fun _ => 0)

def quiescent_TapsIdeal [hTapsIdeal : Cert.TapsIdeal.Facts] : Prop :=
  ∀ (m : (ℓ : Loc Cert.TapsIdeal.nD Cert.TapsIdeal.τ Cert.TapsIdeal.sig) → Buf (Elt Ideal) ℓ) (g : Dev Cert.TapsIdeal.nD → PrngReg), Pre_TapsIdeal m →
    θ_run (Cert.TapsIdeal.defs (F := Ideal)) (onTc (τ := Cert.TapsIdeal.τ) (Cert.TapsIdeal.main (F := Ideal))) ⟨m, fun _ => 0, g⟩ (fun r => (∀ c : Dev Cert.TapsIdeal.nD,
      r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
      ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
      ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2))
      ∧ r.2.sem = fun _ => 0)

def quiescent_TapsRefIdeal [hTapsRefIdeal : Cert.TapsRefIdeal.Facts] : Prop :=
  ∀ (m : (ℓ : Loc Cert.TapsRefIdeal.nD Cert.TapsRefIdeal.τ Cert.TapsRefIdeal.sig) → Buf (Elt Ideal) ℓ) (g : Dev Cert.TapsRefIdeal.nD → PrngReg), Pre_TapsRefIdeal m →
    θ_run (Cert.TapsRefIdeal.defs (F := Ideal)) (onTc (τ := Cert.TapsRefIdeal.τ) (Cert.TapsRefIdeal.main (F := Ideal))) ⟨m, fun _ => 0, g⟩ (fun r => (∀ c : Dev Cert.TapsRefIdeal.nD,
      r.2.mem ((c.tc : Thread Cert.TapsRefIdeal.nD Cert.TapsRefIdeal.τ).loc Cert.TapsRefIdeal.main_arg0) = m ((c.tc : Thread Cert.TapsRefIdeal.nD Cert.TapsRefIdeal.τ).loc Cert.TapsRefIdeal.main_arg0)
      ∧ r.2.mem ((c.tc : Thread Cert.TapsRefIdeal.nD Cert.TapsRefIdeal.τ).loc Cert.TapsRefIdeal.main_arg1) = m ((c.tc : Thread Cert.TapsRefIdeal.nD Cert.TapsRefIdeal.τ).loc Cert.TapsRefIdeal.main_arg1)
      ∧ r.2.mem ((c.tc : Thread Cert.TapsRefIdeal.nD Cert.TapsRefIdeal.τ).loc Cert.TapsRefIdeal.main_arg2) = m ((c.tc : Thread Cert.TapsRefIdeal.nD Cert.TapsRefIdeal.τ).loc Cert.TapsRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_Add [hAdd : Cert.Add.Facts] : Prop :=
  ∀ (m : (ℓ : Loc Cert.Add.nD Cert.Add.τ Cert.Add.sig) → Buf (Elt Bits) ℓ) (g : Dev Cert.Add.nD → PrngReg), Pre_Add m →
    θ_run (Cert.Add.defs (F := Bits)) (onTc (τ := Cert.Add.τ) (Cert.Add.main (F := Bits))) ⟨m, fun _ => 0, g⟩ (fun r => (∀ c : Dev Cert.Add.nD,
      r.2.mem ((c.tc : Thread Cert.Add.nD Cert.Add.τ).loc Cert.Add.main_arg0) = m ((c.tc : Thread Cert.Add.nD Cert.Add.τ).loc Cert.Add.main_arg0)
      ∧ r.2.mem ((c.tc : Thread Cert.Add.nD Cert.Add.τ).loc Cert.Add.main_arg1) = m ((c.tc : Thread Cert.Add.nD Cert.Add.τ).loc Cert.Add.main_arg1)
      ∧ r.2.mem ((c.tc : Thread Cert.Add.nD Cert.Add.τ).loc Cert.Add.main_arg2) = m ((c.tc : Thread Cert.Add.nD Cert.Add.τ).loc Cert.Add.main_arg2))
      ∧ r.2.sem = fun _ => 0)

def quiescent_AddIdeal [hAddIdeal : Cert.AddIdeal.Facts] : Prop :=
  ∀ (m : (ℓ : Loc Cert.AddIdeal.nD Cert.AddIdeal.τ Cert.AddIdeal.sig) → Buf (Elt Ideal) ℓ) (g : Dev Cert.AddIdeal.nD → PrngReg), Pre_AddIdeal m →
    θ_run (Cert.AddIdeal.defs (F := Ideal)) (onTc (τ := Cert.AddIdeal.τ) (Cert.AddIdeal.main (F := Ideal))) ⟨m, fun _ => 0, g⟩ (fun r => (∀ c : Dev Cert.AddIdeal.nD,
      r.2.mem ((c.tc : Thread Cert.AddIdeal.nD Cert.AddIdeal.τ).loc Cert.AddIdeal.main_arg0) = m ((c.tc : Thread Cert.AddIdeal.nD Cert.AddIdeal.τ).loc Cert.AddIdeal.main_arg0)
      ∧ r.2.mem ((c.tc : Thread Cert.AddIdeal.nD Cert.AddIdeal.τ).loc Cert.AddIdeal.main_arg1) = m ((c.tc : Thread Cert.AddIdeal.nD Cert.AddIdeal.τ).loc Cert.AddIdeal.main_arg1)
      ∧ r.2.mem ((c.tc : Thread Cert.AddIdeal.nD Cert.AddIdeal.τ).loc Cert.AddIdeal.main_arg2) = m ((c.tc : Thread Cert.AddIdeal.nD Cert.AddIdeal.τ).loc Cert.AddIdeal.main_arg2))
      ∧ r.2.sem = fun _ => 0)

def quiescent_AddRefIdeal [hAddRefIdeal : Cert.AddRefIdeal.Facts] : Prop :=
  ∀ (m : (ℓ : Loc Cert.AddRefIdeal.nD Cert.AddRefIdeal.τ Cert.AddRefIdeal.sig) → Buf (Elt Ideal) ℓ) (g : Dev Cert.AddRefIdeal.nD → PrngReg), Pre_AddRefIdeal m →
    θ_run (Cert.AddRefIdeal.defs (F := Ideal)) (onTc (τ := Cert.AddRefIdeal.τ) (Cert.AddRefIdeal.main (F := Ideal))) ⟨m, fun _ => 0, g⟩ (fun r => (∀ c : Dev Cert.AddRefIdeal.nD,
      r.2.mem ((c.tc : Thread Cert.AddRefIdeal.nD Cert.AddRefIdeal.τ).loc Cert.AddRefIdeal.main_arg0) = m ((c.tc : Thread Cert.AddRefIdeal.nD Cert.AddRefIdeal.τ).loc Cert.AddRefIdeal.main_arg0)
      ∧ r.2.mem ((c.tc : Thread Cert.AddRefIdeal.nD Cert.AddRefIdeal.τ).loc Cert.AddRefIdeal.main_arg1) = m ((c.tc : Thread Cert.AddRefIdeal.nD Cert.AddRefIdeal.τ).loc Cert.AddRefIdeal.main_arg1)
      ∧ r.2.mem ((c.tc : Thread Cert.AddRefIdeal.nD Cert.AddRefIdeal.τ).loc Cert.AddRefIdeal.main_arg2) = m ((c.tc : Thread Cert.AddRefIdeal.nD Cert.AddRefIdeal.τ).loc Cert.AddRefIdeal.main_arg2))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6))
      ∧ r.2.sem = fun _ => 0)

def quiescent_Flat [hFlat : Cert.Flat.Facts] : Prop :=
  ∀ (m : (ℓ : Loc Cert.Flat.nD Cert.Flat.τ Cert.Flat.sig) → Buf (Elt Bits) ℓ) (g : Dev Cert.Flat.nD → PrngReg), Pre_Flat m →
    θ_run (Cert.Flat.defs (F := Bits)) (onTc (τ := Cert.Flat.τ) (Cert.Flat.main (F := Bits))) ⟨m, fun _ => 0, g⟩ (fun r => (∀ c : Dev Cert.Flat.nD,
      r.2.mem ((c.tc : Thread Cert.Flat.nD Cert.Flat.τ).loc Cert.Flat.main_arg0) = m ((c.tc : Thread Cert.Flat.nD Cert.Flat.τ).loc Cert.Flat.main_arg0)
      ∧ r.2.mem ((c.tc : Thread Cert.Flat.nD Cert.Flat.τ).loc Cert.Flat.main_arg1) = m ((c.tc : Thread Cert.Flat.nD Cert.Flat.τ).loc Cert.Flat.main_arg1)
      ∧ r.2.mem ((c.tc : Thread Cert.Flat.nD Cert.Flat.τ).loc Cert.Flat.main_arg2) = m ((c.tc : Thread Cert.Flat.nD Cert.Flat.τ).loc Cert.Flat.main_arg2)
      ∧ r.2.mem ((c.tc : Thread Cert.Flat.nD Cert.Flat.τ).loc Cert.Flat.main_arg3) = m ((c.tc : Thread Cert.Flat.nD Cert.Flat.τ).loc Cert.Flat.main_arg3))
      ∧ r.2.sem = fun _ => 0)

def quiescent_FlatIdeal [hFlatIdeal : Cert.FlatIdeal.Facts] : Prop :=
  ∀ (m : (ℓ : Loc Cert.FlatIdeal.nD Cert.FlatIdeal.τ Cert.FlatIdeal.sig) → Buf (Elt Ideal) ℓ) (g : Dev Cert.FlatIdeal.nD → PrngReg), Pre_FlatIdeal m →
    θ_run (Cert.FlatIdeal.defs (F := Ideal)) (onTc (τ := Cert.FlatIdeal.τ) (Cert.FlatIdeal.main (F := Ideal))) ⟨m, fun _ => 0, g⟩ (fun r => (∀ c : Dev Cert.FlatIdeal.nD,
      r.2.mem ((c.tc : Thread Cert.FlatIdeal.nD Cert.FlatIdeal.τ).loc Cert.FlatIdeal.main_arg0) = m ((c.tc : Thread Cert.FlatIdeal.nD Cert.FlatIdeal.τ).loc Cert.FlatIdeal.main_arg0)
      ∧ r.2.mem ((c.tc : Thread Cert.FlatIdeal.nD Cert.FlatIdeal.τ).loc Cert.FlatIdeal.main_arg1) = m ((c.tc : Thread Cert.FlatIdeal.nD Cert.FlatIdeal.τ).loc Cert.FlatIdeal.main_arg1)
      ∧ r.2.mem ((c.tc : Thread Cert.FlatIdeal.nD Cert.FlatIdeal.τ).loc Cert.FlatIdeal.main_arg2) = m ((c.tc : Thread Cert.FlatIdeal.nD Cert.FlatIdeal.τ).loc Cert.FlatIdeal.main_arg2)
      ∧ r.2.mem ((c.tc : Thread Cert.FlatIdeal.nD Cert.FlatIdeal.τ).loc Cert.FlatIdeal.main_arg3) = m ((c.tc : Thread Cert.FlatIdeal.nD Cert.FlatIdeal.τ).loc Cert.FlatIdeal.main_arg3))
      ∧ r.2.sem = fun _ => 0)

def quiescent_FlatRefIdeal [hFlatRefIdeal : Cert.FlatRefIdeal.Facts] : Prop :=
  ∀ (m : (ℓ : Loc Cert.FlatRefIdeal.nD Cert.FlatRefIdeal.τ Cert.FlatRefIdeal.sig) → Buf (Elt Ideal) ℓ) (g : Dev Cert.FlatRefIdeal.nD → PrngReg), Pre_FlatRefIdeal m →
    θ_run (Cert.FlatRefIdeal.defs (F := Ideal)) (onTc (τ := Cert.FlatRefIdeal.τ) (Cert.FlatRefIdeal.main (F := Ideal))) ⟨m, fun _ => 0, g⟩ (fun r => (∀ c : Dev Cert.FlatRefIdeal.nD,
      r.2.mem ((c.tc : Thread Cert.FlatRefIdeal.nD Cert.FlatRefIdeal.τ).loc Cert.FlatRefIdeal.main_arg0) = m ((c.tc : Thread Cert.FlatRefIdeal.nD Cert.FlatRefIdeal.τ).loc Cert.FlatRefIdeal.main_arg0)
      ∧ r.2.mem ((c.tc : Thread Cert.FlatRefIdeal.nD Cert.FlatRefIdeal.τ).loc Cert.FlatRefIdeal.main_arg1) = m ((c.tc : Thread Cert.FlatRefIdeal.nD Cert.FlatRefIdeal.τ).loc Cert.FlatRefIdeal.main_arg1)
      ∧ r.2.mem ((c.tc : Thread Cert.FlatRefIdeal.nD Cert.FlatRefIdeal.τ).loc Cert.FlatRefIdeal.main_arg2) = m ((c.tc : Thread Cert.FlatRefIdeal.nD Cert.FlatRefIdeal.τ).loc Cert.FlatRefIdeal.main_arg2)
      ∧ r.2.mem ((c.tc : Thread Cert.FlatRefIdeal.nD Cert.FlatRefIdeal.τ).loc Cert.FlatRefIdeal.main_arg3) = m ((c.tc : Thread Cert.FlatRefIdeal.nD Cert.FlatRefIdeal.τ).loc Cert.FlatRefIdeal.main_arg3))
      ∧ r.2.sem = fun _ => 0)

def quiescent_Cols [hCols : Cert.Cols.Facts] : Prop :=
  ∀ (m : (ℓ : Loc Cert.Cols.nD Cert.Cols.τ Cert.Cols.sig) → Buf (Elt Bits) ℓ) (g : Dev Cert.Cols.nD → PrngReg), Pre_Cols m →
    θ_run (Cert.Cols.defs (F := Bits)) (onTc (τ := Cert.Cols.τ) (Cert.Cols.main (F := Bits))) ⟨m, fun _ => 0, g⟩ (fun r => (∀ c : Dev Cert.Cols.nD,
      r.2.mem ((c.tc : Thread Cert.Cols.nD Cert.Cols.τ).loc Cert.Cols.main_arg0) = m ((c.tc : Thread Cert.Cols.nD Cert.Cols.τ).loc Cert.Cols.main_arg0)
      ∧ r.2.mem ((c.tc : Thread Cert.Cols.nD Cert.Cols.τ).loc Cert.Cols.main_arg1) = m ((c.tc : Thread Cert.Cols.nD Cert.Cols.τ).loc Cert.Cols.main_arg1)
      ∧ r.2.mem ((c.tc : Thread Cert.Cols.nD Cert.Cols.τ).loc Cert.Cols.main_arg2) = m ((c.tc : Thread Cert.Cols.nD Cert.Cols.τ).loc Cert.Cols.main_arg2)
      ∧ r.2.mem ((c.tc : Thread Cert.Cols.nD Cert.Cols.τ).loc Cert.Cols.main_arg3) = m ((c.tc : Thread Cert.Cols.nD Cert.Cols.τ).loc Cert.Cols.main_arg3)
      ∧ r.2.mem ((c.tc : Thread Cert.Cols.nD Cert.Cols.τ).loc Cert.Cols.main_arg4) = m ((c.tc : Thread Cert.Cols.nD Cert.Cols.τ).loc Cert.Cols.main_arg4)
      ∧ r.2.mem ((c.tc : Thread Cert.Cols.nD Cert.Cols.τ).loc Cert.Cols.main_arg5) = m ((c.tc : Thread Cert.Cols.nD Cert.Cols.τ).loc Cert.Cols.main_arg5)
      ∧ r.2.mem ((c.tc : Thread Cert.Cols.nD Cert.Cols.τ).loc Cert.Cols.main_arg6) = m ((c.tc : Thread Cert.Cols.nD Cert.Cols.τ).loc Cert.Cols.main_arg6))
      ∧ r.2.sem = fun _ => 0)

def quiescent_ColsIdeal [hColsIdeal : Cert.ColsIdeal.Facts] : Prop :=
  ∀ (m : (ℓ : Loc Cert.ColsIdeal.nD Cert.ColsIdeal.τ Cert.ColsIdeal.sig) → Buf (Elt Ideal) ℓ) (g : Dev Cert.ColsIdeal.nD → PrngReg), Pre_ColsIdeal m →
    θ_run (Cert.ColsIdeal.defs (F := Ideal)) (onTc (τ := Cert.ColsIdeal.τ) (Cert.ColsIdeal.main (F := Ideal))) ⟨m, fun _ => 0, g⟩ (fun r => (∀ c : Dev Cert.ColsIdeal.nD,
      r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
      ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
      ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2)
      ∧ r.2.mem ((c.tc : Thread Cert.ColsIdeal.nD Cert.ColsIdeal.τ).loc Cert.ColsIdeal.main_arg3) = m ((c.tc : Thread Cert.ColsIdeal.nD Cert.ColsIdeal.τ).loc Cert.ColsIdeal.main_arg3)
      ∧ r.2.mem ((c.tc : Thread Cert.ColsIdeal.nD Cert.ColsIdeal.τ).loc Cert.ColsIdeal.main_arg4) = m ((c.tc : Thread Cert.ColsIdeal.nD Cert.ColsIdeal.τ).loc Cert.ColsIdeal.main_arg4)
      ∧ r.2.mem ((c.tc : Thread Cert.ColsIdeal.nD Cert.ColsIdeal.τ).loc Cert.ColsIdeal.main_arg5) = m ((c.tc : Thread Cert.ColsIdeal.nD Cert.ColsIdeal.τ).loc Cert.ColsIdeal.main_arg5)
      ∧ r.2.mem ((c.tc : Thread Cert.ColsIdeal.nD Cert.ColsIdeal.τ).loc Cert.ColsIdeal.main_arg6) = m ((c.tc : Thread Cert.ColsIdeal.nD Cert.ColsIdeal.τ).loc Cert.ColsIdeal.main_arg6))
      ∧ r.2.sem = fun _ => 0)

def quiescent_ColsRefIdeal [hColsRefIdeal : Cert.ColsRefIdeal.Facts] : Prop :=
  ∀ (m : (ℓ : Loc Cert.ColsRefIdeal.nD Cert.ColsRefIdeal.τ Cert.ColsRefIdeal.sig) → Buf (Elt Ideal) ℓ) (g : Dev Cert.ColsRefIdeal.nD → PrngReg), Pre_ColsRefIdeal m →
    θ_run (Cert.ColsRefIdeal.defs (F := Ideal)) (onTc (τ := Cert.ColsRefIdeal.τ) (Cert.ColsRefIdeal.main (F := Ideal))) ⟨m, fun _ => 0, g⟩ (fun r => (∀ c : Dev Cert.ColsRefIdeal.nD,
      r.2.mem ((c.tc : Thread Cert.ColsRefIdeal.nD Cert.ColsRefIdeal.τ).loc Cert.ColsRefIdeal.main_arg0) = m ((c.tc : Thread Cert.ColsRefIdeal.nD Cert.ColsRefIdeal.τ).loc Cert.ColsRefIdeal.main_arg0)
      ∧ r.2.mem ((c.tc : Thread Cert.ColsRefIdeal.nD Cert.ColsRefIdeal.τ).loc Cert.ColsRefIdeal.main_arg1) = m ((c.tc : Thread Cert.ColsRefIdeal.nD Cert.ColsRefIdeal.τ).loc Cert.ColsRefIdeal.main_arg1)
      ∧ r.2.mem ((c.tc : Thread Cert.ColsRefIdeal.nD Cert.ColsRefIdeal.τ).loc Cert.ColsRefIdeal.main_arg2) = m ((c.tc : Thread Cert.ColsRefIdeal.nD Cert.ColsRefIdeal.τ).loc Cert.ColsRefIdeal.main_arg2)
      ∧ r.2.mem ((c.tc : Thread Cert.ColsRefIdeal.nD Cert.ColsRefIdeal.τ).loc Cert.ColsRefIdeal.main_arg3) = m ((c.tc : Thread Cert.ColsRefIdeal.nD Cert.ColsRefIdeal.τ).loc Cert.ColsRefIdeal.main_arg3)
      ∧ r.2.mem ((c.tc : Thread Cert.ColsRefIdeal.nD Cert.ColsRefIdeal.τ).loc Cert.ColsRefIdeal.main_arg4) = m ((c.tc : Thread Cert.ColsRefIdeal.nD Cert.ColsRefIdeal.τ).loc Cert.ColsRefIdeal.main_arg4)
      ∧ r.2.mem ((c.tc : Thread Cert.ColsRefIdeal.nD Cert.ColsRefIdeal.τ).loc Cert.ColsRefIdeal.main_arg5) = m ((c.tc : Thread Cert.ColsRefIdeal.nD Cert.ColsRefIdeal.τ).loc Cert.ColsRefIdeal.main_arg5)
      ∧ r.2.mem ((c.tc : Thread Cert.ColsRefIdeal.nD Cert.ColsRefIdeal.τ).loc Cert.ColsRefIdeal.main_arg6) = m ((c.tc : Thread Cert.ColsRefIdeal.nD Cert.ColsRefIdeal.τ).loc Cert.ColsRefIdeal.main_arg6))
      ∧ r.2.sem = fun _ => 0)

def quiescent_Kern [hKern : Cert.Kern.Facts] : Prop :=
  ∀ (m : (ℓ : Loc Cert.Kern.nD Cert.Kern.τ Cert.Kern.sig) → Buf (Elt Bits) ℓ) (g : Dev Cert.Kern.nD → PrngReg), Pre_Kern m →
    θ_run (Cert.Kern.defs (F := Bits)) (onTc (τ := Cert.Kern.τ) (Cert.Kern.main (F := Bits))) ⟨m, fun _ => 0, g⟩ (fun r => (∀ c : Dev Cert.Kern.nD,
      r.2.mem ((c.tc : Thread Cert.Kern.nD Cert.Kern.τ).loc Cert.Kern.main_arg0) = m ((c.tc : Thread Cert.Kern.nD Cert.Kern.τ).loc Cert.Kern.main_arg0)
      ∧ r.2.mem ((c.tc : Thread Cert.Kern.nD Cert.Kern.τ).loc Cert.Kern.main_arg1) = m ((c.tc : Thread Cert.Kern.nD Cert.Kern.τ).loc Cert.Kern.main_arg1)
      ∧ r.2.mem ((c.tc : Thread Cert.Kern.nD Cert.Kern.τ).loc Cert.Kern.main_arg2) = m ((c.tc : Thread Cert.Kern.nD Cert.Kern.τ).loc Cert.Kern.main_arg2)
      ∧ r.2.mem ((c.tc : Thread Cert.Kern.nD Cert.Kern.τ).loc Cert.Kern.main_arg3) = m ((c.tc : Thread Cert.Kern.nD Cert.Kern.τ).loc Cert.Kern.main_arg3)
      ∧ r.2.mem ((c.tc : Thread Cert.Kern.nD Cert.Kern.τ).loc Cert.Kern.main_arg4) = m ((c.tc : Thread Cert.Kern.nD Cert.Kern.τ).loc Cert.Kern.main_arg4)
      ∧ r.2.mem ((c.tc : Thread Cert.Kern.nD Cert.Kern.τ).loc Cert.Kern.main_arg5) = m ((c.tc : Thread Cert.Kern.nD Cert.Kern.τ).loc Cert.Kern.main_arg5)
      ∧ r.2.mem ((c.tc : Thread Cert.Kern.nD Cert.Kern.τ).loc Cert.Kern.main_arg6) = m ((c.tc : Thread Cert.Kern.nD Cert.Kern.τ).loc Cert.Kern.main_arg6))
      ∧ r.2.sem = fun _ => 0)

def quiescent_KernIdeal [hKernIdeal : Cert.KernIdeal.Facts] : Prop :=
  ∀ (m : (ℓ : Loc Cert.KernIdeal.nD Cert.KernIdeal.τ Cert.KernIdeal.sig) → Buf (Elt Ideal) ℓ) (g : Dev Cert.KernIdeal.nD → PrngReg), Pre_KernIdeal m →
    θ_run (Cert.KernIdeal.defs (F := Ideal)) (onTc (τ := Cert.KernIdeal.τ) (Cert.KernIdeal.main (F := Ideal))) ⟨m, fun _ => 0, g⟩ (fun r => (∀ c : Dev Cert.KernIdeal.nD,
      r.2.mem ((c.tc : Thread Cert.KernIdeal.nD Cert.KernIdeal.τ).loc Cert.KernIdeal.main_arg0) = m ((c.tc : Thread Cert.KernIdeal.nD Cert.KernIdeal.τ).loc Cert.KernIdeal.main_arg0)
      ∧ r.2.mem ((c.tc : Thread Cert.KernIdeal.nD Cert.KernIdeal.τ).loc Cert.KernIdeal.main_arg1) = m ((c.tc : Thread Cert.KernIdeal.nD Cert.KernIdeal.τ).loc Cert.KernIdeal.main_arg1)
      ∧ r.2.mem ((c.tc : Thread Cert.KernIdeal.nD Cert.KernIdeal.τ).loc Cert.KernIdeal.main_arg2) = m ((c.tc : Thread Cert.KernIdeal.nD Cert.KernIdeal.τ).loc Cert.KernIdeal.main_arg2)
      ∧ r.2.mem ((c.tc : Thread Cert.KernIdeal.nD Cert.KernIdeal.τ).loc Cert.KernIdeal.main_arg3) = m ((c.tc : Thread Cert.KernIdeal.nD Cert.KernIdeal.τ).loc Cert.KernIdeal.main_arg3)
      ∧ r.2.mem ((c.tc : Thread Cert.KernIdeal.nD Cert.KernIdeal.τ).loc Cert.KernIdeal.main_arg4) = m ((c.tc : Thread Cert.KernIdeal.nD Cert.KernIdeal.τ).loc Cert.KernIdeal.main_arg4)
      ∧ r.2.mem ((c.tc : Thread Cert.KernIdeal.nD Cert.KernIdeal.τ).loc Cert.KernIdeal.main_arg5) = m ((c.tc : Thread Cert.KernIdeal.nD Cert.KernIdeal.τ).loc Cert.KernIdeal.main_arg5)
      ∧ r.2.mem ((c.tc : Thread Cert.KernIdeal.nD Cert.KernIdeal.τ).loc Cert.KernIdeal.main_arg6) = m ((c.tc : Thread Cert.KernIdeal.nD Cert.KernIdeal.τ).loc Cert.KernIdeal.main_arg6))
      ∧ r.2.sem = fun _ => 0)

def quiescent_KernRefIdeal [hKernRefIdeal : Cert.KernRefIdeal.Facts] : Prop :=
  ∀ (m : (ℓ : Loc Cert.KernRefIdeal.nD Cert.KernRefIdeal.τ Cert.KernRefIdeal.sig) → Buf (Elt Ideal) ℓ) (g : Dev Cert.KernRefIdeal.nD → PrngReg), Pre_KernRefIdeal m →
    θ_run (Cert.KernRefIdeal.defs (F := Ideal)) (onTc (τ := Cert.KernRefIdeal.τ) (Cert.KernRefIdeal.main (F := Ideal))) ⟨m, fun _ => 0, g⟩ (fun r => (∀ c : Dev Cert.KernRefIdeal.nD,
      r.2.mem ((c.tc : Thread Cert.KernRefIdeal.nD Cert.KernRefIdeal.τ).loc Cert.KernRefIdeal.main_arg0) = m ((c.tc : Thread Cert.KernRefIdeal.nD Cert.KernRefIdeal.τ).loc Cert.KernRefIdeal.main_arg0)
      ∧ r.2.mem ((c.tc : Thread Cert.KernRefIdeal.nD Cert.KernRefIdeal.τ).loc Cert.KernRefIdeal.main_arg1) = m ((c.tc : Thread Cert.KernRefIdeal.nD Cert.KernRefIdeal.τ).loc Cert.KernRefIdeal.main_arg1)
      ∧ r.2.mem ((c.tc : Thread Cert.KernRefIdeal.nD Cert.KernRefIdeal.τ).loc Cert.KernRefIdeal.main_arg2) = m ((c.tc : Thread Cert.KernRefIdeal.nD Cert.KernRefIdeal.τ).loc Cert.KernRefIdeal.main_arg2)
      ∧ r.2.mem ((c.tc : Thread Cert.KernRefIdeal.nD Cert.KernRefIdeal.τ).loc Cert.KernRefIdeal.main_arg3) = m ((c.tc : Thread Cert.KernRefIdeal.nD Cert.KernRefIdeal.τ).loc Cert.KernRefIdeal.main_arg3)
      ∧ r.2.mem ((c.tc : Thread Cert.KernRefIdeal.nD Cert.KernRefIdeal.τ).loc Cert.KernRefIdeal.main_arg4) = m ((c.tc : Thread Cert.KernRefIdeal.nD Cert.KernRefIdeal.τ).loc Cert.KernRefIdeal.main_arg4)
      ∧ r.2.mem ((c.tc : Thread Cert.KernRefIdeal.nD Cert.KernRefIdeal.τ).loc Cert.KernRefIdeal.main_arg5) = m ((c.tc : Thread Cert.KernRefIdeal.nD Cert.KernRefIdeal.τ).loc Cert.KernRefIdeal.main_arg5)
      ∧ r.2.mem ((c.tc : Thread Cert.KernRefIdeal.nD Cert.KernRefIdeal.τ).loc Cert.KernRefIdeal.main_arg6) = m ((c.tc : Thread Cert.KernRefIdeal.nD Cert.KernRefIdeal.τ).loc Cert.KernRefIdeal.main_arg6))
      ∧ r.2.sem = fun _ => 0)

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_v12) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v31)) (v1 : (c : Dev Cert.AttnIdeal.nD) → Buf (Elt Ideal) ((c.tc : Thread Cert.AttnIdeal.nD Cert.AttnIdeal.τ).loc Cert.AttnIdeal.main_v46)) (v2 : (c : Dev Cert.AttnIdeal.nD) → Buf (Elt Ideal) ((c.tc : Thread Cert.AttnIdeal.nD Cert.AttnIdeal.τ).loc Cert.AttnIdeal.main_v42_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v31) = v0 c
          ∧ r.2.mem ((c.tc : Thread Cert.AttnIdeal.nD Cert.AttnIdeal.τ).loc Cert.AttnIdeal.main_v46) = v1 c
          ∧ r.2.mem ((c.tc : Thread Cert.AttnIdeal.nD Cert.AttnIdeal.τ).loc Cert.AttnIdeal.main_v42_3) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v254) = v0 c
          ∧ r.2.mem ((c.tc : Thread Cert.AttnRefIdeal.nD Cert.AttnRefIdeal.τ).loc Cert.AttnRefIdeal.main_v256) = v1 c
          ∧ r.2.mem ((c.tc : Thread Cert.AttnRefIdeal.nD Cert.AttnRefIdeal.τ).loc Cert.AttnRefIdeal.main_v257) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v1_0)) (v1 : (c : Dev Cert.PleIdeal.nD) → Buf (Elt Ideal) ((c.tc : Thread Cert.PleIdeal.nD Cert.PleIdeal.τ).loc Cert.PleIdeal.main_v2_0)) (v2 : (c : Dev Cert.PleIdeal.nD) → Buf (Elt Ideal) ((c.tc : Thread Cert.PleIdeal.nD Cert.PleIdeal.τ).loc Cert.PleIdeal.main_v2_1)) (v3 : (c : Dev Cert.PleIdeal.nD) → Buf (Elt Ideal) ((c.tc : Thread Cert.PleIdeal.nD Cert.PleIdeal.τ).loc Cert.PleIdeal.main_v2_2)) (v4 : (c : Dev Cert.PleIdeal.nD) → Buf (Elt Ideal) ((c.tc : Thread Cert.PleIdeal.nD Cert.PleIdeal.τ).loc Cert.PleIdeal.main_v2_3)) (v5 : (c : Dev Cert.PleIdeal.nD) → Buf (Elt Ideal) ((c.tc : Thread Cert.PleIdeal.nD Cert.PleIdeal.τ).loc Cert.PleIdeal.main_v2_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1_0) = v0 c
          ∧ r.2.mem ((c.tc : Thread Cert.PleIdeal.nD Cert.PleIdeal.τ).loc Cert.PleIdeal.main_v2_0) = v1 c
          ∧ r.2.mem ((c.tc : Thread Cert.PleIdeal.nD Cert.PleIdeal.τ).loc Cert.PleIdeal.main_v2_1) = v2 c
          ∧ r.2.mem ((c.tc : Thread Cert.PleIdeal.nD Cert.PleIdeal.τ).loc Cert.PleIdeal.main_v2_2) = v3 c
          ∧ r.2.mem ((c.tc : Thread Cert.PleIdeal.nD Cert.PleIdeal.τ).loc Cert.PleIdeal.main_v2_3) = v4 c
          ∧ r.2.mem ((c.tc : Thread Cert.PleIdeal.nD Cert.PleIdeal.τ).loc Cert.PleIdeal.main_v2_4) = v5 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v30) = v0 c
          ∧ r.2.mem ((c.tc : Thread Cert.PleRefIdeal.nD Cert.PleRefIdeal.τ).loc Cert.PleRefIdeal.main_v58) = v1 c
          ∧ r.2.mem ((c.tc : Thread Cert.PleRefIdeal.nD Cert.PleRefIdeal.τ).loc Cert.PleRefIdeal.main_v61) = v2 c
          ∧ r.2.mem ((c.tc : Thread Cert.PleRefIdeal.nD Cert.PleRefIdeal.τ).loc Cert.PleRefIdeal.main_v60) = v3 c
          ∧ r.2.mem ((c.tc : Thread Cert.PleRefIdeal.nD Cert.PleRefIdeal.τ).loc Cert.PleRefIdeal.main_v62) = v4 c
          ∧ r.2.mem ((c.tc : Thread Cert.PleRefIdeal.nD Cert.PleRefIdeal.τ).loc Cert.PleRefIdeal.main_v36) = v5 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v11_0)) (v1 : (c : Dev Cert.NormIdeal.nD) → Buf (Elt Ideal) ((c.tc : Thread Cert.NormIdeal.nD Cert.NormIdeal.τ).loc Cert.NormIdeal.main_v11_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v11_0) = v0 c
          ∧ r.2.mem ((c.tc : Thread Cert.NormIdeal.nD Cert.NormIdeal.τ).loc Cert.NormIdeal.main_v11_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v40) = v0 c
          ∧ r.2.mem ((c.tc : Thread Cert.NormRefIdeal.nD Cert.NormRefIdeal.τ).loc Cert.NormRefIdeal.main_v41) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v1_0)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v1_0) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v24) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v51) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Blend_BlendIdeal : Prop :=
  True

def algebraic_BlendIdeal_BlendRefIdeal [hBlendIdeal : Cert.BlendIdeal.Facts] [hBlendRefIdeal : Cert.BlendRefIdeal.Facts] : Prop :=
  ∀ (m : (ℓ : Loc Cert.BlendIdeal.nD Cert.BlendIdeal.τ Cert.BlendIdeal.sig) → Buf (Elt Ideal) ℓ) (g : Dev Cert.BlendIdeal.nD → PrngReg)
    (m' : (ℓ : Loc Cert.BlendRefIdeal.nD Cert.BlendRefIdeal.τ Cert.BlendRefIdeal.sig) → Buf (Elt Ideal) ℓ) (g' : Dev Cert.BlendRefIdeal.nD → PrngReg), Pre_BlendIdeal m →
    (∀ c : Dev Cert.BlendIdeal.nD,
      m' ((c.tc : Thread Cert.BlendRefIdeal.nD Cert.BlendRefIdeal.τ).loc Cert.BlendRefIdeal.main_arg0) = m ((c.tc : Thread Cert.BlendIdeal.nD Cert.BlendIdeal.τ).loc Cert.BlendIdeal.main_arg0)
      ∧ m' ((c.tc : Thread Cert.BlendRefIdeal.nD Cert.BlendRefIdeal.τ).loc Cert.BlendRefIdeal.main_arg1) = m ((c.tc : Thread Cert.BlendIdeal.nD Cert.BlendIdeal.τ).loc Cert.BlendIdeal.main_arg1)
      ∧ m' ((c.tc : Thread Cert.BlendRefIdeal.nD Cert.BlendRefIdeal.τ).loc Cert.BlendRefIdeal.main_arg2) = m ((c.tc : Thread Cert.BlendIdeal.nD Cert.BlendIdeal.τ).loc Cert.BlendIdeal.main_arg2)
      ∧ m' ((c.tc : Thread Cert.BlendRefIdeal.nD Cert.BlendRefIdeal.τ).loc Cert.BlendRefIdeal.main_arg3) = m ((c.tc : Thread Cert.BlendIdeal.nD Cert.BlendIdeal.τ).loc Cert.BlendIdeal.main_arg3)
      ∧ m' ((c.tc : Thread Cert.BlendRefIdeal.nD Cert.BlendRefIdeal.τ).loc Cert.BlendRefIdeal.main_arg4) = m ((c.tc : Thread Cert.BlendIdeal.nD Cert.BlendIdeal.τ).loc Cert.BlendIdeal.main_arg4)
      ∧ m' ((c.tc : Thread Cert.BlendRefIdeal.nD Cert.BlendRefIdeal.τ).loc Cert.BlendRefIdeal.main_arg5) = m ((c.tc : Thread Cert.BlendIdeal.nD Cert.BlendIdeal.τ).loc Cert.BlendIdeal.main_arg5)
      ∧ m' ((c.tc : Thread Cert.BlendRefIdeal.nD Cert.BlendRefIdeal.τ).loc Cert.BlendRefIdeal.main_arg6) = m ((c.tc : Thread Cert.BlendIdeal.nD Cert.BlendIdeal.τ).loc Cert.BlendIdeal.main_arg6)
      ∧ m' ((c.tc : Thread Cert.BlendRefIdeal.nD Cert.BlendRefIdeal.τ).loc Cert.BlendRefIdeal.main_arg7) = m ((c.tc : Thread Cert.BlendIdeal.nD Cert.BlendIdeal.τ).loc Cert.BlendIdeal.main_arg7)
      ∧ m' ((c.tc : Thread Cert.BlendRefIdeal.nD Cert.BlendRefIdeal.τ).loc Cert.BlendRefIdeal.main_arg8) = m ((c.tc : Thread Cert.BlendIdeal.nD Cert.BlendIdeal.τ).loc Cert.BlendIdeal.main_arg8)
      ∧ m' ((c.tc : Thread Cert.BlendRefIdeal.nD Cert.BlendRefIdeal.τ).loc Cert.BlendRefIdeal.main_arg9) = m ((c.tc : Thread Cert.BlendIdeal.nD Cert.BlendIdeal.τ).loc Cert.BlendIdeal.main_arg9)
      ∧ m' ((c.tc : Thread Cert.BlendRefIdeal.nD Cert.BlendRefIdeal.τ).loc Cert.BlendRefIdeal.main_arg10) = m ((c.tc : Thread Cert.BlendIdeal.nD Cert.BlendIdeal.τ).loc Cert.BlendIdeal.main_arg10)
      ∧ m' ((c.tc : Thread Cert.BlendRefIdeal.nD Cert.BlendRefIdeal.τ).loc Cert.BlendRefIdeal.main_arg11) = m ((c.tc : Thread Cert.BlendIdeal.nD Cert.BlendIdeal.τ).loc Cert.BlendIdeal.main_arg11)
      ∧ m' ((c.tc : Thread Cert.BlendRefIdeal.nD Cert.BlendRefIdeal.τ).loc Cert.BlendRefIdeal.main_arg12) = m ((c.tc : Thread Cert.BlendIdeal.nD Cert.BlendIdeal.τ).loc Cert.BlendIdeal.main_arg12)
      ∧ m' ((c.tc : Thread Cert.BlendRefIdeal.nD Cert.BlendRefIdeal.τ).loc Cert.BlendRefIdeal.main_arg13) = m ((c.tc : Thread Cert.BlendIdeal.nD Cert.BlendIdeal.τ).loc Cert.BlendIdeal.main_arg13)) →
    ∃ (v0 : (c : Dev Cert.BlendIdeal.nD) → Buf (Elt Ideal) ((c.tc : Thread Cert.BlendIdeal.nD Cert.BlendIdeal.τ).loc Cert.BlendIdeal.main_v7_0)) (v1 : (c : Dev Cert.BlendIdeal.nD) → Buf (Elt Ideal) ((c.tc : Thread Cert.BlendIdeal.nD Cert.BlendIdeal.τ).loc Cert.BlendIdeal.main_v7_1)),
      θ_run (Cert.BlendIdeal.defs (F := Ideal)) (onTc (τ := Cert.BlendIdeal.τ) (Cert.BlendIdeal.main (F := Ideal))) ⟨m, fun _ => 0, g⟩ (fun r => ∀ c : Dev Cert.BlendIdeal.nD,
          r.2.mem ((c.tc : Thread Cert.BlendIdeal.nD Cert.BlendIdeal.τ).loc Cert.BlendIdeal.main_v7_0) = v0 c
          ∧ r.2.mem ((c.tc : Thread Cert.BlendIdeal.nD Cert.BlendIdeal.τ).loc Cert.BlendIdeal.main_v7_1) = v1 c
          ∧ r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
          ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
          ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
          ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
          ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4)
          ∧ r.2.mem ((c.tc : Thread Cert.BlendIdeal.nD Cert.BlendIdeal.τ).loc Cert.BlendIdeal.main_arg5) = m ((c.tc : Thread Cert.BlendIdeal.nD Cert.BlendIdeal.τ).loc Cert.BlendIdeal.main_arg5)
          ∧ r.2.mem ((c.tc : Thread Cert.BlendIdeal.nD Cert.BlendIdeal.τ).loc Cert.BlendIdeal.main_arg6) = m ((c.tc : Thread Cert.BlendIdeal.nD Cert.BlendIdeal.τ).loc Cert.BlendIdeal.main_arg6)
          ∧ r.2.mem ((c.tc : Thread Cert.BlendIdeal.nD Cert.BlendIdeal.τ).loc Cert.BlendIdeal.main_arg7) = m ((c.tc : Thread Cert.BlendIdeal.nD Cert.BlendIdeal.τ).loc Cert.BlendIdeal.main_arg7)
          ∧ r.2.mem ((c.tc : Thread Cert.BlendIdeal.nD Cert.BlendIdeal.τ).loc Cert.BlendIdeal.main_arg8) = m ((c.tc : Thread Cert.BlendIdeal.nD Cert.BlendIdeal.τ).loc Cert.BlendIdeal.main_arg8)
          ∧ r.2.mem ((c.tc : Thread Cert.BlendIdeal.nD Cert.BlendIdeal.τ).loc Cert.BlendIdeal.main_arg9) = m ((c.tc : Thread Cert.BlendIdeal.nD Cert.BlendIdeal.τ).loc Cert.BlendIdeal.main_arg9)
          ∧ r.2.mem ((c.tc : Thread Cert.BlendIdeal.nD Cert.BlendIdeal.τ).loc Cert.BlendIdeal.main_arg10) = m ((c.tc : Thread Cert.BlendIdeal.nD Cert.BlendIdeal.τ).loc Cert.BlendIdeal.main_arg10)
          ∧ r.2.mem ((c.tc : Thread Cert.BlendIdeal.nD Cert.BlendIdeal.τ).loc Cert.BlendIdeal.main_arg11) = m ((c.tc : Thread Cert.BlendIdeal.nD Cert.BlendIdeal.τ).loc Cert.BlendIdeal.main_arg11)
          ∧ r.2.mem ((c.tc : Thread Cert.BlendIdeal.nD Cert.BlendIdeal.τ).loc Cert.BlendIdeal.main_arg12) = m ((c.tc : Thread Cert.BlendIdeal.nD Cert.BlendIdeal.τ).loc Cert.BlendIdeal.main_arg12)
          ∧ r.2.mem ((c.tc : Thread Cert.BlendIdeal.nD Cert.BlendIdeal.τ).loc Cert.BlendIdeal.main_arg13) = m ((c.tc : Thread Cert.BlendIdeal.nD Cert.BlendIdeal.τ).loc Cert.BlendIdeal.main_arg13))
      ∧ θ_run (Cert.BlendRefIdeal.defs (F := Ideal)) (onTc (τ := Cert.BlendRefIdeal.τ) (Cert.BlendRefIdeal.main (F := Ideal))) ⟨m', fun _ => 0, g'⟩ (fun r => ∀ c : Dev Cert.BlendRefIdeal.nD,
          r.2.mem ((c.tc : Thread Cert.BlendRefIdeal.nD Cert.BlendRefIdeal.τ).loc Cert.BlendRefIdeal.main_v76) = v0 c
          ∧ r.2.mem ((c.tc : Thread Cert.BlendRefIdeal.nD Cert.BlendRefIdeal.τ).loc Cert.BlendRefIdeal.main_v90) = v1 c
          ∧ r.2.mem ((c.tc : Thread Cert.BlendRefIdeal.nD Cert.BlendRefIdeal.τ).loc Cert.BlendRefIdeal.main_arg0) = m' ((c.tc : Thread Cert.BlendRefIdeal.nD Cert.BlendRefIdeal.τ).loc Cert.BlendRefIdeal.main_arg0)
          ∧ r.2.mem ((c.tc : Thread Cert.BlendRefIdeal.nD Cert.BlendRefIdeal.τ).loc Cert.BlendRefIdeal.main_arg1) = m' ((c.tc : Thread Cert.BlendRefIdeal.nD Cert.BlendRefIdeal.τ).loc Cert.BlendRefIdeal.main_arg1)
          ∧ r.2.mem ((c.tc : Thread Cert.BlendRefIdeal.nD Cert.BlendRefIdeal.τ).loc Cert.BlendRefIdeal.main_arg2) = m' ((c.tc : Thread Cert.BlendRefIdeal.nD Cert.BlendRefIdeal.τ).loc Cert.BlendRefIdeal.main_arg2)
          ∧ r.2.mem ((c.tc : Thread Cert.BlendRefIdeal.nD Cert.BlendRefIdeal.τ).loc Cert.BlendRefIdeal.main_arg3) = m' ((c.tc : Thread Cert.BlendRefIdeal.nD Cert.BlendRefIdeal.τ).loc Cert.BlendRefIdeal.main_arg3)
          ∧ r.2.mem ((c.tc : Thread Cert.BlendRefIdeal.nD Cert.BlendRefIdeal.τ).loc Cert.BlendRefIdeal.main_arg4) = m' ((c.tc : Thread Cert.BlendRefIdeal.nD Cert.BlendRefIdeal.τ).loc Cert.BlendRefIdeal.main_arg4)
          ∧ r.2.mem ((c.tc : Thread Cert.BlendRefIdeal.nD Cert.BlendRefIdeal.τ).loc Cert.BlendRefIdeal.main_arg5) = m' ((c.tc : Thread Cert.BlendRefIdeal.nD Cert.BlendRefIdeal.τ).loc Cert.BlendRefIdeal.main_arg5)
          ∧ r.2.mem ((c.tc : Thread Cert.BlendRefIdeal.nD Cert.BlendRefIdeal.τ).loc Cert.BlendRefIdeal.main_arg6) = m' ((c.tc : Thread Cert.BlendRefIdeal.nD Cert.BlendRefIdeal.τ).loc Cert.BlendRefIdeal.main_arg6)
          ∧ r.2.mem ((c.tc : Thread Cert.BlendRefIdeal.nD Cert.BlendRefIdeal.τ).loc Cert.BlendRefIdeal.main_arg7) = m' ((c.tc : Thread Cert.BlendRefIdeal.nD Cert.BlendRefIdeal.τ).loc Cert.BlendRefIdeal.main_arg7)
          ∧ r.2.mem ((c.tc : Thread Cert.BlendRefIdeal.nD Cert.BlendRefIdeal.τ).loc Cert.BlendRefIdeal.main_arg8) = m' ((c.tc : Thread Cert.BlendRefIdeal.nD Cert.BlendRefIdeal.τ).loc Cert.BlendRefIdeal.main_arg8)
          ∧ r.2.mem ((c.tc : Thread Cert.BlendRefIdeal.nD Cert.BlendRefIdeal.τ).loc Cert.BlendRefIdeal.main_arg9) = m' ((c.tc : Thread Cert.BlendRefIdeal.nD Cert.BlendRefIdeal.τ).loc Cert.BlendRefIdeal.main_arg9)
          ∧ r.2.mem ((c.tc : Thread Cert.BlendRefIdeal.nD Cert.BlendRefIdeal.τ).loc Cert.BlendRefIdeal.main_arg10) = m' ((c.tc : Thread Cert.BlendRefIdeal.nD Cert.BlendRefIdeal.τ).loc Cert.BlendRefIdeal.main_arg10)
          ∧ r.2.mem ((c.tc : Thread Cert.BlendRefIdeal.nD Cert.BlendRefIdeal.τ).loc Cert.BlendRefIdeal.main_arg11) = m' ((c.tc : Thread Cert.BlendRefIdeal.nD Cert.BlendRefIdeal.τ).loc Cert.BlendRefIdeal.main_arg11)
          ∧ r.2.mem ((c.tc : Thread Cert.BlendRefIdeal.nD Cert.BlendRefIdeal.τ).loc Cert.BlendRefIdeal.main_arg12) = m' ((c.tc : Thread Cert.BlendRefIdeal.nD Cert.BlendRefIdeal.τ).loc Cert.BlendRefIdeal.main_arg12)
          ∧ r.2.mem ((c.tc : Thread Cert.BlendRefIdeal.nD Cert.BlendRefIdeal.τ).loc Cert.BlendRefIdeal.main_arg13) = m' ((c.tc : Thread Cert.BlendRefIdeal.nD Cert.BlendRefIdeal.τ).loc Cert.BlendRefIdeal.main_arg13))

def preserves_Coeff_CoeffIdeal : Prop :=
  True

def algebraic_CoeffIdeal_CoeffRefIdeal [hCoeffIdeal : Cert.CoeffIdeal.Facts] [hCoeffRefIdeal : Cert.CoeffRefIdeal.Facts] : Prop :=
  ∀ (m : (ℓ : Loc Cert.CoeffIdeal.nD Cert.CoeffIdeal.τ Cert.CoeffIdeal.sig) → Buf (Elt Ideal) ℓ) (g : Dev Cert.CoeffIdeal.nD → PrngReg)
    (m' : (ℓ : Loc Cert.CoeffRefIdeal.nD Cert.CoeffRefIdeal.τ Cert.CoeffRefIdeal.sig) → Buf (Elt Ideal) ℓ) (g' : Dev Cert.CoeffRefIdeal.nD → PrngReg), Pre_CoeffIdeal m →
    (∀ c : Dev Cert.CoeffIdeal.nD,
      m' ((c.tc : Thread Cert.CoeffRefIdeal.nD Cert.CoeffRefIdeal.τ).loc Cert.CoeffRefIdeal.main_arg0) = m ((c.tc : Thread Cert.CoeffIdeal.nD Cert.CoeffIdeal.τ).loc Cert.CoeffIdeal.main_arg0)
      ∧ m' ((c.tc : Thread Cert.CoeffRefIdeal.nD Cert.CoeffRefIdeal.τ).loc Cert.CoeffRefIdeal.main_arg1) = m ((c.tc : Thread Cert.CoeffIdeal.nD Cert.CoeffIdeal.τ).loc Cert.CoeffIdeal.main_arg1)
      ∧ m' ((c.tc : Thread Cert.CoeffRefIdeal.nD Cert.CoeffRefIdeal.τ).loc Cert.CoeffRefIdeal.main_arg2) = m ((c.tc : Thread Cert.CoeffIdeal.nD Cert.CoeffIdeal.τ).loc Cert.CoeffIdeal.main_arg2)
      ∧ m' ((c.tc : Thread Cert.CoeffRefIdeal.nD Cert.CoeffRefIdeal.τ).loc Cert.CoeffRefIdeal.main_arg3) = m ((c.tc : Thread Cert.CoeffIdeal.nD Cert.CoeffIdeal.τ).loc Cert.CoeffIdeal.main_arg3)
      ∧ m' ((c.tc : Thread Cert.CoeffRefIdeal.nD Cert.CoeffRefIdeal.τ).loc Cert.CoeffRefIdeal.main_arg4) = m ((c.tc : Thread Cert.CoeffIdeal.nD Cert.CoeffIdeal.τ).loc Cert.CoeffIdeal.main_arg4)
      ∧ m' ((c.tc : Thread Cert.CoeffRefIdeal.nD Cert.CoeffRefIdeal.τ).loc Cert.CoeffRefIdeal.main_arg5) = m ((c.tc : Thread Cert.CoeffIdeal.nD Cert.CoeffIdeal.τ).loc Cert.CoeffIdeal.main_arg5)
      ∧ m' ((c.tc : Thread Cert.CoeffRefIdeal.nD Cert.CoeffRefIdeal.τ).loc Cert.CoeffRefIdeal.main_arg6) = m ((c.tc : Thread Cert.CoeffIdeal.nD Cert.CoeffIdeal.τ).loc Cert.CoeffIdeal.main_arg6)) →
    ∃ (v0 : (c : Dev Cert.CoeffIdeal.nD) → Buf (Elt Ideal) ((c.tc : Thread Cert.CoeffIdeal.nD Cert.CoeffIdeal.τ).loc Cert.CoeffIdeal.main_v8)) (v1 : (c : Dev Cert.CoeffIdeal.nD) → Buf (Elt Ideal) ((c.tc : Thread Cert.CoeffIdeal.nD Cert.CoeffIdeal.τ).loc Cert.CoeffIdeal.main_v9)) (v2 : (c : Dev Cert.CoeffIdeal.nD) → Buf (Elt Ideal) ((c.tc : Thread Cert.CoeffIdeal.nD Cert.CoeffIdeal.τ).loc Cert.CoeffIdeal.main_v10)),
      θ_run (Cert.CoeffIdeal.defs (F := Ideal)) (onTc (τ := Cert.CoeffIdeal.τ) (Cert.CoeffIdeal.main (F := Ideal))) ⟨m, fun _ => 0, g⟩ (fun r => ∀ c : Dev Cert.CoeffIdeal.nD,
          r.2.mem ((c.tc : Thread Cert.CoeffIdeal.nD Cert.CoeffIdeal.τ).loc Cert.CoeffIdeal.main_v8) = v0 c
          ∧ r.2.mem ((c.tc : Thread Cert.CoeffIdeal.nD Cert.CoeffIdeal.τ).loc Cert.CoeffIdeal.main_v9) = v1 c
          ∧ r.2.mem ((c.tc : Thread Cert.CoeffIdeal.nD Cert.CoeffIdeal.τ).loc Cert.CoeffIdeal.main_v10) = v2 c
          ∧ r.2.mem ((c.tc : Thread Cert.CoeffIdeal.nD Cert.CoeffIdeal.τ).loc Cert.CoeffIdeal.main_arg0) = m ((c.tc : Thread Cert.CoeffIdeal.nD Cert.CoeffIdeal.τ).loc Cert.CoeffIdeal.main_arg0)
          ∧ r.2.mem ((c.tc : Thread Cert.CoeffIdeal.nD Cert.CoeffIdeal.τ).loc Cert.CoeffIdeal.main_arg1) = m ((c.tc : Thread Cert.CoeffIdeal.nD Cert.CoeffIdeal.τ).loc Cert.CoeffIdeal.main_arg1)
          ∧ r.2.mem ((c.tc : Thread Cert.CoeffIdeal.nD Cert.CoeffIdeal.τ).loc Cert.CoeffIdeal.main_arg2) = m ((c.tc : Thread Cert.CoeffIdeal.nD Cert.CoeffIdeal.τ).loc Cert.CoeffIdeal.main_arg2)
          ∧ r.2.mem ((c.tc : Thread Cert.CoeffIdeal.nD Cert.CoeffIdeal.τ).loc Cert.CoeffIdeal.main_arg3) = m ((c.tc : Thread Cert.CoeffIdeal.nD Cert.CoeffIdeal.τ).loc Cert.CoeffIdeal.main_arg3)
          ∧ r.2.mem ((c.tc : Thread Cert.CoeffIdeal.nD Cert.CoeffIdeal.τ).loc Cert.CoeffIdeal.main_arg4) = m ((c.tc : Thread Cert.CoeffIdeal.nD Cert.CoeffIdeal.τ).loc Cert.CoeffIdeal.main_arg4)
          ∧ r.2.mem ((c.tc : Thread Cert.CoeffIdeal.nD Cert.CoeffIdeal.τ).loc Cert.CoeffIdeal.main_arg5) = m ((c.tc : Thread Cert.CoeffIdeal.nD Cert.CoeffIdeal.τ).loc Cert.CoeffIdeal.main_arg5)
          ∧ r.2.mem ((c.tc : Thread Cert.CoeffIdeal.nD Cert.CoeffIdeal.τ).loc Cert.CoeffIdeal.main_arg6) = m ((c.tc : Thread Cert.CoeffIdeal.nD Cert.CoeffIdeal.τ).loc Cert.CoeffIdeal.main_arg6))
      ∧ θ_run (Cert.CoeffRefIdeal.defs (F := Ideal)) (onTc (τ := Cert.CoeffRefIdeal.τ) (Cert.CoeffRefIdeal.main (F := Ideal))) ⟨m', fun _ => 0, g'⟩ (fun r => ∀ c : Dev Cert.CoeffRefIdeal.nD,
          r.2.mem ((c.tc : Thread Cert.CoeffRefIdeal.nD Cert.CoeffRefIdeal.τ).loc Cert.CoeffRefIdeal.main_v108) = v0 c
          ∧ r.2.mem ((c.tc : Thread Cert.CoeffRefIdeal.nD Cert.CoeffRefIdeal.τ).loc Cert.CoeffRefIdeal.main_v97) = v1 c
          ∧ r.2.mem ((c.tc : Thread Cert.CoeffRefIdeal.nD Cert.CoeffRefIdeal.τ).loc Cert.CoeffRefIdeal.main_v107) = v2 c
          ∧ r.2.mem ((c.tc : Thread Cert.CoeffRefIdeal.nD Cert.CoeffRefIdeal.τ).loc Cert.CoeffRefIdeal.main_arg0) = m' ((c.tc : Thread Cert.CoeffRefIdeal.nD Cert.CoeffRefIdeal.τ).loc Cert.CoeffRefIdeal.main_arg0)
          ∧ r.2.mem ((c.tc : Thread Cert.CoeffRefIdeal.nD Cert.CoeffRefIdeal.τ).loc Cert.CoeffRefIdeal.main_arg1) = m' ((c.tc : Thread Cert.CoeffRefIdeal.nD Cert.CoeffRefIdeal.τ).loc Cert.CoeffRefIdeal.main_arg1)
          ∧ r.2.mem ((c.tc : Thread Cert.CoeffRefIdeal.nD Cert.CoeffRefIdeal.τ).loc Cert.CoeffRefIdeal.main_arg2) = m' ((c.tc : Thread Cert.CoeffRefIdeal.nD Cert.CoeffRefIdeal.τ).loc Cert.CoeffRefIdeal.main_arg2)
          ∧ r.2.mem ((c.tc : Thread Cert.CoeffRefIdeal.nD Cert.CoeffRefIdeal.τ).loc Cert.CoeffRefIdeal.main_arg3) = m' ((c.tc : Thread Cert.CoeffRefIdeal.nD Cert.CoeffRefIdeal.τ).loc Cert.CoeffRefIdeal.main_arg3)
          ∧ r.2.mem ((c.tc : Thread Cert.CoeffRefIdeal.nD Cert.CoeffRefIdeal.τ).loc Cert.CoeffRefIdeal.main_arg4) = m' ((c.tc : Thread Cert.CoeffRefIdeal.nD Cert.CoeffRefIdeal.τ).loc Cert.CoeffRefIdeal.main_arg4)
          ∧ r.2.mem ((c.tc : Thread Cert.CoeffRefIdeal.nD Cert.CoeffRefIdeal.τ).loc Cert.CoeffRefIdeal.main_arg5) = m' ((c.tc : Thread Cert.CoeffRefIdeal.nD Cert.CoeffRefIdeal.τ).loc Cert.CoeffRefIdeal.main_arg5)
          ∧ r.2.mem ((c.tc : Thread Cert.CoeffRefIdeal.nD Cert.CoeffRefIdeal.τ).loc Cert.CoeffRefIdeal.main_arg6) = m' ((c.tc : Thread Cert.CoeffRefIdeal.nD Cert.CoeffRefIdeal.τ).loc Cert.CoeffRefIdeal.main_arg6))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)) →
    ∃ (v0 : (c : Dev Cert.DiscIdeal.nD) → Buf (Elt Ideal) ((c.tc : Thread Cert.DiscIdeal.nD Cert.DiscIdeal.τ).loc Cert.DiscIdeal.main_v4)) (v1 : (c : Dev Cert.DiscIdeal.nD) → Buf (Elt Ideal) ((c.tc : Thread Cert.DiscIdeal.nD Cert.DiscIdeal.τ).loc Cert.DiscIdeal.main_v5)) (v2 : (c : Dev Cert.DiscIdeal.nD) → Buf (Elt Ideal) ((c.tc : Thread Cert.DiscIdeal.nD Cert.DiscIdeal.τ).loc Cert.DiscIdeal.main_v6)) (v3 : (c : Dev Cert.DiscIdeal.nD) → Buf (Elt Ideal) ((c.tc : Thread Cert.DiscIdeal.nD Cert.DiscIdeal.τ).loc Cert.DiscIdeal.main_v7)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v4) = v0 c
          ∧ r.2.mem ((c.tc : Thread Cert.DiscIdeal.nD Cert.DiscIdeal.τ).loc Cert.DiscIdeal.main_v5) = v1 c
          ∧ r.2.mem ((c.tc : Thread Cert.DiscIdeal.nD Cert.DiscIdeal.τ).loc Cert.DiscIdeal.main_v6) = v2 c
          ∧ r.2.mem ((c.tc : Thread Cert.DiscIdeal.nD Cert.DiscIdeal.τ).loc Cert.DiscIdeal.main_v7) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v10) = v0 c
          ∧ r.2.mem ((c.tc : Thread Cert.DiscRefIdeal.nD Cert.DiscRefIdeal.τ).loc Cert.DiscRefIdeal.main_v14) = v1 c
          ∧ r.2.mem ((c.tc : Thread Cert.DiscRefIdeal.nD Cert.DiscRefIdeal.τ).loc Cert.DiscRefIdeal.main_v23) = v2 c
          ∧ r.2.mem ((c.tc : Thread Cert.DiscRefIdeal.nD Cert.DiscRefIdeal.τ).loc Cert.DiscRefIdeal.main_v27) = v3 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v5) = v0 c
          ∧ r.2.mem ((c.tc : Thread Cert.ActRefIdeal.nD Cert.ActRefIdeal.τ).loc Cert.ActRefIdeal.main_v6) = v1 c
          ∧ r.2.mem ((c.tc : Thread Cert.ActRefIdeal.nD Cert.ActRefIdeal.τ).loc Cert.ActRefIdeal.main_v9) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Taps_TapsIdeal : Prop :=
  True

def algebraic_TapsIdeal_TapsRefIdeal [hTapsIdeal : Cert.TapsIdeal.Facts] [hTapsRefIdeal : Cert.TapsRefIdeal.Facts] : Prop :=
  ∀ (m : (ℓ : Loc Cert.TapsIdeal.nD Cert.TapsIdeal.τ Cert.TapsIdeal.sig) → Buf (Elt Ideal) ℓ) (g : Dev Cert.TapsIdeal.nD → PrngReg)
    (m' : (ℓ : Loc Cert.TapsRefIdeal.nD Cert.TapsRefIdeal.τ Cert.TapsRefIdeal.sig) → Buf (Elt Ideal) ℓ) (g' : Dev Cert.TapsRefIdeal.nD → PrngReg), Pre_TapsIdeal m →
    (∀ c : Dev Cert.TapsIdeal.nD,
      m' ((c.tc : Thread Cert.TapsRefIdeal.nD Cert.TapsRefIdeal.τ).loc Cert.TapsRefIdeal.main_arg0) = m ((c.tc : Thread Cert.TapsIdeal.nD Cert.TapsIdeal.τ).loc Cert.TapsIdeal.main_arg0)
      ∧ m' ((c.tc : Thread Cert.TapsRefIdeal.nD Cert.TapsRefIdeal.τ).loc Cert.TapsRefIdeal.main_arg1) = m ((c.tc : Thread Cert.TapsIdeal.nD Cert.TapsIdeal.τ).loc Cert.TapsIdeal.main_arg1)
      ∧ m' ((c.tc : Thread Cert.TapsRefIdeal.nD Cert.TapsRefIdeal.τ).loc Cert.TapsRefIdeal.main_arg2) = m ((c.tc : Thread Cert.TapsIdeal.nD Cert.TapsIdeal.τ).loc Cert.TapsIdeal.main_arg2)) →
    ∃ (v0 : (c : Dev Cert.TapsIdeal.nD) → Buf (Elt Ideal) ((c.tc : Thread Cert.TapsIdeal.nD Cert.TapsIdeal.τ).loc Cert.TapsIdeal.main_v4)),
      θ_run (Cert.TapsIdeal.defs (F := Ideal)) (onTc (τ := Cert.TapsIdeal.τ) (Cert.TapsIdeal.main (F := Ideal))) ⟨m, fun _ => 0, g⟩ (fun r => ∀ c : Dev Cert.TapsIdeal.nD,
          r.2.mem ((c.tc : Thread Cert.TapsIdeal.nD Cert.TapsIdeal.τ).loc Cert.TapsIdeal.main_v4) = v0 c
          ∧ r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
          ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
          ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2))
      ∧ θ_run (Cert.TapsRefIdeal.defs (F := Ideal)) (onTc (τ := Cert.TapsRefIdeal.τ) (Cert.TapsRefIdeal.main (F := Ideal))) ⟨m', fun _ => 0, g'⟩ (fun r => ∀ c : Dev Cert.TapsRefIdeal.nD,
          r.2.mem ((c.tc : Thread Cert.TapsRefIdeal.nD Cert.TapsRefIdeal.τ).loc Cert.TapsRefIdeal.main_v232) = v0 c
          ∧ r.2.mem ((c.tc : Thread Cert.TapsRefIdeal.nD Cert.TapsRefIdeal.τ).loc Cert.TapsRefIdeal.main_arg0) = m' ((c.tc : Thread Cert.TapsRefIdeal.nD Cert.TapsRefIdeal.τ).loc Cert.TapsRefIdeal.main_arg0)
          ∧ r.2.mem ((c.tc : Thread Cert.TapsRefIdeal.nD Cert.TapsRefIdeal.τ).loc Cert.TapsRefIdeal.main_arg1) = m' ((c.tc : Thread Cert.TapsRefIdeal.nD Cert.TapsRefIdeal.τ).loc Cert.TapsRefIdeal.main_arg1)
          ∧ r.2.mem ((c.tc : Thread Cert.TapsRefIdeal.nD Cert.TapsRefIdeal.τ).loc Cert.TapsRefIdeal.main_arg2) = m' ((c.tc : Thread Cert.TapsRefIdeal.nD Cert.TapsRefIdeal.τ).loc Cert.TapsRefIdeal.main_arg2))

def preserves_Conv_ConvIdeal : Prop :=
  True

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v10) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_Add_AddIdeal : Prop :=
  True

def algebraic_AddIdeal_AddRefIdeal [hAddIdeal : Cert.AddIdeal.Facts] [hAddRefIdeal : Cert.AddRefIdeal.Facts] : Prop :=
  ∀ (m : (ℓ : Loc Cert.AddIdeal.nD Cert.AddIdeal.τ Cert.AddIdeal.sig) → Buf (Elt Ideal) ℓ) (g : Dev Cert.AddIdeal.nD → PrngReg)
    (m' : (ℓ : Loc Cert.AddRefIdeal.nD Cert.AddRefIdeal.τ Cert.AddRefIdeal.sig) → Buf (Elt Ideal) ℓ) (g' : Dev Cert.AddRefIdeal.nD → PrngReg), Pre_AddIdeal m →
    (∀ c : Dev Cert.AddIdeal.nD,
      m' ((c.tc : Thread Cert.AddRefIdeal.nD Cert.AddRefIdeal.τ).loc Cert.AddRefIdeal.main_arg0) = m ((c.tc : Thread Cert.AddIdeal.nD Cert.AddIdeal.τ).loc Cert.AddIdeal.main_arg0)
      ∧ m' ((c.tc : Thread Cert.AddRefIdeal.nD Cert.AddRefIdeal.τ).loc Cert.AddRefIdeal.main_arg1) = m ((c.tc : Thread Cert.AddIdeal.nD Cert.AddIdeal.τ).loc Cert.AddIdeal.main_arg1)
      ∧ m' ((c.tc : Thread Cert.AddRefIdeal.nD Cert.AddRefIdeal.τ).loc Cert.AddRefIdeal.main_arg2) = m ((c.tc : Thread Cert.AddIdeal.nD Cert.AddIdeal.τ).loc Cert.AddIdeal.main_arg2)) →
    ∃ (v0 : (c : Dev Cert.AddIdeal.nD) → Buf (Elt Ideal) ((c.tc : Thread Cert.AddIdeal.nD Cert.AddIdeal.τ).loc Cert.AddIdeal.main_v0)),
      θ_run (Cert.AddIdeal.defs (F := Ideal)) (onTc (τ := Cert.AddIdeal.τ) (Cert.AddIdeal.main (F := Ideal))) ⟨m, fun _ => 0, g⟩ (fun r => ∀ c : Dev Cert.AddIdeal.nD,
          r.2.mem ((c.tc : Thread Cert.AddIdeal.nD Cert.AddIdeal.τ).loc Cert.AddIdeal.main_v0) = v0 c
          ∧ r.2.mem ((c.tc : Thread Cert.AddIdeal.nD Cert.AddIdeal.τ).loc Cert.AddIdeal.main_arg0) = m ((c.tc : Thread Cert.AddIdeal.nD Cert.AddIdeal.τ).loc Cert.AddIdeal.main_arg0)
          ∧ r.2.mem ((c.tc : Thread Cert.AddIdeal.nD Cert.AddIdeal.τ).loc Cert.AddIdeal.main_arg1) = m ((c.tc : Thread Cert.AddIdeal.nD Cert.AddIdeal.τ).loc Cert.AddIdeal.main_arg1)
          ∧ r.2.mem ((c.tc : Thread Cert.AddIdeal.nD Cert.AddIdeal.τ).loc Cert.AddIdeal.main_arg2) = m ((c.tc : Thread Cert.AddIdeal.nD Cert.AddIdeal.τ).loc Cert.AddIdeal.main_arg2))
      ∧ θ_run (Cert.AddRefIdeal.defs (F := Ideal)) (onTc (τ := Cert.AddRefIdeal.τ) (Cert.AddRefIdeal.main (F := Ideal))) ⟨m', fun _ => 0, g'⟩ (fun r => ∀ c : Dev Cert.AddRefIdeal.nD,
          r.2.mem ((c.tc : Thread Cert.AddRefIdeal.nD Cert.AddRefIdeal.τ).loc Cert.AddRefIdeal.main_v3) = v0 c
          ∧ r.2.mem ((c.tc : Thread Cert.AddRefIdeal.nD Cert.AddRefIdeal.τ).loc Cert.AddRefIdeal.main_arg0) = m' ((c.tc : Thread Cert.AddRefIdeal.nD Cert.AddRefIdeal.τ).loc Cert.AddRefIdeal.main_arg0)
          ∧ r.2.mem ((c.tc : Thread Cert.AddRefIdeal.nD Cert.AddRefIdeal.τ).loc Cert.AddRefIdeal.main_arg1) = m' ((c.tc : Thread Cert.AddRefIdeal.nD Cert.AddRefIdeal.τ).loc Cert.AddRefIdeal.main_arg1)
          ∧ r.2.mem ((c.tc : Thread Cert.AddRefIdeal.nD Cert.AddRefIdeal.τ).loc Cert.AddRefIdeal.main_arg2) = m' ((c.tc : Thread Cert.AddRefIdeal.nD Cert.AddRefIdeal.τ).loc Cert.AddRefIdeal.main_arg2))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v5) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v12) = v0 c
          ∧ r.2.mem ((c.tc : Thread Cert.AdamRefIdeal.nD Cert.AdamRefIdeal.τ).loc Cert.AdamRefIdeal.main_v36) = v1 c
          ∧ r.2.mem ((c.tc : Thread Cert.AdamRefIdeal.nD Cert.AdamRefIdeal.τ).loc Cert.AdamRefIdeal.main_v17) = v2 c
          ∧ r.2.mem ((c.tc : Thread Cert.AdamRefIdeal.nD Cert.AdamRefIdeal.τ).loc Cert.AdamRefIdeal.main_v23) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6))

def preserves_Flat_FlatIdeal : Prop :=
  True

def algebraic_FlatIdeal_FlatRefIdeal [hFlatIdeal : Cert.FlatIdeal.Facts] [hFlatRefIdeal : Cert.FlatRefIdeal.Facts] : Prop :=
  ∀ (m : (ℓ : Loc Cert.FlatIdeal.nD Cert.FlatIdeal.τ Cert.FlatIdeal.sig) → Buf (Elt Ideal) ℓ) (g : Dev Cert.FlatIdeal.nD → PrngReg)
    (m' : (ℓ : Loc Cert.FlatRefIdeal.nD Cert.FlatRefIdeal.τ Cert.FlatRefIdeal.sig) → Buf (Elt Ideal) ℓ) (g' : Dev Cert.FlatRefIdeal.nD → PrngReg), Pre_FlatIdeal m →
    (∀ c : Dev Cert.FlatIdeal.nD,
      m' ((c.tc : Thread Cert.FlatRefIdeal.nD Cert.FlatRefIdeal.τ).loc Cert.FlatRefIdeal.main_arg0) = m ((c.tc : Thread Cert.FlatIdeal.nD Cert.FlatIdeal.τ).loc Cert.FlatIdeal.main_arg0)
      ∧ m' ((c.tc : Thread Cert.FlatRefIdeal.nD Cert.FlatRefIdeal.τ).loc Cert.FlatRefIdeal.main_arg1) = m ((c.tc : Thread Cert.FlatIdeal.nD Cert.FlatIdeal.τ).loc Cert.FlatIdeal.main_arg1)
      ∧ m' ((c.tc : Thread Cert.FlatRefIdeal.nD Cert.FlatRefIdeal.τ).loc Cert.FlatRefIdeal.main_arg2) = m ((c.tc : Thread Cert.FlatIdeal.nD Cert.FlatIdeal.τ).loc Cert.FlatIdeal.main_arg2)
      ∧ m' ((c.tc : Thread Cert.FlatRefIdeal.nD Cert.FlatRefIdeal.τ).loc Cert.FlatRefIdeal.main_arg3) = m ((c.tc : Thread Cert.FlatIdeal.nD Cert.FlatIdeal.τ).loc Cert.FlatIdeal.main_arg3)) →
    ∃ (v0 : (c : Dev Cert.FlatIdeal.nD) → Buf (Elt Ideal) ((c.tc : Thread Cert.FlatIdeal.nD Cert.FlatIdeal.τ).loc Cert.FlatIdeal.main_v0_0)) (v1 : (c : Dev Cert.FlatIdeal.nD) → Buf (Elt Ideal) ((c.tc : Thread Cert.FlatIdeal.nD Cert.FlatIdeal.τ).loc Cert.FlatIdeal.main_v0_1)) (v2 : (c : Dev Cert.FlatIdeal.nD) → Buf (Elt Ideal) ((c.tc : Thread Cert.FlatIdeal.nD Cert.FlatIdeal.τ).loc Cert.FlatIdeal.main_v0_2)) (v3 : (c : Dev Cert.FlatIdeal.nD) → Buf (Elt Ideal) ((c.tc : Thread Cert.FlatIdeal.nD Cert.FlatIdeal.τ).loc Cert.FlatIdeal.main_v0_3)),
      θ_run (Cert.FlatIdeal.defs (F := Ideal)) (onTc (τ := Cert.FlatIdeal.τ) (Cert.FlatIdeal.main (F := Ideal))) ⟨m, fun _ => 0, g⟩ (fun r => ∀ c : Dev Cert.FlatIdeal.nD,
          r.2.mem ((c.tc : Thread Cert.FlatIdeal.nD Cert.FlatIdeal.τ).loc Cert.FlatIdeal.main_v0_0) = v0 c
          ∧ r.2.mem ((c.tc : Thread Cert.FlatIdeal.nD Cert.FlatIdeal.τ).loc Cert.FlatIdeal.main_v0_1) = v1 c
          ∧ r.2.mem ((c.tc : Thread Cert.FlatIdeal.nD Cert.FlatIdeal.τ).loc Cert.FlatIdeal.main_v0_2) = v2 c
          ∧ r.2.mem ((c.tc : Thread Cert.FlatIdeal.nD Cert.FlatIdeal.τ).loc Cert.FlatIdeal.main_v0_3) = v3 c
          ∧ r.2.mem ((c.tc : Thread Cert.FlatIdeal.nD Cert.FlatIdeal.τ).loc Cert.FlatIdeal.main_arg0) = m ((c.tc : Thread Cert.FlatIdeal.nD Cert.FlatIdeal.τ).loc Cert.FlatIdeal.main_arg0)
          ∧ r.2.mem ((c.tc : Thread Cert.FlatIdeal.nD Cert.FlatIdeal.τ).loc Cert.FlatIdeal.main_arg1) = m ((c.tc : Thread Cert.FlatIdeal.nD Cert.FlatIdeal.τ).loc Cert.FlatIdeal.main_arg1)
          ∧ r.2.mem ((c.tc : Thread Cert.FlatIdeal.nD Cert.FlatIdeal.τ).loc Cert.FlatIdeal.main_arg2) = m ((c.tc : Thread Cert.FlatIdeal.nD Cert.FlatIdeal.τ).loc Cert.FlatIdeal.main_arg2)
          ∧ r.2.mem ((c.tc : Thread Cert.FlatIdeal.nD Cert.FlatIdeal.τ).loc Cert.FlatIdeal.main_arg3) = m ((c.tc : Thread Cert.FlatIdeal.nD Cert.FlatIdeal.τ).loc Cert.FlatIdeal.main_arg3))
      ∧ θ_run (Cert.FlatRefIdeal.defs (F := Ideal)) (onTc (τ := Cert.FlatRefIdeal.τ) (Cert.FlatRefIdeal.main (F := Ideal))) ⟨m', fun _ => 0, g'⟩ (fun r => ∀ c : Dev Cert.FlatRefIdeal.nD,
          r.2.mem ((c.tc : Thread Cert.FlatRefIdeal.nD Cert.FlatRefIdeal.τ).loc Cert.FlatRefIdeal.main_v0) = v0 c
          ∧ r.2.mem ((c.tc : Thread Cert.FlatRefIdeal.nD Cert.FlatRefIdeal.τ).loc Cert.FlatRefIdeal.main_v24) = v1 c
          ∧ r.2.mem ((c.tc : Thread Cert.FlatRefIdeal.nD Cert.FlatRefIdeal.τ).loc Cert.FlatRefIdeal.main_v5) = v2 c
          ∧ r.2.mem ((c.tc : Thread Cert.FlatRefIdeal.nD Cert.FlatRefIdeal.τ).loc Cert.FlatRefIdeal.main_v11) = v3 c
          ∧ r.2.mem ((c.tc : Thread Cert.FlatRefIdeal.nD Cert.FlatRefIdeal.τ).loc Cert.FlatRefIdeal.main_arg0) = m' ((c.tc : Thread Cert.FlatRefIdeal.nD Cert.FlatRefIdeal.τ).loc Cert.FlatRefIdeal.main_arg0)
          ∧ r.2.mem ((c.tc : Thread Cert.FlatRefIdeal.nD Cert.FlatRefIdeal.τ).loc Cert.FlatRefIdeal.main_arg1) = m' ((c.tc : Thread Cert.FlatRefIdeal.nD Cert.FlatRefIdeal.τ).loc Cert.FlatRefIdeal.main_arg1)
          ∧ r.2.mem ((c.tc : Thread Cert.FlatRefIdeal.nD Cert.FlatRefIdeal.τ).loc Cert.FlatRefIdeal.main_arg2) = m' ((c.tc : Thread Cert.FlatRefIdeal.nD Cert.FlatRefIdeal.τ).loc Cert.FlatRefIdeal.main_arg2)
          ∧ r.2.mem ((c.tc : Thread Cert.FlatRefIdeal.nD Cert.FlatRefIdeal.τ).loc Cert.FlatRefIdeal.main_arg3) = m' ((c.tc : Thread Cert.FlatRefIdeal.nD Cert.FlatRefIdeal.τ).loc Cert.FlatRefIdeal.main_arg3))

def preserves_Cols_ColsIdeal : Prop :=
  True

def algebraic_ColsIdeal_ColsRefIdeal [hColsIdeal : Cert.ColsIdeal.Facts] [hColsRefIdeal : Cert.ColsRefIdeal.Facts] : Prop :=
  ∀ (m : (ℓ : Loc Cert.ColsIdeal.nD Cert.ColsIdeal.τ Cert.ColsIdeal.sig) → Buf (Elt Ideal) ℓ) (g : Dev Cert.ColsIdeal.nD → PrngReg)
    (m' : (ℓ : Loc Cert.ColsRefIdeal.nD Cert.ColsRefIdeal.τ Cert.ColsRefIdeal.sig) → Buf (Elt Ideal) ℓ) (g' : Dev Cert.ColsRefIdeal.nD → PrngReg), Pre_ColsIdeal m →
    (∀ c : Dev Cert.ColsIdeal.nD,
      m' ((c.tc : Thread Cert.ColsRefIdeal.nD Cert.ColsRefIdeal.τ).loc Cert.ColsRefIdeal.main_arg0) = m ((c.tc : Thread Cert.ColsIdeal.nD Cert.ColsIdeal.τ).loc Cert.ColsIdeal.main_arg0)
      ∧ m' ((c.tc : Thread Cert.ColsRefIdeal.nD Cert.ColsRefIdeal.τ).loc Cert.ColsRefIdeal.main_arg1) = m ((c.tc : Thread Cert.ColsIdeal.nD Cert.ColsIdeal.τ).loc Cert.ColsIdeal.main_arg1)
      ∧ m' ((c.tc : Thread Cert.ColsRefIdeal.nD Cert.ColsRefIdeal.τ).loc Cert.ColsRefIdeal.main_arg2) = m ((c.tc : Thread Cert.ColsIdeal.nD Cert.ColsIdeal.τ).loc Cert.ColsIdeal.main_arg2)
      ∧ m' ((c.tc : Thread Cert.ColsRefIdeal.nD Cert.ColsRefIdeal.τ).loc Cert.ColsRefIdeal.main_arg3) = m ((c.tc : Thread Cert.ColsIdeal.nD Cert.ColsIdeal.τ).loc Cert.ColsIdeal.main_arg3)
      ∧ m' ((c.tc : Thread Cert.ColsRefIdeal.nD Cert.ColsRefIdeal.τ).loc Cert.ColsRefIdeal.main_arg4) = m ((c.tc : Thread Cert.ColsIdeal.nD Cert.ColsIdeal.τ).loc Cert.ColsIdeal.main_arg4)
      ∧ m' ((c.tc : Thread Cert.ColsRefIdeal.nD Cert.ColsRefIdeal.τ).loc Cert.ColsRefIdeal.main_arg5) = m ((c.tc : Thread Cert.ColsIdeal.nD Cert.ColsIdeal.τ).loc Cert.ColsIdeal.main_arg5)
      ∧ m' ((c.tc : Thread Cert.ColsRefIdeal.nD Cert.ColsRefIdeal.τ).loc Cert.ColsRefIdeal.main_arg6) = m ((c.tc : Thread Cert.ColsIdeal.nD Cert.ColsIdeal.τ).loc Cert.ColsIdeal.main_arg6)) →
    ∃ (v0 : (c : Dev Cert.ColsIdeal.nD) → Buf (Elt Ideal) ((c.tc : Thread Cert.ColsIdeal.nD Cert.ColsIdeal.τ).loc Cert.ColsIdeal.main_v1_0)) (v1 : (c : Dev Cert.ColsIdeal.nD) → Buf (Elt Ideal) ((c.tc : Thread Cert.ColsIdeal.nD Cert.ColsIdeal.τ).loc Cert.ColsIdeal.main_v1_1)) (v2 : (c : Dev Cert.ColsIdeal.nD) → Buf (Elt Ideal) ((c.tc : Thread Cert.ColsIdeal.nD Cert.ColsIdeal.τ).loc Cert.ColsIdeal.main_v1_2)) (v3 : (c : Dev Cert.ColsIdeal.nD) → Buf (Elt Ideal) ((c.tc : Thread Cert.ColsIdeal.nD Cert.ColsIdeal.τ).loc Cert.ColsIdeal.main_v1_3)),
      θ_run (Cert.ColsIdeal.defs (F := Ideal)) (onTc (τ := Cert.ColsIdeal.τ) (Cert.ColsIdeal.main (F := Ideal))) ⟨m, fun _ => 0, g⟩ (fun r => ∀ c : Dev Cert.ColsIdeal.nD,
          r.2.mem ((c.tc : Thread Cert.ColsIdeal.nD Cert.ColsIdeal.τ).loc Cert.ColsIdeal.main_v1_0) = v0 c
          ∧ r.2.mem ((c.tc : Thread Cert.ColsIdeal.nD Cert.ColsIdeal.τ).loc Cert.ColsIdeal.main_v1_1) = v1 c
          ∧ r.2.mem ((c.tc : Thread Cert.ColsIdeal.nD Cert.ColsIdeal.τ).loc Cert.ColsIdeal.main_v1_2) = v2 c
          ∧ r.2.mem ((c.tc : Thread Cert.ColsIdeal.nD Cert.ColsIdeal.τ).loc Cert.ColsIdeal.main_v1_3) = v3 c
          ∧ r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
          ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
          ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2)
          ∧ r.2.mem ((c.tc : Thread Cert.ColsIdeal.nD Cert.ColsIdeal.τ).loc Cert.ColsIdeal.main_arg3) = m ((c.tc : Thread Cert.ColsIdeal.nD Cert.ColsIdeal.τ).loc Cert.ColsIdeal.main_arg3)
          ∧ r.2.mem ((c.tc : Thread Cert.ColsIdeal.nD Cert.ColsIdeal.τ).loc Cert.ColsIdeal.main_arg4) = m ((c.tc : Thread Cert.ColsIdeal.nD Cert.ColsIdeal.τ).loc Cert.ColsIdeal.main_arg4)
          ∧ r.2.mem ((c.tc : Thread Cert.ColsIdeal.nD Cert.ColsIdeal.τ).loc Cert.ColsIdeal.main_arg5) = m ((c.tc : Thread Cert.ColsIdeal.nD Cert.ColsIdeal.τ).loc Cert.ColsIdeal.main_arg5)
          ∧ r.2.mem ((c.tc : Thread Cert.ColsIdeal.nD Cert.ColsIdeal.τ).loc Cert.ColsIdeal.main_arg6) = m ((c.tc : Thread Cert.ColsIdeal.nD Cert.ColsIdeal.τ).loc Cert.ColsIdeal.main_arg6))
      ∧ θ_run (Cert.ColsRefIdeal.defs (F := Ideal)) (onTc (τ := Cert.ColsRefIdeal.τ) (Cert.ColsRefIdeal.main (F := Ideal))) ⟨m', fun _ => 0, g'⟩ (fun r => ∀ c : Dev Cert.ColsRefIdeal.nD,
          r.2.mem ((c.tc : Thread Cert.ColsRefIdeal.nD Cert.ColsRefIdeal.τ).loc Cert.ColsRefIdeal.main_v16) = v0 c
          ∧ r.2.mem ((c.tc : Thread Cert.ColsRefIdeal.nD Cert.ColsRefIdeal.τ).loc Cert.ColsRefIdeal.main_v40) = v1 c
          ∧ r.2.mem ((c.tc : Thread Cert.ColsRefIdeal.nD Cert.ColsRefIdeal.τ).loc Cert.ColsRefIdeal.main_v21) = v2 c
          ∧ r.2.mem ((c.tc : Thread Cert.ColsRefIdeal.nD Cert.ColsRefIdeal.τ).loc Cert.ColsRefIdeal.main_v27) = v3 c
          ∧ r.2.mem ((c.tc : Thread Cert.ColsRefIdeal.nD Cert.ColsRefIdeal.τ).loc Cert.ColsRefIdeal.main_arg0) = m' ((c.tc : Thread Cert.ColsRefIdeal.nD Cert.ColsRefIdeal.τ).loc Cert.ColsRefIdeal.main_arg0)
          ∧ r.2.mem ((c.tc : Thread Cert.ColsRefIdeal.nD Cert.ColsRefIdeal.τ).loc Cert.ColsRefIdeal.main_arg1) = m' ((c.tc : Thread Cert.ColsRefIdeal.nD Cert.ColsRefIdeal.τ).loc Cert.ColsRefIdeal.main_arg1)
          ∧ r.2.mem ((c.tc : Thread Cert.ColsRefIdeal.nD Cert.ColsRefIdeal.τ).loc Cert.ColsRefIdeal.main_arg2) = m' ((c.tc : Thread Cert.ColsRefIdeal.nD Cert.ColsRefIdeal.τ).loc Cert.ColsRefIdeal.main_arg2)
          ∧ r.2.mem ((c.tc : Thread Cert.ColsRefIdeal.nD Cert.ColsRefIdeal.τ).loc Cert.ColsRefIdeal.main_arg3) = m' ((c.tc : Thread Cert.ColsRefIdeal.nD Cert.ColsRefIdeal.τ).loc Cert.ColsRefIdeal.main_arg3)
          ∧ r.2.mem ((c.tc : Thread Cert.ColsRefIdeal.nD Cert.ColsRefIdeal.τ).loc Cert.ColsRefIdeal.main_arg4) = m' ((c.tc : Thread Cert.ColsRefIdeal.nD Cert.ColsRefIdeal.τ).loc Cert.ColsRefIdeal.main_arg4)
          ∧ r.2.mem ((c.tc : Thread Cert.ColsRefIdeal.nD Cert.ColsRefIdeal.τ).loc Cert.ColsRefIdeal.main_arg5) = m' ((c.tc : Thread Cert.ColsRefIdeal.nD Cert.ColsRefIdeal.τ).loc Cert.ColsRefIdeal.main_arg5)
          ∧ r.2.mem ((c.tc : Thread Cert.ColsRefIdeal.nD Cert.ColsRefIdeal.τ).loc Cert.ColsRefIdeal.main_arg6) = m' ((c.tc : Thread Cert.ColsRefIdeal.nD Cert.ColsRefIdeal.τ).loc Cert.ColsRefIdeal.main_arg6))

def preserves_Kern_KernIdeal : Prop :=
  True

def algebraic_KernIdeal_KernRefIdeal [hKernIdeal : Cert.KernIdeal.Facts] [hKernRefIdeal : Cert.KernRefIdeal.Facts] : Prop :=
  ∀ (m : (ℓ : Loc Cert.KernIdeal.nD Cert.KernIdeal.τ Cert.KernIdeal.sig) → Buf (Elt Ideal) ℓ) (g : Dev Cert.KernIdeal.nD → PrngReg)
    (m' : (ℓ : Loc Cert.KernRefIdeal.nD Cert.KernRefIdeal.τ Cert.KernRefIdeal.sig) → Buf (Elt Ideal) ℓ) (g' : Dev Cert.KernRefIdeal.nD → PrngReg), Pre_KernIdeal m →
    (∀ c : Dev Cert.KernIdeal.nD,
      m' ((c.tc : Thread Cert.KernRefIdeal.nD Cert.KernRefIdeal.τ).loc Cert.KernRefIdeal.main_arg0) = m ((c.tc : Thread Cert.KernIdeal.nD Cert.KernIdeal.τ).loc Cert.KernIdeal.main_arg0)
      ∧ m' ((c.tc : Thread Cert.KernRefIdeal.nD Cert.KernRefIdeal.τ).loc Cert.KernRefIdeal.main_arg1) = m ((c.tc : Thread Cert.KernIdeal.nD Cert.KernIdeal.τ).loc Cert.KernIdeal.main_arg1)
      ∧ m' ((c.tc : Thread Cert.KernRefIdeal.nD Cert.KernRefIdeal.τ).loc Cert.KernRefIdeal.main_arg2) = m ((c.tc : Thread Cert.KernIdeal.nD Cert.KernIdeal.τ).loc Cert.KernIdeal.main_arg2)
      ∧ m' ((c.tc : Thread Cert.KernRefIdeal.nD Cert.KernRefIdeal.τ).loc Cert.KernRefIdeal.main_arg3) = m ((c.tc : Thread Cert.KernIdeal.nD Cert.KernIdeal.τ).loc Cert.KernIdeal.main_arg3)
      ∧ m' ((c.tc : Thread Cert.KernRefIdeal.nD Cert.KernRefIdeal.τ).loc Cert.KernRefIdeal.main_arg4) = m ((c.tc : Thread Cert.KernIdeal.nD Cert.KernIdeal.τ).loc Cert.KernIdeal.main_arg4)
      ∧ m' ((c.tc : Thread Cert.KernRefIdeal.nD Cert.KernRefIdeal.τ).loc Cert.KernRefIdeal.main_arg5) = m ((c.tc : Thread Cert.KernIdeal.nD Cert.KernIdeal.τ).loc Cert.KernIdeal.main_arg5)
      ∧ m' ((c.tc : Thread Cert.KernRefIdeal.nD Cert.KernRefIdeal.τ).loc Cert.KernRefIdeal.main_arg6) = m ((c.tc : Thread Cert.KernIdeal.nD Cert.KernIdeal.τ).loc Cert.KernIdeal.main_arg6)) →
    ∃ (v0 : (c : Dev Cert.KernIdeal.nD) → Buf (Elt Ideal) ((c.tc : Thread Cert.KernIdeal.nD Cert.KernIdeal.τ).loc Cert.KernIdeal.main_v1_0)) (v1 : (c : Dev Cert.KernIdeal.nD) → Buf (Elt Ideal) ((c.tc : Thread Cert.KernIdeal.nD Cert.KernIdeal.τ).loc Cert.KernIdeal.main_v1_1)) (v2 : (c : Dev Cert.KernIdeal.nD) → Buf (Elt Ideal) ((c.tc : Thread Cert.KernIdeal.nD Cert.KernIdeal.τ).loc Cert.KernIdeal.main_v1_2)) (v3 : (c : Dev Cert.KernIdeal.nD) → Buf (Elt Ideal) ((c.tc : Thread Cert.KernIdeal.nD Cert.KernIdeal.τ).loc Cert.KernIdeal.main_v1_3)),
      θ_run (Cert.KernIdeal.defs (F := Ideal)) (onTc (τ := Cert.KernIdeal.τ) (Cert.KernIdeal.main (F := Ideal))) ⟨m, fun _ => 0, g⟩ (fun r => ∀ c : Dev Cert.KernIdeal.nD,
          r.2.mem ((c.tc : Thread Cert.KernIdeal.nD Cert.KernIdeal.τ).loc Cert.KernIdeal.main_v1_0) = v0 c
          ∧ r.2.mem ((c.tc : Thread Cert.KernIdeal.nD Cert.KernIdeal.τ).loc Cert.KernIdeal.main_v1_1) = v1 c
          ∧ r.2.mem ((c.tc : Thread Cert.KernIdeal.nD Cert.KernIdeal.τ).loc Cert.KernIdeal.main_v1_2) = v2 c
          ∧ r.2.mem ((c.tc : Thread Cert.KernIdeal.nD Cert.KernIdeal.τ).loc Cert.KernIdeal.main_v1_3) = v3 c
          ∧ r.2.mem ((c.tc : Thread Cert.KernIdeal.nD Cert.KernIdeal.τ).loc Cert.KernIdeal.main_arg0) = m ((c.tc : Thread Cert.KernIdeal.nD Cert.KernIdeal.τ).loc Cert.KernIdeal.main_arg0)
          ∧ r.2.mem ((c.tc : Thread Cert.KernIdeal.nD Cert.KernIdeal.τ).loc Cert.KernIdeal.main_arg1) = m ((c.tc : Thread Cert.KernIdeal.nD Cert.KernIdeal.τ).loc Cert.KernIdeal.main_arg1)
          ∧ r.2.mem ((c.tc : Thread Cert.KernIdeal.nD Cert.KernIdeal.τ).loc Cert.KernIdeal.main_arg2) = m ((c.tc : Thread Cert.KernIdeal.nD Cert.KernIdeal.τ).loc Cert.KernIdeal.main_arg2)
          ∧ r.2.mem ((c.tc : Thread Cert.KernIdeal.nD Cert.KernIdeal.τ).loc Cert.KernIdeal.main_arg3) = m ((c.tc : Thread Cert.KernIdeal.nD Cert.KernIdeal.τ).loc Cert.KernIdeal.main_arg3)
          ∧ r.2.mem ((c.tc : Thread Cert.KernIdeal.nD Cert.KernIdeal.τ).loc Cert.KernIdeal.main_arg4) = m ((c.tc : Thread Cert.KernIdeal.nD Cert.KernIdeal.τ).loc Cert.KernIdeal.main_arg4)
          ∧ r.2.mem ((c.tc : Thread Cert.KernIdeal.nD Cert.KernIdeal.τ).loc Cert.KernIdeal.main_arg5) = m ((c.tc : Thread Cert.KernIdeal.nD Cert.KernIdeal.τ).loc Cert.KernIdeal.main_arg5)
          ∧ r.2.mem ((c.tc : Thread Cert.KernIdeal.nD Cert.KernIdeal.τ).loc Cert.KernIdeal.main_arg6) = m ((c.tc : Thread Cert.KernIdeal.nD Cert.KernIdeal.τ).loc Cert.KernIdeal.main_arg6))
      ∧ θ_run (Cert.KernRefIdeal.defs (F := Ideal)) (onTc (τ := Cert.KernRefIdeal.τ) (Cert.KernRefIdeal.main (F := Ideal))) ⟨m', fun _ => 0, g'⟩ (fun r => ∀ c : Dev Cert.KernRefIdeal.nD,
          r.2.mem ((c.tc : Thread Cert.KernRefIdeal.nD Cert.KernRefIdeal.τ).loc Cert.KernRefIdeal.main_v16) = v0 c
          ∧ r.2.mem ((c.tc : Thread Cert.KernRefIdeal.nD Cert.KernRefIdeal.τ).loc Cert.KernRefIdeal.main_v40) = v1 c
          ∧ r.2.mem ((c.tc : Thread Cert.KernRefIdeal.nD Cert.KernRefIdeal.τ).loc Cert.KernRefIdeal.main_v21) = v2 c
          ∧ r.2.mem ((c.tc : Thread Cert.KernRefIdeal.nD Cert.KernRefIdeal.τ).loc Cert.KernRefIdeal.main_v27) = v3 c
          ∧ r.2.mem ((c.tc : Thread Cert.KernRefIdeal.nD Cert.KernRefIdeal.τ).loc Cert.KernRefIdeal.main_arg0) = m' ((c.tc : Thread Cert.KernRefIdeal.nD Cert.KernRefIdeal.τ).loc Cert.KernRefIdeal.main_arg0)
          ∧ r.2.mem ((c.tc : Thread Cert.KernRefIdeal.nD Cert.KernRefIdeal.τ).loc Cert.KernRefIdeal.main_arg1) = m' ((c.tc : Thread Cert.KernRefIdeal.nD Cert.KernRefIdeal.τ).loc Cert.KernRefIdeal.main_arg1)
          ∧ r.2.mem ((c.tc : Thread Cert.KernRefIdeal.nD Cert.KernRefIdeal.τ).loc Cert.KernRefIdeal.main_arg2) = m' ((c.tc : Thread Cert.KernRefIdeal.nD Cert.KernRefIdeal.τ).loc Cert.KernRefIdeal.main_arg2)
          ∧ r.2.mem ((c.tc : Thread Cert.KernRefIdeal.nD Cert.KernRefIdeal.τ).loc Cert.KernRefIdeal.main_arg3) = m' ((c.tc : Thread Cert.KernRefIdeal.nD Cert.KernRefIdeal.τ).loc Cert.KernRefIdeal.main_arg3)
          ∧ r.2.mem ((c.tc : Thread Cert.KernRefIdeal.nD Cert.KernRefIdeal.τ).loc Cert.KernRefIdeal.main_arg4) = m' ((c.tc : Thread Cert.KernRefIdeal.nD Cert.KernRefIdeal.τ).loc Cert.KernRefIdeal.main_arg4)
          ∧ r.2.mem ((c.tc : Thread Cert.KernRefIdeal.nD Cert.KernRefIdeal.τ).loc Cert.KernRefIdeal.main_arg5) = m' ((c.tc : Thread Cert.KernRefIdeal.nD Cert.KernRefIdeal.τ).loc Cert.KernRefIdeal.main_arg5)
          ∧ r.2.mem ((c.tc : Thread Cert.KernRefIdeal.nD Cert.KernRefIdeal.τ).loc Cert.KernRefIdeal.main_arg6) = m' ((c.tc : Thread Cert.KernRefIdeal.nD Cert.KernRefIdeal.τ).loc Cert.KernRefIdeal.main_arg6))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hPle : Cert.Ple.Facts) (hPleIdeal : Cert.PleIdeal.Facts) (hPleRefIdeal : Cert.PleRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hBlend : Cert.Blend.Facts) (hBlendIdeal : Cert.BlendIdeal.Facts) (hBlendRefIdeal : Cert.BlendRefIdeal.Facts) (hCoeff : Cert.Coeff.Facts) (hCoeffIdeal : Cert.CoeffIdeal.Facts) (hCoeffRefIdeal : Cert.CoeffRefIdeal.Facts) (hDisc : Cert.Disc.Facts) (hDiscIdeal : Cert.DiscIdeal.Facts) (hDiscRefIdeal : Cert.DiscRefIdeal.Facts) (hAct : Cert.Act.Facts) (hActIdeal : Cert.ActIdeal.Facts) (hActRefIdeal : Cert.ActRefIdeal.Facts) (hTaps : Cert.Taps.Facts) (hTapsIdeal : Cert.TapsIdeal.Facts) (hTapsRefIdeal : Cert.TapsRefIdeal.Facts) (hConv : Cert.Conv.Facts) (hConvIdeal : Cert.ConvIdeal.Facts) (hConvRefIdeal : Cert.ConvRefIdeal.Facts) (hDx : Cert.Dx.Facts) (hDxIdeal : Cert.DxIdeal.Facts) (hDxRefIdeal : Cert.DxRefIdeal.Facts) (hAdd : Cert.Add.Facts) (hAddIdeal : Cert.AddIdeal.Facts) (hAddRefIdeal : Cert.AddRefIdeal.Facts) (hWgrad : Cert.Wgrad.Facts) (hWgradIdeal : Cert.WgradIdeal.Facts) (hWgradRefIdeal : Cert.WgradRefIdeal.Facts) (hAdam : Cert.Adam.Facts) (hAdamIdeal : Cert.AdamIdeal.Facts) (hAdamRefIdeal : Cert.AdamRefIdeal.Facts) (hFlat : Cert.Flat.Facts) (hFlatIdeal : Cert.FlatIdeal.Facts) (hFlatRefIdeal : Cert.FlatRefIdeal.Facts) (hCols : Cert.Cols.Facts) (hColsIdeal : Cert.ColsIdeal.Facts) (hColsRefIdeal : Cert.ColsRefIdeal.Facts) (hKern : Cert.Kern.Facts) (hKernIdeal : Cert.KernIdeal.Facts) (hKernRefIdeal : Cert.KernRefIdeal.Facts) (hPre_ffn_finite : Cert.Pre_ffn_finite.Facts) (hPre_attn_finite : Cert.Pre_attn_finite.Facts),
    quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Ple (hPle := hPle)
    ∧ quiescent_PleIdeal (hPleIdeal := hPleIdeal)
    ∧ quiescent_PleRefIdeal (hPleRefIdeal := hPleRefIdeal)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ quiescent_Blend (hBlend := hBlend)
    ∧ quiescent_BlendIdeal (hBlendIdeal := hBlendIdeal)
    ∧ quiescent_BlendRefIdeal (hBlendRefIdeal := hBlendRefIdeal)
    ∧ quiescent_Coeff (hCoeff := hCoeff)
    ∧ quiescent_CoeffIdeal (hCoeffIdeal := hCoeffIdeal)
    ∧ quiescent_CoeffRefIdeal (hCoeffRefIdeal := hCoeffRefIdeal)
    ∧ quiescent_Disc (hDisc := hDisc)
    ∧ quiescent_DiscIdeal (hDiscIdeal := hDiscIdeal)
    ∧ quiescent_DiscRefIdeal (hDiscRefIdeal := hDiscRefIdeal)
    ∧ quiescent_Act (hAct := hAct)
    ∧ quiescent_ActIdeal (hActIdeal := hActIdeal)
    ∧ quiescent_ActRefIdeal (hActRefIdeal := hActRefIdeal)
    ∧ quiescent_Taps (hTaps := hTaps)
    ∧ quiescent_TapsIdeal (hTapsIdeal := hTapsIdeal)
    ∧ quiescent_TapsRefIdeal (hTapsRefIdeal := hTapsRefIdeal)
    ∧ quiescent_Conv (hConv := hConv)
    ∧ quiescent_ConvIdeal (hConvIdeal := hConvIdeal)
    ∧ quiescent_ConvRefIdeal (hConvRefIdeal := hConvRefIdeal)
    ∧ quiescent_Dx (hDx := hDx)
    ∧ quiescent_DxIdeal (hDxIdeal := hDxIdeal)
    ∧ quiescent_DxRefIdeal (hDxRefIdeal := hDxRefIdeal)
    ∧ quiescent_Add (hAdd := hAdd)
    ∧ quiescent_AddIdeal (hAddIdeal := hAddIdeal)
    ∧ quiescent_AddRefIdeal (hAddRefIdeal := hAddRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Adam (hAdam := hAdam)
    ∧ quiescent_AdamIdeal (hAdamIdeal := hAdamIdeal)
    ∧ quiescent_AdamRefIdeal (hAdamRefIdeal := hAdamRefIdeal)
    ∧ quiescent_Flat (hFlat := hFlat)
    ∧ quiescent_FlatIdeal (hFlatIdeal := hFlatIdeal)
    ∧ quiescent_FlatRefIdeal (hFlatRefIdeal := hFlatRefIdeal)
    ∧ quiescent_Cols (hCols := hCols)
    ∧ quiescent_ColsIdeal (hColsIdeal := hColsIdeal)
    ∧ quiescent_ColsRefIdeal (hColsRefIdeal := hColsRefIdeal)
    ∧ quiescent_Kern (hKern := hKern)
    ∧ quiescent_KernIdeal (hKernIdeal := hKernIdeal)
    ∧ quiescent_KernRefIdeal (hKernRefIdeal := hKernRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Ple_PleIdeal
    ∧ algebraic_PleIdeal_PleRefIdeal (hPleIdeal := hPleIdeal) (hPleRefIdeal := hPleRefIdeal)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
    ∧ preserves_Blend_BlendIdeal
    ∧ algebraic_BlendIdeal_BlendRefIdeal (hBlendIdeal := hBlendIdeal) (hBlendRefIdeal := hBlendRefIdeal)
    ∧ preserves_Coeff_CoeffIdeal
    ∧ algebraic_CoeffIdeal_CoeffRefIdeal (hCoeffIdeal := hCoeffIdeal) (hCoeffRefIdeal := hCoeffRefIdeal)
    ∧ preserves_Disc_DiscIdeal
    ∧ algebraic_DiscIdeal_DiscRefIdeal (hDiscIdeal := hDiscIdeal) (hDiscRefIdeal := hDiscRefIdeal)
    ∧ preserves_Act_ActIdeal
    ∧ algebraic_ActIdeal_ActRefIdeal (hActIdeal := hActIdeal) (hActRefIdeal := hActRefIdeal)
    ∧ preserves_Taps_TapsIdeal
    ∧ algebraic_TapsIdeal_TapsRefIdeal (hTapsIdeal := hTapsIdeal) (hTapsRefIdeal := hTapsRefIdeal)
    ∧ preserves_Conv_ConvIdeal
    ∧ preserves_Dx_DxIdeal
    ∧ algebraic_DxIdeal_DxRefIdeal (hDxIdeal := hDxIdeal) (hDxRefIdeal := hDxRefIdeal)
    ∧ preserves_Add_AddIdeal
    ∧ algebraic_AddIdeal_AddRefIdeal (hAddIdeal := hAddIdeal) (hAddRefIdeal := hAddRefIdeal)
    ∧ preserves_Wgrad_WgradIdeal
    ∧ algebraic_WgradIdeal_WgradRefIdeal (hWgradIdeal := hWgradIdeal) (hWgradRefIdeal := hWgradRefIdeal)
    ∧ preserves_Adam_AdamIdeal
    ∧ algebraic_AdamIdeal_AdamRefIdeal (hAdamIdeal := hAdamIdeal) (hAdamRefIdeal := hAdamRefIdeal)
    ∧ preserves_Flat_FlatIdeal
    ∧ algebraic_FlatIdeal_FlatRefIdeal (hFlatIdeal := hFlatIdeal) (hFlatRefIdeal := hFlatRefIdeal)
    ∧ preserves_Cols_ColsIdeal
    ∧ algebraic_ColsIdeal_ColsRefIdeal (hColsIdeal := hColsIdeal) (hColsRefIdeal := hColsRefIdeal)
    ∧ preserves_Kern_KernIdeal
    ∧ algebraic_KernIdeal_KernRefIdeal (hKernIdeal := hKernIdeal) (hKernRefIdeal := hKernRefIdeal)
-- ==== Pre_attn_finite.lean ====
abbrev S2x4096x512 : Shape := ⟨3, ![2, 4096, 512]⟩
abbrev S2x4096x128 : Shape := ⟨3, ![2, 4096, 128]⟩
abbrev S2x4096 : Shape := ⟨2, ![2, 4096]⟩
abbrev S8 : Shape := ⟨1, ![8]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x4096x128 : S_.BroadcastsInDim S2x4096x128 (![] : Fin 0 → Fin S2x4096x128.rank)
  reducesTo_S2x4096x128_S_d0_1_2 : S2x4096x128.ReducesTo [0, 1, 2] S_
  bcast_S_S8 : S_.BroadcastsInDim S8 (![] : Fin 0 → Fin S8.rank)
  reducesTo_S8_S_d0 : S8.ReducesTo [0] S_
  bitsLt_bf16_f32 : FTy.bits .bf16 < FTy.bits .f32

variable [Facts]

def fn_part1 {F : FTy → Type} [FloatOps F] (main_arg5 : FVec F S2x4096x512 .bf16) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S2x4096x512 .f32 := (extf .f32 · bitsLt_bf16_f32) main_arg5
  let main_v20 : FVec F S2x4096x512 .f32 := Host.absf main_v19
  let main_cst_6 : FVec F S_ .f32 := constant S_ .f32 0x7F800000#32
  let main_v21 : FVec F S2x4096x512 .f32 := broadcastInDim S2x4096x512 ![] bcast_S_S2x4096x512 main_cst_6
  let main_v22 : IVec S2x4096x512 1 := cmpf .olt main_v20 main_v21
  let main_c_7 : IVec S_ 1 := constantI S_ 1 1#1
  let main_v23 : IVec S_ 1 := (fun x v => Host.reduce IntOp.andi x v reducesTo_S2x4096x512_S_d0_1_2 h_S_) main_v22 main_c_7
  let main_v24 : IVec S_ 1 := andi main_v18 main_v23
  main_v24

def fn {F : FTy → Type} [FloatOps F] (main_arg0 : FVec F S2x4096x512 .f32) (main_arg1 : FVec F S2x4096x128 .f32) (main_arg2 : FVec F S2x4096x128 .f32) (main_arg3 : IVec S2x4096 32) (main_arg4 : FVec F S8 .f32) (main_arg5 : FVec F S2x4096x512 .bf16) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x4096x128 .f32 := Host.absf main_arg1
  let main_cst_0 : FVec F S_ .f32 := constant S_ .f32 0x7F800000#32
  let main_v5 : FVec F S2x4096x128 .f32 := broadcastInDim S2x4096x128 ![] bcast_S_S2x4096x128 main_cst_0
  let main_v6 : IVec S2x4096x128 1 := cmpf .olt main_v4 main_v5
  let main_c_1 : IVec S_ 1 := constantI S_ 1 1#1
  let main_v7 : IVec S_ 1 := (fun x v => Host.reduce IntOp.andi x v reducesTo_S2x4096x128_S_d0_1_2 h_S_) main_v6 main_c_1
  let main_v8 : IVec S_ 1 := andi main_v3 main_v7
  let main_v9 : FVec F S2x4096x128 .f32 := Host.absf main_arg2
  let main_cst_2 : FVec F S_ .f32 := constant S_ .f32 0x7F800000#32
  let main_v10 : FVec F S2x4096x128 .f32 := broadcastInDim S2x4096x128 ![] bcast_S_S2x4096x128 main_cst_2
  let main_v11 : IVec S2x4096x128 1 := cmpf .olt main_v9 main_v10
  let main_c_3 : IVec S_ 1 := constantI S_ 1 1#1
  let main_v12 : IVec S_ 1 := (fun x v => Host.reduce IntOp.andi x v reducesTo_S2x4096x128_S_d0_1_2 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_v13 main_v16
-- ==== Pre_ffn_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v16 : IVec S_ 1) (main_v17 : FVec F S8192x2816 .f32) : IVec S_ 1 :=
  let main_v18 : FVec F S8192x2816 .f32 := Host.absf main_v17
  let main_cst_4 : FVec F S_ .f32 := constant S_ .f32 0x7F800000#32
  let main_v19 : FVec F S8192x2816 .f32 := broadcastInDim S8192x2816 ![] bcast_S_S8192x2816 main_cst_4
  let main_v20 : IVec S8192x2816 1 := cmpf .olt main_v18 main_v19
  let main_c_5 : IVec S_ 1 := constantI S_ 1 1#1
  let main_v21 : IVec S_ 1 := (fun x v => Host.reduce IntOp.andi x v reducesTo_S8192x2816_S_d0_1 h_S_) main_v20 main_c_5
  let main_v22 : IVec S_ 1 := andi main_v16 main_v21
  main_v22

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := (extf .f32 · bitsLt_bf16_f32) main_arg2
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v10 main_v15
  let main_v17 : FVec F S8192x2816 .f32 := (extf .f32 · bitsLt_bf16_f32) main_arg3
  fn_part1 (F := F) main_v16 main_v17
-- ==== Ffn.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S640x1024 : Shape := ⟨2, ![640, 1024]⟩
abbrev S512x640 : Shape := ⟨2, ![512, 640]⟩
abbrev S768x1024 : Shape := ⟨2, ![768, 1024]⟩
abbrev S512x768 : Shape := ⟨2, ![512, 768]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Attn.lean ====
abbrev S2x4096x512 : Shape := ⟨3, ![2, 4096, 512]⟩
abbrev S2x4096x128 : Shape := ⟨3, ![2, 4096, 128]⟩
abbrev S2x4096 : Shape := ⟨2, ![2, 4096]⟩
abbrev S8 : Shape := ⟨1, ![8]⟩
abbrev S128 : Shape := ⟨1, ![128]⟩
abbrev S_ : Shape := ⟨0, ![]⟩
abbrev S1x8 : Shape := ⟨2, ![1, 8]⟩
abbrev S16x8 : Shape := ⟨2, ![16, 8]⟩
abbrev S1x128 : Shape := ⟨2, ![1, 128]⟩
abbrev S8192 : Shape := ⟨1, ![8192]⟩
abbrev S8192x1 : Shape := ⟨2, ![8192, 1]⟩
abbrev S8192x128 : Shape := ⟨2, ![8192, 128]⟩
abbrev S1024x1 : Shape := ⟨2, ![1024, 1]⟩
abbrev S1024x128 : Shape := ⟨2, ![1024, 128]⟩
abbrev S2x4096x3072 : Shape := ⟨3, ![2, 4096, 3072]⟩
abbrev S2x4096x768 : Shape := ⟨3, ![2, 4096, 768]⟩
abbrev S2x4096x4608 : Shape := ⟨3, ![2, 4096, 4608]⟩
abbrev S8192x4608 : Shape := ⟨2, ![8192, 4608]⟩
abbrev S2x4096x8 : Shape := ⟨3, ![2, 4096, 8]⟩
abbrev S2x128x512 : Shape := ⟨3, ![2, 128, 512]⟩
abbrev S2x128x256 : Shape := ⟨3, ![2, 128, 256]⟩
abbrev S2x128x128 : Shape := ⟨3, ![2, 128, 128]⟩
abbrev S2x128x8 : Shape := ⟨3, ![2, 128, 8]⟩
abbrev S512x256 : Shape := ⟨2, ![512, 256]⟩
abbrev S128x8 : Shape := ⟨2, ![128, 8]⟩
abbrev S1x128x128 : Shape := ⟨3, ![1, 128, 128]⟩
abbrev S128x128 : Shape := ⟨2, ![128, 128]⟩
abbrev S1x128x512 : Shape := ⟨3, ![1, 128, 512]⟩
abbrev S128x512 : Shape := ⟨2, ![128, 512]⟩
abbrev S1x128x256 : Shape := ⟨3, ![1, 128, 256]⟩
abbrev S128x256 : Shape := ⟨2, ![128, 256]⟩
abbrev S256x128 : Shape := ⟨2, ![256, 128]⟩
abbrev S128x64 : Shape := ⟨2, ![128, 64]⟩
abbrev S512x64 : Shape := ⟨2, ![512, 64]⟩
abbrev S256x64 : Shape := ⟨2, ![256, 64]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S1x128x64 : Shape := ⟨3, ![1, 128, 64]⟩
abbrev S1x128x8 : Shape := ⟨3, ![1, 128, 8]⟩
abbrev S8192x512 : Shape := ⟨2, ![8192, 512]⟩
abbrev S8192x8 : Shape := ⟨2, ![8192, 8]⟩
abbrev S2x4096x256 : Shape := ⟨3, ![2, 4096, 256]⟩
abbrev S1x128x1 : Shape := ⟨3, ![1, 128, 1]⟩
abbrev S1 : Shape := ⟨1, ![1]⟩
abbrev S1x1x1 : Shape := ⟨3, ![1, 1, 1]⟩
abbrev S8192x256 : Shape := ⟨2, ![8192, 256]⟩
abbrev S384x256 : Shape := ⟨2, ![384, 256]⟩

abbrev nBuf : Space → Nat
  | .hbm => 90
  | .vmem => 62
  | .smem => 0
  | _ => 0

abbrev bufTy : (tb : Table) → Fin (tcTables nBuf tb) → BufTy
  | .hbm, ⟨0, _⟩ => ⟨S2x4096x512, .f32⟩
  | .hbm, ⟨1, _⟩ => ⟨S2x4096x128, .f32⟩
  | .hbm, ⟨2, _⟩ => ⟨S2x4096x128, .f32⟩
  | .hbm, ⟨3, _⟩ => ⟨S2x4096, .i32⟩
  | .hbm, ⟨4, _⟩ => ⟨S8, .f32⟩
  | .hbm, ⟨5, _⟩ => ⟨S2x4096x512, .bf16⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S_, .i32⟩
  | .hbm, ⟨22, _⟩ => ⟨S_, .i1⟩
  | .hbm, ⟨23, _⟩ => ⟨S128, .i1⟩
  | .hbm, ⟨24, _⟩ => ⟨S128, .i1⟩
  | .hbm, ⟨25, _⟩ => ⟨S128, .i1⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S1x8, .f32⟩
  | .hbm, ⟨47, _⟩ => ⟨S16x8, .f32⟩
  | .hbm, ⟨48, _⟩ => ⟨S128, .f32⟩
  | .hbm, ⟨49, _⟩ => ⟨S_, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S8192, .i32⟩
  | .hbm, ⟨55, _⟩ => ⟨S8192x1, .i32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S2x4096x3072, .f32⟩
  | .hbm, ⟨60, _⟩ => ⟨S_, .f32⟩
  | .hbm, ⟨61, _⟩ => ⟨S2x4096x768, .f32⟩
  | .hbm, ⟨62, _⟩ => ⟨S2x4096x4608, .f32⟩
  | .hbm, ⟨63, _⟩ => ⟨S8192x4608, .f32⟩
  | .hbm, ⟨64, _⟩ => ⟨S1x8, .f32⟩
  | .hbm, ⟨65, _⟩ => ⟨S2x4096x4608, .f32⟩
  | .hbm, ⟨66, _⟩ => ⟨S2x4096x128, .f32⟩
  | .hbm, ⟨67, _⟩ => ⟨S2x4096x128, .f32⟩
  | .hbm, ⟨68, _⟩ => ⟨S2x4096x512, .bf16⟩
  | .hbm, ⟨69, _⟩ => ⟨S2x4096x8, .f32⟩
  | .hbm, ⟨70, _⟩ => ⟨S8192x512, .bf16⟩
  | .hbm, ⟨71, _⟩ => ⟨S8192x8, .f32⟩
  | .hbm, ⟨72, _⟩ => ⟨S_, .bf16⟩
  | .hbm, ⟨73, _⟩ => ⟨S8192x4608, .bf16⟩
  | .hbm, ⟨74, _⟩ => ⟨S8192x512, .bf16⟩
  | .hbm, ⟨75, _⟩ => ⟨S2x4096x4608, .f32⟩
  | .hbm, ⟨76, _⟩ => ⟨S2x4096x128, .f32⟩
  | .hbm, ⟨77, _⟩ => ⟨S2x4096x128, .f32⟩
  | .hbm, ⟨78, _⟩ => ⟨S2x4096x512, .bf16⟩
  | .hbm, ⟨79, _⟩ => ⟨S2x4096x8, .f32⟩
  | .hbm, ⟨80, _⟩ => ⟨S2x4096x512, .bf16⟩
  | .hbm, ⟨81, _⟩ => ⟨S2x4096x4608, .bf16⟩
  | .hbm, ⟨82, _⟩ => ⟨S2x4096x4608, .bf16⟩
  | .hbm, ⟨83, _⟩ => ⟨S2x4096x256, .f32⟩
  | .hbm, ⟨84, _⟩ => ⟨S2x4096x256, .f32⟩
  | .hbm, ⟨85, _⟩ => ⟨S1x8, .f32⟩
  | .hbm, ⟨86, _⟩ => ⟨S8192x4608, .bf16⟩
  | .hbm, ⟨87, _⟩ => ⟨S8192x256, .f32⟩
  | .hbm, ⟨88, _⟩ => ⟨S8192x256, .f32⟩
  | .hbm, ⟨89, _⟩ => ⟨S8192x4608, .bf16⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S2x128x512, .f32⟩
  | .local _ .vmem, ⟨8, _⟩ => ⟨S2x128x512, .f32⟩
  | .local _ .vmem, ⟨9, _⟩ => ⟨S2x128x256, .f32⟩
  | .local _ .vmem, ⟨10, _⟩ => ⟨S2x128x256, .f32⟩
  | .local _ .vmem, ⟨11, _⟩ => ⟨S2x128x256, .f32⟩
  | .local _ .vmem, ⟨12, _⟩ => ⟨S2x128x256, .f32⟩
  | .local _ .vmem, ⟨13, _⟩ => ⟨S2x128x128, .f32⟩
  | .local _ .vmem, ⟨14, _⟩ => ⟨S2x128x128, .f32⟩
  | .local _ .vmem, ⟨15, _⟩ => ⟨S2x128x128, .f32⟩
  | .local _ .vmem, ⟨16, _⟩ => ⟨S2x128x128, .f32⟩
  | .local _ .vmem, ⟨17, _⟩ => ⟨S2x128x128, .f32⟩
  | .local _ .vmem, ⟨18, _⟩ => ⟨S2x128x128, .f32⟩
  | .local _ .vmem, ⟨19, _⟩ => ⟨S2x128x128, .f32⟩
  | .local _ .vmem, ⟨20, _⟩ => ⟨S2x128x128, .f32⟩
  | .local _ .vmem, ⟨21, _⟩ => ⟨S1x8, .f32⟩
  | .local _ .vmem, ⟨22, _⟩ => ⟨S2x128x512, .bf16⟩
  | .local _ .vmem, ⟨23, _⟩ => ⟨S2x128x512, .bf16⟩
  | .local _ .vmem, ⟨24, _⟩ => ⟨S2x128x8, .f32⟩
  | .local _ .vmem, ⟨25, _⟩ => ⟨S2x128x8, .f32⟩
  | .local _ .vmem, ⟨26, _⟩ => ⟨S2x128x512, .f32⟩
  | .local _ .vmem, ⟨27, _⟩ => ⟨S2x128x512, .f32⟩
  | .local _ .vmem, ⟨28, _⟩ => ⟨S2x128x256, .f32⟩
  | .local _ .vmem, ⟨29, _⟩ => ⟨S2x128x256, .f32⟩
  | .local _ .vmem, ⟨30, _⟩ => ⟨S2x128x256, .f32⟩
  | .local _ .vmem, ⟨31, _⟩ => ⟨S2x128x256, .f32⟩
  | .local _ .vmem, ⟨32, _⟩ => ⟨S2x128x128, .f32⟩
  | .local _ .vmem, ⟨33, _⟩ => ⟨S2x128x128, .f32⟩
  | .local _ .vmem, ⟨34, _⟩ => ⟨S2x128x128, .f32⟩
  | .local _ .vmem, ⟨35, _⟩ => ⟨S2x128x128, .f32⟩
  | .local _ .vmem, ⟨36, _⟩ => ⟨S2x128x128, .f32⟩
  | .local _ .vmem, ⟨37, _⟩ => ⟨S2x128x128, .f32⟩
  | .local _ .vmem, ⟨38, _⟩ => ⟨S2x128x128, .f32⟩
  | .local _ .vmem, ⟨39, _⟩ => ⟨S2x128x128, .f32⟩
  | .local _ .vmem, ⟨40, _⟩ => ⟨S1x8, .f32⟩
  | .local _ .vmem, ⟨41, _⟩ => ⟨S2x128x512, .bf16⟩
  | .local _ .vmem, ⟨42, _⟩ => ⟨S2x128x512, .bf16⟩
  | .local _ .vmem, ⟨43, _⟩ => ⟨S2x128x8, .f32⟩
  | .local _ .vmem, ⟨44, _⟩ => ⟨S2x128x8, .f32⟩
  | .local _ .vmem, ⟨45, _⟩ => ⟨S2x128x512, .bf16⟩
  | .local _ .vmem, ⟨46, _⟩ => ⟨S2x128x512, .bf16⟩
  | .local _ .vmem, ⟨47, _⟩ => ⟨S2x128x512, .bf16⟩
  | .local _ .vmem, ⟨48, _⟩ => ⟨S2x128x512, .bf16⟩
  | .local _ .vmem, ⟨49, _⟩ => ⟨S2x128x256, .f32⟩
  | .local _ .vmem, ⟨50, _⟩ => ⟨S2x128x256, .f32⟩
  | .local _ .vmem, ⟨51, _⟩ => ⟨S2x128x256, .f32⟩
  | .local _ .vmem, ⟨52, _⟩ => ⟨S2x128x256, .f32⟩
  | .local _ .vmem, ⟨53, _⟩ => ⟨S1x8, .f32⟩
  | .local _ .vmem, ⟨54, _⟩ => ⟨S512x256, .f32⟩
  | .local _ .vmem, ⟨55, _⟩ => ⟨S512x256, .f32⟩
  | .local _ .vmem, ⟨56, _⟩ => ⟨S512x256, .f32⟩
  | .local _ .vmem, ⟨57, _⟩ => ⟨S512x256, .f32⟩
  | .local _ .vmem, ⟨58, _⟩ => ⟨S128x256, .f32⟩
  | .local _ .vmem, ⟨59, _⟩ => ⟨S128x256, .f32⟩
  | .local _ .vmem, ⟨60, _⟩ => ⟨S512x256, .bf16⟩
  | .local _ .vmem, ⟨61, _⟩ => ⟨S512x256, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_cst_2 : Ref sig .tc := ⟨.hbm, 40, rfl⟩
abbrev main_v10 : Ref sig .tc := ⟨.hbm, 41, rfl⟩
abbrev main_v11 : Ref sig .tc := ⟨.hbm, 42, rfl⟩
abbrev main_c_3 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21_0 : Ref sig .tc := ⟨.hbm, 56, rfl⟩
abbrev main_v21_1 : Ref sig .tc := ⟨.hbm, 57, rfl⟩
abbrev main_cst_5 : Ref sig .tc := ⟨.hbm, 58, rfl⟩
abbrev main_v22 : Ref sig .tc := ⟨.hbm, 59, rfl⟩
abbrev main_cst_6 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30_0 : Ref sig .tc := ⟨.hbm, 68, rfl⟩
abbrev main_v30_1 : Ref sig .tc := ⟨.hbm, 69, rfl⟩
abbrev main_v31 : Ref sig .tc := ⟨.hbm, 70, rfl⟩
abbrev main_v32 : Ref sig .tc := ⟨.hbm, 71, rfl⟩
abbrev main_cst_7 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42_0 : Ref sig .tc := ⟨.hbm, 82, rfl⟩
abbrev main_v42_1 : Ref sig .tc := ⟨.hbm, 83, rfl⟩
abbrev main_v42_2 : Ref sig .tc := ⟨.hbm, 84, rfl⟩
abbrev main_v42_3 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg8_1 : Ref sig .tc := ⟨.vmem, 42, rfl⟩
abbrev cc2_stg9_0 : Ref sig .tc := ⟨.vmem, 43, rfl⟩
abbrev cc2_stg9_1 : Ref sig .tc := ⟨.vmem, 44, rfl⟩
abbrev cc2_stg10_0 : Ref sig .tc := ⟨.vmem, 45, rfl⟩
abbrev cc2_stg10_1 : Ref sig .tc := ⟨.vmem, 46, rfl⟩
abbrev cc2_stg11_0 : Ref sig .tc := ⟨.vmem, 47, rfl⟩
abbrev cc2_stg11_1 : Ref sig .tc := ⟨.vmem, 48, rfl⟩
abbrev cc2_stg12_0 : Ref sig .tc := ⟨.vmem, 49, rfl⟩
abbrev cc2_stg12_1 : Ref sig .tc := ⟨.vmem, 50, rfl⟩
abbrev cc2_stg13_0 : Ref sig .tc := ⟨.vmem, 51, rfl⟩
abbrev cc2_stg13_1 : Ref sig .tc := ⟨.vmem, 52, rfl⟩
abbrev cc2_stg14_0 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem6_1 : DmaSem sig := 39
abbrev cc2_sem7_0 : DmaSem sig := 40
abbrev cc2_sem8_0 : DmaSem sig := 41
abbrev cc2_sem8_1 : DmaSem sig := 42
abbrev cc2_sem9_0 : DmaSem sig := 43
abbrev cc2_sem9_1 : DmaSem sig := 44
abbrev cc2_sem10_0 : DmaSem sig := 45
abbrev cc2_sem10_1 : DmaSem sig := 46
abbrev cc2_sem11_0 : DmaSem sig := 47
abbrev cc2_sem11_1 : DmaSem sig := 48
abbrev cc2_sem12_0 : DmaSem sig := 49
abbrev cc2_sem12_1 : DmaSem sig := 50
abbrev cc2_sem13_0 : DmaSem sig := 51
abbrev cc2_sem13_1 : DmaSem sig := 52
abbrev cc2_sem14_0 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c6_i32 : BitVec 32 := 6#32
  let c0_i32_0 : BitVec 32 := 0#32
  ![c0_i32.toNat, arg0.toNat, c6_i32.toNat]

def cc1_transform_1 (i : grid1.Coords) : Fin 3 → Nat :=
  let arg0 : BitVec 32 := BitVec.ofNat 32 (i 0).val
  let c0_i32 : BitVec 32 := 0#32
  let c14_i32 : BitVec 32 := 14#32
  let c0_i32_0 : BitVec 32 := 0#32
  ![c0_i32.toNat, arg0.toNat, c14_i32.toNat]

def cc1_transform_2 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c14_i32 : BitVec 32 := 14#32
  let c0_i32_1 : BitVec 32 := 0#32
  ![c0_i32_0.toNat, v1.toNat, c14_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc1_transform_6 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2x128x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x128x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c6_i32 : BitVec 32 := 6#32
  let c0_i32_0 : BitVec 32 := 0#32
  ![c0_i32.toNat, arg0.toNat, c6_i32.toNat]

def cc2_transform_1 (i : grid2.Coords) : Fin 3 → Nat :=
  let arg0 : BitVec 32 := BitVec.ofNat 32 (i 0).val
  let c0_i32 : BitVec 32 := 0#32
  let c14_i32 : BitVec 32 := 14#32
  let c0_i32_0 : BitVec 32 := 0#32
  ![c0_i32.toNat, arg0.toNat, c14_i32.toNat]

def cc2_transform_2 (i : grid2.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c14_i32 : BitVec 32 := 14#32
  let c0_i32_1 : BitVec 32 := 0#32
  ![c0_i32_0.toNat, v1.toNat, c14_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc2_transform_6 (i : grid2.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_12 (i : grid2.Coords) : Fin 3 → Nat :=
  let arg0 : BitVec 32 := BitVec.ofNat 32 (i 0).val
  let c0_i32 : BitVec 32 := 0#32
  let c6_i32 : BitVec 32 := 6#32
  let c0_i32_0 : BitVec 32 := 0#32
  ![c0_i32.toNat, arg0.toNat, c6_i32.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2x128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2x128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2x128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2x128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2x128x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2x128x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2x128x512 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2x128x8 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2x128x512 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2x128x512 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S2x128x256 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S2x128x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 1 → Memref sig .tc .vmem S1x8 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c4_i32 : BitVec 32 := 4#32
  let v3 : BitVec 32 := Scalar.muli v2 c4_i32
  let c63_i32 : BitVec 32 := 63#32
  let v4 : BitVec 32 := Scalar.minsi v3 c63_i32
  let c0_i32 : BitVec 32 := 0#32
  let c0_i32_0 : BitVec 32 := 0#32
  ![v4.toNat, c0_i32.toNat]

def cc3_transform_4 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c14_i32 : BitVec 32 := 14#32
  let c0_i32 : BitVec 32 := 0#32
  ![v1.toNat, c14_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S128x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== AttnIdeal.lean ====
variable {F : FTy → Type} [FloatOps F] [Named F]
def κ : String → Option EReal := fun
  | "mask" => some ⊥
  | _ => none
-- ==== AttnRefIdeal.lean ====
abbrev S2x4096x512 : Shape := ⟨3, ![2, 4096, 512]⟩
abbrev S2x4096x128 : Shape := ⟨3, ![2, 4096, 128]⟩
abbrev S2x4096 : Shape := ⟨2, ![2, 4096]⟩
abbrev S8 : Shape := ⟨1, ![8]⟩
abbrev S_ : Shape := ⟨0, ![]⟩
abbrev S2x4096x1 : Shape := ⟨3, ![2, 4096, 1]⟩
abbrev S1x1x8 : Shape := ⟨3, ![1, 1, 8]⟩
abbrev S2x4096x8 : Shape := ⟨3, ![2, 4096, 8]⟩
abbrev S2x4096x1x8 : Shape := ⟨4, ![2, 4096, 1, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S2x4096x8x64 : Shape := ⟨4, ![2, 4096, 8, 64]⟩
abbrev S2x4096x8x8 : Shape := ⟨4, ![2, 4096, 8, 8]⟩
abbrev S2x4096x8x48 : Shape := ⟨4, ![2, 4096, 8, 48]⟩
abbrev S2x4096x2x64 : Shape := ⟨4, ![2, 4096, 2, 64]⟩
abbrev S2x4096x2x8 : Shape := ⟨4, ![2, 4096, 2, 8]⟩
abbrev S2x4096x2x48 : Shape := ⟨4, ![2, 4096, 2, 48]⟩
abbrev S2x32x128x2x4x64 : Shape := ⟨6, ![2, 32, 128, 2, 4, 64]⟩
abbrev S2x32x128x2x64 : Shape := ⟨5, ![2, 32, 128, 2, 64]⟩
abbrev S2x1x128x2x64 : Shape := ⟨5, ![2, 1, 128, 2, 64]⟩
abbrev S2x31x128x2x64 : Shape := ⟨5, ![2, 31, 128, 2, 64]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x64x4x128 : Shape := ⟨6, ![2, 32, 2, 64, 4, 128]⟩
abbrev S2x32x2x64x256 : Shape := ⟨5, ![2, 32, 2, 64, 256]⟩
abbrev S2x4x1 : Shape := ⟨3, ![2, 4, 1]⟩
abbrev S2x32x2x128x4x64 : Shape := ⟨6, ![2, 32, 2, 128, 4, 64]⟩
abbrev S2x32x2x256x64 : Shape := ⟨5, ![2, 32, 2, 256, 64]⟩
abbrev S2x4096x3072 : Shape := ⟨3, ![2, 4096, 3072]⟩
abbrev S2x4096x768 : Shape := ⟨3, ![2, 4096, 768]⟩
abbrev S2x4096x4608 : Shape := ⟨3, ![2, 4096, 4608]⟩
abbrev S8192x512 : Shape := ⟨2, ![8192, 512]⟩
abbrev S8192x4608 : Shape := ⟨2, ![8192, 4608]⟩
abbrev S1x8 : Shape := ⟨2, ![1, 8]⟩

abbrev nBuf : Space → Nat
  | .hbm => 314
  | .vmem => 0
  | .smem => 0
  | _ => 0

abbrev hbmTy0_0 (i : Nat) : BufTy := match i % 128 with
  | 0 => ⟨S2x4096x512, .f32⟩
  | 1 => ⟨S2x4096x128, .f32⟩
  | 2 => ⟨S2x4096x128, .f32⟩
  | 3 => ⟨S2x4096, .i32⟩
  | 4 => ⟨S8, .f32⟩
  | 5 => ⟨S2x4096x512, .bf16⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S2x4096, .f32⟩
  | 21 => ⟨S2x4096x1, .f32⟩
  | 22 => ⟨S1x1x8, .f32⟩
  | 23 => ⟨S2x4096x8, .f32⟩
  | 24 => ⟨S2x4096x8, .f32⟩
  | 25 => ⟨S2x4096x8, .f32⟩
  | 26 => ⟨S2x4096x8, .f32⟩
  | 27 => ⟨S2x4096x1x8, .f32⟩
  | 28 => ⟨S2x4096x8, .f32⟩
  | 29 => ⟨S2x4096x1x8, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S1x128x256, .i1⟩
  | 48 => ⟨S32, .i32⟩
  | 49 => ⟨S32x1x1, .i32⟩
  | 50 => ⟨S_, .i32⟩
  | 51 => ⟨S32x1x1, .i32⟩
  | 52 => ⟨S32x1x1, .i1⟩
  | 53 => ⟨S1x1x256, .i32⟩
  | 54 => ⟨S_, .i32⟩
  | 55 => ⟨S1x1x256, .i32⟩
  | 56 => ⟨S1x1x256, .i1⟩
  | 57 => ⟨S32x1x256, .i1⟩
  | 58 => ⟨S32x1x256, .i1⟩
  | 59 => ⟨S32x1x256, .i1⟩
  | 60 => ⟨S32x128x256, .i1⟩
  | 61 => ⟨S32x128x256, .i1⟩
  | 62 => ⟨S32x128x256, .i1⟩
  | 63 => ⟨S2x4096x8x64, .f32⟩
  | 64 => ⟨S2x4096x8x8, .f32⟩
  | 65 => ⟨S2x4096x8x8, .f32⟩
  | 66 => ⟨S2x4096x8x8, .f32⟩
  | 67 => ⟨S2x4096x8x8, .f32⟩
  | 68 => ⟨S2x4096x8x8, .f32⟩
  | 69 => ⟨S2x4096x8x8, .f32⟩
  | 70 => ⟨S2x4096x8x8, .f32⟩
  | 71 => ⟨S2x4096x8x8, .f32⟩
  | 72 => ⟨S2x4096x8x8, .f32⟩
  | 73 => ⟨S2x4096x8x8, .f32⟩
  | 74 => ⟨S2x4096x8x8, .f32⟩
  | 75 => ⟨S2x4096x8x8, .f32⟩
  | 76 => ⟨S2x4096x8x48, .f32⟩
  | 77 => ⟨S2x4096x8x64, .f32⟩
  | 78 => ⟨S2x4096x2x64, .f32⟩
  | 79 => ⟨S2x4096x2x8, .f32⟩
  | 80 => ⟨S2x4096x2x8, .f32⟩
  | 81 => ⟨S2x4096x2x8, .f32⟩
  | 82 => ⟨S2x4096x2x8, .f32⟩
  | 83 => ⟨S2x4096x2x8, .f32⟩
  | 84 => ⟨S2x4096x2x8, .f32⟩
  | 85 => ⟨S2x4096x2x8, .f32⟩
  | 86 => ⟨S2x4096x2x8, .f32⟩
  | 87 => ⟨S2x4096x2x8, .f32⟩
  | 88 => ⟨S2x4096x2x8, .f32⟩
  | 89 => ⟨S2x4096x2x8, .f32⟩
  | 90 => ⟨S2x4096x2x8, .f32⟩
  | 91 => ⟨S2x4096x2x48, .f32⟩
  | 92 => ⟨S2x4096x2x64, .f32⟩
  | 93 => ⟨S2x4096x2x64, .f32⟩
  | 94 => ⟨S2x32x128x2x4x64, .f32⟩
  | 95 => ⟨S2x32x128x2x64, .f32⟩
  | 96 => ⟨S2x1x128x2x64, .f32⟩
  | 97 => ⟨S_, .f32⟩
  | 98 => ⟨S2x1x128x2x64, .f32⟩
  | 99 => ⟨S2x31x128x2x64, .f32⟩
  | 100 => ⟨S2x32x128x2x64, .f32⟩
  | 101 => ⟨S_, .f32⟩
  | 102 => ⟨S2x1x128x2x64, .f32⟩
  | 103 => ⟨S2x32x256x2x64, .f32⟩
  | 104 => ⟨S2x32x128x2x64, .f32⟩
  | 105 => ⟨S2x1x128x2x64, .f32⟩
  | 106 => ⟨S_, .f32⟩
  | 107 => ⟨S2x1x128x2x64, .f32⟩
  | 108 => ⟨S2x31x128x2x64, .f32⟩
  | 109 => ⟨S2x32x128x2x64, .f32⟩
  | 110 => ⟨S_, .f32⟩
  | 111 => ⟨S2x1x128x2x64, .f32⟩
  | 112 => ⟨S2x32x256x2x64, .f32⟩
  | 113 => ⟨S2x32x2x256x128x4, .f32⟩
  | 114 => ⟨S2x32x2x4x128x256, .f32⟩
  | 115 => ⟨S_, .f32⟩
  | 116 => ⟨S2x32x2x4x128x256, .f32⟩
  | 117 => ⟨S2x32x2x4x128x256, .f32⟩
  | 118 => ⟨S1x32x1x1x128x256, .i1⟩
  | 119 => ⟨S_, .f32⟩
  | 120 => ⟨S_, .f32⟩
  | 121 => ⟨S2x32x2x4x128x256, .i1⟩
  | 122 => ⟨S2x32x2x4x128x256, .f32⟩
  | 123 => ⟨S2x32x2x4x128x256, .f32⟩
  | 124 => ⟨S_, .f32⟩
  | 125 => ⟨S2x32x2x4x128x256, .f32⟩
  | 126 => ⟨S2x4, .f32⟩
  | 127 => ⟨S1x1x2x4x1x1, .f32⟩
  | _ => ⟨S2x4096x512, .f32⟩

abbrev hbmTy0_1 (i : Nat) : BufTy := match i % 128 with
  | 0 => ⟨S_, .f32⟩
  | 1 => ⟨S2x32x2x4x128, .f32⟩
  | 2 => ⟨S2x32x2x4x128x1, .f32⟩
  | 3 => ⟨S2x32x2x4x128x256, .f32⟩
  | 4 => ⟨S2x32x2x4x128x256, .i1⟩
  | 5 => ⟨S2x32x2x4x128x256, .f32⟩
  | 6 => ⟨S_, .f32⟩
  | 7 => ⟨S2x32x2x4x128, .f32⟩
  | 8 => ⟨S2x32x2x4x128x1, .f32⟩
  | 9 => ⟨S2x32x2x4x128x1, .f32⟩
  | 10 => ⟨S2x32x2x4x128x1, .f32⟩
  | 11 => ⟨S2x32x2x4x128x1, .f32⟩
  | 12 => ⟨S2x32x2x4x128x1, .i1⟩
  | 13 => ⟨S2x32x2x4x128x1, .f32⟩
  | 14 => ⟨S2x32x2x4x128x1, .i1⟩
  | 15 => ⟨S_, .f32⟩
  | 16 => ⟨S2x32x2x4x128x1, .f32⟩
  | 17 => ⟨S_, .f32⟩
  | 18 => ⟨S2x32x2x4x128x1, .f32⟩
  | 19 => ⟨S_, .f32⟩
  | 20 => ⟨S2x32x2x4x128x1, .f32⟩
  | 21 => ⟨S2x32x2x4x128x1, .f32⟩
  | 22 => ⟨S2x32x2x4x128x1, .f32⟩
  | 23 => ⟨S2x32x2x4x128x1, .f32⟩
  | 24 => ⟨S2x32x2x4x128x1, .i1⟩
  | 25 => ⟨S2x32x2x4x128x1, .f32⟩
  | 26 => ⟨S2x32x2x4x128x1, .i1⟩
  | 27 => ⟨S_, .f32⟩
  | 28 => ⟨S2x32x2x4x128x1, .f32⟩
  | 29 => ⟨S_, .f32⟩
  | 30 => ⟨S2x32x2x4x128x1, .f32⟩
  | 31 => ⟨S_, .f32⟩
  | 32 => ⟨S2x32x2x4x128x1, .f32⟩
  | 33 => ⟨S2x32x2x4x128x1, .f32⟩
  | 34 => ⟨S2x32x2x4x128x1, .f32⟩
  | 35 => ⟨S2x32x2x4x128x256, .f32⟩
  | 36 => ⟨S2x32x2x4x128x256, .f32⟩
  | 37 => ⟨S2x32x2x4x128x256, .f32⟩
  | 38 => ⟨S_, .f32⟩
  | 39 => ⟨S2x32x2x4x128, .f32⟩
  | 40 => ⟨S2x32x2x4x128x1, .f32⟩
  | 41 => ⟨S2x32x2x4x128x1, .f32⟩
  | 42 => ⟨S2x32x2x4x128x1, .f32⟩
  | 43 => ⟨S2x32x2x4x128x1, .f32⟩
  | 44 => ⟨S2x32x2x4x128x1, .f32⟩
  | 45 => ⟨S2x32x2x4x128x256, .f32⟩
  | 46 => ⟨S2x32x2x4x128x256, .f32⟩
  | 47 => ⟨S2x32x2x4x128x1, .f32⟩
  | 48 => ⟨S_, .f32⟩
  | 49 => ⟨S2x32x2x4x128x1, .f32⟩
  | 50 => ⟨S2x32x2x4x128x1, .f32⟩
  | 51 => ⟨S2x32x2x64x4x128, .f32⟩
  | 52 => ⟨S2x32x128x2x4x64, .f32⟩
  | 53 => ⟨S2x4096x512, .f32⟩
  | 54 => ⟨S2x32x2x4x128x1, .f32⟩
  | 55 => ⟨S2x32x2x4x128x1, .f32⟩
  | 56 => ⟨S2x4096x512, .f32⟩
  | 57 => ⟨S2x32x128x2x4x64, .f32⟩
  | 58 => ⟨S2x32x2x64x4x128, .f32⟩
  | 59 => ⟨S2x32x2x4x128x256, .f32⟩
  | 60 => ⟨S2x32x2x64x256, .f32⟩
  | 61 => ⟨S2x32x256x2x64, .f32⟩
  | 62 => ⟨S2x32x2x4x128x256, .f32⟩
  | 63 => ⟨S2x32x2x4x128x256, .f32⟩
  | 64 => ⟨S2x32x2x4x128x256, .f32⟩
  | 65 => ⟨S_, .f32⟩
  | 66 => ⟨S2x32x2x4x128, .f32⟩
  | 67 => ⟨S2x32x2x4x128x1, .f32⟩
  | 68 => ⟨S2x32x2x4x128x1, .f32⟩
  | 69 => ⟨S2x32x2x4x128x256, .f32⟩
  | 70 => ⟨S2x32x2x4x128x256, .f32⟩
  | 71 => ⟨S2x32x2x4x128x1, .f32⟩
  | 72 => ⟨S_, .f32⟩
  | 73 => ⟨S2x4x1, .f32⟩
  | 74 => ⟨S1x1x2x4x1x1, .f32⟩
  | 75 => ⟨S2x32x2x4x128x1, .f32⟩
  | 76 => ⟨S_, .f32⟩
  | 77 => ⟨S2x32x2x4x128, .f32⟩
  | 78 => ⟨S2x32x2x4x128x256, .f32⟩
  | 79 => ⟨S2x32x2x4x128x256, .f32⟩
  | 80 => ⟨S2x32x2x4x128x256, .f32⟩
  | 81 => ⟨S2x32x2x4x128x256, .f32⟩
  | 82 => ⟨S_, .f32⟩
  | 83 => ⟨S2x32x2x4x128, .f32⟩
  | 84 => ⟨S2x32x2x4x128x1, .f32⟩
  | 85 => ⟨S2x32x2x4x128x1, .f32⟩
  | 86 => ⟨S2x32x2x4x128x1, .f32⟩
  | 87 => ⟨S_, .f32⟩
  | 88 => ⟨S2x4x1, .f32⟩
  | 89 => ⟨S1x1x2x4x1x1, .f32⟩
  | 90 => ⟨S1x1x2x4x1x1, .f32⟩
  | 91 => ⟨S2x32x2x4x128x1, .f32⟩
  | 92 => ⟨S_, .f32⟩
  | 93 => ⟨S2x32x2x4x128, .f32⟩
  | 94 => ⟨S2x32x2x4x128, .f32⟩
  | 95 => ⟨S2x32x2x4x128x256, .f32⟩
  | 96 => ⟨S2x32x2x4x128x256, .f32⟩
  | 97 => ⟨S2x32x2x4x128x256, .f32⟩
  | 98 => ⟨S_, .f32⟩
  | 99 => ⟨S2x4, .f32⟩
  | 100 => ⟨S8, .f32⟩
  | 101 => ⟨S_, .f32⟩
  | 102 => ⟨S2x32x2x4x128x256, .f32⟩
  | 103 => ⟨S2x32x2x4x128x256, .f32⟩
  | 104 => ⟨S_, .f32⟩
  | 105 => ⟨S2x32x2x4x128x256, .f32⟩
  | 106 => ⟨S2x32x2x4x128x256, .f32⟩
  | 107 => ⟨S2x32x2x256x128x4, .f32⟩
  | 108 => ⟨S2x32x2x128x4x64, .f32⟩
  | 109 => ⟨S2x32x128x2x4x64, .f32⟩
  | 110 => ⟨S2x32x2x256x64, .f32⟩
  | 111 => ⟨S2x32x256x2x64, .f32⟩
  | 112 => ⟨S2x32x128x2x64, .f32⟩
  | 113 => ⟨S2x32x128x2x64, .f32⟩
  | 114 => ⟨S2x1x128x2x64, .f32⟩
  | 115 => ⟨S2x31x128x2x64, .f32⟩
  | 116 => ⟨S_, .f32⟩
  | 117 => ⟨S2x32x128x2x64, .f32⟩
  | 118 => ⟨S2x32x128x2x64, .f32⟩
  | 119 => ⟨S2x4096x2x64, .f32⟩
  | 120 => ⟨S2x32x128x2x64, .f32⟩
  | 121 => ⟨S2x32x128x2x64, .f32⟩
  | 122 => ⟨S2x1x128x2x64, .f32⟩
  | 123 => ⟨S2x31x128x2x64, .f32⟩
  | 124 => ⟨S_, .f32⟩
  | 125 => ⟨S2x32x128x2x64, .f32⟩
  | 126 => ⟨S2x32x128x2x64, .f32⟩
  | 127 => ⟨S2x4096x2x64, .f32⟩
  | _ => ⟨S2x4096x512, .f32⟩

abbrev hbmTy0_2 (i : Nat) : BufTy := match i % 128 with
  | 0 => ⟨S2x4096x8x64, .f32⟩
  | 1 => ⟨S2x4096x128, .f32⟩
  | 2 => ⟨S2x4096x2x8, .f32⟩
  | 3 => ⟨S2x4096x2x8, .f32⟩
  | 4 => ⟨S2x4096x2x48, .f32⟩
  | 5 => ⟨S_, .f32⟩
  | 6 => ⟨S2x4096x2x64, .f32⟩
  | 7 => ⟨S2x4096x2x8, .f32⟩
  | 8 => ⟨S2x4096x2x8, .f32⟩
  | 9 => ⟨S2x4096x2x8, .f32⟩
  | 10 => ⟨S2x4096x2x8, .f32⟩
  | 11 => ⟨S2x4096x2x8, .f32⟩
  | 12 => ⟨S2x4096x2x8, .f32⟩
  | 13 => ⟨S2x4096x2x8, .f32⟩
  | 14 => ⟨S2x4096x2x8, .f32⟩
  | 15 => ⟨S2x4096x2x8, .f32⟩
  | 16 => ⟨S2x4096x2x8, .f32⟩
  | 17 => ⟨S2x4096x2x8, .f32⟩
  | 18 => ⟨S_, .f32⟩
  | 19 => ⟨S2x4096x2x64, .f32⟩
  | 20 => ⟨S2x4096x2x64, .f32⟩
  | 21 => ⟨S_, .f32⟩
  | 22 => ⟨S2x4096x2x64, .f32⟩
  | 23 => ⟨S2x4096x2x64, .f32⟩
  | 24 => ⟨S2x4096x128, .f32⟩
  | 25 => ⟨S2x4096x8x8, .f32⟩
  | 26 => ⟨S2x4096x8x8, .f32⟩
  | 27 => ⟨S2x4096x8x48, .f32⟩
  | 28 => ⟨S_, .f32⟩
  | 29 => ⟨S2x4096x8x64, .f32⟩
  | 30 => ⟨S2x4096x8x8, .f32⟩
  | 31 => ⟨S2x4096x8x8, .f32⟩
  | 32 => ⟨S2x4096x8x8, .f32⟩
  | 33 => ⟨S2x4096x8x8, .f32⟩
  | 34 => ⟨S2x4096x8x8, .f32⟩
  | 35 => ⟨S2x4096x8x8, .f32⟩
  | 36 => ⟨S2x4096x8x8, .f32⟩
  | 37 => ⟨S2x4096x8x8, .f32⟩
  | 38 => ⟨S2x4096x8x8, .f32⟩
  | 39 => ⟨S2x4096x8x8, .f32⟩
  | 40 => ⟨S2x4096x8x8, .f32⟩
  | 41 => ⟨S_, .f32⟩
  | 42 => ⟨S2x4096x8x64, .f32⟩
  | 43 => ⟨S2x4096x8x64, .f32⟩
  | 44 => ⟨S_, .f32⟩
  | 45 => ⟨S2x4096x8x64, .f32⟩
  | 46 => ⟨S2x4096x8x64, .f32⟩
  | 47 => ⟨S2x4096x512, .f32⟩
  | 48 => ⟨S_, .f32⟩
  | 49 => ⟨S2x4096x3072, .f32⟩
  | 50 => ⟨S_, .f32⟩
  | 51 => ⟨S2x4096x768, .f32⟩
  | 52 => ⟨S2x4096x4608, .f32⟩
  | 53 => ⟨S8192x512, .f32⟩
  | 54 => ⟨S8192x512, .bf16⟩
  | 55 => ⟨S8192x4608, .f32⟩
  | 56 => ⟨S8192x4608, .bf16⟩
  | 57 => ⟨S1x8, .f32⟩
  | _ => ⟨S2x4096x512, .f32⟩

abbrev hbmTy (i : Nat) : BufTy := match i / 128 with
  | 0 => hbmTy0_0 i
  | 1 => hbmTy0_1 i
  | 2 => hbmTy0_2 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_7 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_8 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_9 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_10 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_11 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_12 : Ref sig .tc := ⟨.hbm, 119, rfl⟩
abbrev main_call0_v0 : Ref sig .tc := ⟨.hbm, 120, rfl⟩
abbrev main_v99_1 : Ref sig .tc := ⟨.hbm, 121, rfl⟩
abbrev main_call0_v2 : Ref sig .tc := ⟨.hbm, 122, rfl⟩
abbrev main_v99_0 : Ref sig .tc := ⟨.hbm, 123, rfl⟩
abbrev main_call0_cst : Ref sig .tc := ⟨.hbm, 124, rfl⟩
abbrev main_v99_2 : Ref sig .tc := ⟨.hbm, 125, rfl⟩
abbrev main_v100 : Ref sig .tc := ⟨.hbm, 126, rfl⟩
abbrev main_v101 : Ref sig .tc := ⟨.hbm, 127, rfl⟩
abbrev main_cst_13 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_14 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_15 : Ref sig .tc := ⟨.hbm, 143, rfl⟩
abbrev main_v115 : Ref sig .tc := ⟨.hbm, 144, rfl⟩
abbrev main_cst_16 : Ref sig .tc := ⟨.hbm, 145, rfl⟩
abbrev main_v116 : Ref sig .tc := ⟨.hbm, 146, rfl⟩
abbrev main_cst_17 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_18 : Ref sig .tc := ⟨.hbm, 155, rfl⟩
abbrev main_v124 : Ref sig .tc := ⟨.hbm, 156, rfl⟩
abbrev main_cst_19 : Ref sig .tc := ⟨.hbm, 157, rfl⟩
abbrev main_v125 : Ref sig .tc := ⟨.hbm, 158, rfl⟩
abbrev main_cst_20 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_21 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_22 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_23 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_24 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_25 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_cst_26 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_cst_27 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_cst_28 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_cst_29 : Ref sig .tc := ⟨.hbm, 226, rfl⟩
abbrev main_v184 : Ref sig .tc := ⟨.hbm, 227, rfl⟩
abbrev main_v185 : Ref sig .tc := ⟨.hbm, 228, rfl⟩
abbrev main_call1_cst : Ref sig .tc := ⟨.hbm, 229, rfl⟩
abbrev main_call1_v0 : Ref sig .tc := ⟨.hbm, 230, rfl⟩
abbrev main_v186 : Ref sig .tc := ⟨.hbm, 231, rfl⟩
abbrev main_cst_30 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_cst_31 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_32 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_cst_33 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_cst_34 : Ref sig .tc := ⟨.hbm, 274, rfl⟩
abbrev main_v225 : Ref sig .tc := ⟨.hbm, 275, rfl⟩
abbrev main_v226 : Ref sig .tc := ⟨.hbm, 276, rfl⟩
abbrev main_cst_35 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_cst_36 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_cst_37 : Ref sig .tc := ⟨.hbm, 297, rfl⟩
abbrev main_v245 : Ref sig .tc := ⟨.hbm, 298, rfl⟩
abbrev main_v246 : Ref sig .tc := ⟨.hbm, 299, rfl⟩
abbrev main_cst_38 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_cst_39 : Ref sig .tc := ⟨.hbm, 304, rfl⟩
abbrev main_v250 : Ref sig .tc := ⟨.hbm, 305, rfl⟩
abbrev main_cst_40 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩

abbrev nD : Nat := 1
abbrev τ : Topo := Topo.v7x

variable {F : FTy → Type} [FloatOps F]

def κ : String → Option EReal := fun
  | "mask" => some ⊥
  | _ => none
-- ==== Ple.lean ====
abbrev S8192x1024 : Shape := ⟨2, ![8192, 1024]⟩
abbrev S8192x256 : Shape := ⟨2, ![8192, 256]⟩
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .bf16⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S256x1024, .f32⟩
  | .hbm, ⟨13, _⟩ => ⟨S1x1024, .f32⟩
  | .hbm, ⟨14, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x256, .f32⟩
  | .local _ .vmem, ⟨16, _⟩ => ⟨S512x256, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S256x1024, .bf16⟩
  | .local _ .vmem, ⟨24, _⟩ => ⟨S1x1024, .f32⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S256x1024, .f32⟩
  | .local _ .vmem, ⟨31, _⟩ => ⟨S1x1024, .f32⟩
  | .local _ .vmem, ⟨32, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem11_0 : DmaSem sig := 31
abbrev cc1_sem12_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_4 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S256x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== PleRefIdeal.lean ====
abbrev S8192x1024 : Shape := ⟨2, ![8192, 1024]⟩
abbrev S8192x256 : Shape := ⟨2, ![8192, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .bf16⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S256x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024x1024, .f32⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1024x256, .f32⟩
  | .hbm, ⟨78, _⟩ => ⟨S256x1024, .f32⟩
  | .hbm, ⟨79, _⟩ => ⟨S8192x1024, .bf16⟩
  | .hbm, ⟨80, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1024x4608 : Shape := ⟨2, ![1024, 4608]⟩
abbrev S8192x4608 : Shape := ⟨2, ![8192, 4608]⟩
abbrev S8192x3072 : Shape := ⟨2, ![8192, 3072]⟩
abbrev S8192x1536 : Shape := ⟨2, ![8192, 1536]⟩
abbrev S1024x3072 : Shape := ⟨2, ![1024, 3072]⟩
abbrev S1024x1536 : Shape := ⟨2, ![1024, 1536]⟩
abbrev S1x1024 : Shape := ⟨2, ![1, 1024]⟩
abbrev S512x4608 : Shape := ⟨2, ![512, 4608]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .bf16⟩
  | .hbm, ⟨3, _⟩ => ⟨S8192x4608, .bf16⟩
  | .hbm, ⟨4, _⟩ => ⟨S8192x1024, .f32⟩
  | .hbm, ⟨5, _⟩ => ⟨S8192x4608, .f32⟩
  | .hbm, ⟨6, _⟩ => ⟨S8192x3072, .f32⟩
  | .hbm, ⟨7, _⟩ => ⟨S8192x1536, .f32⟩
  | .hbm, ⟨8, _⟩ => ⟨S8192x4608, .f32⟩
  | .hbm, ⟨9, _⟩ => ⟨S8192x4608, .bf16⟩
  | .hbm, ⟨10, _⟩ => ⟨S1024x4608, .f32⟩
  | .hbm, ⟨11, _⟩ => ⟨S1024x3072, .f32⟩
  | .hbm, ⟨12, _⟩ => ⟨S1024x1536, .f32⟩
  | .hbm, ⟨13, _⟩ => ⟨S1024x4608, .f32⟩
  | .hbm, ⟨14, _⟩ => ⟨S1024x4608, .bf16⟩
  | .hbm, ⟨15, _⟩ => ⟨S1x1024, .f32⟩
  | .hbm, ⟨16, _⟩ => ⟨S8192x1024, .f32⟩
  | .hbm, ⟨17, _⟩ => ⟨S1x1024, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8192x1024 : Shape := ⟨2, ![8192, 1024]⟩
abbrev S1024 : Shape := ⟨1, ![1024]⟩
abbrev S1024x4608 : Shape := ⟨2, ![1024, 4608]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .bf16⟩
  | .hbm, ⟨3, _⟩ => ⟨S8192x4608, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x4608, .f32⟩
  | .hbm, ⟨26, _⟩ => ⟨S8192x4608, .f32⟩
  | .hbm, ⟨27, _⟩ => ⟨S8192x4608, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S8x128, .f32⟩
  | .hbm, ⟨6, _⟩ => ⟨S1x1024, .f32⟩
  | .hbm, ⟨7, _⟩ => ⟨S1x1, .f32⟩
  | .hbm, ⟨8, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Blend.lean ====
abbrev S8192x1024 : Shape := ⟨2, ![8192, 1024]⟩
abbrev S8192x512 : Shape := ⟨2, ![8192, 512]⟩
abbrev S8192x256 : Shape := ⟨2, ![8192, 256]⟩
abbrev S8192x3072 : Shape := ⟨2, ![8192, 3072]⟩
abbrev S512x1024 : Shape := ⟨2, ![512, 1024]⟩
abbrev S256x2048 : Shape := ⟨2, ![256, 2048]⟩
abbrev S2048 : Shape := ⟨1, ![2048]⟩
abbrev S256 : Shape := ⟨1, ![256]⟩
abbrev S256x1024 : Shape := ⟨2, ![256, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S8192x1536 : Shape := ⟨2, ![8192, 1536]⟩
abbrev S8192x4608 : Shape := ⟨2, ![8192, 4608]⟩
abbrev S1x2048 : Shape := ⟨2, ![1, 2048]⟩
abbrev S1x256 : Shape := ⟨2, ![1, 256]⟩
abbrev S1x3072 : Shape := ⟨2, ![1, 3072]⟩
abbrev S1x1024 : Shape := ⟨2, ![1, 1024]⟩
abbrev S512x512 : Shape := ⟨2, ![512, 512]⟩
abbrev S512x256 : Shape := ⟨2, ![512, 256]⟩
abbrev S512x3072 : Shape := ⟨2, ![512, 3072]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .f32⟩
  | .hbm, ⟨3, _⟩ => ⟨S8192x256, .f32⟩
  | .hbm, ⟨4, _⟩ => ⟨S8192x3072, .f32⟩
  | .hbm, ⟨5, _⟩ => ⟨S512x1024, .bf16⟩
  | .hbm, ⟨6, _⟩ => ⟨S256x2048, .bf16⟩
  | .hbm, ⟨7, _⟩ => ⟨S2048, .f32⟩
  | .hbm, ⟨8, _⟩ => ⟨S256, .f32⟩
  | .hbm, ⟨9, _⟩ => ⟨S256, .f32⟩
  | .hbm, ⟨10, _⟩ => ⟨S256x1024, .bf16⟩
  | .hbm, ⟨11, _⟩ => ⟨S3072, .f32⟩
  | .hbm, ⟨12, _⟩ => ⟨S1024x1024, .bf16⟩
  | .hbm, ⟨13, _⟩ => ⟨S1024, .f32⟩
  | .hbm, ⟨14, _⟩ => ⟨S_, .f32⟩
  | .hbm, ⟨15, _⟩ => ⟨S8192x1536, .f32⟩
  | .hbm, ⟨16, _⟩ => ⟨S8192x4608, .f32⟩
  | .hbm, ⟨17, _⟩ => ⟨S1x2048, .f32⟩
  | .hbm, ⟨18, _⟩ => ⟨S1x256, .f32⟩
  | .hbm, ⟨19, _⟩ => ⟨S1x256, .f32⟩
  | .hbm, ⟨20, _⟩ => ⟨S1x3072, .f32⟩
  | .hbm, ⟨21, _⟩ => ⟨S1x1024, .f32⟩
  | .hbm, ⟨22, _⟩ => ⟨S8192x1024, .f32⟩
  | .hbm, ⟨23, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S256x2048, .bf16⟩
  | .local _ .vmem, ⟨12, _⟩ => ⟨S1x2048, .f32⟩
  | .local _ .vmem, ⟨13, _⟩ => ⟨S1x256, .f32⟩
  | .local _ .vmem, ⟨14, _⟩ => ⟨S1x256, .f32⟩
  | .local _ .vmem, ⟨15, _⟩ => ⟨S256x1024, .bf16⟩
  | .local _ .vmem, ⟨16, _⟩ => ⟨S1x3072, .f32⟩
  | .local _ .vmem, ⟨17, _⟩ => ⟨S1024x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== BlendRefIdeal.lean ====
abbrev S8192x1024 : Shape := ⟨2, ![8192, 1024]⟩
abbrev S8192x512 : Shape := ⟨2, ![8192, 512]⟩
abbrev S8192x256 : Shape := ⟨2, ![8192, 256]⟩
abbrev S8192x3072 : Shape := ⟨2, ![8192, 3072]⟩
abbrev S512x1024 : Shape := ⟨2, ![512, 1024]⟩
abbrev S256x2048 : Shape := ⟨2, ![256, 2048]⟩
abbrev S2048 : Shape := ⟨1, ![2048]⟩
abbrev S256 : Shape := ⟨1, ![256]⟩
abbrev S256x1024 : Shape := ⟨2, ![256, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S8192x2048 : Shape := ⟨2, ![8192, 2048]⟩
abbrev S1x2048 : Shape := ⟨2, ![1, 2048]⟩
abbrev S8192 : Shape := ⟨1, ![8192]⟩
abbrev S8192x1 : Shape := ⟨2, ![8192, 1]⟩
abbrev S1x256 : Shape := ⟨2, ![1, 256]⟩
abbrev S1x3072 : Shape := ⟨2, ![1, 3072]⟩
abbrev S1x1024 : Shape := ⟨2, ![1, 1024]⟩

abbrev nBuf : Space → Nat
  | .hbm => 129
  | .vmem => 0
  | .smem => 0
  | _ => 0

abbrev hbmTy0_0 (i : Nat) : BufTy := match i % 128 with
  | 0 => ⟨S8192x1024, .f32⟩
  | 1 => ⟨S8192x512, .bf16⟩
  | 2 => ⟨S8192x256, .f32⟩
  | 3 => ⟨S8192x256, .f32⟩
  | 4 => ⟨S8192x3072, .f32⟩
  | 5 => ⟨S512x1024, .bf16⟩
  | 6 => ⟨S256x2048, .bf16⟩
  | 7 => ⟨S2048, .f32⟩
  | 8 => ⟨S256, .f32⟩
  | 9 => ⟨S256, .f32⟩
  | 10 => ⟨S256x1024, .bf16⟩
  | 11 => ⟨S3072, .f32⟩
  | 12 => ⟨S1024x1024, .bf16⟩
  | 13 => ⟨S1024, .f32⟩
  | 14 => ⟨S8192x512, .f32⟩
  | 15 => ⟨S512x1024, .f32⟩
  | 16 => ⟨S8192x1024, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S_, .f32⟩
  | 31 => ⟨S8192x256, .f32⟩
  | 32 => ⟨S8192x256, .f32⟩
  | 33 => ⟨S8192x256, .f32⟩
  | 34 => ⟨S256x2048, .f32⟩
  | 35 => ⟨S8192x2048, .f32⟩
  | 36 => ⟨S1x2048, .f32⟩
  | 37 => ⟨S8192x2048, .f32⟩
  | 38 => ⟨S8192x2048, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x256, .f32⟩
  | 57 => ⟨S8192x256, .f32⟩
  | 58 => ⟨S8192x256, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x256, .f32⟩
  | 66 => ⟨S8192x256, .f32⟩
  | 67 => ⟨S_, .f32⟩
  | 68 => ⟨S8192x1, .f32⟩
  | 69 => ⟨S8192x1, .f32⟩
  | 70 => ⟨S8192x1, .f32⟩
  | 71 => ⟨S8192x256, .f32⟩
  | 72 => ⟨S8192x256, .f32⟩
  | 73 => ⟨S1x256, .f32⟩
  | 74 => ⟨S8192x256, .f32⟩
  | 75 => ⟨S8192x256, .f32⟩
  | 76 => ⟨S1x256, .f32⟩
  | 77 => ⟨S8192x256, .f32⟩
  | 78 => ⟨S8192x256, .f32⟩
  | 79 => ⟨S8192x256, .f32⟩
  | 80 => ⟨S8192x256, .f32⟩
  | 81 => ⟨S_, .f32⟩
  | 82 => ⟨S8192x256, .f32⟩
  | 83 => ⟨S8192x256, .f32⟩
  | 84 => ⟨S_, .f32⟩
  | 85 => ⟨S8192x256, .f32⟩
  | 86 => ⟨S8192x256, .f32⟩
  | 87 => ⟨S8192x256, .f32⟩
  | 88 => ⟨S256x1024, .f32⟩
  | 89 => ⟨S8192x1024, .f32⟩
  | 90 => ⟨S1x3072, .f32⟩
  | 91 => ⟨S8192x3072, .f32⟩
  | 92 => ⟨S8192x3072, .f32⟩
  | 93 => ⟨S8192x3072, .f32⟩
  | 94 => ⟨S8192x3072, .f32⟩
  | 95 => ⟨S_, .f32⟩
  | 96 => ⟨S8192x3072, .f32⟩
  | 97 => ⟨S8192x3072, .f32⟩
  | 98 => ⟨S_, .f32⟩
  | 99 => ⟨S8192x3072, .f32⟩
  | 100 => ⟨S8192x3072, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S1024x1024, .f32⟩
  | 110 => ⟨S8192x1024, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192x1, .f32⟩
  | 121 => ⟨S8192x1, .f32⟩
  | 122 => ⟨S8192x1, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_12 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_cst_14 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]
-- ==== Coeff.lean ====
abbrev S4x16x64 : Shape := ⟨3, ![4, 16, 64]⟩
abbrev S4x16 : Shape := ⟨2, ![4, 16]⟩
abbrev S64x64 : Shape := ⟨2, ![64, 64]⟩
abbrev S64x1 : Shape := ⟨2, ![64, 1]⟩
abbrev S64 : Shape := ⟨1, ![64]⟩

abbrev nBuf : Space → Nat
  | .hbm => 20
  | .vmem => 10
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16, .f32⟩
  | .hbm, ⟨3, _⟩ => ⟨S4x16x64, .f32⟩
  | .hbm, ⟨4, _⟩ => ⟨S4x16x64, .f32⟩
  | .hbm, ⟨5, _⟩ => ⟨S4x16x64, .f32⟩
  | .hbm, ⟨6, _⟩ => ⟨S4x16x64, .f32⟩
  | .hbm, ⟨7, _⟩ => ⟨S64x64, .f32⟩
  | .hbm, ⟨8, _⟩ => ⟨S64x64, .f32⟩
  | .hbm, ⟨9, _⟩ => ⟨S64x1, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x1, .f32⟩
  | .hbm, ⟨17, _⟩ => ⟨S4x16x64, .f32⟩
  | .hbm, ⟨18, _⟩ => ⟨S4x16x64, .f32⟩
  | .hbm, ⟨19, _⟩ => ⟨S4x16, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x1, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== CoeffRefIdeal.lean ====
abbrev S4x16x64 : Shape := ⟨3, ![4, 16, 64]⟩
abbrev S4x16 : Shape := ⟨2, ![4, 16]⟩
abbrev S_ : Shape := ⟨0, ![]⟩
abbrev S4x16x1 : Shape := ⟨3, ![4, 16, 1]⟩

abbrev nBuf : Space → Nat
  | .hbm => 129
  | .vmem => 0
  | .smem => 0
  | _ => 0

abbrev hbmTy0_0 (i : Nat) : BufTy := match i % 128 with
  | 0 => ⟨S4x16x64, .f32⟩
  | 1 => ⟨S4x16x64, .f32⟩
  | 2 => ⟨S4x16, .f32⟩
  | 3 => ⟨S4x16x64, .f32⟩
  | 4 => ⟨S4x16x64, .f32⟩
  | 5 => ⟨S4x16x64, .f32⟩
  | 6 => ⟨S4x16x64, .f32⟩
  | 7 => ⟨S_, .f32⟩
  | 8 => ⟨S4x16x64, .f32⟩
  | 9 => ⟨S4x16x64, .f32⟩
  | 10 => ⟨S_, .f32⟩
  | 11 => ⟨S4x16x64, .f32⟩
  | 12 => ⟨S4x16x64, .i1⟩
  | 13 => ⟨S_, .f32⟩
  | 14 => ⟨S4x16x64, .f32⟩
  | 15 => ⟨S4x16x64, .i1⟩
  | 16 => ⟨S_, .f32⟩
  | 17 => ⟨S4x16x64, .f32⟩
  | 18 => ⟨S_, .f32⟩
  | 19 => ⟨S4x16x64, .f32⟩
  | 20 => ⟨S_, .f32⟩
  | 21 => ⟨S4x16x64, .f32⟩
  | 22 => ⟨S4x16x64, .f32⟩
  | 23 => ⟨S4x16x64, .f32⟩
  | 24 => ⟨S4x16, .f32⟩
  | 25 => ⟨S4x16x1, .f32⟩
  | 26 => ⟨S4x16x64, .f32⟩
  | 27 => ⟨S4x16x64, .f32⟩
  | 28 => ⟨S4x16x64, .f32⟩
  | 29 => ⟨S4x16x64, .f32⟩
  | 30 => ⟨S4x16x64, .f32⟩
  | 31 => ⟨S4x16x64, .f32⟩
  | 32 => ⟨S4x16x64, .f32⟩
  | 33 => ⟨S4x16x64, .f32⟩
  | 34 => ⟨S4x16x64, .f32⟩
  | 35 => ⟨S4x16x64, .f32⟩
  | 36 => ⟨S4x16x64, .f32⟩
  | 37 => ⟨S4x16x64, .f32⟩
  | 38 => ⟨S4x16x64, .f32⟩
  | 39 => ⟨S4x16x64, .f32⟩
  | 40 => ⟨S4x16x64, .f32⟩
  | 41 => ⟨S4x16x64, .f32⟩
  | 42 => ⟨S_, .f32⟩
  | 43 => ⟨S4x16x64, .f32⟩
  | 44 => ⟨S4x16x64, .f32⟩
  | 45 => ⟨S4x16x64, .f32⟩
  | 46 => ⟨S4x16x64, .f32⟩
  | 47 => ⟨S4x16x64, .f32⟩
  | 48 => ⟨S4x16x64, .f32⟩
  | 49 => ⟨S4x16x64, .f32⟩
  | 50 => ⟨S_, .f32⟩
  | 51 => ⟨S4x16x64, .f32⟩
  | 52 => ⟨S4x16x64, .f32⟩
  | 53 => ⟨S4x16x64, .f32⟩
  | 54 => ⟨S4x16x64, .f32⟩
  | 55 => ⟨S4x16x64, .f32⟩
  | 56 => ⟨S4x16x64, .f32⟩
  | 57 => ⟨S4x16x64, .f32⟩
  | 58 => ⟨S_, .f32⟩
  | 59 => ⟨S4x16x64, .f32⟩
  | 60 => ⟨S4x16x64, .f32⟩
  | 61 => ⟨S4x16x64, .f32⟩
  | 62 => ⟨S4x16x64, .f32⟩
  | 63 => ⟨S4x16x64, .f32⟩
  | 64 => ⟨S4x16x64, .f32⟩
  | 65 => ⟨S4x16x64, .f32⟩
  | 66 => ⟨S4x16x64, .f32⟩
  | 67 => ⟨S4x16x64, .f32⟩
  | 68 => ⟨S4x16x64, .f32⟩
  | 69 => ⟨S4x16x64, .f32⟩
  | 70 => ⟨S4x16x64, .f32⟩
  | 71 => ⟨S4x16x64, .f32⟩
  | 72 => ⟨S4x16x64, .f32⟩
  | 73 => ⟨S4x16x64, .f32⟩
  | 74 => ⟨S4x16x64, .f32⟩
  | 75 => ⟨S4x16x64, .f32⟩
  | 76 => ⟨S4x16x64, .f32⟩
  | 77 => ⟨S4x16x64, .f32⟩
  | 78 => ⟨S4x16x64, .f32⟩
  | 79 => ⟨S4x16x64, .f32⟩
  | 80 => ⟨S4x16x64, .f32⟩
  | 81 => ⟨S4x16x64, .f32⟩
  | 82 => ⟨S4x16x64, .f32⟩
  | 83 => ⟨S4x16x64, .f32⟩
  | 84 => ⟨S4x16x64, .f32⟩
  | 85 => ⟨S4x16x64, .f32⟩
  | 86 => ⟨S4x16x64, .f32⟩
  | 87 => ⟨S4x16x64, .f32⟩
  | 88 => ⟨S4x16x64, .f32⟩
  | 89 => ⟨S4x16x64, .f32⟩
  | 90 => ⟨S4x16x64, .f32⟩
  | 91 => ⟨S4x16x64, .f32⟩
  | 92 => ⟨S4x16x64, .f32⟩
  | 93 => ⟨S4x16x64, .f32⟩
  | 94 => ⟨S4x16x64, .f32⟩
  | 95 => ⟨S4x16x64, .f32⟩
  | 96 => ⟨S4x16x64, .f32⟩
  | 97 => ⟨S_, .f32⟩
  | 98 => ⟨S4x16, .f32⟩
  | 99 => ⟨S4x16x1, .f32⟩
  | 100 => ⟨S4x16x64, .f32⟩
  | 101 => ⟨S4x16x64, .f32⟩
  | 102 => ⟨S4x16x64, .f32⟩
  | 103 => ⟨S4x16x64, .f32⟩
  | 104 => ⟨S4x16x64, .f32⟩
  | 105 => ⟨S4x16x64, .f32⟩
  | 106 => ⟨S4x16x64, .f32⟩
  | 107 => ⟨S4x16x64, .f32⟩
  | 108 => ⟨S4x16x64, .f32⟩
  | 109 => ⟨S_, .f32⟩
  | 110 => ⟨S4x16, .f32⟩
  | 111 => ⟨S4x16x1, .f32⟩
  | 112 => ⟨S4x16x1, .f32⟩
  | 113 => ⟨S4x16x64, .f32⟩
  | 114 => ⟨S4x16x64, .f32⟩
  | 115 => ⟨S4x16x64, .f32⟩
  | 116 => ⟨S4x16x64, .f32⟩
  | 117 => ⟨S4x16x64, .f32⟩
  | 118 => ⟨S_, .f32⟩
  | 119 => ⟨S4x16, .f32⟩
  | 120 => ⟨S4x16x1, .f32⟩
  | 121 => ⟨S4x16x1, .f32⟩
  | 122 => ⟨S4x16x64, .f32⟩
  | 123 => ⟨S4x16x64, .f32⟩
  | 124 => ⟨S4x16x64, .f32⟩
  | 125 => ⟨S_, .f32⟩
  | 126 => ⟨S4x16, .f32⟩
  | 127 => ⟨S4x16, .f32⟩
  | _ => ⟨S4x16x64, .f32⟩

abbrev hbmTy0_1 (i : Nat) : BufTy := match i % 128 with
  | 0 => ⟨S4x16x64, .f32⟩
  | _ => ⟨S4x16x64, .f32⟩

abbrev hbmTy (i : Nat) : BufTy := match i / 128 with
  | 0 => hbmTy0_0 i
  | 1 => hbmTy0_1 i
  | _ => ⟨S4x16x64, .f32⟩

abbrev bufTy : (tb : Table) → Fin (tcTables nBuf tb) → BufTy
  | .hbm, ⟨i, _⟩ => hbmTy i
  | _, _ => ⟨S4x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_8 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_9 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_10 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩

abbrev nD : Nat := 1
abbrev τ : Topo := Topo.v7x

variable {F : FTy → Type} [FloatOps F]
-- ==== Disc.lean ====
abbrev S4x16x64 : Shape := ⟨3, ![4, 16, 64]⟩
abbrev S4x16 : Shape := ⟨2, ![4, 16]⟩
abbrev S64x64 : Shape := ⟨2, ![64, 64]⟩
abbrev S64x1 : Shape := ⟨2, ![64, 1]⟩

abbrev nBuf : Space → Nat
  | .hbm => 14
  | .vmem => 7
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S4x16x64, .f32⟩
  | .hbm, ⟨11, _⟩ => ⟨S4x16x64, .f32⟩
  | .hbm, ⟨12, _⟩ => ⟨S4x16x64, .f32⟩
  | .hbm, ⟨13, _⟩ => ⟨S4x16x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DiscRefIdeal.lean ====
abbrev S4x16x64 : Shape := ⟨3, ![4, 16, 64]⟩
abbrev S4x16 : Shape := ⟨2, ![4, 16]⟩
abbrev S_ : Shape := ⟨0, ![]⟩
abbrev S4x16x1 : Shape := ⟨3, ![4, 16, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16, .f32⟩
  | .hbm, ⟨3, _⟩ => ⟨S_, .f32⟩
  | .hbm, ⟨4, _⟩ => ⟨S4x16x64, .f32⟩
  | .hbm, ⟨5, _⟩ => ⟨S4x16x64, .f32⟩
  | .hbm, ⟨6, _⟩ => ⟨S4x16, .f32⟩
  | .hbm, ⟨7, _⟩ => ⟨S4x16x1, .f32⟩
  | .hbm, ⟨8, _⟩ => ⟨S4x16x64, .f32⟩
  | .hbm, ⟨9, _⟩ => ⟨S4x16x64, .f32⟩
  | .hbm, ⟨10, _⟩ => ⟨S4x16x64, .f32⟩
  | .hbm, ⟨11, _⟩ => ⟨S4x16x64, .f32⟩
  | .hbm, ⟨12, _⟩ => ⟨S4x16x64, .f32⟩
  | .hbm, ⟨13, _⟩ => ⟨S4x16x64, .f32⟩
  | .hbm, ⟨14, _⟩ => ⟨S4x16x64, .f32⟩
  | .hbm, ⟨15, _⟩ => ⟨S4x16x64, .f32⟩
  | .hbm, ⟨16, _⟩ => ⟨S4x16x64, .f32⟩
  | .hbm, ⟨17, _⟩ => ⟨S4x16x64, .f32⟩
  | .hbm, ⟨18, _⟩ => ⟨S4x16x64, .f32⟩
  | .hbm, ⟨19, _⟩ => ⟨S4x16x64, .f32⟩
  | .hbm, ⟨20, _⟩ => ⟨S4x16x64, .f32⟩
  | .hbm, ⟨21, _⟩ => ⟨S4x16x64, .f32⟩
  | .hbm, ⟨22, _⟩ => ⟨S_, .f32⟩
  | .hbm, ⟨23, _⟩ => ⟨S4x16x64, .f32⟩
  | .hbm, ⟨24, _⟩ => ⟨S4x16x64, .f32⟩
  | .hbm, ⟨25, _⟩ => ⟨S4x16x64, .f32⟩
  | .hbm, ⟨26, _⟩ => ⟨S4x16x64, .f32⟩
  | .hbm, ⟨27, _⟩ => ⟨S4x16x64, .f32⟩
  | .hbm, ⟨28, _⟩ => ⟨S4x16x64, .f32⟩
  | .hbm, ⟨29, _⟩ => ⟨S4x16x64, .f32⟩
  | .hbm, ⟨30, _⟩ => ⟨S4x16x64, .f32⟩
  | .hbm, ⟨31, _⟩ => ⟨S4x16x64, .f32⟩
  | .hbm, ⟨32, _⟩ => ⟨S4x16x64, .f32⟩
  | _, _ => ⟨S4x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Act.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩
abbrev S1024x640 : Shape := ⟨2, ![1024, 640]⟩
abbrev S512x640 : Shape := ⟨2, ![512, 640]⟩
abbrev S1024x768 : Shape := ⟨2, ![1024, 768]⟩
abbrev S512x768 : Shape := ⟨2, ![512, 768]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .bf16⟩
  | .hbm, ⟨8, _⟩ => ⟨S8192x2816, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Taps.lean ====
abbrev S2x4096x512 : Shape := ⟨3, ![2, 4096, 512]⟩
abbrev S31x256 : Shape := ⟨2, ![31, 256]⟩
abbrev S256 : Shape := ⟨1, ![256]⟩
abbrev S_ : Shape := ⟨0, ![]⟩
abbrev S8192x4096 : Shape := ⟨2, ![8192, 4096]⟩
abbrev S8192x512 : Shape := ⟨2, ![8192, 512]⟩
abbrev S8192x4608 : Shape := ⟨2, ![8192, 4608]⟩
abbrev S1x256 : Shape := ⟨2, ![1, 256]⟩
abbrev S8192x256 : Shape := ⟨2, ![8192, 256]⟩
abbrev S512x512 : Shape := ⟨2, ![512, 512]⟩
abbrev S32x512 : Shape := ⟨2, ![32, 512]⟩
abbrev S512x256 : Shape := ⟨2, ![512, 256]⟩
abbrev S544x256 : Shape := ⟨2, ![544, 256]⟩
abbrev S7x536x256 : Shape := ⟨3, ![7, 536, 256]⟩
abbrev S32x256 : Shape := ⟨2, ![32, 256]⟩
abbrev S536x256 : Shape := ⟨2, ![536, 256]⟩
abbrev S1x536x256 : Shape := ⟨3, ![1, 536, 256]⟩
abbrev S64x256 : Shape := ⟨2, ![64, 256]⟩
abbrev S1x64x256 : Shape := ⟨3, ![1, 64, 256]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x512, .f32⟩
  | .hbm, ⟨1, _⟩ => ⟨S31x256, .f32⟩
  | .hbm, ⟨2, _⟩ => ⟨S256, .f32⟩
  | .hbm, ⟨3, _⟩ => ⟨S_, .f32⟩
  | .hbm, ⟨4, _⟩ => ⟨S8192x4096, .f32⟩
  | .hbm, ⟨5, _⟩ => ⟨S8192x512, .f32⟩
  | .hbm, ⟨6, _⟩ => ⟨S8192x4608, .f32⟩
  | .hbm, ⟨7, _⟩ => ⟨S1x256, .f32⟩
  | .hbm, ⟨8, _⟩ => ⟨S8192x256, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S31x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S544x256, .f32⟩
  | .local _ .vmem, ⟨9, _⟩ => ⟨S7x536x256, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c8_i32_0 : BitVec 32 := 8#32
  let c0_i32_1 : BitVec 32 := 0#32
  ![v4.toNat, c8_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== TapsRefIdeal.lean ====
abbrev S2x4096x512 : Shape := ⟨3, ![2, 4096, 512]⟩
abbrev S31x256 : Shape := ⟨2, ![31, 256]⟩
abbrev S256 : Shape := ⟨1, ![256]⟩
abbrev S2x4096x256 : Shape := ⟨3, ![2, 4096, 256]⟩
abbrev S_ : Shape := ⟨0, ![]⟩
abbrev S2x30x256 : Shape := ⟨3, ![2, 30, 256]⟩
abbrev S2x4126x256 : Shape := ⟨3, ![2, 4126, 256]⟩
abbrev S1x256 : Shape := ⟨2, ![1, 256]⟩
abbrev S1x1x256 : Shape := ⟨3, ![1, 1, 256]⟩
abbrev S8192x256 : Shape := ⟨2, ![8192, 256]⟩

abbrev nBuf : Space → Nat
  | .hbm => 240
  | .vmem => 0
  | .smem => 0
  | _ => 0

abbrev hbmTy0_0 (i : Nat) : BufTy := match i % 128 with
  | 0 => ⟨S2x4096x512, .f32⟩
  | 1 => ⟨S31x256, .f32⟩
  | 2 => ⟨S256, .f32⟩
  | 3 => ⟨S2x4096x256, .f32⟩
  | 4 => ⟨S2x4096x256, .f32⟩
  | 5 => ⟨S2x4096x256, .f32⟩
  | 6 => ⟨S2x4096x256, .f32⟩
  | 7 => ⟨S_, .f32⟩
  | 8 => ⟨S2x4096x256, .f32⟩
  | 9 => ⟨S2x4096x256, .f32⟩
  | 10 => ⟨S_, .f32⟩
  | 11 => ⟨S2x4096x256, .f32⟩
  | 12 => ⟨S2x4096x256, .f32⟩
  | 13 => ⟨S2x4096x256, .f32⟩
  | 14 => ⟨S_, .f32⟩
  | 15 => ⟨S2x30x256, .f32⟩
  | 16 => ⟨S2x4126x256, .f32⟩
  | 17 => ⟨S2x4096x256, .f32⟩
  | 18 => ⟨S1x256, .f32⟩
  | 19 => ⟨S256, .f32⟩
  | 20 => ⟨S1x1x256, .f32⟩
  | 21 => ⟨S2x4096x256, .f32⟩
  | 22 => ⟨S2x4096x256, .f32⟩
  | 23 => ⟨S_, .f32⟩
  | 24 => ⟨S2x4096x256, .f32⟩
  | 25 => ⟨S2x4096x256, .f32⟩
  | 26 => ⟨S2x4096x256, .f32⟩
  | 27 => ⟨S1x256, .f32⟩
  | 28 => ⟨S256, .f32⟩
  | 29 => ⟨S1x1x256, .f32⟩
  | 30 => ⟨S2x4096x256, .f32⟩
  | 31 => ⟨S2x4096x256, .f32⟩
  | 32 => ⟨S2x4096x256, .f32⟩
  | 33 => ⟨S2x4096x256, .f32⟩
  | 34 => ⟨S1x256, .f32⟩
  | 35 => ⟨S256, .f32⟩
  | 36 => ⟨S1x1x256, .f32⟩
  | 37 => ⟨S2x4096x256, .f32⟩
  | 38 => ⟨S2x4096x256, .f32⟩
  | 39 => ⟨S2x4096x256, .f32⟩
  | 40 => ⟨S2x4096x256, .f32⟩
  | 41 => ⟨S1x256, .f32⟩
  | 42 => ⟨S256, .f32⟩
  | 43 => ⟨S1x1x256, .f32⟩
  | 44 => ⟨S2x4096x256, .f32⟩
  | 45 => ⟨S2x4096x256, .f32⟩
  | 46 => ⟨S2x4096x256, .f32⟩
  | 47 => ⟨S2x4096x256, .f32⟩
  | 48 => ⟨S1x256, .f32⟩
  | 49 => ⟨S256, .f32⟩
  | 50 => ⟨S1x1x256, .f32⟩
  | 51 => ⟨S2x4096x256, .f32⟩
  | 52 => ⟨S2x4096x256, .f32⟩
  | 53 => ⟨S2x4096x256, .f32⟩
  | 54 => ⟨S2x4096x256, .f32⟩
  | 55 => ⟨S1x256, .f32⟩
  | 56 => ⟨S256, .f32⟩
  | 57 => ⟨S1x1x256, .f32⟩
  | 58 => ⟨S2x4096x256, .f32⟩
  | 59 => ⟨S2x4096x256, .f32⟩
  | 60 => ⟨S2x4096x256, .f32⟩
  | 61 => ⟨S2x4096x256, .f32⟩
  | 62 => ⟨S1x256, .f32⟩
  | 63 => ⟨S256, .f32⟩
  | 64 => ⟨S1x1x256, .f32⟩
  | 65 => ⟨S2x4096x256, .f32⟩
  | 66 => ⟨S2x4096x256, .f32⟩
  | 67 => ⟨S2x4096x256, .f32⟩
  | 68 => ⟨S2x4096x256, .f32⟩
  | 69 => ⟨S1x256, .f32⟩
  | 70 => ⟨S256, .f32⟩
  | 71 => ⟨S1x1x256, .f32⟩
  | 72 => ⟨S2x4096x256, .f32⟩
  | 73 => ⟨S2x4096x256, .f32⟩
  | 74 => ⟨S2x4096x256, .f32⟩
  | 75 => ⟨S2x4096x256, .f32⟩
  | 76 => ⟨S1x256, .f32⟩
  | 77 => ⟨S256, .f32⟩
  | 78 => ⟨S1x1x256, .f32⟩
  | 79 => ⟨S2x4096x256, .f32⟩
  | 80 => ⟨S2x4096x256, .f32⟩
  | 81 => ⟨S2x4096x256, .f32⟩
  | 82 => ⟨S2x4096x256, .f32⟩
  | 83 => ⟨S1x256, .f32⟩
  | 84 => ⟨S256, .f32⟩
  | 85 => ⟨S1x1x256, .f32⟩
  | 86 => ⟨S2x4096x256, .f32⟩
  | 87 => ⟨S2x4096x256, .f32⟩
  | 88 => ⟨S2x4096x256, .f32⟩
  | 89 => ⟨S2x4096x256, .f32⟩
  | 90 => ⟨S1x256, .f32⟩
  | 91 => ⟨S256, .f32⟩
  | 92 => ⟨S1x1x256, .f32⟩
  | 93 => ⟨S2x4096x256, .f32⟩
  | 94 => ⟨S2x4096x256, .f32⟩
  | 95 => ⟨S2x4096x256, .f32⟩
  | 96 => ⟨S2x4096x256, .f32⟩
  | 97 => ⟨S1x256, .f32⟩
  | 98 => ⟨S256, .f32⟩
  | 99 => ⟨S1x1x256, .f32⟩
  | 100 => ⟨S2x4096x256, .f32⟩
  | 101 => ⟨S2x4096x256, .f32⟩
  | 102 => ⟨S2x4096x256, .f32⟩
  | 103 => ⟨S2x4096x256, .f32⟩
  | 104 => ⟨S1x256, .f32⟩
  | 105 => ⟨S256, .f32⟩
  | 106 => ⟨S1x1x256, .f32⟩
  | 107 => ⟨S2x4096x256, .f32⟩
  | 108 => ⟨S2x4096x256, .f32⟩
  | 109 => ⟨S2x4096x256, .f32⟩
  | 110 => ⟨S2x4096x256, .f32⟩
  | 111 => ⟨S1x256, .f32⟩
  | 112 => ⟨S256, .f32⟩
  | 113 => ⟨S1x1x256, .f32⟩
  | 114 => ⟨S2x4096x256, .f32⟩
  | 115 => ⟨S2x4096x256, .f32⟩
  | 116 => ⟨S2x4096x256, .f32⟩
  | 117 => ⟨S2x4096x256, .f32⟩
  | 118 => ⟨S1x256, .f32⟩
  | 119 => ⟨S256, .f32⟩
  | 120 => ⟨S1x1x256, .f32⟩
  | 121 => ⟨S2x4096x256, .f32⟩
  | 122 => ⟨S2x4096x256, .f32⟩
  | 123 => ⟨S2x4096x256, .f32⟩
  | 124 => ⟨S2x4096x256, .f32⟩
  | 125 => ⟨S1x256, .f32⟩
  | 126 => ⟨S256, .f32⟩
  | 127 => ⟨S1x1x256, .f32⟩
  | _ => ⟨S2x4096x512, .f32⟩

abbrev hbmTy0_1 (i : Nat) : BufTy := match i % 128 with
  | 0 => ⟨S2x4096x256, .f32⟩
  | 1 => ⟨S2x4096x256, .f32⟩
  | 2 => ⟨S2x4096x256, .f32⟩
  | 3 => ⟨S2x4096x256, .f32⟩
  | 4 => ⟨S1x256, .f32⟩
  | 5 => ⟨S256, .f32⟩
  | 6 => ⟨S1x1x256, .f32⟩
  | 7 => ⟨S2x4096x256, .f32⟩
  | 8 => ⟨S2x4096x256, .f32⟩
  | 9 => ⟨S2x4096x256, .f32⟩
  | 10 => ⟨S2x4096x256, .f32⟩
  | 11 => ⟨S1x256, .f32⟩
  | 12 => ⟨S256, .f32⟩
  | 13 => ⟨S1x1x256, .f32⟩
  | 14 => ⟨S2x4096x256, .f32⟩
  | 15 => ⟨S2x4096x256, .f32⟩
  | 16 => ⟨S2x4096x256, .f32⟩
  | 17 => ⟨S2x4096x256, .f32⟩
  | 18 => ⟨S1x256, .f32⟩
  | 19 => ⟨S256, .f32⟩
  | 20 => ⟨S1x1x256, .f32⟩
  | 21 => ⟨S2x4096x256, .f32⟩
  | 22 => ⟨S2x4096x256, .f32⟩
  | 23 => ⟨S2x4096x256, .f32⟩
  | 24 => ⟨S2x4096x256, .f32⟩
  | 25 => ⟨S1x256, .f32⟩
  | 26 => ⟨S256, .f32⟩
  | 27 => ⟨S1x1x256, .f32⟩
  | 28 => ⟨S2x4096x256, .f32⟩
  | 29 => ⟨S2x4096x256, .f32⟩
  | 30 => ⟨S2x4096x256, .f32⟩
  | 31 => ⟨S2x4096x256, .f32⟩
  | 32 => ⟨S1x256, .f32⟩
  | 33 => ⟨S256, .f32⟩
  | 34 => ⟨S1x1x256, .f32⟩
  | 35 => ⟨S2x4096x256, .f32⟩
  | 36 => ⟨S2x4096x256, .f32⟩
  | 37 => ⟨S2x4096x256, .f32⟩
  | 38 => ⟨S2x4096x256, .f32⟩
  | 39 => ⟨S1x256, .f32⟩
  | 40 => ⟨S256, .f32⟩
  | 41 => ⟨S1x1x256, .f32⟩
  | 42 => ⟨S2x4096x256, .f32⟩
  | 43 => ⟨S2x4096x256, .f32⟩
  | 44 => ⟨S2x4096x256, .f32⟩
  | 45 => ⟨S2x4096x256, .f32⟩
  | 46 => ⟨S1x256, .f32⟩
  | 47 => ⟨S256, .f32⟩
  | 48 => ⟨S1x1x256, .f32⟩
  | 49 => ⟨S2x4096x256, .f32⟩
  | 50 => ⟨S2x4096x256, .f32⟩
  | 51 => ⟨S2x4096x256, .f32⟩
  | 52 => ⟨S2x4096x256, .f32⟩
  | 53 => ⟨S1x256, .f32⟩
  | 54 => ⟨S256, .f32⟩
  | 55 => ⟨S1x1x256, .f32⟩
  | 56 => ⟨S2x4096x256, .f32⟩
  | 57 => ⟨S2x4096x256, .f32⟩
  | 58 => ⟨S2x4096x256, .f32⟩
  | 59 => ⟨S2x4096x256, .f32⟩
  | 60 => ⟨S1x256, .f32⟩
  | 61 => ⟨S256, .f32⟩
  | 62 => ⟨S1x1x256, .f32⟩
  | 63 => ⟨S2x4096x256, .f32⟩
  | 64 => ⟨S2x4096x256, .f32⟩
  | 65 => ⟨S2x4096x256, .f32⟩
  | 66 => ⟨S2x4096x256, .f32⟩
  | 67 => ⟨S1x256, .f32⟩
  | 68 => ⟨S256, .f32⟩
  | 69 => ⟨S1x1x256, .f32⟩
  | 70 => ⟨S2x4096x256, .f32⟩
  | 71 => ⟨S2x4096x256, .f32⟩
  | 72 => ⟨S2x4096x256, .f32⟩
  | 73 => ⟨S2x4096x256, .f32⟩
  | 74 => ⟨S1x256, .f32⟩
  | 75 => ⟨S256, .f32⟩
  | 76 => ⟨S1x1x256, .f32⟩
  | 77 => ⟨S2x4096x256, .f32⟩
  | 78 => ⟨S2x4096x256, .f32⟩
  | 79 => ⟨S2x4096x256, .f32⟩
  | 80 => ⟨S2x4096x256, .f32⟩
  | 81 => ⟨S1x256, .f32⟩
  | 82 => ⟨S256, .f32⟩
  | 83 => ⟨S1x1x256, .f32⟩
  | 84 => ⟨S2x4096x256, .f32⟩
  | 85 => ⟨S2x4096x256, .f32⟩
  | 86 => ⟨S2x4096x256, .f32⟩
  | 87 => ⟨S2x4096x256, .f32⟩
  | 88 => ⟨S1x256, .f32⟩
  | 89 => ⟨S256, .f32⟩
  | 90 => ⟨S1x1x256, .f32⟩
  | 91 => ⟨S2x4096x256, .f32⟩
  | 92 => ⟨S2x4096x256, .f32⟩
  | 93 => ⟨S2x4096x256, .f32⟩
  | 94 => ⟨S2x4096x256, .f32⟩
  | 95 => ⟨S1x256, .f32⟩
  | 96 => ⟨S256, .f32⟩
  | 97 => ⟨S1x1x256, .f32⟩
  | 98 => ⟨S2x4096x256, .f32⟩
  | 99 => ⟨S2x4096x256, .f32⟩
  | 100 => ⟨S2x4096x256, .f32⟩
  | 101 => ⟨S2x4096x256, .f32⟩
  | 102 => ⟨S1x256, .f32⟩
  | 103 => ⟨S256, .f32⟩
  | 104 => ⟨S1x1x256, .f32⟩
  | 105 => ⟨S2x4096x256, .f32⟩
  | 106 => ⟨S2x4096x256, .f32⟩
  | 107 => ⟨S2x4096x256, .f32⟩
  | 108 => ⟨S1x1x256, .f32⟩
  | 109 => ⟨S2x4096x256, .f32⟩
  | 110 => ⟨S2x4096x256, .f32⟩
  | 111 => ⟨S8192x256, .f32⟩
  | _ => ⟨S2x4096x512, .f32⟩

abbrev hbmTy (i : Nat) : BufTy := match i / 128 with
  | 0 => hbmTy0_0 i
  | 1 => hbmTy0_1 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩

abbrev nD : Nat := 1
abbrev τ : Topo := Topo.v7x

variable {F : FTy → Type} [FloatOps F]
-- ==== Conv.lean ====
abbrev S2x4096x512 : Shape := ⟨3, ![2, 4096, 512]⟩
abbrev S31x256 : Shape := ⟨2, ![31, 256]⟩
abbrev S2x4096x256 : Shape := ⟨3, ![2, 4096, 256]⟩
abbrev S_ : Shape := ⟨0, ![]⟩
abbrev S8192x4096 : Shape := ⟨2, ![8192, 4096]⟩
abbrev S8192x512 : Shape := ⟨2, ![8192, 512]⟩
abbrev S8192x4608 : Shape := ⟨2, ![8192, 4608]⟩
abbrev S8192x256 : Shape := ⟨2, ![8192, 256]⟩
abbrev S32x256 : Shape := ⟨2, ![32, 256]⟩
abbrev S512x512 : Shape := ⟨2, ![512, 512]⟩
abbrev S32x512 : Shape := ⟨2, ![32, 512]⟩
abbrev S512x256 : Shape := ⟨2, ![512, 256]⟩
abbrev S544x256 : Shape := ⟨2, ![544, 256]⟩
abbrev S7x536x256 : Shape := ⟨3, ![7, 536, 256]⟩
abbrev S536x256 : Shape := ⟨2, ![536, 256]⟩
abbrev S1x536x256 : Shape := ⟨3, ![1, 536, 256]⟩
abbrev S1x256 : Shape := ⟨2, ![1, 256]⟩
abbrev S256 : Shape := ⟨1, ![256]⟩
abbrev S64x256 : Shape := ⟨2, ![64, 256]⟩
abbrev S1x64x256 : Shape := ⟨3, ![1, 64, 256]⟩
abbrev S64x512 : Shape := ⟨2, ![64, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x4096x512, .f32⟩
  | .hbm, ⟨1, _⟩ => ⟨S31x256, .f32⟩
  | .hbm, ⟨2, _⟩ => ⟨S2x4096x256, .f32⟩
  | .hbm, ⟨3, _⟩ => ⟨S_, .f32⟩
  | .hbm, ⟨4, _⟩ => ⟨S8192x4096, .f32⟩
  | .hbm, ⟨5, _⟩ => ⟨S8192x512, .f32⟩
  | .hbm, ⟨6, _⟩ => ⟨S8192x4608, .f32⟩
  | .hbm, ⟨7, _⟩ => ⟨S8192x256, .f32⟩
  | .hbm, ⟨8, _⟩ => ⟨S_, .bf16⟩
  | .hbm, ⟨9, _⟩ => ⟨S8192x4608, .bf16⟩
  | .hbm, ⟨10, _⟩ => ⟨S8192x4608, .bf16⟩
  | .hbm, ⟨11, _⟩ => ⟨S32x256, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x256, .f32⟩
  | .local _ .vmem, ⟨5, _⟩ => ⟨S512x256, .f32⟩
  | .local _ .vmem, ⟨6, _⟩ => ⟨S32x256, .f32⟩
  | .local _ .vmem, ⟨7, _⟩ => ⟨S32x256, .f32⟩
  | .local _ .vmem, ⟨8, _⟩ => ⟨S31x256, .f32⟩
  | .local _ .vmem, ⟨9, _⟩ => ⟨S512x512, .bf16⟩
  | .local _ .vmem, ⟨10, _⟩ => ⟨S512x512, .bf16⟩
  | .local _ .vmem, ⟨11, _⟩ => ⟨S32x256, .f32⟩
  | .local _ .vmem, ⟨12, _⟩ => ⟨S544x256, .f32⟩
  | .local _ .vmem, ⟨13, _⟩ => ⟨S544x256, .f32⟩
  | .local _ .vmem, ⟨14, _⟩ => ⟨S7x536x256, .f32⟩
  | .local _ .vmem, ⟨15, _⟩ => ⟨S7x536x256, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c8_i32_0 : BitVec 32 := 8#32
  let c0_i32_1 : BitVec 32 := 0#32
  ![v4.toNat, c8_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c16_i32 : BitVec 32 := 16#32
  let v3 : BitVec 32 := Scalar.muli v2 c16_i32
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ConvRefIdeal.lean ====
abbrev S2x4096x512 : Shape := ⟨3, ![2, 4096, 512]⟩
abbrev S31x256 : Shape := ⟨2, ![31, 256]⟩
abbrev S2x4096x256 : Shape := ⟨3, ![2, 4096, 256]⟩
abbrev S_ : Shape := ⟨0, ![]⟩
abbrev S256 : Shape := ⟨1, ![256]⟩
abbrev S2x30x256 : Shape := ⟨3, ![2, 30, 256]⟩
abbrev S2x4126x256 : Shape := ⟨3, ![2, 4126, 256]⟩
abbrev S1x256 : Shape := ⟨2, ![1, 256]⟩
abbrev S1x1x256 : Shape := ⟨3, ![1, 1, 256]⟩
abbrev S8192x4096 : Shape := ⟨2, ![8192, 4096]⟩
abbrev S8192x512 : Shape := ⟨2, ![8192, 512]⟩
abbrev S8192x4608 : Shape := ⟨2, ![8192, 4608]⟩
abbrev S32x256 : Shape := ⟨2, ![32, 256]⟩

abbrev nBuf : Space → Nat
  | .hbm => 733
  | .vmem => 0
  | .smem => 0
  | _ => 0

abbrev hbmTy0_0 (i : Nat) : BufTy := match i % 128 with
  | 0 => ⟨S2x4096x512, .f32⟩
  | 1 => ⟨S31x256, .f32⟩
  | 2 => ⟨S2x4096x256, .f32⟩
  | 3 => ⟨S_, .f32⟩
  | 4 => ⟨S256, .f32⟩
  | 5 => ⟨S2x4096x256, .f32⟩
  | 6 => ⟨S2x4096x256, .f32⟩
  | 7 => ⟨S2x4096x256, .f32⟩
  | 8 => ⟨S2x4096x256, .f32⟩
  | 9 => ⟨S_, .f32⟩
  | 10 => ⟨S2x4096x256, .f32⟩
  | 11 => ⟨S2x4096x256, .f32⟩
  | 12 => ⟨S_, .f32⟩
  | 13 => ⟨S2x4096x256, .f32⟩
  | 14 => ⟨S2x4096x256, .f32⟩
  | 15 => ⟨S_, .f32⟩
  | 16 => ⟨S2x4096x256, .f32⟩
  | 17 => ⟨S2x4096x256, .f32⟩
  | 18 => ⟨S2x4096x256, .f32⟩
  | 19 => ⟨S2x4096x256, .f32⟩
  | 20 => ⟨S_, .f32⟩
  | 21 => ⟨S2x30x256, .f32⟩
  | 22 => ⟨S2x4126x256, .f32⟩
  | 23 => ⟨S_, .f32⟩
  | 24 => ⟨S2x30x256, .f32⟩
  | 25 => ⟨S2x4096x256, .f32⟩
  | 26 => ⟨S1x256, .f32⟩
  | 27 => ⟨S256, .f32⟩
  | 28 => ⟨S1x1x256, .f32⟩
  | 29 => ⟨S2x4096x256, .f32⟩
  | 30 => ⟨S2x4096x256, .f32⟩
  | 31 => ⟨S_, .f32⟩
  | 32 => ⟨S2x4096x256, .f32⟩
  | 33 => ⟨S2x4096x256, .f32⟩
  | 34 => ⟨S2x4096x256, .f32⟩
  | 35 => ⟨S1x256, .f32⟩
  | 36 => ⟨S256, .f32⟩
  | 37 => ⟨S1x1x256, .f32⟩
  | 38 => ⟨S2x4096x256, .f32⟩
  | 39 => ⟨S2x4096x256, .f32⟩
  | 40 => ⟨S2x4096x256, .f32⟩
  | 41 => ⟨S2x4096x256, .f32⟩
  | 42 => ⟨S1x256, .f32⟩
  | 43 => ⟨S256, .f32⟩
  | 44 => ⟨S1x1x256, .f32⟩
  | 45 => ⟨S2x4096x256, .f32⟩
  | 46 => ⟨S2x4096x256, .f32⟩
  | 47 => ⟨S2x4096x256, .f32⟩
  | 48 => ⟨S2x4096x256, .f32⟩
  | 49 => ⟨S1x256, .f32⟩
  | 50 => ⟨S256, .f32⟩
  | 51 => ⟨S1x1x256, .f32⟩
  | 52 => ⟨S2x4096x256, .f32⟩
  | 53 => ⟨S2x4096x256, .f32⟩
  | 54 => ⟨S2x4096x256, .f32⟩
  | 55 => ⟨S2x4096x256, .f32⟩
  | 56 => ⟨S1x256, .f32⟩
  | 57 => ⟨S256, .f32⟩
  | 58 => ⟨S1x1x256, .f32⟩
  | 59 => ⟨S2x4096x256, .f32⟩
  | 60 => ⟨S2x4096x256, .f32⟩
  | 61 => ⟨S2x4096x256, .f32⟩
  | 62 => ⟨S2x4096x256, .f32⟩
  | 63 => ⟨S1x256, .f32⟩
  | 64 => ⟨S256, .f32⟩
  | 65 => ⟨S1x1x256, .f32⟩
  | 66 => ⟨S2x4096x256, .f32⟩
  | 67 => ⟨S2x4096x256, .f32⟩
  | 68 => ⟨S2x4096x256, .f32⟩
  | 69 => ⟨S2x4096x256, .f32⟩
  | 70 => ⟨S1x256, .f32⟩
  | 71 => ⟨S256, .f32⟩
  | 72 => ⟨S1x1x256, .f32⟩
  | 73 => ⟨S2x4096x256, .f32⟩
  | 74 => ⟨S2x4096x256, .f32⟩
  | 75 => ⟨S2x4096x256, .f32⟩
  | 76 => ⟨S2x4096x256, .f32⟩
  | 77 => ⟨S1x256, .f32⟩
  | 78 => ⟨S256, .f32⟩
  | 79 => ⟨S1x1x256, .f32⟩
  | 80 => ⟨S2x4096x256, .f32⟩
  | 81 => ⟨S2x4096x256, .f32⟩
  | 82 => ⟨S2x4096x256, .f32⟩
  | 83 => ⟨S2x4096x256, .f32⟩
  | 84 => ⟨S1x256, .f32⟩
  | 85 => ⟨S256, .f32⟩
  | 86 => ⟨S1x1x256, .f32⟩
  | 87 => ⟨S2x4096x256, .f32⟩
  | 88 => ⟨S2x4096x256, .f32⟩
  | 89 => ⟨S2x4096x256, .f32⟩
  | 90 => ⟨S2x4096x256, .f32⟩
  | 91 => ⟨S1x256, .f32⟩
  | 92 => ⟨S256, .f32⟩
  | 93 => ⟨S1x1x256, .f32⟩
  | 94 => ⟨S2x4096x256, .f32⟩
  | 95 => ⟨S2x4096x256, .f32⟩
  | 96 => ⟨S2x4096x256, .f32⟩
  | 97 => ⟨S2x4096x256, .f32⟩
  | 98 => ⟨S1x256, .f32⟩
  | 99 => ⟨S256, .f32⟩
  | 100 => ⟨S1x1x256, .f32⟩
  | 101 => ⟨S2x4096x256, .f32⟩
  | 102 => ⟨S2x4096x256, .f32⟩
  | 103 => ⟨S2x4096x256, .f32⟩
  | 104 => ⟨S2x4096x256, .f32⟩
  | 105 => ⟨S1x256, .f32⟩
  | 106 => ⟨S256, .f32⟩
  | 107 => ⟨S1x1x256, .f32⟩
  | 108 => ⟨S2x4096x256, .f32⟩
  | 109 => ⟨S2x4096x256, .f32⟩
  | 110 => ⟨S2x4096x256, .f32⟩
  | 111 => ⟨S2x4096x256, .f32⟩
  | 112 => ⟨S1x256, .f32⟩
  | 113 => ⟨S256, .f32⟩
  | 114 => ⟨S1x1x256, .f32⟩
  | 115 => ⟨S2x4096x256, .f32⟩
  | 116 => ⟨S2x4096x256, .f32⟩
  | 117 => ⟨S2x4096x256, .f32⟩
  | 118 => ⟨S2x4096x256, .f32⟩
  | 119 => ⟨S1x256, .f32⟩
  | 120 => ⟨S256, .f32⟩
  | 121 => ⟨S1x1x256, .f32⟩
  | 122 => ⟨S2x4096x256, .f32⟩
  | 123 => ⟨S2x4096x256, .f32⟩
  | 124 => ⟨S2x4096x256, .f32⟩
  | 125 => ⟨S2x4096x256, .f32⟩
  | 126 => ⟨S1x256, .f32⟩
  | 127 => ⟨S256, .f32⟩
  | _ => ⟨S2x4096x512, .f32⟩

abbrev hbmTy0_1 (i : Nat) : BufTy := match i % 128 with
  | 0 => ⟨S1x1x256, .f32⟩
  | 1 => ⟨S2x4096x256, .f32⟩
  | 2 => ⟨S2x4096x256, .f32⟩
  | 3 => ⟨S2x4096x256, .f32⟩
  | 4 => ⟨S2x4096x256, .f32⟩
  | 5 => ⟨S1x256, .f32⟩
  | 6 => ⟨S256, .f32⟩
  | 7 => ⟨S1x1x256, .f32⟩
  | 8 => ⟨S2x4096x256, .f32⟩
  | 9 => ⟨S2x4096x256, .f32⟩
  | 10 => ⟨S2x4096x256, .f32⟩
  | 11 => ⟨S2x4096x256, .f32⟩
  | 12 => ⟨S1x256, .f32⟩
  | 13 => ⟨S256, .f32⟩
  | 14 => ⟨S1x1x256, .f32⟩
  | 15 => ⟨S2x4096x256, .f32⟩
  | 16 => ⟨S2x4096x256, .f32⟩
  | 17 => ⟨S2x4096x256, .f32⟩
  | 18 => ⟨S2x4096x256, .f32⟩
  | 19 => ⟨S1x256, .f32⟩
  | 20 => ⟨S256, .f32⟩
  | 21 => ⟨S1x1x256, .f32⟩
  | 22 => ⟨S2x4096x256, .f32⟩
  | 23 => ⟨S2x4096x256, .f32⟩
  | 24 => ⟨S2x4096x256, .f32⟩
  | 25 => ⟨S2x4096x256, .f32⟩
  | 26 => ⟨S1x256, .f32⟩
  | 27 => ⟨S256, .f32⟩
  | 28 => ⟨S1x1x256, .f32⟩
  | 29 => ⟨S2x4096x256, .f32⟩
  | 30 => ⟨S2x4096x256, .f32⟩
  | 31 => ⟨S2x4096x256, .f32⟩
  | 32 => ⟨S2x4096x256, .f32⟩
  | 33 => ⟨S1x256, .f32⟩
  | 34 => ⟨S256, .f32⟩
  | 35 => ⟨S1x1x256, .f32⟩
  | 36 => ⟨S2x4096x256, .f32⟩
  | 37 => ⟨S2x4096x256, .f32⟩
  | 38 => ⟨S2x4096x256, .f32⟩
  | 39 => ⟨S2x4096x256, .f32⟩
  | 40 => ⟨S1x256, .f32⟩
  | 41 => ⟨S256, .f32⟩
  | 42 => ⟨S1x1x256, .f32⟩
  | 43 => ⟨S2x4096x256, .f32⟩
  | 44 => ⟨S2x4096x256, .f32⟩
  | 45 => ⟨S2x4096x256, .f32⟩
  | 46 => ⟨S2x4096x256, .f32⟩
  | 47 => ⟨S1x256, .f32⟩
  | 48 => ⟨S256, .f32⟩
  | 49 => ⟨S1x1x256, .f32⟩
  | 50 => ⟨S2x4096x256, .f32⟩
  | 51 => ⟨S2x4096x256, .f32⟩
  | 52 => ⟨S2x4096x256, .f32⟩
  | 53 => ⟨S2x4096x256, .f32⟩
  | 54 => ⟨S1x256, .f32⟩
  | 55 => ⟨S256, .f32⟩
  | 56 => ⟨S1x1x256, .f32⟩
  | 57 => ⟨S2x4096x256, .f32⟩
  | 58 => ⟨S2x4096x256, .f32⟩
  | 59 => ⟨S2x4096x256, .f32⟩
  | 60 => ⟨S2x4096x256, .f32⟩
  | 61 => ⟨S1x256, .f32⟩
  | 62 => ⟨S256, .f32⟩
  | 63 => ⟨S1x1x256, .f32⟩
  | 64 => ⟨S2x4096x256, .f32⟩
  | 65 => ⟨S2x4096x256, .f32⟩
  | 66 => ⟨S2x4096x256, .f32⟩
  | 67 => ⟨S2x4096x256, .f32⟩
  | 68 => ⟨S1x256, .f32⟩
  | 69 => ⟨S256, .f32⟩
  | 70 => ⟨S1x1x256, .f32⟩
  | 71 => ⟨S2x4096x256, .f32⟩
  | 72 => ⟨S2x4096x256, .f32⟩
  | 73 => ⟨S2x4096x256, .f32⟩
  | 74 => ⟨S2x4096x256, .f32⟩
  | 75 => ⟨S1x256, .f32⟩
  | 76 => ⟨S256, .f32⟩
  | 77 => ⟨S1x1x256, .f32⟩
  | 78 => ⟨S2x4096x256, .f32⟩
  | 79 => ⟨S2x4096x256, .f32⟩
  | 80 => ⟨S2x4096x256, .f32⟩
  | 81 => ⟨S2x4096x256, .f32⟩
  | 82 => ⟨S1x256, .f32⟩
  | 83 => ⟨S256, .f32⟩
  | 84 => ⟨S1x1x256, .f32⟩
  | 85 => ⟨S2x4096x256, .f32⟩
  | 86 => ⟨S2x4096x256, .f32⟩
  | 87 => ⟨S2x4096x256, .f32⟩
  | 88 => ⟨S2x4096x256, .f32⟩
  | 89 => ⟨S1x256, .f32⟩
  | 90 => ⟨S256, .f32⟩
  | 91 => ⟨S1x1x256, .f32⟩
  | 92 => ⟨S2x4096x256, .f32⟩
  | 93 => ⟨S2x4096x256, .f32⟩
  | 94 => ⟨S2x4096x256, .f32⟩
  | 95 => ⟨S2x4096x256, .f32⟩
  | 96 => ⟨S1x256, .f32⟩
  | 97 => ⟨S256, .f32⟩
  | 98 => ⟨S1x1x256, .f32⟩
  | 99 => ⟨S2x4096x256, .f32⟩
  | 100 => ⟨S2x4096x256, .f32⟩
  | 101 => ⟨S2x4096x256, .f32⟩
  | 102 => ⟨S2x4096x256, .f32⟩
  | 103 => ⟨S1x256, .f32⟩
  | 104 => ⟨S256, .f32⟩
  | 105 => ⟨S1x1x256, .f32⟩
  | 106 => ⟨S2x4096x256, .f32⟩
  | 107 => ⟨S2x4096x256, .f32⟩
  | 108 => ⟨S2x4096x256, .f32⟩
  | 109 => ⟨S2x4096x256, .f32⟩
  | 110 => ⟨S1x256, .f32⟩
  | 111 => ⟨S256, .f32⟩
  | 112 => ⟨S1x1x256, .f32⟩
  | 113 => ⟨S2x4096x256, .f32⟩
  | 114 => ⟨S2x4096x256, .f32⟩
  | 115 => ⟨S2x4096x256, .f32⟩
  | 116 => ⟨S1x1x256, .f32⟩
  | 117 => ⟨S2x4096x256, .f32⟩
  | 118 => ⟨S2x4096x256, .f32⟩
  | 119 => ⟨S2x4096x256, .f32⟩
  | 120 => ⟨S_, .f32⟩
  | 121 => ⟨S256, .f32⟩
  | 122 => ⟨S1x1x256, .f32⟩
  | 123 => ⟨S_, .f32⟩
  | 124 => ⟨S256, .f32⟩
  | 125 => ⟨S2x4096x256, .f32⟩
  | 126 => ⟨S_, .f32⟩
  | 127 => ⟨S256, .f32⟩
  | _ => ⟨S2x4096x512, .f32⟩

abbrev hbmTy0_2 (i : Nat) : BufTy := match i % 128 with
  | 0 => ⟨S1x1x256, .f32⟩
  | 1 => ⟨S2x4096x256, .f32⟩
  | 2 => ⟨S2x4096x256, .f32⟩
  | 3 => ⟨S_, .f32⟩
  | 4 => ⟨S256, .f32⟩
  | 5 => ⟨S1x256, .f32⟩
  | 6 => ⟨S_, .f32⟩
  | 7 => ⟨S31x256, .f32⟩
  | 8 => ⟨S_, .f32⟩
  | 9 => ⟨S2x4126x256, .f32⟩
  | 10 => ⟨S2x4096x256, .f32⟩
  | 11 => ⟨S_, .f32⟩
  | 12 => ⟨S256, .f32⟩
  | 13 => ⟨S1x1x256, .f32⟩
  | 14 => ⟨S2x4096x256, .f32⟩
  | 15 => ⟨S2x4096x256, .f32⟩
  | 16 => ⟨S_, .f32⟩
  | 17 => ⟨S256, .f32⟩
  | 18 => ⟨S1x256, .f32⟩
  | 19 => ⟨S_, .f32⟩
  | 20 => ⟨S31x256, .f32⟩
  | 21 => ⟨S31x256, .f32⟩
  | 22 => ⟨S_, .f32⟩
  | 23 => ⟨S2x4126x256, .f32⟩
  | 24 => ⟨S2x4126x256, .f32⟩
  | 25 => ⟨S2x4096x256, .f32⟩
  | 26 => ⟨S_, .f32⟩
  | 27 => ⟨S256, .f32⟩
  | 28 => ⟨S1x1x256, .f32⟩
  | 29 => ⟨S2x4096x256, .f32⟩
  | 30 => ⟨S2x4096x256, .f32⟩
  | 31 => ⟨S_, .f32⟩
  | 32 => ⟨S256, .f32⟩
  | 33 => ⟨S1x256, .f32⟩
  | 34 => ⟨S_, .f32⟩
  | 35 => ⟨S31x256, .f32⟩
  | 36 => ⟨S31x256, .f32⟩
  | 37 => ⟨S_, .f32⟩
  | 38 => ⟨S2x4126x256, .f32⟩
  | 39 => ⟨S2x4126x256, .f32⟩
  | 40 => ⟨S2x4096x256, .f32⟩
  | 41 => ⟨S_, .f32⟩
  | 42 => ⟨S256, .f32⟩
  | 43 => ⟨S1x1x256, .f32⟩
  | 44 => ⟨S2x4096x256, .f32⟩
  | 45 => ⟨S2x4096x256, .f32⟩
  | 46 => ⟨S_, .f32⟩
  | 47 => ⟨S256, .f32⟩
  | 48 => ⟨S1x256, .f32⟩
  | 49 => ⟨S_, .f32⟩
  | 50 => ⟨S31x256, .f32⟩
  | 51 => ⟨S31x256, .f32⟩
  | 52 => ⟨S_, .f32⟩
  | 53 => ⟨S2x4126x256, .f32⟩
  | 54 => ⟨S2x4126x256, .f32⟩
  | 55 => ⟨S2x4096x256, .f32⟩
  | 56 => ⟨S_, .f32⟩
  | 57 => ⟨S256, .f32⟩
  | 58 => ⟨S1x1x256, .f32⟩
  | 59 => ⟨S2x4096x256, .f32⟩
  | 60 => ⟨S2x4096x256, .f32⟩
  | 61 => ⟨S_, .f32⟩
  | 62 => ⟨S256, .f32⟩
  | 63 => ⟨S1x256, .f32⟩
  | 64 => ⟨S_, .f32⟩
  | 65 => ⟨S31x256, .f32⟩
  | 66 => ⟨S31x256, .f32⟩
  | 67 => ⟨S_, .f32⟩
  | 68 => ⟨S2x4126x256, .f32⟩
  | 69 => ⟨S2x4126x256, .f32⟩
  | 70 => ⟨S2x4096x256, .f32⟩
  | 71 => ⟨S_, .f32⟩
  | 72 => ⟨S256, .f32⟩
  | 73 => ⟨S1x1x256, .f32⟩
  | 74 => ⟨S2x4096x256, .f32⟩
  | 75 => ⟨S2x4096x256, .f32⟩
  | 76 => ⟨S_, .f32⟩
  | 77 => ⟨S256, .f32⟩
  | 78 => ⟨S1x256, .f32⟩
  | 79 => ⟨S_, .f32⟩
  | 80 => ⟨S31x256, .f32⟩
  | 81 => ⟨S31x256, .f32⟩
  | 82 => ⟨S_, .f32⟩
  | 83 => ⟨S2x4126x256, .f32⟩
  | 84 => ⟨S2x4126x256, .f32⟩
  | 85 => ⟨S2x4096x256, .f32⟩
  | 86 => ⟨S_, .f32⟩
  | 87 => ⟨S256, .f32⟩
  | 88 => ⟨S1x1x256, .f32⟩
  | 89 => ⟨S2x4096x256, .f32⟩
  | 90 => ⟨S2x4096x256, .f32⟩
  | 91 => ⟨S_, .f32⟩
  | 92 => ⟨S256, .f32⟩
  | 93 => ⟨S1x256, .f32⟩
  | 94 => ⟨S_, .f32⟩
  | 95 => ⟨S31x256, .f32⟩
  | 96 => ⟨S31x256, .f32⟩
  | 97 => ⟨S_, .f32⟩
  | 98 => ⟨S2x4126x256, .f32⟩
  | 99 => ⟨S2x4126x256, .f32⟩
  | 100 => ⟨S2x4096x256, .f32⟩
  | 101 => ⟨S_, .f32⟩
  | 102 => ⟨S256, .f32⟩
  | 103 => ⟨S1x1x256, .f32⟩
  | 104 => ⟨S2x4096x256, .f32⟩
  | 105 => ⟨S2x4096x256, .f32⟩
  | 106 => ⟨S_, .f32⟩
  | 107 => ⟨S256, .f32⟩
  | 108 => ⟨S1x256, .f32⟩
  | 109 => ⟨S_, .f32⟩
  | 110 => ⟨S31x256, .f32⟩
  | 111 => ⟨S31x256, .f32⟩
  | 112 => ⟨S_, .f32⟩
  | 113 => ⟨S2x4126x256, .f32⟩
  | 114 => ⟨S2x4126x256, .f32⟩
  | 115 => ⟨S2x4096x256, .f32⟩
  | 116 => ⟨S_, .f32⟩
  | 117 => ⟨S256, .f32⟩
  | 118 => ⟨S1x1x256, .f32⟩
  | 119 => ⟨S2x4096x256, .f32⟩
  | 120 => ⟨S2x4096x256, .f32⟩
  | 121 => ⟨S_, .f32⟩
  | 122 => ⟨S256, .f32⟩
  | 123 => ⟨S1x256, .f32⟩
  | 124 => ⟨S_, .f32⟩
  | 125 => ⟨S31x256, .f32⟩
  | 126 => ⟨S31x256, .f32⟩
  | 127 => ⟨S_, .f32⟩
  | _ => ⟨S2x4096x512, .f32⟩

abbrev hbmTy0_3 (i : Nat) : BufTy := match i % 128 with
  | 0 => ⟨S2x4126x256, .f32⟩
  | 1 => ⟨S2x4126x256, .f32⟩
  | 2 => ⟨S2x4096x256, .f32⟩
  | 3 => ⟨S_, .f32⟩
  | 4 => ⟨S256, .f32⟩
  | 5 => ⟨S1x1x256, .f32⟩
  | 6 => ⟨S2x4096x256, .f32⟩
  | 7 => ⟨S2x4096x256, .f32⟩
  | 8 => ⟨S_, .f32⟩
  | 9 => ⟨S256, .f32⟩
  | 10 => ⟨S1x256, .f32⟩
  | 11 => ⟨S_, .f32⟩
  | 12 => ⟨S31x256, .f32⟩
  | 13 => ⟨S31x256, .f32⟩
  | 14 => ⟨S_, .f32⟩
  | 15 => ⟨S2x4126x256, .f32⟩
  | 16 => ⟨S2x4126x256, .f32⟩
  | 17 => ⟨S2x4096x256, .f32⟩
  | 18 => ⟨S_, .f32⟩
  | 19 => ⟨S256, .f32⟩
  | 20 => ⟨S1x1x256, .f32⟩
  | 21 => ⟨S2x4096x256, .f32⟩
  | 22 => ⟨S2x4096x256, .f32⟩
  | 23 => ⟨S_, .f32⟩
  | 24 => ⟨S256, .f32⟩
  | 25 => ⟨S1x256, .f32⟩
  | 26 => ⟨S_, .f32⟩
  | 27 => ⟨S31x256, .f32⟩
  | 28 => ⟨S31x256, .f32⟩
  | 29 => ⟨S_, .f32⟩
  | 30 => ⟨S2x4126x256, .f32⟩
  | 31 => ⟨S2x4126x256, .f32⟩
  | 32 => ⟨S2x4096x256, .f32⟩
  | 33 => ⟨S_, .f32⟩
  | 34 => ⟨S256, .f32⟩
  | 35 => ⟨S1x1x256, .f32⟩
  | 36 => ⟨S2x4096x256, .f32⟩
  | 37 => ⟨S2x4096x256, .f32⟩
  | 38 => ⟨S_, .f32⟩
  | 39 => ⟨S256, .f32⟩
  | 40 => ⟨S1x256, .f32⟩
  | 41 => ⟨S_, .f32⟩
  | 42 => ⟨S31x256, .f32⟩
  | 43 => ⟨S31x256, .f32⟩
  | 44 => ⟨S_, .f32⟩
  | 45 => ⟨S2x4126x256, .f32⟩
  | 46 => ⟨S2x4126x256, .f32⟩
  | 47 => ⟨S2x4096x256, .f32⟩
  | 48 => ⟨S_, .f32⟩
  | 49 => ⟨S256, .f32⟩
  | 50 => ⟨S1x1x256, .f32⟩
  | 51 => ⟨S2x4096x256, .f32⟩
  | 52 => ⟨S2x4096x256, .f32⟩
  | 53 => ⟨S_, .f32⟩
  | 54 => ⟨S256, .f32⟩
  | 55 => ⟨S1x256, .f32⟩
  | 56 => ⟨S_, .f32⟩
  | 57 => ⟨S31x256, .f32⟩
  | 58 => ⟨S31x256, .f32⟩
  | 59 => ⟨S_, .f32⟩
  | 60 => ⟨S2x4126x256, .f32⟩
  | 61 => ⟨S2x4126x256, .f32⟩
  | 62 => ⟨S2x4096x256, .f32⟩
  | 63 => ⟨S_, .f32⟩
  | 64 => ⟨S256, .f32⟩
  | 65 => ⟨S1x1x256, .f32⟩
  | 66 => ⟨S2x4096x256, .f32⟩
  | 67 => ⟨S2x4096x256, .f32⟩
  | 68 => ⟨S_, .f32⟩
  | 69 => ⟨S256, .f32⟩
  | 70 => ⟨S1x256, .f32⟩
  | 71 => ⟨S_, .f32⟩
  | 72 => ⟨S31x256, .f32⟩
  | 73 => ⟨S31x256, .f32⟩
  | 74 => ⟨S_, .f32⟩
  | 75 => ⟨S2x4126x256, .f32⟩
  | 76 => ⟨S2x4126x256, .f32⟩
  | 77 => ⟨S2x4096x256, .f32⟩
  | 78 => ⟨S_, .f32⟩
  | 79 => ⟨S256, .f32⟩
  | 80 => ⟨S1x1x256, .f32⟩
  | 81 => ⟨S2x4096x256, .f32⟩
  | 82 => ⟨S2x4096x256, .f32⟩
  | 83 => ⟨S_, .f32⟩
  | 84 => ⟨S256, .f32⟩
  | 85 => ⟨S1x256, .f32⟩
  | 86 => ⟨S_, .f32⟩
  | 87 => ⟨S31x256, .f32⟩
  | 88 => ⟨S31x256, .f32⟩
  | 89 => ⟨S_, .f32⟩
  | 90 => ⟨S2x4126x256, .f32⟩
  | 91 => ⟨S2x4126x256, .f32⟩
  | 92 => ⟨S2x4096x256, .f32⟩
  | 93 => ⟨S_, .f32⟩
  | 94 => ⟨S256, .f32⟩
  | 95 => ⟨S1x1x256, .f32⟩
  | 96 => ⟨S2x4096x256, .f32⟩
  | 97 => ⟨S2x4096x256, .f32⟩
  | 98 => ⟨S_, .f32⟩
  | 99 => ⟨S256, .f32⟩
  | 100 => ⟨S1x256, .f32⟩
  | 101 => ⟨S_, .f32⟩
  | 102 => ⟨S31x256, .f32⟩
  | 103 => ⟨S31x256, .f32⟩
  | 104 => ⟨S_, .f32⟩
  | 105 => ⟨S2x4126x256, .f32⟩
  | 106 => ⟨S2x4126x256, .f32⟩
  | 107 => ⟨S2x4096x256, .f32⟩
  | 108 => ⟨S_, .f32⟩
  | 109 => ⟨S256, .f32⟩
  | 110 => ⟨S1x1x256, .f32⟩
  | 111 => ⟨S2x4096x256, .f32⟩
  | 112 => ⟨S2x4096x256, .f32⟩
  | 113 => ⟨S_, .f32⟩
  | 114 => ⟨S256, .f32⟩
  | 115 => ⟨S1x256, .f32⟩
  | 116 => ⟨S_, .f32⟩
  | 117 => ⟨S31x256, .f32⟩
  | 118 => ⟨S31x256, .f32⟩
  | 119 => ⟨S_, .f32⟩
  | 120 => ⟨S2x4126x256, .f32⟩
  | 121 => ⟨S2x4126x256, .f32⟩
  | 122 => ⟨S2x4096x256, .f32⟩
  | 123 => ⟨S_, .f32⟩
  | 124 => ⟨S256, .f32⟩
  | 125 => ⟨S1x1x256, .f32⟩
  | 126 => ⟨S2x4096x256, .f32⟩
  | 127 => ⟨S2x4096x256, .f32⟩
  | _ => ⟨S2x4096x512, .f32⟩

abbrev hbmTy0_4 (i : Nat) : BufTy := match i % 128 with
  | 0 => ⟨S_, .f32⟩
  | 1 => ⟨S256, .f32⟩
  | 2 => ⟨S1x256, .f32⟩
  | 3 => ⟨S_, .f32⟩
  | 4 => ⟨S31x256, .f32⟩
  | 5 => ⟨S31x256, .f32⟩
  | 6 => ⟨S_, .f32⟩
  | 7 => ⟨S2x4126x256, .f32⟩
  | 8 => ⟨S2x4126x256, .f32⟩
  | 9 => ⟨S2x4096x256, .f32⟩
  | 10 => ⟨S_, .f32⟩
  | 11 => ⟨S256, .f32⟩
  | 12 => ⟨S1x1x256, .f32⟩
  | 13 => ⟨S2x4096x256, .f32⟩
  | 14 => ⟨S2x4096x256, .f32⟩
  | 15 => ⟨S_, .f32⟩
  | 16 => ⟨S256, .f32⟩
  | 17 => ⟨S1x256, .f32⟩
  | 18 => ⟨S_, .f32⟩
  | 19 => ⟨S31x256, .f32⟩
  | 20 => ⟨S31x256, .f32⟩
  | 21 => ⟨S_, .f32⟩
  | 22 => ⟨S2x4126x256, .f32⟩
  | 23 => ⟨S2x4126x256, .f32⟩
  | 24 => ⟨S2x4096x256, .f32⟩
  | 25 => ⟨S_, .f32⟩
  | 26 => ⟨S256, .f32⟩
  | 27 => ⟨S1x1x256, .f32⟩
  | 28 => ⟨S2x4096x256, .f32⟩
  | 29 => ⟨S2x4096x256, .f32⟩
  | 30 => ⟨S_, .f32⟩
  | 31 => ⟨S256, .f32⟩
  | 32 => ⟨S1x256, .f32⟩
  | 33 => ⟨S_, .f32⟩
  | 34 => ⟨S31x256, .f32⟩
  | 35 => ⟨S31x256, .f32⟩
  | 36 => ⟨S_, .f32⟩
  | 37 => ⟨S2x4126x256, .f32⟩
  | 38 => ⟨S2x4126x256, .f32⟩
  | 39 => ⟨S2x4096x256, .f32⟩
  | 40 => ⟨S_, .f32⟩
  | 41 => ⟨S256, .f32⟩
  | 42 => ⟨S1x1x256, .f32⟩
  | 43 => ⟨S2x4096x256, .f32⟩
  | 44 => ⟨S2x4096x256, .f32⟩
  | 45 => ⟨S_, .f32⟩
  | 46 => ⟨S256, .f32⟩
  | 47 => ⟨S1x256, .f32⟩
  | 48 => ⟨S_, .f32⟩
  | 49 => ⟨S31x256, .f32⟩
  | 50 => ⟨S31x256, .f32⟩
  | 51 => ⟨S_, .f32⟩
  | 52 => ⟨S2x4126x256, .f32⟩
  | 53 => ⟨S2x4126x256, .f32⟩
  | 54 => ⟨S2x4096x256, .f32⟩
  | 55 => ⟨S_, .f32⟩
  | 56 => ⟨S256, .f32⟩
  | 57 => ⟨S1x1x256, .f32⟩
  | 58 => ⟨S2x4096x256, .f32⟩
  | 59 => ⟨S2x4096x256, .f32⟩
  | 60 => ⟨S_, .f32⟩
  | 61 => ⟨S256, .f32⟩
  | 62 => ⟨S1x256, .f32⟩
  | 63 => ⟨S_, .f32⟩
  | 64 => ⟨S31x256, .f32⟩
  | 65 => ⟨S31x256, .f32⟩
  | 66 => ⟨S_, .f32⟩
  | 67 => ⟨S2x4126x256, .f32⟩
  | 68 => ⟨S2x4126x256, .f32⟩
  | 69 => ⟨S2x4096x256, .f32⟩
  | 70 => ⟨S_, .f32⟩
  | 71 => ⟨S256, .f32⟩
  | 72 => ⟨S1x1x256, .f32⟩
  | 73 => ⟨S2x4096x256, .f32⟩
  | 74 => ⟨S2x4096x256, .f32⟩
  | 75 => ⟨S_, .f32⟩
  | 76 => ⟨S256, .f32⟩
  | 77 => ⟨S1x256, .f32⟩
  | 78 => ⟨S_, .f32⟩
  | 79 => ⟨S31x256, .f32⟩
  | 80 => ⟨S31x256, .f32⟩
  | 81 => ⟨S_, .f32⟩
  | 82 => ⟨S2x4126x256, .f32⟩
  | 83 => ⟨S2x4126x256, .f32⟩
  | 84 => ⟨S2x4096x256, .f32⟩
  | 85 => ⟨S_, .f32⟩
  | 86 => ⟨S256, .f32⟩
  | 87 => ⟨S1x1x256, .f32⟩
  | 88 => ⟨S2x4096x256, .f32⟩
  | 89 => ⟨S2x4096x256, .f32⟩
  | 90 => ⟨S_, .f32⟩
  | 91 => ⟨S256, .f32⟩
  | 92 => ⟨S1x256, .f32⟩
  | 93 => ⟨S_, .f32⟩
  | 94 => ⟨S31x256, .f32⟩
  | 95 => ⟨S31x256, .f32⟩
  | 96 => ⟨S_, .f32⟩
  | 97 => ⟨S2x4126x256, .f32⟩
  | 98 => ⟨S2x4126x256, .f32⟩
  | 99 => ⟨S2x4096x256, .f32⟩
  | 100 => ⟨S_, .f32⟩
  | 101 => ⟨S256, .f32⟩
  | 102 => ⟨S1x1x256, .f32⟩
  | 103 => ⟨S2x4096x256, .f32⟩
  | 104 => ⟨S2x4096x256, .f32⟩
  | 105 => ⟨S_, .f32⟩
  | 106 => ⟨S256, .f32⟩
  | 107 => ⟨S1x256, .f32⟩
  | 108 => ⟨S_, .f32⟩
  | 109 => ⟨S31x256, .f32⟩
  | 110 => ⟨S31x256, .f32⟩
  | 111 => ⟨S_, .f32⟩
  | 112 => ⟨S2x4126x256, .f32⟩
  | 113 => ⟨S2x4126x256, .f32⟩
  | 114 => ⟨S2x4096x256, .f32⟩
  | 115 => ⟨S_, .f32⟩
  | 116 => ⟨S256, .f32⟩
  | 117 => ⟨S1x1x256, .f32⟩
  | 118 => ⟨S2x4096x256, .f32⟩
  | 119 => ⟨S2x4096x256, .f32⟩
  | 120 => ⟨S_, .f32⟩
  | 121 => ⟨S256, .f32⟩
  | 122 => ⟨S1x256, .f32⟩
  | 123 => ⟨S_, .f32⟩
  | 124 => ⟨S31x256, .f32⟩
  | 125 => ⟨S31x256, .f32⟩
  | 126 => ⟨S_, .f32⟩
  | 127 => ⟨S2x4126x256, .f32⟩
  | _ => ⟨S2x4096x512, .f32⟩

abbrev hbmTy0_5 (i : Nat) : BufTy := match i % 128 with
  | 0 => ⟨S2x4126x256, .f32⟩
  | 1 => ⟨S2x4096x256, .f32⟩
  | 2 => ⟨S_, .f32⟩
  | 3 => ⟨S256, .f32⟩
  | 4 => ⟨S1x1x256, .f32⟩
  | 5 => ⟨S2x4096x256, .f32⟩
  | 6 => ⟨S2x4096x256, .f32⟩
  | 7 => ⟨S_, .f32⟩
  | 8 => ⟨S256, .f32⟩
  | 9 => ⟨S1x256, .f32⟩
  | 10 => ⟨S_, .f32⟩
  | 11 => ⟨S31x256, .f32⟩
  | 12 => ⟨S31x256, .f32⟩
  | 13 => ⟨S_, .f32⟩
  | 14 => ⟨S2x4126x256, .f32⟩
  | 15 => ⟨S2x4126x256, .f32⟩
  | 16 => ⟨S2x4096x256, .f32⟩
  | 17 => ⟨S_, .f32⟩
  | 18 => ⟨S256, .f32⟩
  | 19 => ⟨S1x1x256, .f32⟩
  | 20 => ⟨S2x4096x256, .f32⟩
  | 21 => ⟨S2x4096x256, .f32⟩
  | 22 => ⟨S_, .f32⟩
  | 23 => ⟨S256, .f32⟩
  | 24 => ⟨S1x256, .f32⟩
  | 25 => ⟨S_, .f32⟩
  | 26 => ⟨S31x256, .f32⟩
  | 27 => ⟨S31x256, .f32⟩
  | 28 => ⟨S_, .f32⟩
  | 29 => ⟨S2x4126x256, .f32⟩
  | 30 => ⟨S2x4126x256, .f32⟩
  | 31 => ⟨S2x4096x256, .f32⟩
  | 32 => ⟨S_, .f32⟩
  | 33 => ⟨S256, .f32⟩
  | 34 => ⟨S1x1x256, .f32⟩
  | 35 => ⟨S2x4096x256, .f32⟩
  | 36 => ⟨S2x4096x256, .f32⟩
  | 37 => ⟨S_, .f32⟩
  | 38 => ⟨S256, .f32⟩
  | 39 => ⟨S1x256, .f32⟩
  | 40 => ⟨S_, .f32⟩
  | 41 => ⟨S31x256, .f32⟩
  | 42 => ⟨S31x256, .f32⟩
  | 43 => ⟨S_, .f32⟩
  | 44 => ⟨S2x4126x256, .f32⟩
  | 45 => ⟨S2x4126x256, .f32⟩
  | 46 => ⟨S2x4096x256, .f32⟩
  | 47 => ⟨S_, .f32⟩
  | 48 => ⟨S256, .f32⟩
  | 49 => ⟨S1x1x256, .f32⟩
  | 50 => ⟨S2x4096x256, .f32⟩
  | 51 => ⟨S2x4096x256, .f32⟩
  | 52 => ⟨S_, .f32⟩
  | 53 => ⟨S256, .f32⟩
  | 54 => ⟨S1x256, .f32⟩
  | 55 => ⟨S_, .f32⟩
  | 56 => ⟨S31x256, .f32⟩
  | 57 => ⟨S31x256, .f32⟩
  | 58 => ⟨S_, .f32⟩
  | 59 => ⟨S2x4126x256, .f32⟩
  | 60 => ⟨S2x4126x256, .f32⟩
  | 61 => ⟨S2x4096x256, .f32⟩
  | 62 => ⟨S_, .f32⟩
  | 63 => ⟨S256, .f32⟩
  | 64 => ⟨S1x1x256, .f32⟩
  | 65 => ⟨S2x4096x256, .f32⟩
  | 66 => ⟨S2x4096x256, .f32⟩
  | 67 => ⟨S_, .f32⟩
  | 68 => ⟨S256, .f32⟩
  | 69 => ⟨S1x256, .f32⟩
  | 70 => ⟨S_, .f32⟩
  | 71 => ⟨S31x256, .f32⟩
  | 72 => ⟨S31x256, .f32⟩
  | 73 => ⟨S_, .f32⟩
  | 74 => ⟨S2x4126x256, .f32⟩
  | 75 => ⟨S2x4126x256, .f32⟩
  | 76 => ⟨S2x30x256, .f32⟩
  | 77 => ⟨S2x4096x256, .f32⟩
  | 78 => ⟨S2x4096x256, .f32⟩
  | 79 => ⟨S2x4096x256, .f32⟩
  | 80 => ⟨S2x4096x256, .f32⟩
  | 81 => ⟨S_, .f32⟩
  | 82 => ⟨S2x4096x512, .f32⟩
  | 83 => ⟨S_, .f32⟩
  | 84 => ⟨S2x4096x512, .f32⟩
  | 85 => ⟨S2x4096x512, .f32⟩
  | 86 => ⟨S_, .f32⟩
  | 87 => ⟨S8192x4096, .f32⟩
  | 88 => ⟨S8192x512, .f32⟩
  | 89 => ⟨S8192x4608, .f32⟩
  | 90 => ⟨S8192x4608, .bf16⟩
  | 91 => ⟨S1x256, .f32⟩
  | 92 => ⟨S32x256, .f32⟩
  | _ => ⟨S2x4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_6 : Ref sig .tc := ⟨.hbm, 248, rfl⟩
abbrev main_v238 : Ref sig .tc := ⟨.hbm, 249, rfl⟩
abbrev main_v239 : Ref sig .tc := ⟨.hbm, 250, rfl⟩
abbrev main_cst_7 : Ref sig .tc := ⟨.hbm, 251, rfl⟩
abbrev main_v240 : Ref sig .tc := ⟨.hbm, 252, rfl⟩
abbrev main_v241 : Ref sig .tc := ⟨.hbm, 253, rfl⟩
abbrev main_cst_8 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_9 : Ref sig .tc := ⟨.hbm, 259, rfl⟩
abbrev main_v246 : Ref sig .tc := ⟨.hbm, 260, rfl⟩
abbrev main_v247 : Ref sig .tc := ⟨.hbm, 261, rfl⟩
abbrev main_cst_10 : Ref sig .tc := ⟨.hbm, 262, rfl⟩
abbrev main_v248 : Ref sig .tc := ⟨.hbm, 263, rfl⟩
abbrev main_cst_11 : Ref sig .tc := ⟨.hbm, 264, rfl⟩
abbrev main_v249 : Ref sig .tc := ⟨.hbm, 265, rfl⟩
abbrev main_v250 : Ref sig .tc := ⟨.hbm, 266, rfl⟩
abbrev main_cst_12 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_cst_13 : Ref sig .tc := ⟨.hbm, 272, rfl⟩
abbrev main_v255 : Ref sig .tc := ⟨.hbm, 273, rfl⟩
abbrev main_v256 : Ref sig .tc := ⟨.hbm, 274, rfl⟩
abbrev main_cst_14 : Ref sig .tc := ⟨.hbm, 275, rfl⟩
abbrev main_v257 : Ref sig .tc := ⟨.hbm, 276, rfl⟩
abbrev main_v258 : Ref sig .tc := ⟨.hbm, 277, rfl⟩
abbrev main_cst_15 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_cst_16 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_cst_17 : Ref sig .tc := ⟨.hbm, 287, rfl⟩
abbrev main_v266 : Ref sig .tc := ⟨.hbm, 288, rfl⟩
abbrev main_v267 : Ref sig .tc := ⟨.hbm, 289, rfl⟩
abbrev main_cst_18 : Ref sig .tc := ⟨.hbm, 290, rfl⟩
abbrev main_v268 : Ref sig .tc := ⟨.hbm, 291, rfl⟩
abbrev main_v269 : Ref sig .tc := ⟨.hbm, 292, rfl⟩
abbrev main_cst_19 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_cst_20 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_cst_21 : Ref sig .tc := ⟨.hbm, 302, rfl⟩
abbrev main_v277 : Ref sig .tc := ⟨.hbm, 303, rfl⟩
abbrev main_v278 : Ref sig .tc := ⟨.hbm, 304, rfl⟩
abbrev main_cst_22 : Ref sig .tc := ⟨.hbm, 305, rfl⟩
abbrev main_v279 : Ref sig .tc := ⟨.hbm, 306, rfl⟩
abbrev main_v280 : Ref sig .tc := ⟨.hbm, 307, rfl⟩
abbrev main_cst_23 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_cst_24 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_cst_25 : Ref sig .tc := ⟨.hbm, 317, rfl⟩
abbrev main_v288 : Ref sig .tc := ⟨.hbm, 318, rfl⟩
abbrev main_v289 : Ref sig .tc := ⟨.hbm, 319, rfl⟩
abbrev main_cst_26 : Ref sig .tc := ⟨.hbm, 320, rfl⟩
abbrev main_v290 : Ref sig .tc := ⟨.hbm, 321, rfl⟩
abbrev main_v291 : Ref sig .tc := ⟨.hbm, 322, rfl⟩
abbrev main_cst_27 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_cst_28 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_cst_29 : Ref sig .tc := ⟨.hbm, 332, rfl⟩
abbrev main_v299 : Ref sig .tc := ⟨.hbm, 333, rfl⟩
abbrev main_v300 : Ref sig .tc := ⟨.hbm, 334, rfl⟩
abbrev main_cst_30 : Ref sig .tc := ⟨.hbm, 335, rfl⟩
abbrev main_v301 : Ref sig .tc := ⟨.hbm, 336, rfl⟩
abbrev main_v302 : Ref sig .tc := ⟨.hbm, 337, rfl⟩
abbrev main_cst_31 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_cst_32 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_cst_33 : Ref sig .tc := ⟨.hbm, 347, rfl⟩
abbrev main_v310 : Ref sig .tc := ⟨.hbm, 348, rfl⟩
abbrev main_v311 : Ref sig .tc := ⟨.hbm, 349, rfl⟩
abbrev main_cst_34 : Ref sig .tc := ⟨.hbm, 350, rfl⟩
abbrev main_v312 : Ref sig .tc := ⟨.hbm, 351, rfl⟩
abbrev main_v313 : Ref sig .tc := ⟨.hbm, 352, rfl⟩
abbrev main_cst_35 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_cst_36 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_cst_37 : Ref sig .tc := ⟨.hbm, 362, rfl⟩
abbrev main_v321 : Ref sig .tc := ⟨.hbm, 363, rfl⟩
abbrev main_v322 : Ref sig .tc := ⟨.hbm, 364, rfl⟩
abbrev main_cst_38 : Ref sig .tc := ⟨.hbm, 365, rfl⟩
abbrev main_v323 : Ref sig .tc := ⟨.hbm, 366, rfl⟩
abbrev main_v324 : Ref sig .tc := ⟨.hbm, 367, rfl⟩
abbrev main_cst_39 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_cst_40 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_cst_41 : Ref sig .tc := ⟨.hbm, 377, rfl⟩
abbrev main_v332 : Ref sig .tc := ⟨.hbm, 378, rfl⟩
abbrev main_v333 : Ref sig .tc := ⟨.hbm, 379, rfl⟩
abbrev main_cst_42 : Ref sig .tc := ⟨.hbm, 380, rfl⟩
abbrev main_v334 : Ref sig .tc := ⟨.hbm, 381, rfl⟩
abbrev main_v335 : Ref sig .tc := ⟨.hbm, 382, rfl⟩
abbrev main_cst_43 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_cst_44 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_cst_45 : Ref sig .tc := ⟨.hbm, 392, rfl⟩
abbrev main_v343 : Ref sig .tc := ⟨.hbm, 393, rfl⟩
abbrev main_v344 : Ref sig .tc := ⟨.hbm, 394, rfl⟩
abbrev main_cst_46 : Ref sig .tc := ⟨.hbm, 395, rfl⟩
abbrev main_v345 : Ref sig .tc := ⟨.hbm, 396, rfl⟩
abbrev main_v346 : Ref sig .tc := ⟨.hbm, 397, rfl⟩
abbrev main_cst_47 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_cst_48 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_cst_49 : Ref sig .tc := ⟨.hbm, 407, rfl⟩
abbrev main_v354 : Ref sig .tc := ⟨.hbm, 408, rfl⟩
abbrev main_v355 : Ref sig .tc := ⟨.hbm, 409, rfl⟩
abbrev main_cst_50 : Ref sig .tc := ⟨.hbm, 410, rfl⟩
abbrev main_v356 : Ref sig .tc := ⟨.hbm, 411, rfl⟩
abbrev main_v357 : Ref sig .tc := ⟨.hbm, 412, rfl⟩
abbrev main_cst_51 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_cst_52 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_cst_53 : Ref sig .tc := ⟨.hbm, 422, rfl⟩
abbrev main_v365 : Ref sig .tc := ⟨.hbm, 423, rfl⟩
abbrev main_v366 : Ref sig .tc := ⟨.hbm, 424, rfl⟩
abbrev main_cst_54 : Ref sig .tc := ⟨.hbm, 425, rfl⟩
abbrev main_v367 : Ref sig .tc := ⟨.hbm, 426, rfl⟩
abbrev main_v368 : Ref sig .tc := ⟨.hbm, 427, rfl⟩
abbrev main_cst_55 : Ref sig .tc := ⟨.hbm, 428, rfl⟩
abbrev main_v369 : Ref sig .tc := ⟨.hbm, 429, rfl⟩
abbrev main_v370 : Ref sig .tc := ⟨.hbm, 430, rfl⟩
abbrev main_v371 : Ref sig .tc := ⟨.hbm, 431, rfl⟩
abbrev main_cst_56 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_cst_57 : Ref sig .tc := ⟨.hbm, 437, rfl⟩
abbrev main_v376 : Ref sig .tc := ⟨.hbm, 438, rfl⟩
abbrev main_v377 : Ref sig .tc := ⟨.hbm, 439, rfl⟩
abbrev main_cst_58 : Ref sig .tc := ⟨.hbm, 440, rfl⟩
abbrev main_v378 : Ref sig .tc := ⟨.hbm, 441, rfl⟩
abbrev main_v379 : Ref sig .tc := ⟨.hbm, 442, rfl⟩
abbrev main_cst_59 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_cst_60 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_cst_61 : Ref sig .tc := ⟨.hbm, 452, rfl⟩
abbrev main_v387 : Ref sig .tc := ⟨.hbm, 453, rfl⟩
abbrev main_v388 : Ref sig .tc := ⟨.hbm, 454, rfl⟩
abbrev main_cst_62 : Ref sig .tc := ⟨.hbm, 455, rfl⟩
abbrev main_v389 : Ref sig .tc := ⟨.hbm, 456, rfl⟩
abbrev main_v390 : Ref sig .tc := ⟨.hbm, 457, rfl⟩
abbrev main_cst_63 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_cst_64 : Ref sig .tc := ⟨.hbm, 462, rfl⟩
abbrev main_v394 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_cst_65 : Ref sig .tc := ⟨.hbm, 467, rfl⟩
abbrev main_v398 : Ref sig .tc := ⟨.hbm, 468, rfl⟩
abbrev main_v399 : Ref sig .tc := ⟨.hbm, 469, rfl⟩
abbrev main_cst_66 : Ref sig .tc := ⟨.hbm, 470, rfl⟩
abbrev main_v400 : Ref sig .tc := ⟨.hbm, 471, rfl⟩
abbrev main_v401 : Ref sig .tc := ⟨.hbm, 472, rfl⟩
abbrev main_cst_67 : Ref sig .tc := ⟨.hbm, 473, rfl⟩
abbrev main_v402 : Ref sig .tc := ⟨.hbm, 474, rfl⟩
abbrev main_v403 : Ref sig .tc := ⟨.hbm, 475, rfl⟩
abbrev main_v404 : Ref sig .tc := ⟨.hbm, 476, rfl⟩
abbrev main_cst_68 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_cst_69 : Ref sig .tc := ⟨.hbm, 482, rfl⟩
abbrev main_v409 : Ref sig .tc := ⟨.hbm, 483, rfl⟩
abbrev main_v410 : Ref sig .tc := ⟨.hbm, 484, rfl⟩
abbrev main_cst_70 : Ref sig .tc := ⟨.hbm, 485, rfl⟩
abbrev main_v411 : Ref sig .tc := ⟨.hbm, 486, rfl⟩
abbrev main_v412 : Ref sig .tc := ⟨.hbm, 487, rfl⟩
abbrev main_cst_71 : Ref sig .tc := ⟨.hbm, 488, rfl⟩
abbrev main_v413 : Ref sig .tc := ⟨.hbm, 489, rfl⟩
abbrev main_v414 : Ref sig .tc := ⟨.hbm, 490, rfl⟩
abbrev main_v415 : Ref sig .tc := ⟨.hbm, 491, rfl⟩
abbrev main_cst_72 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_cst_73 : Ref sig .tc := ⟨.hbm, 497, rfl⟩
abbrev main_v420 : Ref sig .tc := ⟨.hbm, 498, rfl⟩
abbrev main_v421 : Ref sig .tc := ⟨.hbm, 499, rfl⟩
abbrev main_cst_74 : Ref sig .tc := ⟨.hbm, 500, rfl⟩
abbrev main_v422 : Ref sig .tc := ⟨.hbm, 501, rfl⟩
abbrev main_v423 : Ref sig .tc := ⟨.hbm, 502, rfl⟩
abbrev main_cst_75 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_cst_76 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_cst_77 : Ref sig .tc := ⟨.hbm, 512, rfl⟩
abbrev main_v431 : Ref sig .tc := ⟨.hbm, 513, rfl⟩
abbrev main_v432 : Ref sig .tc := ⟨.hbm, 514, rfl⟩
abbrev main_cst_78 : Ref sig .tc := ⟨.hbm, 515, rfl⟩
abbrev main_v433 : Ref sig .tc := ⟨.hbm, 516, rfl⟩
abbrev main_v434 : Ref sig .tc := ⟨.hbm, 517, rfl⟩
abbrev main_cst_79 : Ref sig .tc := ⟨.hbm, 518, rfl⟩
abbrev main_v435 : Ref sig .tc := ⟨.hbm, 519, rfl⟩
abbrev main_v436 : Ref sig .tc := ⟨.hbm, 520, rfl⟩
abbrev main_v437 : Ref sig .tc := ⟨.hbm, 521, rfl⟩
abbrev main_cst_80 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_cst_81 : Ref sig .tc := ⟨.hbm, 527, rfl⟩
abbrev main_v442 : Ref sig .tc := ⟨.hbm, 528, rfl⟩
abbrev main_v443 : Ref sig .tc := ⟨.hbm, 529, rfl⟩
abbrev main_cst_82 : Ref sig .tc := ⟨.hbm, 530, rfl⟩
abbrev main_v444 : Ref sig .tc := ⟨.hbm, 531, rfl⟩
abbrev main_v445 : Ref sig .tc := ⟨.hbm, 532, rfl⟩
abbrev main_cst_83 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_cst_84 : Ref sig .tc := ⟨.hbm, 537, rfl⟩
abbrev main_v449 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_cst_85 : Ref sig .tc := ⟨.hbm, 542, rfl⟩
abbrev main_v453 : Ref sig .tc := ⟨.hbm, 543, rfl⟩
abbrev main_v454 : Ref sig .tc := ⟨.hbm, 544, rfl⟩
abbrev main_cst_86 : Ref sig .tc := ⟨.hbm, 545, rfl⟩
abbrev main_v455 : Ref sig .tc := ⟨.hbm, 546, rfl⟩
abbrev main_v456 : Ref sig .tc := ⟨.hbm, 547, rfl⟩
abbrev main_cst_87 : Ref sig .tc := ⟨.hbm, 548, rfl⟩
abbrev main_v457 : Ref sig .tc := ⟨.hbm, 549, rfl⟩
abbrev main_v458 : Ref sig .tc := ⟨.hbm, 550, rfl⟩
abbrev main_v459 : Ref sig .tc := ⟨.hbm, 551, rfl⟩
abbrev main_cst_88 : Ref sig .tc := ⟨.hbm, 552, rfl⟩
abbrev main_v460 : Ref sig .tc := ⟨.hbm, 553, rfl⟩
abbrev main_v461 : Ref sig .tc := ⟨.hbm, 554, rfl⟩
abbrev main_v462 : Ref sig .tc := ⟨.hbm, 555, rfl⟩
abbrev main_v463 : Ref sig .tc := ⟨.hbm, 556, rfl⟩
abbrev main_cst_89 : Ref sig .tc := ⟨.hbm, 557, rfl⟩
abbrev main_v464 : Ref sig .tc := ⟨.hbm, 558, rfl⟩
abbrev main_v465 : Ref sig .tc := ⟨.hbm, 559, rfl⟩
abbrev main_cst_90 : Ref sig .tc := ⟨.hbm, 560, rfl⟩
abbrev main_v466 : Ref sig .tc := ⟨.hbm, 561, rfl⟩
abbrev main_v467 : Ref sig .tc := ⟨.hbm, 562, rfl⟩
abbrev main_cst_91 : Ref sig .tc := ⟨.hbm, 563, rfl⟩
abbrev main_v468 : Ref sig .tc := ⟨.hbm, 564, rfl⟩
abbrev main_v469 : Ref sig .tc := ⟨.hbm, 565, rfl⟩
abbrev main_v470 : Ref sig .tc := ⟨.hbm, 566, rfl⟩
abbrev main_cst_92 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_cst_93 : Ref sig .tc := ⟨.hbm, 572, rfl⟩
abbrev main_v475 : Ref sig .tc := ⟨.hbm, 573, rfl⟩
abbrev main_v476 : Ref sig .tc := ⟨.hbm, 574, rfl⟩
abbrev main_cst_94 : Ref sig .tc := ⟨.hbm, 575, rfl⟩
abbrev main_v477 : Ref sig .tc := ⟨.hbm, 576, rfl⟩
abbrev main_v478 : Ref sig .tc := ⟨.hbm, 577, rfl⟩
abbrev main_cst_95 : Ref sig .tc := ⟨.hbm, 578, rfl⟩
abbrev main_v479 : Ref sig .tc := ⟨.hbm, 579, rfl⟩
abbrev main_v480 : Ref sig .tc := ⟨.hbm, 580, rfl⟩
abbrev main_v481 : Ref sig .tc := ⟨.hbm, 581, rfl⟩
abbrev main_cst_96 : Ref sig .tc := ⟨.hbm, 582, rfl⟩
abbrev main_v482 : Ref sig .tc := ⟨.hbm, 583, rfl⟩
abbrev main_v483 : Ref sig .tc := ⟨.hbm, 584, rfl⟩
abbrev main_v484 : Ref sig .tc := ⟨.hbm, 585, rfl⟩
abbrev main_v485 : Ref sig .tc := ⟨.hbm, 586, rfl⟩
abbrev main_cst_97 : Ref sig .tc := ⟨.hbm, 587, rfl⟩
abbrev main_v486 : Ref sig .tc := ⟨.hbm, 588, rfl⟩
abbrev main_v487 : Ref sig .tc := ⟨.hbm, 589, rfl⟩
abbrev main_cst_98 : Ref sig .tc := ⟨.hbm, 590, rfl⟩
abbrev main_v488 : Ref sig .tc := ⟨.hbm, 591, rfl⟩
abbrev main_v489 : Ref sig .tc := ⟨.hbm, 592, rfl⟩
abbrev main_cst_99 : Ref sig .tc := ⟨.hbm, 593, rfl⟩
abbrev main_v490 : Ref sig .tc := ⟨.hbm, 594, rfl⟩
abbrev main_v491 : Ref sig .tc := ⟨.hbm, 595, rfl⟩
abbrev main_v492 : Ref sig .tc := ⟨.hbm, 596, rfl⟩
abbrev main_cst_100 : Ref sig .tc := ⟨.hbm, 597, rfl⟩
abbrev main_v493 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_cst_101 : Ref sig .tc := ⟨.hbm, 602, rfl⟩
abbrev main_v497 : Ref sig .tc := ⟨.hbm, 603, rfl⟩
abbrev main_v498 : Ref sig .tc := ⟨.hbm, 604, rfl⟩
abbrev main_cst_102 : Ref sig .tc := ⟨.hbm, 605, rfl⟩
abbrev main_v499 : Ref sig .tc := ⟨.hbm, 606, rfl⟩
abbrev main_v500 : Ref sig .tc := ⟨.hbm, 607, rfl⟩
abbrev main_cst_103 : Ref sig .tc := ⟨.hbm, 608, rfl⟩
abbrev main_v501 : Ref sig .tc := ⟨.hbm, 609, rfl⟩
abbrev main_v502 : Ref sig .tc := ⟨.hbm, 610, rfl⟩
abbrev main_v503 : Ref sig .tc := ⟨.hbm, 611, rfl⟩
abbrev main_cst_104 : Ref sig .tc := ⟨.hbm, 612, rfl⟩
abbrev main_v504 : Ref sig .tc := ⟨.hbm, 613, rfl⟩
abbrev main_v505 : Ref sig .tc := ⟨.hbm, 614, rfl⟩
abbrev main_v506 : Ref sig .tc := ⟨.hbm, 615, rfl⟩
abbrev main_v507 : Ref sig .tc := ⟨.hbm, 616, rfl⟩
abbrev main_cst_105 : Ref sig .tc := ⟨.hbm, 617, rfl⟩
abbrev main_v508 : Ref sig .tc := ⟨.hbm, 618, rfl⟩
abbrev main_v509 : Ref sig .tc := ⟨.hbm, 619, rfl⟩
abbrev main_cst_106 : Ref sig .tc := ⟨.hbm, 620, rfl⟩
abbrev main_v510 : Ref sig .tc := ⟨.hbm, 621, rfl⟩
abbrev main_v511 : Ref sig .tc := ⟨.hbm, 622, rfl⟩
abbrev main_cst_107 : Ref sig .tc := ⟨.hbm, 623, rfl⟩
abbrev main_v512 : Ref sig .tc := ⟨.hbm, 624, rfl⟩
abbrev main_v513 : Ref sig .tc := ⟨.hbm, 625, rfl⟩
abbrev main_v514 : Ref sig .tc := ⟨.hbm, 626, rfl⟩
abbrev main_cst_108 : Ref sig .tc := ⟨.hbm, 627, rfl⟩
abbrev main_v515 : Ref sig .tc := ⟨.hbm, 628, rfl⟩
abbrev main_v516 : Ref sig .tc := ⟨.hbm, 629, rfl⟩
abbrev main_v517 : Ref sig .tc := ⟨.hbm, 630, rfl⟩
abbrev main_v518 : Ref sig .tc := ⟨.hbm, 631, rfl⟩
abbrev main_cst_109 : Ref sig .tc := ⟨.hbm, 632, rfl⟩
abbrev main_v519 : Ref sig .tc := ⟨.hbm, 633, rfl⟩
abbrev main_v520 : Ref sig .tc := ⟨.hbm, 634, rfl⟩
abbrev main_cst_110 : Ref sig .tc := ⟨.hbm, 635, rfl⟩
abbrev main_v521 : Ref sig .tc := ⟨.hbm, 636, rfl⟩
abbrev main_v522 : Ref sig .tc := ⟨.hbm, 637, rfl⟩
abbrev main_cst_111 : Ref sig .tc := ⟨.hbm, 638, rfl⟩
abbrev main_v523 : Ref sig .tc := ⟨.hbm, 639, rfl⟩
abbrev main_v524 : Ref sig .tc := ⟨.hbm, 640, rfl⟩
abbrev main_v525 : Ref sig .tc := ⟨.hbm, 641, rfl⟩
abbrev main_cst_112 : Ref sig .tc := ⟨.hbm, 642, rfl⟩
abbrev main_v526 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_cst_113 : Ref sig .tc := ⟨.hbm, 647, rfl⟩
abbrev main_v530 : Ref sig .tc := ⟨.hbm, 648, rfl⟩
abbrev main_v531 : Ref sig .tc := ⟨.hbm, 649, rfl⟩
abbrev main_cst_114 : Ref sig .tc := ⟨.hbm, 650, rfl⟩
abbrev main_v532 : Ref sig .tc := ⟨.hbm, 651, rfl⟩
abbrev main_v533 : Ref sig .tc := ⟨.hbm, 652, rfl⟩
abbrev main_cst_115 : Ref sig .tc := ⟨.hbm, 653, rfl⟩
abbrev main_v534 : Ref sig .tc := ⟨.hbm, 654, rfl⟩
abbrev main_v535 : Ref sig .tc := ⟨.hbm, 655, rfl⟩
abbrev main_v536 : Ref sig .tc := ⟨.hbm, 656, rfl⟩
abbrev main_cst_116 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_cst_117 : Ref sig .tc := ⟨.hbm, 662, rfl⟩
abbrev main_v541 : Ref sig .tc := ⟨.hbm, 663, rfl⟩
abbrev main_v542 : Ref sig .tc := ⟨.hbm, 664, rfl⟩
abbrev main_cst_118 : Ref sig .tc := ⟨.hbm, 665, rfl⟩
abbrev main_v543 : Ref sig .tc := ⟨.hbm, 666, rfl⟩
abbrev main_v544 : Ref sig .tc := ⟨.hbm, 667, rfl⟩
abbrev main_cst_119 : Ref sig .tc := ⟨.hbm, 668, rfl⟩
abbrev main_v545 : Ref sig .tc := ⟨.hbm, 669, rfl⟩
abbrev main_v546 : Ref sig .tc := ⟨.hbm, 670, rfl⟩
abbrev main_v547 : Ref sig .tc := ⟨.hbm, 671, rfl⟩
abbrev main_cst_120 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_cst_121 : Ref sig .tc := ⟨.hbm, 677, rfl⟩
abbrev main_v552 : Ref sig .tc := ⟨.hbm, 678, rfl⟩
abbrev main_v553 : Ref sig .tc := ⟨.hbm, 679, rfl⟩
abbrev main_cst_122 : Ref sig .tc := ⟨.hbm, 680, rfl⟩
abbrev main_v554 : Ref sig .tc := ⟨.hbm, 681, rfl⟩
abbrev main_v555 : Ref sig .tc := ⟨.hbm, 682, rfl⟩
abbrev main_cst_123 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_cst_124 : Ref sig .tc := ⟨.hbm, 687, rfl⟩
abbrev main_v559 : Ref sig .tc := ⟨.hbm, 688, rfl⟩
abbrev main_v560 : Ref sig .tc := ⟨.hbm, 689, rfl⟩
abbrev main_v561 : Ref sig .tc := ⟨.hbm, 690, rfl⟩
abbrev main_v562 : Ref sig .tc := ⟨.hbm, 691, rfl⟩
abbrev main_cst_125 : Ref sig .tc := ⟨.hbm, 692, rfl⟩
abbrev main_v563 : Ref sig .tc := ⟨.hbm, 693, rfl⟩
abbrev main_v564 : Ref sig .tc := ⟨.hbm, 694, rfl⟩
abbrev main_cst_126 : Ref sig .tc := ⟨.hbm, 695, rfl⟩
abbrev main_v565 : Ref sig .tc := ⟨.hbm, 696, rfl⟩
abbrev main_v566 : Ref sig .tc := ⟨.hbm, 697, rfl⟩
abbrev main_cst_127 : Ref sig .tc := ⟨.hbm, 698, rfl⟩
abbrev main_v567 : Ref sig .tc := ⟨.hbm, 699, rfl⟩
abbrev main_v568 : Ref sig .tc := ⟨.hbm, 700, rfl⟩
abbrev main_v569 : Ref sig .tc := ⟨.hbm, 701, rfl⟩
abbrev main_cst_128 : Ref sig .tc := ⟨.hbm, 702, rfl⟩
abbrev main_v570 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev main_cst_129 : Ref sig .tc := ⟨.hbm, 707, rfl⟩
abbrev main_v574 : Ref sig .tc := ⟨.hbm, 708, rfl⟩
abbrev main_v575 : Ref sig .tc := ⟨.hbm, 709, rfl⟩
abbrev main_cst_130 : Ref sig .tc := ⟨.hbm, 710, rfl⟩
abbrev main_v576 : Ref sig .tc := ⟨.hbm, 711, rfl⟩
abbrev main_v577 : Ref sig .tc := ⟨.hbm, 712, rfl⟩
abbrev main_cst_131 : Ref sig .tc := ⟨.hbm, 713, rfl⟩
abbrev main_v578 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_cst_132 : Ref sig .tc := ⟨.hbm, 721, rfl⟩
abbrev main_v585 : Ref sig .tc := ⟨.hbm, 722, rfl⟩
abbrev main_cst_133 : Ref sig .tc := ⟨.hbm, 723, rfl⟩
abbrev main_v586 : Ref sig .tc := ⟨.hbm, 724, rfl⟩
abbrev main_v587 : Ref sig .tc := ⟨.hbm, 725, rfl⟩
abbrev main_cst_134 : Ref sig .tc := ⟨.hbm, 726, rfl⟩
abbrev main_v588 : Ref sig .tc := ⟨.hbm, 727, rfl⟩
abbrev main_v589 : Ref sig .tc := ⟨.hbm, 728, rfl⟩
abbrev main_v590 : Ref sig .tc := ⟨.hbm, 729, rfl⟩
abbrev main_v591 : Ref sig .tc := ⟨.hbm, 730, rfl⟩
abbrev main_v592 : Ref sig .tc := ⟨.hbm, 731, rfl⟩
abbrev main_v593 : Ref sig .tc := ⟨.hbm, 732, rfl⟩

abbrev nD : Nat := 1
abbrev τ : Topo := Topo.v7x

variable {F : FTy → Type} [FloatOps F]
-- ==== Dx.lean ====
abbrev S8192x2816 : Shape := ⟨2, ![8192, 2816]⟩
abbrev S1024x5632 : Shape := ⟨2, ![1024, 5632]⟩
abbrev S8192x1024 : Shape := ⟨2, ![8192, 1024]⟩
abbrev S512x2816 : Shape := ⟨2, ![512, 2816]⟩
abbrev S512x1024 : Shape := ⟨2, ![512, 1024]⟩
abbrev S1024x2816 : Shape := ⟨2, ![1024, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DxRefIdeal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S_, .f32⟩
  | .hbm, ⟨4, _⟩ => ⟨S8192x1024, .f32⟩
  | .hbm, ⟨5, _⟩ => ⟨S1024x5632, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Add.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wgrad.lean ====
abbrev S8192x1024 : Shape := ⟨2, ![8192, 1024]⟩
abbrev S8192x4608 : Shape := ⟨2, ![8192, 4608]⟩
abbrev S1024x4608 : Shape := ⟨2, ![1024, 4608]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S8x352x1024 : Shape := ⟨3, ![8, 352, 1024]⟩
abbrev S4x352x1024 : Shape := ⟨3, ![4, 352, 1024]⟩
abbrev S8x1408x1024 : Shape := ⟨3, ![8, 1408, 1024]⟩
abbrev S1x352x1024 : Shape := ⟨3, ![1, 352, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S8x1408x1024, .bf16⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c352_i32 : BitVec 32 := 352#32
  let v0 : BitVec 32 := Scalar.muli arg0 c352_i32
  let c0_i32 : BitVec 32 := 0#32
  let v1 : BitVec 32 := Scalar.addi v0 c0_i32
  let c352_i32_0 : BitVec 32 := 352#32
  let v2 : BitVec 32 := Scalar.divsi v1 c352_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c352_i32_0 c0_i32_3
  let v9 : BitVec 32 := Scalar.extui v8
  let c0_i32_4 : BitVec 32 := 0#32
  let v10 : BitVec 1 := Scalar.cmpi .slt c352_i32_0 c0_i32_4
  let v11 : BitVec 32 := Scalar.extui v10
  let v12 : BitVec 32 := Scalar.subi v9 v11
  let v13 : BitVec 1 := Scalar.cmpi .ne v7 v12
  let v14 : BitVec 32 := Scalar.remsi v1 c352_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_6 : BitVec 32 := 0#32
  let c0_i32_7 : BitVec 32 := 0#32
  let c0_i32_8 : BitVec 32 := 0#32
  ![c0_i32_6.toNat, v19.toNat, c0_i32_7.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1x352x1024, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S4x352x1024, .f32⟩
  | .hbm, ⟨24, _⟩ => ⟨S_, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | .hbm, ⟨38, _⟩ => ⟨S4x352x1024, .f32⟩
  | .hbm, ⟨39, _⟩ => ⟨S_, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S4x352x1024, .f32⟩
  | .hbm, ⟨50, _⟩ => ⟨S_, .f32⟩
  | .hbm, ⟨51, _⟩ => ⟨S4x352x1024, .f32⟩
  | .hbm, ⟨52, _⟩ => ⟨S4x352x1024, .f32⟩
  | .hbm, ⟨53, _⟩ => ⟨S4x352x1024, .f32⟩
  | .hbm, ⟨54, _⟩ => ⟨S_, .f32⟩
  | .hbm, ⟨55, _⟩ => ⟨S4x352x1024, .f32⟩
  | .hbm, ⟨56, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Flat.lean ====
abbrev S8x2560x128 : Shape := ⟨3, ![8, 2560, 128]⟩
abbrev S2560x128 : Shape := ⟨2, ![2560, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2560x128, .f32⟩
  | .hbm, ⟨5, _⟩ => ⟨S2560x128, .f32⟩
  | .hbm, ⟨6, _⟩ => ⟨S2560x128, .f32⟩
  | .hbm, ⟨7, _⟩ => ⟨S2560x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FlatRefIdeal.lean ====
abbrev S8x2560x128 : Shape := ⟨3, ![8, 2560, 128]⟩
abbrev S2560x128 : Shape := ⟨2, ![2560, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S_, .f32⟩
  | .hbm, ⟨5, _⟩ => ⟨S2560x128, .f32⟩
  | .hbm, ⟨6, _⟩ => ⟨S_, .f32⟩
  | .hbm, ⟨7, _⟩ => ⟨S2560x128, .f32⟩
  | .hbm, ⟨8, _⟩ => ⟨S2560x128, .f32⟩
  | .hbm, ⟨9, _⟩ => ⟨S_, .f32⟩
  | .hbm, ⟨10, _⟩ => ⟨S2560x128, .f32⟩
  | .hbm, ⟨11, _⟩ => ⟨S2560x128, .f32⟩
  | .hbm, ⟨12, _⟩ => ⟨S2560x128, .f32⟩
  | .hbm, ⟨13, _⟩ => ⟨S_, .f32⟩
  | .hbm, ⟨14, _⟩ => ⟨S2560x128, .f32⟩
  | .hbm, ⟨15, _⟩ => ⟨S2560x128, .f32⟩
  | .hbm, ⟨16, _⟩ => ⟨S2560x128, .f32⟩
  | .hbm, ⟨17, _⟩ => ⟨S_, .f32⟩
  | .hbm, ⟨18, _⟩ => ⟨S2560x128, .f32⟩
  | .hbm, ⟨19, _⟩ => ⟨S2560x128, .f32⟩
  | .hbm, ⟨20, _⟩ => ⟨S2560x128, .f32⟩
  | .hbm, ⟨21, _⟩ => ⟨S_, .f32⟩
  | .hbm, ⟨22, _⟩ => ⟨S2560x128, .f32⟩
  | .hbm, ⟨23, _⟩ => ⟨S2560x128, .f32⟩
  | .hbm, ⟨24, _⟩ => ⟨S_, .f32⟩
  | .hbm, ⟨25, _⟩ => ⟨S2560x128, .f32⟩
  | .hbm, ⟨26, _⟩ => ⟨S2560x128, .f32⟩
  | .hbm, ⟨27, _⟩ => ⟨S2560x128, .f32⟩
  | .hbm, ⟨28, _⟩ => ⟨S_, .f32⟩
  | .hbm, ⟨29, _⟩ => ⟨S2560x128, .f32⟩
  | .hbm, ⟨30, _⟩ => ⟨S2560x128, .f32⟩
  | .hbm, ⟨31, _⟩ => ⟨S2560x128, .f32⟩
  | .hbm, ⟨32, _⟩ => ⟨S_, .f32⟩
  | .hbm, ⟨33, _⟩ => ⟨S2560x128, .f32⟩
  | .hbm, ⟨34, _⟩ => ⟨S2560x128, .f32⟩
  | .hbm, ⟨35, _⟩ => ⟨S2560x128, .f32⟩
  | .hbm, ⟨36, _⟩ => ⟨S_, .f32⟩
  | .hbm, ⟨37, _⟩ => ⟨S2560x128, .f32⟩
  | .hbm, ⟨38, _⟩ => ⟨S2560x128, .f32⟩
  | _, _ => ⟨S8x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Cols.lean ====
abbrev S8x6400x128 : Shape := ⟨3, ![8, 6400, 128]⟩
abbrev S4x256x128 : Shape := ⟨3, ![4, 256, 128]⟩
abbrev S8x25600x128 : Shape := ⟨3, ![8, 25600, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x6400x128, .bf16⟩
  | .hbm, ⟨1, _⟩ => ⟨S8x6400x128, .bf16⟩
  | .hbm, ⟨2, _⟩ => ⟨S8x6400x128, .bf16⟩
  | .hbm, ⟨3, _⟩ => ⟨S8x6400x128, .bf16⟩
  | .hbm, ⟨4, _⟩ => ⟨S4x256x128, .f32⟩
  | .hbm, ⟨5, _⟩ => ⟨S4x256x128, .f32⟩
  | .hbm, ⟨6, _⟩ => ⟨S4x256x128, .f32⟩
  | .hbm, ⟨7, _⟩ => ⟨S8x25600x128, .bf16⟩
  | .hbm, ⟨8, _⟩ => ⟨S4x256x128, .f32⟩
  | .hbm, ⟨9, _⟩ => ⟨S4x256x128, .f32⟩
  | .hbm, ⟨10, _⟩ => ⟨S4x256x128, .f32⟩
  | .hbm, ⟨11, _⟩ => ⟨S4x256x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x6400x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c6400_i32 : BitVec 32 := 6400#32
  let v0 : BitVec 32 := Scalar.muli arg0 c6400_i32
  let c6144_i32 : BitVec 32 := 6144#32
  let v1 : BitVec 32 := Scalar.addi v0 c6144_i32
  let c0_i32 : BitVec 32 := 0#32
  let v2 : BitVec 32 := Scalar.addi v1 c0_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ColsRefIdeal.lean ====
abbrev S8x6400x128 : Shape := ⟨3, ![8, 6400, 128]⟩
abbrev S4x256x128 : Shape := ⟨3, ![4, 256, 128]⟩
abbrev S8x256x128 : Shape := ⟨3, ![8, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 61
  | .vmem => 0
  | .smem => 0
  | _ => 0

abbrev bufTy : (tb : Table) → Fin (tcTables nBuf tb) → BufTy
  | .hbm, ⟨0, _⟩ => ⟨S8x6400x128, .bf16⟩
  | .hbm, ⟨1, _⟩ => ⟨S8x6400x128, .bf16⟩
  | .hbm, ⟨2, _⟩ => ⟨S8x6400x128, .bf16⟩
  | .hbm, ⟨3, _⟩ => ⟨S8x6400x128, .bf16⟩
  | .hbm, ⟨4, _⟩ => ⟨S4x256x128, .f32⟩
  | .hbm, ⟨5, _⟩ => ⟨S4x256x128, .f32⟩
  | .hbm, ⟨6, _⟩ => ⟨S4x256x128, .f32⟩
  | .hbm, ⟨7, _⟩ => ⟨S8x256x128, .bf16⟩
  | .hbm, ⟨8, _⟩ => ⟨S8x256x128, .f32⟩
  | .hbm, ⟨9, _⟩ => ⟨S_, .f32⟩
  | .hbm, ⟨10, _⟩ => ⟨S256x128, .f32⟩
  | .hbm, ⟨11, _⟩ => ⟨S8x256x128, .bf16⟩
  | .hbm, ⟨12, _⟩ => ⟨S8x256x128, .f32⟩
  | .hbm, ⟨13, _⟩ => ⟨S_, .f32⟩
  | .hbm, ⟨14, _⟩ => ⟨S256x128, .f32⟩
  | .hbm, ⟨15, _⟩ => ⟨S8x256x128, .bf16⟩
  | .hbm, ⟨16, _⟩ => ⟨S8x256x128, .f32⟩
  | .hbm, ⟨17, _⟩ => ⟨S_, .f32⟩
  | .hbm, ⟨18, _⟩ => ⟨S256x128, .f32⟩
  | .hbm, ⟨19, _⟩ => ⟨S8x256x128, .bf16⟩
  | .hbm, ⟨20, _⟩ => ⟨S8x256x128, .f32⟩
  | .hbm, ⟨21, _⟩ => ⟨S_, .f32⟩
  | .hbm, ⟨22, _⟩ => ⟨S256x128, .f32⟩
  | .hbm, ⟨23, _⟩ => ⟨S1x256x128, .f32⟩
  | .hbm, ⟨24, _⟩ => ⟨S1x256x128, .f32⟩
  | .hbm, ⟨25, _⟩ => ⟨S1x256x128, .f32⟩
  | .hbm, ⟨26, _⟩ => ⟨S1x256x128, .f32⟩
  | .hbm, ⟨27, _⟩ => ⟨S4x256x128, .f32⟩
  | .hbm, ⟨28, _⟩ => ⟨S_, .f32⟩
  | .hbm, ⟨29, _⟩ => ⟨S4x256x128, .f32⟩
  | .hbm, ⟨30, _⟩ => ⟨S4x256x128, .f32⟩
  | .hbm, ⟨31, _⟩ => ⟨S_, .f32⟩
  | .hbm, ⟨32, _⟩ => ⟨S4x256x128, .f32⟩
  | .hbm, ⟨33, _⟩ => ⟨S4x256x128, .f32⟩
  | .hbm, ⟨34, _⟩ => ⟨S4x256x128, .f32⟩
  | .hbm, ⟨35, _⟩ => ⟨S_, .f32⟩
  | .hbm, ⟨36, _⟩ => ⟨S4x256x128, .f32⟩
  | .hbm, ⟨37, _⟩ => ⟨S4x256x128, .f32⟩
  | .hbm, ⟨38, _⟩ => ⟨S4x256x128, .f32⟩
  | .hbm, ⟨39, _⟩ => ⟨S_, .f32⟩
  | .hbm, ⟨40, _⟩ => ⟨S4x256x128, .f32⟩
  | .hbm, ⟨41, _⟩ => ⟨S4x256x128, .f32⟩
  | .hbm, ⟨42, _⟩ => ⟨S4x256x128, .f32⟩
  | .hbm, ⟨43, _⟩ => ⟨S_, .f32⟩
  | .hbm, ⟨44, _⟩ => ⟨S4x256x128, .f32⟩
  | .hbm, ⟨45, _⟩ => ⟨S4x256x128, .f32⟩
  | .hbm, ⟨46, _⟩ => ⟨S_, .f32⟩
  | .hbm, ⟨47, _⟩ => ⟨S4x256x128, .f32⟩
  | .hbm, ⟨48, _⟩ => ⟨S4x256x128, .f32⟩
  | .hbm, ⟨49, _⟩ => ⟨S4x256x128, .f32⟩
  | .hbm, ⟨50, _⟩ => ⟨S_, .f32⟩
  | .hbm, ⟨51, _⟩ => ⟨S4x256x128, .f32⟩
  | .hbm, ⟨52, _⟩ => ⟨S4x256x128, .f32⟩
  | .hbm, ⟨53, _⟩ => ⟨S4x256x128, .f32⟩
  | .hbm, ⟨54, _⟩ => ⟨S_, .f32⟩
  | .hbm, ⟨55, _⟩ => ⟨S4x256x128, .f32⟩
  | .hbm, ⟨56, _⟩ => ⟨S4x256x128, .f32⟩
  | .hbm, ⟨57, _⟩ => ⟨S4x256x128, .f32⟩
  | .hbm, ⟨58, _⟩ => ⟨S_, .f32⟩
  | .hbm, ⟨59, _⟩ => ⟨S4x256x128, .f32⟩
  | .hbm, ⟨60, _⟩ => ⟨S4x256x128, .f32⟩
  | _, _ => ⟨S8x6400x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kern.lean ====
abbrev S8x6656x128 : Shape := ⟨3, ![8, 6656, 128]⟩
abbrev S4x31x32 : Shape := ⟨3, ![4, 31, 32]⟩
abbrev S8x26624x128 : Shape := ⟨3, ![8, 26624, 128]⟩
abbrev S8x32x128 : Shape := ⟨3, ![8, 32, 128]⟩
abbrev S1x31x32 : Shape := ⟨3, ![1, 31, 32]⟩
abbrev S1x32x128 : Shape := ⟨3, ![1, 32, 128]⟩
abbrev S32x128 : Shape := ⟨2, ![32, 128]⟩
abbrev S31x32 : Shape := ⟨2, ![31, 32]⟩

abbrev nBuf : Space → Nat
  | .hbm => 12
  | .vmem => 16
  | .smem => 0
  | _ => 0

abbrev bufTy : (tb : Table) → Fin (tcTables nBuf tb) → BufTy
  | .hbm, ⟨0, _⟩ => ⟨S8x6656x128, .bf16⟩
  | .hbm, ⟨1, _⟩ => ⟨S8x6656x128, .bf16⟩
  | .hbm, ⟨2, _⟩ => ⟨S8x6656x128, .bf16⟩
  | .hbm, ⟨3, _⟩ => ⟨S8x6656x128, .bf16⟩
  | .hbm, ⟨4, _⟩ => ⟨S4x31x32, .f32⟩
  | .hbm, ⟨5, _⟩ => ⟨S4x31x32, .f32⟩
  | .hbm, ⟨6, _⟩ => ⟨S4x31x32, .f32⟩
  | .hbm, ⟨7, _⟩ => ⟨S8x26624x128, .bf16⟩
  | .hbm, ⟨8, _⟩ => ⟨S4x31x32, .f32⟩
  | .hbm, ⟨9, _⟩ => ⟨S4x31x32, .f32⟩
  | .hbm, ⟨10, _⟩ => ⟨S4x31x32, .f32⟩
  | .hbm, ⟨11, _⟩ => ⟨S4x31x32, .f32⟩
  | .local _ .vmem, ⟨0, _⟩ => ⟨S8x32x128, .bf16⟩
  | .local _ .vmem, ⟨1, _⟩ => ⟨S8x32x128, .bf16⟩
  | .local _ .vmem, ⟨2, _⟩ => ⟨S1x31x32, .f32⟩
  | .local _ .vmem, ⟨3, _⟩ => ⟨S1x31x32, .f32⟩
  | .local _ .vmem, ⟨4, _⟩ => ⟨S1x31x32, .f32⟩
  | .local _ .vmem, ⟨5, _⟩ => ⟨S1x31x32, .f32⟩
  | .local _ .vmem, ⟨6, _⟩ => ⟨S1x31x32, .f32⟩
  | .local _ .vmem, ⟨7, _⟩ => ⟨S1x31x32, .f32⟩
  | .local _ .vmem, ⟨8, _⟩ => ⟨S1x31x32, .f32⟩
  | .local _ .vmem, ⟨9, _⟩ => ⟨S1x31x32, .f32⟩
  | .local _ .vmem, ⟨10, _⟩ => ⟨S1x31x32, .f32⟩
  | .local _ .vmem, ⟨11, _⟩ => ⟨S1x31x32, .f32⟩
  | .local _ .vmem, ⟨12, _⟩ => ⟨S1x31x32, .f32⟩
  | .local _ .vmem, ⟨13, _⟩ => ⟨S1x31x32, .f32⟩
  | .local _ .vmem, ⟨14, _⟩ => ⟨S1x31x32, .f32⟩
  | .local _ .vmem, ⟨15, _⟩ => ⟨S1x31x32, .f32⟩
  | _, _ => ⟨S8x6656x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c6656_i32 : BitVec 32 := 6656#32
  let v0 : BitVec 32 := Scalar.muli arg0 c6656_i32
  let c6400_i32 : BitVec 32 := 6400#32
  let v1 : BitVec 32 := Scalar.addi v0 c6400_i32
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![c0_i32_4.toNat, v18.toNat, c0_i32_5.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x31x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x31x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x31x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x31x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x31x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x31x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x31x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernRefIdeal.lean ====
abbrev S8x6656x128 : Shape := ⟨3, ![8, 6656, 128]⟩
abbrev S4x31x32 : Shape := ⟨3, ![4, 31, 32]⟩
abbrev S8x31x32 : Shape := ⟨3, ![8, 31, 32]⟩
abbrev S_ : Shape := ⟨0, ![]⟩
abbrev S31x32 : Shape := ⟨2, ![31, 32]⟩
abbrev S1x31x32 : Shape := ⟨3, ![1, 31, 32]⟩

abbrev nBuf : Space → Nat
  | .hbm => 61
  | .vmem => 0
  | .smem => 0
  | _ => 0

abbrev bufTy : (tb : Table) → Fin (tcTables nBuf tb) → BufTy
  | .hbm, ⟨0, _⟩ => ⟨S8x6656x128, .bf16⟩
  | .hbm, ⟨1, _⟩ => ⟨S8x6656x128, .bf16⟩
  | .hbm, ⟨2, _⟩ => ⟨S8x6656x128, .bf16⟩
  | .hbm, ⟨3, _⟩ => ⟨S8x6656x128, .bf16⟩
  | .hbm, ⟨4, _⟩ => ⟨S4x31x32, .f32⟩
  | .hbm, ⟨5, _⟩ => ⟨S4x31x32, .f32⟩
  | .hbm, ⟨6, _⟩ => ⟨S4x31x32, .f32⟩
  | .hbm, ⟨7, _⟩ => ⟨S8x31x32, .bf16⟩
  | .hbm, ⟨8, _⟩ => ⟨S8x31x32, .f32⟩
  | .hbm, ⟨9, _⟩ => ⟨S_, .f32⟩
  | .hbm, ⟨10, _⟩ => ⟨S31x32, .f32⟩
  | .hbm, ⟨11, _⟩ => ⟨S8x31x32, .bf16⟩
  | .hbm, ⟨12, _⟩ => ⟨S8x31x32, .f32⟩
  | .hbm, ⟨13, _⟩ => ⟨S_, .f32⟩
  | .hbm, ⟨14, _⟩ => ⟨S31x32, .f32⟩
  | .hbm, ⟨15, _⟩ => ⟨S8x31x32, .bf16⟩
  | .hbm, ⟨16, _⟩ => ⟨S8x31x32, .f32⟩
  | .hbm, ⟨17, _⟩ => ⟨S_, .f32⟩
  | .hbm, ⟨18, _⟩ => ⟨S31x32, .f32⟩
  | .hbm, ⟨19, _⟩ => ⟨S8x31x32, .bf16⟩
  | .hbm, ⟨20, _⟩ => ⟨S8x31x32, .f32⟩
  | .hbm, ⟨21, _⟩ => ⟨S_, .f32⟩
  | .hbm, ⟨22, _⟩ => ⟨S31x32, .f32⟩
  | .hbm, ⟨23, _⟩ => ⟨S1x31x32, .f32⟩
  | .hbm, ⟨24, _⟩ => ⟨S1x31x32, .f32⟩
  | .hbm, ⟨25, _⟩ => ⟨S1x31x32, .f32⟩
  | .hbm, ⟨26, _⟩ => ⟨S1x31x32, .f32⟩
  | .hbm, ⟨27, _⟩ => ⟨S4x31x32, .f32⟩
  | .hbm, ⟨28, _⟩ => ⟨S_, .f32⟩
  | .hbm, ⟨29, _⟩ => ⟨S4x31x32, .f32⟩
  | .hbm, ⟨30, _⟩ => ⟨S4x31x32, .f32⟩
  | .hbm, ⟨31, _⟩ => ⟨S_, .f32⟩
  | .hbm, ⟨32, _⟩ => ⟨S4x31x32, .f32⟩
  | .hbm, ⟨33, _⟩ => ⟨S4x31x32, .f32⟩
  | .hbm, ⟨34, _⟩ => ⟨S4x31x32, .f32⟩
  | .hbm, ⟨35, _⟩ => ⟨S_, .f32⟩
  | .hbm, ⟨36, _⟩ => ⟨S4x31x32, .f32⟩
  | .hbm, ⟨37, _⟩ => ⟨S4x31x32, .f32⟩
  | .hbm, ⟨38, _⟩ => ⟨S4x31x32, .f32⟩
  | .hbm, ⟨39, _⟩ => ⟨S_, .f32⟩
  | .hbm, ⟨40, _⟩ => ⟨S4x31x32, .f32⟩
  | .hbm, ⟨41, _⟩ => ⟨S4x31x32, .f32⟩
  | .hbm, ⟨42, _⟩ => ⟨S4x31x32, .f32⟩
  | .hbm, ⟨43, _⟩ => ⟨S_, .f32⟩
  | .hbm, ⟨44, _⟩ => ⟨S4x31x32, .f32⟩
  | .hbm, ⟨45, _⟩ => ⟨S4x31x32, .f32⟩
  | .hbm, ⟨46, _⟩ => ⟨S_, .f32⟩
  | .hbm, ⟨47, _⟩ => ⟨S4x31x32, .f32⟩
  | .hbm, ⟨48, _⟩ => ⟨S4x31x32, .f32⟩
  | .hbm, ⟨49, _⟩ => ⟨S4x31x32, .f32⟩
  | .hbm, ⟨50, _⟩ => ⟨S_, .f32⟩
  | .hbm, ⟨51, _⟩ => ⟨S4x31x32, .f32⟩
  | .hbm, ⟨52, _⟩ => ⟨S4x31x32, .f32⟩
  | .hbm, ⟨53, _⟩ => ⟨S4x31x32, .f32⟩
  | .hbm, ⟨54, _⟩ => ⟨S_, .f32⟩
  | .hbm, ⟨55, _⟩ => ⟨S4x31x32, .f32⟩
  | .hbm, ⟨56, _⟩ => ⟨S4x31x32, .f32⟩
  | .hbm, ⟨57, _⟩ => ⟨S4x31x32, .f32⟩
  | .hbm, ⟨58, _⟩ => ⟨S_, .f32⟩
  | .hbm, ⟨59, _⟩ => ⟨S4x31x32, .f32⟩
  | .hbm, ⟨60, _⟩ => ⟨S4x31x32, .f32⟩
  | _, _ => ⟨S8x6656x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.Finite.lean ====
module

public import Idealize.ShloMosaic.PureOps.Ideal
public import Idealize.ShloMosaic.Lib.ReduceAll
public import Idealize.ShloMosaic.Lib.Pointwise

/-! Finite arrays: the test `all (|x| < ∞)` read as "every entry is a real number", and the operations of the
    extended reals on real numbers. -/

@[expose] public section

noncomputable section

namespace Cert.Finite

open Idealize.ShloMosaic

/-- Every entry of the array is a real number. -/
def Reals {s : Shape} (x : s.Idx → EReal) : Prop := ∃ r : s.Idx → ℝ, ∀ i, x i = (r i : EReal)

theorem top_bits : Ideal.ofBits .f32 0x7F800000#32 = ⊤ := by simp [Ideal.ofBits, Ideal.ieee]

theorem real_of_abs_lt {a : EReal} (h : max a (-a) < ⊤) : ∃ r : ℝ, a = (r : EReal) := by
  induction a with
  | bot => simp at h
  | coe r => exact ⟨r, rfl⟩
  | top => simp at h

/-- The test `all (|x| < ∞)` being one says that the array is real. -/
theorem reals_of_test {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) : Reals x := by
  have hs : Subsingleton (⟨0, ![]⟩ : Shape).Idx := ⟨fun a b => funext fun i => i.elim0⟩
  have hx : ∀ i, ∃ r : ℝ, x i = (r : EReal) := fun i => by
    have e' : Ideal.cmp .olt (max (x i) (-(x i))) (Ideal.ofBits .f32 0x7F800000#32) = 1#1 := Host.reduce_andi_all _ _ h hu j e i
    rw [top_bits, Ideal.cmp] at e'
    refine real_of_abs_lt (of_decide_eq_true ?_)
    by_contra hc
    rw [Bool.not_eq_true] at hc
    rw [hc] at e'
    exact absurd e' (by decide)
  choose r hr using hx
  exact ⟨r, hr⟩

/-- A conjunction of two tests holds only if both do. -/
theorem both {p q : IVec ⟨0, ![]⟩ 1} {j : (⟨0, ![]⟩ : Shape).Idx} (h : andi p q j = 1#1) : p j = 1#1 ∧ q j = 1#1 := by
  have h' : p j &&& q j = 1#1 := h
  revert h'
  generalize p j = a
  generalize q j = b
  revert a b
  decide

theorem sum_coe {n : ℕ} (f : Fin n → ℝ) : (∑ k, (f k : EReal)) = ((∑ k, f k : ℝ) : EReal) := by
  induction n with
  | zero => simp
  | succ n ih => rw [Fin.sum_univ_castSucc, Fin.sum_univ_castSucc, ih, EReal.coe_add]

/-- The logistic function of a real number. -/
def sig (r : ℝ) : ℝ := 1 / (1 + Real.exp (-r))

theorem div_sig (r : ℝ) : Ideal.div 1 (1 + Ideal.exp (-(r : EReal))) = (sig r : EReal) := by
  have h : (1 : EReal) + Ideal.exp (-(r : EReal)) = ((1 + Real.exp (-r) : ℝ) : EReal) := by
    rw [← EReal.coe_neg, Ideal.exp_coe, EReal.coe_add, EReal.coe_one]
  rw [h, Ideal.div_coe (by positivity), one_mul, sig]

theorem logistic_sig (r : ℝ) : Ideal.logistic (r : EReal) = (sig r : EReal) := div_sig r

end Cert.Finite

end
-- ==== Proof.FfnValue.lean ====
module

public import proofs.«01_k».proof.Proof.Gen.FfnIdeal.Value
public import proofs.«01_k».proof.Proof.Gen.FfnRefIdeal.Run
public import proofs.«01_k».proof.Proof.Gen.FfnRefIdeal.Read
public import proofs.«01_k».proof.Proof.Finite
public import Idealize.ShloMosaic.Lib.Pipeline.ValueKit
public import Idealize.ShloMosaic.Lib.Pointwise

/-! The two gradients of the gated product `silu gate * up`, block by block, against the reference's terms. -/

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2] ∧ win0_5.index t = ![t.val / 2, t.val % 2] :=
  (by decide +kernel : ∀ t : Fin grid0.N, _)

/-- The kernel's gradient of `gate` at a row and a column. -/
def dGate (X0 : FVec Ideal S8192x1024 .bf16) (X1 : FVec Ideal S2816x1024 .bf16) (X2 X3 : FVec Ideal S8192x2816 .bf16) : FVec Ideal S8192x2816 .bf16 :=
  fun i => (∑ k : Fin 1024, X0 (ix2 (i 0) k) * X1 (ix2 (i 1) k)) * X3 i * Ideal.logistic (X2 i)
    * (1 + X2 i * (1 - Ideal.logistic (X2 i)))

/-- The kernel's gradient of `up` at a row and a column. -/
def dUp (X0 : FVec Ideal S8192x1024 .bf16) (X1 : FVec Ideal S2816x1024 .bf16) (X2 : FVec Ideal S8192x2816 .bf16) : FVec Ideal S8192x2816 .bf16 :=
  fun i => (∑ k : Fin 1024, X0 (ix2 (i 0) k) * X1 (ix2 (i 1) k)) * X2 i * Ideal.logistic (X2 i)

theorem final4 (c : Dev nD) : (dats m 0 c).arrAt 4 (cfgs 0).N
    = dGate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; unfold outsAt0; frame_out
  canon_tiles x h using (View.cover_of_tiledBy _ ![512, 128] (by sl_kernel_rfl) y)
  all_goals (open_payloads; pointwise [dGate])
  all_goals blk_point [iblk, V, idx t]

theorem final5 (c : Dev nD) : (dats m 0 c).arrAt 5 (cfgs 0).N
    = dUp (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  canon_tiles x h using (View.cover_of_tiledBy _ ![512, 128] (by sl_kernel_rfl) y)
  all_goals (open_payloads; pointwise [dUp])
  all_goals blk_point [iblk, V, idx t]

end Cert.FfnIdeal.Value

namespace Cert.FfnRefIdeal.Value

open Cert.FfnRefIdeal Cert.FfnRefIdeal.Gen Cert.Finite

theorem ref_gate (x0 : FVec Ideal S8192x1024 .bf16) (x1 : FVec Ideal S2816x1024 .bf16) (x2 x3 : FVec Ideal S8192x2816 .bf16)
    (h0 : Reals x0) (h1 : Reals x1) (h2 : Reals x2) (h3 : Reals x3) :
    Read.val_main_v11 (F := Ideal) x0 x1 x2 x3 = Cert.FfnIdeal.Value.dGate x0 x1 x2 x3 := by
  funext i
  obtain ⟨r0, h0⟩ := h0
  obtain ⟨r1, h1⟩ := h1
  obtain ⟨r2, h2⟩ := h2
  obtain ⟨r3, h3⟩ := h3
  rw [← Read.val_main_v11_eq]
  pointwise [Cert.FfnIdeal.Value.dGate]
  simp only [h0, h1, h2, h3, div_sig, logistic_sig]
  simp only [← EReal.coe_mul, sum_coe, ← EReal.coe_one, ← EReal.coe_sub, ← EReal.coe_add]
  refine congrArg Real.toEReal ?_
  ring

theorem ref_up (x0 : FVec Ideal S8192x1024 .bf16) (x1 : FVec Ideal S2816x1024 .bf16) (x2 : FVec Ideal S8192x2816 .bf16) :
    Read.val_main_v12 (F := Ideal) x0 x1 x2 = Cert.FfnIdeal.Value.dUp x0 x1 x2 := by
  funext i
  rw [← Read.val_main_v12_eq]
  pointwise [Cert.FfnIdeal.Value.dUp]
  show _ = (∑ k : Fin 1024, x0 (ix2 (i 0) k) * x1 (ix2 (i 1) k)) * x2 i * Ideal.div 1 (1 + Ideal.exp (-x2 i))
  ac_rfl

end Cert.FfnRefIdeal.Value

end
-- ==== Proof.FfnEq.lean ====
module

public import proofs.«01_k».proof.Defs
public import proofs.«01_k».proof.Proof.FfnValue
public import proofs.«01_k».proof.Proof.Gen.Pre_ffn_finite
public import proofs.«01_k».proof.Proof.Gen.FfnRefIdeal
public import proofs.«01_k».proof.Proof.Gen.FfnIdeal
public import Idealize.ShloMosaic.Lib.Claim

/-! The gated product's backward call computes the reference's gradients. -/

@[expose] public section

set_option maxRecDepth 16384

noncomputable section

namespace Cert.FfnProof

open Idealize.ShloMosaic Idealize.ShloMosaic.TcCoe Idealize.SL.Sem Cert.Finite

theorem ref_frame (m : (ℓ : Loc Cert.FfnRefIdeal.nD Cert.FfnRefIdeal.τ Cert.FfnRefIdeal.sig) → Buf (Elt Ideal) ℓ) (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0) :=
  (θ_run _ _ _).mono (fun r h => ⟨fun c => (h c).2.2, Idealize.ShloMosaic.sem_eq_zero_of_no_sems (by decide) r.2⟩)
    (Cert.FfnRefIdeal.Value.run (F := Ideal) m ρ)

theorem finite_args (x0 x1 x2 x3)
    (h : Cert.Pre_ffn_finite.fn (F := Ideal) x0 x1 x2 x3 = fun _ => 1#1) : Reals x0 ∧ Reals x1 ∧ Reals x2 ∧ Reals x3 := by
  have e := congrFun h ix0
  have e3 := both e
  have e2 := both e3.1
  have e1 := both e2.1
  exact ⟨reals_of_test x0 _ _ _ _ e1.1, reals_of_test x1 _ _ _ _ e1.2, reals_of_test x2 _ _ _ _ e2.2, reals_of_test x3 _ _ _ _ e3.2⟩

theorem algebraic : Cert.algebraic_FfnIdeal_FfnRefIdeal_pre_ffn_finite := by
  pair_intro
  · run_from Cert.FfnIdeal.Value.run_blocks m g
  · run_from Cert.FfnRefIdeal.Value.run m' g'
    · have h := finite_args _ _ _ _ (hpre c)
      exact (Cert.FfnRefIdeal.Value.ref_gate _ _ _ _ h.1 h.2.1 h.2.2.1 h.2.2.2).trans (Cert.FfnIdeal.Value.final4 m c).symm
    · exact (Cert.FfnRefIdeal.Value.ref_up _ _ _).trans (Cert.FfnIdeal.Value.final5 m c).symm

end Cert.FfnProof

end
-- ==== Proof.AttnRun.lean ====
module

public import proofs.«01_k».proof.Proof.Gen.AttnIdeal.Frame

/-! The attention step's run: its three results are what the last boundary's memory holds, its arguments are as launched. -/

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, with the results of the last boundary and the arguments unchanged. -/
theorem ends : θ_run defs (onTc (τ := τ) (main (F := F))) ⟨m, fun _ => 0, ρ⟩ (fun r => ∀ c : Dev nD,
      r.2.mem ((c.tc : Thread nD τ).loc main_v31) = W12 m ρ c (Proc.devRef .tc main_v31)
      ∧ r.2.mem ((c.tc : Thread nD τ).loc main_v46) = W12 m ρ c (Proc.devRef .tc main_v46)
      ∧ r.2.mem ((c.tc : Thread nD τ).loc main_v42_3) = W12 m ρ c (Proc.devRef .tc main_v42_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m ρ c) ∗ R c)) (Tₙ := Tₙ m ρ)
    (hch := by refine ⟨?_, ?_, ?_, ?_, ?_, ?_, ?_, ?_, ?_, ?_, ?_, ?_, ?_⟩ <;> exact fun _ => .rfl)
    (hinit := Pipeline.initEach L lv fun c => ?_)
    (QY := fun c s => ∀ b ∈ Pipeline.ucRefs τ sig, s.mem (((c : Thread nD τ)).1, b) = W12 m ρ c b)
    (hfin := fun c s' => ?_)
    (hQ := fun s h _ c => ?_)
  · iintro Hu
    imodintro
    isplitl [Hu]
    · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) by rw [BI.bigSep_emp_const])
      iempintro
  · rw [show unscopedBufs c (fun b => m ((c : Thread nD τ).loc b)) = StableHlo.held (c : Thread nD τ) (Pipeline.ucRefs τ sig) (W0 m ρ c)
        from Pipeline.unscopedBufs_held c (W0 m ρ c)]
    iintro ⟨⟨Hh, -, HO, -, Hp, -⟩, -⟩
    imodintro
    isplitl [Hh]
    · iexact Hh
    isplitl [Hp]
    · iexists _
      iexact Hp
    · iexists ∅
      iexact HO
  · iintro ⟨⟨Hh, -⟩, HSI⟩
    unfold StableHlo.held
    imodintro
    iapply (pointsTo_read_all (Pipeline.ucRefs τ sig) (fun b => (((c : Thread nD τ)).1, b)) (W12 m ρ c) s')
    isplitl [Hh] <;> iassumption
  · have out (b) (hb) := h c _ (mem_uc b hb)
    exact ⟨out main_v31 (by decide), out main_v46 (by decide), out main_v42_3 (by decide),
      (out main_arg0 (by decide)).trans (W12_main_arg0 m ρ c), (out main_arg1 (by decide)).trans (W12_main_arg1 m ρ c),
      (out main_arg2 (by decide)).trans (W12_main_arg2 m ρ c), (out main_arg3 (by decide)).trans (W12_main_arg3 m ρ c),
      (out main_arg4 (by decide)).trans (W12_main_arg4 m ρ c), (out main_arg5 (by decide)).trans (W12_main_arg5 m ρ c)⟩

end Cert.AttnIdeal.Gen
end
-- ==== Proof.Soft.lean ====
module

public import proofs.«01_k».proof.Proof.Finite
public import Mathlib.Analysis.SpecialFunctions.Log.Basic

/-! Masked softmax weights with a sink, over the real numbers: what the shifted exponentials, their sum and the row
    logarithm come to, whatever the shift. -/

@[expose] public section

noncomputable section

namespace Cert.Soft

open Idealize.ShloMosaic Cert.Finite

variable {n : ℕ} (p : Fin n → Prop) [DecidablePred p] (s : Fin n → ℝ) (k : ℝ)

/-- A masked score: `-∞` where the mask is off. -/
def sc (j : Fin n) : EReal := if p j then (s j : EReal) else ⊥

/-- The unshifted numerator. -/
def num (j : Fin n) : ℝ := if p j then Real.exp (s j) else 0

/-- The row's total: the numerators and the sink's. -/
def tot : ℝ := (∑ j, num p s j) + Real.exp k

/-- The softmax weight. -/
def wt (j : Fin n) : ℝ := num p s j / tot p s k

/-- The sink's weight. -/
def wk : ℝ := Real.exp k / tot p s k

theorem num_nonneg (j : Fin n) : 0 ≤ num p s j := by
  unfold num; split
  · exact (Real.exp_pos _).le
  · exact le_rfl

theorem tot_pos : 0 < tot p s k := add_pos_of_nonneg_of_pos (Finset.sum_nonneg fun j _ => num_nonneg p s j) (Real.exp_pos k)

theorem tot_ne : tot p s k ≠ 0 := (tot_pos p s k).ne'

theorem ite_coe (c : Prop) [Decidable c] (a b : ℝ) : (if c then (a : EReal) else (b : EReal)) = ((if c then a else b : ℝ) : EReal) := by
  split <;> rfl

theorem bot_bits : Ideal.ofBits .f32 0xFF800000#32 = ⊥ := by simp [Ideal.ofBits, Ideal.ieee]

/-- The row's maximum with the sink is a real number. -/
theorem exists_max : ∃ μ : ℝ, max (Finset.fold max (Ideal.ofBits .f32 0xFF800000#32) (sc p s) Finset.univ) (k : EReal) = (μ : EReal) := by
  have h1 : max (Finset.fold max (Ideal.ofBits .f32 0xFF800000#32) (sc p s) Finset.univ) (k : EReal) < ⊤ := by
    refine max_lt ?_ (EReal.coe_lt_top k)
    rw [Finset.fold_max_lt, bot_bits]
    refine ⟨bot_lt_top, fun j _ => ?_⟩
    unfold sc; split
    · exact EReal.coe_lt_top _
    · exact bot_lt_top
  have h2 : ⊥ < max (Finset.fold max (Ideal.ofBits .f32 0xFF800000#32) (sc p s) Finset.univ) (k : EReal) :=
    lt_of_lt_of_le (EReal.bot_lt_coe k) (le_max_right _ _)
  exact ⟨_, (EReal.coe_toReal h1.ne h2.ne').symm⟩

theorem exp_sc (μ : ℝ) (j : Fin n) : Ideal.exp (sc p s j - (μ : EReal)) = ((num p s j * Real.exp (-μ) : ℝ) : EReal) := by
  unfold sc num; split
  · rw [← EReal.coe_sub, Ideal.exp_coe, sub_eq_add_neg, Real.exp_add]
  · rw [EReal.bot_sub, Ideal.exp_bot, zero_mul, EReal.coe_zero]

theorem exp_sink (μ : ℝ) : Ideal.exp ((k : EReal) - (μ : EReal)) = ((Real.exp k * Real.exp (-μ) : ℝ) : EReal) := by
  rw [← EReal.coe_sub, Ideal.exp_coe, sub_eq_add_neg, Real.exp_add]

theorem den (μ : ℝ) : (∑ j, Ideal.exp (sc p s j - (μ : EReal))) + Ideal.exp ((k : EReal) - (μ : EReal))
    = ((tot p s k * Real.exp (-μ) : ℝ) : EReal) := by
  simp only [exp_sc, exp_sink, sum_coe, ← EReal.coe_add]
  rw [← Finset.sum_mul, ← add_mul, tot]

theorem den_ne (μ : ℝ) : tot p s k * Real.exp (-μ) ≠ 0 := mul_ne_zero (tot_ne p s k) (Real.exp_pos _).ne'

/-- The weight, by the reciprocal of the sum. -/
theorem weight_mul (μ : ℝ) (j : Fin n) : ((num p s j * Real.exp (-μ) : ℝ) : EReal) * Ideal.div 1 ((tot p s k * Real.exp (-μ) : ℝ) : EReal)
    = (wt p s k j : EReal) := by
  rw [Ideal.div_coe (den_ne p s k μ), one_mul, ← EReal.coe_mul]
  refine congrArg Real.toEReal ?_
  have h1 := tot_ne p s k
  have h2 := (Real.exp_pos (-μ)).ne'
  unfold wt; field_simp

/-- The weight, by a division. -/
theorem weight_div (μ : ℝ) (j : Fin n) : Ideal.div ((num p s j * Real.exp (-μ) : ℝ) : EReal) ((tot p s k * Real.exp (-μ) : ℝ) : EReal)
    = (wt p s k j : EReal) := by
  rw [← weight_mul p s k μ j, Ideal.div_coe (den_ne p s k μ), Ideal.div_coe (den_ne p s k μ), one_mul]

/-- The row's logarithm. -/
theorem row_log (μ : ℝ) : (μ : EReal) + Ideal.log ((tot p s k * Real.exp (-μ) : ℝ) : EReal) = (Real.log (tot p s k) : EReal) := by
  have h : ¬ tot p s k * Real.exp (-μ) ≤ 0 := not_le.mpr (mul_pos (tot_pos p s k) (Real.exp_pos _))
  rw [Ideal.log_coe, if_neg h, ← EReal.coe_add, Real.log_mul (tot_ne p s k) (Real.exp_pos _).ne', Real.log_exp]
  refine congrArg Real.toEReal ?_
  ring

/-- The weight, by the saved logarithm. -/
theorem weight_log (j : Fin n) : Ideal.exp (sc p s j - (Real.log (tot p s k) : EReal)) = (wt p s k j : EReal) := by
  rw [exp_sc, Real.exp_neg, Real.exp_log (tot_pos p s k), ← div_eq_mul_inv, wt]

theorem sink_log : Ideal.exp ((k : EReal) - (Real.log (tot p s k) : EReal)) = (wk p s k : EReal) := by
  rw [exp_sink, Real.exp_neg, Real.exp_log (tot_pos p s k), ← div_eq_mul_inv, wk]

/-- A row of the weights against a column of values, as the shifted exponentials compute it. -/
theorem row_out (v : Fin n → ℝ) : (∑ j, Ideal.exp (sc p s j - max (Finset.fold max (Ideal.ofBits .f32 0xFF800000#32) (fun j => sc p s j) Finset.univ) (k : EReal))
      * Ideal.div 1 ((∑ j, Ideal.exp (sc p s j - max (Finset.fold max (Ideal.ofBits .f32 0xFF800000#32) (fun j => sc p s j) Finset.univ) (k : EReal)))
        + Ideal.exp ((k : EReal) - max (Finset.fold max (Ideal.ofBits .f32 0xFF800000#32) (fun j => sc p s j) Finset.univ) (k : EReal)))
      * (v j : EReal)) = ((∑ j, wt p s k j * v j : ℝ) : EReal) := by
  obtain ⟨μ, hμ⟩ := exists_max p s k
  simp only [hμ, den]
  simp only [exp_sc, weight_mul, ← EReal.coe_mul, sum_coe]

theorem row_lse : max (Finset.fold max (Ideal.ofBits .f32 0xFF800000#32) (fun j => sc p s j) Finset.univ) (k : EReal)
      + Ideal.log ((∑ j, Ideal.exp (sc p s j - max (Finset.fold max (Ideal.ofBits .f32 0xFF800000#32) (fun j => sc p s j) Finset.univ) (k : EReal)))
        + Ideal.exp ((k : EReal) - max (Finset.fold max (Ideal.ofBits .f32 0xFF800000#32) (fun j => sc p s j) Finset.univ) (k : EReal)))
    = (Real.log (tot p s k) : EReal) := by
  obtain ⟨μ, hμ⟩ := exists_max p s k
  simp only [hμ, den, row_log]

end Cert.Soft

end
-- ==== Proof.AttnSpec.lean ====
module

public import proofs.«01_k».proof.Proof.Soft

/-! Banded attention with sinks over the real numbers, one block of 128 queries against its band of 256 keys: the output,
    the row logarithms and the gradients. `n` is the block, `Q` the rotated, scaled queries, `K`, `V` the band, `sk` the
    sinks and `G` the output's cotangent; a head `h` reads columns `h * 64 + d` of `Q` and `h / 4 * 64 + d` of `K`, `V`. -/

@[expose] public section

noncomputable section

namespace Cert.Attn.Spec

open Cert.Soft

/-- Query row `r` of block `n` sees key `j` of the band. -/
abbrev msk (n r : ℕ) (j : Fin 256) : Prop := (j.val ≤ r + 128 ∧ r < j.val) ∧ (0 < n ∨ 128 ≤ j.val)

variable (n : ℕ) (Q K V : ℕ → ℕ → ℝ) (sk : ℕ → ℝ) (G : ℕ → ℕ → ℝ)

def S (h r : ℕ) (j : Fin 256) : ℝ := ∑ d : Fin 64, Q r (h * 64 + d) * K j (h / 4 * 64 + d)

def W (h r : ℕ) (j : Fin 256) : ℝ := wt (msk n r) (S Q K h r) (sk h) j

def O (h r d : ℕ) : ℝ := ∑ j : Fin 256, W n Q K sk h r j * V j (h / 4 * 64 + d)

def L (h r : ℕ) : ℝ := Real.log (tot (msk n r) (S Q K h r) (sk h))

/-- The sum over a row of the output times its cotangent. -/
def D (h r : ℕ) : ℝ := ∑ d : Fin 64, G r (h * 64 + d) * O n Q K V sk h r d

def dS (h r : ℕ) (j : Fin 256) : ℝ :=
  W n Q K sk h r j * ((∑ d : Fin 64, G r (h * 64 + d) * V j (h / 4 * 64 + d)) - D n Q K V sk G h r)

def dQ (h r d : ℕ) : ℝ := ∑ j : Fin 256, dS n Q K V sk G h r j * K j (h / 4 * 64 + d)

def dK (kh : ℕ) (j : Fin 256) (d : ℕ) : ℝ :=
  ∑ g : Fin 4, ∑ r : Fin 128, dS n Q K V sk G (kh * 4 + g) r j * Q r ((kh * 4 + g) * 64 + d)

def dV (kh : ℕ) (j : Fin 256) (d : ℕ) : ℝ :=
  ∑ g : Fin 4, ∑ r : Fin 128, W n Q K sk (kh * 4 + g) r j * G r ((kh * 4 + g) * 64 + d)

def dSink (h : ℕ) : ℝ := -∑ r : Fin 128, wk (msk n r) (S Q K h r) (sk h) * D n Q K V sk G h r

/-- The rotation of a row by tables given per lane: the pairs are lanes `j`, `j + 8` of each head. -/
def swap (t : ℕ → ℝ) (j : ℕ) : ℝ := if j % 64 < 8 then t (j + 8) else if j % 64 < 16 then t (j - 8) else 0

def rope (c s t : ℕ → ℝ) (j : ℕ) : ℝ := t j * c (j % 128) + swap t j * s (j % 128)

/-- The rotation's transpose. -/
def ropeT (c s t : ℕ → ℝ) (j : ℕ) : ℝ := t j * c (j % 128) + swap (fun k => t k * s (k % 128)) j

end Cert.Attn.Spec

end
-- ==== Proof.AttnWords.lean ====
module

public import proofs.«01_k».proof.Proof.AttnSpec
public import proofs.«01_k».proof.Proof.Gen.AttnIdeal
public import Idealize.ShloMosaic.Lib.Pointwise

/-! The kernels' lane and mask words as conditions on natural numbers. -/

@[expose] public section

set_option maxRecDepth 16384

noncomputable section

namespace Cert.Attn.Words

open Idealize.ShloMosaic Cert.Attn.Spec

/-- The remainder of `x` by the word `m`, corrected to a floor: the printed form of `x % m`. -/
abbrev modw (m x : BitVec 32) : BitVec 32 :=
  Scalar.select
    (IntOp.andi
      (IntOp.xori (IntOp.cmpi CmpIPredicate.slt (IntOp.remsi ArithUnit.vector x (Scalar.select (Scalar.cmpi CmpIPredicate.eq m 0#32) 1#32 m)) 0#32)
        (Scalar.cmpi CmpIPredicate.slt (Scalar.select (Scalar.cmpi CmpIPredicate.eq m 0#32) 1#32 m) 0#32))
      (IntOp.cmpi CmpIPredicate.ne (IntOp.remsi ArithUnit.vector x (Scalar.select (Scalar.cmpi CmpIPredicate.eq m 0#32) 1#32 m)) 0#32))
    (IntOp.addi (IntOp.remsi ArithUnit.vector x (Scalar.select (Scalar.cmpi CmpIPredicate.eq m 0#32) 1#32 m))
      (Scalar.select (Scalar.cmpi CmpIPredicate.eq m 0#32) 1#32 m))
    (IntOp.remsi ArithUnit.vector x (Scalar.select (Scalar.cmpi CmpIPredicate.eq m 0#32) 1#32 m))

theorem mod64_512 : ∀ j : Fin 512, modw 64#32 (BitVec.ofNat 32 j.val) = BitVec.ofNat 32 (j.val % 64) := by decide +kernel
theorem mod64_128 : ∀ j : Fin 128, modw 64#32 (BitVec.ofNat 32 j.val) = BitVec.ofNat 32 (j.val % 64) := by decide +kernel
theorem mod128_512 : ∀ j : Fin 512, modw 128#32 (BitVec.ofNat 32 j.val) = BitVec.ofNat 32 (j.val % 128) := by decide +kernel

theorem lt8 : ∀ x : Fin 64, IntOp.cmpi CmpIPredicate.slt (BitVec.ofNat 32 x.val) 8#32 = if x.val < 8 then 1#1 else 0#1 := by decide +kernel
theorem lt16 : ∀ x : Fin 64, IntOp.cmpi CmpIPredicate.slt (BitVec.ofNat 32 x.val) 16#32 = if x.val < 16 then 1#1 else 0#1 := by decide +kernel

theorem sel_ite {α : Type} (c : Prop) [Decidable c] (a b : α) : Scalar.select (if c then 1#1 else 0#1) a b = if c then a else b := by
  split <;> rfl

theorem lt8' (j : ℕ) : IntOp.cmpi CmpIPredicate.slt (BitVec.ofNat 32 (j % 64)) 8#32 = if j % 64 < 8 then 1#1 else 0#1 :=
  lt8 ⟨j % 64, Nat.mod_lt _ (by decide)⟩
theorem lt16' (j : ℕ) : IntOp.cmpi CmpIPredicate.slt (BitVec.ofNat 32 (j % 64)) 16#32 = if j % 64 < 16 then 1#1 else 0#1 :=
  lt16 ⟨j % 64, Nat.mod_lt _ (by decide)⟩

theorem band : ∀ (r : Fin 128) (j : Fin 256),
    IntOp.andi (IntOp.cmpi CmpIPredicate.sge (IntOp.subi (IntOp.addi (BitVec.ofNat 32 r.val) 128#32) (BitVec.ofNat 32 j.val)) 0#32)
      (IntOp.cmpi CmpIPredicate.slt (IntOp.subi (IntOp.addi (BitVec.ofNat 32 r.val) 128#32) (BitVec.ofNat 32 j.val)) 128#32)
    = if j.val ≤ r.val + 128 ∧ r.val < j.val then 1#1 else 0#1 := by decide +kernel

theorem here : ∀ (n : Fin 32) (j : Fin 256),
    IntOp.ori (Scalar.cmpi CmpIPredicate.sgt (BitVec.ofNat 32 n.val) 0#32) (IntOp.cmpi CmpIPredicate.sge (BitVec.ofNat 32 j.val) 128#32)
    = if 0 < n.val ∨ 128 ≤ j.val then 1#1 else 0#1 := by decide +kernel

theorem and_ite (c d : Prop) [Decidable c] [Decidable d] :
    IntOp.andi (if c then 1#1 else 0#1) (if d then 1#1 else 0#1) = if c ∧ d then 1#1 else 0#1 := by
  by_cases hc : c <;> by_cases hd : d <;> simp [hc, hd, IntOp.andi]

theorem mask_word (n : Fin 32) (r : Fin 512) (j : Fin 256) :
    IntOp.andi
      (IntOp.andi
        (IntOp.cmpi CmpIPredicate.sge (IntOp.subi (IntOp.addi (modw 128#32 (BitVec.ofNat 32 r.val)) 128#32) (BitVec.ofNat 32 j.val)) 0#32)
        (IntOp.cmpi CmpIPredicate.slt (IntOp.subi (IntOp.addi (modw 128#32 (BitVec.ofNat 32 r.val)) 128#32) (BitVec.ofNat 32 j.val)) 128#32))
      (IntOp.ori (Scalar.cmpi CmpIPredicate.sgt (BitVec.ofNat 32 n.val) 0#32) (IntOp.cmpi CmpIPredicate.sge (BitVec.ofNat 32 j.val) 128#32))
    = if msk n.val (r.val % 128) j then 1#1 else 0#1 := by
  rw [mod128_512, band ⟨r.val % 128, Nat.mod_lt _ (by decide)⟩ j, here, and_ite]

theorem lad (f : ℕ → ℝ) (j : ℕ) (h : j < 512) :
    (if j < 128 then (f j : EReal) else if j - 128 < 128 then (f (j - 128) : EReal)
      else if j - 128 - 128 < 128 then (f (j - 128 - 128) : EReal) else (f (j - 128 - 128 - 128) : EReal)) = (f (j % 128) : EReal) := by
  split_ifs <;> refine congrArg (fun k => ((f k : ℝ) : EReal)) ?_ <;> omega

theorem swp512 (t : ℕ → ℝ) (j : ℕ) (h : j < 512) :
    (if j % 64 < 8 then (t ((j + 512 - 504) % 512) : EReal) else if j % 64 < 16 then (t ((j + 512 - 8) % 512) : EReal) else 0)
      = (swap t j : EReal) := by
  unfold swap; split_ifs
  · refine congrArg (fun k => ((t k : ℝ) : EReal)) ?_; omega
  · refine congrArg (fun k => ((t k : ℝ) : EReal)) ?_; omega
  · rfl

theorem swp128 (t : ℕ → ℝ) (j : ℕ) (h : j < 128) :
    (if j % 64 < 8 then (t ((j + 128 - 120) % 128) : EReal) else if j % 64 < 16 then (t ((j + 128 - 8) % 128) : EReal) else 0)
      = (swap t j : EReal) := by
  unfold swap; split_ifs
  · refine congrArg (fun k => ((t k : ℝ) : EReal)) ?_; omega
  · refine congrArg (fun k => ((t k : ℝ) : EReal)) ?_; omega
  · rfl

theorem eighth_bits : Ideal.ofBits .f32 0x3E000000#32 = (((8 : ℝ)⁻¹ : ℝ) : EReal) := by
  simp [Ideal.ofBits, Ideal.ieee]
  rw [← EReal.coe_mul]
  norm_num

theorem stack_lo (f : ℕ → ℕ → ℝ) (R x : ℕ) (h : R < 512) :
    (if R < 128 then (f R x : EReal) else if R - 128 < 128 then (f (R - 128) (64 + x) : EReal)
      else if R - 128 - 128 < 128 then (f (R - 128 - 128) (128 + x) : EReal) else (f (R - 128 - 128 - 128) (192 + x) : EReal))
    = (f (R % 128) ((0 * 4 + R / 128) * 64 + x) : EReal) := by
  split_ifs <;> refine congrArg Real.toEReal (congrArg₂ f ?_ ?_) <;> omega

theorem stack_hi (f : ℕ → ℕ → ℝ) (R x : ℕ) (h : R < 512) :
    (if R < 128 then (f R (256 + x) : EReal) else if R - 128 < 128 then (f (R - 128) (320 + x) : EReal)
      else if R - 128 - 128 < 128 then (f (R - 128 - 128) (384 + x) : EReal) else (f (R - 128 - 128 - 128) (448 + x) : EReal))
    = (f (R % 128) ((1 * 4 + R / 128) * 64 + x) : EReal) := by
  split_ifs <;> refine congrArg Real.toEReal (congrArg₂ f ?_ ?_) <;> omega

theorem mask_named : Named.named (F := Ideal) Cert.AttnIdeal.κ "mask" (φ := .f32) 0xF149F2CA#32 = (⊥ : EReal) :=
  IdealRules.named_const.ideal_named_scalar _ _ _ _ rfl

end Cert.Attn.Words

end
-- ==== Proof.AttnFwd.lean ====
module

public import proofs.«01_k».proof.Proof.Gen.AttnIdeal.Frame.Region1
public import proofs.«01_k».proof.Proof.AttnWords
public import Idealize.ShloMosaic.Lib.Pipeline.ValueKit
public import Idealize.ShloMosaic.Lib.Pointwise

/-! The forward attention call's block: its rotated queries and keys, scores, weights, output and row logarithms. -/

@[expose] public section

set_option maxRecDepth 16384

noncomputable section

open Idealize.ShloMosaic Idealize.ShloMosaic.TcCoe Idealize.SL.Sem

namespace Cert.Attn

open Cert.Attn.Spec Cert.Soft Cert.Finite

/-- The rotated, scaled queries of a block. -/
def Qb (q ct st : ℕ → ℕ → ℝ) (r j : ℕ) : ℝ := rope (ct r) (st r) (q r) j * 8⁻¹

/-- The rotated keys of a band: the previous block's rows, then its own. -/
def Kb (kv kvp ct st cp sp : ℕ → ℕ → ℝ) (j d : ℕ) : ℝ :=
  if j < 128 then rope (cp j) (sp j) (kvp j) d else rope (ct (j - 128)) (st (j - 128)) (kv (j - 128)) d

/-- The values of a band. -/
def Vb (kv kvp : ℕ → ℕ → ℝ) (j d : ℕ) : ℝ := if j < 128 then kvp j (128 + d) else kv (j - 128) (128 + d)

theorem rope_lt (c s t : ℕ → ℝ) (j : ℕ) (h : j < 128) : rope c s t j = t j * c j + swap t j * s j := by
  rw [rope, Nat.mod_eq_of_lt h]

end Cert.Attn

namespace Cert.Attn.Fwd

open Cert.AttnIdeal Cert.AttnIdeal.Gen Cert.Attn Cert.Attn.Spec Cert.Attn.Words Cert.Soft Cert.Finite

theorem zero_val : ((0 : Fin 2) : ℕ) = 0 := rfl

theorem one_val : ((1 : Fin 2) : ℕ) = 1 := rfl

variable (i : grid1.Coords) (x0 : Vec Ideal S2x128x512 .f32) (x1 : Vec Ideal S2x128x256 .f32) (x2 : Vec Ideal S2x128x256 .f32) (x3 : Vec Ideal S2x128x128 .f32) (x4 : Vec Ideal S2x128x128 .f32) (x5 : Vec Ideal S2x128x128 .f32) (x6 : Vec Ideal S2x128x128 .f32) (x7 : Vec Ideal S1x8 .f32)
  (q kv kvp ct st cp sp : ℕ → ℕ → ℕ → ℝ) (sk : ℕ → ℝ)

section
variable (H0 : ∀ b r j, x0 (ix3 b r j) = (q b r j : EReal)) (H1 : ∀ b r j, x1 (ix3 b r j) = (kv b r j : EReal))
  (H2 : ∀ b r j, x2 (ix3 b r j) = (kvp b r j : EReal)) (H3 : ∀ b r j, x3 (ix3 b r j) = (ct b r j : EReal))
  (H4 : ∀ b r j, x4 (ix3 b r j) = (st b r j : EReal)) (H5 : ∀ b r j, x5 (ix3 b r j) = (cp b r j : EReal))
  (H6 : ∀ b r j, x6 (ix3 b r j) = (sp b r j : EReal)) (H7 : ∀ b j, x7 (ix2 b j) = (sk j : EReal))
include H0 H3 H4 in
theorem q0 (r : Fin 128) (j : Fin 512) : k1_pay108 i x0 x1 x2 x3 x4 x5 x6 x7 (ix2 r j) = (Qb (q 0) (ct 0) (st 0) r j : EReal) := by
  unfold k1_pay108 k1_pay107 k1_pay106
  pointwise [k1_pay7, k1_pay6, k1_pay5]
  simp only [mod64_512, lt8', lt16', sel_ite, H0, H3, H4, zero_val, one_val, dite_eq_ite, eighth_bits]
  rw [lad (ct 0 r) j j.2, lad (st 0 r) j j.2, swp512 (q 0 r) j j.2]
  simp only [← EReal.coe_mul, ← EReal.coe_add]
  rfl

include H1 H2 H3 H4 H5 H6 in
theorem k0 (r : Fin 256) (j : Fin 128) : k1_pay115 i x0 x1 x2 x3 x4 x5 x6 x7 (ix2 r j) = (Kb (kv 0) (kvp 0) (ct 0) (st 0) (cp 0) (sp 0) r j : EReal) := by
  unfold k1_pay115 k1_pay114 k1_pay113 k1_pay112 k1_pay111 k1_pay110 k1_pay109 k1_pay107 k1_pay106
  pointwise [k1_pay5,k1_pay6,k1_pay8,k1_pay16,k1_pay11,k1_pay12,k1_pay13,k1_pay14,k1_pay15,k1_pay10,k1_pay9]
  simp only [mod64_128, lt8', lt16', sel_ite, H1, H2, H3, H4, H5, H6, zero_val, one_val, dite_eq_ite]
  rw [swp128 (kvp 0 r) j j.2, swp128 (kv 0 (r - 128)) j j.2]
  simp only [← EReal.coe_mul, ← EReal.coe_add, ite_coe]
  rw [Kb, rope_lt _ _ _ _ j.2, rope_lt _ _ _ _ j.2]

include H1 H2 in
theorem v0 (r : Fin 256) (j : Fin 128) : k1_pay116 i x0 x1 x2 x3 x4 x5 x6 x7 (ix2 r j) = (Vb (kv 0) (kvp 0) r j : EReal) := by
  unfold k1_pay116 k1_pay109
  pointwise [k1_pay17, k1_pay8, k1_pay9]
  simp only [H1, H2, zero_val, one_val, dite_eq_ite, ite_coe]
  rfl

include H0 H3 H4 in
theorem q1 (r : Fin 128) (j : Fin 512) : k1_pay126 i x0 x1 x2 x3 x4 x5 x6 x7 (ix2 r j) = (Qb (q 1) (ct 1) (st 1) r j : EReal) := by
  unfold k1_pay126
  pointwise [k1_pay57, k1_pay53, k1_pay54, k1_pay55, k1_pay56, k1_pay51, k1_pay52]
  simp only [mod64_512, lt8', lt16', sel_ite, H0, H3, H4, zero_val, one_val, dite_eq_ite, eighth_bits]
  rw [lad (ct 1 r) j j.2, lad (st 1 r) j j.2, swp512 (q 1 r) j j.2]
  simp only [← EReal.coe_mul, ← EReal.coe_add]
  rfl

include H1 H2 H3 H4 H5 H6 in
theorem k1 (r : Fin 256) (j : Fin 128) : k1_pay133 i x0 x1 x2 x3 x4 x5 x6 x7 (ix2 r j) = (Kb (kv 1) (kvp 1) (ct 1) (st 1) (cp 1) (sp 1) r j : EReal) := by
  unfold k1_pay133 k1_pay132 k1_pay131 k1_pay130 k1_pay129 k1_pay128 k1_pay127
  pointwise [k1_pay70, k1_pay69, k1_pay68, k1_pay67, k1_pay66, k1_pay65, k1_pay52, k1_pay60, k1_pay61, k1_pay51, k1_pay62, k1_pay63, k1_pay64, k1_pay59, k1_pay58]
  simp only [mod64_128, lt8', lt16', sel_ite, H1, H2, H3, H4, H5, H6, zero_val, one_val, dite_eq_ite]
  rw [swp128 (kvp 1 r) j j.2, swp128 (kv 1 (r - 128)) j j.2]
  simp only [← EReal.coe_mul, ← EReal.coe_add, ite_coe]
  rw [Kb, rope_lt _ _ _ _ j.2, rope_lt _ _ _ _ j.2]

include H1 H2 in
theorem v1 (r : Fin 256) (j : Fin 128) : k1_pay134 i x0 x1 x2 x3 x4 x5 x6 x7 (ix2 r j) = (Vb (kv 1) (kvp 1) r j : EReal) := by
  unfold k1_pay134 k1_pay127
  pointwise [k1_pay71, k1_pay58, k1_pay59]
  simp only [H1, H2, zero_val, one_val, dite_eq_ite, ite_coe]
  rfl

theorem mask (R : Fin 512) (j : Fin 256) : k1_pay104 i x0 x1 x2 x3 x4 x5 x6 x7 (ix2 R j) = if msk (i 0).val (R.val % 128) j then 1#1 else 0#1 := by
  unfold k1_pay104
  pointwise [k1_pay3]
  exact mask_word (i 0) R j

/-- The masked scores of four stacked heads. -/
def scores (b kh : ℕ) (R : ℕ) (j : Fin 256) : EReal :=
  sc (msk (i 0).val (R % 128)) (S (Qb (q b) (ct b) (st b)) (Kb (kv b) (kvp b) (ct b) (st b) (cp b) (sp b)) (kh * 4 + R / 128) (R % 128)) j

include H0 H1 H2 H3 H4 H5 H6 in
theorem sc00 (R : Fin 512) (j : Fin 256) : k1_pay117 i x0 x1 x2 x3 x4 x5 x6 x7 (ix2 R j) = scores i q kv kvp ct st cp sp 0 0 R j := by
  have hk := k0 i x0 x1 x2 x3 x4 x5 x6 x7 kv kvp ct st cp sp H1 H2 H3 H4 H5 H6
  have hq := q0 i x0 x1 x2 x3 x4 x5 x6 x7 q ct st H0 H3 H4
  unfold k1_pay115 at hk
  unfold k1_pay117
  pointwise [k1_pay19]
  simp only [hk, hq, mask, sel_ite, mask_named, dite_eq_ite, stack_lo (Qb (q 0) (ct 0) (st 0)) R _ R.2, ← EReal.coe_mul, sum_coe]
  refine if_congr Iff.rfl (congrArg Real.toEReal (Finset.sum_congr rfl fun x _ => ?_)) rfl
  refine congrArg₂ (· * ·) rfl (congrArg (Kb (kv 0) (kvp 0) (ct 0) (st 0) (cp 0) (sp 0) j) ?_)
  omega

include H0 H1 H2 H3 H4 H5 H6 in
theorem sc01 (R : Fin 512) (j : Fin 256) : k1_pay36 (k1_pay104 i x0 x1 x2 x3 x4 x5 x6 x7) (k1_pay108 i x0 x1 x2 x3 x4 x5 x6 x7) (k1_pay115 i x0 x1 x2 x3 x4 x5 x6 x7) (ix2 R j) = scores i q kv kvp ct st cp sp 0 1 R j := by
  have hk := k0 i x0 x1 x2 x3 x4 x5 x6 x7 kv kvp ct st cp sp H1 H2 H3 H4 H5 H6
  have hq := q0 i x0 x1 x2 x3 x4 x5 x6 x7 q ct st H0 H3 H4
  pointwise [k1_pay36]
  simp only [hk, hq, mask, sel_ite, mask_named, dite_eq_ite, stack_hi (Qb (q 0) (ct 0) (st 0)) R _ R.2, ← EReal.coe_mul, sum_coe]
  refine if_congr Iff.rfl (congrArg Real.toEReal (Finset.sum_congr rfl fun x _ => ?_)) rfl
  refine congrArg₂ (· * ·) rfl (congrArg (Kb (kv 0) (kvp 0) (ct 0) (st 0) (cp 0) (sp 0) j) ?_)
  omega

include H0 H1 H2 H3 H4 H5 H6 in
theorem sc10 (R : Fin 512) (j : Fin 256) : k1_pay73 (k1_pay104 i x0 x1 x2 x3 x4 x5 x6 x7) (k1_pay126 i x0 x1 x2 x3 x4 x5 x6 x7) (k1_pay128 i x0 x1 x2 x3 x4 x5 x6 x7) (k1_pay129 i x0 x1 x2 x3 x4 x5 x6 x7) (k1_pay130 i x0 x1 x2 x3 x4 x5 x6 x7) (k1_pay131 i x0 x1 x2 x3 x4 x5 x6 x7) (k1_pay132 i x0 x1 x2 x3 x4 x5 x6 x7) (ix2 R j) = scores i q kv kvp ct st cp sp 1 0 R j := by
  have hk := k1 i x0 x1 x2 x3 x4 x5 x6 x7 kv kvp ct st cp sp H1 H2 H3 H4 H5 H6
  have hq := q1 i x0 x1 x2 x3 x4 x5 x6 x7 q ct st H0 H3 H4
  unfold k1_pay133 at hk
  pointwise [k1_pay73]
  simp only [hk, hq, mask, sel_ite, mask_named, dite_eq_ite, stack_lo (Qb (q 1) (ct 1) (st 1)) R _ R.2, ← EReal.coe_mul, sum_coe]
  refine if_congr Iff.rfl (congrArg Real.toEReal (Finset.sum_congr rfl fun x _ => ?_)) rfl
  refine congrArg₂ (· * ·) rfl (congrArg (Kb (kv 1) (kvp 1) (ct 1) (st 1) (cp 1) (sp 1) j) ?_)
  omega

include H0 H1 H2 H3 H4 H5 H6 in
theorem sc11 (R : Fin 512) (j : Fin 256) : k1_pay90 (k1_pay104 i x0 x1 x2 x3 x4 x5 x6 x7) (k1_pay126 i x0 x1 x2 x3 x4 x5 x6 x7) (k1_pay133 i x0 x1 x2 x3 x4 x5 x6 x7) (ix2 R j) = scores i q kv kvp ct st cp sp 1 1 R j := by
  have hk := k1 i x0 x1 x2 x3 x4 x5 x6 x7 kv kvp ct st cp sp H1 H2 H3 H4 H5 H6
  have hq := q1 i x0 x1 x2 x3 x4 x5 x6 x7 q ct st H0 H3 H4
  pointwise [k1_pay90]
  simp only [hk, hq, mask, sel_ite, mask_named, dite_eq_ite, stack_hi (Qb (q 1) (ct 1) (st 1)) R _ R.2, ← EReal.coe_mul, sum_coe]
  refine if_congr Iff.rfl (congrArg Real.toEReal (Finset.sum_congr rfl fun x _ => ?_)) rfl
  refine congrArg₂ (· * ·) rfl (congrArg (Kb (kv 1) (kvp 1) (ct 1) (st 1) (cp 1) (sp 1) j) ?_)
  omega

theorem scores_at (b kh g R r : ℕ) (hR : R = g * 128 + r) (hr : r < 128) (j : Fin 256) : scores i q kv kvp ct st cp sp b kh R j
    = sc (msk (i 0).val r) (S (Qb (q b) (ct b) (st b)) (Kb (kv b) (kvp b) (ct b) (st b) (cp b) (sp b)) (kh * 4 + g) r) j := by
  unfold scores
  rw [show R % 128 = r by omega, show R / 128 = g by omega]

/-- The block's output. -/
def outN (b r c : ℕ) : ℝ :=
  O (i 0).val (Qb (q b) (ct b) (st b)) (Kb (kv b) (kvp b) (ct b) (st b) (cp b) (sp b)) (Vb (kv b) (kvp b)) sk (c / 64) r (c % 64)

theorem scores_0 (b kh : ℕ) (r : Fin 128) (j : Fin 256) : scores i q kv kvp ct st cp sp b kh r j
    = sc (msk (i 0).val r) (S (Qb (q b) (ct b) (st b)) (Kb (kv b) (kvp b) (ct b) (st b) (cp b) (sp b)) (kh * 4 + 0) r) j :=
  scores_at i q kv kvp ct st cp sp b kh 0 r r (by omega) r.2 j
theorem scores_1 (b kh : ℕ) (r : Fin 128) (j : Fin 256) : scores i q kv kvp ct st cp sp b kh (128 + r) j
    = sc (msk (i 0).val r) (S (Qb (q b) (ct b) (st b)) (Kb (kv b) (kvp b) (ct b) (st b) (cp b) (sp b)) (kh * 4 + 1) r) j :=
  scores_at i q kv kvp ct st cp sp b kh 1 (128 + r) r (by omega) r.2 j
theorem scores_2 (b kh : ℕ) (r : Fin 128) (j : Fin 256) : scores i q kv kvp ct st cp sp b kh (256 + r) j
    = sc (msk (i 0).val r) (S (Qb (q b) (ct b) (st b)) (Kb (kv b) (kvp b) (ct b) (st b) (cp b) (sp b)) (kh * 4 + 2) r) j :=
  scores_at i q kv kvp ct st cp sp b kh 2 (256 + r) r (by omega) r.2 j
theorem scores_3 (b kh : ℕ) (r : Fin 128) (j : Fin 256) : scores i q kv kvp ct st cp sp b kh (384 + r) j
    = sc (msk (i 0).val r) (S (Qb (q b) (ct b) (st b)) (Kb (kv b) (kvp b) (ct b) (st b) (cp b) (sp b)) (kh * 4 + 3) r) j :=
  scores_at i q kv kvp ct st cp sp b kh 3 (384 + r) r (by omega) r.2 j

theorem piece_eq {b h r : ℕ} (b' r' c d e : ℕ) (hb : b' = b) (hr : r' = r) (hc : c = h * 64 + d) (hd : d < 64) (he : e = h / 4 * 64 + d) :
    (∑ j : Fin 256, wt (msk (i 0).val r) (S (Qb (q b) (ct b) (st b)) (Kb (kv b) (kvp b) (ct b) (st b) (cp b) (sp b)) h r) (sk h) j * Vb (kv b) (kvp b) j e)
      = outN i q kv kvp ct st cp sp sk b' r' c := by
  subst hb hr he
  unfold outN
  rw [show c / 64 = h by omega, show c % 64 = d by omega]
  rfl

include H0 H1 H2 H3 H4 H5 H6 H7 in
theorem out8 (y : S2x128x512.Idx) : out1_8 i x0 x1 x2 x3 x4 x5 x6 x7 y = (outN i q kv kvp ct st cp sp sk (y 0) (y 1) (y 2) : EReal) := by
  unfold out1_8
  canon_tiles x h
  all_goals
    have e00 := sc00 i x0 x1 x2 x3 x4 x5 x6 x7 q kv kvp ct st cp sp H0 H1 H2 H3 H4 H5 H6
    have e01 := sc01 i x0 x1 x2 x3 x4 x5 x6 x7 q kv kvp ct st cp sp H0 H1 H2 H3 H4 H5 H6
    have e10 := sc10 i x0 x1 x2 x3 x4 x5 x6 x7 q kv kvp ct st cp sp H0 H1 H2 H3 H4 H5 H6
    have e11 := sc11 i x0 x1 x2 x3 x4 x5 x6 x7 q kv kvp ct st cp sp H0 H1 H2 H3 H4 H5 H6
    have w0 := v0 i x0 x1 x2 x3 x4 x5 x6 x7 kv kvp H1 H2
    have w1 := v1 i x0 x1 x2 x3 x4 x5 x6 x7 kv kvp H1 H2
    have g0 := scores_0 i q kv kvp ct st cp sp
    have g1 := scores_1 i q kv kvp ct st cp sp
    have g2 := scores_2 i q kv kvp ct st cp sp
    have g3 := scores_3 i q kv kvp ct st cp sp
    clear H0 H1 H2 H3 H4 H5 H6
    idx_vars x
    pointwise [k1_pay1, k1_pay2, k1_pay20, k1_pay21, k1_pay22, k1_pay23, k1_pay24, k1_pay25, k1_pay26, k1_pay27, k1_pay28, k1_pay29, k1_pay30, k1_pay31, k1_pay32, k1_pay33, k1_pay34, k1_pay35, k1_pay37, k1_pay38, k1_pay39, k1_pay40, k1_pay41, k1_pay42, k1_pay43, k1_pay44, k1_pay45, k1_pay46, k1_pay47, k1_pay48, k1_pay49, k1_pay50, k1_pay74, k1_pay75, k1_pay76, k1_pay77, k1_pay78, k1_pay79, k1_pay80, k1_pay81, k1_pay82, k1_pay83, k1_pay84, k1_pay85, k1_pay86, k1_pay87, k1_pay88, k1_pay89, k1_pay91, k1_pay92, k1_pay93, k1_pay94, k1_pay95, k1_pay96, k1_pay97, k1_pay98, k1_pay99, k1_pay100, k1_pay101, k1_pay102, k1_pay105, k1_pay4, k1_pay118, k1_pay119, k1_pay120, k1_pay121, k1_pay122, k1_pay123, k1_pay124, k1_pay125, k1_pay135, k1_pay136, k1_pay137, k1_pay138, k1_pay139, k1_pay140, k1_pay141, k1_pay142]
    simp (disch := omega) only [dif_pos, dif_neg, e00, e01, e10, e11, w0, w1, g0, g1, g2, g3, H7]
    rw [row_out]
    refine congrArg Real.toEReal ?_
    rw [h0, h1, h2]
  all_goals
    refine piece_eq i q kv kvp ct st cp sp sk _ _ _ ↑x2 _ ?_ ?_ ?_ ?_ ?_ <;> simp <;> omega

/-- Eight selects on the lane's number pick the lane's own entry. -/
theorem pick8 (j : Fin 8) (f : ℕ → EReal) (z : EReal) :
    Scalar.select (IntOp.cmpi .eq (BitVec.ofNat 32 j.val) 7#32) (f 7) (Scalar.select (IntOp.cmpi .eq (BitVec.ofNat 32 j.val) 6#32) (f 6) (Scalar.select (IntOp.cmpi .eq (BitVec.ofNat 32 j.val) 5#32) (f 5) (Scalar.select (IntOp.cmpi .eq (BitVec.ofNat 32 j.val) 4#32) (f 4) (Scalar.select (IntOp.cmpi .eq (BitVec.ofNat 32 j.val) 3#32) (f 3) (Scalar.select (IntOp.cmpi .eq (BitVec.ofNat 32 j.val) 2#32) (f 2) (Scalar.select (IntOp.cmpi .eq (BitVec.ofNat 32 j.val) 1#32) (f 1) (Scalar.select (IntOp.cmpi .eq (BitVec.ofNat 32 j.val) 0#32) (f 0) (z)))))))) = f j := by
  fin_cases j <;> rfl

/-- The second output: the logarithm of the row's total. -/
def lseN (b r h : ℕ) : ℝ := Real.log (tot (msk (i 0).val r) (S (Qb (q b) (ct b) (st b)) (Kb (kv b) (kvp b) (ct b) (st b) (cp b) (sp b)) h r) (sk h))

include H0 H1 H2 H3 H4 H5 H6 H7 in
theorem out9 (y) : out1_9 i x0 x1 x2 x3 x4 x5 x6 x7 y = (lseN i q kv kvp ct st cp sp sk (y 0) (y 1) (y 2) : EReal) := by
  unfold out1_9
  canon_tiles x h
  all_goals
    have e00 := sc00 i x0 x1 x2 x3 x4 x5 x6 x7 q kv kvp ct st cp sp H0 H1 H2 H3 H4 H5 H6
    have e01 := sc01 i x0 x1 x2 x3 x4 x5 x6 x7 q kv kvp ct st cp sp H0 H1 H2 H3 H4 H5 H6
    have e10 := sc10 i x0 x1 x2 x3 x4 x5 x6 x7 q kv kvp ct st cp sp H0 H1 H2 H3 H4 H5 H6
    have e11 := sc11 i x0 x1 x2 x3 x4 x5 x6 x7 q kv kvp ct st cp sp H0 H1 H2 H3 H4 H5 H6
    have w0 := v0 i x0 x1 x2 x3 x4 x5 x6 x7 kv kvp H1 H2
    have w1 := v1 i x0 x1 x2 x3 x4 x5 x6 x7 kv kvp H1 H2
    have g0 := scores_0 i q kv kvp ct st cp sp
    have g1 := scores_1 i q kv kvp ct st cp sp
    have g2 := scores_2 i q kv kvp ct st cp sp
    have g3 := scores_3 i q kv kvp ct st cp sp
    clear H0 H1 H2 H3 H4 H5 H6
    idx_vars x
    pointwise [k1_pay1, k1_pay2, k1_pay4, k1_pay18, k1_pay20, k1_pay21, k1_pay22, k1_pay23, k1_pay24, k1_pay25, k1_pay26, k1_pay27, k1_pay28, k1_pay29, k1_pay30, k1_pay31, k1_pay32, k1_pay33, k1_pay34, k1_pay35, k1_pay37, k1_pay38, k1_pay39, k1_pay40, k1_pay41, k1_pay42, k1_pay43, k1_pay44, k1_pay45, k1_pay46, k1_pay47, k1_pay48, k1_pay49, k1_pay50, k1_pay72, k1_pay74, k1_pay75, k1_pay76, k1_pay77, k1_pay78, k1_pay79, k1_pay80, k1_pay81, k1_pay82, k1_pay83, k1_pay84, k1_pay85, k1_pay86, k1_pay87, k1_pay88, k1_pay89, k1_pay91, k1_pay92, k1_pay93, k1_pay94, k1_pay95, k1_pay96, k1_pay97, k1_pay98, k1_pay99, k1_pay100, k1_pay101, k1_pay102, k1_pay103, k1_pay105, k1_pay118, k1_pay119, k1_pay120, k1_pay121, k1_pay122, k1_pay123, k1_pay124, k1_pay125, k1_pay135, k1_pay136, k1_pay137, k1_pay138, k1_pay139, k1_pay140, k1_pay141, k1_pay142]
    simp (disch := omega) only [dif_pos, dif_neg, e00, e01, e10, e11, g0, g1, g2, g3, H7]
    simp only [row_lse]
    rw [h0, h1, h2]
    first | rw [show 1 + x0.val = 1 by omega] | rw [show x0.val = 0 by omega]
    exact (pick8 x2 (fun l => (lseN i q kv kvp ct st cp sp sk _ x1.val l : EReal)) _)

end

end Cert.Attn.Fwd
end
-- ==== Proof.AttnBlock.lean ====
module

public import proofs.«01_k».proof.Proof.Gen.AttnIdeal.Skeleton
public import proofs.«01_k».proof.Proof.AttnWords
public import Idealize.ShloMosaic.Lib.Pipeline.ValueKit
public import Idealize.ShloMosaic.Lib.Pointwise

/-! The backward attention call's block as functions of the tiles it loads: one sequence's rotated queries, keys and
    values, and, for the four heads that share a key head, the weights and the gradients. -/

@[expose] public section

set_option maxRecDepth 16384

noncomputable section

open Idealize.ShloMosaic Idealize.ShloMosaic.TcCoe Idealize.SL.Sem

namespace Cert.Attn.Block

open Cert.AttnIdeal Cert.AttnIdeal.Gen

/-- Each lane's number within its head of 64. -/
def lane512 : IVec S128x512 32 :=
  let m : BitVec 32 := Scalar.select (Scalar.cmpi .eq 64#32 0#32) 1#32 64#32
  let j : IVec S128x512 32 := iota .tc S128x512 32 [1] iota_S128x512_d1_w32
  select (andi (xori (cmpi .slt (remsi j (broadcast S128x512 m)) (broadcast S128x512 0#32))
      (broadcastTo S128x512 (broadcast S128x512 (Scalar.cmpi .slt m 0#32)) broadcasts_S128x512_S128x512))
      (cmpi .ne (remsi j (broadcast S128x512 m)) (broadcast S128x512 0#32)))
    (addi (remsi j (broadcast S128x512 m)) (broadcast S128x512 m)) (remsi j (broadcast S128x512 m))

def lane128 : IVec S128x128 32 :=
  let m : BitVec 32 := Scalar.select (Scalar.cmpi .eq 64#32 0#32) 1#32 64#32
  let j : IVec S128x128 32 := iota .tc S128x128 32 [1] iota_S128x128_d1_w32
  select (andi (xori (cmpi .slt (remsi j (broadcast S128x128 m)) (broadcast S128x128 0#32))
      (broadcastTo S128x128 (broadcast S128x128 (Scalar.cmpi .slt m 0#32)) broadcasts_S128x128_S128x128))
      (cmpi .ne (remsi j (broadcast S128x128 m)) (broadcast S128x128 0#32)))
    (addi (remsi j (broadcast S128x128 m)) (broadcast S128x128 m)) (remsi j (broadcast S128x128 m))

/-- The paired lane, or zero outside the rotated part. -/
def pair512 (x : FVec Ideal S128x512 .f32) : FVec Ideal S128x512 .f32 :=
  select (cmpi .slt lane512 (broadcast S128x512 8#32)) (dynamicRotate 1 504#32 none x rotates_S128x512_d1)
    (select (cmpi .slt lane512 (broadcast S128x512 16#32)) (dynamicRotate 1 8#32 none x rotates_S128x512_d1)
      (broadcast S128x512 (Scalar.ofBits .f32 0x00000000#32)))

def pair128 (x : FVec Ideal S128x128 .f32) : FVec Ideal S128x128 .f32 :=
  select (cmpi .slt lane128 (broadcast S128x128 8#32)) (dynamicRotate 1 120#32 none x rotates_S128x128_d1)
    (select (cmpi .slt lane128 (broadcast S128x128 16#32)) (dynamicRotate 1 8#32 none x rotates_S128x128_d1)
      (broadcast S128x128 (Scalar.ofBits .f32 0x00000000#32)))

def tile4 (c : FVec Ideal S128x128 .f32) : FVec Ideal S128x512 .f32 :=
  concatenate S128x512 1 [⟨S128x128, c⟩, ⟨S128x128, c⟩, ⟨S128x128, c⟩, ⟨S128x128, c⟩] concatenates_S128x128_S128x128_S128x128_S128x128_S128x512_d1

def tab (c : Vec Ideal S1x128x128 .f32) : FVec Ideal S128x128 .f32 := shapeCast S128x128 c shapeCasts_S1x128x128_S128x128

def rot (t c s : FVec Ideal S128x128 .f32) : FVec Ideal S128x128 .f32 := addf (mulf t c) (mulf (pair128 t) s)

def rotT (t c s : FVec Ideal S128x128 .f32) : FVec Ideal S128x128 .f32 := addf (mulf t c) (pair128 (mulf t s))

/-- The rotated, scaled queries. -/
def bq (q : Vec Ideal S1x128x512 .f32) (c s : Vec Ideal S1x128x128 .f32) : FVec Ideal S128x512 .f32 :=
  let x : FVec Ideal S128x512 .f32 := shapeCast S128x512 q shapeCasts_S1x128x512_S128x512
  mulf (addf (mulf x (tile4 (tab c))) (mulf (pair512 x) (tile4 (tab s)))) (broadcast S128x512 (Scalar.ofBits .f32 0x3E000000#32))

/-- The rotated keys of the band: the block before, then the block. -/
def bk (kv kvp : Vec Ideal S1x128x256 .f32) (c s cp sp : Vec Ideal S1x128x128 .f32) : FVec Ideal S256x128 .f32 :=
  let x : FVec Ideal S128x256 .f32 := shapeCast S128x256 kv shapeCasts_S1x128x256_S128x256
  let y : FVec Ideal S128x256 .f32 := shapeCast S128x256 kvp shapeCasts_S1x128x256_S128x256
  concatenate S256x128 0
    [⟨S128x128, rot (extractStridedSlice S128x128 ![0, 0] y slices_S128x256_o0_0_S128x128) (tab cp) (tab sp)⟩,
     ⟨S128x128, rot (extractStridedSlice S128x128 ![0, 0] x slices_S128x256_o0_0_S128x128) (tab c) (tab s)⟩]
    concatenates_S128x128_S128x128_S256x128_d0

/-- The values of the band. -/
def bv (kv kvp : Vec Ideal S1x128x256 .f32) : FVec Ideal S256x128 .f32 :=
  let x : FVec Ideal S128x256 .f32 := shapeCast S128x256 kv shapeCasts_S1x128x256_S128x256
  let y : FVec Ideal S128x256 .f32 := shapeCast S128x256 kvp shapeCasts_S1x128x256_S128x256
  concatenate S256x128 0
    [⟨S128x128, extractStridedSlice S128x128 ![0, 128] y slices_S128x256_o0_128_S128x128⟩,
     ⟨S128x128, extractStridedSlice S128x128 ![0, 128] x slices_S128x256_o0_128_S128x128⟩]
    concatenates_S128x128_S128x128_S256x128_d0

/-- A stored 16-bit tile, widened. -/
def wide (o : Vec Ideal S1x128x512 .bf16) : FVec Ideal S128x512 .f32 :=
  let x : FVec Ideal S128x512 .bf16 := shapeCast S128x512 o shapeCasts_S1x128x512_S128x512
  extf .f32 x bitsLt_bf16_f32

/-- The first four heads, one above the other; and the last four. -/
def stack0 (t : FVec Ideal S128x512 .f32) : FVec Ideal S512x64 .f32 :=
  concatenate S512x64 0
    [⟨S128x64, extractStridedSlice S128x64 ![0, 0] t slices_S128x512_o0_0_S128x64⟩,
     ⟨S128x64, extractStridedSlice S128x64 ![0, 64] t slices_S128x512_o0_64_S128x64⟩,
     ⟨S128x64, extractStridedSlice S128x64 ![0, 128] t slices_S128x512_o0_128_S128x64⟩,
     ⟨S128x64, extractStridedSlice S128x64 ![0, 192] t slices_S128x512_o0_192_S128x64⟩] concatenates_S128x64_S128x64_S128x64_S128x64_S512x64_d0

def stack1 (t : FVec Ideal S128x512 .f32) : FVec Ideal S512x64 .f32 :=
  concatenate S512x64 0
    [⟨S128x64, extractStridedSlice S128x64 ![0, 256] t slices_S128x512_o0_256_S128x64⟩,
     ⟨S128x64, extractStridedSlice S128x64 ![0, 320] t slices_S128x512_o0_320_S128x64⟩,
     ⟨S128x64, extractStridedSlice S128x64 ![0, 384] t slices_S128x512_o0_384_S128x64⟩,
     ⟨S128x64, extractStridedSlice S128x64 ![0, 448] t slices_S128x512_o0_448_S128x64⟩] concatenates_S128x64_S128x64_S128x64_S128x64_S512x64_d0

def half0 (t : FVec Ideal S256x128 .f32) : FVec Ideal S256x64 .f32 := extractStridedSlice S256x64 ![0, 0] t slices_S256x128_o0_0_S256x64
def half1 (t : FVec Ideal S256x128 .f32) : FVec Ideal S256x64 .f32 := extractStridedSlice S256x64 ![0, 64] t slices_S256x128_o0_64_S256x64

def logs0 (l : Vec Ideal S1x128x8 .f32) : FVec Ideal S512x1 .f32 :=
  let x : FVec Ideal S128x8 .f32 := shapeCast S128x8 l shapeCasts_S1x128x8_S128x8
  concatenate S512x1 0
    [⟨S128x1, extractStridedSlice S128x1 ![0, 0] x slices_S128x8_o0_0_S128x1⟩,
     ⟨S128x1, extractStridedSlice S128x1 ![0, 1] x slices_S128x8_o0_1_S128x1⟩,
     ⟨S128x1, extractStridedSlice S128x1 ![0, 2] x slices_S128x8_o0_2_S128x1⟩,
     ⟨S128x1, extractStridedSlice S128x1 ![0, 3] x slices_S128x8_o0_3_S128x1⟩] concatenates_S128x1_S128x1_S128x1_S128x1_S512x1_d0

def logs1 (l : Vec Ideal S1x128x8 .f32) : FVec Ideal S512x1 .f32 :=
  let x : FVec Ideal S128x8 .f32 := shapeCast S128x8 l shapeCasts_S1x128x8_S128x8
  concatenate S512x1 0
    [⟨S128x1, extractStridedSlice S128x1 ![0, 4] x slices_S128x8_o0_4_S128x1⟩,
     ⟨S128x1, extractStridedSlice S128x1 ![0, 5] x slices_S128x8_o0_5_S128x1⟩,
     ⟨S128x1, extractStridedSlice S128x1 ![0, 6] x slices_S128x8_o0_6_S128x1⟩,
     ⟨S128x1, extractStridedSlice S128x1 ![0, 7] x slices_S128x8_o0_7_S128x1⟩] concatenates_S128x1_S128x1_S128x1_S128x1_S512x1_d0

/-- One sink down a column of 128 rows. -/
def sinkCol (x : FVec Ideal S1x1 .f32) : FVec Ideal S128x1 .f32 :=
  broadcastTo S128x1 (shapeCast S1x1 x shapeCasts_S1x1_S1x1) broadcasts_S1x1_S128x1

def sinks0 (s : Vec Ideal S1x8 .f32) : FVec Ideal S512x1 .f32 :=
  let x : FVec Ideal S1x8 .f32 := shapeCast S1x8 s shapeCasts_S1x8_S1x8
  concatenate S512x1 0
    [⟨S128x1, sinkCol (extractStridedSlice S1x1 ![0, 0] x slices_S1x8_o0_0_S1x1)⟩,
     ⟨S128x1, sinkCol (extractStridedSlice S1x1 ![0, 1] x slices_S1x8_o0_1_S1x1)⟩,
     ⟨S128x1, sinkCol (extractStridedSlice S1x1 ![0, 2] x slices_S1x8_o0_2_S1x1)⟩,
     ⟨S128x1, sinkCol (extractStridedSlice S1x1 ![0, 3] x slices_S1x8_o0_3_S1x1)⟩] concatenates_S128x1_S128x1_S128x1_S128x1_S512x1_d0

def sinks1 (s : Vec Ideal S1x8 .f32) : FVec Ideal S512x1 .f32 :=
  let x : FVec Ideal S1x8 .f32 := shapeCast S1x8 s shapeCasts_S1x8_S1x8
  concatenate S512x1 0
    [⟨S128x1, sinkCol (extractStridedSlice S1x1 ![0, 4] x slices_S1x8_o0_4_S1x1)⟩,
     ⟨S128x1, sinkCol (extractStridedSlice S1x1 ![0, 5] x slices_S1x8_o0_5_S1x1)⟩,
     ⟨S128x1, sinkCol (extractStridedSlice S1x1 ![0, 6] x slices_S1x8_o0_6_S1x1)⟩,
     ⟨S128x1, sinkCol (extractStridedSlice S1x1 ![0, 7] x slices_S1x8_o0_7_S1x1)⟩] concatenates_S128x1_S128x1_S128x1_S128x1_S512x1_d0

/-- The weights again from the row logarithms. -/
def bw (mask : IVec S512x256 1) (q : FVec Ideal S512x64 .f32) (k : FVec Ideal S256x64 .f32) (l : FVec Ideal S512x1 .f32) :
    FVec Ideal S512x256 .f32 :=
  exp (subf (select mask (matmul dot_S512x64_S256x64_S512x256_1_1_0_0_n_n none (truncf .bf16 q bitsLt_bf16_f32) (truncf .bf16 k bitsLt_bf16_f32)
      (constant S512x256 .f32 0x00000000#32)) (broadcast S512x256 (Named.named κ "mask" 0xF149F2CA#32)))
    (broadcastTo S512x256 l broadcasts_S512x1_S512x256))

/-- Each row's sum of the output times its cotangent. -/
def bdelta (g o : FVec Ideal S512x64 .f32) : FVec Ideal S512x1 .f32 :=
  shapeCast S512x1 (multiReduction .add [1] S512 (mulf g o) 0x00000000#32 reduces_S512x64_S512 (.inl rfl) rfl) shapeCasts_S512_S512x1

def bds (w : FVec Ideal S512x256 .f32) (g : FVec Ideal S512x64 .f32) (v : FVec Ideal S256x64 .f32) (d : FVec Ideal S512x1 .f32) :
    FVec Ideal S512x256 .f32 :=
  mulf w (subf (matmul dot_S512x64_S256x64_S512x256_1_1_0_0_n_n none (truncf .bf16 g bitsLt_bf16_f32) (truncf .bf16 v bitsLt_bf16_f32)
      (constant S512x256 .f32 0x00000000#32)) (broadcastTo S512x256 d broadcasts_S512x1_S512x256))

def bdq (ds : FVec Ideal S512x256 .f32) (k : FVec Ideal S256x64 .f32) : FVec Ideal S512x64 .f32 :=
  matmul dot_S512x256_S256x64_S512x64_1_0_0_1_n_n none (truncf .bf16 ds bitsLt_bf16_f32) (truncf .bf16 k bitsLt_bf16_f32) (constant S512x64 .f32 0x00000000#32)

/-- The transposed product that gives the keys' and the values' gradients. -/
def bdk (ds : FVec Ideal S512x256 .f32) (q : FVec Ideal S512x64 .f32) : FVec Ideal S256x64 .f32 :=
  matmul dot_S512x256_S512x64_S256x64_0_0_1_1_n_n none (truncf .bf16 ds bitsLt_bf16_f32) (truncf .bf16 q bitsLt_bf16_f32) (constant S256x64 .f32 0x00000000#32)

def bsink (k l d : FVec Ideal S512x1 .f32) : FVec Ideal S512x1 .f32 := mulf (exp (subf k l)) d

/-- Minus the sum of one head's 128 rows. -/
def rowSum (x : FVec Ideal S128x1 .f32) : Ideal .f32 :=
  Scalar.subf (Scalar.ofBits .f32 0x00000000#32)
    (extractAt ![0, 0, 0] (shapeCast S1x1x1 (multiReduction .add [1, 2] S1 (shapeCast S1x128x1 x shapeCasts_S128x1_S1x128x1) 0x00000000#32
      reduces_S1x128x1_S1 (.inl rfl) rfl) shapeCasts_S1_S1x1x1) inpos_S1x1x1_p0_0_0)

/-- Adds `x` at lane `h`. -/
def addLane (h : BitVec 32) (x : Ideal .f32) (acc : FVec Ideal S1x8 .f32) : FVec Ideal S1x8 .f32 :=
  addf acc (select (cmpi .eq (iota .tc S1x8 32 [1] iota_S1x8_d1_w32) (broadcast S1x8 h)) (broadcast S1x8 x)
    (broadcast S1x8 (Scalar.ofBits .f32 0x00000000#32)))

def addHeads (h0 h1 h2 h3 : BitVec 32) (x : FVec Ideal S512x1 .f32) (acc : FVec Ideal S1x8 .f32) : FVec Ideal S1x8 .f32 :=
  addLane h3 (rowSum (extractStridedSlice S128x1 ![384, 0] x slices_S512x1_o384_0_S128x1))
    (addLane h2 (rowSum (extractStridedSlice S128x1 ![256, 0] x slices_S512x1_o256_0_S128x1))
      (addLane h1 (rowSum (extractStridedSlice S128x1 ![128, 0] x slices_S512x1_o128_0_S128x1))
        (addLane h0 (rowSum (extractStridedSlice S128x1 ![0, 0] x slices_S512x1_o0_0_S128x1)) acc)))

/-- Eight heads' columns side by side. -/
def cols (a b : FVec Ideal S512x64 .f32) : FVec Ideal S128x512 .f32 :=
  concatenate S128x512 1
    [⟨S128x64, extractStridedSlice S128x64 ![0, 0] a slices_S512x64_o0_0_S128x64⟩,
     ⟨S128x64, extractStridedSlice S128x64 ![128, 0] a slices_S512x64_o128_0_S128x64⟩,
     ⟨S128x64, extractStridedSlice S128x64 ![256, 0] a slices_S512x64_o256_0_S128x64⟩,
     ⟨S128x64, extractStridedSlice S128x64 ![384, 0] a slices_S512x64_o384_0_S128x64⟩,
     ⟨S128x64, extractStridedSlice S128x64 ![0, 0] b slices_S512x64_o0_0_S128x64⟩,
     ⟨S128x64, extractStridedSlice S128x64 ![128, 0] b slices_S512x64_o128_0_S128x64⟩,
     ⟨S128x64, extractStridedSlice S128x64 ![256, 0] b slices_S512x64_o256_0_S128x64⟩,
     ⟨S128x64, extractStridedSlice S128x64 ![384, 0] b slices_S512x64_o384_0_S128x64⟩]
    concatenates_S128x64_S128x64_S128x64_S128x64_S128x64_S128x64_S128x64_S128x64_S128x512_d1

/-- The queries' rotation, transposed. -/
def back (t c s : FVec Ideal S128x512 .f32) : FVec Ideal S128x512 .f32 := addf (mulf t c) (pair512 (mulf t s))

/-- The queries' gradient from its eight heads: scaled and rotated back. -/
def outq (a b : FVec Ideal S512x64 .f32) (c s : Vec Ideal S1x128x128 .f32) : FVec Ideal S1x128x512 .bf16 :=
  shapeCast S1x128x512 (truncf .bf16 (back (mulf (cols a b) (broadcast S128x512 (Scalar.ofBits .f32 0x3E000000#32))) (tile4 (tab c)) (tile4 (tab s))) bitsLt_bf16_f32)
    shapeCasts_S128x512_S1x128x512

def join (a b : FVec Ideal S256x64 .f32) : FVec Ideal S256x128 .f32 :=
  concatenate S256x128 1 [⟨S256x64, a⟩, ⟨S256x64, b⟩] concatenates_S256x64_S256x64_S256x128_d1

def own (t : FVec Ideal S256x128 .f32) : FVec Ideal S128x128 .f32 := extractStridedSlice S128x128 ![128, 0] t slices_S256x128_o128_0_S128x128
def before (t : FVec Ideal S256x128 .f32) : FVec Ideal S128x128 .f32 := extractStridedSlice S128x128 ![0, 0] t slices_S256x128_o0_0_S128x128
def store (t : FVec Ideal S128x128 .f32) : FVec Ideal S1x128x128 .f32 := shapeCast S1x128x128 t shapeCasts_S128x128_S1x128x128

/-- The tiles one sequence's part of the body loads. -/
structure Tiles where
  q : Vec Ideal S1x128x512 .f32
  kv : Vec Ideal S1x128x256 .f32
  kvp : Vec Ideal S1x128x256 .f32
  c : Vec Ideal S1x128x128 .f32
  s : Vec Ideal S1x128x128 .f32
  cp : Vec Ideal S1x128x128 .f32
  sp : Vec Ideal S1x128x128 .f32
  o : Vec Ideal S1x128x512 .bf16
  l : Vec Ideal S1x128x8 .f32
  g : Vec Ideal S1x128x512 .bf16

variable (mask : IVec S512x256 1) (T : Tiles) (sk : Vec Ideal S1x8 .f32)

def w0 := bw mask (stack0 (bq T.q T.c T.s)) (half0 (bk T.kv T.kvp T.c T.s T.cp T.sp)) (logs0 T.l)
def w1 := bw mask (stack1 (bq T.q T.c T.s)) (half1 (bk T.kv T.kvp T.c T.s T.cp T.sp)) (logs1 T.l)
def d0 := bdelta (stack0 (wide T.g)) (stack0 (wide T.o))
def d1 := bdelta (stack1 (wide T.g)) (stack1 (wide T.o))
def ds0 := bds (w0 mask T) (stack0 (wide T.g)) (half0 (bv T.kv T.kvp)) (d0 T)
def ds1 := bds (w1 mask T) (stack1 (wide T.g)) (half1 (bv T.kv T.kvp)) (d1 T)

def dq := outq (bdq (ds0 mask T) (half0 (bk T.kv T.kvp T.c T.s T.cp T.sp))) (bdq (ds1 mask T) (half1 (bk T.kv T.kvp T.c T.s T.cp T.sp))) T.c T.s
def dk := join (bdk (ds0 mask T) (stack0 (bq T.q T.c T.s))) (bdk (ds1 mask T) (stack1 (bq T.q T.c T.s)))
def dv := join (bdk (w0 mask T) (stack0 (wide T.g))) (bdk (w1 mask T) (stack1 (wide T.g)))

/-- The four stored pieces of the keys' and values' gradients: the block's own and the one before. -/
def dkOwn := store (rotT (own (dk mask T)) (tab T.c) (tab T.s))
def dvOwn := store (own (dv mask T))
def dkPrev := store (rotT (before (dk mask T)) (tab T.cp) (tab T.sp))
def dvPrev := store (before (dv mask T))

/-- The sinks' gradient of one sequence, added to `acc`. -/
def dsink (acc : FVec Ideal S1x8 .f32) : FVec Ideal S1x8 .f32 :=
  addHeads 4#32 5#32 6#32 7#32 (bsink (sinks1 sk) (logs1 T.l) (d1 T)) (addHeads 0#32 1#32 2#32 3#32 (bsink (sinks0 sk) (logs0 T.l) (d0 T)) acc)

end Cert.Attn.Block

end
-- ==== Proof.AttnBwd.lean ====
module

public import proofs.«01_k».proof.Proof.AttnBlock
public import proofs.«01_k».proof.Proof.AttnFwd

/-! The backward attention call's block over the real numbers. -/

@[expose] public section

set_option maxRecDepth 16384

noncomputable section

open Idealize.ShloMosaic Idealize.ShloMosaic.TcCoe Idealize.SL.Sem

namespace Cert.Attn.Block

open Cert.AttnIdeal Cert.AttnIdeal.Gen Cert.Attn Cert.Attn.Spec Cert.Attn.Words Cert.Soft Cert.Finite

section Stack

variable (t : FVec Ideal S128x512 .f32) (f : ℕ → ℕ → ℝ) (h : ∀ r j, t (ix2 r j) = (f r j : EReal))
include h

theorem stack0_val (R : Fin 512) (x : Fin 64) : stack0 t (ix2 R x) = (f (R % 128) ((0 * 4 + R / 128) * 64 + x) : EReal) := by
  pointwise [stack0]
  simp only [h, dite_eq_ite]
  exact (stack_lo f R x R.2).trans (by rw [Nat.zero_mul, Nat.zero_add])

theorem stack1_val (R : Fin 512) (x : Fin 64) : stack1 t (ix2 R x) = (f (R % 128) ((1 * 4 + R / 128) * 64 + x) : EReal) := by
  pointwise [stack1]
  simp only [h, dite_eq_ite]
  exact stack_hi f R x R.2

end Stack

section halves

variable (t : FVec Ideal S256x128 .f32) (f : ℕ → ℕ → ℝ) (h : ∀ j d, t (ix2 j d) = (f j d : EReal))
include h

theorem half0_val (j : Fin 256) (d : Fin 64) : half0 t (ix2 j d) = (f j (0 * 64 + d) : EReal) := by
  pointwise [half0]
  simp only [h]

theorem half1_val (j : Fin 256) (d : Fin 64) : half1 t (ix2 j d) = (f j (1 * 64 + d) : EReal) := by
  pointwise [half1]
  simp only [h]

theorem own_val (j d : Fin 128) : own t (ix2 j d) = (f (128 + j) d : EReal) := by
  pointwise [own]
  simp only [h]

theorem before_val (j d : Fin 128) : before t (ix2 j d) = (f j d : EReal) := by
  pointwise [before]
  simp only [h]

end halves

theorem logs0_val (l : Vec Ideal S1x128x8 .f32) (L : ℕ → ℕ → ℝ) (h : ∀ b r x, l (ix3 b r x) = (L x r : EReal)) (R : Fin 512) (u : Fin 1) :
    logs0 l (ix2 R u) = (L (0 * 4 + R / 128) (R % 128) : EReal) := by
  pointwise [logs0]
  simp only [h, dite_eq_ite]
  have hR := R.2
  split_ifs <;> refine congrArg Real.toEReal (congrArg₂ L ?_ ?_) <;> (try simp) <;> omega

theorem logs1_val (l : Vec Ideal S1x128x8 .f32) (L : ℕ → ℕ → ℝ) (h : ∀ b r x, l (ix3 b r x) = (L x r : EReal)) (R : Fin 512) (u : Fin 1) :
    logs1 l (ix2 R u) = (L (1 * 4 + R / 128) (R % 128) : EReal) := by
  pointwise [logs1]
  simp only [h, dite_eq_ite]
  have hR := R.2
  split_ifs <;> refine congrArg Real.toEReal (congrArg₂ L ?_ ?_) <;> (try simp) <;> omega

theorem sinks0_val (s : Vec Ideal S1x8 .f32) (k : ℕ → ℝ) (h : ∀ b x, s (ix2 b x) = (k x : EReal)) (R : Fin 512) (u : Fin 1) :
    sinks0 s (ix2 R u) = (k (0 * 4 + R / 128) : EReal) := by
  pointwise [sinks0, sinkCol]
  simp only [h, dite_eq_ite]
  have hR := R.2
  split_ifs <;> refine congrArg Real.toEReal (congrArg k ?_) <;> (try simp) <;> omega

theorem sinks1_val (s : Vec Ideal S1x8 .f32) (k : ℕ → ℝ) (h : ∀ b x, s (ix2 b x) = (k x : EReal)) (R : Fin 512) (u : Fin 1) :
    sinks1 s (ix2 R u) = (k (1 * 4 + R / 128) : EReal) := by
  pointwise [sinks1, sinkCol]
  simp only [h, dite_eq_ite]
  have hR := R.2
  split_ifs <;> refine congrArg Real.toEReal (congrArg k ?_) <;> (try simp) <;> omega

theorem mask_val (i : grid2.Coords) (R : Fin 512) (j : Fin 256) : k2_pay2 i (ix2 R j) = if msk (i 0).val (R.val % 128) j then 1#1 else 0#1 := by
  pointwise [k2_pay2]
  exact mask_word (i 0) R j

section rotation

variable (t c s : FVec Ideal S128x128 .f32) (f cf sf : ℕ → ℕ → ℝ) (ht : ∀ r j, t (ix2 r j) = (f r j : EReal))
  (hc : ∀ r j, c (ix2 r j) = (cf r j : EReal)) (hs : ∀ r j, s (ix2 r j) = (sf r j : EReal))

theorem lane128_val (r j : Fin 128) : lane128 (ix2 r j) = BitVec.ofNat 32 (j % 64) := by
  pointwise [lane128]
  exact mod64_128 j

theorem lane512_val (r : Fin 128) (j : Fin 512) : lane512 (ix2 r j) = BitVec.ofNat 32 (j % 64) := by
  pointwise [lane512]
  exact mod64_512 j

include ht in
theorem pair128_val (r j : Fin 128) : pair128 t (ix2 r j) = (swap (f r) j : EReal) := by
  pointwise [pair128]
  simp only [lane128_val, lt8', lt16', sel_ite, ht]
  exact swp128 (f r) j j.2

theorem pair512_val (t : FVec Ideal S128x512 .f32) (f : ℕ → ℕ → ℝ) (ht : ∀ r j, t (ix2 r j) = (f r j : EReal)) (r : Fin 128) (j : Fin 512) :
    pair512 t (ix2 r j) = (swap (f r) j : EReal) := by
  pointwise [pair512]
  simp only [lane512_val, lt8', lt16', sel_ite, ht]
  exact swp512 (f r) j j.2

include hc in
theorem tile4_val (r : Fin 128) (j : Fin 512) : tile4 c (ix2 r j) = (cf r (j % 128) : EReal) := by
  pointwise [tile4]
  simp only [hc, dite_eq_ite]
  exact lad (cf r) j j.2

include ht hc hs in
theorem rot_val (r j : Fin 128) : rot t c s (ix2 r j) = (rope (cf r) (sf r) (f r) j : EReal) := by
  pointwise [rot]
  rw [pair128_val t f ht, ht, hc, hs, rope_lt _ _ _ _ j.2, ← EReal.coe_mul, ← EReal.coe_mul, ← EReal.coe_add]

include ht hc hs in
theorem rotT_val (r j : Fin 128) : rotT t c s (ix2 r j) = (ropeT (cf r) (sf r) (f r) j : EReal) := by
  have hp : ∀ r j : Fin 128, mulf t s (ix2 r j) = ((fun r k => f r k * sf r (k % 128)) r j : ℝ) := fun r j => by
    pointwise []
    rw [ht, hs, ← EReal.coe_mul, Nat.mod_eq_of_lt j.2]
  pointwise [rotT]
  rw [pair128_val _ (fun r k => f r k * sf r (k % 128)) hp, ht, hc, ← EReal.coe_mul, ← EReal.coe_add, ropeT, Nat.mod_eq_of_lt j.2]

end rotation

section Rows

variable (q : Vec Ideal S1x128x512 .f32) (kv kvp : Vec Ideal S1x128x256 .f32) (c s cp sp : Vec Ideal S1x128x128 .f32)
  (o : Vec Ideal S1x128x512 .bf16) (qf kvf kvpf cf sf cpf spf of : ℕ → ℕ → ℝ)
  (hq : ∀ b r j, q (ix3 b r j) = (qf r j : EReal)) (hkv : ∀ b r j, kv (ix3 b r j) = (kvf r j : EReal))
  (hkvp : ∀ b r j, kvp (ix3 b r j) = (kvpf r j : EReal)) (hc : ∀ b r j, c (ix3 b r j) = (cf r j : EReal))
  (hs : ∀ b r j, s (ix3 b r j) = (sf r j : EReal)) (hcp : ∀ b r j, cp (ix3 b r j) = (cpf r j : EReal))
  (hsp : ∀ b r j, sp (ix3 b r j) = (spf r j : EReal)) (ho : ∀ b r j, o (ix3 b r j) = (of r j : EReal))

include hc in
theorem tab_val (r j : Fin 128) : tab c (ix2 r j) = (cf r j : EReal) := by
  pointwise [tab]
  exact hc _ _ _

include ho in
theorem wide_val (r : Fin 128) (j : Fin 512) : wide o (ix2 r j) = (of r j : EReal) := by
  pointwise [wide]
  exact ho _ _ _

include hq hc hs in
theorem bq_val (r : Fin 128) (j : Fin 512) : bq q c s (ix2 r j) = (Qb qf cf sf r j : EReal) := by
  have hx : ∀ (r : Fin 128) (j : Fin 512), (shapeCast S128x512 q shapeCasts_S1x128x512_S128x512 : FVec Ideal S128x512 .f32) (ix2 r j) = (qf r j : EReal) := fun r j => by
    pointwise []
    exact hq _ _ _
  pointwise [bq]
  rw [pair512_val _ _ hx, tile4_val _ _ (tab_val c cf hc), tile4_val _ _ (tab_val s sf hs), eighth_bits]
  simp only [hq, ← EReal.coe_mul, ← EReal.coe_add]
  rfl

include hkv hkvp hc hs hcp hsp in
theorem bk_val (j : Fin 256) (d : Fin 128) : bk kv kvp c s cp sp (ix2 j d) = (Kb kvf kvpf cf sf cpf spf j d : EReal) := by
  have hx : ∀ (r : Fin 128) (j : Fin 128), (extractStridedSlice S128x128 ![0, 0] (shapeCast S128x256 kv shapeCasts_S1x128x256_S128x256 : FVec Ideal S128x256 .f32) slices_S128x256_o0_0_S128x128) (ix2 r j) = (kvf r j : EReal) := fun r j => by
    pointwise []
    simp only [hkv]
  have hy : ∀ (r : Fin 128) (j : Fin 128), (extractStridedSlice S128x128 ![0, 0] (shapeCast S128x256 kvp shapeCasts_S1x128x256_S128x256 : FVec Ideal S128x256 .f32) slices_S128x256_o0_0_S128x128) (ix2 r j) = (kvpf r j : EReal) := fun r j => by
    pointwise []
    simp only [hkvp]
  pointwise [bk]
  simp only [rot_val _ _ _ _ _ _ hx (tab_val c cf hc) (tab_val s sf hs), rot_val _ _ _ _ _ _ hy (tab_val cp cpf hcp) (tab_val sp spf hsp), dite_eq_ite, ite_coe]
  rfl

include hkv hkvp in
theorem bv_val (j : Fin 256) (d : Fin 128) : bv kv kvp (ix2 j d) = (Vb kvf kvpf j d : EReal) := by
  pointwise [bv]
  simp only [hkv, hkvp, dite_eq_ite, ite_coe]
  rfl

end Rows

theorem sum512 (f : ℕ → ℕ → ℝ) : (∑ R : Fin 512, f (R / 128) (R % 128)) = ∑ g : Fin 4, ∑ r : Fin 128, f g r := by
  rw [← Fintype.sum_prod_type', ← (finProdFinEquiv (m := 4) (n := 128)).sum_comp]
  refine Finset.sum_congr rfl fun x _ => ?_
  have h := x.2.2
  rw [finProdFinEquiv_apply_val, show (x.2.val + 128 * x.1.val) / 128 = x.1.val by omega, show (x.2.val + 128 * x.1.val) % 128 = x.2.val by omega]

section Heads

variable (n kh : ℕ) (Q K V : ℕ → ℕ → ℝ) (sk : ℕ → ℝ) (G : ℕ → ℕ → ℝ)
  (mask : IVec S512x256 1) (q g o : FVec Ideal S512x64 .f32) (k v : FVec Ideal S256x64 .f32) (l s : FVec Ideal S512x1 .f32)
  (hm : ∀ (R : Fin 512) (j : Fin 256), mask (ix2 R j) = if msk n (R.val % 128) j then 1#1 else 0#1)
  (hq : ∀ R x, q (ix2 R x) = (Q (R % 128) ((kh * 4 + R / 128) * 64 + x) : EReal))
  (hk : ∀ j d, k (ix2 j d) = (K j (kh * 64 + d) : EReal))
  (hv : ∀ j d, v (ix2 j d) = (V j (kh * 64 + d) : EReal))
  (hg : ∀ R x, g (ix2 R x) = (G (R % 128) ((kh * 4 + R / 128) * 64 + x) : EReal))
  (ho : ∀ R x, o (ix2 R x) = (O n Q K V sk (kh * 4 + R / 128) (R % 128) x : EReal))
  (hl : ∀ R u, l (ix2 R u) = (L n Q K sk (kh * 4 + R / 128) (R % 128) : EReal))
  (hs : ∀ R u, s (ix2 R u) = (sk (kh * 4 + R / 128) : EReal))

theorem quarter (R : Fin 512) : (kh * 4 + R.val / 128) / 4 = kh := by omega

include hm hq hk hl in
theorem bw_val (R : Fin 512) (j : Fin 256) : bw mask q k l (ix2 R j) = (W n Q K sk (kh * 4 + R / 128) (R % 128) j : EReal) := by
  pointwise [bw]
  simp only [hm, hq, hk, hl, sel_ite, mask_named, ← EReal.coe_mul, sum_coe]
  have e := weight_log (msk n (R.val % 128)) (S Q K (kh * 4 + R / 128) (R % 128)) (sk (kh * 4 + R / 128)) j
  simp only [sc, S, quarter] at e
  exact e

include hg ho in
theorem bdelta_val (R : Fin 512) (u : Fin 1) : bdelta g o (ix2 R u) = (D n Q K V sk G (kh * 4 + R / 128) (R % 128) : EReal) := by
  pointwise [bdelta]
  simp only [hg, ho, ← EReal.coe_mul, sum_coe]
  rfl

theorem bds_val (w : FVec Ideal S512x256 .f32) (d : FVec Ideal S512x1 .f32)
    (hw : ∀ R j, w (ix2 R j) = (W n Q K sk (kh * 4 + R / 128) (R % 128) j : EReal))
    (hg : ∀ R x, g (ix2 R x) = (G (R % 128) ((kh * 4 + R / 128) * 64 + x) : EReal))
    (hv : ∀ j d, v (ix2 j d) = (V j (kh * 64 + d) : EReal))
    (hd : ∀ R u, d (ix2 R u) = (D n Q K V sk G (kh * 4 + R / 128) (R % 128) : EReal)) (R : Fin 512) (j : Fin 256) :
    bds w g v d (ix2 R j) = (dS n Q K V sk G (kh * 4 + R / 128) (R % 128) j : EReal) := by
  pointwise [bds]
  simp only [hw, hg, hv, hd, ← EReal.coe_mul, sum_coe, ← EReal.coe_sub]
  unfold dS
  rw [quarter]

theorem bdq_val (ds : FVec Ideal S512x256 .f32) (hds : ∀ R j, ds (ix2 R j) = (dS n Q K V sk G (kh * 4 + R / 128) (R % 128) j : EReal))
    (hk : ∀ j d, k (ix2 j d) = (K j (kh * 64 + d) : EReal)) (R : Fin 512) (x : Fin 64) :
    bdq ds k (ix2 R x) = (dQ n Q K V sk G (kh * 4 + R / 128) (R % 128) x : EReal) := by
  pointwise [bdq]
  simp only [hds, hk, ← EReal.coe_mul, sum_coe]
  unfold dQ
  rw [quarter]

/-- The transposed product sums the four heads' rows. -/
theorem bdk_val (t : FVec Ideal S512x256 .f32) (f : ℕ → ℕ → Fin 256 → ℝ) (X : ℕ → ℕ → ℝ) (ht : ∀ R j, t (ix2 R j) = (f (kh * 4 + R / 128) (R % 128) j : EReal))
    (hx : ∀ R x, q (ix2 R x) = (X (R % 128) ((kh * 4 + R / 128) * 64 + x) : EReal)) (j : Fin 256) (x : Fin 64) :
    bdk t q (ix2 j x) = ((∑ g : Fin 4, ∑ r : Fin 128, f (kh * 4 + g) r j * X r ((kh * 4 + g) * 64 + x) : ℝ) : EReal) := by
  pointwise [bdk]
  simp only [ht, hx, ← EReal.coe_mul, sum_coe]
  exact congrArg Real.toEReal (sum512 fun g r => f (kh * 4 + g) r j * X r ((kh * 4 + g) * 64 + x))

include hl hs in
theorem bsink_val (d : FVec Ideal S512x1 .f32) (hd : ∀ R u, d (ix2 R u) = (D n Q K V sk G (kh * 4 + R / 128) (R % 128) : EReal)) (R : Fin 512) (u : Fin 1) :
    bsink s l d (ix2 R u) = (wk (msk n (R.val % 128)) (S Q K (kh * 4 + R / 128) (R % 128)) (sk (kh * 4 + R / 128))
      * D n Q K V sk G (kh * 4 + R / 128) (R % 128) : ℝ) := by
  pointwise [bsink]
  rw [hs, hl, hd, L, sink_log, ← EReal.coe_mul]

end Heads

theorem rowSum_val (x : FVec Ideal S128x1 .f32) (f : ℕ → ℝ) (h : ∀ r u, x (ix2 r u) = (f r : EReal)) : rowSum x = ((-∑ r : Fin 128, f r : ℝ) : EReal) := by
  unfold rowSum
  pointwise []
  simp only [h, sum_coe]
  rw [← EReal.coe_zero, ← EReal.coe_sub, zero_sub]
  simp

end Cert.Attn.Block

end
-- ==== Proof.AttnBwdOut.lean ====
module

public import proofs.«01_k».proof.Proof.AttnBwd

/-! The backward attention call's stored pieces over the real numbers, from one sequence's tiles. -/

@[expose] public section

set_option maxRecDepth 16384

noncomputable section

open Idealize.ShloMosaic Idealize.ShloMosaic.TcCoe Idealize.SL.Sem

namespace Cert.Attn.Block

open Cert.AttnIdeal Cert.AttnIdeal.Gen Cert.Attn Cert.Attn.Spec Cert.Attn.Words Cert.Soft Cert.Finite

theorem addLane_val (h : BitVec 32) (n : ℕ) (hn : ∀ j : Fin 8, IntOp.cmpi .eq (BitVec.ofNat 32 j.val) h = if j.val = n then 1#1 else 0#1)
    (x : Ideal .f32) (v : ℝ) (hx : x = (v : EReal)) (acc : FVec Ideal S1x8 .f32) (a : ℕ → ℝ) (ha : ∀ b j, acc (ix2 b j) = (a j : EReal)) (b : Fin 1) (j : Fin 8) :
    addLane h x acc (ix2 b j) = ((a j + if j.val = n then v else 0 : ℝ) : EReal) := by
  pointwise [addLane]
  rw [hn, sel_ite, ha, hx, EReal.coe_add, ← EReal.coe_zero, ite_coe]

/-- Four heads' sums, added at their lanes. -/
theorem addHeads_val (h0 h1 h2 h3 : BitVec 32) (n : ℕ)
    (e0 : ∀ j : Fin 8, IntOp.cmpi .eq (BitVec.ofNat 32 j.val) h0 = if j.val = n then 1#1 else 0#1)
    (e1 : ∀ j : Fin 8, IntOp.cmpi .eq (BitVec.ofNat 32 j.val) h1 = if j.val = n + 1 then 1#1 else 0#1)
    (e2 : ∀ j : Fin 8, IntOp.cmpi .eq (BitVec.ofNat 32 j.val) h2 = if j.val = n + 2 then 1#1 else 0#1)
    (e3 : ∀ j : Fin 8, IntOp.cmpi .eq (BitVec.ofNat 32 j.val) h3 = if j.val = n + 3 then 1#1 else 0#1)
    (x : FVec Ideal S512x1 .f32) (f : ℕ → ℕ → ℝ) (hx : ∀ R u, x (ix2 R u) = (f (n + R / 128) (R % 128) : EReal))
    (acc : FVec Ideal S1x8 .f32) (a : ℕ → ℝ) (ha : ∀ b j, acc (ix2 b j) = (a j : EReal)) (b : Fin 1) (j : Fin 8) :
    addHeads h0 h1 h2 h3 x acc (ix2 b j) = ((a j + if n ≤ j.val ∧ j.val < n + 4 then -∑ r : Fin 128, f j r else 0 : ℝ) : EReal) := by
  have s0 := rowSum_val (extractStridedSlice S128x1 ![0, 0] x slices_S512x1_o0_0_S128x1) (fun r => f n r) fun r u => by
    pointwise []
    rw [hx]
    refine congrArg Real.toEReal (congrArg₂ f ?_ ?_) <;> simp <;> omega
  have s1 := rowSum_val (extractStridedSlice S128x1 ![128, 0] x slices_S512x1_o128_0_S128x1) (fun r => f (n + 1) r) fun r u => by
    pointwise []
    rw [hx]
    refine congrArg Real.toEReal (congrArg₂ f ?_ ?_) <;> simp <;> omega
  have s2 := rowSum_val (extractStridedSlice S128x1 ![256, 0] x slices_S512x1_o256_0_S128x1) (fun r => f (n + 2) r) fun r u => by
    pointwise []
    rw [hx]
    refine congrArg Real.toEReal (congrArg₂ f ?_ ?_) <;> simp <;> omega
  have s3 := rowSum_val (extractStridedSlice S128x1 ![384, 0] x slices_S512x1_o384_0_S128x1) (fun r => f (n + 3) r) fun r u => by
    pointwise []
    rw [hx]
    refine congrArg Real.toEReal (congrArg₂ f ?_ ?_) <;> simp <;> omega
  unfold addHeads
  have t0 := addLane_val h0 n e0 _ _ s0 acc a ha
  have t1 := addLane_val h1 (n + 1) e1 _ _ s1 _ (fun j => a j + if j = n then -∑ r : Fin 128, f n r else 0) t0
  have t2 := addLane_val h2 (n + 2) e2 _ _ s2 _ (fun j => (a j + if j = n then -∑ r : Fin 128, f n r else 0) + if j = n + 1 then -∑ r : Fin 128, f (n + 1) r else 0) t1
  have t3 := addLane_val h3 (n + 3) e3 _ _ s3 _ (fun j => ((a j + if j = n then -∑ r : Fin 128, f n r else 0) + if j = n + 1 then -∑ r : Fin 128, f (n + 1) r else 0)
    + if j = n + 2 then -∑ r : Fin 128, f (n + 2) r else 0) t2
  rw [t3]
  refine congrArg Real.toEReal ?_
  rcases (by omega : j.val = n ∨ j.val = n + 1 ∨ j.val = n + 2 ∨ j.val = n + 3 ∨ ¬ (n ≤ j.val ∧ j.val < n + 4)) with h | h | h | h | h
  iterate 4
    rw [h]; simp
  rw [if_neg h, if_neg (by omega), if_neg (by omega), if_neg (by omega), if_neg (by omega)]
  simp

/-- Eight heads' columns, side by side. -/
theorem cols_val (a b : FVec Ideal S512x64 .f32) (f : ℕ → ℕ → ℕ → ℝ)
    (ha : ∀ R x, a (ix2 R x) = (f (0 * 4 + R / 128) (R % 128) x : EReal)) (hb : ∀ R x, b (ix2 R x) = (f (1 * 4 + R / 128) (R % 128) x : EReal))
    (r : Fin 128) (j : Fin 512) : cols a b (ix2 r j) = (f (j / 64) r (j % 64) : EReal) := by
  have key : ∀ a b c a' b' c' : ℕ, a = a' → b = b' → c = c' → (f a b c : EReal) = (f a' b' c' : EReal) := by
    rintro a b c a' b' c' rfl rfl rfl; rfl
  have hj := j.2
  have hr := r.2
  pointwise [cols]
  simp only [ha, hb, dite_eq_ite]
  split_ifs <;> apply key <;> (try simp) <;> omega

theorem back_val (t c s : FVec Ideal S128x512 .f32) (f cf sf : ℕ → ℕ → ℝ) (ht : ∀ r j, t (ix2 r j) = (f r j : EReal))
    (hc : ∀ r j, c (ix2 r j) = (cf r (j % 128) : EReal)) (hs : ∀ r j, s (ix2 r j) = (sf r (j % 128) : EReal)) (r : Fin 128) (j : Fin 512) :
    back t c s (ix2 r j) = (ropeT (cf r) (sf r) (f r) j : EReal) := by
  have hp : ∀ (r : Fin 128) (j : Fin 512), mulf t s (ix2 r j) = ((fun r k => f r k * sf r (k % 128)) r j : ℝ) := fun r j => by
    pointwise []
    rw [ht, hs, ← EReal.coe_mul]
  pointwise [back]
  rw [pair512_val _ (fun r k => f r k * sf r (k % 128)) hp, ht, hc, ← EReal.coe_mul, ← EReal.coe_add, ropeT]

theorem outq_val (a b : FVec Ideal S512x64 .f32) (c s : Vec Ideal S1x128x128 .f32) (f : ℕ → ℕ → ℕ → ℝ) (cf sf : ℕ → ℕ → ℝ)
    (ha : ∀ R x, a (ix2 R x) = (f (0 * 4 + R / 128) (R % 128) x : EReal)) (hb : ∀ R x, b (ix2 R x) = (f (1 * 4 + R / 128) (R % 128) x : EReal))
    (hc : ∀ b r j, c (ix3 b r j) = (cf r j : EReal)) (hs : ∀ b r j, s (ix3 b r j) = (sf r j : EReal)) (u : Fin 1) (r : Fin 128) (j : Fin 512) :
    outq a b c s (ix3 u r j) = (ropeT (cf r) (sf r) (fun k => f (k / 64) r (k % 64) * 8⁻¹) j : EReal) := by
  have ht : ∀ (r : Fin 128) (j : Fin 512), mulf (cols a b) (broadcast S128x512 (Scalar.ofBits .f32 0x3E000000#32)) (ix2 r j)
      = ((fun r k => f (k / 64) r (k % 64) * 8⁻¹) r j : ℝ) := fun r j => by
    pointwise []
    rw [cols_val a b f ha hb, eighth_bits, ← EReal.coe_mul]
  pointwise [outq]
  exact back_val _ _ _ (fun r k => f (k / 64) r (k % 64) * 8⁻¹) cf sf ht (tile4_val _ _ (tab_val c cf hc)) (tile4_val _ _ (tab_val s sf hs)) r j

theorem join_val (a b : FVec Ideal S256x64 .f32) (f : ℕ → ℕ → ℕ → ℝ) (ha : ∀ j x, a (ix2 j x) = (f 0 j x : EReal)) (hb : ∀ j x, b (ix2 j x) = (f 1 j x : EReal))
    (j : Fin 256) (d : Fin 128) : join a b (ix2 j d) = (f (d / 64) j (d % 64) : EReal) := by
  have key : ∀ a b c a' b' c' : ℕ, a = a' → b = b' → c = c' → (f a b c : EReal) = (f a' b' c' : EReal) := by
    rintro a b c a' b' c' rfl rfl rfl; rfl
  have hj := d.2
  pointwise [join]
  simp only [ha, hb, dite_eq_ite]
  split_ifs <;> apply key <;> (try simp) <;> omega

theorem store_val (t : FVec Ideal S128x128 .f32) (u : Fin 1) (r d : Fin 128) : store t (ix3 u r d) = t (ix2 r d) := by
  pointwise [store]

/-- One sequence's real inputs around a block: `n` its number, `q`, `kv`, `c`, `s` its rows of the queries, the keys and values and the
    rotation tables, `kvp`, `cp`, `sp` those of the block before, `sk` the sinks and `G` the cotangent. -/
structure Seq where
  n : ℕ
  q : ℕ → ℕ → ℝ
  kv : ℕ → ℕ → ℝ
  kvp : ℕ → ℕ → ℝ
  c : ℕ → ℕ → ℝ
  s : ℕ → ℕ → ℝ
  cp : ℕ → ℕ → ℝ
  sp : ℕ → ℕ → ℝ
  sk : ℕ → ℝ
  G : ℕ → ℕ → ℝ

namespace Seq

variable (A : Seq)

abbrev Q := Qb A.q A.c A.s
abbrev K := Kb A.kv A.kvp A.c A.s A.cp A.sp
abbrev V := Vb A.kv A.kvp
abbrev gQ := dQ A.n A.Q A.K A.V A.sk A.G
abbrev gK (h j d : ℕ) : ℝ := dK A.n A.Q A.K A.V A.sk A.G h (Fin.ofNat 256 j) d
abbrev gV (h j d : ℕ) : ℝ := dV A.n A.Q A.K A.sk A.G h (Fin.ofNat 256 j) d
abbrev gSink := dSink A.n A.Q A.K A.V A.sk A.G

end Seq

/-- Tiles that hold a sequence's reals, the saved output and the saved logarithms. -/
structure Holds (A : Seq) (T : Tiles) : Prop where
  q : ∀ b r j, T.q (ix3 b r j) = (A.q r j : EReal)
  kv : ∀ b r j, T.kv (ix3 b r j) = (A.kv r j : EReal)
  kvp : ∀ b r j, T.kvp (ix3 b r j) = (A.kvp r j : EReal)
  c : ∀ b r j, T.c (ix3 b r j) = (A.c r j : EReal)
  s : ∀ b r j, T.s (ix3 b r j) = (A.s r j : EReal)
  cp : ∀ b r j, T.cp (ix3 b r j) = (A.cp r j : EReal)
  sp : ∀ b r j, T.sp (ix3 b r j) = (A.sp r j : EReal)
  o : ∀ b r j, T.o (ix3 b r j) = (O A.n A.Q A.K A.V A.sk (j / 64) r (j % 64) : EReal)
  l : ∀ b r h, T.l (ix3 b r h) = (L A.n A.Q A.K A.sk h r : EReal)
  g : ∀ b r j, T.g (ix3 b r j) = (A.G r j : EReal)

theorem mod256 (j : Fin 256) : Fin.ofNat 256 j.val = j := Fin.ext (Nat.mod_eq_of_lt j.2)

section Out

variable {A : Seq} {T : Tiles} {mask : IVec S512x256 1} (H : Holds A T)
  (hm : ∀ (R : Fin 512) (j : Fin 256), mask (ix2 R j) = if msk A.n (R.val % 128) j then 1#1 else 0#1)
include H

theorem qs0 (R : Fin 512) (x : Fin 64) : stack0 (bq T.q T.c T.s) (ix2 R x) = (A.Q (R % 128) ((0 * 4 + R / 128) * 64 + x) : EReal) :=
  stack0_val _ _ (bq_val T.q T.c T.s _ _ _ H.q H.c H.s) R x
theorem qs1 (R : Fin 512) (x : Fin 64) : stack1 (bq T.q T.c T.s) (ix2 R x) = (A.Q (R % 128) ((1 * 4 + R / 128) * 64 + x) : EReal) :=
  stack1_val _ _ (bq_val T.q T.c T.s _ _ _ H.q H.c H.s) R x
theorem ks0 (j : Fin 256) (d : Fin 64) : half0 (bk T.kv T.kvp T.c T.s T.cp T.sp) (ix2 j d) = (A.K j (0 * 64 + d) : EReal) :=
  half0_val _ _ (bk_val T.kv T.kvp T.c T.s T.cp T.sp _ _ _ _ _ _ H.kv H.kvp H.c H.s H.cp H.sp) j d
theorem ks1 (j : Fin 256) (d : Fin 64) : half1 (bk T.kv T.kvp T.c T.s T.cp T.sp) (ix2 j d) = (A.K j (1 * 64 + d) : EReal) :=
  half1_val _ _ (bk_val T.kv T.kvp T.c T.s T.cp T.sp _ _ _ _ _ _ H.kv H.kvp H.c H.s H.cp H.sp) j d
theorem vs0 (j : Fin 256) (d : Fin 64) : half0 (bv T.kv T.kvp) (ix2 j d) = (A.V j (0 * 64 + d) : EReal) :=
  half0_val _ _ (bv_val T.kv T.kvp _ _ H.kv H.kvp) j d
theorem vs1 (j : Fin 256) (d : Fin 64) : half1 (bv T.kv T.kvp) (ix2 j d) = (A.V j (1 * 64 + d) : EReal) :=
  half1_val _ _ (bv_val T.kv T.kvp _ _ H.kv H.kvp) j d
theorem gs0 (R : Fin 512) (x : Fin 64) : stack0 (wide T.g) (ix2 R x) = (A.G (R % 128) ((0 * 4 + R / 128) * 64 + x) : EReal) :=
  stack0_val _ _ (wide_val T.g _ H.g) R x
theorem gs1 (R : Fin 512) (x : Fin 64) : stack1 (wide T.g) (ix2 R x) = (A.G (R % 128) ((1 * 4 + R / 128) * 64 + x) : EReal) :=
  stack1_val _ _ (wide_val T.g _ H.g) R x
theorem os0 (R : Fin 512) (x : Fin 64) : stack0 (wide T.o) (ix2 R x) = (O A.n A.Q A.K A.V A.sk (0 * 4 + R / 128) (R % 128) x : EReal) := by
  rw [stack0_val _ (fun r j => O A.n A.Q A.K A.V A.sk (j / 64) r (j % 64)) (wide_val T.o (fun r j => O A.n A.Q A.K A.V A.sk (j / 64) r (j % 64)) H.o) R x]
  rw [show ((0 * 4 + R.val / 128) * 64 + x.val) / 64 = 0 * 4 + R.val / 128 by omega, show ((0 * 4 + R.val / 128) * 64 + x.val) % 64 = x by omega]
theorem os1 (R : Fin 512) (x : Fin 64) : stack1 (wide T.o) (ix2 R x) = (O A.n A.Q A.K A.V A.sk (1 * 4 + R / 128) (R % 128) x : EReal) := by
  rw [stack1_val _ (fun r j => O A.n A.Q A.K A.V A.sk (j / 64) r (j % 64)) (wide_val T.o (fun r j => O A.n A.Q A.K A.V A.sk (j / 64) r (j % 64)) H.o) R x]
  rw [show ((1 * 4 + R.val / 128) * 64 + x.val) / 64 = 1 * 4 + R.val / 128 by omega, show ((1 * 4 + R.val / 128) * 64 + x.val) % 64 = x by omega]
theorem ls0 (R : Fin 512) (u : Fin 1) : logs0 T.l (ix2 R u) = (L A.n A.Q A.K A.sk (0 * 4 + R / 128) (R % 128) : EReal) :=
  logs0_val T.l (fun h r => L A.n A.Q A.K A.sk h r) H.l R u
theorem ls1 (R : Fin 512) (u : Fin 1) : logs1 T.l (ix2 R u) = (L A.n A.Q A.K A.sk (1 * 4 + R / 128) (R % 128) : EReal) :=
  logs1_val T.l (fun h r => L A.n A.Q A.K A.sk h r) H.l R u
theorem d0_val (R : Fin 512) (u : Fin 1) : d0 T (ix2 R u) = (D A.n A.Q A.K A.V A.sk A.G (0 * 4 + R / 128) (R % 128) : EReal) :=
  bdelta_val _ 0 _ _ _ _ _ _ _ (gs0 H) (os0 H) R u
theorem d1_val (R : Fin 512) (u : Fin 1) : d1 T (ix2 R u) = (D A.n A.Q A.K A.V A.sk A.G (1 * 4 + R / 128) (R % 128) : EReal) :=
  bdelta_val _ 1 _ _ _ _ _ _ _ (gs1 H) (os1 H) R u

include hm
theorem w0_val (R : Fin 512) (j : Fin 256) : w0 mask T (ix2 R j) = (W A.n A.Q A.K A.sk (0 * 4 + R / 128) (R % 128) j : EReal) :=
  bw_val _ 0 _ _ _ _ _ _ _ hm (qs0 H) (ks0 H) (ls0 H) R j
theorem w1_val (R : Fin 512) (j : Fin 256) : w1 mask T (ix2 R j) = (W A.n A.Q A.K A.sk (1 * 4 + R / 128) (R % 128) j : EReal) :=
  bw_val _ 1 _ _ _ _ _ _ _ hm (qs1 H) (ks1 H) (ls1 H) R j
theorem ds0_val (R : Fin 512) (j : Fin 256) : ds0 mask T (ix2 R j) = (dS A.n A.Q A.K A.V A.sk A.G (0 * 4 + R / 128) (R % 128) j : EReal) :=
  bds_val _ 0 _ _ _ _ _ _ _ _ _ (w0_val H hm) (gs0 H) (vs0 H) (d0_val H) R j
theorem ds1_val (R : Fin 512) (j : Fin 256) : ds1 mask T (ix2 R j) = (dS A.n A.Q A.K A.V A.sk A.G (1 * 4 + R / 128) (R % 128) j : EReal) :=
  bds_val _ 1 _ _ _ _ _ _ _ _ _ (w1_val H hm) (gs1 H) (vs1 H) (d1_val H) R j

theorem dq_val (u : Fin 1) (r : Fin 128) (j : Fin 512) :
    dq mask T (ix3 u r j) = (ropeT (A.c r) (A.s r) (fun k => A.gQ (k / 64) r (k % 64) * 8⁻¹) j : EReal) :=
  outq_val _ _ _ _ A.gQ A.c A.s (bdq_val _ 0 _ _ _ _ _ _ _ (ds0_val H hm) (ks0 H)) (bdq_val _ 1 _ _ _ _ _ _ _ (ds1_val H hm) (ks1 H)) H.c H.s u r j

theorem dk_val (j : Fin 256) (d : Fin 128) : dk mask T (ix2 j d) = (A.gK (d / 64) j (d % 64) : EReal) :=
  join_val _ _ A.gK (fun j x => by rw [bdk_val 0 _ _ _ A.Q (ds0_val H hm) (qs0 H) j x, Seq.gK, mod256]; rfl)
    (fun j x => by rw [bdk_val 1 _ _ _ A.Q (ds1_val H hm) (qs1 H) j x, Seq.gK, mod256]; rfl) j d

theorem dv_val (j : Fin 256) (d : Fin 128) : dv mask T (ix2 j d) = (A.gV (d / 64) j (d % 64) : EReal) :=
  join_val _ _ A.gV (fun j x => by rw [bdk_val 0 _ _ _ A.G (w0_val H hm) (gs0 H) j x, Seq.gV, mod256]; rfl)
    (fun j x => by rw [bdk_val 1 _ _ _ A.G (w1_val H hm) (gs1 H) j x, Seq.gV, mod256]; rfl) j d

theorem dkOwn_val (u : Fin 1) (r d : Fin 128) :
    dkOwn mask T (ix3 u r d) = (ropeT (A.c r) (A.s r) (fun d => A.gK (d / 64) (128 + r) (d % 64)) d : EReal) := by
  rw [dkOwn, store_val]
  exact rotT_val _ _ _ (fun r d => A.gK (d / 64) (128 + r) (d % 64)) A.c A.s (own_val _ (fun j d => A.gK (d / 64) j (d % 64)) (dk_val H hm)) (tab_val _ _ H.c) (tab_val _ _ H.s) r d

theorem dkPrev_val (u : Fin 1) (r d : Fin 128) :
    dkPrev mask T (ix3 u r d) = (ropeT (A.cp r) (A.sp r) (fun d => A.gK (d / 64) r (d % 64)) d : EReal) := by
  rw [dkPrev, store_val]
  exact rotT_val _ _ _ (fun r d => A.gK (d / 64) r (d % 64)) A.cp A.sp (before_val _ (fun j d => A.gK (d / 64) j (d % 64)) (dk_val H hm)) (tab_val _ _ H.cp) (tab_val _ _ H.sp) r d

theorem dvOwn_val (u : Fin 1) (r d : Fin 128) : dvOwn mask T (ix3 u r d) = (A.gV (d / 64) (128 + r) (d % 64) : EReal) := by
  rw [dvOwn, store_val]
  exact own_val _ (fun j d => A.gV (d / 64) j (d % 64)) (dv_val H hm) r d

theorem dvPrev_val (u : Fin 1) (r d : Fin 128) : dvPrev mask T (ix3 u r d) = (A.gV (d / 64) r (d % 64) : EReal) := by
  rw [dvPrev, store_val]
  exact before_val _ (fun j d => A.gV (d / 64) j (d % 64)) (dv_val H hm) r d

omit hm in
theorem dsink_val (sk : Vec Ideal S1x8 .f32) (hs : ∀ b h, sk (ix2 b h) = (A.sk h : EReal)) (acc : FVec Ideal S1x8 .f32) (a : ℕ → ℝ)
    (ha : ∀ b j, acc (ix2 b j) = (a j : EReal)) (b : Fin 1) (j : Fin 8) : dsink T sk acc (ix2 b j) = ((a j + A.gSink j : ℝ) : EReal) := by
  have e0 := bsink_val _ 0 _ _ _ _ _ _ _ (ls0 H) (sinks0_val sk A.sk hs) _ (d0_val H)
  have e1 := bsink_val _ 1 _ _ _ _ _ _ _ (ls1 H) (sinks1_val sk A.sk hs) _ (d1_val H)
  have t0 := addHeads_val 0#32 1#32 2#32 3#32 0 (by decide) (by decide) (by decide) (by decide) _
    (fun h r => wk (msk A.n r) (S A.Q A.K h r) (A.sk h) * D A.n A.Q A.K A.V A.sk A.G h r) e0 acc a ha
  have t1 := addHeads_val 4#32 5#32 6#32 7#32 4 (by decide) (by decide) (by decide) (by decide) _
    (fun h r => wk (msk A.n r) (S A.Q A.K h r) (A.sk h) * D A.n A.Q A.K A.V A.sk A.G h r) e1 _
    (fun j => a j + if 0 ≤ j ∧ j < 0 + 4 then -∑ r : Fin 128, wk (msk A.n r) (S A.Q A.K j r) (A.sk j) * D A.n A.Q A.K A.V A.sk A.G j r else 0) t0
  rw [dsink, t1]
  refine congrArg Real.toEReal ?_
  have hj := j.2
  unfold Seq.gSink Spec.dSink
  by_cases h : j.val < 4
  · rw [if_pos (by omega), if_neg (by omega), add_zero]
  · rw [if_neg (by omega), if_pos (by omega), add_zero]

end Out

end Cert.Attn.Block

end
-- ==== Proof.AttnArr1.lean ====
module

public import proofs.«01_k».proof.Proof.AttnFwd
public import proofs.«01_k».proof.Proof.AttnBwdOut

/-! The forward attention call's two arrays over the real numbers. -/

@[expose] public section

set_option maxRecDepth 16384

noncomputable section

open Idealize.ShloMosaic Idealize.ShloMosaic.TcCoe Idealize.SL.Sem
open Idealize.ShloMosaic.Pipeline (Dat)

namespace Cert.Attn

open Cert.AttnIdeal Cert.AttnIdeal.Gen Cert.Attn.Spec

/-- The attention's real inputs: queries, keys and values by sequence, position and column, rotation tables by sequence, position and lane,
    sinks, and the output's cotangent. -/
structure Data where
  q : ℕ → ℕ → ℕ → ℝ
  k : ℕ → ℕ → ℕ → ℝ
  v : ℕ → ℕ → ℕ → ℝ
  ct : ℕ → ℕ → ℕ → ℝ
  st : ℕ → ℕ → ℕ → ℝ
  sk : ℕ → ℝ
  G : ℕ → ℕ → ℕ → ℝ

namespace Data

variable (X : Data)

/-- Keys, then values. -/
def kv (b s d : ℕ) : ℝ := if d < 128 then X.k b s d else X.v b s (d - 128)

/-- The packed columns. -/
def z (b s j : ℕ) : ℝ := if j < 3072 then 0 else if j < 3584 then X.q b s (j - 3072) else if j < 3840 then X.kv b s (j - 3584) else 0

/-- What block `n` of sequence `b` reads. -/
def seq (n b : ℕ) : Block.Seq where
  n := n
  q r j := X.q b (n * 128 + r) j
  kv r d := X.kv b (n * 128 + r) d
  kvp r d := X.kv b ((n - 1) * 128 + r) d
  c r j := X.ct b (n * 128 + r) j
  s r j := X.st b (n * 128 + r) j
  cp r j := X.ct b ((n - 1) * 128 + r) j
  sp r j := X.st b ((n - 1) * 128 + r) j
  sk := X.sk
  G r j := X.G b (n * 128 + r) j

/-- The output and the row logarithms at a position. -/
def out (b s j : ℕ) : ℝ := O (s / 128) (X.seq (s / 128) b).Q (X.seq (s / 128) b).K (X.seq (s / 128) b).V X.sk (j / 64) (s % 128) (j % 64)
def lse (b s h : ℕ) : ℝ := L (s / 128) (X.seq (s / 128) b).Q (X.seq (s / 128) b).K X.sk h (s % 128)

theorem z_q (b s j : ℕ) (h : j < 512) : X.z b s (3072 + j) = X.q b s j := by
  rw [z, if_neg (by omega), if_pos (by omega), Nat.add_sub_cancel_left]

theorem z_kv (b s d : ℕ) (h : d < 256) : X.z b s (3584 + d) = X.kv b s d := by
  rw [z, if_neg (by omega), if_neg (by omega), if_pos (by omega), Nat.add_sub_cancel_left]

theorem out_at (n b r j : ℕ) (h : r < 128) :
    X.out b (n * 128 + r) j = O n (X.seq n b).Q (X.seq n b).K (X.seq n b).V X.sk (j / 64) r (j % 64) := by
  unfold out
  rw [show (n * 128 + r) / 128 = n by omega, show (n * 128 + r) % 128 = r by omega]

theorem lse_at (n b r j : ℕ) (h : r < 128) : X.lse b (n * 128 + r) j = L n (X.seq n b).Q (X.seq n b).K X.sk j r := by
  unfold lse
  rw [show (n * 128 + r) / 128 = n by omega, show (n * 128 + r) % 128 = r by omega]

end Data

end Cert.Attn

namespace Cert.Attn.Fwd

open Cert.AttnIdeal Cert.AttnIdeal.Gen Cert.Attn Cert.Attn.Spec

theorem lt_t (t : Fin cfg1.N) : t.val < 32 := t.isLt

theorem idx1 : ∀ t : Fin cfg1.N, win1_0.index t = ![0, t.val, 6] ∧ win1_1.index t = ![0, t.val, 14] ∧ win1_2.index t = ![0, t.val - 1, 14]
    ∧ win1_3.index t = ![0, t.val, 0] ∧ win1_4.index t = ![0, t.val, 0] ∧ win1_5.index t = ![0, t.val - 1, 0] ∧ win1_6.index t = ![0, t.val - 1, 0]
    ∧ win1_7.index t = ![0, 0] ∧ win1_8.index t = ![0, t.val, 0] ∧ win1_9.index t = ![0, t.val, 0] ∧ ((grid1.coords t) 0).val = t.val :=
  (by decide +kernel : ∀ t : Fin grid1.N, _)

variable (V : (c : Dev nD) → (b : Ref sig .tc) → Buf (Elt Ideal) ((c : Thread nD τ).loc b)) (c : Dev nD) (X : Data)

/-- What the forward call finds in its arrays. -/
structure Entry : Prop where
  hz : ∀ b s j, (V c main_v27 : FVec Ideal S2x4096x4608 .f32) (ix3 b s j) = (X.z b s j : EReal)
  hc : ∀ b s j, (V c main_v28 : FVec Ideal S2x4096x128 .f32) (ix3 b s j) = (X.ct b s j : EReal)
  hs : ∀ b s j, (V c main_v29 : FVec Ideal S2x4096x128 .f32) (ix3 b s j) = (X.st b s j : EReal)
  hsk : ∀ (u : Fin 1) h, (V c main_v26 : FVec Ideal S1x8 .f32) (ix2 u h) = (X.sk h : EReal)

variable {V c X} (E : Entry V c X) (t : Fin cfg1.N)
include E

theorem blk0 (b r j) : (iblk1 V c 0 t : Vec Ideal S2x128x512 .f32) (ix3 b r j) = ((X.seq t.val b).q r j : EReal) :=
  (show _ = (V c main_v27 : FVec Ideal S2x4096x4608 .f32) (ix3 b ⟨t.val * 128 + r.val, by have := lt_t t; omega⟩ ⟨3072 + j.val, by omega⟩) by
    blk_point [iblk1, idx1 t]).trans ((E.hz _ _ _).trans (congrArg _ (X.z_q _ _ _ j.2)))

theorem blk1 (b r j) : (iblk1 V c 1 t : Vec Ideal S2x128x256 .f32) (ix3 b r j) = ((X.seq t.val b).kv r j : EReal) :=
  (show _ = (V c main_v27 : FVec Ideal S2x4096x4608 .f32) (ix3 b ⟨t.val * 128 + r.val, by have := lt_t t; omega⟩ ⟨3584 + j.val, by omega⟩) by
    blk_point [iblk1, idx1 t]).trans ((E.hz _ _ _).trans (congrArg _ (X.z_kv _ _ _ j.2)))

theorem blk2 (b r j) : (iblk1 V c 2 t : Vec Ideal S2x128x256 .f32) (ix3 b r j) = ((X.seq t.val b).kvp r j : EReal) :=
  (show _ = (V c main_v27 : FVec Ideal S2x4096x4608 .f32) (ix3 b ⟨(t.val - 1) * 128 + r.val, by have := lt_t t; omega⟩ ⟨3584 + j.val, by omega⟩) by
    blk_point [iblk1, idx1 t]).trans ((E.hz _ _ _).trans (congrArg _ (X.z_kv _ _ _ j.2)))

theorem blk3 (b r j) : (iblk1 V c 3 t : Vec Ideal S2x128x128 .f32) (ix3 b r j) = ((X.seq t.val b).c r j : EReal) :=
  (show _ = (V c main_v28 : FVec Ideal S2x4096x128 .f32) (ix3 b ⟨t.val * 128 + r.val, by have := lt_t t; omega⟩ j) by
    blk_point [iblk1, idx1 t]).trans (E.hc _ _ _)

theorem blk4 (b r j) : (iblk1 V c 4 t : Vec Ideal S2x128x128 .f32) (ix3 b r j) = ((X.seq t.val b).s r j : EReal) :=
  (show _ = (V c main_v29 : FVec Ideal S2x4096x128 .f32) (ix3 b ⟨t.val * 128 + r.val, by have := lt_t t; omega⟩ j) by
    blk_point [iblk1, idx1 t]).trans (E.hs _ _ _)

theorem blk5 (b r j) : (iblk1 V c 5 t : Vec Ideal S2x128x128 .f32) (ix3 b r j) = ((X.seq t.val b).cp r j : EReal) :=
  (show _ = (V c main_v28 : FVec Ideal S2x4096x128 .f32) (ix3 b ⟨(t.val - 1) * 128 + r.val, by have := lt_t t; omega⟩ j) by
    blk_point [iblk1, idx1 t]).trans (E.hc _ _ _)

theorem blk6 (b r j) : (iblk1 V c 6 t : Vec Ideal S2x128x128 .f32) (ix3 b r j) = ((X.seq t.val b).sp r j : EReal) :=
  (show _ = (V c main_v29 : FVec Ideal S2x4096x128 .f32) (ix3 b ⟨(t.val - 1) * 128 + r.val, by have := lt_t t; omega⟩ j) by
    blk_point [iblk1, idx1 t]).trans (E.hs _ _ _)

theorem blk7 (u h) : (iblk1 V c 7 t : Vec Ideal S1x8 .f32) (ix2 u h) = (X.sk h : EReal) :=
  (show _ = (V c main_v26 : FVec Ideal S1x8 .f32) (ix2 u h) by blk_point [iblk1, idx1 t]).trans (E.hsk _ _)

theorem arr8 : ((dat1 V c).arrAt 8 cfg1.N : FVec Ideal S2x4096x512 .bf16) = fun i => (X.out (i 0) (i 1) (i 2) : EReal) := by
  refine (dat1 V c).arrAt_eq_of_covers 8 _ (by decide +kernel) fun t _ y => ?_
  blk_simp
  rw [after1_8]
  refine (out8 (grid1.coords t) _ _ _ _ _ _ _ _ (fun b => (X.seq t.val b).q) (fun b => (X.seq t.val b).kv) (fun b => (X.seq t.val b).kvp)
    (fun b => (X.seq t.val b).c) (fun b => (X.seq t.val b).s) (fun b => (X.seq t.val b).cp) (fun b => (X.seq t.val b).sp) X.sk
    (blk0 E t) (blk1 E t) (blk2 E t) (blk3 E t) (blk4 E t) (blk5 E t) (blk6 E t) (blk7 E t) y).trans (congrArg Real.toEReal ?_)
  obtain ⟨-, -, -, -, -, -, -, -, h8, -, hc⟩ := idx1 t
  have h1 : (y 1 : ℕ) < 128 := (y 1).2
  rw [h8]
  simp only [Matrix.cons_val_zero, Matrix.cons_val_one, Matrix.cons_val, Nat.zero_mul, Nat.zero_add]
  rw [Data.out_at X t.val _ _ _ h1, ← hc]
  rfl

theorem arr9 : ((dat1 V c).arrAt 9 cfg1.N : FVec Ideal S2x4096x8 .f32) = fun i => (X.lse (i 0) (i 1) (i 2) : EReal) := by
  refine (dat1 V c).arrAt_eq_of_covers 9 _ (by decide +kernel) fun t _ y => ?_
  blk_simp
  rw [after1_9]
  refine (out9 (grid1.coords t) _ _ _ _ _ _ _ _ (fun b => (X.seq t.val b).q) (fun b => (X.seq t.val b).kv) (fun b => (X.seq t.val b).kvp)
    (fun b => (X.seq t.val b).c) (fun b => (X.seq t.val b).s) (fun b => (X.seq t.val b).cp) (fun b => (X.seq t.val b).sp) X.sk
    (blk0 E t) (blk1 E t) (blk2 E t) (blk3 E t) (blk4 E t) (blk5 E t) (blk6 E t) (blk7 E t) y).trans (congrArg Real.toEReal ?_)
  obtain ⟨-, -, -, -, -, -, -, -, -, h9, hc⟩ := idx1 t
  have h1 : (y 1 : ℕ) < 128 := (y 1).2
  rw [h9]
  simp only [Matrix.cons_val_zero, Matrix.cons_val_one, Matrix.cons_val, Nat.zero_mul, Nat.zero_add]
  rw [Data.lse_at X t.val _ _ _ h1, ← hc]
  rfl

end Cert.Attn.Fwd
end
-- ==== Proof.AttnArr0.lean ====
module

public import proofs.«01_k».proof.Proof.Gen.AttnIdeal.Frame.Region0
public import proofs.«01_k».proof.Proof.Gen.AttnIdeal.Frame.Region3
public import proofs.«01_k».proof.Proof.AttnArr1

/-! The rotation tables and the joined key and value gradients over the real numbers. -/

@[expose] public section

set_option maxRecDepth 16384

noncomputable section

open Idealize.ShloMosaic Idealize.ShloMosaic.TcCoe Idealize.SL.Sem
open Idealize.ShloMosaic.Pipeline (Dat)

namespace Cert.Attn.Tables

open Cert.AttnIdeal Cert.AttnIdeal.Gen Cert.Attn Cert.Attn.Spec

/-- The cosine and the signed sine of a lane's angle. -/
def cosAt (a : ℝ) (j : ℕ) : ℝ := if j % 64 < 16 then Real.cos a else 1
def sinAt (a : ℝ) (j : ℕ) : ℝ := if j % 64 < 8 then - Real.sin a else if j % 64 < 16 then Real.sin a else 0

theorem lanes (r : Fin 1024) (j : Fin 128) : k0_pay2 (ix2 r j) = BitVec.ofNat 32 (j.val % 64) := by
  pointwise [k0_pay2]
  revert j
  decide

theorem lt16 : ∀ j : Fin 128, IntOp.cmpi .slt (BitVec.ofNat 32 (j.val % 64)) 16#32 = if j.val % 64 < 16 then 1#1 else 0#1 := by decide
theorem lt8 : ∀ j : Fin 128, IntOp.cmpi .slt (BitVec.ofNat 32 (j.val % 64)) 8#32 = if j.val % 64 < 8 then 1#1 else 0#1 := by decide

variable (x0 : Vec Ideal S1024x1 .i32) (x1 : Vec Ideal S1x128 .f32) (inv : ℕ → ℝ) (H1 : ∀ u j, x1 (ix2 u j) = (inv j : EReal))
include H1

theorem cos_val (r : Fin 1024) (j : Fin 128) : k0_pay3 x0 x1 (ix2 r j) = (cosAt ((x0 (ix2 r 0)).toInt * inv j) j : EReal) := by
  have e := lanes r j
  unfold cosAt
  pointwise [k0_pay3, k0_pay1]
  rw [e, lt16, H1, show (FloatOps.sitofp FTy.f32 (x0 (ix2 r 0)) : Ideal .f32) = (((x0 (ix2 r 0)).toInt : ℝ) : EReal) from rfl, ← EReal.coe_mul, Ideal.cos_coe]
  split_ifs <;> rfl

theorem sin_val (r : Fin 1024) (j : Fin 128) : k0_pay4 x0 x1 (ix2 r j) = (sinAt ((x0 (ix2 r 0)).toInt * inv j) j : EReal) := by
  have e := lanes r j
  unfold sinAt
  pointwise [k0_pay4, k0_pay1]
  rw [e, lt16, lt8, H1, show (FloatOps.sitofp FTy.f32 (x0 (ix2 r 0)) : Ideal .f32) = (((x0 (ix2 r 0)).toInt : ℝ) : EReal) from rfl, ← EReal.coe_mul, Ideal.sin_coe]
  split_ifs with h h'
  · exact (zero_sub _).trans (EReal.coe_neg _).symm
  · exact (zero_sub _).trans (EReal.coe_neg _).symm
  · rfl
  · rfl

end Cert.Attn.Tables

namespace Cert.Attn.Tables

open Cert.AttnIdeal Cert.AttnIdeal.Gen Cert.Attn Cert.Attn.Spec

theorem idx0 : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (V : (c : Dev nD) → (b : Ref sig .tc) → Buf (Elt Ideal) ((c : Thread nD τ).loc b)) (c : Dev nD) (pos : ℕ → ℤ) (inv : ℕ → ℝ)

/-- What the call that writes the tables finds in its arrays. -/
structure Entry : Prop where
  hp : ∀ s u, ((V c main_v20 : IVec S8192x1 32) (ix2 s u)).toInt = pos s
  hi : ∀ u j, (V c main_v18 : FVec Ideal S1x128 .f32) (ix2 u j) = (inv j : EReal)

variable {V c pos inv} (E : Entry V c pos inv) (t : Fin cfg0.N)
include E

theorem lt_t (t : Fin cfg0.N) : t.val < 8 := t.isLt

theorem blk0 (r u) : ((iblk0 V c 0 t : Vec Ideal S1024x1 .i32) (ix2 r u)).toInt = pos (t.val * 1024 + r.val) :=
  (congrArg BitVec.toInt (show _ = (V c main_v20 : IVec S8192x1 32) (ix2 ⟨t.val * 1024 + r.val, by have : t.val < 8 := t.isLt; omega⟩ u) by
    blk_point [iblk0, idx0 t])).trans (E.hp _ _)

theorem blk1 (u j) : (iblk0 V c 1 t : Vec Ideal S1x128 .f32) (ix2 u j) = (inv j : EReal) :=
  (show _ = (V c main_v18 : FVec Ideal S1x128 .f32) (ix2 u j) by blk_point [iblk0, idx0 t]).trans (E.hi _ _)

theorem arr2 : ((dat0 V c).arrAt 2 cfg0.N : FVec Ideal S8192x128 .f32) = fun i => (cosAt (pos (i 0) * inv (i 1)) (i 1) : EReal) := by
  refine (dat0 V c).arrAt_eq_of_covers 2 _ (by decide +kernel) fun t _ y => ?_
  blk_simp
  rw [after0_2]
  unfold out0_2
  canon_tiles x h
  idx_vars x
  simp (disch := decide) only [View.ld_unit_lit']
  rw [cos_val _ _ inv (blk1 E t), blk0 E t, (idx0 t).2.2.1]
  simp only [Matrix.cons_val_zero, Matrix.cons_val_one, Nat.zero_mul, Nat.zero_add, h0, h1]

theorem arr3 : ((dat0 V c).arrAt 3 cfg0.N : FVec Ideal S8192x128 .f32) = fun i => (sinAt (pos (i 0) * inv (i 1)) (i 1) : EReal) := by
  refine (dat0 V c).arrAt_eq_of_covers 3 _ (by decide +kernel) fun t _ y => ?_
  blk_simp
  rw [after0_3]
  unfold out0_3
  canon_tiles x h
  idx_vars x
  simp (disch := decide) only [View.ld_unit_lit']
  rw [sin_val _ _ inv (blk1 E t), blk0 E t, (idx0 t).2.2.2]
  simp only [Matrix.cons_val_zero, Matrix.cons_val_one, Nat.zero_mul, Nat.zero_add, h0, h1]

end Cert.Attn.Tables

namespace Cert.Attn.Join

open Cert.AttnIdeal Cert.AttnIdeal.Gen Cert.Attn Cert.Attn.Spec

theorem idx3 : ∀ t : Fin cfg3.N, win3_0.index t = ![t.val, 0] ∧ win3_1.index t = ![t.val, 0] ∧ win3_2.index t = ![min ((t.val + 1) * 4) 63, 0]
    ∧ win3_3.index t = ![t.val, 14] ∧ ((grid3.coords t) 1).val = t.val % 8 :=
  (by decide +kernel : ∀ t : Fin grid3.N, _)

variable (V : (c : Dev nD) → (b : Ref sig .tc) → Buf (Elt Ideal) ((c : Thread nD τ).loc b)) (c : Dev nD) (P R : ℕ → ℕ → ℝ)

/-- What the joining call finds in its arrays. -/
structure Entry : Prop where
  hp : ∀ s d, (V c main_v44 : FVec Ideal S8192x256 .f32) (ix2 s d) = (P s d : EReal)
  hr : ∀ s d, (V c main_v45 : FVec Ideal S8192x256 .f32) (ix2 s d) = (R s d : EReal)

/-- A position's own part and, unless its block is the sequence's last, the next block's. -/
def joined (s d : ℕ) : ℝ := P s d + if s % 4096 < 3968 then R (s + 128) d else 0

variable {V c P R} (E : Entry V c P R) (t : Fin cfg3.N)

theorem last : ∀ t : Fin cfg3.N, Scalar.cmpi .eq (BitVec.ofNat 32 ((grid3.coords t) 1).val) 7#32 = if t.val % 8 = 7 then 1#1 else 0#1 :=
  (by decide +kernel : ∀ t : Fin grid3.N, _)

include E

theorem blk0 (r d) : (iblk3 V c 0 t : Vec Ideal S512x256 .f32) (ix2 r d) = (P (t.val * 512 + r.val) d : EReal) :=
  (show _ = (V c main_v44 : FVec Ideal S8192x256 .f32) (ix2 ⟨t.val * 512 + r.val, by have : t.val < 16 := t.isLt; omega⟩ d) by
    blk_point [iblk3, idx3 t]).trans (E.hp _ _)

theorem blk1 (r d) : (iblk3 V c 1 t : Vec Ideal S512x256 .f32) (ix2 r d) = (R (t.val * 512 + r.val) d : EReal) :=
  (show _ = (V c main_v45 : FVec Ideal S8192x256 .f32) (ix2 ⟨t.val * 512 + r.val, by have : t.val < 16 := t.isLt; omega⟩ d) by
    blk_point [iblk3, idx3 t]).trans (E.hr _ _)

theorem blk2 (r d) : (iblk3 V c 2 t : Vec Ideal S128x256 .f32) (ix2 r d) = (R (min ((t.val + 1) * 4) 63 * 128 + r.val) d : EReal) :=
  (show _ = (V c main_v45 : FVec Ideal S8192x256 .f32) (ix2 ⟨min ((t.val + 1) * 4) 63 * 128 + r.val, by have : t.val < 16 := t.isLt; omega⟩ d) by
    blk_point [iblk3, idx3 t]).trans (E.hr _ _)

theorem point (y : S512x256.Idx) : outsAt3 V c t y = (joined P R (t.val * 512 + (y 0).val) (y 1) : EReal) := by
  unfold outsAt3 out3_A_3
  rw [View.read_writes_junk_eq_canon]
  unfold kernelRun3_A
  dsimp only
  simp only [View.readAt_eq_ld, Memref.IsWhole.read_unread]
  have e0 := blk0 E t
  have e1 := blk1 E t
  have e2 := blk2 E t
  have ht : t.val < 16 := t.isLt
  canon_tiles x h
  idx_vars x
  pointwise [k3_pay1]
  rw [h0, h1, e0]
  unfold joined
  by_cases g1 : x0.val < 384
  · rw [dif_pos g1, e1, if_pos (by omega), ← EReal.coe_add]
    exact congrArg (fun n => ((P (t.val * 512 + x0.val) x1 + R n x1 : ℝ) : EReal)) (by show _ + (128 + _) = _; omega)
  · rw [dif_neg g1, e2, last]
    by_cases g2 : t.val % 8 = 7
    · have k : (if (t.val * 512 + x0.val) % 4096 < 3968 then R (t.val * 512 + x0.val + 128) x1 else 0) = 0 := if_neg (by omega)
      rw [if_pos g2, k]
      exact (add_zero _).trans (congrArg _ (add_zero _).symm)
    · have k : (if (t.val * 512 + x0.val) % 4096 < 3968 then R (t.val * 512 + x0.val + 128) x1 else 0) = R (t.val * 512 + x0.val + 128) x1 := if_pos (by omega)
      rw [if_neg g2, k]
      refine (EReal.coe_add _ _).symm.trans ?_
      exact congrArg (fun n => ((P (t.val * 512 + x0.val) x1 + R n x1 : ℝ) : EReal)) (by show _ + (x0.val - 384) = _; omega)

theorem arr3 : ((dat3 V c).arrAt 3 cfg3.N : FVec Ideal S8192x4608 .bf16)
    = fun i => if 3584 ≤ (i 1).val ∧ (i 1).val < 3840 then (joined P R (i 0) ((i 1).val - 3584) : EReal) else (V c main_v46 : FVec Ideal S8192x4608 .bf16) i := by
  refine (dat3 V c).arrAt_eq_of_coversWhere 3 _ (fun β => β 1 = 14) (by decide +kernel) (fun t hf y => ?_)
    (fun j => by blk_simp [Pipeline.Window.cell_apply]; omega)
  blk_simp
  rw [after3_3]
  refine (point E t y).trans (congrArg Real.toEReal ?_)
  have h1 : (y 1 : ℕ) < 256 := (y 1).2
  rw [(idx3 t).2.2.2.1]
  simp only [Matrix.cons_val_zero, Matrix.cons_val_one, Matrix.cons_val, Nat.zero_mul, Nat.zero_add]
  rw [show 14 * 256 + (y 1 : ℕ) - 3584 = y 1 by omega]

end Cert.Attn.Join
-- ==== Proof.AttnPieces.lean ====
module

public import proofs.«01_k».proof.Proof.Gen.AttnIdeal.Frame.Region2
public import proofs.«01_k».proof.Proof.AttnBlock

@[expose] public section

set_option maxRecDepth 16384

noncomputable section

open Idealize.ShloMosaic Idealize.ShloMosaic.TcCoe Idealize.SL.Sem

namespace Cert.Attn.Bwd

open Cert.AttnIdeal Cert.AttnIdeal.Gen Cert.Attn.Block

variable (V : (c : Dev nD) → (b : Ref sig .tc) → Buf (Elt Ideal) ((c : Thread nD τ).loc b)) (c : Dev nD) (t : Fin cfg2.N)

def raw0 : Tiles where
  q := View.readAt (Elt Ideal) (ms2_0 t).view (Rect.unit (s := S2x128x512) ![0, 0, 0] S1x128x512.size (by decide)).toLoadRect ((hs2_0 t).unread (iblk2 V c 0 t))
  kv := View.readAt (Elt Ideal) (ms2_1 t).view (Rect.unit (s := S2x128x256) ![0, 0, 0] S1x128x256.size (by decide)).toLoadRect ((hs2_1 t).unread (iblk2 V c 1 t))
  kvp := View.readAt (Elt Ideal) (ms2_2 t).view (Rect.unit (s := S2x128x256) ![0, 0, 0] S1x128x256.size (by decide)).toLoadRect ((hs2_2 t).unread (iblk2 V c 2 t))
  c := View.readAt (Elt Ideal) (ms2_3 t).view (Rect.unit (s := S2x128x128) ![0, 0, 0] S1x128x128.size (by decide)).toLoadRect ((hs2_3 t).unread (iblk2 V c 3 t))
  s := View.readAt (Elt Ideal) (ms2_4 t).view (Rect.unit (s := S2x128x128) ![0, 0, 0] S1x128x128.size (by decide)).toLoadRect ((hs2_4 t).unread (iblk2 V c 4 t))
  cp := View.readAt (Elt Ideal) (ms2_5 t).view (Rect.unit (s := S2x128x128) ![0, 0, 0] S1x128x128.size (by decide)).toLoadRect ((hs2_5 t).unread (iblk2 V c 5 t))
  sp := View.readAt (Elt Ideal) (ms2_6 t).view (Rect.unit (s := S2x128x128) ![0, 0, 0] S1x128x128.size (by decide)).toLoadRect ((hs2_6 t).unread (iblk2 V c 6 t))
  o := View.readAt (Elt Ideal) (ms2_8 t).view (Rect.unit (s := S2x128x512) ![0, 0, 0] S1x128x512.size (by decide)).toLoadRect ((hs2_8 t).unread (iblk2 V c 8 t))
  l := View.readAt (Elt Ideal) (ms2_9 t).view (Rect.unit (s := S2x128x8) ![0, 0, 0] S1x128x8.size (by decide)).toLoadRect ((hs2_9 t).unread (iblk2 V c 9 t))
  g := View.readAt (Elt Ideal) (ms2_10 t).view (Rect.unit (s := S2x128x512) ![0, 0, 0] S1x128x512.size (by decide)).toLoadRect ((hs2_10 t).unread (iblk2 V c 10 t))

def raw1 : Tiles where
  q := View.readAt (Elt Ideal) (ms2_0 t).view (Rect.unit (s := S2x128x512) ![1, 0, 0] S1x128x512.size (by decide)).toLoadRect ((hs2_0 t).unread (iblk2 V c 0 t))
  kv := View.readAt (Elt Ideal) (ms2_1 t).view (Rect.unit (s := S2x128x256) ![1, 0, 0] S1x128x256.size (by decide)).toLoadRect ((hs2_1 t).unread (iblk2 V c 1 t))
  kvp := View.readAt (Elt Ideal) (ms2_2 t).view (Rect.unit (s := S2x128x256) ![1, 0, 0] S1x128x256.size (by decide)).toLoadRect ((hs2_2 t).unread (iblk2 V c 2 t))
  c := View.readAt (Elt Ideal) (ms2_3 t).view (Rect.unit (s := S2x128x128) ![1, 0, 0] S1x128x128.size (by decide)).toLoadRect ((hs2_3 t).unread (iblk2 V c 3 t))
  s := View.readAt (Elt Ideal) (ms2_4 t).view (Rect.unit (s := S2x128x128) ![1, 0, 0] S1x128x128.size (by decide)).toLoadRect ((hs2_4 t).unread (iblk2 V c 4 t))
  cp := View.readAt (Elt Ideal) (ms2_5 t).view (Rect.unit (s := S2x128x128) ![1, 0, 0] S1x128x128.size (by decide)).toLoadRect ((hs2_5 t).unread (iblk2 V c 5 t))
  sp := View.readAt (Elt Ideal) (ms2_6 t).view (Rect.unit (s := S2x128x128) ![1, 0, 0] S1x128x128.size (by decide)).toLoadRect ((hs2_6 t).unread (iblk2 V c 6 t))
  o := View.readAt (Elt Ideal) (ms2_8 t).view (Rect.unit (s := S2x128x512) ![1, 0, 0] S1x128x512.size (by decide)).toLoadRect ((hs2_8 t).unread (iblk2 V c 8 t))
  l := View.readAt (Elt Ideal) (ms2_9 t).view (Rect.unit (s := S2x128x8) ![1, 0, 0] S1x128x8.size (by decide)).toLoadRect ((hs2_9 t).unread (iblk2 V c 9 t))
  g := View.readAt (Elt Ideal) (ms2_10 t).view (Rect.unit (s := S2x128x512) ![1, 0, 0] S1x128x512.size (by decide)).toLoadRect ((hs2_10 t).unread (iblk2 V c 10 t))

abbrev mk : IVec S512x256 1 := k2_pay2 (grid2.coords t)

/-- The queries' gradient: one store per sequence. -/
theorem q_pieces : (outsAt2 V c t.val t.isLt).1 = View.canon
    [⟨Rect.unit (s := S2x128x512) ![1, 0, 0] S1x128x512.size (by decide), dq (mk t) (raw1 V c t)⟩,
     ⟨Rect.unit (s := S2x128x512) ![0, 0, 0] S1x128x512.size (by decide), dq (mk t) (raw0 V c t)⟩] := by
  by_cases h0 : t.val % 32 = 0
  · rw [outsAt2_A V c t h0]
    dsimp only
    unfold out2_A_11
    rw [View.read_writes_junk_eq_canon]
    unfold kernelRun2_A
    dsimp only
    sl_kernel_rfl
  · rw [outsAt2_B V c t h0]
    dsimp only
    unfold out2_B_11
    rw [View.read_writes_junk_eq_canon]
    unfold kernelRun2_B
    dsimp only
    sl_kernel_rfl

/-- The block's own keys' and values' gradients: two stores per sequence. -/
theorem own_pieces : (outsAt2 V c t.val t.isLt).2.1 = View.canon
    [⟨Rect.unit (s := S2x128x256) ![1, 0, 128] S1x128x128.size (by decide), dvOwn (mk t) (raw1 V c t)⟩,
     ⟨Rect.unit (s := S2x128x256) ![1, 0, 0] S1x128x128.size (by decide), dkOwn (mk t) (raw1 V c t)⟩,
     ⟨Rect.unit (s := S2x128x256) ![0, 0, 128] S1x128x128.size (by decide), dvOwn (mk t) (raw0 V c t)⟩,
     ⟨Rect.unit (s := S2x128x256) ![0, 0, 0] S1x128x128.size (by decide), dkOwn (mk t) (raw0 V c t)⟩] := by
  by_cases h0 : t.val % 32 = 0
  · rw [outsAt2_A V c t h0]
    dsimp only
    unfold out2_A_12
    rw [View.read_writes_junk_eq_canon]
    unfold kernelRun2_A
    dsimp only
    sl_kernel_rfl
  · rw [outsAt2_B V c t h0]
    dsimp only
    unfold out2_B_12
    rw [View.read_writes_junk_eq_canon]
    unfold kernelRun2_B
    dsimp only
    sl_kernel_rfl

/-- The previous block's. -/
theorem prev_pieces : (outsAt2 V c t.val t.isLt).2.2.1 = View.canon
    [⟨Rect.unit (s := S2x128x256) ![1, 0, 128] S1x128x128.size (by decide), dvPrev (mk t) (raw1 V c t)⟩,
     ⟨Rect.unit (s := S2x128x256) ![1, 0, 0] S1x128x128.size (by decide), dkPrev (mk t) (raw1 V c t)⟩,
     ⟨Rect.unit (s := S2x128x256) ![0, 0, 128] S1x128x128.size (by decide), dvPrev (mk t) (raw0 V c t)⟩,
     ⟨Rect.unit (s := S2x128x256) ![0, 0, 0] S1x128x128.size (by decide), dkPrev (mk t) (raw0 V c t)⟩] := by
  by_cases h0 : t.val % 32 = 0
  · rw [outsAt2_A V c t h0]
    dsimp only
    unfold out2_A_13
    rw [View.read_writes_junk_eq_canon]
    unfold kernelRun2_A
    dsimp only
    sl_kernel_rfl
  · rw [outsAt2_B V c t h0]
    dsimp only
    unfold out2_B_13
    rw [View.read_writes_junk_eq_canon]
    unfold kernelRun2_B
    dsimp only
    sl_kernel_rfl

/-- The sinks, read whole. -/
def rawS : Vec Ideal S1x8 .f32 :=
  View.readAt (Elt Ideal) (ms2_7 t).view (Rect.unit (s := S1x8) ![0, 0] S1x8.size (by decide)).toLoadRect ((hs2_7 t).unread (iblk2 V c 7 t))

/-- Eight zeros. -/
def none8 : FVec Ideal S1x8 .f32 := broadcast S1x8 (Scalar.ofBits (F := Ideal) .f32 0x00000000#32)

/-- What a point adds to the sinks' gradient. -/
def dsinkAt : FVec Ideal S1x8 .f32 :=
  dsink (raw1 V c t) (rawS V c t) (dsink (raw0 V c t) (rawS V c t) none8)

/-- The first point starts the sinks' gradient from zeros, the others add to what the point before left. -/
theorem sink_first (h0 : t.val % 32 = 0) : (outsAt2 V c t.val t.isLt).2.2.2 = k2_pay1 (dsinkAt V c t) none8 := by
  rw [outsAt2_A V c t h0]
  dsimp only
  unfold out2_A_14
  rw [View.read_writes_junk_eq_canon]
  unfold kernelRun2_A
  dsimp only
  unfold kernelRun2_A.sl.v985 kernelRun2_A.sl.H14_1
  generalize e : kernelRun2_A.sl.v859 (F := Ideal) _ _ _ _ _ _ _ _ _ _ _ _ _ = X
  rw [show dsinkAt V c t = X from Eq.trans (by sl_kernel_rfl) e]
  simp (disch := decide) only [View.canon_cons_unit_lit', View.readCov_unit_lit', View.readCov_cons_unit_lit']
  rfl

theorem sink_next (h0 : ¬ t.val % 32 = 0) : (outsAt2 V c t.val t.isLt).2.2.2 = k2_pay1 (dsinkAt V c t)
    (outsAt2 V c (t.val - 1) (Nat.lt_of_le_of_lt (Nat.sub_le _ _) t.isLt)).2.2.2 := by
  rw [outsAt2_B V c t h0]
  dsimp only
  unfold out2_B_14
  rw [View.read_writes_junk_eq_canon]
  unfold kernelRun2_B
  dsimp only
  unfold kernelRun2_B.sl.r_38
  generalize e : kernelRun2_B.sl.v859 (F := Ideal) _ _ _ _ _ _ _ _ _ _ _ _ _ = X
  rw [show dsinkAt V c t = X from Eq.trans (by sl_kernel_rfl) e]
  simp (disch := decide) only [View.canon_cons_unit_lit', View.ld_unit_lit', View.readAt_eq_ld, Memref.IsWhole.read_unread]

end Cert.Attn.Bwd
end
-- ==== Proof.AttnBwdBlk.lean ====
module

public import proofs.«01_k».proof.Proof.AttnPieces
public import proofs.«01_k».proof.Proof.AttnBwdOut

/-! What one grid point of the backward attention call writes, over the real numbers. -/

@[expose] public section

set_option maxRecDepth 16384

noncomputable section

open Idealize.ShloMosaic Idealize.ShloMosaic.TcCoe Idealize.SL.Sem

namespace Cert.Attn.Bwd

open Cert.AttnIdeal Cert.AttnIdeal.Gen Cert.Attn Cert.Attn.Spec Cert.Attn.Words Cert.Attn.Block

variable (V : (c : Dev nD) → (b : Ref sig .tc) → Buf (Elt Ideal) ((c : Thread nD τ).loc b)) (c : Dev nD) (t : Fin cfg2.N)

/-- A point's blocks hold the two sequences' reals. -/
structure BlockHolds (A : ℕ → Seq) : Prop where
  hq : ∀ b r j, (iblk2 V c 0 t : Vec Ideal S2x128x512 .f32) (ix3 b r j) = ((A b).q r j : EReal)
  hkv : ∀ b r j, (iblk2 V c 1 t : Vec Ideal S2x128x256 .f32) (ix3 b r j) = ((A b).kv r j : EReal)
  hkvp : ∀ b r j, (iblk2 V c 2 t : Vec Ideal S2x128x256 .f32) (ix3 b r j) = ((A b).kvp r j : EReal)
  hc : ∀ b r j, (iblk2 V c 3 t : Vec Ideal S2x128x128 .f32) (ix3 b r j) = ((A b).c r j : EReal)
  hs : ∀ b r j, (iblk2 V c 4 t : Vec Ideal S2x128x128 .f32) (ix3 b r j) = ((A b).s r j : EReal)
  hcp : ∀ b r j, (iblk2 V c 5 t : Vec Ideal S2x128x128 .f32) (ix3 b r j) = ((A b).cp r j : EReal)
  hsp : ∀ b r j, (iblk2 V c 6 t : Vec Ideal S2x128x128 .f32) (ix3 b r j) = ((A b).sp r j : EReal)
  hsk : ∀ (b : ℕ) u h, (iblk2 V c 7 t : Vec Ideal S1x8 .f32) (ix2 u h) = ((A b).sk h : EReal)
  ho : ∀ b r j, (iblk2 V c 8 t : Vec Ideal S2x128x512 .bf16) (ix3 b r j)
    = (O (A b).n (A b).Q (A b).K (A b).V (A b).sk (j / 64) r (j % 64) : EReal)
  hl : ∀ b r h, (iblk2 V c 9 t : Vec Ideal S2x128x8 .f32) (ix3 b r h) = (L (A b).n (A b).Q (A b).K (A b).sk h r : EReal)
  hg : ∀ b r j, (iblk2 V c 10 t : Vec Ideal S2x128x512 .bf16) (ix3 b r j) = ((A b).G r j : EReal)
  hn : ∀ b, (A b).n = t.val

variable {V c t} {A : ℕ → Seq} (H : BlockHolds V c t A)
include H

theorem holds0 : Holds (A 0) (raw0 V c t) := by
  constructor
  all_goals
    intro b r j
    have hb : b.val = 0 := by omega
    simp only [raw0, View.readAt_eq_ld, Memref.IsWhole.read_unread]
    pointwise []
  · simp [H.hq, hb]
  · simp [H.hkv, hb]
  · simp [H.hkvp, hb]
  · simp [H.hc, hb]
  · simp [H.hs, hb]
  · simp [H.hcp, hb]
  · simp [H.hsp, hb]
  · simp [H.ho, hb]
  · simp [H.hl, hb]
  · simp [H.hg, hb]

theorem holds1 : Holds (A 1) (raw1 V c t) := by
  constructor
  all_goals
    intro b r j
    have hb : b.val = 0 := by omega
    simp only [raw1, View.readAt_eq_ld, Memref.IsWhole.read_unread]
    pointwise []
  · simp [H.hq, hb]
  · simp [H.hkv, hb]
  · simp [H.hkvp, hb]
  · simp [H.hc, hb]
  · simp [H.hs, hb]
  · simp [H.hcp, hb]
  · simp [H.hsp, hb]
  · simp [H.ho, hb]
  · simp [H.hl, hb]
  · simp [H.hg, hb]

theorem sinks_val (b : ℕ) (u : Fin 1) (h : Fin 8) : rawS V c t (ix2 u h) = ((A b).sk h : EReal) := by
  simp only [rawS, View.readAt_eq_ld, Memref.IsWhole.read_unread]
  pointwise []
  simp [H.hsk b]

omit H in
theorem point : ∀ t : Fin cfg2.N, ((grid2.coords t) 0).val = t.val := by decide +kernel

theorem mask_at (b : ℕ) (R : Fin 512) (j : Fin 256) : mk t (ix2 R j) = if msk (A b).n (R.val % 128) j then 1#1 else 0#1 := by
  rw [H.hn b]
  have e := mask_val (grid2.coords t) R j
  rw [point] at e
  exact e

theorem q_val (y : S2x128x512.Idx) : (outsAt2 V c t.val t.isLt).1 y
    = (ropeT ((A (y 0)).c (y 1)) ((A (y 0)).s (y 1)) (fun k => (A (y 0)).gQ (k / 64) (y 1) (k % 64) * 8⁻¹) (y 2) : EReal) := by
  rw [q_pieces]
  canon_tiles x h
  · have e := dq_val (holds1 H) (mask_at H 1)
    idx_vars x
    rw [e]
    simp [h0, h1, h2]
  · have e := dq_val (holds0 H) (mask_at H 0)
    idx_vars x
    rw [e]
    simp [h0, h1, h2]

/-- The keys' and values' gradients of one block of rows `off + r` of the band, rotated back by the tables `c`, `s`. -/
def kvN (A : Seq) (c s : ℕ → ℕ → ℝ) (off r d : ℕ) : ℝ :=
  if d < 128 then ropeT (c r) (s r) (fun d => A.gK (d / 64) (off + r) (d % 64)) d else A.gV ((d - 128) / 64) (off + r) ((d - 128) % 64)

theorem own_val (y : S2x128x256.Idx) : (outsAt2 V c t.val t.isLt).2.1 y = (kvN (A (y 0)) (A (y 0)).c (A (y 0)).s 128 (y 1) (y 2) : EReal) := by
  rw [own_pieces]
  unfold kvN
  canon_tiles x h
  · have e := dvOwn_val (holds1 H) (mask_at H 1)
    idx_vars x
    rw [e]
    simp [h0, h1, h2]
  · have e := dkOwn_val (holds1 H) (mask_at H 1)
    idx_vars x
    rw [e]
    simp [h0, h1, h2]
  · have e := dvOwn_val (holds0 H) (mask_at H 0)
    idx_vars x
    rw [e]
    simp [h0, h1, h2]
  · have e := dkOwn_val (holds0 H) (mask_at H 0)
    idx_vars x
    rw [e]
    simp [h0, h1, h2]

theorem prev_val (y : S2x128x256.Idx) : (outsAt2 V c t.val t.isLt).2.2.1 y = (kvN (A (y 0)) (A (y 0)).cp (A (y 0)).sp 0 (y 1) (y 2) : EReal) := by
  rw [prev_pieces]
  unfold kvN
  canon_tiles x h
  · have e := dvPrev_val (holds1 H) (mask_at H 1)
    idx_vars x
    rw [e]
    simp [h0, h1, h2]
  · have e := dkPrev_val (holds1 H) (mask_at H 1)
    idx_vars x
    rw [e]
    simp [h0, h1, h2]
  · have e := dvPrev_val (holds0 H) (mask_at H 0)
    idx_vars x
    rw [e]
    simp [h0, h1, h2]
  · have e := dkPrev_val (holds0 H) (mask_at H 0)
    idx_vars x
    rw [e]
    simp [h0, h1, h2]

theorem dsinkAt_val (u : Fin 1) (h : Fin 8) : dsinkAt V c t (ix2 u h) = (((A 0).gSink h + (A 1).gSink h : ℝ) : EReal) := by
  have z : ∀ (b : Fin 1) (j : Fin 8), none8 (ix2 b j) = ((fun _ => (0 : ℝ)) j.val : ℝ) := fun b j => by pointwise [none8]; rfl
  have e := dsink_val (holds0 H) _ (sinks_val H 0) none8 (fun _ => 0) z
  rw [dsinkAt, dsink_val (holds1 H) _ (sinks_val H 1) _ (fun j => 0 + (A 0).gSink j) e, zero_add]

end Cert.Attn.Bwd
end
-- ==== Proof.AttnArr2.lean ====
module

public import proofs.«01_k».proof.Proof.AttnBwdBlk
public import proofs.«01_k».proof.Proof.AttnArr1

/-! The backward attention call's four arrays over the real numbers. -/

@[expose] public section

set_option maxRecDepth 16384

noncomputable section

open Idealize.ShloMosaic Idealize.ShloMosaic.TcCoe Idealize.SL.Sem
open Idealize.ShloMosaic.Pipeline (Dat)

namespace Cert.Attn.Data

open Cert.AttnIdeal Cert.AttnIdeal.Gen Cert.Attn Cert.Attn.Spec

variable (X : Data)

/-- The gradient of the queries at a position and a column. -/
def dq (b s j : ℕ) : ℝ := ropeT (X.ct b s) (X.st b s) (fun k => (X.seq (s / 128) b).gQ (k / 64) (s % 128) (k % 64) * 8⁻¹) j
/-- The gradient of keys and values at a position from the position's own block. -/
def own (b s d : ℕ) : ℝ := Bwd.kvN (X.seq (s / 128) b) (X.seq (s / 128) b).c (X.seq (s / 128) b).s 128 (s % 128) d
/-- What the block of a position gives to the block before it. -/
def prev (b s d : ℕ) : ℝ := Bwd.kvN (X.seq (s / 128) b) (X.seq (s / 128) b).cp (X.seq (s / 128) b).sp 0 (s % 128) d
/-- The gradient of the sinks. -/
def dsink (h : ℕ) : ℝ := ∑ n ∈ Finset.range 32, ((X.seq n 0).gSink h + (X.seq n 1).gSink h)

theorem dq_at (n b r j : ℕ) (h : r < 128) : X.dq b (n * 128 + r) j
    = ropeT ((X.seq n b).c r) ((X.seq n b).s r) (fun k => (X.seq n b).gQ (k / 64) r (k % 64) * 8⁻¹) j := by
  unfold dq
  rw [show (n * 128 + r) / 128 = n by omega, show (n * 128 + r) % 128 = r by omega]
  rfl

theorem own_at (n b r j : ℕ) (h : r < 128) : X.own b (n * 128 + r) j = Bwd.kvN (X.seq n b) (X.seq n b).c (X.seq n b).s 128 r j := by
  unfold own
  rw [show (n * 128 + r) / 128 = n by omega, show (n * 128 + r) % 128 = r by omega]

theorem prev_at (n b r j : ℕ) (h : r < 128) : X.prev b (n * 128 + r) j = Bwd.kvN (X.seq n b) (X.seq n b).cp (X.seq n b).sp 0 r j := by
  unfold prev
  rw [show (n * 128 + r) / 128 = n by omega, show (n * 128 + r) % 128 = r by omega]

end Cert.Attn.Data

namespace Cert.Attn.Bwd

open Cert.AttnIdeal Cert.AttnIdeal.Gen Cert.Attn Cert.Attn.Spec

theorem lt_t (t : Fin cfg2.N) : t.val < 32 := t.isLt

theorem idx2 : ∀ t : Fin cfg2.N, win2_0.index t = ![0, t.val, 6] ∧ win2_1.index t = ![0, t.val, 14] ∧ win2_2.index t = ![0, t.val - 1, 14]
    ∧ win2_3.index t = ![0, t.val, 0] ∧ win2_4.index t = ![0, t.val, 0] ∧ win2_5.index t = ![0, t.val - 1, 0] ∧ win2_6.index t = ![0, t.val - 1, 0]
    ∧ win2_7.index t = ![0, 0] ∧ win2_8.index t = ![0, t.val, 0] ∧ win2_9.index t = ![0, t.val, 0] ∧ win2_10.index t = ![0, t.val, 0]
    ∧ win2_11.index t = ![0, t.val, 6] ∧ win2_12.index t = ![0, t.val, 0] ∧ win2_13.index t = ![0, t.val, 0] ∧ win2_14.index t = ![0, 0] :=
  (by decide +kernel : ∀ t : Fin grid2.N, _)

variable (V : (c : Dev nD) → (b : Ref sig .tc) → Buf (Elt Ideal) ((c : Thread nD τ).loc b)) (c : Dev nD) (X : Data)

/-- What the backward call finds in its arrays. -/
structure Entry : Prop where
  hz : ∀ b s j, (V c main_v35 : FVec Ideal S2x4096x4608 .f32) (ix3 b s j) = (X.z b s j : EReal)
  hc : ∀ b s j, (V c main_v36 : FVec Ideal S2x4096x128 .f32) (ix3 b s j) = (X.ct b s j : EReal)
  hs : ∀ b s j, (V c main_v37 : FVec Ideal S2x4096x128 .f32) (ix3 b s j) = (X.st b s j : EReal)
  hsk : ∀ (u : Fin 1) h, (V c main_v26 : FVec Ideal S1x8 .f32) (ix2 u h) = (X.sk h : EReal)
  ho : ∀ b s j, (V c main_v38 : FVec Ideal S2x4096x512 .bf16) (ix3 b s j) = (X.out b s j : EReal)
  hl : ∀ b s j, (V c main_v39 : FVec Ideal S2x4096x8 .f32) (ix3 b s j) = (X.lse b s j : EReal)
  hg : ∀ b s j, (V c main_v40 : FVec Ideal S2x4096x512 .bf16) (ix3 b s j) = (X.G b s j : EReal)

variable {V c X} (E : Entry V c X) (t : Fin cfg2.N)
include E

theorem block : BlockHolds V c t (X.seq t.val) where
  hq b r j := (show _ = (V c main_v35 : FVec Ideal S2x4096x4608 .f32) (ix3 b ⟨t.val * 128 + r.val, by have := lt_t t; omega⟩ ⟨3072 + j.val, by omega⟩) by
    blk_point [iblk2, idx2 t]).trans ((E.hz _ _ _).trans (congrArg _ (X.z_q _ _ _ j.2)))
  hkv b r j := (show _ = (V c main_v35 : FVec Ideal S2x4096x4608 .f32) (ix3 b ⟨t.val * 128 + r.val, by have := lt_t t; omega⟩ ⟨3584 + j.val, by omega⟩) by
    blk_point [iblk2, idx2 t]).trans ((E.hz _ _ _).trans (congrArg _ (X.z_kv _ _ _ j.2)))
  hkvp b r j := (show _ = (V c main_v35 : FVec Ideal S2x4096x4608 .f32) (ix3 b ⟨(t.val - 1) * 128 + r.val, by have := lt_t t; omega⟩ ⟨3584 + j.val, by omega⟩) by
    blk_point [iblk2, idx2 t]).trans ((E.hz _ _ _).trans (congrArg _ (X.z_kv _ _ _ j.2)))
  hc b r j := (show _ = (V c main_v36 : FVec Ideal S2x4096x128 .f32) (ix3 b ⟨t.val * 128 + r.val, by have := lt_t t; omega⟩ j) by
    blk_point [iblk2, idx2 t]).trans (E.hc _ _ _)
  hs b r j := (show _ = (V c main_v37 : FVec Ideal S2x4096x128 .f32) (ix3 b ⟨t.val * 128 + r.val, by have := lt_t t; omega⟩ j) by
    blk_point [iblk2, idx2 t]).trans (E.hs _ _ _)
  hcp b r j := (show _ = (V c main_v36 : FVec Ideal S2x4096x128 .f32) (ix3 b ⟨(t.val - 1) * 128 + r.val, by have := lt_t t; omega⟩ j) by
    blk_point [iblk2, idx2 t]).trans (E.hc _ _ _)
  hsp b r j := (show _ = (V c main_v37 : FVec Ideal S2x4096x128 .f32) (ix3 b ⟨(t.val - 1) * 128 + r.val, by have := lt_t t; omega⟩ j) by
    blk_point [iblk2, idx2 t]).trans (E.hs _ _ _)
  hsk b u h := (show _ = (V c main_v26 : FVec Ideal S1x8 .f32) (ix2 u h) by blk_point [iblk2, idx2 t]).trans (E.hsk _ _)
  ho b r j := (show _ = (V c main_v38 : FVec Ideal S2x4096x512 .bf16) (ix3 b ⟨t.val * 128 + r.val, by have := lt_t t; omega⟩ j) by
    blk_point [iblk2, idx2 t]).trans ((E.ho _ _ _).trans (congrArg _ (X.out_at _ _ _ _ r.2)))
  hl b r j := (show _ = (V c main_v39 : FVec Ideal S2x4096x8 .f32) (ix3 b ⟨t.val * 128 + r.val, by have := lt_t t; omega⟩ j) by
    blk_point [iblk2, idx2 t]).trans ((E.hl _ _ _).trans (congrArg _ (X.lse_at _ _ _ _ r.2)))
  hg b r j := (show _ = (V c main_v40 : FVec Ideal S2x4096x512 .bf16) (ix3 b ⟨t.val * 128 + r.val, by have := lt_t t; omega⟩ j) by
    blk_point [iblk2, idx2 t]).trans (E.hg _ _ _)
  hn b := rfl

theorem arr12 : ((dat2 V c).arrAt 12 cfg2.N : FVec Ideal S2x4096x256 .f32) = fun i => (X.own (i 0) (i 1) (i 2) : EReal) := by
  refine (dat2 V c).arrAt_eq_of_covers 12 _ (by decide +kernel) fun t _ y => ?_
  blk_simp
  rw [after2_12]
  refine (own_val (block E t) y).trans (congrArg Real.toEReal ?_)
  obtain ⟨-, -, -, -, -, -, -, -, -, -, -, -, h, -, -⟩ := idx2 t
  have h1 : (y 1 : ℕ) < 128 := (y 1).2
  rw [h]
  simp only [Matrix.cons_val_zero, Matrix.cons_val_one, Matrix.cons_val, Nat.zero_mul, Nat.zero_add]
  rw [Data.own_at X t.val _ _ _ h1]

theorem arr13 : ((dat2 V c).arrAt 13 cfg2.N : FVec Ideal S2x4096x256 .f32) = fun i => (X.prev (i 0) (i 1) (i 2) : EReal) := by
  refine (dat2 V c).arrAt_eq_of_covers 13 _ (by decide +kernel) fun t _ y => ?_
  blk_simp
  rw [after2_13]
  refine (prev_val (block E t) y).trans (congrArg Real.toEReal ?_)
  obtain ⟨-, -, -, -, -, -, -, -, -, -, -, -, -, h, -⟩ := idx2 t
  have h1 : (y 1 : ℕ) < 128 := (y 1).2
  rw [h]
  simp only [Matrix.cons_val_zero, Matrix.cons_val_one, Matrix.cons_val, Nat.zero_mul, Nat.zero_add]
  rw [Data.prev_at X t.val _ _ _ h1]

theorem arr11 : ((dat2 V c).arrAt 11 cfg2.N : FVec Ideal S2x4096x4608 .bf16)
    = fun i => if 3072 ≤ (i 2).val ∧ (i 2).val < 3584 then (X.dq (i 0) (i 1) ((i 2).val - 3072) : EReal) else (V c main_v42_0 : FVec Ideal S2x4096x4608 .bf16) i := by
  refine (dat2 V c).arrAt_eq_of_coversWhere 11 _ (fun β => β 2 = 6) (by decide +kernel) (fun t hf y => ?_)
    (fun j => by blk_simp [Pipeline.Window.cell_apply]; omega)
  blk_simp
  rw [after2_11]
  refine (q_val (block E t) y).trans (congrArg Real.toEReal ?_)
  obtain ⟨-, -, -, -, -, -, -, -, -, -, -, h, -, -, -⟩ := idx2 t
  have h1 : (y 1 : ℕ) < 128 := (y 1).2
  have h2 : (y 2 : ℕ) < 512 := (y 2).2
  rw [h]
  simp only [Matrix.cons_val_zero, Matrix.cons_val_one, Matrix.cons_val, Nat.zero_mul, Nat.zero_add]
  rw [Data.dq_at X t.val _ _ _ h1, show 6 * 512 + (y 2 : ℕ) - 3072 = y 2 by omega]

theorem sink_term (Y : FVec Ideal S1x8 .f32) (i : S1x8.Idx) :
    k2_pay1 (dsinkAt V c t) Y i = Y i + (((X.seq t.val 0).gSink (i 1) + (X.seq t.val 1).gSink (i 1) : ℝ) : EReal) := by
  idx_vars i
  have e := dsinkAt_val (block E t)
  pointwise [k2_pay1]
  rw [e]

theorem arr14 : ((dat2 V c).arrAt 14 cfg2.N : FVec Ideal S1x8 .f32) = fun i => (X.dsink (i 1) : EReal) := by
  refine (dat2 V c).arrAt_eq_of_covers 14 _ (by decide +kernel) fun t hf y => ?_
  blk_simp
  rw [after2_14]
  refine (Pipeline.eq_sum_of_reset_step_apply_of_mod (fun n h => (outsAt2 V c n h).2.2.2) 32 (fun _ => 0)
    (fun n (i : S1x8.Idx) => (((X.seq n 0).gSink (i 1) + (X.seq n 1).gSink (i 1) : ℝ) : EReal))
    (fun t h i => (congrFun (sink_first V c t h) i).trans ((sink_term E t _ i).trans (congrArg (· + _) (by idx_vars i; pointwise [none8]))))
    (fun t h i => (congrFun (sink_next V c t h) i).trans (sink_term E t _ i)) t ((flush2_14 t).mp hf) y).trans ?_
  obtain ⟨-, -, -, -, -, -, -, -, -, -, -, -, -, -, h⟩ := idx2 t
  have ht : t.val / 32 = 0 := by have := lt_t t; omega
  rw [h, ht, zero_add]
  simp only [Matrix.cons_val_zero, Matrix.cons_val_one, Matrix.cons_val, Nat.zero_mul, Nat.zero_add, Nat.mul_zero]
  unfold Data.dsink
  rw [Finset.sum_range, Finset.sum_range]
  exact Finite.sum_coe _

end Cert.Attn.Bwd
end
-- ==== Proof.AttnEntry.lean ====
module

public import proofs.«01_k».proof.Proof.Gen.AttnIdeal.Frame.Fold0
public import proofs.«01_k».proof.Proof.AttnArr0
public import proofs.«01_k».proof.Proof.AttnArr2

/-! What the four calls find in their arrays, and the results. -/

@[expose] public section

set_option maxRecDepth 16384

noncomputable section

open Idealize.ShloMosaic Idealize.ShloMosaic.TcCoe Idealize.SL.Sem
open Idealize.ShloMosaic.Pipeline (Dat)

namespace Cert.Attn.Entry

open Cert.AttnIdeal Cert.AttnIdeal.Gen Cert.Attn Cert.Attn.Spec

variable (m : (b : Loc nD τ sig) → Buf (Elt Ideal) b) (ρ : Dev nD → PrngReg) (c : Dev nD)

theorem v20 (s : Fin 8192) (u : Fin 1) : (V5 m ρ c main_v20 : IVec S8192x1 32) (ix2 s u)
    = (m ((c : Thread nD τ).loc main_arg3) : IVec S2x4096 32) (ix2 ⟨s.val / 4096, by omega⟩ ⟨s.val % 4096, by omega⟩) := by
  show (StableHlo.after hostOps0_4 (W4 m ρ c) (Proc.devRef .tc main_v20) : IVec S8192x1 32) (ix2 s u) = _
  after_results
  pointwise []

/-- The lanes' numbers below sixteen. -/
def low : IVec S128 1 := cmpi .slt (fun j => BitVec.ofNat 32 ((j 0).val % 64)) (fun _ => 16#32)

/-- The frequencies, one for each of eight lanes. -/
def freq : FVec Ideal S8 .f32 := Host.powf (broadcastInDim S8 ![] bcast_S_S8 (constant S_ .f32 0x48F42400#32))
  (Host.divf (Host.negf (addf (broadcastInDim S8 ![] bcast_S_S8 (constant S_ .f32 0x00000000#32))
    (mulf (broadcastInDim S8 ![] bcast_S_S8 (constant S_ .f32 0x40000000#32)) (sitofp .f32 (iotaInDim S8 32 0)))))
    (broadcastInDim S8 ![] bcast_S_S8 (constant S_ .f32 0x41800000#32)))

theorem v18 : (V5 m ρ c main_v18 : FVec Ideal S1x128 .f32)
    = shapeCast S1x128 (select (α := Ideal .f32) (W4 m ρ c (Proc.devRef .tc main_v13) : IVec S128 1) (W4 m ρ c (Proc.devRef .tc main_v16) : FVec Ideal S128 .f32)
      (broadcastInDim S128 ![] bcast_S_S128 (constant S_ .f32 0x00000000#32 : FVec Ideal S_ .f32) : FVec Ideal S128 .f32) : FVec Ideal S128 .f32) shapeCasts_S128_S1x128 := by
  show (StableHlo.after hostOps0_4 (StableHlo.after hostOps0_3 (W3 m ρ c)) (Proc.devRef .tc main_v18) : FVec Ideal S1x128 .f32) = _
  after_results
  rfl

theorem v16 : (W4 m ρ c (Proc.devRef .tc main_v16) : FVec Ideal S128 .f32)
    = shapeCast S128 (broadcastInDim S16x8 ![0, 1] bcast_S1x8_S16x8_0_1 (shapeCast S1x8 freq shapeCasts_S8_S1x8)) shapeCasts_S16x8_S128 := by
  rw [W4_of m ρ c main_v16 (by decide)]
  show (StableHlo.after hostOps0_2 (StableHlo.after hostOps0_1 (StableHlo.after hostOps0 (W0 m ρ c))) (Proc.devRef .tc main_v16) : FVec Ideal S128 .f32) = _
  after_results
  rfl

theorem v13 : (W4 m ρ c (Proc.devRef .tc main_v13) : IVec S128 1) = cmpi .slt (W2 m ρ c (Proc.devRef .tc main_v1) : IVec S128 32)
    (broadcastInDim S128 ![] bcast_S_S128 (constantI S_ 32 16#32)) := by
  rw [W4_of m ρ c main_v13 (by decide)]
  show (StableHlo.after hostOps0_2 (W2 m ρ c) (Proc.devRef .tc main_v13) : IVec S128 1) = _
  after_results

theorem v1 (j : Fin 128) : (W2 m ρ c (Proc.devRef .tc main_v1) : IVec S128 32) (ix1 j) = BitVec.ofNat 32 (j.val % 64) := by
  show (StableHlo.after hostOps0_1 (StableHlo.after hostOps0 (W0 m ρ c)) (Proc.devRef .tc main_v1) : IVec S128 32) (ix1 j) = _
  after_results
  revert j
  decide +kernel

/-- The frequency of a lane. -/
def inv (j : ℕ) : ℝ := if j % 64 < 16 then (500000 : ℝ) ^ (-(2 * ((j % 8 : ℕ) : ℝ)) / 16) else 0

theorem base_bits : Ideal.ofBits .f32 0x48F42400#32 = ((500000 : ℝ) : EReal) := by
  simp [Ideal.ofBits, Ideal.ieee]; rw [← EReal.coe_mul]; norm_num
theorem two_bits : Ideal.ofBits .f32 0x40000000#32 = ((2 : ℝ) : EReal) := by
  simp [Ideal.ofBits, Ideal.ieee]; rw [← EReal.coe_mul]; norm_num
theorem sixteen_bits : Ideal.ofBits .f32 0x41800000#32 = ((16 : ℝ) : EReal) := by
  simp [Ideal.ofBits, Ideal.ieee]; rw [← EReal.coe_mul]; norm_num

theorem num (j : Fin 8) : (((BitVec.ofNat 32 j.val).toInt : ℝ) : EReal) = ((j.val : ℝ) : EReal) := by
  have : (BitVec.ofNat 32 j.val).toInt = (j.val : ℤ) := by revert j; decide
  rw [this]; rfl

theorem freq_val (j : Fin 8) : freq (ix1 j) = (((500000 : ℝ) ^ (-(2 * (j.val : ℝ)) / 16) : ℝ) : EReal) := by
  pointwise [freq]
  rw [base_bits, two_bits, sixteen_bits, show (FloatOps.sitofp FTy.f32 (BitVec.ofNat 32 j.val) : Ideal .f32) = ((j.val : ℝ) : EReal) from num j,
    ← EReal.coe_mul, ← EReal.coe_neg, Ideal.div_coe (by norm_num : (16 : ℝ) ≠ 0), ← EReal.coe_mul, Ideal.pow_coe_coe,
    mul_one_div]
  rfl

theorem inv_val (u : Fin 1) (j : Fin 128) : (V5 m ρ c main_v18 : FVec Ideal S1x128 .f32) (ix2 u j) = (inv j : EReal) := by
  have e := v1 m ρ c j
  rw [v18, v13, v16]
  pointwise []
  rw [e, Tables.lt16, freq_val]
  unfold inv
  split_ifs <;> rfl

/-- The position's number. -/
def pos (b s : ℕ) : ℤ := ((m ((c : Thread nD τ).loc main_arg3) : IVec S2x4096 32) (ix2 (Fin.ofNat 2 b) (Fin.ofNat 4096 s))).toInt

variable (X : Data)

/-- The arguments hold the real inputs. -/
structure Args : Prop where
  hq : ∀ b s j, (m ((c : Thread nD τ).loc main_arg0) : FVec Ideal S2x4096x512 .f32) (ix3 b s j) = (X.q b s j : EReal)
  hk : ∀ b s j, (m ((c : Thread nD τ).loc main_arg1) : FVec Ideal S2x4096x128 .f32) (ix3 b s j) = (X.k b s j : EReal)
  hv : ∀ b s j, (m ((c : Thread nD τ).loc main_arg2) : FVec Ideal S2x4096x128 .f32) (ix3 b s j) = (X.v b s j : EReal)
  hsk : ∀ h, (m ((c : Thread nD τ).loc main_arg4) : FVec Ideal S8 .f32) (ix1 h) = (X.sk h : EReal)
  hg : ∀ b s j, (m ((c : Thread nD τ).loc main_arg5) : FVec Ideal S2x4096x512 .bf16) (ix3 b s j) = (X.G b s j : EReal)
  hct : X.ct = fun b s j => Tables.cosAt (pos m c b s * inv j) j
  hst : X.st = fun b s j => Tables.sinAt (pos m c b s * inv j) j

theorem tables : Tables.Entry (V5 m ρ) c (fun n => pos m c (n / 4096) (n % 4096)) inv where
  hp s u := by
    rw [v20]
    exact congrArg BitVec.toInt (congrArg₂ (fun b s => (m ((c : Thread nD τ).loc main_arg3) : IVec S2x4096 32) (ix2 b s))
      (Fin.ext (by simp; omega)) (Fin.ext (by simp)))
  hi u j := inv_val m ρ c u j

variable {m c X} (A : Args m c X)
include A

theorem c_table (s : Fin 8192) (j : Fin 128) : (W6 m ρ c (Proc.devRef .tc main_v21_0) : FVec Ideal S8192x128 .f32) (ix2 s j)
    = (X.ct (s.val / 4096) (s.val % 4096) j : EReal) := by
  rw [A.hct]
  exact congrFun ((W6_arr m ρ c 2).trans (Tables.arr2 (tables m ρ c))) (ix2 s j)

theorem s_table (s : Fin 8192) (j : Fin 128) : (W6 m ρ c (Proc.devRef .tc main_v21_1) : FVec Ideal S8192x128 .f32) (ix2 s j)
    = (X.st (s.val / 4096) (s.val % 4096) j : EReal) := by
  rw [A.hst]
  exact congrFun ((W6_arr m ρ c 3).trans (Tables.arr3 (tables m ρ c))) (ix2 s j)

omit A in
theorem packed : (W7 m ρ c (Proc.devRef .tc main_v25) : FVec Ideal S8192x4608 .f32)
    = shapeCast S8192x4608 (concatenate S2x4096x4608 2
      [⟨S2x4096x3072, (broadcastInDim S2x4096x3072 ![] bcast_S_S2x4096x3072 (constant S_ .f32 0x00000000#32 : FVec Ideal S_ .f32) : FVec Ideal S2x4096x3072 .f32)⟩,
       ⟨S2x4096x512, (m ((c : Thread nD τ).loc main_arg0) : FVec Ideal S2x4096x512 .f32)⟩,
       ⟨S2x4096x128, (m ((c : Thread nD τ).loc main_arg1) : FVec Ideal S2x4096x128 .f32)⟩,
       ⟨S2x4096x128, (m ((c : Thread nD τ).loc main_arg2) : FVec Ideal S2x4096x128 .f32)⟩,
       ⟨S2x4096x768, (broadcastInDim S2x4096x768 ![] bcast_S_S2x4096x768 (constant S_ .f32 0x00000000#32 : FVec Ideal S_ .f32) : FVec Ideal S2x4096x768 .f32)⟩]
      concatenates_S2x4096x3072_S2x4096x512_S2x4096x128_S2x4096x128_S2x4096x768_S2x4096x4608_d2) shapeCasts_S2x4096x4608_S8192x4608 := by
  have e0 : (W6 m ρ c (Proc.devRef .tc main_arg0) : FVec Ideal S2x4096x512 .f32) = _ := W6_args m ρ c main_arg0 (by decide)
  have e1 : (W6 m ρ c (Proc.devRef .tc main_arg1) : FVec Ideal S2x4096x128 .f32) = _ := W6_args m ρ c main_arg1 (by decide)
  have e2 : (W6 m ρ c (Proc.devRef .tc main_arg2) : FVec Ideal S2x4096x128 .f32) = _ := W6_args m ρ c main_arg2 (by decide)
  rw [← e0, ← e1, ← e2]
  show (StableHlo.after hostOps1 (W6 m ρ c) (Proc.devRef .tc main_v25) : FVec Ideal S8192x4608 .f32) = _
  after_results
  rfl

theorem z_val (s : Fin 8192) (j : Fin 4608) : (W7 m ρ c (Proc.devRef .tc main_v25) : FVec Ideal S8192x4608 .f32) (ix2 s j)
    = (X.z (s.val / 4096) (s.val % 4096) j : EReal) := by
  have hq := A.hq
  have hk := A.hk
  have hv := A.hv
  rw [packed]
  pointwise []
  simp only [hq, hk, hv]
  unfold Data.z Data.kv
  split_ifs <;> first | rfl | omega | (refine congrArg Real.toEReal (congrArg _ ?_); simp only []; omega)

omit A in
theorem at_pos {f : ℕ → ℕ → ℕ → ℝ} (b : Fin 2) (s : Fin 4096) (j : ℕ) :
    ((f ((b.val * 4096 + s.val) / 4096) ((b.val * 4096 + s.val) % 4096) j : ℝ) : EReal) = f b s j := by
  rw [show (b.val * 4096 + s.val) / 4096 = b by omega, show (b.val * 4096 + s.val) % 4096 = s by omega]

theorem fwd : Fwd.Entry (V7 m ρ) c X where
  hz b s j := by
    have e : (W7 m ρ c (Proc.devRef .tc main_v27) : FVec Ideal S2x4096x4608 .f32) = shapeCast S2x4096x4608 (W7 m ρ c (Proc.devRef .tc main_v25) : FVec Ideal S8192x4608 .f32)
      shapeCasts_S8192x4608_S2x4096x4608 := by
      show (StableHlo.after hostOps1 (W6 m ρ c) (Proc.devRef .tc main_v27) : FVec Ideal S2x4096x4608 .f32)
        = shapeCast S2x4096x4608 (StableHlo.after hostOps1 (W6 m ρ c) (Proc.devRef .tc main_v25) : FVec Ideal S8192x4608 .f32) _
      after_results
      rfl
    show (W7 m ρ c (Proc.devRef .tc main_v27) : FVec Ideal S2x4096x4608 .f32) _ = _
    rw [e]
    pointwise []
    exact (z_val ρ A _ j).trans (at_pos (f := X.z) b s j)
  hc b s j := by
    show (StableHlo.after hostOps1 (W6 m ρ c) (Proc.devRef .tc main_v28) : FVec Ideal S2x4096x128 .f32) (ix3 b s j) = _
    after_results
    pointwise []
    exact (c_table ρ A _ j).trans (at_pos (f := X.ct) b s j)
  hs b s j := by
    show (StableHlo.after hostOps1 (W6 m ρ c) (Proc.devRef .tc main_v29) : FVec Ideal S2x4096x128 .f32) (ix3 b s j) = _
    after_results
    pointwise []
    exact (s_table ρ A _ j).trans (at_pos (f := X.st) b s j)
  hsk u h := by
    show (StableHlo.after hostOps1 (W6 m ρ c) (Proc.devRef .tc main_v26) : FVec Ideal S1x8 .f32) (ix2 u h) = _
    after_results
    pointwise []
    rw [W6_args m ρ c main_arg4 (by decide)]
    exact A.hsk _

end Cert.Attn.Entry
end
-- ==== Proof.AttnRef1.lean ====
module

public import proofs.«01_k».proof.Proof.Gen.AttnRefIdeal.Read
public import proofs.«01_k».proof.Proof.AttnEntry

/-! The reference's rotary tables, rotated queries and keys, and the band of keys and values, over the real numbers. -/

@[expose] public section

set_option maxRecDepth 16384

noncomputable section

open Idealize.ShloMosaic Idealize.ShloMosaic.TcCoe Idealize.SL.Sem

namespace Cert.Attn.Ref

open Cert.AttnRefIdeal Cert.AttnRefIdeal.Gen Cert.AttnRefIdeal.Read Cert.Attn Cert.Attn.Spec

variable (x0 : FVec Ideal S2x4096x512 .f32) (x1 x2 : FVec Ideal S2x4096x128 .f32) (x3 : IVec S2x4096 32) (x4 : FVec Ideal S8 .f32)
  (x5 : FVec Ideal S2x4096x512 .bf16) (X : Data)

def pos (b s : ℕ) : ℤ := (x3 (ix2 (Fin.ofNat 2 b) (Fin.ofNat 4096 s))).toInt

/-- The arguments hold the real inputs. -/
structure Args : Prop where
  hq : ∀ b s j, x0 (ix3 b s j) = (X.q b s j : EReal)
  hk : ∀ b s j, x1 (ix3 b s j) = (X.k b s j : EReal)
  hv : ∀ b s j, x2 (ix3 b s j) = (X.v b s j : EReal)
  hsk : ∀ h, x4 (ix1 h) = (X.sk h : EReal)
  hg : ∀ b s j, x5 (ix3 b s j) = (X.G b s j : EReal)
  hct : X.ct = fun b s j => Tables.cosAt (pos x3 b s * Entry.inv j) j
  hst : X.st = fun b s j => Tables.sinAt (pos x3 b s * Entry.inv j) j

theorem freq (j : Fin 8) : val_main_v9 (F := Ideal) (ix1 j) = (Entry.inv j : EReal) := by
  have e := Entry.freq_val j
  have h : val_main_v9 (F := Ideal) = Entry.freq := rfl
  rw [h, e]
  refine congrArg Real.toEReal ?_
  rw [Entry.inv, if_pos (by omega), Nat.mod_eq_of_lt j.2]

theorem angle (b : Fin 2) (s : Fin 4096) (j : Fin 8) : val_main_v15 (F := Ideal) x3 (ix3 b s j) = ((pos x3 b s * Entry.inv j : ℝ) : EReal) := by
  have e := freq j
  pointwise [val_main_v15, val_main_v13, val_main_v14, val_main_v12, val_main_v11, val_main_v10]
  rw [e, show (FloatOps.sitofp FTy.f32 (x3 (ix2 b s)) : Ideal .f32) = (((x3 (ix2 b s)).toInt : ℝ) : EReal) from rfl, ← EReal.coe_mul]
  have h : pos x3 b s = (x3 (ix2 b s)).toInt := congrArg (fun i => (x3 i).toInt)
    (congrArg₂ ix2 (Fin.ext (by simp)) (Fin.ext (by simp)))
  rw [h]

variable {x0 x1 x2 x3 x4 x5 X} (A : Args x0 x1 x2 x3 x4 x5 X)
include A

theorem table_c (b : Fin 2) (s : Fin 4096) (u : Fin 1) (j : Fin 8) (k : ℕ) (hk : k % 64 < 16) (hj : k % 8 = j.val) :
    val_main_v17 (F := Ideal) x3 (ix4 b s u j) = (X.ct b s k : EReal) := by
  have e := angle x3 b s j
  pointwise [val_main_v17, val_main_v16]
  rw [e, Ideal.cos_coe, A.hct]
  simp only [Tables.cosAt, if_pos hk, Entry.inv, hj]
  simp [show j.val % 64 < 16 by omega, Nat.mod_eq_of_lt j.2]

theorem table_s (b : Fin 2) (s : Fin 4096) (u : Fin 1) (j : Fin 8) (k : ℕ) (hk : k % 64 < 16) (hj : k % 8 = j.val) :
    val_main_v19 (F := Ideal) x3 (ix4 b s u j) = ((if k % 64 < 8 then - X.st b s k else X.st b s k : ℝ) : EReal) := by
  have e := angle x3 b s j
  pointwise [val_main_v19, val_main_v18]
  rw [e, Ideal.sin_coe, A.hst]
  simp only [Tables.sinAt, if_pos hk, Entry.inv, hj]
  simp [show j.val % 64 < 16 by omega, Nat.mod_eq_of_lt j.2]
  split_ifs <;> simp

theorem one_c (b s k : ℕ) (h : 16 ≤ k % 64) : X.ct b s k = 1 := by
  rw [A.hct]
  simp only [Tables.cosAt]
  rw [if_neg (by omega)]

omit A in
theorem rope_low (c s t : ℕ → ℝ) (j : ℕ) (h : j % 64 < 8) : rope c s t j = t j * c (j % 128) - t (j + 8) * -s (j % 128) := by
  rw [rope, swap, if_pos h, mul_neg, sub_neg_eq_add]

omit A in
theorem rope_mid (c s t : ℕ → ℝ) (j : ℕ) (h : ¬ j % 64 < 8) (k : j % 64 < 16) : rope c s t j = t j * c (j % 128) + t (j - 8) * s (j % 128) := by
  rw [rope, swap, if_neg h, if_pos k]

omit A in
theorem rope_high (c s t : ℕ → ℝ) (j : ℕ) (h : 16 ≤ j % 64) (hc : c (j % 128) = 1) : rope c s t j = t j := by
  rw [rope, swap, if_neg (by omega), if_neg (by omega), hc]; ring

/-- The rotation of heads of 64 lanes, as the reference spells it. -/
theorem rotated (b : Fin 2) (s : Fin 4096) (t : ℕ → ℝ) (h : ℕ) (d : Fin 64) (y z : d.val < 8 → EReal) (w v : ¬ d.val < 8 → d.val - 8 < 8 → EReal)
    (x : ¬ d.val < 8 → ¬ d.val - 8 < 8 → EReal) (p : d.val < 8 → Fin 8) (q : ¬ d.val < 8 → d.val - 8 < 8 → Fin 8)
    (hy : ∀ k, y k = (t (h * 64 + d) : EReal)) (hz : ∀ k, z k = (t (h * 64 + (8 + d)) : EReal)) (hp : ∀ k, (p k).val = d)
    (hw : ∀ l k, 8 ≤ d.val → w l k = (t (h * 64 + d) : EReal)) (hv : ∀ l k, v l k = (t (h * 64 + (d - 8)) : EReal)) (hq : ∀ l k, (q l k).val = d - 8)
    (hx : ∀ l k, 16 ≤ d.val → x l k = (t (h * 64 + d) : EReal)) :
    (if l : d.val < 8 then y l * (val_main_v17 (F := Ideal) x3 (ix4 b s 0 (p l)) : EReal) - z l * (val_main_v19 (F := Ideal) x3 (ix4 b s 0 (p l)) : EReal)
      else if k : d.val - 8 < 8 then w l k * (val_main_v17 (F := Ideal) x3 (ix4 b s 0 (q l k)) : EReal) + v l k * (val_main_v19 (F := Ideal) x3 (ix4 b s 0 (q l k)) : EReal)
      else x l k) = ((rope (X.ct b s) (X.st b s) t (h * 64 + d) : ℝ) : EReal) := by
  have hd := d.2
  by_cases h1 : d.val < 8
  · have e := hp h1
    rw [dif_pos h1, hy, hz, table_c A b s 0 (p h1) ((h * 64 + d) % 128) (by omega) (by omega), table_s A b s 0 (p h1) ((h * 64 + d) % 128) (by omega) (by omega),
      if_pos (by omega), ← EReal.coe_mul, ← EReal.coe_mul, ← EReal.coe_sub, rope_low _ _ _ _ (by omega),
      show h * 64 + d.val + 8 = h * 64 + (8 + d.val) by omega]
  by_cases h2 : d.val - 8 < 8
  · have e := hq h1 h2
    rw [dif_neg h1, dif_pos h2, hw h1 h2 (by omega), hv, table_c A b s 0 (q h1 h2) ((h * 64 + d) % 128) (by omega) (by omega),
      table_s A b s 0 (q h1 h2) ((h * 64 + d) % 128) (by omega) (by omega),
      if_neg (by omega), ← EReal.coe_mul, ← EReal.coe_mul, ← EReal.coe_add, rope_mid _ _ _ _ (by omega) (by omega),
      show h * 64 + d.val - 8 = h * 64 + (d.val - 8) by omega]
  · rw [dif_neg h1, dif_neg h2, hx h1 h2 (by omega), rope_high _ _ _ _ (by omega) (one_c A _ _ _ (by omega))]

theorem q_at (b : Fin 2) (s : Fin 4096) (j : Fin 512) (k : ℕ) (h : j.val = k) : x0 (ix3 b s j) = (X.q b s k : EReal) := h ▸ A.hq b s j
theorem k_at (b : Fin 2) (s : Fin 4096) (j : Fin 128) (k : ℕ) (h : j.val = k) : x1 (ix3 b s j) = (X.k b s k : EReal) := h ▸ A.hk b s j

theorem rot_q (b : Fin 2) (s : Fin 4096) (h : Fin 8) (d : Fin 64) :
    val_main_v62 (F := Ideal) x0 x3 (ix4 b s h d) = (rope (X.ct b s) (X.st b s) (X.q b s) (h * 64 + d) : EReal) := by
  pointwise [val_main_v62, val_main_v55, val_main_v60, val_main_v61, val_main_v57, val_main_v59, val_main_v52, val_main_v54, val_main_v51, val_main_v53, val_main_v56, val_main_v58, val_main_v49, val_main_v50, val_main_v48]
  refine rotated A b s (X.q b s) h d _ _ _ _ _ _ _ ?_ ?_ ?_ ?_ ?_ ?_ ?_
  all_goals intros
  all_goals first
    | rfl
    | exact q_at A _ _ _ _ rfl
    | exact q_at A _ _ _ _ (by dsimp only; omega)

theorem rot_k (b : Fin 2) (s : Fin 4096) (h : Fin 2) (d : Fin 64) :
    val_main_v77 (F := Ideal) x1 x3 (ix4 b s h d) = (rope (X.ct b s) (X.st b s) (X.k b s) (h * 64 + d) : EReal) := by
  pointwise [val_main_v77, val_main_v76, val_main_v75, val_main_v74, val_main_v73, val_main_v72, val_main_v71, val_main_v70, val_main_v69, val_main_v68, val_main_v67, val_main_v66, val_main_v65, val_main_v64, val_main_v63]
  refine rotated A b s (X.k b s) h d _ _ _ _ _ _ _ ?_ ?_ ?_ ?_ ?_ ?_ ?_
  all_goals intros
  all_goals first
    | rfl
    | exact k_at A _ _ _ _ rfl
    | exact k_at A _ _ _ _ (by dsimp only; omega)

theorem v_at (b : Fin 2) (s : Fin 4096) (j : Fin 128) (k : ℕ) (h : j.val = k) : x2 (ix3 b s j) = (X.v b s k : EReal) := h ▸ A.hv b s j

/-- Queries by blocks. -/
theorem blk_q (b : Fin 2) (n : Fin 32) (r : Fin 128) (k : Fin 2) (g : Fin 4) (d : Fin 64) :
    val_main_v79 (F := Ideal) x0 x3 (ix6 b n r k g d) = (rope ((X.seq n b).c r) ((X.seq n b).s r) ((X.seq n b).q r) ((k * 4 + g) * 64 + d) : EReal) := by
  pointwise [val_main_v79]
  exact rot_q A _ _ _ _

theorem blk_k (b : Fin 2) (n : Fin 32) (r : Fin 128) (k : Fin 2) (d : Fin 64) :
    val_main_v80 (F := Ideal) x1 x3 (ix5 b n r k d) = (rope (X.ct b (n * 128 + r)) (X.st b (n * 128 + r)) (X.k b (n * 128 + r)) (k * 64 + d) : EReal) := by
  pointwise [val_main_v80]
  exact rot_k A _ _ _ _

omit A in
theorem rope_kv (c s : ℕ → ℝ) (b p j : ℕ) (h : j < 128) : rope c s (X.kv b p) j = rope c s (X.k b p) j := by
  unfold rope swap Data.kv
  split_ifs <;> first | rfl | omega

/-- The keys of a block's band; nothing before the first block. -/
def KK (X : Data) (n b : ℕ) (j d : ℕ) : ℝ := if j < 128 ∧ n = 0 then 0 else (X.seq n b).K j d
def VV (X : Data) (n b : ℕ) (j d : ℕ) : ℝ := if j < 128 ∧ n = 0 then 0 else (X.seq n b).V j d

omit A in
theorem zero_bits : Ideal.ofBits .f32 0x00000000#32 = ((0 : ℝ) : EReal) := by simp [Ideal.ofBits, Ideal.ieee]

theorem band_k (b : Fin 2) (n : Fin 32) (j : Fin 256) (k : Fin 2) (d : Fin 64) :
    val_main_v86 (F := Ideal) x1 x3 (ix5 b n j k d) = (KK X n b j (k * 64 + d) : EReal) := by
  pointwise [val_main_v86, val_main_v84, val_main_v83, val_main_v82]
  have hk : k.val * 64 + d.val < 128 := by omega
  unfold KK Block.Seq.K Kb
  by_cases h1 : j.val < 128
  · rw [dif_pos h1, if_pos h1]
    by_cases h2 : n.val < 1
    · rw [dif_pos h2, if_pos ⟨h1, by omega⟩]
      exact zero_bits
    · rw [dif_neg h2]
      refine (blk_k A _ _ _ _ _).trans (congrArg Real.toEReal ?_)
      show rope (X.ct b ((n - 1) * 128 + j)) (X.st b ((n - 1) * 128 + j)) (X.k b ((n - 1) * 128 + j)) (k * 64 + d) = _
      rw [if_neg (by omega)]
      exact (rope_kv _ _ _ _ _ hk).symm
  · rw [dif_neg h1, if_neg h1]
    refine (blk_k A _ _ _ _ _).trans (congrArg Real.toEReal ?_)
    show rope (X.ct b (n * 128 + (j - 128))) (X.st b (n * 128 + (j - 128))) (X.k b (n * 128 + (j - 128))) (k * 64 + d) = _
    rw [if_neg (by omega)]
    exact (rope_kv _ _ _ _ _ hk).symm

omit A in
theorem kv_v (b p j : ℕ) : X.kv b p (128 + j) = X.v b p j := by
  rw [Data.kv, if_neg (by omega), Nat.add_sub_cancel_left]

theorem band_v (b : Fin 2) (n : Fin 32) (j : Fin 256) (k : Fin 2) (d : Fin 64) :
    val_main_v93 (F := Ideal) x2 (ix5 b n j k d) = (VV X n b j (k * 64 + d) : EReal) := by
  pointwise [val_main_v93, val_main_v91, val_main_v90, val_main_v89, val_main_v87, val_main_v78]
  unfold VV Block.Seq.V Vb
  by_cases h1 : j.val < 128
  · rw [dif_pos h1, if_pos h1]
    by_cases h2 : n.val < 1
    · rw [dif_pos h2, if_pos ⟨h1, by omega⟩]
      exact zero_bits
    · rw [dif_neg h2]
      refine (v_at A _ _ _ _ rfl).trans (congrArg Real.toEReal ?_)
      show X.v b ((n - 1) * 128 + j) (k * 64 + d) = _
      rw [if_neg (by omega)]
      exact (kv_v _ _ _).symm
  · rw [dif_neg h1, if_neg h1]
    refine (v_at A _ _ _ _ rfl).trans (congrArg Real.toEReal ?_)
    show X.v b (n * 128 + (j - 128)) (k * 64 + d) = _
    rw [if_neg (by omega)]
    exact (kv_v _ _ _).symm

end Cert.Attn.Ref
end
-- ==== Proof.AttnRed.lean ====
module

public import proofs.«01_k».proof.AttnRefIdeal
public import Idealize.ShloMosaic.Lib.Pointwise.Reduce
public import Idealize.ShloMosaic.PureOps.Ideal.Laws

/-! Sums and maxima of arrays with six axes, read along the axes summed over. -/

@[expose] public section

noncomputable section

open Idealize.ShloMosaic Idealize.ShloMosaic.TcCoe

namespace Cert.Attn.Red

variable {a b c d e f : ℕ}

/-- The last of six axes: the indices over `(i, j, k, l, r)`. -/
theorem last_iff (h : (⟨6, ![a, b, c, d, e, f]⟩ : Shape).ReducesTo [5] ⟨5, ![a, b, c, d, e]⟩) (i : Fin a) (j : Fin b) (k : Fin c) (l : Fin d) (r : Fin e)
    (p : (⟨6, ![a, b, c, d, e, f]⟩ : Shape).Idx) : h.drop p = ix5 i j k l r ↔ ∃ t : Fin f, ix6 i j k l r t = p := by
  constructor
  · intro g
    refine ⟨p 5, ?_⟩
    funext q; apply Fin.ext
    match q with
    | ⟨0, _⟩ => exact (congrArg Fin.val (congrFun g 0)).symm
    | ⟨1, _⟩ => exact (congrArg Fin.val (congrFun g 1)).symm
    | ⟨2, _⟩ => exact (congrArg Fin.val (congrFun g 2)).symm
    | ⟨3, _⟩ => exact (congrArg Fin.val (congrFun g 3)).symm
    | ⟨4, _⟩ => exact (congrArg Fin.val (congrFun g 4)).symm
    | ⟨5, _⟩ => rfl
  · rintro ⟨t, rfl⟩
    funext q; apply Fin.ext
    match q with
    | ⟨0, _⟩ => rfl
    | ⟨1, _⟩ => rfl
    | ⟨2, _⟩ => rfl
    | ⟨3, _⟩ => rfl
    | ⟨4, _⟩ => rfl

theorem sum_last (x : FVec Ideal ⟨6, ![a, b, c, d, e, f]⟩ .f32) {u : Shape} (init : FVec Ideal u .f32) (hu : 0 < u.numel)
    (h : (⟨6, ![a, b, c, d, e, f]⟩ : Shape).ReducesTo [5] ⟨5, ![a, b, c, d, e]⟩) (i : Fin a) (j : Fin b) (k : Fin c) (l : Fin d) (r : Fin e) :
    Host.reduceAdd x init h hu (ix5 i j k l r) = init (Shape.Idx.first hu) + ∑ t : Fin f, x (ix6 i j k l r t) :=
  congrArg (fun y : EReal => init (Shape.Idx.first hu) + y) (Finset.sum_filter_eq_sum_of_fiber _ (fun t : Fin f => ix6 i j k l r t)
    (fun _ _ g => congrFun g 5) (last_iff h i j k l r) x)

theorem max_last (x : FVec Ideal ⟨6, ![a, b, c, d, e, f]⟩ .f32) {u : Shape} (init : FVec Ideal u .f32) (hu : 0 < u.numel)
    (h : (⟨6, ![a, b, c, d, e, f]⟩ : Shape).ReducesTo [5] ⟨5, ![a, b, c, d, e]⟩) (i : Fin a) (j : Fin b) (k : Fin c) (l : Fin d) (r : Fin e) :
    Host.reduce FloatOps.maximumf x init h hu (ix5 i j k l r) = Finset.univ.fold max (init (Shape.Idx.first hu)) fun t : Fin f => x (ix6 i j k l r t) := by
  rw [Host.reduce_eq_fold]
  exact Finset.fold_filter_eq_fold_of_fiber max _ (fun t : Fin f => ix6 i j k l r t)
    (fun _ _ g => congrFun g 5) (last_iff h i j k l r) _ x

/-- The first, second and fifth of six axes. -/
theorem mid_iff (h : (⟨6, ![a, b, c, d, e, f]⟩ : Shape).ReducesTo [0, 1, 4] ⟨3, ![c, d, f]⟩) (k : Fin c) (l : Fin d) (t : Fin f)
    (p : (⟨6, ![a, b, c, d, e, f]⟩ : Shape).Idx) :
    h.drop p = ix3 k l t ↔ ∃ s : Fin a × Fin b × Fin e, ix6 s.1 s.2.1 k l s.2.2 t = p := by
  constructor
  · intro g
    refine ⟨(p 0, p 1, p 4), ?_⟩
    funext q; apply Fin.ext
    match q with
    | ⟨0, _⟩ => rfl
    | ⟨1, _⟩ => rfl
    | ⟨2, _⟩ => exact (congrArg Fin.val (congrFun g 0)).symm
    | ⟨3, _⟩ => exact (congrArg Fin.val (congrFun g 1)).symm
    | ⟨4, _⟩ => rfl
    | ⟨5, _⟩ => exact (congrArg Fin.val (congrFun g 2)).symm
  · rintro ⟨s, rfl⟩
    funext q; apply Fin.ext
    match q with
    | ⟨0, _⟩ => rfl
    | ⟨1, _⟩ => rfl
    | ⟨2, _⟩ => rfl

theorem sum_mid (x : FVec Ideal ⟨6, ![a, b, c, d, e, f]⟩ .f32) {u : Shape} (init : FVec Ideal u .f32) (hu : 0 < u.numel)
    (h : (⟨6, ![a, b, c, d, e, f]⟩ : Shape).ReducesTo [0, 1, 4] ⟨3, ![c, d, f]⟩) (k : Fin c) (l : Fin d) (t : Fin f) :
    Host.reduceAdd x init h hu (ix3 k l t)
      = init (Shape.Idx.first hu) + ∑ s : Fin a × Fin b × Fin e, x (ix6 s.1 s.2.1 k l s.2.2 t) :=
  congrArg (fun y : EReal => init (Shape.Idx.first hu) + y) (Finset.sum_filter_eq_sum_of_fiber _
    (fun s : Fin a × Fin b × Fin e => ix6 s.1 s.2.1 k l s.2.2 t)
    (fun _ _ g => Prod.ext (congrFun g 0) (Prod.ext (congrFun g 1) (congrFun g 4))) (mid_iff h k l t) x)

/-- All of six axes but the third and the fourth. -/
theorem out_iff (h : (⟨6, ![a, b, c, d, e, f]⟩ : Shape).ReducesTo [0, 1, 4, 5] ⟨2, ![c, d]⟩) (k : Fin c) (l : Fin d)
    (p : (⟨6, ![a, b, c, d, e, f]⟩ : Shape).Idx) :
    h.drop p = ix2 k l ↔ ∃ s : Fin a × Fin b × Fin e × Fin f, ix6 s.1 s.2.1 k l s.2.2.1 s.2.2.2 = p := by
  constructor
  · intro g
    refine ⟨(p 0, p 1, p 4, p 5), ?_⟩
    funext q; apply Fin.ext
    match q with
    | ⟨0, _⟩ => rfl
    | ⟨1, _⟩ => rfl
    | ⟨2, _⟩ => exact (congrArg Fin.val (congrFun g 0)).symm
    | ⟨3, _⟩ => exact (congrArg Fin.val (congrFun g 1)).symm
    | ⟨4, _⟩ => rfl
    | ⟨5, _⟩ => rfl
  · rintro ⟨s, rfl⟩
    funext q; apply Fin.ext
    match q with
    | ⟨0, _⟩ => rfl
    | ⟨1, _⟩ => rfl

theorem sum_out (x : FVec Ideal ⟨6, ![a, b, c, d, e, f]⟩ .f32) {u : Shape} (init : FVec Ideal u .f32) (hu : 0 < u.numel)
    (h : (⟨6, ![a, b, c, d, e, f]⟩ : Shape).ReducesTo [0, 1, 4, 5] ⟨2, ![c, d]⟩) (k : Fin c) (l : Fin d) :
    Host.reduceAdd x init h hu (ix2 k l)
      = init (Shape.Idx.first hu) + ∑ s : Fin a × Fin b × Fin e × Fin f, x (ix6 s.1 s.2.1 k l s.2.2.1 s.2.2.2) :=
  congrArg (fun y : EReal => init (Shape.Idx.first hu) + y) (Finset.sum_filter_eq_sum_of_fiber _
    (fun s : Fin a × Fin b × Fin e × Fin f => ix6 s.1 s.2.1 k l s.2.2.1 s.2.2.2)
    (fun _ _ g => Prod.ext (congrFun g 0) (Prod.ext (congrFun g 1) (Prod.ext (congrFun g 4) (congrFun g 5)))) (out_iff h k l) x)

end Cert.Attn.Red
end
-- ==== Proof.AttnRef2.lean ====
module

public import proofs.«01_k».proof.Proof.AttnRef1
public import proofs.«01_k».proof.Proof.AttnRed

/-! The reference's masked scores, its softmax with a sink and its output, over the real numbers. -/

@[expose] public section

set_option maxRecDepth 16384

noncomputable section

open Idealize.ShloMosaic Idealize.ShloMosaic.TcCoe Idealize.SL.Sem

namespace Cert.Attn.Ref

open Cert.AttnRefIdeal Cert.AttnRefIdeal.Gen Cert.AttnRefIdeal.Read Cert.Attn Cert.Attn.Spec Cert.Soft Cert.Finite

theorem mask (n : Fin 32) (r : Fin 128) (j : Fin 256) : val_main_v47 (F := Ideal) (ix3 n r j) = if msk n r j then 1#1 else 0#1 := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_c, val_main_c_3, val_main_c_4, val_main_c_5, val_main_c_6]
  rw [Words.band, show IntOp.ori (IntOp.cmpi CmpIPredicate.sgt (BitVec.ofNat 32 n.val) 0#32) (IntOp.cmpi CmpIPredicate.sge (BitVec.ofNat 32 j.val) 128#32) = _ from Words.here n j,
    Words.and_ite]

theorem mask6 (b : Fin 2) (n : Fin 32) (k : Fin 2) (g : Fin 4) (r : Fin 128) (j : Fin 256) :
    val_main_v99_1 (F := Ideal) (ix6 b n k g r j) = if msk n r j then 1#1 else 0#1 := by
  pointwise [val_main_v99_1, val_main_v98]
  exact mask n r j

variable {x0 : FVec Ideal S2x4096x512 .f32} {x1 x2 : FVec Ideal S2x4096x128 .f32} {x3 : IVec S2x4096 32} {x4 : FVec Ideal S8 .f32}
  {x5 : FVec Ideal S2x4096x512 .bf16} {X : Data} (A : Args x0 x1 x2 x3 x4 x5 X)
include A

theorem scores (b : Fin 2) (n : Fin 32) (k : Fin 2) (g : Fin 4) (r : Fin 128) (j : Fin 256) :
    val_main_v97 (F := Ideal) x0 x1 x3 (ix6 b n k g r j) = (∑ d : Fin 64, (X.seq n b).Q r ((k * 4 + g) * 64 + d) * KK X n b j (k * 64 + d) : ℝ) := by
  pointwise [val_main_v97, val_main_v95, val_main_v94, val_main_v96, val_main_cst_11]
  have e1 (d : Fin 64) := band_k A b n j k d
  have e2 (d : Fin 64) := blk_q A b n r k g d
  simp only [e1, e2, ← EReal.coe_mul, sum_coe]
  rw [Words.eighth_bits, ← EReal.coe_mul, Finset.sum_mul]
  refine congrArg Real.toEReal (Finset.sum_congr rfl fun d _ => ?_)
  simp only [Block.Seq.Q, Qb]
  ring

omit A in
/-- Where the mask is on, the band holds the block's keys and values. -/
theorem kk_of (n b : ℕ) (r : ℕ) (j : Fin 256) (d : ℕ) (h : msk n r j) : KK X n b j d = (X.seq n b).K j d :=
  if_neg (by have := h.2; omega)
omit A in
theorem vv_of (n b : ℕ) (r : ℕ) (j : Fin 256) (d : ℕ) (h : msk n r j) : VV X n b j d = (X.seq n b).V j d :=
  if_neg (by have := h.2; omega)

theorem masked (b : Fin 2) (n : Fin 32) (k : Fin 2) (g : Fin 4) (r : Fin 128) (j : Fin 256) :
    val_main_v99_0 (F := Ideal) x0 x1 x3 (ix6 b n k g r j) = sc (msk n r) (S (X.seq n b).Q (X.seq n b).K (k * 4 + g) r) j := by
  have e := scores A b n k g r j
  have e' := mask6 b n k g r j
  pointwise [val_main_v99_0, val_main_call0_v2, val_main_call0_v0, val_main_cst_12]
  rw [e, e', Words.sel_ite, show id (constant S_ FTy.f32 4286578688#32 : FVec Ideal S_ .f32) ix0 = (⊥ : EReal) from bot_bits, sc]
  split_ifs with h
  · refine congrArg Real.toEReal ?_
    rw [S, show (k.val * 4 + g.val) / 4 = k.val by omega]
    exact Finset.sum_congr rfl fun d _ => by rw [kk_of n b r j _ h]
  · rfl

omit A in
theorem v100_at (k : Fin 2) (g : Fin 4) : val_main_v100 (F := Ideal) x4 (ix2 k g) = x4 (ix1 ⟨k * 4 + g, by omega⟩) := by
  pointwise [val_main_v100]

omit A in
theorem v101_at (k : Fin 2) (g : Fin 4) (a b c d : Fin 1) : val_main_v101 (F := Ideal) x4 (ix6 a b k g c d) = val_main_v100 (F := Ideal) x4 (ix2 k g) := by
  pointwise [val_main_v101]

theorem sink_at (k : Fin 2) (g : Fin 4) (a b c d : Fin 1) : val_main_v101 (F := Ideal) x4 (ix6 a b k g c d) = (X.sk (k * 4 + g) : EReal) := by
  rw [v101_at, v100_at]
  exact A.hsk _

/-- The scores of a row of a block, and the shift the reference takes off them. -/
abbrev row (X : Data) (b n h r : ℕ) : Fin 256 → ℝ := S (X.seq n b).Q (X.seq n b).K h r
def shift (X : Data) (b n h r : ℕ) : ℝ := (exists_max (msk n r) (row X b n h r) (X.sk h)).choose
/-- The shift's exponential. -/
def ex (X : Data) (b n h r : ℕ) : ℝ := Real.exp (- shift X b n h r)

theorem v102_at (b : Fin 2) (n : Fin 32) (k : Fin 2) (g : Fin 4) (r : Fin 128) : val_main_v102 (F := Ideal) x0 x1 x3 (ix5 b n k g r)
    = Finset.univ.fold max (Ideal.ofBits .f32 0xFF800000#32) (sc (msk n r) (row X b n (k * 4 + g) r)) := by
  refine (Red.max_last _ _ _ _ b n k g r).trans ?_
  simp only [masked A]
  rfl

omit A in
theorem v108_at (b : Fin 2) (n : Fin 32) (k : Fin 2) (g : Fin 4) (r : Fin 128) (u : Fin 1) :
    val_main_v108 (F := Ideal) x0 x1 x3 (ix6 b n k g r u) = val_main_v102 (F := Ideal) x0 x1 x3 (ix5 b n k g r) := by
  pointwise [val_main_v108]

omit A in
theorem v109_at (b : Fin 2) (n : Fin 32) (k : Fin 2) (g : Fin 4) (r : Fin 128) (u : Fin 1) :
    val_main_v109 (F := Ideal) x4 (ix6 b n k g r u) = val_main_v101 (F := Ideal) x4 (ix6 0 0 k g 0 0) := by
  pointwise [val_main_v109]

theorem v110_at (b : Fin 2) (n : Fin 32) (k : Fin 2) (g : Fin 4) (r : Fin 128) (u : Fin 1) :
    val_main_v110 (F := Ideal) x0 x1 x3 x4 (ix6 b n k g r u) = (shift X b n (k * 4 + g) r : EReal) := by
  rw [val_main_v110, maximumf_apply]
  rw [v108_at, v109_at, sink_at A, v102_at A]
  exact (exists_max (msk n r) (row X b n (k * 4 + g) r) (X.sk (k * 4 + g))).choose_spec

omit A in
theorem v129_at (b : Fin 2) (n : Fin 32) (k : Fin 2) (g : Fin 4) (r : Fin 128) (j : Fin 256) :
    val_main_v129 (F := Ideal) x0 x1 x3 x4 (ix6 b n k g r j) = val_main_v110 (F := Ideal) x0 x1 x3 x4 (ix6 b n k g r 0) := by
  pointwise [val_main_v129]

theorem v131_at (b : Fin 2) (n : Fin 32) (k : Fin 2) (g : Fin 4) (r : Fin 128) (j : Fin 256) :
    val_main_v131 (F := Ideal) x0 x1 x3 x4 (ix6 b n k g r j)
      = (num (msk n r) (row X b n (k * 4 + g) r) j * ex X b n (k * 4 + g) r : ℝ) := by
  show Ideal.exp (val_main_v99_0 (F := Ideal) x0 x1 x3 (ix6 b n k g r j) - val_main_v129 (F := Ideal) x0 x1 x3 x4 (ix6 b n k g r j)) = _
  rw [masked A, v129_at, v110_at A, exp_sc, ex]

omit A in
theorem v134_at (b : Fin 2) (n : Fin 32) (k : Fin 2) (g : Fin 4) (r : Fin 128) (u : Fin 1) :
    val_main_v134 (F := Ideal) x4 (ix6 b n k g r u) = val_main_v101 (F := Ideal) x4 (ix6 0 0 k g 0 0) := by
  pointwise [val_main_v134]

theorem v136_at (b : Fin 2) (n : Fin 32) (k : Fin 2) (g : Fin 4) (r : Fin 128) (u : Fin 1) :
    val_main_v136 (F := Ideal) x0 x1 x3 x4 (ix6 b n k g r u) = (Real.exp (X.sk (k * 4 + g)) * ex X b n (k * 4 + g) r : ℝ) := by
  show Ideal.exp (val_main_v134 (F := Ideal) x4 (ix6 b n k g r u) - val_main_v110 (F := Ideal) x0 x1 x3 x4 (ix6 b n k g r u)) = _
  rw [v134_at, sink_at A, v110_at A, exp_sink, ex]

omit A in
theorem v133_at (b : Fin 2) (n : Fin 32) (k : Fin 2) (g : Fin 4) (r : Fin 128) (u : Fin 1) :
    val_main_v133 (F := Ideal) x0 x1 x3 x4 (ix6 b n k g r u) = val_main_v132 (F := Ideal) x0 x1 x3 x4 (ix5 b n k g r) := by
  pointwise [val_main_v133]

omit A in
theorem zero_add_bits (x : EReal) : (Ideal.ofBits .f32 0x00000000#32 : EReal) + x = x := by rw [zero_bits, EReal.coe_zero, zero_add]

/-- The sum of a row. -/
def den' (X : Data) (b n h r : ℕ) : ℝ := tot (msk n r) (row X b n h r) (X.sk h) * ex X b n h r

theorem v137_at (b : Fin 2) (n : Fin 32) (k : Fin 2) (g : Fin 4) (r : Fin 128) (u : Fin 1) :
    val_main_v137 (F := Ideal) x0 x1 x3 x4 (ix6 b n k g r u) = (den' X b n (k * 4 + g) r : EReal) := by
  show val_main_v133 (F := Ideal) x0 x1 x3 x4 (ix6 b n k g r u) + val_main_v136 (F := Ideal) x0 x1 x3 x4 (ix6 b n k g r u) = (_ : EReal)
  have e : val_main_v132 (F := Ideal) x0 x1 x3 x4 (ix5 b n k g r) = _ := Red.sum_last _ _ _ _ b n k g r
  rw [v133_at, v136_at A, e]
  simp only [v131_at A]
  refine (congrArg (fun y : EReal => y + _) (zero_add_bits _)).trans ?_
  rw [sum_coe, ← EReal.coe_add, ← Finset.sum_mul, ← add_mul]
  rfl

omit A in
theorem den'_ne (b n h r : ℕ) : den' X b n h r ≠ 0 := den_ne _ _ _ _

omit A in
theorem v138_at (b : Fin 2) (n : Fin 32) (k : Fin 2) (g : Fin 4) (r : Fin 128) (j : Fin 256) :
    val_main_v138 (F := Ideal) x0 x1 x3 x4 (ix6 b n k g r j) = val_main_v137 (F := Ideal) x0 x1 x3 x4 (ix6 b n k g r 0) := by
  pointwise [val_main_v138]

/-- The weights. -/
theorem v139_at (b : Fin 2) (n : Fin 32) (k : Fin 2) (g : Fin 4) (r : Fin 128) (j : Fin 256) :
    val_main_v139 (F := Ideal) x0 x1 x3 x4 (ix6 b n k g r j) = (W n (X.seq n b).Q (X.seq n b).K X.sk (k * 4 + g) r j : EReal) := by
  show Ideal.div (val_main_v131 (F := Ideal) x0 x1 x3 x4 (ix6 b n k g r j)) (val_main_v138 (F := Ideal) x0 x1 x3 x4 (ix6 b n k g r j)) = _
  rw [v131_at A, v138_at, v137_at A]
  exact weight_div _ _ _ _ j

omit A in
/-- Off the mask the weight is zero. -/
theorem w_off (n b h r : ℕ) (j : Fin 256) (hm : ¬ msk n r j) : W n (X.seq n b).Q (X.seq n b).K X.sk h r j = 0 := by
  rw [W, wt, num, if_neg hm, zero_div]

omit A in
theorem w_vv (n b h r : ℕ) (j : Fin 256) (d : ℕ) : W n (X.seq n b).Q (X.seq n b).K X.sk h r j * VV X n b j d
    = W n (X.seq n b).Q (X.seq n b).K X.sk h r j * (X.seq n b).V j d := by
  by_cases hm : msk n r j
  · rw [vv_of n b r j d hm]
  · rw [w_off n b h r j hm, zero_mul, zero_mul]

theorem v143_at (b : Fin 2) (n : Fin 32) (k : Fin 2) (d : Fin 64) (g : Fin 4) (r : Fin 128) :
    val_main_v143 (F := Ideal) x0 x1 x2 x3 x4 (ix6 b n k d g r)
      = (O n (X.seq n b).Q (X.seq n b).K (X.seq n b).V X.sk (k * 4 + g) r d : EReal) := by
  pointwise [val_main_v143]
  have e1 (j : Fin 256) := band_v A b n j k d
  have e2 (j : Fin 256) := v139_at A b n k g r j
  simp only [e1, e2, ← EReal.coe_mul, sum_coe]
  refine congrArg Real.toEReal (Finset.sum_congr rfl fun j _ => ?_)
  rw [mul_comm, w_vv, show (k.val * 4 + g.val) / 4 = k.val by omega]

theorem out_at (s : Fin 8192) (j : Fin 512) : val_main_v254 (F := Ideal) x0 x1 x2 x3 x4 (ix2 s j) = (X.out (s / 4096) (s % 4096) j : EReal) := by
  pointwise [val_main_v254, val_main_v253, val_main_v145, val_main_v144]
  refine (v143_at A _ _ _ _ _ _).trans (congrArg Real.toEReal ?_)
  show O (s.val / 128 % 32) (X.seq (s.val / 128 % 32) (s.val / 4096)).Q _ _ X.sk (j.val / 256 * 4 + j.val / 64 % 4) (s.val % 128) (j.val % 64)
    = O (s.val % 4096 / 128) (X.seq (s.val % 4096 / 128) (s.val / 4096)).Q _ _ X.sk (j.val / 64) (s.val % 4096 % 128) (j.val % 64)
  rw [show s.val % 4096 / 128 = s.val / 128 % 32 by omega, show s.val % 4096 % 128 = s.val % 128 by omega,
    show j.val / 256 * 4 + j.val / 64 % 4 = j.val / 64 by omega]

end Cert.Attn.Ref
end
-- ==== Proof.AttnRef3.lean ====
module

public import proofs.«01_k».proof.Proof.AttnRef2

/-! The reference's gradient of a row of scores. -/

@[expose] public section

set_option maxRecDepth 16384

noncomputable section

open Idealize.ShloMosaic Idealize.ShloMosaic.TcCoe Idealize.SL.Sem

namespace Cert.Attn.Ref

open Cert.AttnRefIdeal Cert.AttnRefIdeal.Gen Cert.AttnRefIdeal.Read Cert.Attn Cert.Attn.Spec Cert.Soft Cert.Finite

variable {x0 : FVec Ideal S2x4096x512 .f32} {x1 x2 : FVec Ideal S2x4096x128 .f32} {x3 : IVec S2x4096 32} {x4 : FVec Ideal S8 .f32}
  {x5 : FVec Ideal S2x4096x512 .bf16} {X : Data} (A : Args x0 x1 x2 x3 x4 x5 X)

/-- The cotangent of a weight. -/
def PP (X : Data) (b n h r : ℕ) (j : Fin 256) : ℝ := ∑ d : Fin 64, (X.seq n b).G r (h * 64 + d) * VV X n b j (h / 4 * 64 + d)
abbrev Wt (X : Data) (b n h r : ℕ) (j : Fin 256) : ℝ := W n (X.seq n b).Q (X.seq n b).K X.sk h r j
abbrev DD (X : Data) (b n h r : ℕ) : ℝ := D n (X.seq n b).Q (X.seq n b).K (X.seq n b).V X.sk (X.seq n b).G h r
abbrev SS (X : Data) (b n h r : ℕ) (j : Fin 256) : ℝ := dS n (X.seq n b).Q (X.seq n b).K (X.seq n b).V X.sk (X.seq n b).G h r j
abbrev wk' (X : Data) (b n h r : ℕ) : ℝ := wk (msk n r) (row X b n h r) (X.sk h)

theorem w_pp (b n h r : ℕ) (j : Fin 256) : Wt X b n h r j * PP X b n h r j
    = Wt X b n h r j * ∑ d : Fin 64, (X.seq n b).G r (h * 64 + d) * (X.seq n b).V j (h / 4 * 64 + d) := by
  by_cases hm : msk n r j
  · simp only [PP, vv_of n b r j _ hm]
  · rw [Wt, w_off n b h r j hm, zero_mul, zero_mul]

theorem d_pp (b n h r : ℕ) : ∑ j, Wt X b n h r j * PP X b n h r j = DD X b n h r := by
  simp only [w_pp, DD, D, O, Finset.mul_sum]
  rw [Finset.sum_comm]
  refine Finset.sum_congr rfl fun d _ => Finset.sum_congr rfl fun j _ => ?_
  ring

theorem ss_pp (b n h r : ℕ) (j : Fin 256) : Wt X b n h r j * (PP X b n h r j - DD X b n h r) = SS X b n h r j := by
  rw [mul_sub, w_pp, ← mul_sub]; rfl

theorem w_sum (b n h r : ℕ) : (∑ j, Wt X b n h r j) + wk' X b n h r = 1 := by
  simp only [Wt, W, wt, wk', wk, ← Finset.sum_div]
  rw [← add_div]
  exact div_self (tot_ne _ _ _)

theorem ss_sum (b n h r : ℕ) : ∑ j, SS X b n h r j = DD X b n h r * wk' X b n h r := by
  simp only [← ss_pp, mul_sub, Finset.sum_sub_distrib, d_pp, ← Finset.sum_mul]
  linear_combination DD X b n h r * (-w_sum (X := X) b n h r)

theorem one_bits : Ideal.ofBits .f32 0x3F800000#32 = ((1 : ℝ) : EReal) := by
  simp [Ideal.ofBits, Ideal.ieee]
  rw [← EReal.coe_mul]
  norm_num

theorem one_coe : (FloatOps.uitofp .f32 (BitVec.ofBool true) : Ideal .f32) = (1 : EReal) := by
  show (((BitVec.ofBool true).toNat : ℝ) : EReal) = 1
  simp

theorem zero_coe : (FloatOps.uitofp .f32 (BitVec.ofBool false) : Ideal .f32) = (0 : EReal) := by
  show (((BitVec.ofBool false).toNat : ℝ) : EReal) = 0
  simp

theorem zero_fill (i) : val_main_call1_v0 (F := Ideal) i = (0 : EReal) := by
  show Ideal.ofBits .f32 0x00000000#32 = (0 : EReal)
  rw [zero_bits, EReal.coe_zero]

theorem coe_sum {ι : Type} [Fintype ι] (f : ι → ℝ) : (∑ i, (f i : EReal)) = ((∑ i, f i : ℝ) : EReal) := by
  classical
  refine Finset.induction_on (Finset.univ : Finset ι) (by simp) fun a s h e => ?_
  rw [Finset.sum_insert h, Finset.sum_insert h, e, EReal.coe_add]

section
include A

theorem v150_at (b : Fin 2) (n : Fin 32) (k : Fin 2) (d : Fin 64) (g : Fin 4) (r : Fin 128) :
    val_main_v150 (F := Ideal) x5 (ix6 b n k d g r) = ((X.seq n b).G r ((k * 4 + g) * 64 + d) : EReal) := by
  pointwise [val_main_v150, val_main_v149, val_main_v148]
  refine (A.hg _ _ _).trans (congrArg Real.toEReal ?_)
  show X.G b _ _ = X.G b (n * 128 + r) _
  congr 1 <;> simp <;> omega

theorem v151_at (b : Fin 2) (n : Fin 32) (k : Fin 2) (g : Fin 4) (r : Fin 128) (j : Fin 256) :
    val_main_v151 (F := Ideal) x2 x5 (ix6 b n k g r j) = (PP X b n (k * 4 + g) r j : EReal) := by
  pointwise [val_main_v151]
  have e1 (d : Fin 64) := v150_at A b n k d g r
  have e2 (d : Fin 64) := band_v A b n j k d
  simp only [e1, e2, ← EReal.coe_mul, sum_coe]
  refine congrArg Real.toEReal (Finset.sum_congr rfl fun d _ => ?_)
  rw [show (k.val * 4 + g.val) / 4 = k.val by omega]

theorem v142_at (b : Fin 2) (n : Fin 32) (k : Fin 2) (g : Fin 4) (r : Fin 128) (u : Fin 1) :
    val_main_v142 (F := Ideal) x0 x1 x3 x4 (ix6 b n k g r u) = ((1 / (den' X b n (k * 4 + g) r * den' X b n (k * 4 + g) r) : ℝ) : EReal) := by
  pointwise [val_main_v142, val_main_v141, val_main_v140]
  rw [v137_at A, ← EReal.coe_mul, show val_main_cst_22 (F := Ideal) ix0 = ((1 : ℝ) : EReal) from one_bits,
    Ideal.div_coe (mul_ne_zero (den'_ne _ _ _ _) (den'_ne _ _ _ _)), ← EReal.coe_mul, one_mul]

omit A in
theorem v154_at (b : Fin 2) (n : Fin 32) (k : Fin 2) (g : Fin 4) (r : Fin 128) (j : Fin 256) :
    val_main_v154 (F := Ideal) x0 x1 x3 x4 (ix6 b n k g r j) = val_main_v142 (F := Ideal) x0 x1 x3 x4 (ix6 b n k g r 0) := by
  pointwise [val_main_v154]

theorem v156_at (b : Fin 2) (n : Fin 32) (k : Fin 2) (g : Fin 4) (r : Fin 128) (j : Fin 256) :
    val_main_v156 (F := Ideal) x0 x1 x2 x3 x4 x5 (ix6 b n k g r j)
      = ((PP X b n (k * 4 + g) r j * Wt X b n (k * 4 + g) r j / den' X b n (k * 4 + g) r : ℝ) : EReal) := by
  pointwise [val_main_v156, val_main_v155]
  rw [v151_at A, v154_at, v142_at A, v131_at A, ← EReal.coe_mul, ← EReal.coe_mul]
  refine congrArg Real.toEReal ?_
  have e : Wt X b n (k * 4 + g) r j = num (msk n r) (row X b n (k * 4 + g) r) j / tot (msk n r) (row X b n (k * 4 + g) r) (X.sk (k * 4 + g)) := rfl
  have h1 := tot_ne (msk n r) (row X b n (k * 4 + g) r) (X.sk (k * 4 + g))
  have h2 : ex X b n (k * 4 + g) r ≠ 0 := (Real.exp_pos _).ne'
  rw [e, den']
  field_simp

omit A in
theorem v158_at (b : Fin 2) (n : Fin 32) (k : Fin 2) (g : Fin 4) (r : Fin 128) (u : Fin 1) :
    val_main_v158 (F := Ideal) x0 x1 x2 x3 x4 x5 (ix6 b n k g r u) = val_main_v157 (F := Ideal) x0 x1 x2 x3 x4 x5 (ix5 b n k g r) := by
  pointwise [val_main_v158]

theorem v159_at (b : Fin 2) (n : Fin 32) (k : Fin 2) (g : Fin 4) (r : Fin 128) (u : Fin 1) :
    val_main_v159 (F := Ideal) x0 x1 x2 x3 x4 x5 (ix6 b n k g r u) = ((-(DD X b n (k * 4 + g) r / den' X b n (k * 4 + g) r) : ℝ) : EReal) := by
  have e : val_main_v157 (F := Ideal) x0 x1 x2 x3 x4 x5 (ix5 b n k g r) = _ := Red.sum_last _ _ _ _ b n k g r
  have e2 : val_main_v157 (F := Ideal) x0 x1 x2 x3 x4 x5 (ix5 b n k g r) = ((DD X b n (k * 4 + g) r / den' X b n (k * 4 + g) r : ℝ) : EReal) := by
    rw [e]
    simp only [v156_at A]
    refine (zero_add_bits _).trans ?_
    rw [sum_coe, ← Finset.sum_div, ← d_pp]
    simp only [mul_comm (PP _ _ _ _ _ _)]
  pointwise [val_main_v159]
  rw [v158_at, e2, ← EReal.coe_neg]

theorem v162_at (b : Fin 2) (n : Fin 32) (k : Fin 2) (g : Fin 4) (r : Fin 128) (u : Fin 1) :
    val_main_v162 (F := Ideal) x0 x1 x2 x3 x4 x5 (ix6 b n k g r u) = ((-(DD X b n (k * 4 + g) r * wk' X b n (k * 4 + g) r) : ℝ) : EReal) := by
  pointwise [val_main_v162]
  rw [v159_at A, v136_at A, ← EReal.coe_mul]
  refine congrArg Real.toEReal ?_
  have h1 := tot_ne (msk n r) (row X b n (k * 4 + g) r) (X.sk (k * 4 + g))
  have h2 : ex X b n (k * 4 + g) r ≠ 0 := (Real.exp_pos _).ne'
  rw [den', wk', wk]
  field_simp

omit A in
theorem v160_at (b : Fin 2) (n : Fin 32) (k : Fin 2) (g : Fin 4) (r : Fin 128) (j : Fin 256) :
    val_main_v160 (F := Ideal) x0 x1 x3 x4 (ix6 b n k g r j) = val_main_v137 (F := Ideal) x0 x1 x3 x4 (ix6 b n k g r 0) := by
  pointwise [val_main_v160]

theorem v161_at (b : Fin 2) (n : Fin 32) (k : Fin 2) (g : Fin 4) (r : Fin 128) (j : Fin 256) :
    val_main_v161 (F := Ideal) x0 x1 x2 x3 x4 x5 (ix6 b n k g r j) = ((PP X b n (k * 4 + g) r j / den' X b n (k * 4 + g) r : ℝ) : EReal) := by
  pointwise [val_main_v161]
  rw [v151_at A, v160_at, v137_at A, Ideal.div_coe (den'_ne b n (k * 4 + g) r), ← EReal.coe_mul, mul_one_div]

omit A in
theorem v167_at (b : Fin 2) (n : Fin 32) (k : Fin 2) (g : Fin 4) (r : Fin 128) (j : Fin 256) :
    val_main_v167 (F := Ideal) x0 x1 x2 x3 x4 x5 (ix6 b n k g r j) = val_main_v166 (F := Ideal) x0 x1 x2 x3 x4 x5 (ix5 b n k g r) := by
  pointwise [val_main_v167]

theorem v166_at (b : Fin 2) (n : Fin 32) (k : Fin 2) (g : Fin 4) (r : Fin 128) :
    val_main_v166 (F := Ideal) x0 x1 x2 x3 x4 x5 (ix5 b n k g r) = ((-(DD X b n (k * 4 + g) r / den' X b n (k * 4 + g) r) : ℝ) : EReal) := by
  have e : val_main_v166 (F := Ideal) x0 x1 x2 x3 x4 x5 (ix5 b n k g r) = _ := Red.sum_last _ _ _ _ b n k g r
  rw [e]
  simp only [v159_at A]
  refine (zero_add_bits _).trans ?_
  rw [Fin.sum_univ_one]

theorem v169_at (b : Fin 2) (n : Fin 32) (k : Fin 2) (g : Fin 4) (r : Fin 128) (j : Fin 256) :
    val_main_v169 (F := Ideal) x0 x1 x2 x3 x4 x5 (ix6 b n k g r j) = (SS X b n (k * 4 + g) r j : EReal) := by
  pointwise [val_main_v169, val_main_v168]
  rw [v161_at A, v167_at, v166_at A, v131_at A, ← EReal.coe_add, ← EReal.coe_mul, ← ss_pp]
  refine congrArg Real.toEReal ?_
  have e : Wt X b n (k * 4 + g) r j = num (msk n r) (row X b n (k * 4 + g) r) j / tot (msk n r) (row X b n (k * 4 + g) r) (X.sk (k * 4 + g)) := rfl
  have h1 := tot_ne (msk n r) (row X b n (k * 4 + g) r) (X.sk (k * 4 + g))
  have h2 : ex X b n (k * 4 + g) r ≠ 0 := (Real.exp_pos _).ne'
  rw [e, den']
  field_simp
  ring

omit A in
theorem v172_at (b : Fin 2) (n : Fin 32) (k : Fin 2) (g : Fin 4) (r : Fin 128) (u : Fin 1) :
    val_main_v172 (F := Ideal) x0 x1 x2 x3 x4 x5 (ix6 b n k g r u) = val_main_v171 (F := Ideal) x0 x1 x2 x3 x4 x5 (ix5 b n k g r) := by
  pointwise [val_main_v172]

theorem v171_at (b : Fin 2) (n : Fin 32) (k : Fin 2) (g : Fin 4) (r : Fin 128) :
    val_main_v171 (F := Ideal) x0 x1 x2 x3 x4 x5 (ix5 b n k g r) = ((-(DD X b n (k * 4 + g) r * wk' X b n (k * 4 + g) r) : ℝ) : EReal) := by
  have e : val_main_v171 (F := Ideal) x0 x1 x2 x3 x4 x5 (ix5 b n k g r) = _ := Red.sum_last _ _ _ _ b n k g r
  have e2 (j : Fin 256) : val_main_v170 (F := Ideal) x0 x1 x2 x3 x4 x5 (ix6 b n k g r j) = ((-SS X b n (k * 4 + g) r j : ℝ) : EReal) := by
    pointwise [val_main_v170]
    rw [v169_at A, ← EReal.coe_neg]
  rw [e]
  simp only [e2]
  refine (zero_add_bits _).trans ?_
  rw [sum_coe, Finset.sum_neg_distrib, ss_sum]

/-- What the gradient of the row's maximum gets is zero. -/
theorem v173_at (b : Fin 2) (n : Fin 32) (k : Fin 2) (g : Fin 4) (r : Fin 128) (u : Fin 1) :
    val_main_v173 (F := Ideal) x0 x1 x2 x3 x4 x5 (ix6 b n k g r u) = (0 : EReal) := by
  pointwise [val_main_v173, val_main_v165]
  rw [v162_at A, v172_at, v171_at A, ← EReal.coe_neg, ← EReal.coe_add, neg_neg, add_neg_cancel, EReal.coe_zero]

theorem v174_at (b : Fin 2) (n : Fin 32) (k : Fin 2) (g : Fin 4) (r : Fin 128) (u : Fin 1) :
    val_main_v174 (F := Ideal) x0 x1 x2 x3 x4 x5 (ix6 b n k g r u) = (0 : EReal) := by
  pointwise [val_main_v174]
  rw [v173_at A, zero_mul]

theorem v178_at (b : Fin 2) (n : Fin 32) (k : Fin 2) (g : Fin 4) (r : Fin 128) (u : Fin 1) :
    val_main_v178 (F := Ideal) x0 x1 x2 x3 x4 x5 (ix6 b n k g r u) = (0 : EReal) := by
  pointwise [val_main_v178]
  rw [v173_at A, zero_mul]

theorem v179_at (b : Fin 2) (n : Fin 32) (k : Fin 2) (g : Fin 4) (r : Fin 128) :
    val_main_v179 (F := Ideal) x0 x1 x2 x3 x4 x5 (ix5 b n k g r) = (0 : EReal) := by
  have e : val_main_v179 (F := Ideal) x0 x1 x2 x3 x4 x5 (ix5 b n k g r) = _ := Red.sum_last _ _ _ _ b n k g r
  rw [e]
  simp only [v178_at A]
  refine (zero_add_bits _).trans ?_
  rw [Finset.sum_const_zero]

omit A in
theorem v104_at (b : Fin 2) (n : Fin 32) (k : Fin 2) (g : Fin 4) (r : Fin 128) (j : Fin 256) :
    val_main_v104 (F := Ideal) x0 x1 x3 (ix6 b n k g r j) = val_main_v102 (F := Ideal) x0 x1 x3 (ix5 b n k g r) := by
  pointwise [val_main_v104, val_main_v103]

omit A in
theorem v106_at (b : Fin 2) (n : Fin 32) (k : Fin 2) (g : Fin 4) (r : Fin 128) (j : Fin 256) :
    val_main_v106 (F := Ideal) x0 x1 x3 (ix6 b n k g r j)
      = if val_main_v99_0 (F := Ideal) x0 x1 x3 (ix6 b n k g r j) = val_main_v102 (F := Ideal) x0 x1 x3 (ix5 b n k g r) then (1 : EReal) else 0 := by
  pointwise [val_main_v106, val_main_v105]
  rw [v104_at]
  by_cases h : val_main_v99_0 (F := Ideal) x0 x1 x3 (ix6 b n k g r j) = val_main_v102 (F := Ideal) x0 x1 x3 (ix5 b n k g r)
  · rw [if_pos h, decide_eq_true h]
    exact one_coe
  · rw [if_neg h, decide_eq_false h]
    exact zero_coe

/-- The number of scores equal to the row's maximum is not zero. -/
theorem v107_ne (b : Fin 2) (n : Fin 32) (k : Fin 2) (g : Fin 4) (r : Fin 128) :
    val_main_v107 (F := Ideal) x0 x1 x3 (ix5 b n k g r) ≠ (0 : EReal) := by
  have e : val_main_v107 (F := Ideal) x0 x1 x3 (ix5 b n k g r) = _ := Red.sum_last _ _ _ _ b n k g r
  rw [e]
  refine ne_of_eq_of_ne (zero_add_bits _) ?_
  obtain ⟨j, hj⟩ : ∃ j, val_main_v99_0 (F := Ideal) x0 x1 x3 (ix6 b n k g r j) = val_main_v102 (F := Ideal) x0 x1 x3 (ix5 b n k g r) := by
    obtain ⟨j, -, hj⟩ := Finset.exists_mem_eq_sup (Finset.univ : Finset (Fin 256)) ⟨0, Finset.mem_univ _⟩ (sc (msk n r) (row X b n (k * 4 + g) r))
    refine ⟨j, ?_⟩
    rw [v102_at A, masked A, bot_bits]
    exact hj.symm
  refine (lt_of_lt_of_le (zero_lt_one (α := EReal)) (le_trans (le_of_eq ?_)
    (Finset.single_le_sum (f := fun j => val_main_v106 (F := Ideal) x0 x1 x3 (ix6 b n k g r j)) (fun i _ => ?_) (Finset.mem_univ j)))).ne'
  · show _ = val_main_v106 (F := Ideal) x0 x1 x3 (ix6 b n k g r j)
    rw [v106_at, if_pos hj]
  · show _ ≤ val_main_v106 (F := Ideal) x0 x1 x3 (ix6 b n k g r i)
    rw [v106_at]; split <;> simp

omit A in
theorem v181_at (b : Fin 2) (n : Fin 32) (k : Fin 2) (g : Fin 4) (r : Fin 128) (j : Fin 256) :
    val_main_v181 (F := Ideal) x0 x1 x2 x3 x4 x5 (ix6 b n k g r j) = val_main_v180 (F := Ideal) x0 x1 x2 x3 x4 x5 (ix5 b n k g r) := by
  pointwise [val_main_v181]

theorem v180_at (b : Fin 2) (n : Fin 32) (k : Fin 2) (g : Fin 4) (r : Fin 128) :
    val_main_v180 (F := Ideal) x0 x1 x2 x3 x4 x5 (ix5 b n k g r) = (0 : EReal) := by
  pointwise [val_main_v180]
  rw [v179_at A]
  have h := v107_ne A b n k g r
  show Ideal.div (0 : EReal) _ = _
  rw [Ideal.div, if_neg h, zero_mul]

/-- The gradient of the scores. -/
theorem v186_at (b : Fin 2) (n : Fin 32) (k : Fin 2) (g : Fin 4) (r : Fin 128) (j : Fin 256) :
    val_main_v186 (F := Ideal) x0 x1 x2 x3 x4 x5 (ix6 b n k g r j) = (SS X b n (k * 4 + g) r j : EReal) := by
  pointwise [val_main_v186, val_main_v183, val_main_v182]
  rw [mask6, v169_at A, v181_at, v180_at A, zero_mul, add_zero]
  refine (Words.sel_ite (msk n r j) _ _).trans ?_
  split
  · rfl
  · refine (zero_fill _).trans ?_
    rw [SS, dS, w_off n b _ r j ‹_›, zero_mul, EReal.coe_zero]

omit A in
theorem v164_at (a b : Fin 1) (k : Fin 2) (g : Fin 4) (c d : Fin 1) :
    val_main_v164 (F := Ideal) x0 x1 x2 x3 x4 x5 (ix6 a b k g c d) = val_main_v163 (F := Ideal) x0 x1 x2 x3 x4 x5 (ix3 k g 0) := by
  pointwise [val_main_v164]

omit A in
theorem v176_at (a b : Fin 1) (k : Fin 2) (g : Fin 4) (c d : Fin 1) :
    val_main_v176 (F := Ideal) x0 x1 x2 x3 x4 x5 (ix6 a b k g c d) = val_main_v175 (F := Ideal) x0 x1 x2 x3 x4 x5 (ix3 k g 0) := by
  pointwise [val_main_v176]

theorem v175_at (k : Fin 2) (g : Fin 4) : val_main_v175 (F := Ideal) x0 x1 x2 x3 x4 x5 (ix3 k g 0) = (0 : EReal) := by
  have e : val_main_v175 (F := Ideal) x0 x1 x2 x3 x4 x5 (ix3 k g 0) = _ := Red.sum_mid _ _ _ _ k g 0
  rw [e]
  simp only [v174_at A]
  refine (zero_add_bits _).trans ?_
  rw [Finset.sum_const_zero]

theorem v163_at (k : Fin 2) (g : Fin 4) : val_main_v163 (F := Ideal) x0 x1 x2 x3 x4 x5 (ix3 k g 0) = (X.dsink (k * 4 + g) : EReal) := by
  have e : val_main_v163 (F := Ideal) x0 x1 x2 x3 x4 x5 (ix3 k g 0) = _ := Red.sum_mid _ _ _ _ k g 0
  rw [e]
  simp only [v162_at A]
  refine (zero_add_bits _).trans ?_
  rw [coe_sum]
  refine congrArg Real.toEReal ?_
  rw [Fintype.sum_prod_type, Data.dsink, Finset.sum_range]
  simp only [Fintype.sum_prod_type, Fin.sum_univ_two]
  rw [← Finset.sum_add_distrib]
  refine Finset.sum_congr rfl fun n _ => ?_
  simp only [Block.Seq.gSink, dSink, Finset.sum_neg_distrib]
  refine congrArg₂ (fun y z : ℝ => -y + -z) (Finset.sum_congr rfl fun r _ => mul_comm _ _) (Finset.sum_congr rfl fun r _ => mul_comm _ _)

theorem v177_at (a b : Fin 1) (k : Fin 2) (g : Fin 4) (c d : Fin 1) :
    val_main_v177 (F := Ideal) x0 x1 x2 x3 x4 x5 (ix6 a b k g c d) = (X.dsink (k * 4 + g) : EReal) := by
  pointwise [val_main_v177]
  rw [v164_at, v163_at A, v176_at, v175_at A, add_zero]

theorem v184_at (k : Fin 2) (g : Fin 4) : val_main_v184 (F := Ideal) x0 x1 x2 x3 x4 x5 (ix2 k g) = (X.dsink (k * 4 + g) : EReal) := by
  have e : val_main_v184 (F := Ideal) x0 x1 x2 x3 x4 x5 (ix2 k g) = _ := Red.sum_out _ _ _ _ k g
  rw [e]
  simp only [v177_at A]
  refine (zero_add_bits _).trans ?_
  simp only [Fintype.sum_prod_type, Fin.sum_univ_one]

/-- The gradient of the sinks. -/
theorem dsinks_at (u : Fin 1) (h : Fin 8) : val_main_v257 (F := Ideal) x0 x1 x2 x3 x4 x5 (ix2 u h) = (X.dsink h : EReal) := by
  pointwise [val_main_v257, val_main_v185]
  refine (v184_at A _ _).trans (congrArg (fun m => (X.dsink m : EReal)) ?_)
  show h.val / 4 * 4 + h.val % 4 = h.val
  omega

end

end Cert.Attn.Ref
end
-- ==== Proof.AttnResult.lean ====
module

public import proofs.«01_k».proof.Proof.AttnEntry

/-! The three results of the attention step over the real numbers. -/

@[expose] public section

set_option maxRecDepth 16384

noncomputable section

open Idealize.ShloMosaic Idealize.ShloMosaic.TcCoe Idealize.SL.Sem
open Idealize.ShloMosaic.Pipeline (Dat)

namespace Cert.Attn.Data

variable (X : Data)

/-- The gradient of keys and values. -/
def dkv (b s d : ℕ) : ℝ := X.own b s d + if s < 3968 then X.prev b (s + 128) d else 0

/-- The gradient of the packed columns. -/
def dz (b s j : ℕ) : ℝ := if 3584 ≤ j ∧ j < 3840 then X.dkv b s (j - 3584) else if 3072 ≤ j ∧ j < 3584 then X.dq b s (j - 3072) else 0

end Cert.Attn.Data

namespace Cert.Attn.Entry

open Cert.AttnIdeal Cert.AttnIdeal.Gen Cert.Attn Cert.Attn.Spec

variable {m : (b : Loc nD τ sig) → Buf (Elt Ideal) b} (ρ : Dev nD → PrngReg) {c : Dev nD} {X : Data} (A : Args m c X)

theorem c_kept : (W8 m ρ c (Proc.devRef .tc main_v21_0) : FVec Ideal S8192x128 .f32) = W6 m ρ c (Proc.devRef .tc main_v21_0) :=
  (W8_of m ρ c main_v21_0 (by decide)).trans (W7_of m ρ c main_v21_0 (by decide))
theorem s_kept : (W8 m ρ c (Proc.devRef .tc main_v21_1) : FVec Ideal S8192x128 .f32) = W6 m ρ c (Proc.devRef .tc main_v21_1) :=
  (W8_of m ρ c main_v21_1 (by decide)).trans (W7_of m ρ c main_v21_1 (by decide))
theorem z_kept : (W8 m ρ c (Proc.devRef .tc main_v25) : FVec Ideal S8192x4608 .f32) = W7 m ρ c (Proc.devRef .tc main_v25) :=
  W8_of m ρ c main_v25 (by decide)
theorem sink_kept : (W9 m ρ c (Proc.devRef .tc main_v26) : FVec Ideal S1x8 .f32) = W7 m ρ c (Proc.devRef .tc main_v26) :=
  (W9_of m ρ c main_v26 (by decide)).trans (W8_of m ρ c main_v26 (by decide))

include A

theorem out_arr : (W8 m ρ c (Proc.devRef .tc main_v30_0) : FVec Ideal S2x4096x512 .bf16) = fun i => (X.out (i 0) (i 1) (i 2) : EReal) :=
  (W8_arr m ρ c 8).trans (Fwd.arr8 (fwd ρ A))
theorem lse_arr : (W8 m ρ c (Proc.devRef .tc main_v30_1) : FVec Ideal S2x4096x8 .f32) = fun i => (X.lse (i 0) (i 1) (i 2) : EReal) :=
  (W8_arr m ρ c 9).trans (Fwd.arr9 (fwd ρ A))

theorem out_row (s : Fin 8192) (j : Fin 512) : (W9 m ρ c (Proc.devRef .tc main_v31) : FVec Ideal S8192x512 .bf16) (ix2 s j)
    = (X.out (s.val / 4096) (s.val % 4096) j : EReal) := by
  show (StableHlo.after hostOps2 (W8 m ρ c) (Proc.devRef .tc main_v31) : FVec Ideal S8192x512 .bf16) (ix2 s j) = _
  after_results
  rw [show (W8 m ρ c (Proc.devRef .tc main_v30_0)) = _ from out_arr ρ A]
  pointwise []

theorem bwd : Bwd.Entry (V9 m ρ) c X where
  hz b s j := by
    show (StableHlo.after hostOps2 (W8 m ρ c) (Proc.devRef .tc main_v35) : FVec Ideal S2x4096x4608 .f32) (ix3 b s j) = _
    after_results
    rw [show (W8 m ρ c (Proc.devRef .tc main_v25)) = _ from z_kept ρ]
    pointwise []
    exact (z_val ρ A _ j).trans (at_pos (f := X.z) b s j)
  hc b s j := by
    show (StableHlo.after hostOps2 (W8 m ρ c) (Proc.devRef .tc main_v36) : FVec Ideal S2x4096x128 .f32) (ix3 b s j) = _
    after_results
    rw [show (W8 m ρ c (Proc.devRef .tc main_v21_0)) = _ from c_kept ρ]
    pointwise []
    exact (c_table ρ A _ j).trans (at_pos (f := X.ct) b s j)
  hs b s j := by
    show (StableHlo.after hostOps2 (W8 m ρ c) (Proc.devRef .tc main_v37) : FVec Ideal S2x4096x128 .f32) (ix3 b s j) = _
    after_results
    rw [show (W8 m ρ c (Proc.devRef .tc main_v21_1)) = _ from s_kept ρ]
    pointwise []
    exact (s_table ρ A _ j).trans (at_pos (f := X.st) b s j)
  hsk u h := (congrFun (sink_kept ρ) _).trans ((fwd ρ A).hsk u h)
  ho b s j := by
    show (StableHlo.after hostOps2 (W8 m ρ c) (Proc.devRef .tc main_v38) : FVec Ideal S2x4096x512 .bf16) (ix3 b s j) = _
    after_results
    rw [show (W8 m ρ c (Proc.devRef .tc main_v30_0)) = _ from out_arr ρ A]
    pointwise []
    exact at_pos (f := X.out) b s j
  hl b s j := by
    show (StableHlo.after hostOps2 (W8 m ρ c) (Proc.devRef .tc main_v39) : FVec Ideal S2x4096x8 .f32) (ix3 b s j) = _
    after_results
    rw [show (W8 m ρ c (Proc.devRef .tc main_v30_1)) = _ from lse_arr ρ A]
    pointwise []
    exact at_pos (f := X.lse) b s j
  hg b s j := by
    show (StableHlo.after hostOps2 (W8 m ρ c) (Proc.devRef .tc main_v40) : FVec Ideal S2x4096x512 .bf16) (ix3 b s j) = _
    after_results
    rw [show (W8 m ρ c (Proc.devRef .tc main_arg5)) = _ from W8_args m ρ c main_arg5 (by decide)]
    pointwise []
    exact (A.hg _ _ _).trans (at_pos (f := X.G) b s j)

omit A in
theorem zero_arr : (W9 m ρ c (Proc.devRef .tc main_v42_0) : FVec Ideal S2x4096x4608 .bf16) = fun _ => (0 : EReal) := by
  show (StableHlo.after hostOps2 (W8 m ρ c) (Proc.devRef .tc main_v42_0) : FVec Ideal S2x4096x4608 .bf16) = _
  after_results
  funext i
  idx_vars i
  pointwise []
  rfl

theorem dq_arr : (W10 m ρ c (Proc.devRef .tc main_v42_0) : FVec Ideal S2x4096x4608 .bf16)
    = fun i => if 3072 ≤ (i 2).val ∧ (i 2).val < 3584 then (X.dq (i 0) (i 1) ((i 2).val - 3072) : EReal) else 0 := by
  refine (W10_arr m ρ c 11).trans ((Bwd.arr11 (bwd ρ A)).trans (funext fun i => ?_))
  rw [show (V9 m ρ c main_v42_0 : FVec Ideal S2x4096x4608 .bf16) = _ from zero_arr ρ]
theorem own_arr : (W10 m ρ c (Proc.devRef .tc main_v42_1) : FVec Ideal S2x4096x256 .f32) = fun i => (X.own (i 0) (i 1) (i 2) : EReal) :=
  (W10_arr m ρ c 12).trans (Bwd.arr12 (bwd ρ A))
theorem prev_arr : (W10 m ρ c (Proc.devRef .tc main_v42_2) : FVec Ideal S2x4096x256 .f32) = fun i => (X.prev (i 0) (i 1) (i 2) : EReal) :=
  (W10_arr m ρ c 13).trans (Bwd.arr13 (bwd ρ A))
theorem sink_arr : (W10 m ρ c (Proc.devRef .tc main_v42_3) : FVec Ideal S1x8 .f32) = fun i => (X.dsink (i 1) : EReal) :=
  (W10_arr m ρ c 14).trans (Bwd.arr14 (bwd ρ A))

theorem join : Join.Entry (V11 m ρ) c (fun n d => X.own (n / 4096) (n % 4096) d) (fun n d => X.prev (n / 4096) (n % 4096) d) where
  hp s d := by
    show (StableHlo.after hostOps3 (W10 m ρ c) (Proc.devRef .tc main_v44) : FVec Ideal S8192x256 .f32) (ix2 s d) = _
    after_results
    rw [show (W10 m ρ c (Proc.devRef .tc main_v42_1)) = _ from own_arr ρ A]
    pointwise []
  hr s d := by
    show (StableHlo.after hostOps3 (W10 m ρ c) (Proc.devRef .tc main_v45) : FVec Ideal S8192x256 .f32) (ix2 s d) = _
    after_results
    rw [show (W10 m ρ c (Proc.devRef .tc main_v42_2)) = _ from prev_arr ρ A]
    pointwise []

theorem before_join (s : Fin 8192) (j : Fin 4608) : (V11 m ρ c main_v46 : FVec Ideal S8192x4608 .bf16) (ix2 s j)
    = if 3072 ≤ j.val ∧ j.val < 3584 then (X.dq (s.val / 4096) (s.val % 4096) (j.val - 3072) : EReal) else 0 := by
  show (StableHlo.after hostOps3 (W10 m ρ c) (Proc.devRef .tc main_v46) : FVec Ideal S8192x4608 .bf16) (ix2 s j) = _
  after_results
  rw [show (W10 m ρ c (Proc.devRef .tc main_v42_0)) = _ from dq_arr ρ A]
  pointwise []
  rfl

/-! ## The results -/

theorem ya (s : Fin 8192) (j : Fin 512) : (W12 m ρ c (Proc.devRef .tc main_v31) : FVec Ideal S8192x512 .bf16) (ix2 s j)
    = (X.out (s.val / 4096) (s.val % 4096) j : EReal) := by
  rw [W12_of m ρ c main_v31 (by decide), W11_of m ρ c main_v31 (by decide), W10_of m ρ c main_v31 (by decide)]
  exact out_row ρ A s j

theorem dz (s : Fin 8192) (j : Fin 4608) : (W12 m ρ c (Proc.devRef .tc main_v46) : FVec Ideal S8192x4608 .bf16) (ix2 s j)
    = (X.dz (s.val / 4096) (s.val % 4096) j : EReal) := by
  refine (congrFun ((W12_arr m ρ c 3).trans (Join.arr3 (join ρ A))) (ix2 s j)).trans ?_
  unfold Data.dz Data.dkv Join.joined
  show (if 3584 ≤ j.val ∧ j.val < 3840 then _ else (V11 m ρ c main_v46 : FVec Ideal S8192x4608 .bf16) (ix2 s j)) = _
  rw [before_join ρ A]
  by_cases h : 3584 ≤ j.val ∧ j.val < 3840
  · rw [if_pos h, if_pos h]
    refine congrArg Real.toEReal (congrArg (fun y : ℝ => X.own (s.val / 4096) (s.val % 4096) (j.val - 3584) + y) ?_)
    by_cases h2 : s.val % 4096 < 3968
    · refine (if_pos h2).trans (Eq.trans ?_ (if_pos h2).symm)
      exact congrArg₂ (fun a b => X.prev a b _) (by show (s.val + 128) / 4096 = _; omega) (by show (s.val + 128) % 4096 = _; omega)
    · exact (if_neg h2).trans (if_neg h2).symm
  · rw [if_neg h, if_neg h]
    split_ifs <;> rfl

theorem dsinks (u : Fin 1) (h : Fin 8) : (W12 m ρ c (Proc.devRef .tc main_v42_3) : FVec Ideal S1x8 .f32) (ix2 u h) = (X.dsink h : EReal) := by
  rw [W12_of m ρ c main_v42_3 (by decide), W11_of m ρ c main_v42_3 (by decide)]
  exact congrFun (sink_arr ρ A) (ix2 u h)

end Cert.Attn.Entry
end
-- ==== Proof.AttnRef4.lean ====
module

public import proofs.«01_k».proof.Proof.AttnRef3
public import proofs.«01_k».proof.Proof.AttnResult

/-! The reference's gradients of queries, keys and values. -/

@[expose] public section

set_option maxRecDepth 16384

noncomputable section

open Idealize.ShloMosaic Idealize.ShloMosaic.TcCoe Idealize.SL.Sem

namespace Cert.Attn.Ref

open Cert.AttnRefIdeal Cert.AttnRefIdeal.Gen Cert.AttnRefIdeal.Read Cert.Attn Cert.Attn.Spec Cert.Soft Cert.Finite

variable {x0 : FVec Ideal S2x4096x512 .f32} {x1 x2 : FVec Ideal S2x4096x128 .f32} {x3 : IVec S2x4096 32} {x4 : FVec Ideal S8 .f32}
  {x5 : FVec Ideal S2x4096x512 .bf16} {X : Data} (A : Args x0 x1 x2 x3 x4 x5 X)

theorem ss_off (n b h r : ℕ) (j : Fin 256) (hm : ¬ msk n r j) : SS X b n h r j = 0 := by
  rw [SS, dS, w_off n b _ r j hm, zero_mul]

theorem ss_kk (n b h r : ℕ) (j : Fin 256) (d : ℕ) : SS X b n h r j * KK X n b j d = SS X b n h r j * (X.seq n b).K j d := by
  by_cases hm : msk n r j
  · rw [kk_of n b r j d hm]
  · rw [ss_off n b h r j hm, zero_mul, zero_mul]

theorem ofNat_val (j : Fin 256) : Fin.ofNat 256 j.val = j := Fin.ext (Nat.mod_eq_of_lt j.2)

section
include A

theorem v188_at (b : Fin 2) (n : Fin 32) (k : Fin 2) (g : Fin 4) (r : Fin 128) (j : Fin 256) :
    val_main_v188 (F := Ideal) x0 x1 x2 x3 x4 x5 (ix6 b n k g r j) = ((SS X b n (k * 4 + g) r j * 8⁻¹ : ℝ) : EReal) := by
  pointwise [val_main_v188, val_main_v187]
  rw [v186_at A, show val_main_cst_30 (F := Ideal) ix0 = ((8⁻¹ : ℝ) : EReal) from Words.eighth_bits, ← EReal.coe_mul]

theorem v189_at (b : Fin 2) (n : Fin 32) (k : Fin 2) (j : Fin 256) (r : Fin 128) (g : Fin 4) :
    val_main_v189 (F := Ideal) x0 x1 x2 x3 x4 x5 (ix6 b n k j r g) = ((SS X b n (k * 4 + g) r j * 8⁻¹ : ℝ) : EReal) := by
  pointwise [val_main_v189]
  exact v188_at A _ _ _ _ _ _

theorem v190_at (b : Fin 2) (n : Fin 32) (k : Fin 2) (r : Fin 128) (g : Fin 4) (d : Fin 64) :
    val_main_v190 (F := Ideal) x0 x1 x2 x3 x4 x5 (ix6 b n k r g d) = (((X.seq n b).gQ (k * 4 + g) r d * 8⁻¹ : ℝ) : EReal) := by
  pointwise [val_main_v190]
  have e1 (j : Fin 256) := v189_at A b n k j r g
  have e2 (j : Fin 256) := band_k A b n j k d
  simp only [e1, e2, ← EReal.coe_mul, sum_coe]
  refine congrArg Real.toEReal ?_
  rw [Block.Seq.gQ, dQ, Finset.sum_mul]
  refine Finset.sum_congr rfl fun j _ => ?_
  rw [mul_right_comm, ss_kk, show (k.val * 4 + g.val) / 4 = k.val by omega]
  rfl

/-- The gradient of the rotated queries. -/
theorem v208_at (b : Fin 2) (s : Fin 4096) (h : Fin 8) (d : Fin 64) :
    val_main_v208 (F := Ideal) x0 x1 x2 x3 x4 x5 (ix4 b s h d) = (((X.seq (s / 128) b).gQ h (s % 128) d * 8⁻¹ : ℝ) : EReal) := by
  pointwise [val_main_v208, val_main_v191]
  refine (v190_at A _ _ _ _ _ _).trans (congrArg Real.toEReal ?_)
  dsimp only
  rw [show h.val / 4 * 4 + h.val % 4 = h.val by omega]

theorem v193_at (b : Fin 2) (n : Fin 32) (j : Fin 256) (k : Fin 2) (d : Fin 64) :
    val_main_v193 (F := Ideal) x0 x1 x2 x3 x4 x5 (ix5 b n j k d) = ((X.seq n b).gK k j d : EReal) := by
  pointwise [val_main_v193, val_main_v192]
  have e1 (r : Fin 128) (g : Fin 4) := v189_at A b n k j r g
  have e2 (r : Fin 128) (g : Fin 4) := blk_q A b n r k g d
  simp only [e1, e2, ← EReal.coe_mul, sum_coe]
  refine congrArg Real.toEReal ?_
  rw [Block.Seq.gK, dK, ofNat_val, Finset.sum_comm]
  refine Finset.sum_congr rfl fun g _ => Finset.sum_congr rfl fun r _ => ?_
  rw [mul_assoc, mul_comm (8⁻¹ : ℝ)]
  rfl

theorem v153_at (b : Fin 2) (n : Fin 32) (j : Fin 256) (k : Fin 2) (d : Fin 64) :
    val_main_v153 (F := Ideal) x0 x1 x3 x4 x5 (ix5 b n j k d) = ((X.seq n b).gV k j d : EReal) := by
  pointwise [val_main_v153, val_main_v152]
  have e1 (r : Fin 128) (g : Fin 4) := v150_at A b n k d g r
  have e2 (r : Fin 128) (g : Fin 4) := v139_at A b n k g r j
  simp only [e1, e2, ← EReal.coe_mul, sum_coe]
  refine congrArg Real.toEReal ?_
  rw [Block.Seq.gV, dV, ofNat_val]
  refine Finset.sum_congr rfl fun g _ => Finset.sum_congr rfl fun r _ => ?_
  rw [mul_comm]
  rfl

end

end Cert.Attn.Ref
end
-- ==== Proof.AttnRef5.lean ====
module

public import proofs.«01_k».proof.Proof.AttnRef4

/-! The reference's gradients of values, and of rotated queries and keys, gathered over blocks. -/

@[expose] public section

set_option maxRecDepth 16384

noncomputable section

open Idealize.ShloMosaic Idealize.ShloMosaic.TcCoe Idealize.SL.Sem

namespace Cert.Attn.Ref

open Cert.AttnRefIdeal Cert.AttnRefIdeal.Gen Cert.AttnRefIdeal.Read Cert.Attn Cert.Attn.Spec Cert.Soft Cert.Finite

variable {x0 : FVec Ideal S2x4096x512 .f32} {x1 x2 : FVec Ideal S2x4096x128 .f32} {x3 : IVec S2x4096 32} {x4 : FVec Ideal S8 .f32}
  {x5 : FVec Ideal S2x4096x512 .bf16} {X : Data} (A : Args x0 x1 x2 x3 x4 x5 X)

section
include A

theorem v193_k (b : Fin 2) (n : Fin 32) (j : Fin 256) (k : Fin 2) (d : Fin 64) (b' n' j' k' d' : ℕ) (hb : b.val = b') (hn : n.val = n')
    (hj : j.val = j') (hk : k.val = k') (hd : d.val = d') :
    val_main_v193 (F := Ideal) x0 x1 x2 x3 x4 x5 (ix5 b n j k d) = ((X.seq n' b').gK k' j' d' : EReal) := by
  subst hb hn hj hk hd; exact v193_at A b n j k d

theorem v153_k (b : Fin 2) (n : Fin 32) (j : Fin 256) (k : Fin 2) (d : Fin 64) (b' n' j' k' d' : ℕ) (hb : b.val = b') (hn : n.val = n')
    (hj : j.val = j') (hk : k.val = k') (hd : d.val = d') :
    val_main_v153 (F := Ideal) x0 x1 x3 x4 x5 (ix5 b n j k d) = ((X.seq n' b').gV k' j' d' : EReal) := by
  subst hb hn hj hk hd; exact v153_at A b n j k d

omit A in
/-- What a position's own block and the next one give. -/
theorem add_next (c p : Prop) [Decidable c] [Decidable p] (y : EReal) (z : c → EReal) (w : EReal) (u v : ℝ) (hc : c ↔ p) (hy : y = u) (hz : ∀ h, z h = v)
    (hw : w = 0) : (y + if h : c then z h else w) = ((u + if p then v else 0 : ℝ) : EReal) := by
  rw [hy, hw]
  by_cases h : c
  · rw [dif_pos h, if_pos (hc.mp h), hz, EReal.coe_add]
  · rw [dif_neg h, if_neg (fun k => h (hc.mpr k)), add_zero, add_zero]

omit A in
theorem zero_word : (Ideal.ofBits .f32 0x00000000#32 : EReal) = 0 := by rw [zero_bits, EReal.coe_zero]

/-- The gradient of the values at a position. -/
def gVal (X : Data) (b s j : ℕ) : ℝ := (X.seq (s / 128) b).gV (j / 64) (128 + s % 128) (j % 64)
    + if s < 3968 then (X.seq (s / 128 + 1) b).gV (j / 64) (s % 128) (j % 64) else 0

theorem v209_at (b : Fin 2) (s : Fin 4096) (d : Fin 128) :
    val_main_v209 (F := Ideal) x0 x1 x3 x4 x5 (ix3 b s d) = (gVal X b s d : EReal) := by
  pointwise [val_main_v209, val_main_v200, val_main_v199, val_main_v195, val_main_v198, val_main_v197, val_main_v194]
  refine add_next _ (s.val < 3968) _ _ _ _ _ (by omega) ?_ (fun h => ?_) ?_
  · exact v153_k A _ _ _ _ _ _ _ _ _ _ rfl rfl rfl rfl rfl
  · exact v153_k A _ _ _ _ _ _ _ _ _ _ rfl (Nat.add_comm 1 _) rfl rfl rfl
  · exact zero_word

/-- The gradient of the rotated keys at a position. -/
def gKey (X : Data) (b s j : ℕ) : ℝ := (X.seq (s / 128) b).gK (j / 64) (128 + s % 128) (j % 64)
    + if s < 3968 then (X.seq (s / 128 + 1) b).gK (j / 64) (s % 128) (j % 64) else 0

theorem v207_at (b : Fin 2) (s : Fin 4096) (k : Fin 2) (d : Fin 64) (j : ℕ) (hj : k.val * 64 + d.val = j) :
    val_main_v207 (F := Ideal) x0 x1 x2 x3 x4 x5 (ix4 b s k d) = (gKey X b s j : EReal) := by
  pointwise [val_main_v207, val_main_v206, val_main_v202, val_main_v205, val_main_v204, val_main_v201]
  have h1 : k.val = j / 64 := by omega
  have h2 : d.val = j % 64 := by omega
  refine add_next _ (s.val < 3968) _ _ _ _ _ (by omega) ?_ (fun h => ?_) ?_
  · exact v193_k A _ _ _ _ _ _ _ _ _ _ rfl rfl rfl h1 h2
  · exact v193_k A _ _ _ _ _ _ _ _ _ _ rfl (Nat.add_comm 1 _) rfl h1 h2
  · exact zero_word

/-- The gradient of the rotated queries at a position. -/
def gQry (X : Data) (b s j : ℕ) : ℝ := (X.seq (s / 128) b).gQ (j / 64) (s % 128) (j % 64) * 8⁻¹

theorem v208_k (b : Fin 2) (s : Fin 4096) (h : Fin 8) (d : Fin 64) (j : ℕ) (hj : h.val * 64 + d.val = j) :
    val_main_v208 (F := Ideal) x0 x1 x2 x3 x4 x5 (ix4 b s h d) = (gQry X b s j : EReal) := by
  rw [v208_at A, gQry, show j / 64 = h.val by omega, show j % 64 = d.val by omega]

end

end Cert.Attn.Ref
end
-- ==== Proof.AttnRef6.lean ====
module

public import proofs.«01_k».proof.Proof.AttnRef5

/-! The reference's gradient of the packed columns. -/

@[expose] public section

set_option maxRecDepth 16384

noncomputable section

open Idealize.ShloMosaic Idealize.ShloMosaic.TcCoe Idealize.SL.Sem

namespace Cert.Attn.Ref

open Cert.AttnRefIdeal Cert.AttnRefIdeal.Gen Cert.AttnRefIdeal.Read Cert.Attn Cert.Attn.Spec Cert.Soft Cert.Finite

variable {x0 : FVec Ideal S2x4096x512 .f32} {x1 x2 : FVec Ideal S2x4096x128 .f32} {x3 : IVec S2x4096 32} {x4 : FVec Ideal S8 .f32}
  {x5 : FVec Ideal S2x4096x512 .bf16} {X : Data} (A : Args x0 x1 x2 x3 x4 x5 X)

section
include A

omit A in
/-- Lanes the rotation leaves alone. -/
theorem part_high (t : ℝ) (d : Fin 64) (y : 16 ≤ d.val ∧ d.val - 16 < 48 → EReal) (w : EReal) (hy : ∀ h, 16 ≤ d.val → y h = t) (hw : w = 0) :
    (if h : 16 ≤ d.val ∧ d.val - 16 < 48 then y h else w) = ((if 16 ≤ d.val then t else 0 : ℝ) : EReal) := by
  have hd := d.2
  by_cases h : 16 ≤ d.val
  · rw [dif_pos ⟨h, by omega⟩, if_pos h, hy _ h]
  · rw [dif_neg (fun k => h k.1), if_neg h, hw, EReal.coe_zero]

omit A in
theorem neg_at {s : Shape} (y : FVec Ideal s .f32) (i : s.Idx) : Host.negf y i = (- (y i : EReal) : EReal) := rfl

/-- A lane of the second half of the rotated lanes. -/
theorem mid_lane (b : Fin 2) (s : Fin 4096) (t : ℕ → ℝ) (h : ℕ) (l : Fin 8) (y z : EReal)
    (hy : y = (t (h * 64 + (8 + l)) : EReal)) (hz : z = (t (h * 64 + l) : EReal)) :
    y * (val_main_v17 (F := Ideal) x3 (ix4 b s 0 l) : EReal) + - z * (val_main_v19 (F := Ideal) x3 (ix4 b s 0 l) : EReal)
      = (t (h * 64 + (8 + l)) * X.ct b s ((h * 64 + (8 + l)) % 128) + t (h * 64 + l) * X.st b s ((h * 64 + l) % 128) : ℝ) := by
  have hl := l.2
  rw [hy, hz, table_c A b s 0 l ((h * 64 + (8 + l)) % 128) (by omega) (by omega),
    table_s A b s 0 l ((h * 64 + l) % 128) (by omega) (by omega), if_pos (by omega), ← EReal.coe_neg, ← EReal.coe_mul, ← EReal.coe_mul, ← EReal.coe_add, neg_mul_neg]

/-- A lane of the first half. -/
theorem low_lane (b : Fin 2) (s : Fin 4096) (t : ℕ → ℝ) (h : ℕ) (l : Fin 8) (y z : EReal)
    (hy : y = (t (h * 64 + l) : EReal)) (hz : z = (t (h * 64 + (8 + l)) : EReal)) :
    z * (val_main_v19 (F := Ideal) x3 (ix4 b s 0 l) : EReal) + y * (val_main_v17 (F := Ideal) x3 (ix4 b s 0 l) : EReal)
      = (t (h * 64 + l) * X.ct b s ((h * 64 + l) % 128) + t (h * 64 + (8 + l)) * X.st b s ((h * 64 + (8 + l)) % 128) : ℝ) := by
  have hl := l.2
  rw [hy, hz, table_c A b s 0 l ((h * 64 + l) % 128) (by omega) (by omega),
    table_s A b s 0 l ((h * 64 + (8 + l)) % 128) (by omega) (by omega), if_neg (by omega), ← EReal.coe_mul, ← EReal.coe_mul, ← EReal.coe_add, add_comm]

omit A in
theorem part_mid (t c u : ℕ → ℝ) (h : ℕ) (d : Fin 64) (y : 8 ≤ d.val ∧ d.val - 8 < 8 → EReal) (w : EReal)
    (hy : ∀ k, 8 ≤ d.val → y k = (t (h * 64 + (8 + (d - 8))) * c ((h * 64 + (8 + (d - 8))) % 128) + t (h * 64 + (d - 8)) * u ((h * 64 + (d - 8)) % 128) : ℝ)) (hw : w = 0) :
    (if l : 8 ≤ d.val ∧ d.val - 8 < 8 then y l else w)
      = ((if 8 ≤ d.val ∧ d.val < 16 then t (h * 64 + d) * c ((h * 64 + d) % 128) + t (h * 64 + d - 8) * u ((h * 64 + d - 8) % 128) else 0 : ℝ) : EReal) := by
  by_cases k : 8 ≤ d.val ∧ d.val - 8 < 8
  · rw [dif_pos k, if_pos (by omega), hy k k.1, show 8 + (d.val - 8) = d.val by omega, show h * 64 + (d.val - 8) = h * 64 + d.val - 8 by omega]
  · rw [dif_neg k, if_neg (by omega), hw, EReal.coe_zero]

omit A in
theorem part_low (t c u : ℕ → ℝ) (h : ℕ) (d : Fin 64) (y : d.val < 8 → EReal) (w : EReal)
    (hy : ∀ k, y k = (t (h * 64 + d) * c ((h * 64 + d) % 128) + t (h * 64 + (8 + d)) * u ((h * 64 + (8 + d)) % 128) : ℝ)) (hw : w = 0) :
    (if l : d.val < 8 then y l else w)
      = ((if d.val < 8 then t (h * 64 + d) * c ((h * 64 + d) % 128) + t (h * 64 + d + 8) * u ((h * 64 + d + 8) % 128) else 0 : ℝ) : EReal) := by
  by_cases k : d.val < 8
  · rw [dif_pos k, if_pos k, hy k, show h * 64 + (8 + d.val) = h * 64 + d.val + 8 by omega]
  · rw [dif_neg k, if_neg k, hw, EReal.coe_zero]

theorem parts (b s : ℕ) (t : ℕ → ℝ) (h d : ℕ) (hd : d < 64) :
    (if 16 ≤ d then t (h * 64 + d) else 0)
      + (if 8 ≤ d ∧ d < 16 then t (h * 64 + d) * X.ct b s ((h * 64 + d) % 128) + t (h * 64 + d - 8) * X.st b s ((h * 64 + d - 8) % 128) else 0)
      + (if d < 8 then t (h * 64 + d) * X.ct b s ((h * 64 + d) % 128) + t (h * 64 + d + 8) * X.st b s ((h * 64 + d + 8) % 128) else 0)
      = ropeT (X.ct b s) (X.st b s) t (h * 64 + d) := by
  unfold ropeT swap
  have e : (h * 64 + d) % 64 = d := by omega
  rw [e]
  by_cases h1 : d < 8
  · rw [if_neg (by omega), if_neg (by omega), if_pos h1, if_pos h1]; ring
  by_cases h2 : d < 16
  · rw [if_neg (by omega), if_pos (by omega), if_neg h1, if_neg h1, if_pos h2]; ring
  · rw [if_pos (by omega), if_neg (by omega), if_neg h1, if_neg h1, if_neg h2, one_c A b s _ (by omega)]; ring

theorem v210_at (b : Fin 2) (s : Fin 4096) (k : Fin 2) (l : Fin 8) : val_main_v210 (F := Ideal) x0 x1 x2 x3 x4 x5 (ix4 b s k l) = (gKey X b s (k * 64 + l) : EReal) := by
  pointwise [val_main_v210]
  exact v207_at A _ _ _ _ _ rfl

theorem v211_at (b : Fin 2) (s : Fin 4096) (k : Fin 2) (l : Fin 8) : val_main_v211 (F := Ideal) x0 x1 x2 x3 x4 x5 (ix4 b s k l) = (gKey X b s (k * 64 + (8 + l)) : EReal) := by
  pointwise [val_main_v211]
  exact v207_at A _ _ _ _ _ rfl

theorem v213_at (b : Fin 2) (s : Fin 4096) (k : Fin 2) (d : Fin 64) :
    val_main_v213 (F := Ideal) x0 x1 x2 x3 x4 x5 (ix4 b s k d) = ((if 16 ≤ d.val then gKey X b s (k * 64 + d) else 0 : ℝ) : EReal) := by
  pointwise [val_main_v213, val_main_v212]
  refine part_high _ d _ _ (fun h l => ?_) ?_
  · exact v207_at A _ _ _ _ _ (by dsimp only; omega)
  · exact zero_word

omit A in
theorem v214_at (b : Fin 2) (s : Fin 4096) (k : Fin 2) (l : Fin 8) : val_main_v214 (F := Ideal) x3 (ix4 b s k l) = val_main_v19 (F := Ideal) x3 (ix4 b s 0 l) := by
  pointwise [val_main_v214]

omit A in
theorem v216_at (b : Fin 2) (s : Fin 4096) (k : Fin 2) (l : Fin 8) : val_main_v216 (F := Ideal) x3 (ix4 b s k l) = val_main_v17 (F := Ideal) x3 (ix4 b s 0 l) := by
  pointwise [val_main_v216]

omit A in
theorem v219_at (b : Fin 2) (s : Fin 4096) (k : Fin 2) (l : Fin 8) : val_main_v219 (F := Ideal) x3 (ix4 b s k l) = val_main_v19 (F := Ideal) x3 (ix4 b s 0 l) := by
  pointwise [val_main_v219]

omit A in
theorem v222_at (b : Fin 2) (s : Fin 4096) (k : Fin 2) (l : Fin 8) : val_main_v222 (F := Ideal) x3 (ix4 b s k l) = val_main_v17 (F := Ideal) x3 (ix4 b s 0 l) := by
  pointwise [val_main_v222]

theorem v221_at (b : Fin 2) (s : Fin 4096) (k : Fin 2) (l : Fin 8) : val_main_v221 (F := Ideal) x0 x1 x2 x3 x4 x5 (ix4 b s k l)
    = (gKey X b s (k * 64 + (8 + l)) * X.ct b s ((k * 64 + (8 + l)) % 128) + gKey X b s (k * 64 + l) * X.st b s ((k * 64 + l) % 128) : ℝ) := by
  rw [val_main_v221, ValueIdx.addf_apply, val_main_v217, val_main_v220, ValueIdx.mulf_apply, ValueIdx.mulf_apply, val_main_v218, neg_at, v216_at, v219_at]
  exact mid_lane A b s (gKey X b s) k l _ _ (v211_at A b s k l) (v210_at A b s k l)

theorem v224_at (b : Fin 2) (s : Fin 4096) (k : Fin 2) (l : Fin 8) : val_main_v224 (F := Ideal) x0 x1 x2 x3 x4 x5 (ix4 b s k l)
    = (gKey X b s (k * 64 + l) * X.ct b s ((k * 64 + l) % 128) + gKey X b s (k * 64 + (8 + l)) * X.st b s ((k * 64 + (8 + l)) % 128) : ℝ) := by
  rw [val_main_v224, ValueIdx.addf_apply, val_main_v215, val_main_v223, ValueIdx.mulf_apply, ValueIdx.mulf_apply, v214_at, v222_at]
  exact low_lane A b s (gKey X b s) k l _ _ (v210_at A b s k l) (v211_at A b s k l)

theorem v225_at (b : Fin 2) (s : Fin 4096) (k : Fin 2) (d : Fin 64) : val_main_v225 (F := Ideal) x0 x1 x2 x3 x4 x5 (ix4 b s k d)
    = ((if 8 ≤ d.val ∧ d.val < 16 then gKey X b s (k * 64 + d) * X.ct b s ((k * 64 + d) % 128) + gKey X b s (k * 64 + d - 8) * X.st b s ((k * 64 + d - 8) % 128) else 0 : ℝ) : EReal) := by
  pointwise [val_main_v225]
  refine part_mid (gKey X b s) (X.ct b s) (X.st b s) k d _ _ (fun h l => ?_) ?_
  · exact v221_at A _ _ _ _
  · exact zero_word

theorem v227_at (b : Fin 2) (s : Fin 4096) (k : Fin 2) (d : Fin 64) : val_main_v227 (F := Ideal) x0 x1 x2 x3 x4 x5 (ix4 b s k d)
    = ((if d.val < 8 then gKey X b s (k * 64 + d) * X.ct b s ((k * 64 + d) % 128) + gKey X b s (k * 64 + d + 8) * X.st b s ((k * 64 + d + 8) % 128) else 0 : ℝ) : EReal) := by
  pointwise [val_main_v227]
  refine part_low (gKey X b s) (X.ct b s) (X.st b s) k d _ _ (fun h => ?_) ?_
  · exact v224_at A _ _ _ _
  · exact zero_word

theorem v229_at (b : Fin 2) (s : Fin 4096) (j : Fin 128) :
    val_main_v229 (F := Ideal) x0 x1 x2 x3 x4 x5 (ix3 b s j) = (ropeT (X.ct b s) (X.st b s) (gKey X b s) j : EReal) := by
  pointwise [val_main_v229, val_main_v228, val_main_v226]
  rw [v213_at A, v225_at A, v227_at A, ← EReal.coe_add, ← EReal.coe_add]
  refine congrArg Real.toEReal ((parts A b s _ _ _ (by dsimp only; omega)).trans ?_)
  exact congrArg _ (by dsimp only; omega)

theorem v230_at (b : Fin 2) (s : Fin 4096) (k : Fin 8) (l : Fin 8) : val_main_v230 (F := Ideal) x0 x1 x2 x3 x4 x5 (ix4 b s k l) = (gQry X b s (k * 64 + l) : EReal) := by
  pointwise [val_main_v230]
  exact v208_k A _ _ _ _ _ rfl

theorem v231_at (b : Fin 2) (s : Fin 4096) (k : Fin 8) (l : Fin 8) : val_main_v231 (F := Ideal) x0 x1 x2 x3 x4 x5 (ix4 b s k l) = (gQry X b s (k * 64 + (8 + l)) : EReal) := by
  pointwise [val_main_v231]
  exact v208_k A _ _ _ _ _ rfl

theorem v233_at (b : Fin 2) (s : Fin 4096) (k : Fin 8) (d : Fin 64) :
    val_main_v233 (F := Ideal) x0 x1 x2 x3 x4 x5 (ix4 b s k d) = ((if 16 ≤ d.val then gQry X b s (k * 64 + d) else 0 : ℝ) : EReal) := by
  pointwise [val_main_v233, val_main_v232]
  refine part_high _ d _ _ (fun h l => ?_) ?_
  · exact v208_k A _ _ _ _ _ (by dsimp only; omega)
  · exact zero_word

omit A in
theorem v234_at (b : Fin 2) (s : Fin 4096) (k : Fin 8) (l : Fin 8) : val_main_v234 (F := Ideal) x3 (ix4 b s k l) = val_main_v19 (F := Ideal) x3 (ix4 b s 0 l) := by
  pointwise [val_main_v234]

omit A in
theorem v236_at (b : Fin 2) (s : Fin 4096) (k : Fin 8) (l : Fin 8) : val_main_v236 (F := Ideal) x3 (ix4 b s k l) = val_main_v17 (F := Ideal) x3 (ix4 b s 0 l) := by
  pointwise [val_main_v236]

omit A in
theorem v239_at (b : Fin 2) (s : Fin 4096) (k : Fin 8) (l : Fin 8) : val_main_v239 (F := Ideal) x3 (ix4 b s k l) = val_main_v19 (F := Ideal) x3 (ix4 b s 0 l) := by
  pointwise [val_main_v239]

omit A in
theorem v242_at (b : Fin 2) (s : Fin 4096) (k : Fin 8) (l : Fin 8) : val_main_v242 (F := Ideal) x3 (ix4 b s k l) = val_main_v17 (F := Ideal) x3 (ix4 b s 0 l) := by
  pointwise [val_main_v242]

theorem v241_at (b : Fin 2) (s : Fin 4096) (k : Fin 8) (l : Fin 8) : val_main_v241 (F := Ideal) x0 x1 x2 x3 x4 x5 (ix4 b s k l)
    = (gQry X b s (k * 64 + (8 + l)) * X.ct b s ((k * 64 + (8 + l)) % 128) + gQry X b s (k * 64 + l) * X.st b s ((k * 64 + l) % 128) : ℝ) := by
  rw [val_main_v241, ValueIdx.addf_apply, val_main_v237, val_main_v240, ValueIdx.mulf_apply, ValueIdx.mulf_apply, val_main_v238, neg_at, v236_at, v239_at]
  exact mid_lane A b s (gQry X b s) k l _ _ (v231_at A b s k l) (v230_at A b s k l)

theorem v244_at (b : Fin 2) (s : Fin 4096) (k : Fin 8) (l : Fin 8) : val_main_v244 (F := Ideal) x0 x1 x2 x3 x4 x5 (ix4 b s k l)
    = (gQry X b s (k * 64 + l) * X.ct b s ((k * 64 + l) % 128) + gQry X b s (k * 64 + (8 + l)) * X.st b s ((k * 64 + (8 + l)) % 128) : ℝ) := by
  rw [val_main_v244, ValueIdx.addf_apply, val_main_v235, val_main_v243, ValueIdx.mulf_apply, ValueIdx.mulf_apply, v234_at, v242_at]
  exact low_lane A b s (gQry X b s) k l _ _ (v230_at A b s k l) (v231_at A b s k l)

theorem v245_at (b : Fin 2) (s : Fin 4096) (k : Fin 8) (d : Fin 64) : val_main_v245 (F := Ideal) x0 x1 x2 x3 x4 x5 (ix4 b s k d)
    = ((if 8 ≤ d.val ∧ d.val < 16 then gQry X b s (k * 64 + d) * X.ct b s ((k * 64 + d) % 128) + gQry X b s (k * 64 + d - 8) * X.st b s ((k * 64 + d - 8) % 128) else 0 : ℝ) : EReal) := by
  pointwise [val_main_v245]
  refine part_mid (gQry X b s) (X.ct b s) (X.st b s) k d _ _ (fun h l => ?_) ?_
  · exact v241_at A _ _ _ _
  · exact zero_word

theorem v247_at (b : Fin 2) (s : Fin 4096) (k : Fin 8) (d : Fin 64) : val_main_v247 (F := Ideal) x0 x1 x2 x3 x4 x5 (ix4 b s k d)
    = ((if d.val < 8 then gQry X b s (k * 64 + d) * X.ct b s ((k * 64 + d) % 128) + gQry X b s (k * 64 + d + 8) * X.st b s ((k * 64 + d + 8) % 128) else 0 : ℝ) : EReal) := by
  pointwise [val_main_v247]
  refine part_low (gQry X b s) (X.ct b s) (X.st b s) k d _ _ (fun h => ?_) ?_
  · exact v244_at A _ _ _ _
  · exact zero_word

theorem v249_at (b : Fin 2) (s : Fin 4096) (j : Fin 512) :
    val_main_v249 (F := Ideal) x0 x1 x2 x3 x4 x5 (ix3 b s j) = (X.dq b s j : EReal) := by
  pointwise [val_main_v249, val_main_v248, val_main_v246]
  rw [v233_at A, v245_at A, v247_at A, ← EReal.coe_add, ← EReal.coe_add]
  refine congrArg Real.toEReal ((parts A b s _ _ _ (by dsimp only; omega)).trans ?_)
  exact congrArg _ (by dsimp only; omega)

omit A in
theorem ropeT_add (c s t u : ℕ → ℝ) (j : ℕ) : ropeT c s t j + ropeT c s u j = ropeT c s (fun k => t k + u k) j := by
  unfold ropeT swap
  split_ifs <;> ring

omit A in
theorem ropeT_zero (c s : ℕ → ℝ) (j : ℕ) : ropeT c s (fun _ => 0) j = 0 := by
  unfold ropeT swap
  split_ifs <;> ring

omit A in
theorem dkv_key (b s j : ℕ) (h : j < 128) : X.dkv b s j = ropeT (X.ct b s) (X.st b s) (gKey X b s) j := by
  unfold Data.dkv Data.own Data.prev Bwd.kvN
  rw [if_pos h, if_pos h]
  have e1 : (X.seq (s / 128) b).c (s % 128) = X.ct b s := congrArg (X.ct b) (show s / 128 * 128 + s % 128 = s by omega)
  have e2 : (X.seq (s / 128) b).s (s % 128) = X.st b s := congrArg (X.st b) (show s / 128 * 128 + s % 128 = s by omega)
  have e3 : (X.seq ((s + 128) / 128) b).cp ((s + 128) % 128) = X.ct b s := congrArg (X.ct b) (show ((s + 128) / 128 - 1) * 128 + (s + 128) % 128 = s by omega)
  have e4 : (X.seq ((s + 128) / 128) b).sp ((s + 128) % 128) = X.st b s := congrArg (X.st b) (show ((s + 128) / 128 - 1) * 128 + (s + 128) % 128 = s by omega)
  rw [e1, e2, e3, e4]
  unfold gKey
  by_cases k : s < 3968
  · simp only [if_pos k]
    rw [ropeT_add, show (s + 128) / 128 = s / 128 + 1 by omega, show (s + 128) % 128 = s % 128 by omega, Nat.zero_add]
  · simp only [if_neg k, add_zero]

omit A in
theorem dkv_val (b s j : ℕ) : X.dkv b s (128 + j) = gVal X b s j := by
  unfold Data.dkv Data.own Data.prev Bwd.kvN gVal
  rw [if_neg (show ¬ 128 + j < 128 by omega), if_neg (show ¬ 128 + j < 128 by omega), Nat.add_sub_cancel_left, show (s + 128) / 128 = s / 128 + 1 by omega, show (s + 128) % 128 = s % 128 by omega, Nat.zero_add]

omit A in
/-- A case split on lanes, one after the other. -/
theorem lanes (j : ℕ) (hj : j < 4608) (y0 : j < 3072 → EReal) (y1 : ¬ j < 3072 → j - 3072 < 512 → EReal)
    (y2 : ¬ j < 3072 → ¬ j - 3072 < 512 → j - 3072 - 512 < 128 → EReal)
    (y3 : ¬ j < 3072 → ¬ j - 3072 < 512 → ¬ j - 3072 - 512 < 128 → j - 3072 - 512 - 128 < 128 → EReal)
    (y4 : ¬ j < 3072 → ¬ j - 3072 < 512 → ¬ j - 3072 - 512 < 128 → ¬ j - 3072 - 512 - 128 < 128 → EReal) (b s : ℕ)
    (h0 : ∀ h, y0 h = 0) (h1 : ∀ h k, y1 h k = (X.dq b s (j - 3072) : EReal))
    (h2 : ∀ h k l, y2 h k l = (X.dkv b s (j - 3072 - 512) : EReal)) (h3 : ∀ h k l m, y3 h k l m = (X.dkv b s (128 + (j - 3072 - 512 - 128)) : EReal))
    (h4 : ∀ h k l m, y4 h k l m = 0) :
    (if h : j < 3072 then y0 h else if k : j - 3072 < 512 then y1 h k else if l : j - 3072 - 512 < 128 then y2 h k l
      else if m : j - 3072 - 512 - 128 < 128 then y3 h k l m else y4 h k l m) = (X.dz b s j : EReal) := by
  unfold Data.dz
  by_cases a : j < 3072
  · rw [dif_pos a, if_neg (by omega), if_neg (by omega), h0, EReal.coe_zero]
  rw [dif_neg a]
  by_cases c : j - 3072 < 512
  · rw [dif_pos c, if_neg (by omega), if_pos (by omega), h1]
  rw [dif_neg c]
  by_cases d : j - 3072 - 512 < 128
  · rw [dif_pos d, if_pos (by omega), h2, Nat.sub_sub]
  rw [dif_neg d]
  by_cases e : j - 3072 - 512 - 128 < 128
  · rw [dif_pos e, if_pos (by omega), h3, show 128 + (j - 3072 - 512 - 128) = j - 3584 by omega]
  rw [dif_neg e, if_neg (by omega), if_neg (by omega), h4, EReal.coe_zero]

/-- The gradient of the packed columns. -/
theorem v252_at (b : Fin 2) (s : Fin 4096) (j : Fin 4608) :
    val_main_v252 (F := Ideal) x0 x1 x2 x3 x4 x5 (ix3 b s j) = (X.dz b s j : EReal) := by
  pointwise [val_main_v252]
  refine lanes j.val j.2 _ _ _ _ _ _ _ (fun h => ?_) (fun h k => ?_) (fun h k l => ?_) (fun h k l m => ?_) (fun h k l m => ?_)
  · exact zero_word
  · exact v249_at A _ _ _
  · exact (v229_at A _ _ _).trans (congrArg Real.toEReal (dkv_key _ _ _ l).symm)
  · exact (v209_at A _ _ _).trans (congrArg Real.toEReal (dkv_val _ _ _).symm)
  · exact zero_word

theorem dz_at (s : Fin 8192) (j : Fin 4608) : val_main_v256 (F := Ideal) x0 x1 x2 x3 x4 x5 (ix2 s j) = (X.dz (s / 4096) (s % 4096) j : EReal) := by
  pointwise [val_main_v256, val_main_v255]
  exact v252_at A _ _ _

end

end Cert.Attn.Ref
end
-- ==== Proof.AttnEq.lean ====
module

public import proofs.«01_k».proof.Defs
public import proofs.«01_k».proof.Proof.AttnRun
public import proofs.«01_k».proof.Proof.AttnRef6
public import proofs.«01_k».proof.Proof.Gen.Pre_attn_finite
public import proofs.«01_k».proof.Proof.Gen.AttnRefIdeal
public import proofs.«01_k».proof.Proof.Gen.AttnIdeal
public import Idealize.ShloMosaic.Lib.Claim

/-! The attention's forward and backward calls compute the reference's output and gradients. -/

@[expose] public section

set_option maxRecDepth 16384

noncomputable section

namespace Cert.AttnProof

open Idealize.ShloMosaic Idealize.ShloMosaic.TcCoe Idealize.SL.Sem Cert.Finite
open Cert.Attn (Data)

theorem ref_frame (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0) :=
  (θ_run _ _ _).mono (fun r h => ⟨fun c => (h c).2.2.2, Idealize.ShloMosaic.sem_eq_zero_of_no_sems (by decide) r.2⟩)
    (Cert.AttnRefIdeal.Value.run (F := Ideal) m ρ)

theorem finite_args (x0 x1 x2 x3 x4 x5)
    (h : Cert.Pre_attn_finite.fn (F := Ideal) x0 x1 x2 x3 x4 x5 = fun _ => 1#1) : Reals x0 ∧ Reals x1 ∧ Reals x2 ∧ Reals x4 ∧ Reals x5 := by
  have e := congrFun h ix0
  have e4 := both e
  have e3 := both e4.1
  have e2 := both e3.1
  have e1 := both e2.1
  exact ⟨reals_of_test x0 _ _ _ _ e1.1, reals_of_test x1 _ _ _ _ e1.2, reals_of_test x2 _ _ _ _ e2.2, reals_of_test x4 _ _ _ _ e3.2, reals_of_test x5 _ _ _ _ e4.2⟩

section

variable (x0 : FVec Ideal AttnRefIdeal.S2x4096x512 .f32) (x1 x2 : FVec Ideal AttnRefIdeal.S2x4096x128 .f32) (x3 : IVec AttnRefIdeal.S2x4096 32)
  (x4 : FVec Ideal AttnRefIdeal.S8 .f32) (x5 : FVec Ideal AttnRefIdeal.S2x4096x512 .bf16)

/-- The real numbers the arguments hold. -/
def data : Data where
  q b s j := EReal.toReal (x0 (ix3 (Fin.ofNat 2 b) (Fin.ofNat 4096 s) (Fin.ofNat 512 j)))
  k b s j := EReal.toReal (x1 (ix3 (Fin.ofNat 2 b) (Fin.ofNat 4096 s) (Fin.ofNat 128 j)))
  v b s j := EReal.toReal (x2 (ix3 (Fin.ofNat 2 b) (Fin.ofNat 4096 s) (Fin.ofNat 128 j)))
  ct := fun b s j => Attn.Tables.cosAt (Attn.Ref.pos x3 b s * Attn.Entry.inv j) j
  st := fun b s j => Attn.Tables.sinAt (Attn.Ref.pos x3 b s * Attn.Entry.inv j) j
  sk h := EReal.toReal (x4 (ix1 (Fin.ofNat 8 h)))
  G b s j := EReal.toReal (x5 (ix3 (Fin.ofNat 2 b) (Fin.ofNat 4096 s) (Fin.ofNat 512 j)))

theorem of_val {n : ℕ} [NeZero n] (i : Fin n) : Fin.ofNat n i.val = i := Fin.ext (Nat.mod_eq_of_lt i.2)

theorem args (h0 : Reals x0) (h1 : Reals x1) (h2 : Reals x2) (h4 : Reals x4) (h5 : Reals x5) : Attn.Ref.Args x0 x1 x2 x3 x4 x5 (data x0 x1 x2 x3 x4 x5) where
  hq b s j := by obtain ⟨r, hr⟩ := h0; simp only [data, of_val]; rw [hr, EReal.toReal_coe]
  hk b s j := by obtain ⟨r, hr⟩ := h1; simp only [data, of_val]; rw [hr, EReal.toReal_coe]
  hv b s j := by obtain ⟨r, hr⟩ := h2; simp only [data, of_val]; rw [hr, EReal.toReal_coe]
  hsk h := by obtain ⟨r, hr⟩ := h4; simp only [data, of_val]; rw [hr, EReal.toReal_coe]
  hg b s j := by obtain ⟨r, hr⟩ := h5; simp only [data, of_val]; rw [hr, EReal.toReal_coe]
  hct := rfl
  hst := rfl

end

section
open Cert.AttnRefIdeal

/-- What the reference leaves. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v254) = Cert.AttnRefIdeal.Read.val_main_v254 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v256) = Cert.AttnRefIdeal.Read.val_main_v256 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v257) = Cert.AttnRefIdeal.Read.val_main_v257 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h c).1.trans (Cert.AttnRefIdeal.Read.val_main_v254_eq _), (h c).2.1.trans (Cert.AttnRefIdeal.Read.val_main_v256_eq _),
    (h c).2.2.1.trans (Cert.AttnRefIdeal.Read.val_main_v257_eq _), (h c).2.2.2⟩) (Cert.AttnRefIdeal.Value.run (F := Ideal) m ρ)

end

section
open Cert.AttnIdeal Cert.AttnIdeal.Gen

variable (m : (ℓ : Loc nD τ sig) → Buf (Elt Ideal) ℓ) (ρ : Dev nD → PrngReg) (c : Dev nD)

/-- The real numbers the memory's arguments hold. -/
def held : Data := data (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

variable {m} {c} (hf : Cert.Pre_attn_finite.fn (F := Ideal) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) = fun _ => 1#1)
include hf

theorem ref_args : Attn.Ref.Args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (held m c) :=
  have h := finite_args _ _ _ _ _ _ hf
  args _ _ _ _ _ _ h.1 h.2.1 h.2.2.1 h.2.2.2.1 h.2.2.2.2

theorem ker_args : Attn.Entry.Args m c (held m c) :=
  have A := ref_args hf
  { hq := A.hq, hk := A.hk, hv := A.hv, hsk := A.hsk, hg := A.hg, hct := A.hct, hst := A.hst }

theorem same_out : Cert.AttnRefIdeal.Read.val_main_v254 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) = W12 m ρ c (Proc.devRef .tc main_v31) := by
  funext i
  have hi : i = ix2 (i 0) (i 1) := ValueIdx.eq_ix2 i
  rw [hi]
  exact (Attn.Ref.out_at (ref_args hf) (i 0) (i 1)).trans (Attn.Entry.ya ρ (ker_args hf) (i 0) (i 1)).symm

theorem same_dz : Cert.AttnRefIdeal.Read.val_main_v256 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = W12 m ρ c (Proc.devRef .tc main_v46) := by
  funext i
  have hi : i = ix2 (i 0) (i 1) := ValueIdx.eq_ix2 i
  rw [hi]
  exact (Attn.Ref.dz_at (ref_args hf) (i 0) (i 1)).trans (Attn.Entry.dz ρ (ker_args hf) (i 0) (i 1)).symm

theorem same_dsinks : Cert.AttnRefIdeal.Read.val_main_v257 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = W12 m ρ c (Proc.devRef .tc main_v42_3) := by
  funext i
  have hi : i = ix2 (i 0) (i 1) := ValueIdx.eq_ix2 i
  rw [hi]
  exact (Attn.Ref.dsinks_at (ref_args hf) (i 0) (i 1)).trans (Attn.Entry.dsinks ρ (ker_args hf) (i 0) (i 1)).symm

end

theorem algebraic : Cert.algebraic_AttnIdeal_AttnRefIdeal_pre_attn_finite := by
  pair_intro
  · exact Cert.AttnIdeal.Gen.ends m g
  · refine (θ_run _ _ _).mono (fun r h c => ?_) (ref_run m' g')
    obtain ⟨a0, a1, a2, a3, a4, a5⟩ := hagree c
    have k := h c
    refine ⟨k.1.trans ?_, k.2.1.trans ?_, k.2.2.1.trans ?_, k.2.2.2⟩
    · rw [a0, a1, a2, a3, a4]
      exact same_out g (hpre c)
    · rw [a0, a1, a2, a3, a4, a5]
      exact same_dz g (hpre c)
    · rw [a0, a1, a2, a3, a4, a5]
      exact same_dsinks g (hpre c)

end Cert.AttnProof

end
-- ==== Proof.Rows.lean ====
module

public import Idealize.ShloMosaic.PureOps.Ideal.Laws
public import Idealize.ShloMosaic.Lib.Pointwise

/-! The root-mean-square normalisation of one row of 1024 extended reals, and its gradient. -/

@[expose] public section

noncomputable section

open Idealize.ShloMosaic

namespace Cert.Rows

/-- The row's length, the small constant under the root, and `-1/2`, as the programs spell them. -/
def len : EReal := Ideal.ofBits .f32 0x44800000#32
def eps : EReal := Ideal.ofBits .f32 0x358637BD#32
def mhalf : EReal := Ideal.ofBits .f32 0xBF000000#32

/-- The mean square of a row, plus the small constant. -/
def ms (x : Fin 1024 → EReal) : EReal := Ideal.div (∑ k, x k * x k) len + eps
/-- One over its root. -/
def inv (x : Fin 1024 → EReal) : EReal := Ideal.rsqrt (ms x)
/-- The row over its root mean square. -/
def unit (x : Fin 1024 → EReal) (j : Fin 1024) : EReal := x j * inv x
/-- What the root's gradient multiplies the row by, `c` being the cotangent of the unit row. -/
def slope (x c : Fin 1024 → EReal) : EReal := Ideal.div ((∑ k, x k * c k) * (mhalf * Ideal.div (inv x) (ms x))) len
/-- The gradient of the row. -/
def grad (x c : Fin 1024 → EReal) (j : Fin 1024) : EReal := c j * inv x + x j * slope x c + slope x c * x j

/-- A sum over 8192 rows is 16 sums over blocks of 512. -/
theorem sum_blocks (f : ℕ → EReal) : ∑ t ∈ Finset.range 16, ∑ r : Fin 512, f (t * 512 + r) = ∑ r : Fin 8192, f r := by
  rw [Finset.sum_range, Fin.sum_univ_eq_sum_range f 8192, ← Fin.sum_univ_eq_sum_range f 8192]
  rw [← Finset.sum_product' (f := fun (t : Fin 16) (r : Fin 512) => f (t * 512 + r))]
  refine Finset.sum_bij' (fun p _ => (finProdFinEquiv (m := 16) (n := 512) p : Fin 8192)) (fun q _ => (finProdFinEquiv (m := 16) (n := 512)).symm q) ?_ ?_ ?_ ?_ ?_
  · intros; simp
  · intros; simp
  · intro p _; exact (finProdFinEquiv (m := 16) (n := 512)).symm_apply_apply p
  · intro q _; exact (finProdFinEquiv (m := 16) (n := 512)).apply_symm_apply q
  · intro p _
    congr 1
    show p.1.val * 512 + p.2.val = p.2.val + 512 * p.1.val
    omega

end Cert.Rows
end
-- ==== Proof.PleRow.lean ====
module

public import proofs.«01_k».proof.Proof.Rows

/-! One token's row in the per-layer embedding's gate, over the extended reals: what the forward call and its gradient compute of it. -/

@[expose] public section

noncomputable section

open Idealize.ShloMosaic

namespace Cert.PleProof

variable (x g : Fin 1024 → EReal) (wg : Fin 1024 → Fin 1024 → EReal) (p : Fin 256 → EReal) (wi : Fin 256 → Fin 1024 → EReal) (d : Fin 1024 → EReal)

/-- The normalised row. -/
def hn (j : Fin 1024) : EReal := Rows.unit x j * g j
/-- The gate before its logistic function. -/
def pre (j : Fin 1024) : EReal := ∑ k, hn x g k * wg k j
/-- The embedding. -/
def emb (j : Fin 1024) : EReal := ∑ k, p k * wi k j
/-- The gate. -/
def gate (j : Fin 1024) : EReal := Ideal.logistic (pre x g wg j)
/-- The row after the gated embedding is added. -/
def out (j : Fin 1024) : EReal := x j + gate x g wg j * emb p wi j
/-- The cotangent of `pre`. -/
def dpre (j : Fin 1024) : EReal := d j * emb p wi j * gate x g wg j * (1 - gate x g wg j)
/-- The cotangent of the normalised row. -/
def dhn (j : Fin 1024) : EReal := ∑ k, dpre x g wg p wi d k * wg j k
/-- The gradient of the row. -/
def dx (j : Fin 1024) : EReal := d j + Rows.grad x (fun k => dhn x g wg p wi d k * g k) j

end Cert.PleProof
end
-- ==== Proof.PleKernel.lean ====
module

public import proofs.«01_k».proof.Proof.Gen.PleIdeal.Frame
public import proofs.«01_k».proof.Proof.PleRow
public import Idealize.ShloMosaic.Lib.Pipeline.ValueKit
public import Idealize.ShloMosaic.Lib.Pointwise

/-! The gated embedding's forward and backward calls, tile by tile. -/

@[expose] public section

set_option maxRecDepth 16384

noncomputable section

open Idealize.ShloMosaic Idealize.ShloMosaic.TcCoe Idealize.SL.Sem

namespace Cert.PleProof.Tile

open Cert.PleIdeal Cert.PleIdeal.Gen

variable (x : FVec Ideal S512x1024 .f32) (p : FVec Ideal S512x256 .f32) (wi : FVec Ideal S256x1024 .bf16) (g : FVec Ideal S1x1024 .f32)
  (wg : FVec Ideal S1024x1024 .bf16) (d : FVec Ideal S512x1024 .f32) (q e : FVec Ideal S512x1024 .bf16)

abbrev tX (r : Fin 512) (j : Fin 1024) : EReal := x (ix2 r j)
abbrev tP (r : Fin 512) (j : Fin 256) : EReal := p (ix2 r j)
abbrev tG (j : Fin 1024) : EReal := g (ix2 0 j)
abbrev tWi (k : Fin 256) (j : Fin 1024) : EReal := wi (ix2 k j)
abbrev tWg (k j : Fin 1024) : EReal := wg (ix2 k j)

theorem pre_at (r : Fin 512) (j : Fin 1024) : k0_pay1 (F := Ideal) x g wg (ix2 r j) = pre (tX x r) (tG g) (tWg wg) j := by
  pointwise [k0_pay1]
  rfl

theorem emb_at (r : Fin 512) (j : Fin 1024) : k0_pay2 (F := Ideal) p wi (ix2 r j) = emb (tP p r) (tWi wi) j := by
  pointwise [k0_pay2]
  rfl

theorem out_at (r : Fin 512) (j : Fin 1024) : k0_pay3 (F := Ideal) x p wi g wg (ix2 r j) = out (tX x r) (tG g) (tWg wg) (tP p r) (tWi wi) j := by
  pointwise [k0_pay3]
  rw [pre_at, emb_at]
  rfl

/-- The backward call reads the gate's argument `q` and the embedding `e` that the forward call left. -/
theorem sig_at (r : Fin 512) (j : Fin 1024) : k1_pay5 (F := Ideal) q (ix2 r j) = Ideal.logistic (q (ix2 r j)) := by
  pointwise [k1_pay5]

/-- The cotangent of the gate's argument. -/
def dpre (q e : FVec Ideal S512x1024 .bf16) (d : FVec Ideal S512x1024 .f32) (r : Fin 512) (j : Fin 1024) : EReal :=
  d (ix2 r j) * e (ix2 r j) * Ideal.logistic (q (ix2 r j)) * (1 - Ideal.logistic (q (ix2 r j)))
/-- The cotangent of the normalised row. -/
def dhn (r : Fin 512) (j : Fin 1024) : EReal := ∑ k, dpre q e d r k * tWg wg j k

theorem dpre_at (r : Fin 512) (j : Fin 1024) : k1_pay6 (F := Ideal) q e d (ix2 r j) = dpre q e d r j := by
  pointwise [k1_pay6]
  simp only [sig_at]
  rfl

theorem ms_at (r : Fin 512) (u : Fin 1) : k1_pay7 (F := Ideal) x (ix2 r u) = Rows.ms (tX x r) := by
  pointwise [k1_pay7]
  rfl

theorem inv_at (r : Fin 512) (u : Fin 1) : k1_pay8 (F := Ideal) x (ix2 r u) = Rows.inv (tX x r) := by
  pointwise [k1_pay8]
  exact congrArg Ideal.rsqrt (ms_at x r u)

theorem mcoef_at (r : Fin 512) (u : Fin 1) : k1_pay9 (F := Ideal) x (ix2 r u) = Rows.mhalf * Ideal.div (Rows.inv (tX x r)) (Rows.ms (tX x r)) := by
  pointwise [k1_pay9]
  rw [inv_at, ms_at]
  rfl

theorem unit_at (r : Fin 512) (j : Fin 1024) : k1_pay10 (F := Ideal) x (ix2 r j) = Rows.unit (tX x r) j := by
  pointwise [k1_pay10]
  rw [inv_at]
  rfl

theorem g_at (u : Fin 1) (j : Fin 1024) : k1_pay4 (F := Ideal) g (ix2 u j) = g (ix2 u j) := by
  pointwise [k1_pay4]

theorem hn_at (r : Fin 512) (j : Fin 1024) : k1_pay11 (F := Ideal) x g (ix2 r j) = hn (tX x r) (tG g) j := by
  pointwise [k1_pay11]
  rw [unit_at, g_at]
  rfl

theorem dhn_at (r : Fin 512) (j : Fin 1024) : k1_pay12 (F := Ideal) q e d wg (ix2 r j) = dhn wg d q e r j := by
  pointwise [k1_pay12]
  simp only [dpre_at]
  rfl

/-- What a tile adds to the scale's gradient. -/
theorem dg_at (u : Fin 1) (j : Fin 1024) : k1_pay14 (F := Ideal) (k1_pay13 x q e d wg) (ix2 u j) = ∑ r : Fin 512, Rows.unit (tX x r) j * dhn wg d q e r j := by
  pointwise [k1_pay14, k1_pay13]
  simp only [unit_at, dhn_at]

/-- The gradient of a tile's rows. -/
theorem dx_at (r : Fin 512) (j : Fin 1024) : k1_pay15 (F := Ideal) x d (k1_pay4 g) (k1_pay8 x) (k1_pay9 x) (k1_pay12 q e d wg) (ix2 r j)
    = d (ix2 r j) + Rows.grad (tX x r) (fun k => dhn wg d q e r k * tG g k) j := by
  pointwise [k1_pay15]
  simp only [inv_at, dhn_at, mcoef_at, g_at, Finset.univ_unique, Finset.sum_singleton]
  rfl

theorem dxb_at (r : Fin 512) (j : Fin 1024) : k1_pay17 (F := Ideal) x d (k1_pay4 g) (k1_pay8 x) (k1_pay9 x) (k1_pay12 q e d wg) (ix2 r j)
    = d (ix2 r j) + Rows.grad (tX x r) (fun k => dhn wg d q e r k * tG g k) j := by
  pointwise [k1_pay17]
  exact dx_at x g wg d q e r j

/-- What a tile adds to the gradients of the two weights. -/
theorem dwg_at (k j : Fin 1024) : k1_pay16 (F := Ideal) (k1_pay6 q e d) (k1_pay11 x g) (ix2 k j) = ∑ r : Fin 512, hn (tX x r) (tG g) k * dpre q e d r j := by
  pointwise [k1_pay16]
  simp only [hn_at, dpre_at]

theorem dwi_at (k : Fin 256) (j : Fin 1024) (Y : FVec Ideal S256x1024 .f32) : k1_pay19 (F := Ideal) p d (k1_pay5 q) Y (ix2 k j)
    = Y (ix2 k j) + ∑ r : Fin 512, tP p r k * (d (ix2 r j) * Ideal.logistic (q (ix2 r j))) := by
  pointwise [k1_pay19]
  simp only [sig_at]

end Cert.PleProof.Tile
end
-- ==== Proof.PleTile.lean ====
module

public import proofs.«01_k».proof.Proof.PleKernel

/-! What each tile of the gated embedding's two calls writes. -/

@[expose] public section

set_option maxRecDepth 16384

noncomputable section

open Idealize.ShloMosaic Idealize.ShloMosaic.TcCoe Idealize.SL.Sem
open Idealize.ShloMosaic.Pipeline (Dat)

namespace Cert.PleProof

open Cert.PleIdeal Cert.PleIdeal.Gen

variable (V : (c : Dev nD) → (b : Ref sig .tc) → Buf (Elt Ideal) ((c : Thread nD τ).loc b)) (c : Dev nD)

theorem fwd_out (x0 x1 x2 x3 x4) : out0_5 (F := Ideal) x0 x1 x2 x3 x4 = k0_pay3 x0 x1 x2 x3 x4 := by
  unfold out0_5
  simp (disch := decide) only [View.canon_cons_unit_lit', View.ld_unit_lit']

theorem fwd_pre (x0 x1 x2 x3 x4) : out0_6 (F := Ideal) x0 x1 x2 x3 x4 = k0_pay4 x0 x3 x4 := by
  unfold out0_6
  simp (disch := decide) only [View.canon_cons_unit_lit', View.ld_unit_lit']

theorem fwd_emb (x0 x1 x2 x3 x4) : out0_7 (F := Ideal) x0 x1 x2 x3 x4 = k0_pay5 x1 x2 := by
  unfold out0_7
  simp (disch := decide) only [View.canon_cons_unit_lit', View.ld_unit_lit']

variable (t : Fin cfg1.N)

theorem tile_dx : (outsAt1 V c t.val t.isLt).1 = k1_pay15 (iblk1 V c 0 t) (iblk1 V c 4 t) (k1_pay4 (iblk1 V c 6 t)) (k1_pay8 (iblk1 V c 0 t))
    (k1_pay9 (iblk1 V c 0 t)) (k1_pay12 (iblk1 V c 2 t) (iblk1 V c 3 t) (iblk1 V c 4 t) (iblk1 V c 7 t)) := by
  by_cases h0 : t.val % 16 = 0
  · rw [outsAt1_A V c t h0 h0 h0]
    dsimp only
    unfold out1_A_8
    rw [View.read_writes_junk_eq_canon]
    unfold kernelRun1_A
    dsimp only
    simp (disch := decide) only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12,
      View.canon_cons_unit_lit', View.readCov_unit_lit', View.readCov_cons_unit_lit', View.ld_unit_lit', View.readAt_eq_ld, Memref.IsWhole.read_unread]
  · rw [outsAt1_B V c t h0 h0 h0]
    dsimp only
    unfold out1_B_8
    rw [View.read_writes_junk_eq_canon]
    unfold kernelRun1_B
    dsimp only
    simp (disch := decide) only [kernelRun1_B.sl.r, kernelRun1_B.sl.r_1, kernelRun1_B.sl.r_2, kernelRun1_B.sl.r_3, kernelRun1_B.sl.r_4, kernelRun1_B.sl.r_5, kernelRun1_B.sl.r_6, kernelRun1_B.sl.r_7, kernelRun1_B.sl.r_8, kernelRun1_B.sl.r_9, kernelRun1_B.sl.r_10, kernelRun1_B.sl.r_11, kernelRun1_B.sl.r_12,
      View.canon_cons_unit_lit', View.readCov_unit_lit', View.readCov_cons_unit_lit', View.ld_unit_lit', View.readAt_eq_ld, Memref.IsWhole.read_unread]

theorem tile_dxb : (outsAt1 V c t.val t.isLt).2.1 = k1_pay17 (iblk1 V c 0 t) (iblk1 V c 4 t) (k1_pay4 (iblk1 V c 6 t)) (k1_pay8 (iblk1 V c 0 t))
    (k1_pay9 (iblk1 V c 0 t)) (k1_pay12 (iblk1 V c 2 t) (iblk1 V c 3 t) (iblk1 V c 4 t) (iblk1 V c 7 t)) := by
  by_cases h0 : t.val % 16 = 0
  · rw [outsAt1_A V c t h0 h0 h0]
    dsimp only
    unfold out1_A_9
    rw [View.read_writes_junk_eq_canon]
    unfold kernelRun1_A
    dsimp only
    simp (disch := decide) only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12,
      View.canon_cons_unit_lit', View.readCov_unit_lit', View.readCov_cons_unit_lit', View.ld_unit_lit', View.readAt_eq_ld, Memref.IsWhole.read_unread]
  · rw [outsAt1_B V c t h0 h0 h0]
    dsimp only
    unfold out1_B_9
    rw [View.read_writes_junk_eq_canon]
    unfold kernelRun1_B
    dsimp only
    simp (disch := decide) only [kernelRun1_B.sl.r, kernelRun1_B.sl.r_1, kernelRun1_B.sl.r_2, kernelRun1_B.sl.r_3, kernelRun1_B.sl.r_4, kernelRun1_B.sl.r_5, kernelRun1_B.sl.r_6, kernelRun1_B.sl.r_7, kernelRun1_B.sl.r_8, kernelRun1_B.sl.r_9, kernelRun1_B.sl.r_10, kernelRun1_B.sl.r_11, kernelRun1_B.sl.r_12,
      View.canon_cons_unit_lit', View.readCov_unit_lit', View.readCov_cons_unit_lit', View.ld_unit_lit', View.readAt_eq_ld, Memref.IsWhole.read_unread]

theorem dwi_first (h0 : t.val % 16 = 0) : (outsAt1 V c t.val t.isLt).2.2.1
    = k1_pay19 (iblk1 V c 1 t) (iblk1 V c 4 t) (k1_pay5 (iblk1 V c 2 t)) (k1_pay18 (F := Ideal)) := by
  rw [outsAt1_A V c t h0 h0 h0]
  dsimp only
  unfold out1_A_10
  rw [View.read_writes_junk_eq_canon]
  unfold kernelRun1_A
  dsimp only
  simp (disch := decide) only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.v71, kernelRun1_A.sl.H10_1,
    View.canon_cons_unit_lit', View.readCov_unit_lit', View.readCov_cons_unit_lit', View.ld_unit_lit', View.readAt_eq_ld, Memref.IsWhole.read_unread]

theorem dwi_next (h0 : ¬ t.val % 16 = 0) : (outsAt1 V c t.val t.isLt).2.2.1
    = k1_pay19 (iblk1 V c 1 t) (iblk1 V c 4 t) (k1_pay5 (iblk1 V c 2 t)) (outsAt1 V c (t.val - 1) (Nat.lt_of_le_of_lt (Nat.sub_le _ _) t.isLt)).2.2.1 := by
  rw [outsAt1_B V c t h0 h0 h0]
  dsimp only
  unfold out1_B_10
  rw [View.read_writes_junk_eq_canon]
  unfold kernelRun1_B
  dsimp only
  simp (disch := decide) only [kernelRun1_B.sl.r, kernelRun1_B.sl.r_1, kernelRun1_B.sl.r_2, kernelRun1_B.sl.r_3, kernelRun1_B.sl.r_4, kernelRun1_B.sl.r_5, kernelRun1_B.sl.r_6, kernelRun1_B.sl.r_7, kernelRun1_B.sl.r_8, kernelRun1_B.sl.r_9, kernelRun1_B.sl.r_10, kernelRun1_B.sl.r_11, kernelRun1_B.sl.r_12,
    View.canon_cons_unit_lit', View.readCov_unit_lit', View.readCov_cons_unit_lit', View.ld_unit_lit', View.readAt_eq_ld, Memref.IsWhole.read_unread]

theorem dg_first (h0 : t.val % 16 = 0) : (outsAt1 V c t.val t.isLt).2.2.2.1
    = k1_pay1 (k1_pay14 (k1_pay13 (iblk1 V c 0 t) (iblk1 V c 2 t) (iblk1 V c 3 t) (iblk1 V c 4 t) (iblk1 V c 7 t))) (k1_pay20 (F := Ideal)) := by
  rw [outsAt1_A V c t h0 h0 h0]
  dsimp only
  unfold out1_A_11
  rw [View.read_writes_junk_eq_canon]
  unfold kernelRun1_A
  dsimp only
  simp (disch := decide) only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.v77, kernelRun1_A.sl.H11_1,
    View.canon_cons_unit_lit', View.readCov_unit_lit', View.readCov_cons_unit_lit', View.ld_unit_lit', View.readAt_eq_ld, Memref.IsWhole.read_unread]

theorem dg_next (h0 : ¬ t.val % 16 = 0) : (outsAt1 V c t.val t.isLt).2.2.2.1
    = k1_pay1 (k1_pay14 (k1_pay13 (iblk1 V c 0 t) (iblk1 V c 2 t) (iblk1 V c 3 t) (iblk1 V c 4 t) (iblk1 V c 7 t))) (outsAt1 V c (t.val - 1) (Nat.lt_of_le_of_lt (Nat.sub_le _ _) t.isLt)).2.2.2.1 := by
  rw [outsAt1_B V c t h0 h0 h0]
  dsimp only
  unfold out1_B_11
  rw [View.read_writes_junk_eq_canon]
  unfold kernelRun1_B
  dsimp only
  simp (disch := decide) only [kernelRun1_B.sl.r, kernelRun1_B.sl.r_1, kernelRun1_B.sl.r_2, kernelRun1_B.sl.r_3, kernelRun1_B.sl.r_4, kernelRun1_B.sl.r_5, kernelRun1_B.sl.r_6, kernelRun1_B.sl.r_7, kernelRun1_B.sl.r_8, kernelRun1_B.sl.r_9, kernelRun1_B.sl.r_10, kernelRun1_B.sl.r_11, kernelRun1_B.sl.r_12,
    View.canon_cons_unit_lit', View.readCov_unit_lit', View.readCov_cons_unit_lit', View.ld_unit_lit', View.readAt_eq_ld, Memref.IsWhole.read_unread]

theorem dwg_first (h0 : t.val % 16 = 0) : (outsAt1 V c t.val t.isLt).2.2.2.2
    = k1_pay3 (k1_pay16 (k1_pay6 (iblk1 V c 2 t) (iblk1 V c 3 t) (iblk1 V c 4 t)) (k1_pay11 (iblk1 V c 0 t) (iblk1 V c 6 t))) (k1_pay2 (F := Ideal)) := by
  rw [outsAt1_A V c t h0 h0 h0]
  dsimp only
  unfold out1_A_12
  rw [View.read_writes_junk_eq_canon]
  unfold kernelRun1_A
  dsimp only
  simp (disch := decide) only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.v83, kernelRun1_A.sl.H12_1,
    View.canon_cons_unit_lit', View.readCov_unit_lit', View.readCov_cons_unit_lit', View.ld_unit_lit', View.readAt_eq_ld, Memref.IsWhole.read_unread]

theorem dwg_next (h0 : ¬ t.val % 16 = 0) : (outsAt1 V c t.val t.isLt).2.2.2.2
    = k1_pay3 (k1_pay16 (k1_pay6 (iblk1 V c 2 t) (iblk1 V c 3 t) (iblk1 V c 4 t)) (k1_pay11 (iblk1 V c 0 t) (iblk1 V c 6 t))) (outsAt1 V c (t.val - 1) (Nat.lt_of_le_of_lt (Nat.sub_le _ _) t.isLt)).2.2.2.2 := by
  rw [outsAt1_B V c t h0 h0 h0]
  dsimp only
  unfold out1_B_12
  rw [View.read_writes_junk_eq_canon]
  unfold kernelRun1_B
  dsimp only
  simp (disch := decide) only [kernelRun1_B.sl.r, kernelRun1_B.sl.r_1, kernelRun1_B.sl.r_2, kernelRun1_B.sl.r_3, kernelRun1_B.sl.r_4, kernelRun1_B.sl.r_5, kernelRun1_B.sl.r_6, kernelRun1_B.sl.r_7, kernelRun1_B.sl.r_8, kernelRun1_B.sl.r_9, kernelRun1_B.sl.r_10, kernelRun1_B.sl.r_11, kernelRun1_B.sl.r_12,
    View.canon_cons_unit_lit', View.readCov_unit_lit', View.readCov_cons_unit_lit', View.ld_unit_lit', View.readAt_eq_ld, Memref.IsWhole.read_unread]

end Cert.PleProof
end
-- ==== Proof.PleRef.lean ====
module

public import proofs.«01_k».proof.Proof.Gen.PleRefIdeal.Read
public import proofs.«01_k».proof.Proof.PleRow

/-! The reference of the gated embedding's backward call, row by row. -/

@[expose] public section

set_option maxRecDepth 16384

noncomputable section

open Idealize.ShloMosaic Idealize.ShloMosaic.TcCoe Idealize.SL.Sem

namespace Cert.PleProof

open Cert.PleRefIdeal Cert.PleRefIdeal.Gen Cert.PleRefIdeal.Read

variable (x : FVec Ideal S8192x1024 .f32) (p : FVec Ideal S8192x256 .f32) (wi : FVec Ideal S256x1024 .bf16) (g : FVec Ideal S1024 .f32)
  (wg : FVec Ideal S1024x1024 .bf16) (d : FVec Ideal S8192x1024 .f32)

/-- The rows of the arrays, and the scale and the two weights as functions. -/
abbrev rX (r : Fin 8192) (j : Fin 1024) : EReal := x (ix2 r j)
abbrev rP (r : Fin 8192) (j : Fin 256) : EReal := p (ix2 r j)
abbrev rG (j : Fin 1024) : EReal := g (ix1 j)
abbrev rWi (k : Fin 256) (j : Fin 1024) : EReal := wi (ix2 k j)
abbrev rWg (k j : Fin 1024) : EReal := wg (ix2 k j)

theorem ms_at (r : Fin 8192) (u : Fin 1) : (val_main_v9 (F := Ideal) x : FVec Ideal S8192x1 .f32) (ix2 r u) = Rows.ms (rX x r) := by
  pointwise [val_main_v9, val_main_v8, val_main_v7, val_main_v6, val_main_v5, val_main_v4, val_main_v3, val_main_cst, val_main_cst_0, val_main_cst_1]
  rfl

theorem inv_at (r : Fin 8192) (u : Fin 1) : (val_main_v10 (F := Ideal) x : FVec Ideal S8192x1 .f32) (ix2 r u) = Rows.inv (rX x r) := by
  pointwise [val_main_v10]
  exact congrArg Ideal.rsqrt (ms_at x r u)

theorem mcoef_at (r : Fin 8192) (u : Fin 1) : (val_main_v13 (F := Ideal) x : FVec Ideal S8192x1 .f32) (ix2 r u)
    = Rows.mhalf * Ideal.div (Rows.inv (rX x r)) (Rows.ms (rX x r)) := by
  pointwise [val_main_v13, val_main_v12, val_main_v11, val_main_cst_2]
  rw [inv_at, ms_at]
  rfl

theorem unit_at (r : Fin 8192) (j : Fin 1024) : (val_main_v15 (F := Ideal) x : FVec Ideal S8192x1024 .f32) (ix2 r j) = Rows.unit (rX x r) j := by
  pointwise [val_main_v15, val_main_v14]
  rw [inv_at]
  rfl

theorem hn_at (r : Fin 8192) (j : Fin 1024) : (val_main_v18 (F := Ideal) x g : FVec Ideal S8192x1024 .f32) (ix2 r j) = hn (rX x r) (rG g) j := by
  pointwise [val_main_v18, val_main_v17, val_main_v16]
  rw [unit_at]
  rfl

theorem pre_at (r : Fin 8192) (j : Fin 1024) : (val_main_v19 (F := Ideal) x g wg : FVec Ideal S8192x1024 .f32) (ix2 r j) = pre (rX x r) (rG g) (rWg wg) j := by
  pointwise [val_main_v19, val_main_v1]
  simp only [hn_at]
  rfl

theorem emb_at (r : Fin 8192) (j : Fin 1024) : (val_main_v2 (F := Ideal) p wi : FVec Ideal S8192x1024 .f32) (ix2 r j) = emb (rP p r) (rWi wi) j := by
  pointwise [val_main_v2, val_main_v0]
  rfl

theorem sig_at (r : Fin 8192) (j : Fin 1024) : (val_main_v25 (F := Ideal) x g wg : FVec Ideal S8192x1024 .f32) (ix2 r j) = gate (rX x r) (rG g) (rWg wg) j := by
  pointwise [val_main_v25, val_main_v24, val_main_v23, val_main_v22, val_main_v21, val_main_v20, val_main_cst_3, val_main_cst_4]
  rw [pre_at]
  rfl

theorem out_at (r : Fin 8192) (j : Fin 1024) : (val_main_v30 (F := Ideal) x p wi g wg : FVec Ideal S8192x1024 .f32) (ix2 r j)
    = out (rX x r) (rG g) (rWg wg) (rP p r) (rWi wi) j := by
  pointwise [val_main_v30, val_main_v29]
  rw [sig_at, emb_at]
  rfl

theorem dpre_at (r : Fin 8192) (j : Fin 1024) : (val_main_v34 (F := Ideal) x p wi g wg d : FVec Ideal S8192x1024 .f32) (ix2 r j)
    = dpre (rX x r) (rG g) (rWg wg) (rP p r) (rWi wi) (rX d r) j := by
  pointwise [val_main_v34, val_main_v33, val_main_v31, val_main_v28, val_main_v27, val_main_v26, val_main_cst_5]
  rw [sig_at, emb_at]
  exact (mul_assoc _ _ _).symm

theorem dhn_at (r : Fin 8192) (j : Fin 1024) : (val_main_v37 (F := Ideal) x p wi g wg d : FVec Ideal S8192x1024 .f32) (ix2 r j)
    = dhn (rX x r) (rG g) (rWg wg) (rP p r) (rWi wi) (rX d r) j := by
  pointwise [val_main_v37, val_main_v1]
  simp only [dpre_at]
  rfl

theorem dc_at (r : Fin 8192) (j : Fin 1024) : (val_main_v42 (F := Ideal) x p wi g wg d : FVec Ideal S8192x1024 .f32) (ix2 r j)
    = dhn (rX x r) (rG g) (rWg wg) (rP p r) (rWi wi) (rX d r) j * rG g j := by
  pointwise [val_main_v42, val_main_v41, val_main_v16]
  rw [dhn_at]

theorem slope_at (r : Fin 8192) (j : Fin 1024) : (val_main_v54 (F := Ideal) x p wi g wg d : FVec Ideal S8192x1024 .f32) (ix2 r j)
    = Rows.slope (rX x r) (fun k => dhn (rX x r) (rG g) (rWg wg) (rP p r) (rWi wi) (rX d r) k * rG g k) := by
  pointwise [val_main_v54, val_main_v53, val_main_v52, val_main_v51, val_main_v50, val_main_v46, val_main_v45, val_main_v44, val_main_cst_8, val_main_cst_9, val_main_cst_10]
  simp only [mcoef_at, dc_at, Finset.univ_unique, Finset.sum_singleton]
  rfl

/-- The reference's gradient of the rows. -/
theorem dx_at (r : Fin 8192) (j : Fin 1024) : (val_main_v58 (F := Ideal) x p wi g wg d : FVec Ideal S8192x1024 .f32) (ix2 r j)
    = dx (rX x r) (rG g) (rWg wg) (rP p r) (rWi wi) (rX d r) j := by
  pointwise [val_main_v58, val_main_v57, val_main_v56, val_main_v55, val_main_v49, val_main_v48, val_main_v47]
  rw [slope_at, dc_at, inv_at]
  unfold dx Rows.grad
  rw [← add_assoc, ← add_assoc]

/-- The reference's gradients of the weights and of the scale. -/
theorem dwi_at (k : Fin 256) (j : Fin 1024) : (val_main_v60 (F := Ideal) x p g wg d : FVec Ideal S256x1024 .f32) (ix2 k j)
    = ∑ r : Fin 8192, rP p r k * (rX d r j * gate (rX x r) (rG g) (rWg wg) j) := by
  pointwise [val_main_v60, val_main_v59, val_main_v32, val_main_v31]
  simp only [sig_at]
  exact Finset.sum_congr rfl fun r _ => by rw [mul_comm, mul_comm (gate _ _ _ _)]

theorem dg_at (u : Fin 1) (j : Fin 1024) : (val_main_v62 (F := Ideal) x p wi g wg d : FVec Ideal S1x1024 .f32) (ix2 u j)
    = ∑ r : Fin 8192, Rows.unit (rX x r) j * dhn (rX x r) (rG g) (rWg wg) (rP p r) (rWi wi) (rX d r) j := by
  pointwise [val_main_v62, val_main_v43, val_main_v40, val_main_v39, val_main_v38, val_main_cst_6, val_main_cst_7]
  simp only [unit_at, dhn_at, Finset.univ_unique, Finset.sum_singleton]

theorem dwg_at (k j : Fin 1024) : (val_main_v36 (F := Ideal) x p wi g wg d : FVec Ideal S1024x1024 .f32) (ix2 k j)
    = ∑ r : Fin 8192, hn (rX x r) (rG g) k * dpre (rX x r) (rG g) (rWg wg) (rP p r) (rWi wi) (rX d r) j := by
  pointwise [val_main_v36, val_main_v35]
  simp only [hn_at, dpre_at]
  exact Finset.sum_congr rfl fun r _ => mul_comm _ _

end Cert.PleProof
end
-- ==== Proof.PleArr0.lean ====
module

public import proofs.«01_k».proof.Proof.PleTile
public import proofs.«01_k».proof.Proof.PleRef

/-! The three arrays of the gated embedding's forward call. -/

@[expose] public section

set_option maxRecDepth 16384

noncomputable section

open Idealize.ShloMosaic Idealize.ShloMosaic.TcCoe Idealize.SL.Sem
open Idealize.ShloMosaic.Pipeline (Dat)

namespace Cert.PleProof

open Cert.PleIdeal Cert.PleIdeal.Gen

variable (m : (ℓ : Loc nD τ sig) → Buf (Elt Ideal) ℓ) (ρ : Dev nD → PrngReg) (c : Dev nD)

/-- The arguments. -/
abbrev aX : FVec Ideal S8192x1024 .f32 := m ((c : Thread nD τ).loc main_arg0)
abbrev aP : FVec Ideal S8192x256 .f32 := m ((c : Thread nD τ).loc main_arg1)
abbrev aWi : FVec Ideal S256x1024 .bf16 := m ((c : Thread nD τ).loc main_arg2)
abbrev aG : FVec Ideal S1024 .f32 := m ((c : Thread nD τ).loc main_arg3)
abbrev aWg : FVec Ideal S1024x1024 .bf16 := m ((c : Thread nD τ).loc main_arg4)
abbrev aD : FVec Ideal S8192x1024 .f32 := m ((c : Thread nD τ).loc main_arg5)

/-- The gate's argument, its value and the embedding, of all rows. -/
abbrev hnA (r : Fin 8192) : Fin 1024 → EReal := hn (rX (aX m c) r) (rG (aG m c))
abbrev preA (r : Fin 8192) : Fin 1024 → EReal := pre (rX (aX m c) r) (rG (aG m c)) (rWg (aWg m c))
abbrev embA (r : Fin 8192) : Fin 1024 → EReal := emb (rP (aP m c) r) (rWi (aWi m c))
abbrev gateA (r : Fin 8192) : Fin 1024 → EReal := gate (rX (aX m c) r) (rG (aG m c)) (rWg (aWg m c))
abbrev outA (r : Fin 8192) : Fin 1024 → EReal := out (rX (aX m c) r) (rG (aG m c)) (rWg (aWg m c)) (rP (aP m c) r) (rWi (aWi m c))

theorem entry_g (u : Fin 1) (j : Fin 1024) : (V1 m ρ c main_v0 : FVec Ideal S1x1024 .f32) (ix2 u j) = aG m c (ix1 j) := by
  show (StableHlo.after hostOps0 (W0 m ρ c) (Proc.devRef .tc main_v0) : FVec Ideal S1x1024 .f32) (ix2 u j) = _
  after_results
  pointwise []

theorem idx0 : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

variable (t : Fin cfg0.N)

theorem lt_t (t : Fin cfg0.N) : t.val < 16 := t.isLt

/-- Row `r` of tile `t` among all rows. -/
abbrev at_ (n : ℕ) (r : Fin 512) : Fin 8192 := Fin.ofNat 8192 (n * 512 + r.val)

theorem at_eq (n : ℕ) (h : n < 16) (r : Fin 512) : at_ n r = ⟨n * 512 + r.val, by omega⟩ :=
  Fin.ext (Nat.mod_eq_of_lt (by omega))

theorem blk0_x (r : Fin 512) : Tile.tX (iblk0 (V1 m ρ) c 0 t) r = rX (aX m c) (at_ t.val r) := by
  funext j
  rw [at_eq t.val (lt_t t)]
  refine Eq.trans ?_ (congrFun (W1_args m ρ c main_arg0 (by decide)) _)
  show (iblk0 (V1 m ρ) c 0 t : FVec Ideal S512x1024 .f32) (ix2 r j) = _
  blk_point [iblk0, idx0 t]

theorem blk0_p (r : Fin 512) : Tile.tP (iblk0 (V1 m ρ) c 1 t) r = rP (aP m c) (at_ t.val r) := by
  funext j
  rw [at_eq t.val (lt_t t)]
  refine Eq.trans ?_ (congrFun (W1_args m ρ c main_arg1 (by decide)) _)
  show (iblk0 (V1 m ρ) c 1 t : FVec Ideal S512x256 .f32) (ix2 r j) = _
  blk_point [iblk0, idx0 t]

theorem blk0_wi : Tile.tWi (iblk0 (V1 m ρ) c 2 t) = rWi (aWi m c) := by
  funext k j
  refine Eq.trans ?_ (congrFun (W1_args m ρ c main_arg2 (by decide)) _)
  show (iblk0 (V1 m ρ) c 2 t : FVec Ideal S256x1024 .bf16) (ix2 k j) = _
  blk_point [iblk0, idx0 t]

theorem blk0_g : Tile.tG (iblk0 (V1 m ρ) c 3 t) = rG (aG m c) := by
  funext j
  refine Eq.trans ?_ (entry_g m ρ c 0 j)
  show (iblk0 (V1 m ρ) c 3 t : FVec Ideal S1x1024 .f32) (ix2 0 j) = _
  blk_point [iblk0, idx0 t]

theorem blk0_wg : Tile.tWg (iblk0 (V1 m ρ) c 4 t) = rWg (aWg m c) := by
  funext k j
  refine Eq.trans ?_ (congrFun (W1_args m ρ c main_arg4 (by decide)) _)
  show (iblk0 (V1 m ρ) c 4 t : FVec Ideal S1024x1024 .bf16) (ix2 k j) = _
  blk_point [iblk0, idx0 t]

theorem out_tile (r : Fin 512) (j : Fin 1024) : k0_pay3 (F := Ideal) (iblk0 (V1 m ρ) c 0 t) (iblk0 (V1 m ρ) c 1 t) (iblk0 (V1 m ρ) c 2 t) (iblk0 (V1 m ρ) c 3 t) (iblk0 (V1 m ρ) c 4 t) (ix2 r j)
    = outA m c (at_ t.val r) j := by
  rw [Tile.out_at, blk0_x, blk0_p, blk0_wi, blk0_g, blk0_wg]

theorem pre_tile (r : Fin 512) (j : Fin 1024) : k0_pay4 (F := Ideal) (iblk0 (V1 m ρ) c 0 t) (iblk0 (V1 m ρ) c 3 t) (iblk0 (V1 m ρ) c 4 t) (ix2 r j) = preA m c (at_ t.val r) j := by
  pointwise [k0_pay4]
  rw [Tile.pre_at, blk0_x, blk0_g, blk0_wg]

theorem emb_tile (r : Fin 512) (j : Fin 1024) : k0_pay5 (F := Ideal) (iblk0 (V1 m ρ) c 1 t) (iblk0 (V1 m ρ) c 2 t) (ix2 r j) = embA m c (at_ t.val r) j := by
  pointwise [k0_pay5]
  rw [Tile.emb_at, blk0_p, blk0_wi]

theorem arr0_5 : ((dat0 (V1 m ρ) c).arrAt 5 cfg0.N : FVec Ideal S8192x1024 .f32) = fun i => outA m c (i 0) (i 1) := by
  refine (dat0 (V1 m ρ) c).arrAt_eq_of_covers 5 _ (by decide +kernel) fun t _ y => ?_
  blk_simp
  rw [after0_5, fwd_out]
  have e0 : ((win0_5.blk t).view.emb y 0 : Fin 8192) = at_ t.val (y 0) := Eq.trans (Fin.ext (by blk_simp [idx0 t])) (at_eq t.val (lt_t t) (y 0)).symm
  have e1 : ((win0_5.blk t).view.emb y 1 : Fin 1024) = y 1 := Fin.ext (by blk_simp [idx0 t])
  rw [e0, e1]
  exact (congrArg _ (ValueIdx.eq_ix2 (n0 := 512) (n1 := 1024) y)).trans (out_tile m ρ c t (y 0) (y 1))

theorem arr0_6 : ((dat0 (V1 m ρ) c).arrAt 6 cfg0.N : FVec Ideal S8192x1024 .bf16) = fun i => preA m c (i 0) (i 1) := by
  refine (dat0 (V1 m ρ) c).arrAt_eq_of_covers 6 _ (by decide +kernel) fun t _ y => ?_
  blk_simp
  rw [after0_6, fwd_pre]
  have e0 : ((win0_6.blk t).view.emb y 0 : Fin 8192) = at_ t.val (y 0) := Eq.trans (Fin.ext (by blk_simp [idx0 t])) (at_eq t.val (lt_t t) (y 0)).symm
  have e1 : ((win0_6.blk t).view.emb y 1 : Fin 1024) = y 1 := Fin.ext (by blk_simp [idx0 t])
  rw [e0, e1]
  exact (congrArg _ (ValueIdx.eq_ix2 (n0 := 512) (n1 := 1024) y)).trans (pre_tile m ρ c t (y 0) (y 1))

theorem arr0_7 : ((dat0 (V1 m ρ) c).arrAt 7 cfg0.N : FVec Ideal S8192x1024 .bf16) = fun i => embA m c (i 0) (i 1) := by
  refine (dat0 (V1 m ρ) c).arrAt_eq_of_covers 7 _ (by decide +kernel) fun t _ y => ?_
  blk_simp
  rw [after0_7, fwd_emb]
  have e0 : ((win0_7.blk t).view.emb y 0 : Fin 8192) = at_ t.val (y 0) := Eq.trans (Fin.ext (by blk_simp [idx0 t])) (at_eq t.val (lt_t t) (y 0)).symm
  have e1 : ((win0_7.blk t).view.emb y 1 : Fin 1024) = y 1 := Fin.ext (by blk_simp [idx0 t])
  rw [e0, e1]
  exact (congrArg _ (ValueIdx.eq_ix2 (n0 := 512) (n1 := 1024) y)).trans (emb_tile m ρ c t (y 0) (y 1))

end Cert.PleProof
end
-- ==== Proof.PleArr1.lean ====
module

public import proofs.«01_k».proof.Proof.PleArr0

/-! The five arrays of the gated embedding's backward call. -/

@[expose] public section

set_option maxRecDepth 16384

noncomputable section

open Idealize.ShloMosaic Idealize.ShloMosaic.TcCoe Idealize.SL.Sem
open Idealize.ShloMosaic.Pipeline (Dat)

namespace Cert.PleProof

open Cert.PleIdeal Cert.PleIdeal.Gen

variable (m : (ℓ : Loc nD τ sig) → Buf (Elt Ideal) ℓ) (ρ : Dev nD → PrngReg) (c : Dev nD)

/-- The cotangents and the gradient of all rows. -/
abbrev dpreA (r : Fin 8192) : Fin 1024 → EReal := dpre (rX (aX m c) r) (rG (aG m c)) (rWg (aWg m c)) (rP (aP m c) r) (rWi (aWi m c)) (rX (aD m c) r)
abbrev dhnA (r : Fin 8192) : Fin 1024 → EReal := dhn (rX (aX m c) r) (rG (aG m c)) (rWg (aWg m c)) (rP (aP m c) r) (rWi (aWi m c)) (rX (aD m c) r)
abbrev dxA (r : Fin 8192) : Fin 1024 → EReal := dx (rX (aX m c) r) (rG (aG m c)) (rWg (aWg m c)) (rP (aP m c) r) (rWi (aWi m c)) (rX (aD m c) r)

theorem idx1 : ∀ t : Fin cfg1.N, win1_0.index t = ![t.val, 0] ∧ win1_1.index t = ![t.val, 0] ∧ win1_2.index t = ![t.val, 0] ∧ win1_3.index t = ![t.val, 0]
    ∧ win1_4.index t = ![t.val, 0] ∧ win1_5.index t = ![0, 0] ∧ win1_6.index t = ![0, 0] ∧ win1_7.index t = ![0, 0]
    ∧ win1_8.index t = ![t.val, 0] ∧ win1_9.index t = ![t.val, 0] ∧ win1_10.index t = ![0, 0] ∧ win1_11.index t = ![0, 0] ∧ win1_12.index t = ![0, 0] :=
  (by decide +kernel : ∀ t : Fin grid1.N, _)

variable (t : Fin cfg1.N)

theorem lt_t1 (t : Fin cfg1.N) : t.val < 16 := t.isLt

theorem blk1_x (r : Fin 512) : Tile.tX (iblk1 (V2 m ρ) c 0 t) r = rX (aX m c) (at_ t.val r) := by
  funext j
  rw [at_eq t.val (lt_t1 t)]
  refine Eq.trans ?_ (congrFun (W2_args m ρ c main_arg0 (by decide)) _)
  show (iblk1 (V2 m ρ) c 0 t : FVec Ideal S512x1024 .f32) (ix2 r j) = _
  blk_point [iblk1, idx1 t]

theorem blk1_p (r : Fin 512) : Tile.tP (iblk1 (V2 m ρ) c 1 t) r = rP (aP m c) (at_ t.val r) := by
  funext j
  rw [at_eq t.val (lt_t1 t)]
  refine Eq.trans ?_ (congrFun (W2_args m ρ c main_arg1 (by decide)) _)
  show (iblk1 (V2 m ρ) c 1 t : FVec Ideal S512x256 .f32) (ix2 r j) = _
  blk_point [iblk1, idx1 t]

theorem blk1_pre (r : Fin 512) (j : Fin 1024) : (iblk1 (V2 m ρ) c 2 t : FVec Ideal S512x1024 .bf16) (ix2 r j) = preA m c (at_ t.val r) j := by
  rw [at_eq t.val (lt_t1 t)]
  refine Eq.trans ?_ (congrFun ((hF0 m ρ c 6).symm.trans (arr0_6 m ρ c)) (ix2 _ j))
  blk_point [iblk1, idx1 t]

theorem blk1_emb (r : Fin 512) (j : Fin 1024) : (iblk1 (V2 m ρ) c 3 t : FVec Ideal S512x1024 .bf16) (ix2 r j) = embA m c (at_ t.val r) j := by
  rw [at_eq t.val (lt_t1 t)]
  refine Eq.trans ?_ (congrFun ((hF0 m ρ c 7).symm.trans (arr0_7 m ρ c)) (ix2 _ j))
  blk_point [iblk1, idx1 t]

theorem blk1_d (r : Fin 512) (j : Fin 1024) : (iblk1 (V2 m ρ) c 4 t : FVec Ideal S512x1024 .f32) (ix2 r j) = rX (aD m c) (at_ t.val r) j := by
  rw [at_eq t.val (lt_t1 t)]
  refine Eq.trans ?_ (congrFun (W2_args m ρ c main_arg5 (by decide)) _)
  blk_point [iblk1, idx1 t]

theorem blk1_g : Tile.tG (iblk1 (V2 m ρ) c 6 t) = rG (aG m c) := by
  funext j
  refine Eq.trans ?_ ((congrFun (W2_of m ρ c main_v0 (by decide)) _).trans (entry_g m ρ c 0 j))
  show (iblk1 (V2 m ρ) c 6 t : FVec Ideal S1x1024 .f32) (ix2 0 j) = _
  blk_point [iblk1, idx1 t]

theorem blk1_wg : Tile.tWg (iblk1 (V2 m ρ) c 7 t) = rWg (aWg m c) := by
  funext k j
  refine Eq.trans ?_ (congrFun (W2_args m ρ c main_arg4 (by decide)) _)
  show (iblk1 (V2 m ρ) c 7 t : FVec Ideal S1024x1024 .bf16) (ix2 k j) = _
  blk_point [iblk1, idx1 t]

theorem blk1_dpre (r : Fin 512) : Tile.dpre (iblk1 (V2 m ρ) c 2 t) (iblk1 (V2 m ρ) c 3 t) (iblk1 (V2 m ρ) c 4 t) r = dpreA m c (at_ t.val r) := by
  funext j
  unfold Tile.dpre
  rw [blk1_pre, blk1_emb, blk1_d]
  rfl

theorem blk1_dhn (r : Fin 512) : Tile.dhn (iblk1 (V2 m ρ) c 7 t) (iblk1 (V2 m ρ) c 4 t) (iblk1 (V2 m ρ) c 2 t) (iblk1 (V2 m ρ) c 3 t) r = dhnA m c (at_ t.val r) := by
  funext j
  unfold Tile.dhn
  rw [blk1_dpre, blk1_wg]
  rfl

theorem dx_tile (r : Fin 512) (j : Fin 1024) : k1_pay15 (F := Ideal) (iblk1 (V2 m ρ) c 0 t) (iblk1 (V2 m ρ) c 4 t) (k1_pay4 (iblk1 (V2 m ρ) c 6 t)) (k1_pay8 (iblk1 (V2 m ρ) c 0 t))
    (k1_pay9 (iblk1 (V2 m ρ) c 0 t)) (k1_pay12 (iblk1 (V2 m ρ) c 2 t) (iblk1 (V2 m ρ) c 3 t) (iblk1 (V2 m ρ) c 4 t) (iblk1 (V2 m ρ) c 7 t)) (ix2 r j) = dxA m c (at_ t.val r) j := by
  rw [Tile.dx_at, blk1_x, blk1_dhn, blk1_g, blk1_d]
  rfl

theorem dxb_tile (r : Fin 512) (j : Fin 1024) : k1_pay17 (F := Ideal) (iblk1 (V2 m ρ) c 0 t) (iblk1 (V2 m ρ) c 4 t) (k1_pay4 (iblk1 (V2 m ρ) c 6 t)) (k1_pay8 (iblk1 (V2 m ρ) c 0 t))
    (k1_pay9 (iblk1 (V2 m ρ) c 0 t)) (k1_pay12 (iblk1 (V2 m ρ) c 2 t) (iblk1 (V2 m ρ) c 3 t) (iblk1 (V2 m ρ) c 4 t) (iblk1 (V2 m ρ) c 7 t)) (ix2 r j) = dxA m c (at_ t.val r) j := by
  pointwise [k1_pay17]
  exact dx_tile m ρ c t r j

theorem arr1_8 : ((dat1 (V2 m ρ) c).arrAt 8 cfg1.N : FVec Ideal S8192x1024 .f32) = fun i => dxA m c (i 0) (i 1) := by
  refine (dat1 (V2 m ρ) c).arrAt_eq_of_covers 8 _ (by decide +kernel) fun t _ y => ?_
  blk_simp
  rw [after1_8, tile_dx]
  have e0 : ((win1_8.blk t).view.emb y 0 : Fin 8192) = at_ t.val (y 0) := Eq.trans (Fin.ext (by blk_simp [idx1 t])) (at_eq t.val (lt_t1 t) (y 0)).symm
  have e1 : ((win1_8.blk t).view.emb y 1 : Fin 1024) = y 1 := Fin.ext (by blk_simp [idx1 t])
  rw [e0, e1]
  exact (congrArg _ (ValueIdx.eq_ix2 (n0 := 512) (n1 := 1024) y)).trans (dx_tile m ρ c t (y 0) (y 1))

theorem arr1_9 : ((dat1 (V2 m ρ) c).arrAt 9 cfg1.N : FVec Ideal S8192x1024 .bf16) = fun i => dxA m c (i 0) (i 1) := by
  refine (dat1 (V2 m ρ) c).arrAt_eq_of_covers 9 _ (by decide +kernel) fun t _ y => ?_
  blk_simp
  rw [after1_9, tile_dxb]
  have e0 : ((win1_9.blk t).view.emb y 0 : Fin 8192) = at_ t.val (y 0) := Eq.trans (Fin.ext (by blk_simp [idx1 t])) (at_eq t.val (lt_t1 t) (y 0)).symm
  have e1 : ((win1_9.blk t).view.emb y 1 : Fin 1024) = y 1 := Fin.ext (by blk_simp [idx1 t])
  rw [e0, e1]
  exact (congrArg _ (ValueIdx.eq_ix2 (n0 := 512) (n1 := 1024) y)).trans (dxb_tile m ρ c t (y 0) (y 1))

/-- What row `n` adds to each of the three sums. -/
def dwiR (n : Fin 8192) (i : S256x1024.Idx) : EReal := rP (aP m c) n (i 0) * (rX (aD m c) n (i 1) * gateA m c n (i 1))
def dgR (n : Fin 8192) (i : S1x1024.Idx) : EReal := Rows.unit (rX (aX m c) n) (i 1) * dhnA m c n (i 1)
def dwgR (n : Fin 8192) (i : S1024x1024.Idx) : EReal := hnA m c n (i 0) * dpreA m c n (i 1)

theorem dwi_step (Y : FVec Ideal S256x1024 .f32) (i : S256x1024.Idx) :
    k1_pay19 (F := Ideal) (iblk1 (V2 m ρ) c 1 t) (iblk1 (V2 m ρ) c 4 t) (k1_pay5 (iblk1 (V2 m ρ) c 2 t)) Y i = Y i + ∑ r : Fin 512, dwiR m c (at_ t.val r) i := by
  idx_vars i
  rw [Tile.dwi_at]
  simp only [blk1_d, blk1_pre]
  exact congrArg (fun y : EReal => Y (ix2 i0 i1) + y) (Finset.sum_congr rfl fun r _ => congrArg (fun y : EReal => y * _) (congrFun (blk1_p m ρ c t r) i0))

theorem dg_step (Y : FVec Ideal S1x1024 .f32) (i : S1x1024.Idx) :
    k1_pay1 (F := Ideal) (k1_pay14 (k1_pay13 (iblk1 (V2 m ρ) c 0 t) (iblk1 (V2 m ρ) c 2 t) (iblk1 (V2 m ρ) c 3 t) (iblk1 (V2 m ρ) c 4 t) (iblk1 (V2 m ρ) c 7 t))) Y i
      = Y i + ∑ r : Fin 512, dgR m c (at_ t.val r) i := by
  idx_vars i
  pointwise [k1_pay1]
  rw [Tile.dg_at]
  simp only [blk1_x, blk1_dhn]
  rfl

theorem dwg_step (Y : FVec Ideal S1024x1024 .f32) (i : S1024x1024.Idx) :
    k1_pay3 (F := Ideal) (k1_pay16 (k1_pay6 (iblk1 (V2 m ρ) c 2 t) (iblk1 (V2 m ρ) c 3 t) (iblk1 (V2 m ρ) c 4 t)) (k1_pay11 (iblk1 (V2 m ρ) c 0 t) (iblk1 (V2 m ρ) c 6 t))) Y i
      = Y i + ∑ r : Fin 512, dwgR m c (at_ t.val r) i := by
  idx_vars i
  pointwise [k1_pay3]
  rw [Tile.dwg_at]
  simp only [blk1_x, blk1_g, blk1_dpre]
  rfl

/-- The sums over the tiles are the sums over the rows. -/
theorem sum_rows (f : Fin 8192 → EReal) (n : ℕ) (h : n < 16) : (0 : EReal) + ∑ s ∈ Finset.range (15 + 1), ∑ r : Fin 512, f (at_ (16 * (n / 16) + s) r) = ∑ r : Fin 8192, f r := by
  rw [show n / 16 = 0 by omega, zero_add]
  simp only [Nat.mul_zero, Nat.zero_add]
  refine (Rows.sum_blocks fun n => f (Fin.ofNat 8192 n)).trans (Finset.sum_congr rfl fun r _ => ?_)
  rw [show Fin.ofNat 8192 r.val = r from Fin.ext (Nat.mod_eq_of_lt r.2)]

theorem arr1_10 : ((dat1 (V2 m ρ) c).arrAt 10 cfg1.N : FVec Ideal S256x1024 .f32) = fun i => ∑ r : Fin 8192, dwiR m c r i := by
  refine (dat1 (V2 m ρ) c).arrAt_eq_of_covers 10 _ (by decide +kernel) fun t hf y => ?_
  blk_simp
  rw [after1_10]
  refine (Pipeline.eq_sum_of_reset_step_apply_of_mod (fun n h => (outsAt1 (V2 m ρ) c n h).2.2.1) 16 (fun _ => 0) (fun n i => ∑ r : Fin 512, dwiR m c (at_ n r) i)
    (fun t h i => (congrFun (dwi_first (V2 m ρ) c t h) i).trans ((dwi_step m ρ c t _ i).trans (congrArg (· + _) (by idx_vars i; pointwise [k1_pay18]))))
    (fun t h i => (congrFun (dwi_next (V2 m ρ) c t h) i).trans (dwi_step m ρ c t _ i)) t ((flush1_10 t).mp hf) y).trans ?_
  have e : (win1_10.blk t).view.emb y = (y : S256x1024.Idx) := by
    funext a
    fin_cases a
    · exact Fin.ext (by blk_simp [idx1 t])
    · exact Fin.ext (by blk_simp [idx1 t])
  rw [e]
  exact sum_rows (fun r => dwiR m c r y) t.val (lt_t1 t)

theorem arr1_11 : ((dat1 (V2 m ρ) c).arrAt 11 cfg1.N : FVec Ideal S1x1024 .f32) = fun i => ∑ r : Fin 8192, dgR m c r i := by
  refine (dat1 (V2 m ρ) c).arrAt_eq_of_covers 11 _ (by decide +kernel) fun t hf y => ?_
  blk_simp
  rw [after1_11]
  refine (Pipeline.eq_sum_of_reset_step_apply_of_mod (fun n h => (outsAt1 (V2 m ρ) c n h).2.2.2.1) 16 (fun _ => 0) (fun n i => ∑ r : Fin 512, dgR m c (at_ n r) i)
    (fun t h i => (congrFun (dg_first (V2 m ρ) c t h) i).trans ((dg_step m ρ c t _ i).trans (congrArg (· + _) (by idx_vars i; pointwise [k1_pay20]))))
    (fun t h i => (congrFun (dg_next (V2 m ρ) c t h) i).trans (dg_step m ρ c t _ i)) t ((flush1_11 t).mp hf) y).trans ?_
  have e : (win1_11.blk t).view.emb y = (y : S1x1024.Idx) := by
    funext a
    fin_cases a
    · exact Fin.ext (by blk_simp [idx1 t])
    · exact Fin.ext (by blk_simp [idx1 t])
  rw [e]
  exact sum_rows (fun r => dgR m c r y) t.val (lt_t1 t)

theorem arr1_12 : ((dat1 (V2 m ρ) c).arrAt 12 cfg1.N : FVec Ideal S1024x1024 .f32) = fun i => ∑ r : Fin 8192, dwgR m c r i := by
  refine (dat1 (V2 m ρ) c).arrAt_eq_of_covers 12 _ (by decide +kernel) fun t hf y => ?_
  blk_simp
  rw [after1_12]
  refine (Pipeline.eq_sum_of_reset_step_apply_of_mod (fun n h => (outsAt1 (V2 m ρ) c n h).2.2.2.2) 16 (fun _ => 0) (fun n i => ∑ r : Fin 512, dwgR m c (at_ n r) i)
    (fun t h i => (congrFun (dwg_first (V2 m ρ) c t h) i).trans ((dwg_step m ρ c t _ i).trans (congrArg (· + _) (by idx_vars i; pointwise [k1_pay2]))))
    (fun t h i => (congrFun (dwg_next (V2 m ρ) c t h) i).trans (dwg_step m ρ c t _ i)) t ((flush1_12 t).mp hf) y).trans ?_
  have e : (win1_12.blk t).view.emb y = (y : S1024x1024.Idx) := by
    funext a
    fin_cases a
    · exact Fin.ext (by blk_simp [idx1 t])
    · exact Fin.ext (by blk_simp [idx1 t])
  rw [e]
  exact sum_rows (fun r => dwgR m c r y) t.val (lt_t1 t)

end Cert.PleProof
end
-- ==== Proof.PleRun.lean ====
module

public import proofs.«01_k».proof.Proof.Gen.PleIdeal.Frame

/-! The gated embedding's run: its six results are what the last boundary's memory holds, its arguments are as launched. -/

@[expose] public section

set_option maxRecDepth 16384

noncomputable section

namespace Cert.PleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, with the results of the last boundary and the arguments unchanged. -/
theorem ends : θ_run defs (onTc (τ := τ) (main (F := F))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_v2_2) = W3 m ρ c (Proc.devRef .tc main_v2_2)
      ∧ r.2.mem ((c.tc : Thread nD τ).loc main_v2_3) = W3 m ρ c (Proc.devRef .tc main_v2_3)
      ∧ r.2.mem ((c.tc : Thread nD τ).loc main_v2_4) = W3 m ρ c (Proc.devRef .tc main_v2_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m ρ c) ∗ R c)) (Tₙ := Tₙ m ρ)
    (hch := by refine ⟨?_, ?_, ?_, ?_⟩ <;> exact fun _ => .rfl)
    (hinit := Pipeline.initEach L lv fun c => ?_)
    (QY := fun c s => ∀ b ∈ Pipeline.ucRefs τ sig, s.mem (((c : Thread nD τ)).1, b) = W3 m ρ c b)
    (hfin := fun c s' => ?_)
    (hQ := fun s h _ c => ?_)
  · iintro Hu
    imodintro
    isplitl [Hu]
    · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) by rw [BI.bigSep_emp_const])
      iempintro
  · rw [show unscopedBufs c (fun b => m ((c : Thread nD τ).loc b)) = StableHlo.held (c : Thread nD τ) (Pipeline.ucRefs τ sig) (W0 m ρ c)
        from Pipeline.unscopedBufs_held c (W0 m ρ c)]
    iintro ⟨⟨Hh, -, HO, -, Hp, -⟩, -⟩
    imodintro
    isplitl [Hh]
    · iexact Hh
    isplitl [Hp]
    · iexists _
      iexact Hp
    · iexists ∅
      iexact HO
  · iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption
  · have out (b) (hb) := h c _ (mem_uc b hb)
    exact ⟨out main_v1_0 (by decide), out main_v2_0 (by decide), out main_v2_1 (by decide),
      out main_v2_2 (by decide), out main_v2_3 (by decide), out main_v2_4 (by decide),
      (out main_arg0 (by decide)).trans (W3_main_arg0 m ρ c), (out main_arg1 (by decide)).trans (W3_main_arg1 m ρ c),
      (out main_arg2 (by decide)).trans (W3_main_arg2 m ρ c), (out main_arg3 (by decide)).trans (W3_main_arg3 m ρ c),
      (out main_arg4 (by decide)).trans (W3_main_arg4 m ρ c), (out main_arg5 (by decide)).trans (W3_main_arg5 m ρ c)⟩

end Cert.PleIdeal.Gen
end
-- ==== Proof.PleEq.lean ====
module

public import proofs.«01_k».proof.Defs
public import proofs.«01_k».proof.Proof.PleArr1
public import proofs.«01_k».proof.Proof.PleRun
public import proofs.«01_k».proof.Proof.Gen.PleIdeal
public import proofs.«01_k».proof.Proof.Gen.PleRefIdeal
public import proofs.«01_k».proof.Proof.Gen.PleRefIdeal.Run
public import Idealize.ShloMosaic.Lib.Claim

/-! The gated embedding's forward and backward calls compute the reference's value and gradients. -/

@[expose] public section

set_option maxRecDepth 16384

noncomputable section

namespace Cert.PleProof

open Idealize.ShloMosaic Idealize.ShloMosaic.TcCoe Idealize.SL.Sem

theorem ref_frame (m : (ℓ : Loc Cert.PleRefIdeal.nD Cert.PleRefIdeal.τ Cert.PleRefIdeal.sig) → Buf (Elt Ideal) ℓ) (ρ : Dev Cert.PleRefIdeal.nD → PrngReg) :
    θ_run (Cert.PleRefIdeal.defs (F := Ideal)) (onTc (τ := Cert.PleRefIdeal.τ) (Cert.PleRefIdeal.main (F := Ideal))) ⟨m, fun _ => 0, ρ⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0) :=
  (θ_run _ _ _).mono (fun r h => ⟨fun c => (h c).2.2.2.2.2.2, Idealize.ShloMosaic.sem_eq_zero_of_no_sems (by decide) r.2⟩)
    (Cert.PleRefIdeal.Value.run (F := Ideal) m ρ)

section
open Cert.PleIdeal Cert.PleIdeal.Gen

variable (m : (ℓ : Loc nD τ sig) → Buf (Elt Ideal) ℓ) (ρ : Dev nD → PrngReg) (c : Dev nD)

theorem same_out : (Cert.PleRefIdeal.Read.val_main_v30 (F := Ideal) (aX m c) (aP m c) (aWi m c) (aG m c) (aWg m c) : FVec Ideal S8192x1024 .f32)
    = W3 m ρ c (Proc.devRef .tc main_v1_0) := by
  refine Eq.trans ?_ ((W3_of m ρ c main_v1_0 (by decide)).trans ((hF0 m ρ c 5).symm.trans (arr0_5 m ρ c))).symm
  funext i
  refine (congrArg _ (ValueIdx.eq_ix2 i)).trans ?_
  exact (out_at _ _ _ _ _ (i 0) (i 1))

theorem same_dx : (Cert.PleRefIdeal.Read.val_main_v58 (F := Ideal) (aX m c) (aP m c) (aWi m c) (aG m c) (aWg m c) (aD m c) : FVec Ideal S8192x1024 .f32)
    = W3 m ρ c (Proc.devRef .tc main_v2_0) := by
  refine Eq.trans ?_ ((W3_arr m ρ c 8).trans (arr1_8 m ρ c)).symm
  funext i
  refine (congrArg _ (ValueIdx.eq_ix2 i)).trans ?_
  exact (dx_at _ _ _ _ _ _ (i 0) (i 1))

theorem same_dxb : (Cert.PleRefIdeal.Read.val_main_v61 (F := Ideal) (aX m c) (aP m c) (aWi m c) (aG m c) (aWg m c) (aD m c) : FVec Ideal S8192x1024 .bf16)
    = W3 m ρ c (Proc.devRef .tc main_v2_1) := by
  refine Eq.trans ?_ ((W3_arr m ρ c 9).trans (arr1_9 m ρ c)).symm
  funext i
  refine (congrArg _ (ValueIdx.eq_ix2 i)).trans ?_
  exact (dx_at (aX m c) (aP m c) (aWi m c) (aG m c) (aWg m c) (aD m c) (i 0) (i 1))

theorem same_dwi : (Cert.PleRefIdeal.Read.val_main_v60 (F := Ideal) (aX m c) (aP m c) (aG m c) (aWg m c) (aD m c) : FVec Ideal S256x1024 .f32)
    = W3 m ρ c (Proc.devRef .tc main_v2_2) := by
  refine Eq.trans ?_ ((W3_arr m ρ c 10).trans (arr1_10 m ρ c)).symm
  funext i
  refine (congrArg _ (ValueIdx.eq_ix2 i)).trans ?_
  exact (dwi_at _ _ _ _ _ (i 0) (i 1))

theorem same_dg : (Cert.PleRefIdeal.Read.val_main_v62 (F := Ideal) (aX m c) (aP m c) (aWi m c) (aG m c) (aWg m c) (aD m c) : FVec Ideal S1x1024 .f32)
    = W3 m ρ c (Proc.devRef .tc main_v2_3) := by
  refine Eq.trans ?_ ((W3_arr m ρ c 11).trans (arr1_11 m ρ c)).symm
  funext i
  refine (congrArg _ (ValueIdx.eq_ix2 i)).trans ?_
  exact (dg_at _ _ _ _ _ _ (i 0) (i 1))

theorem same_dwg : (Cert.PleRefIdeal.Read.val_main_v36 (F := Ideal) (aX m c) (aP m c) (aWi m c) (aG m c) (aWg m c) (aD m c) : FVec Ideal S1024x1024 .f32)
    = W3 m ρ c (Proc.devRef .tc main_v2_4) := by
  refine Eq.trans ?_ ((W3_arr m ρ c 12).trans (arr1_12 m ρ c)).symm
  funext i
  refine (congrArg _ (ValueIdx.eq_ix2 i)).trans ?_
  exact (dwg_at _ _ _ _ _ _ (i 0) (i 1))

end

theorem ref_run (m : (ℓ : Loc Cert.PleRefIdeal.nD Cert.PleRefIdeal.τ Cert.PleRefIdeal.sig) → Buf (Elt Ideal) ℓ) (ρ : Dev Cert.PleRefIdeal.nD → PrngReg) :
    θ_run (Cert.PleRefIdeal.defs (F := Ideal)) (onTc (τ := Cert.PleRefIdeal.τ) (Cert.PleRefIdeal.main (F := Ideal))) ⟨m, fun _ => 0, ρ⟩ (fun r => ∀ c : Dev Cert.PleRefIdeal.nD,
      r.2.mem ((c.tc : Thread Cert.PleRefIdeal.nD Cert.PleRefIdeal.τ).loc Cert.PleRefIdeal.main_v30) = Cert.PleRefIdeal.Read.val_main_v30 (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4))
      ∧ r.2.mem ((c.tc : Thread Cert.PleRefIdeal.nD Cert.PleRefIdeal.τ).loc Cert.PleRefIdeal.main_v58) = Cert.PleRefIdeal.Read.val_main_v58 (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))
      ∧ r.2.mem ((c.tc : Thread Cert.PleRefIdeal.nD Cert.PleRefIdeal.τ).loc Cert.PleRefIdeal.main_v61) = Cert.PleRefIdeal.Read.val_main_v61 (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))
      ∧ r.2.mem ((c.tc : Thread Cert.PleRefIdeal.nD Cert.PleRefIdeal.τ).loc Cert.PleRefIdeal.main_v60) = Cert.PleRefIdeal.Read.val_main_v60 (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))
      ∧ r.2.mem ((c.tc : Thread Cert.PleRefIdeal.nD Cert.PleRefIdeal.τ).loc Cert.PleRefIdeal.main_v62) = Cert.PleRefIdeal.Read.val_main_v62 (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))
      ∧ r.2.mem ((c.tc : Thread Cert.PleRefIdeal.nD Cert.PleRefIdeal.τ).loc Cert.PleRefIdeal.main_v36) = Cert.PleRefIdeal.Read.val_main_v36 (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))
      ∧ r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)) :=
  (θ_run _ _ _).mono (fun r h c => ⟨(h c).1.trans (Cert.PleRefIdeal.Read.val_main_v30_eq _ _ _ _ _), (h c).2.1.trans (Cert.PleRefIdeal.Read.val_main_v58_eq m c), (h c).2.2.1.trans (Cert.PleRefIdeal.Read.val_main_v61_eq m c),
      (h c).2.2.2.1.trans (Cert.PleRefIdeal.Read.val_main_v60_eq _ _ _ _ _), (h c).2.2.2.2.1.trans (Cert.PleRefIdeal.Read.val_main_v62_eq _ _ _ _ _ _), (h c).2.2.2.2.2.1.trans (Cert.PleRefIdeal.Read.val_main_v36_eq _ _ _ _ _ _), (h c).2.2.2.2.2.2⟩)
    (Cert.PleRefIdeal.Value.run (F := Ideal) m ρ)

theorem algebraic : Cert.algebraic_PleIdeal_PleRefIdeal := by
  pair_intro
  · run_from Cert.PleIdeal.Gen.ends (F := Ideal) m g
  · refine (θ_run _ _ _).mono (fun r h c => ?_) (ref_run m' g')
    obtain ⟨a0, a1, a2, a3, a4, a5⟩ := hagree c
    obtain ⟨k1, k2, k3, k4, k5, k6, k⟩ := h c
    refine ⟨k1.trans ?_, k2.trans ?_, k3.trans ?_, k4.trans ?_, k5.trans ?_, k6.trans ?_, k⟩
    · rw [a0, a1, a2, a3, a4]
      exact same_out m g c
    · rw [a0, a1, a2, a3, a4, a5]
      exact same_dx m g c
    · rw [a0, a1, a2, a3, a4, a5]
      exact same_dxb m g c
    · rw [a0, a1, a3, a4, a5]
      exact same_dwi m g c
    · rw [a0, a1, a2, a3, a4, a5]
      exact same_dg m g c
    · rw [a0, a1, a2, a3, a4, a5]
      exact same_dwg m g c

end Cert.PleProof
end
-- ==== Proof.NormKernel.lean ====
module

public import proofs.«01_k».proof.Proof.Gen.NormIdeal.Value
public import proofs.«01_k».proof.Proof.Rows
public import Idealize.ShloMosaic.Lib.Pipeline.ValueKit
public import Idealize.ShloMosaic.Lib.Pointwise

/-! The input normalisation's backward call, tile by tile. -/

@[expose] public section

set_option maxRecDepth 16384

noncomputable section

open Idealize.ShloMosaic Idealize.ShloMosaic.TcCoe Idealize.SL.Sem
open Idealize.ShloMosaic.Pipeline (Dat)

namespace Cert.NormProof.Tile

open Cert.NormIdeal Cert.NormIdeal.Gen

variable (x : FVec Ideal S512x1024 .f32) (g : FVec Ideal S1x1024 .f32) (dz : FVec Ideal S512x4608 .bf16) (w : FVec Ideal S1024x4608 .bf16)

/-- Row `r` of a tile. -/
def row (r : Fin 512) (j : Fin 1024) : EReal := x (ix2 r j)
/-- The cotangent of the normalised row. -/
def dh (r : Fin 512) (j : Fin 1024) : EReal := ∑ k : Fin 4608, dz (ix2 r k) * w (ix2 j k)
/-- The cotangent of the unit row. -/
def dc (r : Fin 512) (j : Fin 1024) : EReal := dh dz w r j * g (ix2 0 j)

theorem ms_at (r : Fin 512) (u : Fin 1) : k0_pay4 (F := Ideal) x (ix2 r u) = Rows.ms (row x r) := by
  pointwise [k0_pay4]
  rfl

theorem inv_at (r : Fin 512) (u : Fin 1) : k0_pay5 (F := Ideal) x (ix2 r u) = Rows.inv (row x r) := by
  pointwise [k0_pay5]
  exact congrArg Ideal.rsqrt (ms_at x r u)

theorem dh_at (r : Fin 512) (j : Fin 1024) : k0_pay6 (F := Ideal) dz w (ix2 r j) = dh dz w r j := by
  pointwise [k0_pay6]
  rfl

/-- What a tile adds to the scale's gradient. -/
theorem dg_at (u : Fin 1) (j : Fin 1024) : k0_pay7 (F := Ideal) x dz w (ix2 u j) = ∑ r : Fin 512, Rows.unit (row x r) j * dh dz w r j := by
  pointwise [k0_pay7]
  simp only [inv_at, dh_at]
  rfl

/-- The gradient of a tile's rows. -/
theorem dx_at (r : Fin 512) (j : Fin 1024) : k0_pay8 (F := Ideal) x g dz w (ix2 r j) = Rows.grad (row x r) (dc g dz w r) j := by
  pointwise [k0_pay8]
  simp only [inv_at, dh_at, ms_at, Finset.univ_unique, Finset.sum_singleton]
  rfl

end Cert.NormProof.Tile
end
-- ==== Proof.NormRef.lean ====
module

public import proofs.«01_k».proof.Proof.Gen.NormRefIdeal.Read
public import proofs.«01_k».proof.Proof.Rows

/-! The reference of the input normalisation's backward call, row by row. -/

@[expose] public section

set_option maxRecDepth 16384

noncomputable section

open Idealize.ShloMosaic Idealize.ShloMosaic.TcCoe Idealize.SL.Sem

namespace Cert.NormProof

open Cert.NormRefIdeal Cert.NormRefIdeal.Gen Cert.NormRefIdeal.Read

variable (x : FVec Ideal S8192x1024 .f32) (g : FVec Ideal S1024 .f32) (w : FVec Ideal S1024x4608 .bf16) (dz : FVec Ideal S8192x4608 .bf16)
  (ct : FVec Ideal S8192x1024 .f32)

/-- Row `r` of an array. -/
def row (r : Fin 8192) (j : Fin 1024) : EReal := x (ix2 r j)
/-- The cotangent of the normalised row. -/
def dh (r : Fin 8192) (j : Fin 1024) : EReal := ∑ k : Fin 4608, dz (ix2 r k) * w (ix2 j k)
/-- The cotangent of the unit row. -/
def dc (r : Fin 8192) (j : Fin 1024) : EReal := dh w dz r j * g (ix1 j)

theorem ms_at (r : Fin 8192) (u : Fin 1) : (val_main_v6 (F := Ideal) x : FVec Ideal S8192x1 .f32) (ix2 r u) = Rows.ms (row x r) := by
  pointwise [val_main_v6, val_main_v5, val_main_v4, val_main_v3, val_main_v2, val_main_v1, val_main_v0, val_main_cst, val_main_cst_0, val_main_cst_1]
  rfl

theorem inv_at (r : Fin 8192) (u : Fin 1) : (val_main_v7 (F := Ideal) x : FVec Ideal S8192x1 .f32) (ix2 r u) = Rows.inv (row x r) := by
  pointwise [val_main_v7]
  exact congrArg Ideal.rsqrt (ms_at x r u)

theorem mcoef_at (r : Fin 8192) (u : Fin 1) : (val_main_v10 (F := Ideal) x : FVec Ideal S8192x1 .f32) (ix2 r u)
    = Rows.mhalf * Ideal.div (Rows.inv (row x r)) (Rows.ms (row x r)) := by
  pointwise [val_main_v10, val_main_v9, val_main_v8, val_main_cst_2]
  rw [inv_at, ms_at]
  rfl

theorem unit_at (r : Fin 8192) (j : Fin 1024) : (val_main_v12 (F := Ideal) x : FVec Ideal S8192x1024 .f32) (ix2 r j) = Rows.unit (row x r) j := by
  pointwise [val_main_v12, val_main_v11]
  rw [inv_at]
  rfl

theorem dh_at (r : Fin 8192) (j : Fin 1024) : (val_main_v19 (F := Ideal) w dz : FVec Ideal S8192x1024 .f32) (ix2 r j) = dh w dz r j := by
  pointwise [val_main_v19, val_main_v18, val_main_v16]
  rfl

theorem dc_at (r : Fin 8192) (j : Fin 1024) : (val_main_v24 (F := Ideal) g w dz : FVec Ideal S8192x1024 .f32) (ix2 r j) = dc g w dz r j := by
  pointwise [val_main_v24, val_main_v23, val_main_v13]
  rw [dh_at]
  rfl

theorem slope_at (r : Fin 8192) (j : Fin 1024) : (val_main_v36 (F := Ideal) x g w dz : FVec Ideal S8192x1024 .f32) (ix2 r j)
    = Rows.slope (row x r) (dc g w dz r) := by
  pointwise [val_main_v36, val_main_v35, val_main_v34, val_main_v33, val_main_v32, val_main_v28, val_main_v27, val_main_v26, val_main_cst_5, val_main_cst_6, val_main_cst_7]
  simp only [mcoef_at, dc_at, Finset.univ_unique, Finset.sum_singleton]
  rfl

/-- The reference's gradient of the rows. -/
theorem dx_at (r : Fin 8192) (j : Fin 1024) : (val_main_v40 (F := Ideal) x g w dz ct : FVec Ideal S8192x1024 .f32) (ix2 r j)
    = Rows.grad (row x r) (dc g w dz r) j + ct (ix2 r j) := by
  pointwise [val_main_v40, val_main_v39, val_main_v38, val_main_v37, val_main_v31, val_main_v30, val_main_v29]
  rw [slope_at, dc_at, inv_at, add_comm (Rows.grad _ _ _)]
  unfold Rows.grad
  rw [← add_assoc, ← add_assoc]
  rfl

/-- The reference's gradient of the scale. -/
theorem dg_at (u : Fin 1) (j : Fin 1024) : (val_main_v41 (F := Ideal) x w dz : FVec Ideal S1x1024 .f32) (ix2 u j)
    = ∑ r : Fin 8192, Rows.unit (row x r) j * dh w dz r j := by
  pointwise [val_main_v41, val_main_v25, val_main_v22, val_main_v21, val_main_v20, val_main_cst_3, val_main_cst_4]
  simp only [unit_at, dh_at, Finset.univ_unique, Finset.sum_singleton]

end Cert.NormProof
end
-- ==== Proof.NormArr.lean ====
module

public import proofs.«01_k».proof.Proof.NormKernel
public import proofs.«01_k».proof.Proof.NormRef

/-! The two arrays of the input normalisation's backward call. -/

@[expose] public section

set_option maxRecDepth 16384

noncomputable section

open Idealize.ShloMosaic Idealize.ShloMosaic.TcCoe Idealize.SL.Sem
open Idealize.ShloMosaic.Pipeline (Dat)

namespace Cert.NormProof

open Cert.NormIdeal Cert.NormIdeal.Gen

variable (m : (ℓ : Loc nD τ sig) → Buf (Elt Ideal) ℓ) (c : Dev nD) (t : Fin cfg0.N)

/-- What a tile writes to the rows' gradient. -/
theorem tile_dx : (outsAt0 m c t.val t.isLt).1
    = k0_pay1 (k0_pay8 (iblk m c 2 t) (iblk m c 4 t) (iblk m c 0 t) (iblk m c 1 t)) (iblk m c 3 t) := by
  by_cases h0 : t.val % 16 = 0
  · rw [outsAt0_A m c t h0]
    dsimp only
    unfold out0_A_5
    rw [View.read_writes_junk_eq_canon]
    unfold kernelRun0_A
    dsimp only
    unfold kernelRun0_A.sl.r_1
    simp (disch := decide) only [View.canon_cons_unit_lit', View.ld_unit_lit', View.readAt_eq_ld, Memref.IsWhole.read_unread]
  · rw [outsAt0_B m c t h0]
    dsimp only
    unfold out0_B_5
    rw [View.read_writes_junk_eq_canon]
    unfold kernelRun0_B
    dsimp only
    unfold kernelRun0_B.sl.r_1
    simp (disch := decide) only [View.canon_cons_unit_lit', View.ld_unit_lit', View.readAt_eq_ld, Memref.IsWhole.read_unread]

theorem dg_first (h0 : t.val % 16 = 0) : (outsAt0 m c t.val t.isLt).2
    = k0_pay3 (k0_pay7 (iblk m c 2 t) (iblk m c 0 t) (iblk m c 1 t)) (k0_pay2 (F := Ideal)) := by
  rw [outsAt0_A m c t h0]
  dsimp only
  unfold out0_A_6
  rw [View.read_writes_junk_eq_canon]
  unfold kernelRun0_A
  dsimp only
  unfold kernelRun0_A.sl.r kernelRun0_A.sl.v47 kernelRun0_A.sl.H6_1
  simp (disch := decide) only [View.canon_cons_unit_lit', View.readCov_unit_lit', View.readCov_cons_unit_lit', View.ld_unit_lit', View.readAt_eq_ld, Memref.IsWhole.read_unread]

theorem dg_next (h0 : ¬ t.val % 16 = 0) : (outsAt0 m c t.val t.isLt).2
    = k0_pay3 (k0_pay7 (iblk m c 2 t) (iblk m c 0 t) (iblk m c 1 t)) (outsAt0 m c (t.val - 1) (Nat.lt_of_le_of_lt (Nat.sub_le _ _) t.isLt)).2 := by
  rw [outsAt0_B m c t h0]
  dsimp only
  unfold out0_B_6
  rw [View.read_writes_junk_eq_canon]
  unfold kernelRun0_B
  dsimp only
  unfold kernelRun0_B.sl.r
  simp (disch := decide) only [View.canon_cons_unit_lit', View.ld_unit_lit', View.readAt_eq_ld, Memref.IsWhole.read_unread]

theorem lt_t (t : Fin cfg0.N) : t.val < 16 := t.isLt

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The arguments. -/
abbrev aX : FVec Ideal S8192x1024 .f32 := m ((c : Thread nD τ).loc main_arg0)
abbrev aG : FVec Ideal S1024 .f32 := m ((c : Thread nD τ).loc main_arg1)
abbrev aW : FVec Ideal S1024x4608 .bf16 := m ((c : Thread nD τ).loc main_arg2)
abbrev aDz : FVec Ideal S8192x4608 .bf16 := m ((c : Thread nD τ).loc main_arg3)
abbrev aCt : FVec Ideal S8192x1024 .f32 := m ((c : Thread nD τ).loc main_arg4)

/-- The reordered columns: the last 3072 first. -/
theorem entry_dz (r : Fin 8192) (k : Fin 4608) : (V m c main_v4 : FVec Ideal S8192x4608 .bf16) (ix2 r k) = aDz m c (ix2 r (k + 1536)) := by
  show (StableHlo.after hostOps0 (fun b => m (c, b)) (Proc.devRef .tc main_v4) : FVec Ideal S8192x4608 .bf16) (ix2 r k) = _
  after_results
  pointwise []
  split_ifs with h h'
  · exact congrArg (fun q => aDz m c (ix2 r q)) (Fin.ext (by simp [Fin.val_add]; omega))
  · exact congrArg (fun q => aDz m c (ix2 r q)) (Fin.ext (by simp [Fin.val_add]; omega))
  · exact absurd rfl h'

theorem entry_w (r : Fin 1024) (k : Fin 4608) : (V m c main_v9 : FVec Ideal S1024x4608 .bf16) (ix2 r k) = aW m c (ix2 r (k + 1536)) := by
  show (StableHlo.after hostOps0 (fun b => m (c, b)) (Proc.devRef .tc main_v9) : FVec Ideal S1024x4608 .bf16) (ix2 r k) = _
  after_results
  pointwise []
  split_ifs with h h'
  · exact congrArg (fun q => aW m c (ix2 r q)) (Fin.ext (by simp [Fin.val_add]; omega))
  · exact congrArg (fun q => aW m c (ix2 r q)) (Fin.ext (by simp [Fin.val_add]; omega))
  · exact absurd rfl h'

theorem entry_g (u : Fin 1) (j : Fin 1024) : (V m c main_v10 : FVec Ideal S1x1024 .f32) (ix2 u j) = aG m c (ix1 j) := by
  show (StableHlo.after hostOps0 (fun b => m (c, b)) (Proc.devRef .tc main_v10) : FVec Ideal S1x1024 .f32) (ix2 u j) = _
  after_results
  pointwise []

/-- Row `r` of tile `t` among all rows. -/
abbrev at_ (r : Fin 512) : Fin 8192 := Fin.ofNat 8192 (t.val * 512 + r.val)

theorem at_eq (r : Fin 512) : at_ t r = ⟨t.val * 512 + r.val, by have := lt_t t; omega⟩ :=
  Fin.ext (Nat.mod_eq_of_lt (by have := lt_t t; omega))

theorem blk_row (r : Fin 512) : Tile.row (iblk m c 2 t) r = row (aX m c) (at_ t r) := by
  funext j
  rw [at_eq]
  refine Eq.trans ?_ (congrFun (V_main_arg0 m c) _)
  show (iblk m c 2 t : FVec Ideal S512x1024 .f32) (ix2 r j) = _
  blk_point [iblk, idx t]

theorem blk_ct (r : Fin 512) (j : Fin 1024) : (iblk m c 3 t : FVec Ideal S512x1024 .f32) (ix2 r j) = aCt m c (ix2 (at_ t r) j) := by
  rw [at_eq]
  refine Eq.trans ?_ (congrFun (V_main_arg4 m c) _)
  blk_point [iblk, idx t]

theorem blk_dh (r : Fin 512) : Tile.dh (iblk m c 0 t) (iblk m c 1 t) r = dh (aW m c) (aDz m c) (at_ t r) := by
  funext j
  refine Eq.trans (Finset.sum_congr rfl fun k _ => ?_) (Equiv.sum_comp (Equiv.addRight (1536 : Fin 4608)) (fun k => aDz m c (ix2 (at_ t r) k) * aW m c (ix2 j k)))
  refine congrArg₂ (fun a b : EReal => a * b) (Eq.trans ?_ (entry_dz m c (at_ t r) k)) (Eq.trans ?_ (entry_w m c j k))
  · rw [at_eq]
    blk_point [iblk, idx t]
  · blk_point [iblk, idx t]

theorem blk_dc (r : Fin 512) : Tile.dc (iblk m c 4 t) (iblk m c 0 t) (iblk m c 1 t) r = dc (aG m c) (aW m c) (aDz m c) (at_ t r) := by
  funext j
  refine congrArg₂ (fun a b : EReal => a * b) (congrFun (blk_dh m c t r) j) (Eq.trans ?_ (entry_g m c 0 j))
  show (iblk m c 4 t : FVec Ideal S1x1024 .f32) (ix2 0 j) = _
  blk_point [iblk, idx t]

theorem dx_tile (r : Fin 512) (j : Fin 1024) : k0_pay1 (k0_pay8 (iblk m c 2 t) (iblk m c 4 t) (iblk m c 0 t) (iblk m c 1 t)) (iblk m c 3 t) (ix2 r j)
    = Rows.grad (row (aX m c) (at_ t r)) (dc (aG m c) (aW m c) (aDz m c) (at_ t r)) j + aCt m c (ix2 (at_ t r) j) := by
  pointwise [k0_pay1]
  rw [Tile.dx_at, blk_row, blk_dc, blk_ct]

theorem arr5 : ((dats m 0 c).arrAt 5 cfg0.N : FVec Ideal S8192x1024 .f32)
    = fun i => Rows.grad (row (aX m c) (i 0)) (dc (aG m c) (aW m c) (aDz m c) (i 0)) (i 1) + aCt m c (ix2 (i 0) (i 1)) := by
  refine (dats m 0 c).arrAt_eq_of_covers 5 _ (by decide +kernel) fun t _ y => ?_
  blk_simp
  rw [after0_5, tile_dx]
  have e0 : ((win0_5.blk t).view.emb y 0 : Fin 8192) = at_ t (y 0) := Eq.trans (Fin.ext (by blk_simp [idx t])) (at_eq t (y 0)).symm
  have e1 : ((win0_5.blk t).view.emb y 1 : Fin 1024) = y 1 := Fin.ext (by blk_simp [idx t])
  rw [e0, e1]
  exact (congrArg _ (ValueIdx.eq_ix2 (n0 := 512) (n1 := 1024) y)).trans (dx_tile m c t (y 0) (y 1))

/-- What tile `n` adds. -/
def term (n : ℕ) (i : S1x1024.Idx) : EReal := ∑ r : Fin 512, Rows.unit (row (aX m c) (Fin.ofNat 8192 (n * 512 + r.val))) (i 1)
  * dh (aW m c) (aDz m c) (Fin.ofNat 8192 (n * 512 + r.val)) (i 1)

theorem step (Y : FVec Ideal S1x1024 .f32) (i : S1x1024.Idx) :
    k0_pay3 (k0_pay7 (iblk m c 2 t) (iblk m c 0 t) (iblk m c 1 t)) Y i = Y i + term m c t.val i := by
  idx_vars i
  pointwise [k0_pay3]
  rw [Tile.dg_at]
  simp only [blk_row, blk_dh]
  rfl

theorem arr6 : ((dats m 0 c).arrAt 6 cfg0.N : FVec Ideal S1x1024 .f32)
    = fun i => ∑ r : Fin 8192, Rows.unit (row (aX m c) r) (i 1) * dh (aW m c) (aDz m c) r (i 1) := by
  refine (dats m 0 c).arrAt_eq_of_covers 6 _ (by decide +kernel) fun t hf y => ?_
  blk_simp
  rw [after0_6]
  refine (Pipeline.eq_sum_of_reset_step_apply_of_mod (fun n h => (outsAt0 m c n h).2) 16 (fun _ => 0) (term m c)
    (fun t h i => (congrFun (dg_first m c t h) i).trans ((step m c t _ i).trans (congrArg (· + _) (by idx_vars i; pointwise [k0_pay2]))))
    (fun t h i => (congrFun (dg_next m c t h) i).trans (step m c t _ i)) t ((flush0_6 t).mp hf) y).trans ?_
  have e1 : ((win0_6.blk t).view.emb y 1 : Fin 1024) = y 1 := Fin.ext (by blk_simp [idx t])
  rw [e1, show t.val / 16 = 0 by have := lt_t t; omega, zero_add]
  simp only [Nat.mul_zero, Nat.zero_add]
  refine (Rows.sum_blocks fun n => Rows.unit (row (aX m c) (Fin.ofNat 8192 n)) (y 1) * dh (aW m c) (aDz m c) (Fin.ofNat 8192 n) (y 1)).trans ?_
  refine Finset.sum_congr rfl fun r _ => ?_
  rw [show Fin.ofNat 8192 r.val = r from Fin.ext (Nat.mod_eq_of_lt r.2)]

end Cert.NormProof
end
-- ==== Proof.NormEq.lean ====
module

public import proofs.«01_k».proof.Defs
public import proofs.«01_k».proof.Proof.NormArr
public import proofs.«01_k».proof.Proof.Gen.NormIdeal
public import proofs.«01_k».proof.Proof.Gen.NormRefIdeal
public import proofs.«01_k».proof.Proof.Gen.NormRefIdeal.Run
public import Idealize.ShloMosaic.Lib.Claim

/-! The input normalisation's backward call computes the reference's gradients. -/

@[expose] public section

set_option maxRecDepth 16384

noncomputable section

namespace Cert.NormProof

open Idealize.ShloMosaic Idealize.ShloMosaic.TcCoe Idealize.SL.Sem

theorem ref_frame (m : (ℓ : Loc Cert.NormRefIdeal.nD Cert.NormRefIdeal.τ Cert.NormRefIdeal.sig) → Buf (Elt Ideal) ℓ) (ρ : Dev Cert.NormRefIdeal.nD → PrngReg) :
    θ_run (Cert.NormRefIdeal.defs (F := Ideal)) (onTc (τ := Cert.NormRefIdeal.τ) (Cert.NormRefIdeal.main (F := Ideal))) ⟨m, fun _ => 0, ρ⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0) :=
  (θ_run _ _ _).mono (fun r h => ⟨fun c => (h c).2.2, Idealize.ShloMosaic.sem_eq_zero_of_no_sems (by decide) r.2⟩)
    (Cert.NormRefIdeal.Value.run (F := Ideal) m ρ)

variable (m : (ℓ : Loc Cert.NormIdeal.nD Cert.NormIdeal.τ Cert.NormIdeal.sig) → Buf (Elt Ideal) ℓ) (c : Dev Cert.NormIdeal.nD)

theorem same_dx : (Cert.NormRefIdeal.Read.val_main_v40 (F := Ideal) (aX m c) (aG m c) (aW m c) (aDz m c) (aCt m c) : FVec Ideal Cert.NormIdeal.S8192x1024 .f32)
    = (Cert.NormIdeal.Gen.dats m 0 c).arrAt 5 Cert.NormIdeal.cfg0.N := by
  rw [arr5]
  funext i
  exact (congrArg _ (ValueIdx.eq_ix2 i)).trans (dx_at _ _ _ _ _ (i 0) (i 1))

theorem same_dg : (Cert.NormRefIdeal.Read.val_main_v41 (F := Ideal) (aX m c) (aW m c) (aDz m c) : FVec Ideal Cert.NormIdeal.S1x1024 .f32)
    = (Cert.NormIdeal.Gen.dats m 0 c).arrAt 6 Cert.NormIdeal.cfg0.N := by
  rw [arr6]
  funext i
  exact (congrArg _ (ValueIdx.eq_ix2 i)).trans (dg_at _ _ _ (i 0) (i 1))

theorem algebraic : Cert.algebraic_NormIdeal_NormRefIdeal := by
  pair_intro
  · run_from Cert.NormIdeal.Value.run_blocks m g
  · run_from Cert.NormRefIdeal.Value.run m' g'
    · obtain ⟨a0, a1, a2, a3, a4⟩ := hagree c
      rw [Cert.NormRefIdeal.Read.val_main_v40_eq, a0, a1, a2, a3, a4]
      exact same_dx m c
    · exact same_dg m c

end Cert.NormProof
end
-- ==== Proof.LossRow.lean ====
module

public import proofs.«01_k».proof.Proof.Rows
public import Idealize.ShloMosaic.Lib.Pointwise

/-! Half the mean squared error of one normalised row, and its cotangent. -/

@[expose] public section

set_option maxRecDepth 16384

noncomputable section

open Idealize.ShloMosaic Idealize.ShloMosaic.TcCoe Idealize.SL.Sem

namespace Cert.LossProof

def half : EReal := Ideal.ofBits .f32 0x3F000000#32
/-- What the cotangent of a row's mean square multiplies it by. -/
def k : EReal := Ideal.div half Rows.len
def two : EReal := Ideal.ofBits .f32 0x40000000#32

theorem half_eq : half = ((1 / 2 : ℝ) : EReal) := by
  unfold half
  simp [Ideal.ofBits, Ideal.ieee]
  rw [← EReal.coe_mul]
  norm_num

theorem two_eq : two = 1 + 1 := by
  unfold two
  simp [Ideal.ofBits, Ideal.ieee]
  rw [← EReal.coe_mul, ← EReal.coe_one, ← EReal.coe_add]
  norm_num

theorem len_eq : Rows.len = ((1024 : ℝ) : EReal) := by
  unfold Rows.len
  simp [Ideal.ofBits, Ideal.ieee]
  rw [← EReal.coe_mul]
  norm_num

theorem k_eq : k = ((1 / 2048 : ℝ) : EReal) := by
  unfold k
  rw [half_eq, len_eq, Ideal.div_coe]
  · rw [← EReal.coe_mul]
    norm_num
  · norm_num

/-- The error of a row. -/
def err (x g t : Fin 1024 → EReal) (j : Fin 1024) : EReal := Rows.unit x j * g j - t j
/-- Half the mean square of a row's errors. -/
def msq (x g t : Fin 1024 → EReal) : EReal := Ideal.div (∑ j, err x g t j * err x g t j) Rows.len
/-- The cotangent of the normalised row. -/
def ct (x g t : Fin 1024 → EReal) (j : Fin 1024) : EReal := err x g t j * k + k * err x g t j
/-- The cotangent of the unit row. -/
def dc (x g t : Fin 1024 → EReal) (j : Fin 1024) : EReal := ct x g t j * g j

theorem k_two (e : EReal) : k * (two * e) = e * k + k * e := by
  rw [two_eq, EReal.right_distrib_of_nonneg zero_le_one zero_le_one, one_mul, k_eq,
    EReal.left_distrib_of_nonneg_of_ne_top (by exact_mod_cast (by norm_num : (0 : ℝ) ≤ 1 / 2048)) (EReal.coe_ne_top _), mul_comm e]

theorem half_sum {ι : Type} (s : Finset ι) (f : ι → EReal) : half * ∑ r ∈ s, f r = ∑ r ∈ s, half * f r := by
  classical
  induction s using Finset.induction_on with
  | empty => simp
  | insert a s ha ih =>
    rw [Finset.sum_insert ha, Finset.sum_insert ha, half_eq,
      EReal.left_distrib_of_nonneg_of_ne_top (by exact_mod_cast (by norm_num : (0 : ℝ) ≤ 1 / 2)) (EReal.coe_ne_top _), ← half_eq, ih]

end Cert.LossProof
end
-- ==== Proof.LossKernel.lean ====
module

public import proofs.«01_k».proof.Proof.Gen.LossIdeal.Frame
public import proofs.«01_k».proof.Proof.LossRow
public import Idealize.ShloMosaic.Lib.Pipeline.ValueKit
public import Idealize.ShloMosaic.Lib.Pointwise

/-! The loss call, tile by tile. -/

@[expose] public section

set_option maxRecDepth 16384

noncomputable section

open Idealize.ShloMosaic Idealize.ShloMosaic.TcCoe Idealize.SL.Sem
open Idealize.ShloMosaic.Pipeline (Dat)

namespace Cert.LossProof.Tile

open Cert.LossIdeal Cert.LossIdeal.Gen

variable (x t : FVec Ideal S512x1024 .f32) (g : FVec Ideal S1x1024 .f32)

/-- Row `r` of a tile. -/
def row (r : Fin 512) (j : Fin 1024) : EReal := x (ix2 r j)
def tG (j : Fin 1024) : EReal := g (ix2 0 j)

theorem ms_at (r : Fin 512) (u : Fin 1) : k0_pay7 (F := Ideal) x (ix2 r u) = Rows.ms (row x r) := by
  pointwise [k0_pay7]
  rfl

theorem inv_at (r : Fin 512) (u : Fin 1) : k0_pay8 (F := Ideal) x (ix2 r u) = Rows.inv (row x r) := by
  pointwise [k0_pay8]
  exact congrArg Ideal.rsqrt (ms_at x r u)

theorem mcoef_at (r : Fin 512) (u : Fin 1) : k0_pay9 (F := Ideal) x (ix2 r u) = Rows.mhalf * Ideal.div (Rows.inv (row x r)) (Rows.ms (row x r)) := by
  pointwise [k0_pay9]
  rw [inv_at, ms_at]
  rfl

theorem unit_at (r : Fin 512) (j : Fin 1024) : k0_pay10 (F := Ideal) x (ix2 r j) = Rows.unit (row x r) j := by
  pointwise [k0_pay10]
  rw [inv_at]
  rfl

theorem g_at (u : Fin 1) (j : Fin 1024) : k0_pay6 (F := Ideal) g (ix2 u j) = tG g j := by
  pointwise [k0_pay6]
  rw [Subsingleton.elim u 0]
  rfl

theorem err_at (r : Fin 512) (j : Fin 1024) : k0_pay11 (F := Ideal) x t g (ix2 r j) = err (row x r) (tG g) (row t r) j := by
  pointwise [k0_pay11]
  rw [unit_at, g_at]
  rfl

theorem rowloss_at (r : Fin 512) (u : Fin 1) : k0_pay12 (F := Ideal) x t g (ix2 r u) = half * msq (row x r) (tG g) (row t r) := by
  pointwise [k0_pay12]
  simp only [err_at]
  rfl

theorem ct_at (r : Fin 512) (j : Fin 1024) : k0_pay13 (F := Ideal) x t g (ix2 r j) = ct (row x r) (tG g) (row t r) j := by
  pointwise [k0_pay13]
  simp only [err_at, Finset.univ_unique, Finset.sum_singleton]
  rfl

/-- What a tile adds to the scale's gradient. -/
theorem dg_at (u : Fin 1) (j : Fin 1024) : k0_pay14 (F := Ideal) x t g (ix2 u j) = ∑ r : Fin 512, Rows.unit (row x r) j * ct (row x r) (tG g) (row t r) j := by
  pointwise [k0_pay14]
  simp only [unit_at, ct_at]

/-- What a tile adds to the loss. -/
theorem loss_at (v : FVec Ideal S512x1 .f32) (Y : FVec Ideal S8x128 .f32) (i : Fin 8) (j : Fin 128) :
    k0_pay3 (F := Ideal) v Y (ix2 i j) = Y (ix2 i j) + ∑ r : Fin 512, v (ix2 r 0) := by
  pointwise [k0_pay3]

/-- The gradient of a tile's rows. -/
theorem dx_at (r : Fin 512) (j : Fin 1024) : k0_pay1 (F := Ideal) x (k0_pay6 g) (k0_pay8 x) (k0_pay9 x) (k0_pay13 x t g) (ix2 r j)
    = Rows.grad (row x r) (dc (row x r) (tG g) (row t r)) j := by
  pointwise [k0_pay1]
  simp only [inv_at, ct_at, mcoef_at, g_at, Finset.univ_unique, Finset.sum_singleton]
  rfl

end Cert.LossProof.Tile
end
-- ==== Proof.LossRef.lean ====
module

public import proofs.«01_k».proof.Proof.Gen.LossRefIdeal.Read
public import proofs.«01_k».proof.Proof.LossRow

/-! The reference of the loss, row by row. -/

@[expose] public section

set_option maxRecDepth 16384

noncomputable section

open Idealize.ShloMosaic Idealize.ShloMosaic.TcCoe Idealize.SL.Sem

namespace Cert.LossProof

open Cert.LossRefIdeal Cert.LossRefIdeal.Gen Cert.LossRefIdeal.Read

variable (x t : FVec Ideal S8192x1024 .f32) (g : FVec Ideal S1024 .f32)

/-- Row `r` of an array. -/
def row (r : Fin 8192) (j : Fin 1024) : EReal := x (ix2 r j)
def rG (j : Fin 1024) : EReal := g (ix1 j)

theorem ms_at (r : Fin 8192) (u : Fin 1) : (val_main_v6 (F := Ideal) x : FVec Ideal S8192x1 .f32) (ix2 r u) = Rows.ms (row x r) := by
  pointwise [val_main_v6, val_main_v5, val_main_v4, val_main_v3, val_main_v2, val_main_v1, val_main_v0, val_main_cst, val_main_cst_0, val_main_cst_1]
  rfl

theorem inv_at (r : Fin 8192) (u : Fin 1) : (val_main_v7 (F := Ideal) x : FVec Ideal S8192x1 .f32) (ix2 r u) = Rows.inv (row x r) := by
  pointwise [val_main_v7]
  exact congrArg Ideal.rsqrt (ms_at x r u)

theorem mcoef_at (r : Fin 8192) (u : Fin 1) : (val_main_v10 (F := Ideal) x : FVec Ideal S8192x1 .f32) (ix2 r u)
    = Rows.mhalf * Ideal.div (Rows.inv (row x r)) (Rows.ms (row x r)) := by
  pointwise [val_main_v10, val_main_v9, val_main_v8, val_main_cst_2]
  rw [inv_at, ms_at]
  rfl

theorem unit_at (r : Fin 8192) (j : Fin 1024) : (val_main_v12 (F := Ideal) x : FVec Ideal S8192x1024 .f32) (ix2 r j) = Rows.unit (row x r) j := by
  pointwise [val_main_v12, val_main_v11]
  rw [inv_at]
  rfl

theorem err_at (r : Fin 8192) (j : Fin 1024) : (val_main_v16 (F := Ideal) x t g : FVec Ideal S8192x1024 .f32) (ix2 r j) = err (row x r) (rG g) (row t r) j := by
  pointwise [val_main_v16, val_main_v15, val_main_v14, val_main_v13]
  rw [unit_at]
  rfl

theorem ct_at (r : Fin 8192) (j : Fin 1024) : (val_main_v30 (F := Ideal) x t g : FVec Ideal S8192x1024 .f32) (ix2 r j) = ct (row x r) (rG g) (row t r) j := by
  refine Eq.trans ?_ (k_two _)
  pointwise [val_main_v30, val_main_v29, val_main_v28, val_main_v27, val_main_v26, val_main_v25, val_main_v19, val_main_v18, val_main_cst_3, val_main_cst_8, val_main_cst_9, val_main_cst_10]
  rw [err_at]
  rfl

theorem dc_at (r : Fin 8192) (j : Fin 1024) : (val_main_v35 (F := Ideal) x t g : FVec Ideal S8192x1024 .f32) (ix2 r j) = dc (row x r) (rG g) (row t r) j := by
  pointwise [val_main_v35, val_main_v34, val_main_v13]
  rw [ct_at]
  rfl

theorem slope_at (r : Fin 8192) (j : Fin 1024) : (val_main_v46 (F := Ideal) x t g : FVec Ideal S8192x1024 .f32) (ix2 r j)
    = Rows.slope (row x r) (dc (row x r) (rG g) (row t r)) := by
  pointwise [val_main_v46, val_main_v45, val_main_v44, val_main_v43, val_main_v42, val_main_v39, val_main_v38, val_main_v37, val_main_cst_13, val_main_cst_14, val_main_cst_15]
  simp only [mcoef_at, dc_at, Finset.univ_unique, Finset.sum_singleton]
  rfl

/-- The reference's gradient of the rows. -/
theorem dx_at (r : Fin 8192) (j : Fin 1024) : (val_main_v50 (F := Ideal) x t g : FVec Ideal S8192x1024 .f32) (ix2 r j)
    = Rows.grad (row x r) (dc (row x r) (rG g) (row t r)) j := by
  pointwise [val_main_v50, val_main_v49, val_main_v48, val_main_v47, val_main_v41, val_main_v40]
  rw [slope_at, dc_at, inv_at]
  rfl

/-- The reference's gradient of the scale. -/
theorem dg_at (u : Fin 1) (j : Fin 1024) : (val_main_v51 (F := Ideal) x t g : FVec Ideal S1x1024 .f32) (ix2 u j)
    = ∑ r : Fin 8192, Rows.unit (row x r) j * ct (row x r) (rG g) (row t r) j := by
  pointwise [val_main_v51, val_main_v36, val_main_v33, val_main_v32, val_main_v31, val_main_cst_11, val_main_cst_12]
  simp only [unit_at, ct_at, Finset.univ_unique, Finset.sum_singleton]

/-- The reference's loss. -/
theorem loss_at (i : S_.Idx) : (val_main_v24 (F := Ideal) x t g : FVec Ideal S_ .f32) i = ∑ r : Fin 8192, half * msq (row x r) (rG g) (row t r) := by
  refine Eq.trans ?_ (half_sum _ _)
  pointwise [val_main_v24, val_main_v23, val_main_v22, val_main_v21, val_main_v20, val_main_v17, val_main_cst_4, val_main_cst_5, val_main_cst_6, val_main_cst_7]
  simp only [err_at]
  rfl

end Cert.LossProof
end
-- ==== Proof.LossArr.lean ====
module

public import proofs.«01_k».proof.Proof.LossKernel
public import proofs.«01_k».proof.Proof.LossRef

/-! The arrays of the loss call. -/

@[expose] public section

set_option maxRecDepth 16384

noncomputable section

open Idealize.ShloMosaic Idealize.ShloMosaic.TcCoe Idealize.SL.Sem
open Idealize.ShloMosaic.Pipeline (Dat)

namespace Cert.LossProof

open Cert.LossIdeal Cert.LossIdeal.Gen

variable (m : (ℓ : Loc nD τ sig) → Buf (Elt Ideal) ℓ) (c : Dev nD) (t : Fin cfg0.N)

theorem tile_dx : (outsAt0 m c t.val t.isLt).1
    = k0_pay1 (F := Ideal) (iblk m c 0 t) (k0_pay6 (iblk m c 2 t)) (k0_pay8 (iblk m c 0 t)) (k0_pay9 (iblk m c 0 t)) (k0_pay13 (iblk m c 0 t) (iblk m c 1 t) (iblk m c 2 t)) := by
  by_cases h0 : t.val % 16 = 0
  · rw [outsAt0_A m c t h0 h0]
    dsimp only
    unfold out0_A_3
    rw [View.read_writes_junk_eq_canon]
    unfold kernelRun0_A
    dsimp only
    simp (disch := decide) only [kernelRun0_A.sl.r, kernelRun0_A.sl.r_1, kernelRun0_A.sl.r_2, kernelRun0_A.sl.r_3, kernelRun0_A.sl.r_4, kernelRun0_A.sl.r_5, kernelRun0_A.sl.r_6,
      View.canon_cons_unit_lit', View.readCov_unit_lit', View.readCov_cons_unit_lit', View.ld_unit_lit', View.readAt_eq_ld, Memref.IsWhole.read_unread]
  · rw [outsAt0_B m c t h0 h0]
    dsimp only
    unfold out0_B_3
    rw [View.read_writes_junk_eq_canon]
    unfold kernelRun0_B
    dsimp only
    simp (disch := decide) only [kernelRun0_B.sl.r, kernelRun0_B.sl.r_1, kernelRun0_B.sl.r_2, kernelRun0_B.sl.r_3, kernelRun0_B.sl.r_4, kernelRun0_B.sl.r_5, kernelRun0_B.sl.r_6,
      View.canon_cons_unit_lit', View.readCov_unit_lit', View.readCov_cons_unit_lit', View.ld_unit_lit', View.readAt_eq_ld, Memref.IsWhole.read_unread]

theorem loss_first (h0 : t.val % 16 = 0) : (outsAt0 m c t.val t.isLt).2.1
    = k0_pay3 (F := Ideal) (k0_pay12 (iblk m c 0 t) (iblk m c 1 t) (iblk m c 2 t)) (k0_pay2 (F := Ideal)) := by
  rw [outsAt0_A m c t h0 h0]
  dsimp only
  unfold out0_A_4
  rw [View.read_writes_junk_eq_canon]
  unfold kernelRun0_A
  dsimp only
  simp (disch := decide) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v64, kernelRun0_A.sl.H4_1,
    View.canon_cons_unit_lit', View.readCov_unit_lit', View.readCov_cons_unit_lit', View.ld_unit_lit', View.readAt_eq_ld, Memref.IsWhole.read_unread]

theorem loss_next (h0 : ¬ t.val % 16 = 0) : (outsAt0 m c t.val t.isLt).2.1
    = k0_pay3 (F := Ideal) (k0_pay12 (iblk m c 0 t) (iblk m c 1 t) (iblk m c 2 t)) (outsAt0 m c (t.val - 1) (Nat.lt_of_le_of_lt (Nat.sub_le _ _) t.isLt)).2.1 := by
  rw [outsAt0_B m c t h0 h0]
  dsimp only
  unfold out0_B_4
  rw [View.read_writes_junk_eq_canon]
  unfold kernelRun0_B
  dsimp only
  simp (disch := decide) only [kernelRun0_B.sl.r, kernelRun0_B.sl.r_1, kernelRun0_B.sl.r_2, kernelRun0_B.sl.r_3, kernelRun0_B.sl.r_4, kernelRun0_B.sl.r_5, kernelRun0_B.sl.r_6,
    View.canon_cons_unit_lit', View.readCov_unit_lit', View.readCov_cons_unit_lit', View.ld_unit_lit', View.readAt_eq_ld, Memref.IsWhole.read_unread]

theorem dg_first (h0 : t.val % 16 = 0) : (outsAt0 m c t.val t.isLt).2.2
    = k0_pay5 (F := Ideal) (k0_pay14 (iblk m c 0 t) (iblk m c 1 t) (iblk m c 2 t)) (k0_pay4 (F := Ideal)) := by
  rw [outsAt0_A m c t h0 h0]
  dsimp only
  unfold out0_A_5
  rw [View.read_writes_junk_eq_canon]
  unfold kernelRun0_A
  dsimp only
  simp (disch := decide) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v72, kernelRun0_A.sl.H5_1,
    View.canon_cons_unit_lit', View.readCov_unit_lit', View.readCov_cons_unit_lit', View.ld_unit_lit', View.readAt_eq_ld, Memref.IsWhole.read_unread]

theorem dg_next (h0 : ¬ t.val % 16 = 0) : (outsAt0 m c t.val t.isLt).2.2
    = k0_pay5 (F := Ideal) (k0_pay14 (iblk m c 0 t) (iblk m c 1 t) (iblk m c 2 t)) (outsAt0 m c (t.val - 1) (Nat.lt_of_le_of_lt (Nat.sub_le _ _) t.isLt)).2.2 := by
  rw [outsAt0_B m c t h0 h0]
  dsimp only
  unfold out0_B_5
  rw [View.read_writes_junk_eq_canon]
  unfold kernelRun0_B
  dsimp only
  simp (disch := decide) only [kernelRun0_B.sl.r, kernelRun0_B.sl.r_1, kernelRun0_B.sl.r_2, kernelRun0_B.sl.r_3, kernelRun0_B.sl.r_4, kernelRun0_B.sl.r_5, kernelRun0_B.sl.r_6,
    View.canon_cons_unit_lit', View.readCov_unit_lit', View.readCov_cons_unit_lit', View.ld_unit_lit', View.readAt_eq_ld, Memref.IsWhole.read_unread]

theorem lt_t (t : Fin cfg0.N) : t.val < 16 := t.isLt

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

/-- The arguments. -/
abbrev aX : FVec Ideal S8192x1024 .f32 := m ((c : Thread nD τ).loc main_arg0)
abbrev aT : FVec Ideal S8192x1024 .f32 := m ((c : Thread nD τ).loc main_arg1)
abbrev aG : FVec Ideal S1024 .f32 := m ((c : Thread nD τ).loc main_arg2)

theorem entry_g (u : Fin 1) (j : Fin 1024) : (V m c main_v0 : FVec Ideal S1x1024 .f32) (ix2 u j) = aG m c (ix1 j) := by
  show (StableHlo.after hostOps0 (fun b => m (c, b)) (Proc.devRef .tc main_v0) : FVec Ideal S1x1024 .f32) (ix2 u j) = _
  after_results
  pointwise []

/-- Row `r` of tile `n` among all rows. -/
abbrev at_ (n : ℕ) (r : Fin 512) : Fin 8192 := Fin.ofNat 8192 (n * 512 + r.val)

theorem at_eq (n : ℕ) (h : n < 16) (r : Fin 512) : at_ n r = ⟨n * 512 + r.val, by omega⟩ :=
  Fin.ext (Nat.mod_eq_of_lt (by omega))

theorem blk_x (r : Fin 512) : Tile.row (iblk m c 0 t) r = row (aX m c) (at_ t.val r) := by
  funext j
  rw [at_eq t.val (lt_t t)]
  refine Eq.trans ?_ (congrFun (V_main_arg0 m c) _)
  show (iblk m c 0 t : FVec Ideal S512x1024 .f32) (ix2 r j) = _
  blk_point [iblk, idx t]

theorem blk_t (r : Fin 512) : Tile.row (iblk m c 1 t) r = row (aT m c) (at_ t.val r) := by
  funext j
  rw [at_eq t.val (lt_t t)]
  refine Eq.trans ?_ (congrFun (V_main_arg1 m c) _)
  show (iblk m c 1 t : FVec Ideal S512x1024 .f32) (ix2 r j) = _
  blk_point [iblk, idx t]

theorem blk_g : Tile.tG (iblk m c 2 t) = rG (aG m c) := by
  funext j
  refine Eq.trans ?_ (entry_g m c 0 j)
  show (iblk m c 2 t : FVec Ideal S1x1024 .f32) (ix2 0 j) = _
  blk_point [iblk, idx t]

/-- The gradient of a row, and what a row adds to the loss and to the scale's gradient. -/
abbrev dxA (r : Fin 8192) : Fin 1024 → EReal := Rows.grad (row (aX m c) r) (dc (row (aX m c) r) (rG (aG m c)) (row (aT m c) r))
def lossR (r : Fin 8192) : EReal := half * msq (row (aX m c) r) (rG (aG m c)) (row (aT m c) r)
def dgR (r : Fin 8192) (i : S1x1024.Idx) : EReal := Rows.unit (row (aX m c) r) (i 1) * ct (row (aX m c) r) (rG (aG m c)) (row (aT m c) r) (i 1)

theorem dx_tile (r : Fin 512) (j : Fin 1024) : k0_pay1 (F := Ideal) (iblk m c 0 t) (k0_pay6 (iblk m c 2 t)) (k0_pay8 (iblk m c 0 t)) (k0_pay9 (iblk m c 0 t))
    (k0_pay13 (iblk m c 0 t) (iblk m c 1 t) (iblk m c 2 t)) (ix2 r j) = dxA m c (at_ t.val r) j := by
  rw [Tile.dx_at, blk_x, blk_t, blk_g]

theorem loss_step (Y : FVec Ideal S8x128 .f32) (i : S8x128.Idx) :
    k0_pay3 (F := Ideal) (k0_pay12 (iblk m c 0 t) (iblk m c 1 t) (iblk m c 2 t)) Y i = Y i + ∑ r : Fin 512, lossR m c (at_ t.val r) := by
  idx_vars i
  rw [Tile.loss_at]
  simp only [Tile.rowloss_at, blk_x, blk_t, blk_g]
  rfl

theorem dg_step (Y : FVec Ideal S1x1024 .f32) (i : S1x1024.Idx) :
    k0_pay5 (F := Ideal) (k0_pay14 (iblk m c 0 t) (iblk m c 1 t) (iblk m c 2 t)) Y i = Y i + ∑ r : Fin 512, dgR m c (at_ t.val r) i := by
  idx_vars i
  pointwise [k0_pay5]
  rw [Tile.dg_at]
  simp only [blk_x, blk_t, blk_g]
  rfl

/-- The sums over the tiles are the sums over the rows. -/
theorem sum_rows (f : Fin 8192 → EReal) (n : ℕ) (h : n < 16) : (0 : EReal) + ∑ s ∈ Finset.range (15 + 1), ∑ r : Fin 512, f (at_ (16 * (n / 16) + s) r) = ∑ r : Fin 8192, f r := by
  rw [show n / 16 = 0 by omega, zero_add]
  simp only [Nat.mul_zero, Nat.zero_add]
  refine (Rows.sum_blocks fun n => f (Fin.ofNat 8192 n)).trans (Finset.sum_congr rfl fun r _ => ?_)
  rw [show Fin.ofNat 8192 r.val = r from Fin.ext (Nat.mod_eq_of_lt r.2)]

theorem arr3 : ((dats m 0 c).arrAt 3 cfg0.N : FVec Ideal S8192x1024 .f32) = fun i => dxA m c (i 0) (i 1) := by
  refine (dats m 0 c).arrAt_eq_of_covers 3 _ (by decide +kernel) fun t _ y => ?_
  blk_simp
  rw [after0_3, tile_dx]
  have e0 : ((win0_3.blk t).view.emb y 0 : Fin 8192) = at_ t.val (y 0) := Eq.trans (Fin.ext (by blk_simp [idx t])) (at_eq t.val (lt_t t) (y 0)).symm
  have e1 : ((win0_3.blk t).view.emb y 1 : Fin 1024) = y 1 := Fin.ext (by blk_simp [idx t])
  rw [e0, e1]
  exact (congrArg _ (ValueIdx.eq_ix2 (n0 := 512) (n1 := 1024) y)).trans (dx_tile m c t (y 0) (y 1))

theorem arr4 : ((dats m 0 c).arrAt 4 cfg0.N : FVec Ideal S8x128 .f32) = fun _ => ∑ r : Fin 8192, lossR m c r := by
  refine (dats m 0 c).arrAt_eq_of_covers 4 _ (by decide +kernel) fun t hf y => ?_
  blk_simp
  rw [after0_4]
  refine (Pipeline.eq_sum_of_reset_step_apply_of_mod (fun n h => (outsAt0 m c n h).2.1) 16 (fun _ => 0) (fun n _ => ∑ r : Fin 512, lossR m c (at_ n r))
    (fun t h i => (congrFun (loss_first m c t h) i).trans ((loss_step m c t _ i).trans (congrArg (· + _) (by idx_vars i; pointwise [k0_pay2]))))
    (fun t h i => (congrFun (loss_next m c t h) i).trans (loss_step m c t _ i)) t ((flush0_4 t).mp hf) y).trans ?_
  exact sum_rows (fun r => lossR m c r) t.val (lt_t t)

theorem arr5 : ((dats m 0 c).arrAt 5 cfg0.N : FVec Ideal S1x1024 .f32) = fun i => ∑ r : Fin 8192, dgR m c r i := by
  refine (dats m 0 c).arrAt_eq_of_covers 5 _ (by decide +kernel) fun t hf y => ?_
  blk_simp
  rw [after0_5]
  refine (Pipeline.eq_sum_of_reset_step_apply_of_mod (fun n h => (outsAt0 m c n h).2.2) 16 (fun _ => 0) (fun n i => ∑ r : Fin 512, dgR m c (at_ n r) i)
    (fun t h i => (congrFun (dg_first m c t h) i).trans ((dg_step m c t _ i).trans (congrArg (· + _) (by idx_vars i; pointwise [k0_pay4]))))
    (fun t h i => (congrFun (dg_next m c t h) i).trans (dg_step m c t _ i)) t ((flush0_5 t).mp hf) y).trans ?_
  have e : (win0_5.blk t).view.emb y = (y : S1x1024.Idx) := by
    funext a
    fin_cases a
    · exact Fin.ext (by blk_simp [idx t])
    · exact Fin.ext (by blk_simp [idx t])
  rw [e]
  exact sum_rows (fun r => dgR m c r y) t.val (lt_t t)

/-- The scalar cut out of the loss array. -/
theorem tail_loss (i : S_.Idx) : (Pipeline.afterTail₀ cfgs (dats m) 0 (V0 m) [hostOps1] c main_v3 : FVec Ideal S_ .f32) i = ∑ r : Fin 8192, lossR m c r := by
  have e : (Pipeline.withArrays spec0 c (V0 m c) (fun w => (dats m 0 c).arrAt w cfg0.N) (Proc.devRef .tc main_v1_1) : FVec Ideal S8x128 .f32) = fun _ => ∑ r : Fin 8192, lossR m c r :=
    (Pipeline.withArrays_arr spec0 (by decide) c (V0 m c) (fun w => (dats m 0 c).arrAt w cfg0.N) 4).trans (arr4 m c)
  show (StableHlo.after hostOps1 (Pipeline.withArrays spec0 c (V0 m c) (fun w => (dats m 0 c).arrAt w cfg0.N)) (Proc.devRef .tc main_v3) : FVec Ideal S_ .f32) i = _
  after_results
  rw [e]
  pointwise []

end Cert.LossProof
end
-- ==== Proof.LossEq.lean ====
module

public import proofs.«01_k».proof.Defs
public import proofs.«01_k».proof.Proof.LossArr
public import proofs.«01_k».proof.Proof.Gen.LossIdeal
public import proofs.«01_k».proof.Proof.Gen.LossRefIdeal
public import proofs.«01_k».proof.Proof.Gen.LossRefIdeal.Run
public import Idealize.ShloMosaic.Lib.Claim

/-! The loss call computes the reference's loss and its gradients. -/

@[expose] public section

set_option maxRecDepth 16384

noncomputable section

namespace Cert.LossProof

open Idealize.ShloMosaic Idealize.ShloMosaic.TcCoe Idealize.SL.Sem

theorem ref_frame (m : (ℓ : Loc Cert.LossRefIdeal.nD Cert.LossRefIdeal.τ Cert.LossRefIdeal.sig) → Buf (Elt Ideal) ℓ) (ρ : Dev Cert.LossRefIdeal.nD → PrngReg) :
    θ_run (Cert.LossRefIdeal.defs (F := Ideal)) (onTc (τ := Cert.LossRefIdeal.τ) (Cert.LossRefIdeal.main (F := Ideal))) ⟨m, fun _ => 0, ρ⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0) :=
  (θ_run _ _ _).mono (fun r h => ⟨fun c => (h c).2.2.2, Idealize.ShloMosaic.sem_eq_zero_of_no_sems (by decide) r.2⟩)
    (Cert.LossRefIdeal.Value.run (F := Ideal) m ρ)

section
open Cert.LossIdeal Cert.LossIdeal.Gen

variable (m : (ℓ : Loc nD τ sig) → Buf (Elt Ideal) ℓ) (ρ : Dev nD → PrngReg) (c : Dev nD)

/-- Every run ends with the loss and the two gradients, and the arguments unchanged. -/
theorem ends : θ_run defs (onTc (τ := τ) (main (F := Ideal))) ⟨m, fun _ => 0, ρ⟩ (fun r => ∀ c : Dev nD,
      r.2.mem ((c.tc : Thread nD τ).loc main_v3) = Pipeline.afterTail₀ cfgs (dats m) 0 (V0 m) [hostOps1] c main_v3
      ∧ r.2.mem ((c.tc : Thread nD τ).loc main_v1_0) = (dats m 0 c).arrAt 3 cfg0.N
      ∧ r.2.mem ((c.tc : Thread nD τ).loc main_v1_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).2 main_v3 (Pipeline.mem_restRefs_of main_v3 (by decide) (by decide)), (h.1 c).1 3, (h.1 c).1 5, h.2 c⟩)
    (θ_run_and (run_main m ρ) (unchanged m ρ))

theorem same_loss : (Cert.LossRefIdeal.Read.val_main_v24 (F := Ideal) (aX m c) (aT m c) (aG m c) : FVec Ideal S_ .f32)
    = Pipeline.afterTail₀ cfgs (dats m) 0 (V0 m) [hostOps1] c main_v3 := by
  funext i
  exact (loss_at _ _ _ i).trans (tail_loss m c i).symm

theorem same_dx : (Cert.LossRefIdeal.Read.val_main_v50 (F := Ideal) (aX m c) (aT m c) (aG m c) : FVec Ideal S8192x1024 .f32)
    = (dats m 0 c).arrAt 3 cfg0.N := by
  rw [arr3]
  funext i
  exact (congrArg _ (ValueIdx.eq_ix2 i)).trans (dx_at _ _ _ (i 0) (i 1))

theorem same_dg : (Cert.LossRefIdeal.Read.val_main_v51 (F := Ideal) (aX m c) (aT m c) (aG m c) : FVec Ideal S1x1024 .f32)
    = (dats m 0 c).arrAt 5 cfg0.N := by
  rw [arr5]
  funext i
  exact (congrArg _ (ValueIdx.eq_ix2 i)).trans (dg_at _ _ _ (i 0) (i 1))

end

/-- The reference's run, its results read at an index. -/
theorem ref_run (m : (ℓ : Loc Cert.LossRefIdeal.nD Cert.LossRefIdeal.τ Cert.LossRefIdeal.sig) → Buf (Elt Ideal) ℓ) (ρ : Dev Cert.LossRefIdeal.nD → PrngReg) :
    θ_run (Cert.LossRefIdeal.defs (F := Ideal)) (onTc (τ := Cert.LossRefIdeal.τ) (Cert.LossRefIdeal.main (F := Ideal))) ⟨m, fun _ => 0, ρ⟩ (fun r => ∀ c : Dev Cert.LossRefIdeal.nD,
      r.2.mem ((c.tc : Thread Cert.LossRefIdeal.nD Cert.LossRefIdeal.τ).loc Cert.LossRefIdeal.main_v24)
        = Cert.LossRefIdeal.Read.val_main_v24 (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))
      ∧ r.2.mem ((c.tc : Thread Cert.LossRefIdeal.nD Cert.LossRefIdeal.τ).loc Cert.LossRefIdeal.main_v50)
        = Cert.LossRefIdeal.Read.val_main_v50 (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))
      ∧ r.2.mem ((c.tc : Thread Cert.LossRefIdeal.nD Cert.LossRefIdeal.τ).loc Cert.LossRefIdeal.main_v51)
        = Cert.LossRefIdeal.Read.val_main_v51 (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))
      ∧ r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)) :=
  (θ_run _ _ _).mono (fun r h c => ⟨(h c).1.trans (Cert.LossRefIdeal.Read.val_main_v24_eq _ _ _), (h c).2.1.trans (Cert.LossRefIdeal.Read.val_main_v50_eq m c),
    (h c).2.2.1.trans (Cert.LossRefIdeal.Read.val_main_v51_eq _ _ _), (h c).2.2.2⟩) (Cert.LossRefIdeal.Value.run (F := Ideal) m ρ)

theorem algebraic : Cert.algebraic_LossIdeal_LossRefIdeal := by
  pair_intro
  · run_from Cert.LossProof.ends m g
  · refine (θ_run _ _ _).mono (fun r h c => ?_) (ref_run m' g')
    obtain ⟨a0, a1, a2⟩ := hagree c
    obtain ⟨k1, k2, k3, k⟩ := h c
    refine ⟨k1.trans ?_, k2.trans ?_, k3.trans ?_, k⟩
    · rw [a0, a1, a2]
      exact same_loss m c
    · rw [a0, a1, a2]
      exact same_dx m c
    · rw [a0, a1, a2]
      exact same_dg m c

end Cert.LossProof
end
-- ==== Proof.MixRow.lean ====
module

public import proofs.«01_k».proof.Proof.Rows
public import Idealize.ShloMosaic.Lib.Pointwise

/-! The three branches of a layer, mixed through their gates and added to the row: one row at a time. -/

@[expose] public section

set_option maxRecDepth 16384

noncomputable section

open Idealize.ShloMosaic Idealize.ShloMosaic.TcCoe Idealize.SL.Sem

namespace Cert.Mix

/-- The constants of the tanh form of gelu, and the width of the normalised row. -/
def c1 : EReal := Ideal.ofBits .f32 0x3D372713#32
def c2 : EReal := Ideal.ofBits .f32 0x3F4C422A#32
def half : EReal := Ideal.ofBits .f32 0x3F000000#32
def width : EReal := Ideal.ofBits .f32 0x43800000#32

/-- The weights. -/
structure Pars where
  ao : Fin 512 → Fin 1024 → EReal
  sg : Fin 256 → Fin 2048 → EReal
  bs : Fin 2048 → EReal
  lg : Fin 256 → EReal
  lb : Fin 256 → EReal
  co : Fin 256 → Fin 1024 → EReal
  bg : Fin 3072 → EReal
  mo : Fin 1024 → Fin 1024 → EReal
  gf : Fin 1024 → EReal

/-- What one row brings: itself and the three branches' rows and the gates' row. -/
structure Row where
  x : Fin 1024 → EReal
  ya : Fin 512 → EReal
  ys : Fin 256 → EReal
  v : Fin 256 → EReal
  gin : Fin 3072 → EReal

abbrev lo (j : Fin 1024) : Fin 2048 := ⟨j.val, by omega⟩
abbrev hi (j : Fin 1024) : Fin 2048 := ⟨1024 + j.val, by omega⟩
abbrev g0 (j : Fin 1024) : Fin 3072 := ⟨j.val, by omega⟩
abbrev g1 (j : Fin 1024) : Fin 3072 := ⟨1024 + j.val, by omega⟩
abbrev g2 (j : Fin 1024) : Fin 3072 := ⟨2048 + j.val, by omega⟩

/-- What gelu takes the tanh of, its gate, and gelu. -/
def arg (y : EReal) : EReal := c2 * (y + c1 * (y * (y * y)))
def bend (y : EReal) : EReal := half * (1 + Ideal.tanh (arg y))
def gelu (y : EReal) : EReal := y * bend y

/-- A row's mean, the row less it, its variance plus the small constant, one over its root, the normalised row. -/
def mu (v : Fin 256 → EReal) : EReal := Ideal.div (∑ k, v k) width
def cen (v : Fin 256 → EReal) (k : Fin 256) : EReal := v k - mu v
def var (v : Fin 256 → EReal) : EReal := Ideal.div (∑ k, cen v k * cen v k) width + Rows.eps
def isd (v : Fin 256 → EReal) : EReal := Ideal.rsqrt (var v)
def nrm (v : Fin 256 → EReal) (k : Fin 256) : EReal := cen v k * isd v

variable (p : Pars) (q : Row)

def yattn (j : Fin 1024) : EReal := ∑ k, q.ya k * p.ao k j
def glu (j : Fin 2048) : EReal := ∑ k, gelu (q.ys k) * p.sg k j + p.bs j
def gate (j : Fin 1024) : EReal := Ideal.logistic (glu p q (hi j))
def yssm (j : Fin 1024) : EReal := glu p q (lo j) * gate p q j
def pre (k : Fin 256) : EReal := nrm q.v k * p.lg k + p.lb k
def silu (k : Fin 256) : EReal := pre p q k * Ideal.logistic (pre p q k)
def yconv (j : Fin 1024) : EReal := ∑ k, silu p q k * p.co k j
def gates (j : Fin 3072) : EReal := Ideal.logistic (q.gin j + p.bg j)
/-- The mixture, the new row, and its normalisation. -/
def mixed (j : Fin 1024) : EReal := gates p q (g0 j) * yattn p q j + gates p q (g1 j) * yssm p q j + gates p q (g2 j) * yconv p q j
def x1 (j : Fin 1024) : EReal := q.x j + ∑ k, mixed p q k * p.mo k j
def hf (j : Fin 1024) : EReal := Rows.unit (x1 p q) j * p.gf j

end Cert.Mix
end
-- ==== Proof.BlendKernel.lean ====
module

public import proofs.«01_k».proof.Proof.Gen.BlendIdeal.Value
public import proofs.«01_k».proof.Proof.MixRow
public import Idealize.ShloMosaic.Lib.Pipeline.ValueKit
public import Idealize.ShloMosaic.Lib.Pointwise

/-! The forward mixing call, tile by tile. -/

@[expose] public section

set_option maxRecDepth 16384

noncomputable section

open Idealize.ShloMosaic Idealize.ShloMosaic.TcCoe Idealize.SL.Sem
open Idealize.ShloMosaic.Pipeline (Dat)

namespace Cert.BlendProof.Tile

open Cert.BlendIdeal Cert.BlendIdeal.Gen

variable (x : FVec Ideal S512x1024 .f32) (ya : FVec Ideal S512x512 .bf16) (ys v : FVec Ideal S512x256 .f32) (gin : FVec Ideal S512x3072 .f32)
  (ao : FVec Ideal S512x1024 .bf16) (sg : FVec Ideal S256x2048 .bf16) (bs : FVec Ideal S1x2048 .f32) (lg lb : FVec Ideal S1x256 .f32)
  (co : FVec Ideal S256x1024 .bf16) (bg : FVec Ideal S1x3072 .f32) (mo : FVec Ideal S1024x1024 .bf16) (gf : FVec Ideal S1x1024 .f32)

/-- The weights as a tile holds them, and its row `r`. -/
def pars : Mix.Pars := ⟨fun i j => ao (ix2 i j), fun i j => sg (ix2 i j), fun j => bs (ix2 0 j), fun j => lg (ix2 0 j), fun j => lb (ix2 0 j),
  fun i j => co (ix2 i j), fun j => bg (ix2 0 j), fun i j => mo (ix2 i j), fun j => gf (ix2 0 j)⟩
def row (r : Fin 512) : Mix.Row := ⟨fun j => x (ix2 r j), fun j => ya (ix2 r j), fun j => ys (ix2 r j), fun j => v (ix2 r j), fun j => gin (ix2 r j)⟩

theorem yattn_at (r : Fin 512) (j : Fin 1024) : k0_pay12 (F := Ideal) ya ao (ix2 r j) = Mix.yattn (pars ao sg bs lg lb co bg mo gf) (row x ya ys v gin r) j := by
  pointwise [k0_pay12]
  rfl

theorem yssm_at (r : Fin 512) (j : Fin 1024) : k0_pay14 (F := Ideal) ys (k0_pay4 bs) (k0_pay9 sg) (k0_pay13 ys) (ix2 r j)
    = Mix.yssm (pars ao sg bs lg lb co bg mo gf) (row x ya ys v gin r) j := by
  pointwise [k0_pay14, k0_pay13, k0_pay9, k0_pay4]
  rfl

theorem yconv_at (r : Fin 512) (j : Fin 1024) : k0_pay15 (F := Ideal) v (k0_pay5 lg) (k0_pay6 lb) (k0_pay10 co) (ix2 r j)
    = Mix.yconv (pars ao sg bs lg lb co bg mo gf) (row x ya ys v gin r) j := by
  pointwise [k0_pay15, k0_pay10, k0_pay6, k0_pay5]
  rfl

/-- The new row. -/
theorem x1_at (r : Fin 512) (j : Fin 1024) : k0_pay1 (F := Ideal) x (k0_pay11 mo) (k0_pay12 ya ao) (k0_pay14 ys (k0_pay4 bs) (k0_pay9 sg) (k0_pay13 ys))
    (k0_pay15 v (k0_pay5 lg) (k0_pay6 lb) (k0_pay10 co)) (k0_pay16 (k0_pay3 gin) (k0_pay7 bg)) (ix2 r j)
    = Mix.x1 (pars ao sg bs lg lb co bg mo gf) (row x ya ys v gin r) j := by
  pointwise [k0_pay1, k0_pay11, k0_pay16, k0_pay3, k0_pay7]
  simp only [yattn_at x ya ys v gin ao sg bs lg lb co bg mo gf, yssm_at x ya ys v gin ao sg bs lg lb co bg mo gf, yconv_at x ya ys v gin ao sg bs lg lb co bg mo gf]
  rfl

/-- Its normalisation. -/
theorem hf_at (r : Fin 512) (j : Fin 1024) : k0_pay2 (F := Ideal) x (k0_pay8 gf) (k0_pay11 mo) (k0_pay12 ya ao) (k0_pay14 ys (k0_pay4 bs) (k0_pay9 sg) (k0_pay13 ys))
    (k0_pay15 v (k0_pay5 lg) (k0_pay6 lb) (k0_pay10 co)) (k0_pay16 (k0_pay3 gin) (k0_pay7 bg)) (ix2 r j)
    = Mix.hf (pars ao sg bs lg lb co bg mo gf) (row x ya ys v gin r) j := by
  pointwise [k0_pay2, k0_pay8]
  simp only [x1_at x ya ys v gin ao sg bs lg lb co bg mo gf]
  rfl

end Cert.BlendProof.Tile
end
-- ==== Proof.BlendRef.lean ====
module

public import proofs.«01_k».proof.Proof.Gen.BlendRefIdeal.Read
public import proofs.«01_k».proof.Proof.MixRow

/-! The reference of the forward mixing call, row by row. -/

@[expose] public section

set_option maxRecDepth 16384

noncomputable section

open Idealize.ShloMosaic Idealize.ShloMosaic.TcCoe Idealize.SL.Sem

namespace Cert.BlendProof

open Cert.BlendRefIdeal Cert.BlendRefIdeal.Gen Cert.BlendRefIdeal.Read

variable (x : FVec Ideal S8192x1024 .f32) (ya : FVec Ideal S8192x512 .bf16) (ys v : FVec Ideal S8192x256 .f32) (gin : FVec Ideal S8192x3072 .f32)
  (ao : FVec Ideal S512x1024 .bf16) (sg : FVec Ideal S256x2048 .bf16) (bs : FVec Ideal S2048 .f32) (lg lb : FVec Ideal S256 .f32)
  (co : FVec Ideal S256x1024 .bf16) (bg : FVec Ideal S3072 .f32) (mo : FVec Ideal S1024x1024 .bf16) (gf : FVec Ideal S1024 .f32)

/-- The weights, and row `r`. -/
def pars : Mix.Pars := ⟨fun i j => ao (ix2 i j), fun i j => sg (ix2 i j), fun j => bs (ix1 j), fun j => lg (ix1 j), fun j => lb (ix1 j),
  fun i j => co (ix2 i j), fun j => bg (ix1 j), fun i j => mo (ix2 i j), fun j => gf (ix1 j)⟩
def row (r : Fin 8192) : Mix.Row := ⟨fun j => x (ix2 r j), fun j => ya (ix2 r j), fun j => ys (ix2 r j), fun j => v (ix2 r j), fun j => gin (ix2 r j)⟩

theorem yattn_at (r : Fin 8192) (j : Fin 1024) : (val_main_v2 (F := Ideal) ya ao : FVec Ideal S8192x1024 .f32) (ix2 r j)
    = Mix.yattn (pars ao sg bs lg lb co bg mo gf) (row x ya ys v gin r) j := by
  pointwise [val_main_v2, val_main_v1, val_main_v0]
  rfl

theorem gelu_at (r : Fin 8192) (k : Fin 256) : (val_main_v15 (F := Ideal) ys : FVec Ideal S8192x256 .f32) (ix2 r k) = Mix.gelu (ys (ix2 r k)) := by
  pointwise [val_main_v15, val_main_v14, val_main_v13, val_main_v12, val_main_v11, val_main_v10, val_main_v9, val_main_v8, val_main_v7, val_main_v6,
    val_main_v5, val_main_v4, val_main_v3, val_main_cst, val_main_cst_0, val_main_cst_1, val_main_cst_2]
  rw [mul_comm (ys (ix2 r k) * ys (ix2 r k))]
  rfl

theorem glu_at (r : Fin 8192) (j : Fin 2048) : (val_main_v20 (F := Ideal) ys sg bs : FVec Ideal S8192x2048 .f32) (ix2 r j)
    = Mix.glu (pars ao sg bs lg lb co bg mo gf) (row x ya ys v gin r) j := by
  pointwise [val_main_v20, val_main_v19, val_main_v18, val_main_v17, val_main_v16]
  simp only [gelu_at]
  rfl

theorem yssm_at (r : Fin 8192) (j : Fin 1024) : (val_main_v29 (F := Ideal) ys sg bs : FVec Ideal S8192x1024 .f32) (ix2 r j)
    = Mix.yssm (pars ao sg bs lg lb co bg mo gf) (row x ya ys v gin r) j := by
  pointwise [val_main_v29, val_main_v28, val_main_v27, val_main_v26, val_main_v25, val_main_v24, val_main_v23, val_main_v22, val_main_v21, val_main_cst_3, val_main_cst_4]
  simp only [glu_at x ya ys v gin ao sg bs lg lb co bg mo gf]
  rfl

theorem cen_at (r : Fin 8192) (k : Fin 256) : (val_main_v35 (F := Ideal) v : FVec Ideal S8192x256 .f32) (ix2 r k) = Mix.cen (fun k => v (ix2 r k)) k := by
  pointwise [val_main_v35, val_main_v34, val_main_v33, val_main_v32, val_main_v31, val_main_v30, val_main_cst_5, val_main_cst_6]
  rfl

theorem var_at (r : Fin 8192) (u : Fin 1) : (val_main_v44 (F := Ideal) v : FVec Ideal S8192x1 .f32) (ix2 r u) = Mix.var (fun k => v (ix2 r k)) := by
  pointwise [val_main_v44, val_main_v43, val_main_v40, val_main_v39, val_main_v38, val_main_v37, val_main_v36, val_main_cst_7, val_main_cst_8, val_main_cst_9]
  simp only [cen_at]
  rfl

theorem pre_at (r : Fin 8192) (k : Fin 256) : (val_main_v53 (F := Ideal) v lg lb : FVec Ideal S8192x256 .f32) (ix2 r k)
    = Mix.pre (pars ao sg bs lg lb co bg mo gf) (row x ya ys v gin r) k := by
  pointwise [val_main_v53, val_main_v52, val_main_v51, val_main_v50, val_main_v49, val_main_v48, val_main_v47, val_main_v46, val_main_v45, val_main_v42, val_main_v41,
    val_main_v33, val_main_v32, val_main_v31, val_main_v30, val_main_cst_5, val_main_cst_6]
  simp only [var_at]
  rfl

theorem silu_at (r : Fin 8192) (k : Fin 256) : (val_main_v54 (F := Ideal) v lg lb : FVec Ideal S8192x256 .f32) (ix2 r k)
    = Mix.silu (pars ao sg bs lg lb co bg mo gf) (row x ya ys v gin r) k := by
  pointwise [val_main_v54, val_main_call0_v5, val_main_call0_v4, val_main_call0_v3, val_main_call0_v2, val_main_call0_v1, val_main_call0_v0, val_main_call0_cst, val_main_call0_cst_0]
  simp only [pre_at x ya ys v gin ao sg bs lg lb co bg mo gf]
  rfl

theorem yconv_at (r : Fin 8192) (j : Fin 1024) : (val_main_v56 (F := Ideal) v lg lb co : FVec Ideal S8192x1024 .f32) (ix2 r j)
    = Mix.yconv (pars ao sg bs lg lb co bg mo gf) (row x ya ys v gin r) j := by
  pointwise [val_main_v56, val_main_v55]
  simp only [silu_at x ya ys v gin ao sg bs lg lb co bg mo gf]
  rfl

theorem gates_at (r : Fin 8192) (j : Fin 3072) : (val_main_v65 (F := Ideal) gin bg : FVec Ideal S8192x3072 .f32) (ix2 r j)
    = Mix.gates (pars ao sg bs lg lb co bg mo gf) (row x ya ys v gin r) j := by
  pointwise [val_main_v65, val_main_v64, val_main_v63, val_main_v62, val_main_v61, val_main_v60, val_main_v59, val_main_v58, val_main_v57, val_main_cst_10, val_main_cst_11]
  rfl

theorem mixed_at (r : Fin 8192) (j : Fin 1024) : (val_main_v73 (F := Ideal) ya ys v gin ao sg bs lg lb co bg : FVec Ideal S8192x1024 .f32) (ix2 r j)
    = Mix.mixed (pars ao sg bs lg lb co bg mo gf) (row x ya ys v gin r) j := by
  pointwise [val_main_v73, val_main_v72, val_main_v71, val_main_v70, val_main_v69, val_main_v68, val_main_v67, val_main_v66]
  simp only [gates_at x ya ys v gin ao sg bs lg lb co bg mo gf, yattn_at x ya ys v gin ao sg bs lg lb co bg mo gf, yssm_at x ya ys v gin ao sg bs lg lb co bg mo gf,
    yconv_at x ya ys v gin ao sg bs lg lb co bg mo gf]
  rfl

/-- The reference's new row. -/
theorem x1_at (r : Fin 8192) (j : Fin 1024) : (val_main_v76 (F := Ideal) x ya ys v gin ao sg bs lg lb co bg mo : FVec Ideal S8192x1024 .f32) (ix2 r j)
    = Mix.x1 (pars ao sg bs lg lb co bg mo gf) (row x ya ys v gin r) j := by
  pointwise [val_main_v76, val_main_v75, val_main_v74]
  simp only [mixed_at x ya ys v gin ao sg bs lg lb co bg mo gf]
  rfl

/-- The reference's normalised row. -/
theorem hf_at (r : Fin 8192) (j : Fin 1024) : (val_main_v90 (F := Ideal) x ya ys v gin ao sg bs lg lb co bg mo gf : FVec Ideal S8192x1024 .bf16) (ix2 r j)
    = Mix.hf (pars ao sg bs lg lb co bg mo gf) (row x ya ys v gin r) j := by
  pointwise [val_main_v90, val_main_v89, val_main_v88, val_main_v87, val_main_v86, val_main_v85, val_main_v84, val_main_v83, val_main_v82, val_main_v81, val_main_v80,
    val_main_v79, val_main_v78, val_main_v77, val_main_cst_12, val_main_cst_13, val_main_cst_14]
  simp only [x1_at x ya ys v gin ao sg bs lg lb co bg mo gf]
  rfl

end Cert.BlendProof
end
-- ==== Proof.BlendArr.lean ====
module

public import proofs.«01_k».proof.Proof.BlendKernel
public import proofs.«01_k».proof.Proof.BlendRef

/-! The two arrays of the forward mixing call. -/

@[expose] public section

set_option maxRecDepth 16384

noncomputable section

open Idealize.ShloMosaic Idealize.ShloMosaic.TcCoe Idealize.SL.Sem
open Idealize.ShloMosaic.Pipeline (Dat)

namespace Cert.BlendProof

open Cert.BlendIdeal Cert.BlendIdeal.Gen

variable (m : (ℓ : Loc nD τ sig) → Buf (Elt Ideal) ℓ) (c : Dev nD) (t : Fin cfg0.N)

theorem tile_x1 : (outsAt0 m c t).1
    = k0_pay1 (F := Ideal) (iblk m c 0 t) (k0_pay11 (iblk m c 12 t)) (k0_pay12 (iblk m c 1 t) (iblk m c 5 t)) (k0_pay14 (iblk m c 2 t) (k0_pay4 (iblk m c 7 t)) (k0_pay9 (iblk m c 6 t)) (k0_pay13 (iblk m c 2 t)))
      (k0_pay15 (iblk m c 3 t) (k0_pay5 (iblk m c 8 t)) (k0_pay6 (iblk m c 9 t)) (k0_pay10 (iblk m c 10 t))) (k0_pay16 (k0_pay3 (X0_4 m c t)) (k0_pay7 (iblk m c 11 t))) := by
  unfold outsAt0
  dsimp only
  unfold out0_A_14
  rw [View.read_writes_junk_eq_canon]
  unfold kernelRun0_A
  dsimp only
  simp (disch := decide) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16,
    View.canon_cons_unit_lit', View.readCov_unit_lit', View.readCov_cons_unit_lit', View.ld_unit_lit', View.readAt_eq_ld, Memref.IsWhole.read_unread]

theorem tile_hf : (outsAt0 m c t).2
    = k0_pay2 (F := Ideal) (iblk m c 0 t) (k0_pay8 (iblk m c 13 t)) (k0_pay11 (iblk m c 12 t)) (k0_pay12 (iblk m c 1 t) (iblk m c 5 t)) (k0_pay14 (iblk m c 2 t) (k0_pay4 (iblk m c 7 t)) (k0_pay9 (iblk m c 6 t)) (k0_pay13 (iblk m c 2 t)))
      (k0_pay15 (iblk m c 3 t) (k0_pay5 (iblk m c 8 t)) (k0_pay6 (iblk m c 9 t)) (k0_pay10 (iblk m c 10 t))) (k0_pay16 (k0_pay3 (X0_4 m c t)) (k0_pay7 (iblk m c 11 t))) := by
  unfold outsAt0
  dsimp only
  unfold out0_A_15
  rw [View.read_writes_junk_eq_canon]
  unfold kernelRun0_A
  dsimp only
  simp (disch := decide) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16,
    View.canon_cons_unit_lit', View.readCov_unit_lit', View.readCov_cons_unit_lit', View.ld_unit_lit', View.readAt_eq_ld, Memref.IsWhole.read_unread]

theorem lt_t (t : Fin cfg0.N) : t.val < 16 := t.isLt

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val, 0] :=
  (by decide +kernel : ∀ t : Fin grid0.N, _)

/-- The weights and row `r` of the arguments. -/
abbrev pA : Mix.Pars := pars (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11)) (m ((c : Thread nD τ).loc main_arg12)) (m ((c : Thread nD τ).loc main_arg13))
abbrev rA (r : Fin 8192) : Mix.Row := row (m ((c : Thread nD τ).loc main_arg0)) (m ((c : Thread nD τ).loc main_arg1)) (m ((c : Thread nD τ).loc main_arg2))
  (m ((c : Thread nD τ).loc main_arg3)) (m ((c : Thread nD τ).loc main_arg4)) r

/-- Row `r` of tile `n` among all rows. -/
abbrev at_ (n : ℕ) (r : Fin 512) : Fin 8192 := Fin.ofNat 8192 (n * 512 + r.val)

theorem at_eq (n : ℕ) (h : n < 16) (r : Fin 512) : at_ n r = ⟨n * 512 + r.val, by omega⟩ :=
  Fin.ext (Nat.mod_eq_of_lt (by omega))

/-- The gates' columns of the wide array. -/
theorem entry_z (r : Fin 8192) (j : Fin 3072) : (V m c main_v1 : FVec Ideal S8192x4608 .f32) (ix2 r ⟨j.val, by omega⟩) = (m ((c : Thread nD τ).loc main_arg4) : FVec Ideal S8192x3072 .f32) (ix2 r j) := by
  show (StableHlo.after hostOps0 (fun b => m (c, b)) (Proc.devRef .tc main_v1) : FVec Ideal S8192x4608 .f32) (ix2 r ⟨j.val, by omega⟩) = _
  after_results
  pointwise []

theorem blk_gin (r : Fin 512) (j : Fin 3072) : (X0_4 m c t : FVec Ideal S512x3072 .f32) (ix2 r j) = (m ((c : Thread nD τ).loc main_arg4) : FVec Ideal S8192x3072 .f32) (ix2 (at_ t.val r) j) := by
  refine Eq.trans ?_ (entry_z m c (at_ t.val r) j)
  rw [at_eq t.val (lt_t t)]
  unfold X0_4
  unfold Pipeline.Window.fill
  rw [dif_pos (moved0_4 t _)]
  blk_point [iblk, idx t]

theorem entry_bs (u : Fin 1) (j : Fin 2048) : (V m c main_v2 : FVec Ideal S1x2048 .f32) (ix2 u j) = (m ((c : Thread nD τ).loc main_arg7) : FVec Ideal S2048 .f32) (ix1 j) := by
  show (StableHlo.after hostOps0 (fun b => m (c, b)) (Proc.devRef .tc main_v2) : FVec Ideal S1x2048 .f32) (ix2 u j) = _
  after_results
  pointwise []

theorem entry_lg (u : Fin 1) (j : Fin 256) : (V m c main_v3 : FVec Ideal S1x256 .f32) (ix2 u j) = (m ((c : Thread nD τ).loc main_arg8) : FVec Ideal S256 .f32) (ix1 j) := by
  show (StableHlo.after hostOps0 (fun b => m (c, b)) (Proc.devRef .tc main_v3) : FVec Ideal S1x256 .f32) (ix2 u j) = _
  after_results
  pointwise []

theorem entry_lb (u : Fin 1) (j : Fin 256) : (V m c main_v4 : FVec Ideal S1x256 .f32) (ix2 u j) = (m ((c : Thread nD τ).loc main_arg9) : FVec Ideal S256 .f32) (ix1 j) := by
  show (StableHlo.after hostOps0 (fun b => m (c, b)) (Proc.devRef .tc main_v4) : FVec Ideal S1x256 .f32) (ix2 u j) = _
  after_results
  pointwise []

theorem entry_bg (u : Fin 1) (j : Fin 3072) : (V m c main_v5 : FVec Ideal S1x3072 .f32) (ix2 u j) = (m ((c : Thread nD τ).loc main_arg11) : FVec Ideal S3072 .f32) (ix1 j) := by
  show (StableHlo.after hostOps0 (fun b => m (c, b)) (Proc.devRef .tc main_v5) : FVec Ideal S1x3072 .f32) (ix2 u j) = _
  after_results
  pointwise []

theorem entry_gf (u : Fin 1) (j : Fin 1024) : (V m c main_v6 : FVec Ideal S1x1024 .f32) (ix2 u j) = (m ((c : Thread nD τ).loc main_arg13) : FVec Ideal S1024 .f32) (ix1 j) := by
  show (StableHlo.after hostOps0 (fun b => m (c, b)) (Proc.devRef .tc main_v6) : FVec Ideal S1x1024 .f32) (ix2 u j) = _
  after_results
  pointwise []

theorem blk_bs (j : Fin 2048) : (iblk m c 7 t : FVec Ideal S1x2048 .f32) (ix2 0 j) = (m ((c : Thread nD τ).loc main_arg7) : FVec Ideal S2048 .f32) (ix1 j) := by
  refine Eq.trans ?_ (entry_bs m c 0 j)
  blk_point [iblk, idx t]

theorem blk_lg (j : Fin 256) : (iblk m c 8 t : FVec Ideal S1x256 .f32) (ix2 0 j) = (m ((c : Thread nD τ).loc main_arg8) : FVec Ideal S256 .f32) (ix1 j) := by
  refine Eq.trans ?_ (entry_lg m c 0 j)
  blk_point [iblk, idx t]

theorem blk_lb (j : Fin 256) : (iblk m c 9 t : FVec Ideal S1x256 .f32) (ix2 0 j) = (m ((c : Thread nD τ).loc main_arg9) : FVec Ideal S256 .f32) (ix1 j) := by
  refine Eq.trans ?_ (entry_lb m c 0 j)
  blk_point [iblk, idx t]

theorem blk_bg (j : Fin 3072) : (iblk m c 11 t : FVec Ideal S1x3072 .f32) (ix2 0 j) = (m ((c : Thread nD τ).loc main_arg11) : FVec Ideal S3072 .f32) (ix1 j) := by
  refine Eq.trans ?_ (entry_bg m c 0 j)
  blk_point [iblk, idx t]

theorem blk_gf (j : Fin 1024) : (iblk m c 13 t : FVec Ideal S1x1024 .f32) (ix2 0 j) = (m ((c : Thread nD τ).loc main_arg13) : FVec Ideal S1024 .f32) (ix1 j) := by
  refine Eq.trans ?_ (entry_gf m c 0 j)
  blk_point [iblk, idx t]

theorem blk_ao (i : Fin 512) (j : Fin 1024) : (iblk m c 5 t : FVec Ideal S512x1024 .bf16) (ix2 i j) = (m ((c : Thread nD τ).loc main_arg5) : FVec Ideal S512x1024 .bf16) (ix2 i j) := by
  refine Eq.trans ?_ (congrFun (V_main_arg5 m c) _)
  show (iblk m c 5 t : FVec Ideal S512x1024 .bf16) (ix2 i j) = _
  blk_point [iblk, idx t]

theorem blk_sg (i : Fin 256) (j : Fin 2048) : (iblk m c 6 t : FVec Ideal S256x2048 .bf16) (ix2 i j) = (m ((c : Thread nD τ).loc main_arg6) : FVec Ideal S256x2048 .bf16) (ix2 i j) := by
  refine Eq.trans ?_ (congrFun (V_main_arg6 m c) _)
  show (iblk m c 6 t : FVec Ideal S256x2048 .bf16) (ix2 i j) = _
  blk_point [iblk, idx t]

theorem blk_co (i : Fin 256) (j : Fin 1024) : (iblk m c 10 t : FVec Ideal S256x1024 .bf16) (ix2 i j) = (m ((c : Thread nD τ).loc main_arg10) : FVec Ideal S256x1024 .bf16) (ix2 i j) := by
  refine Eq.trans ?_ (congrFun (V_main_arg10 m c) _)
  show (iblk m c 10 t : FVec Ideal S256x1024 .bf16) (ix2 i j) = _
  blk_point [iblk, idx t]

theorem blk_mo (i : Fin 1024) (j : Fin 1024) : (iblk m c 12 t : FVec Ideal S1024x1024 .bf16) (ix2 i j) = (m ((c : Thread nD τ).loc main_arg12) : FVec Ideal S1024x1024 .bf16) (ix2 i j) := by
  refine Eq.trans ?_ (congrFun (V_main_arg12 m c) _)
  show (iblk m c 12 t : FVec Ideal S1024x1024 .bf16) (ix2 i j) = _
  blk_point [iblk, idx t]

theorem blk_x (r : Fin 512) (j : Fin 1024) : (iblk m c 0 t : FVec Ideal S512x1024 .f32) (ix2 r j) = (m ((c : Thread nD τ).loc main_arg0) : FVec Ideal S8192x1024 .f32) (ix2 (at_ t.val r) j) := by
  rw [at_eq t.val (lt_t t)]
  refine Eq.trans ?_ (congrFun (V_main_arg0 m c) _)
  show (iblk m c 0 t : FVec Ideal S512x1024 .f32) (ix2 r j) = _
  blk_point [iblk, idx t]

theorem blk_ya (r : Fin 512) (j : Fin 512) : (iblk m c 1 t : FVec Ideal S512x512 .bf16) (ix2 r j) = (m ((c : Thread nD τ).loc main_arg1) : FVec Ideal S8192x512 .bf16) (ix2 (at_ t.val r) j) := by
  rw [at_eq t.val (lt_t t)]
  refine Eq.trans ?_ (congrFun (V_main_arg1 m c) _)
  show (iblk m c 1 t : FVec Ideal S512x512 .bf16) (ix2 r j) = _
  blk_point [iblk, idx t]

theorem blk_ys (r : Fin 512) (j : Fin 256) : (iblk m c 2 t : FVec Ideal S512x256 .f32) (ix2 r j) = (m ((c : Thread nD τ).loc main_arg2) : FVec Ideal S8192x256 .f32) (ix2 (at_ t.val r) j) := by
  rw [at_eq t.val (lt_t t)]
  refine Eq.trans ?_ (congrFun (V_main_arg2 m c) _)
  show (iblk m c 2 t : FVec Ideal S512x256 .f32) (ix2 r j) = _
  blk_point [iblk, idx t]

theorem blk_v (r : Fin 512) (j : Fin 256) : (iblk m c 3 t : FVec Ideal S512x256 .f32) (ix2 r j) = (m ((c : Thread nD τ).loc main_arg3) : FVec Ideal S8192x256 .f32) (ix2 (at_ t.val r) j) := by
  rw [at_eq t.val (lt_t t)]
  refine Eq.trans ?_ (congrFun (V_main_arg3 m c) _)
  show (iblk m c 3 t : FVec Ideal S512x256 .f32) (ix2 r j) = _
  blk_point [iblk, idx t]

theorem blk_pars : Tile.pars (iblk m c 5 t) (iblk m c 6 t) (iblk m c 7 t) (iblk m c 8 t) (iblk m c 9 t) (iblk m c 10 t) (iblk m c 11 t) (iblk m c 12 t) (iblk m c 13 t) = pA m c := by
  unfold Tile.pars pA pars
  simp only [Mix.Pars.mk.injEq]
  exact ⟨funext fun i => funext fun j => blk_ao m c t i j, funext fun i => funext fun j => blk_sg m c t i j, funext fun j => blk_bs m c t j, funext fun j => blk_lg m c t j,
    funext fun j => blk_lb m c t j, funext fun i => funext fun j => blk_co m c t i j, funext fun j => blk_bg m c t j, funext fun i => funext fun j => blk_mo m c t i j,
    funext fun j => blk_gf m c t j⟩

theorem blk_row (r : Fin 512) : Tile.row (iblk m c 0 t) (iblk m c 1 t) (iblk m c 2 t) (iblk m c 3 t) (X0_4 m c t) r = rA m c (at_ t.val r) := by
  unfold Tile.row rA row
  simp only [Mix.Row.mk.injEq]
  exact ⟨funext fun j => blk_x m c t r j, funext fun j => blk_ya m c t r j, funext fun j => blk_ys m c t r j, funext fun j => blk_v m c t r j, funext fun j => blk_gin m c t r j⟩

theorem x1_tile (r : Fin 512) (j : Fin 1024) : k0_pay1 (F := Ideal) (iblk m c 0 t) (k0_pay11 (iblk m c 12 t)) (k0_pay12 (iblk m c 1 t) (iblk m c 5 t)) (k0_pay14 (iblk m c 2 t) (k0_pay4 (iblk m c 7 t)) (k0_pay9 (iblk m c 6 t)) (k0_pay13 (iblk m c 2 t)))
      (k0_pay15 (iblk m c 3 t) (k0_pay5 (iblk m c 8 t)) (k0_pay6 (iblk m c 9 t)) (k0_pay10 (iblk m c 10 t))) (k0_pay16 (k0_pay3 (X0_4 m c t)) (k0_pay7 (iblk m c 11 t))) (ix2 r j) = Mix.x1 (pA m c) (rA m c (at_ t.val r)) j := by
  refine (Tile.x1_at (iblk m c 0 t) (iblk m c 1 t) (iblk m c 2 t) (iblk m c 3 t) (X0_4 m c t) (iblk m c 5 t) (iblk m c 6 t) (iblk m c 7 t)
    (iblk m c 8 t) (iblk m c 9 t) (iblk m c 10 t) (iblk m c 11 t) (iblk m c 12 t) (iblk m c 13 t) r j).trans ?_
  rw [blk_pars, blk_row]

theorem arr14 : ((dats m 0 c).arrAt 14 cfg0.N : FVec Ideal S8192x1024 .f32) = fun i => Mix.x1 (pA m c) (rA m c (i 0)) (i 1) := by
  refine (dats m 0 c).arrAt_eq_of_covers 14 _ (by decide +kernel) fun t _ y => ?_
  blk_simp
  rw [after0_14, tile_x1]
  have e0 : ((win0_14.blk t).view.emb y 0 : Fin 8192) = at_ t.val (y 0) := Eq.trans (Fin.ext (by blk_simp [idx t])) (at_eq t.val (lt_t t) (y 0)).symm
  have e1 : ((win0_14.blk t).view.emb y 1 : Fin 1024) = y 1 := Fin.ext (by blk_simp [idx t])
  rw [e0, e1]
  exact (congrArg _ (ValueIdx.eq_ix2 (n0 := 512) (n1 := 1024) y)).trans (x1_tile m c t (y 0) (y 1))

theorem hf_tile (r : Fin 512) (j : Fin 1024) : k0_pay2 (F := Ideal) (iblk m c 0 t) (k0_pay8 (iblk m c 13 t)) (k0_pay11 (iblk m c 12 t)) (k0_pay12 (iblk m c 1 t) (iblk m c 5 t)) (k0_pay14 (iblk m c 2 t) (k0_pay4 (iblk m c 7 t)) (k0_pay9 (iblk m c 6 t)) (k0_pay13 (iblk m c 2 t)))
      (k0_pay15 (iblk m c 3 t) (k0_pay5 (iblk m c 8 t)) (k0_pay6 (iblk m c 9 t)) (k0_pay10 (iblk m c 10 t))) (k0_pay16 (k0_pay3 (X0_4 m c t)) (k0_pay7 (iblk m c 11 t))) (ix2 r j) = Mix.hf (pA m c) (rA m c (at_ t.val r)) j := by
  refine (Tile.hf_at (iblk m c 0 t) (iblk m c 1 t) (iblk m c 2 t) (iblk m c 3 t) (X0_4 m c t) (iblk m c 5 t) (iblk m c 6 t) (iblk m c 7 t)
    (iblk m c 8 t) (iblk m c 9 t) (iblk m c 10 t) (iblk m c 11 t) (iblk m c 12 t) (iblk m c 13 t) r j).trans ?_
  rw [blk_pars, blk_row]

theorem arr15 : ((dats m 0 c).arrAt 15 cfg0.N : FVec Ideal S8192x1024 .bf16) = fun i => Mix.hf (pA m c) (rA m c (i 0)) (i 1) := by
  refine (dats m 0 c).arrAt_eq_of_covers 15 _ (by decide +kernel) fun t _ y => ?_
  blk_simp
  rw [after0_15, tile_hf]
  have e0 : ((win0_15.blk t).view.emb y 0 : Fin 8192) = at_ t.val (y 0) := Eq.trans (Fin.ext (by blk_simp [idx t])) (at_eq t.val (lt_t t) (y 0)).symm
  have e1 : ((win0_15.blk t).view.emb y 1 : Fin 1024) = y 1 := Fin.ext (by blk_simp [idx t])
  rw [e0, e1]
  exact (congrArg _ (ValueIdx.eq_ix2 (n0 := 512) (n1 := 1024) y)).trans (hf_tile m c t (y 0) (y 1))

end Cert.BlendProof
end
-- ==== Proof.BlendEq.lean ====
module

public import proofs.«01_k».proof.Defs
public import proofs.«01_k».proof.Proof.BlendArr
public import proofs.«01_k».proof.Proof.Gen.BlendIdeal
public import proofs.«01_k».proof.Proof.Gen.BlendRefIdeal
public import proofs.«01_k».proof.Proof.Gen.BlendRefIdeal.Run
public import Idealize.ShloMosaic.Lib.Claim

/-! The forward mixing call computes the reference's rows. -/

@[expose] public section

set_option maxRecDepth 16384

noncomputable section

namespace Cert.BlendProof

open Idealize.ShloMosaic Idealize.ShloMosaic.TcCoe Idealize.SL.Sem

theorem ref_frame (m : (ℓ : Loc Cert.BlendRefIdeal.nD Cert.BlendRefIdeal.τ Cert.BlendRefIdeal.sig) → Buf (Elt Ideal) ℓ) (ρ : Dev Cert.BlendRefIdeal.nD → PrngReg) :
    θ_run (Cert.BlendRefIdeal.defs (F := Ideal)) (onTc (τ := Cert.BlendRefIdeal.τ) (Cert.BlendRefIdeal.main (F := Ideal))) ⟨m, fun _ => 0, ρ⟩ (fun r => (∀ c : Dev Cert.BlendRefIdeal.nD,
      r.2.mem ((c.tc : Thread Cert.BlendRefIdeal.nD Cert.BlendRefIdeal.τ).loc Cert.BlendRefIdeal.main_arg0) = m ((c.tc : Thread Cert.BlendRefIdeal.nD Cert.BlendRefIdeal.τ).loc Cert.BlendRefIdeal.main_arg0)
      ∧ r.2.mem ((c.tc : Thread Cert.BlendRefIdeal.nD Cert.BlendRefIdeal.τ).loc Cert.BlendRefIdeal.main_arg1) = m ((c.tc : Thread Cert.BlendRefIdeal.nD Cert.BlendRefIdeal.τ).loc Cert.BlendRefIdeal.main_arg1)
      ∧ r.2.mem ((c.tc : Thread Cert.BlendRefIdeal.nD Cert.BlendRefIdeal.τ).loc Cert.BlendRefIdeal.main_arg2) = m ((c.tc : Thread Cert.BlendRefIdeal.nD Cert.BlendRefIdeal.τ).loc Cert.BlendRefIdeal.main_arg2)
      ∧ r.2.mem ((c.tc : Thread Cert.BlendRefIdeal.nD Cert.BlendRefIdeal.τ).loc Cert.BlendRefIdeal.main_arg3) = m ((c.tc : Thread Cert.BlendRefIdeal.nD Cert.BlendRefIdeal.τ).loc Cert.BlendRefIdeal.main_arg3)
      ∧ r.2.mem ((c.tc : Thread Cert.BlendRefIdeal.nD Cert.BlendRefIdeal.τ).loc Cert.BlendRefIdeal.main_arg4) = m ((c.tc : Thread Cert.BlendRefIdeal.nD Cert.BlendRefIdeal.τ).loc Cert.BlendRefIdeal.main_arg4)
      ∧ r.2.mem ((c.tc : Thread Cert.BlendRefIdeal.nD Cert.BlendRefIdeal.τ).loc Cert.BlendRefIdeal.main_arg5) = m ((c.tc : Thread Cert.BlendRefIdeal.nD Cert.BlendRefIdeal.τ).loc Cert.BlendRefIdeal.main_arg5)
      ∧ r.2.mem ((c.tc : Thread Cert.BlendRefIdeal.nD Cert.BlendRefIdeal.τ).loc Cert.BlendRefIdeal.main_arg6) = m ((c.tc : Thread Cert.BlendRefIdeal.nD Cert.BlendRefIdeal.τ).loc Cert.BlendRefIdeal.main_arg6)
      ∧ r.2.mem ((c.tc : Thread Cert.BlendRefIdeal.nD Cert.BlendRefIdeal.τ).loc Cert.BlendRefIdeal.main_arg7) = m ((c.tc : Thread Cert.BlendRefIdeal.nD Cert.BlendRefIdeal.τ).loc Cert.BlendRefIdeal.main_arg7)
      ∧ r.2.mem ((c.tc : Thread Cert.BlendRefIdeal.nD Cert.BlendRefIdeal.τ).loc Cert.BlendRefIdeal.main_arg8) = m ((c.tc : Thread Cert.BlendRefIdeal.nD Cert.BlendRefIdeal.τ).loc Cert.BlendRefIdeal.main_arg8)
      ∧ r.2.mem ((c.tc : Thread Cert.BlendRefIdeal.nD Cert.BlendRefIdeal.τ).loc Cert.BlendRefIdeal.main_arg9) = m ((c.tc : Thread Cert.BlendRefIdeal.nD Cert.BlendRefIdeal.τ).loc Cert.BlendRefIdeal.main_arg9)
      ∧ r.2.mem ((c.tc : Thread Cert.BlendRefIdeal.nD Cert.BlendRefIdeal.τ).loc Cert.BlendRefIdeal.main_arg10) = m ((c.tc : Thread Cert.BlendRefIdeal.nD Cert.BlendRefIdeal.τ).loc Cert.BlendRefIdeal.main_arg10)
      ∧ r.2.mem ((c.tc : Thread Cert.BlendRefIdeal.nD Cert.BlendRefIdeal.τ).loc Cert.BlendRefIdeal.main_arg11) = m ((c.tc : Thread Cert.BlendRefIdeal.nD Cert.BlendRefIdeal.τ).loc Cert.BlendRefIdeal.main_arg11)
      ∧ r.2.mem ((c.tc : Thread Cert.BlendRefIdeal.nD Cert.BlendRefIdeal.τ).loc Cert.BlendRefIdeal.main_arg12) = m ((c.tc : Thread Cert.BlendRefIdeal.nD Cert.BlendRefIdeal.τ).loc Cert.BlendRefIdeal.main_arg12)
      ∧ r.2.mem ((c.tc : Thread Cert.BlendRefIdeal.nD Cert.BlendRefIdeal.τ).loc Cert.BlendRefIdeal.main_arg13) = m ((c.tc : Thread Cert.BlendRefIdeal.nD Cert.BlendRefIdeal.τ).loc Cert.BlendRefIdeal.main_arg13))
      ∧ r.2.sem = fun _ => 0) :=
  (θ_run _ _ _).mono (fun r h => ⟨fun c => (h c).2.2, Idealize.ShloMosaic.sem_eq_zero_of_no_sems (by decide) r.2⟩)
    (Cert.BlendRefIdeal.Value.run (F := Ideal) m ρ)

variable (m : (ℓ : Loc Cert.BlendIdeal.nD Cert.BlendIdeal.τ Cert.BlendIdeal.sig) → Buf (Elt Ideal) ℓ) (c : Dev Cert.BlendIdeal.nD)

theorem same_x1 : (Cert.BlendRefIdeal.Read.val_main_v76 (F := Ideal) (m ((c : Thread Cert.BlendIdeal.nD Cert.BlendIdeal.τ).loc Cert.BlendIdeal.main_arg0)) (m ((c : Thread Cert.BlendIdeal.nD Cert.BlendIdeal.τ).loc Cert.BlendIdeal.main_arg1)) (m ((c : Thread Cert.BlendIdeal.nD Cert.BlendIdeal.τ).loc Cert.BlendIdeal.main_arg2)) (m ((c : Thread Cert.BlendIdeal.nD Cert.BlendIdeal.τ).loc Cert.BlendIdeal.main_arg3)) (m ((c : Thread Cert.BlendIdeal.nD Cert.BlendIdeal.τ).loc Cert.BlendIdeal.main_arg4)) (m ((c : Thread Cert.BlendIdeal.nD Cert.BlendIdeal.τ).loc Cert.BlendIdeal.main_arg5)) (m ((c : Thread Cert.BlendIdeal.nD Cert.BlendIdeal.τ).loc Cert.BlendIdeal.main_arg6)) (m ((c : Thread Cert.BlendIdeal.nD Cert.BlendIdeal.τ).loc Cert.BlendIdeal.main_arg7)) (m ((c : Thread Cert.BlendIdeal.nD Cert.BlendIdeal.τ).loc Cert.BlendIdeal.main_arg8)) (m ((c : Thread Cert.BlendIdeal.nD Cert.BlendIdeal.τ).loc Cert.BlendIdeal.main_arg9)) (m ((c : Thread Cert.BlendIdeal.nD Cert.BlendIdeal.τ).loc Cert.BlendIdeal.main_arg10)) (m ((c : Thread Cert.BlendIdeal.nD Cert.BlendIdeal.τ).loc Cert.BlendIdeal.main_arg11)) (m ((c : Thread Cert.BlendIdeal.nD Cert.BlendIdeal.τ).loc Cert.BlendIdeal.main_arg12)) : FVec Ideal Cert.BlendIdeal.S8192x1024 .f32)
    = (Cert.BlendIdeal.Gen.dats m 0 c).arrAt 14 Cert.BlendIdeal.cfg0.N := by
  rw [arr14]
  funext i
  exact (congrArg _ (ValueIdx.eq_ix2 i)).trans (x1_at _ _ _ _ _ _ _ _ _ _ _ _ _ _ (i 0) (i 1))

theorem same_hf : (Cert.BlendRefIdeal.Read.val_main_v90 (F := Ideal) (m ((c : Thread Cert.BlendIdeal.nD Cert.BlendIdeal.τ).loc Cert.BlendIdeal.main_arg0)) (m ((c : Thread Cert.BlendIdeal.nD Cert.BlendIdeal.τ).loc Cert.BlendIdeal.main_arg1)) (m ((c : Thread Cert.BlendIdeal.nD Cert.BlendIdeal.τ).loc Cert.BlendIdeal.main_arg2)) (m ((c : Thread Cert.BlendIdeal.nD Cert.BlendIdeal.τ).loc Cert.BlendIdeal.main_arg3)) (m ((c : Thread Cert.BlendIdeal.nD Cert.BlendIdeal.τ).loc Cert.BlendIdeal.main_arg4)) (m ((c : Thread Cert.BlendIdeal.nD Cert.BlendIdeal.τ).loc Cert.BlendIdeal.main_arg5)) (m ((c : Thread Cert.BlendIdeal.nD Cert.BlendIdeal.τ).loc Cert.BlendIdeal.main_arg6)) (m ((c : Thread Cert.BlendIdeal.nD Cert.BlendIdeal.τ).loc Cert.BlendIdeal.main_arg7)) (m ((c : Thread Cert.BlendIdeal.nD Cert.BlendIdeal.τ).loc Cert.BlendIdeal.main_arg8)) (m ((c : Thread Cert.BlendIdeal.nD Cert.BlendIdeal.τ).loc Cert.BlendIdeal.main_arg9)) (m ((c : Thread Cert.BlendIdeal.nD Cert.BlendIdeal.τ).loc Cert.BlendIdeal.main_arg10)) (m ((c : Thread Cert.BlendIdeal.nD Cert.BlendIdeal.τ).loc Cert.BlendIdeal.main_arg11)) (m ((c : Thread Cert.BlendIdeal.nD Cert.BlendIdeal.τ).loc Cert.BlendIdeal.main_arg12)) (m ((c : Thread Cert.BlendIdeal.nD Cert.BlendIdeal.τ).loc Cert.BlendIdeal.main_arg13)) : FVec Ideal Cert.BlendIdeal.S8192x1024 .bf16)
    = (Cert.BlendIdeal.Gen.dats m 0 c).arrAt 15 Cert.BlendIdeal.cfg0.N := by
  rw [arr15]
  funext i
  exact (congrArg _ (ValueIdx.eq_ix2 i)).trans (hf_at _ _ _ _ _ _ _ _ _ _ _ _ _ _ (i 0) (i 1))

theorem algebraic : Cert.algebraic_BlendIdeal_BlendRefIdeal := by
  pair_intro
  · run_from Cert.BlendIdeal.Value.run_blocks m g
  · run_from Cert.BlendRefIdeal.Value.run m' g'
    · obtain ⟨a0, a1, a2, a3, a4, a5, a6, a7, a8, a9, a10, a11, a12, a13⟩ := hagree c
      rw [Cert.BlendRefIdeal.Read.val_main_v76_eq, a0, a1, a2, a3, a4, a5, a6, a7, a8, a9, a10, a11, a12]
      exact same_x1 m c
    · obtain ⟨a0, a1, a2, a3, a4, a5, a6, a7, a8, a9, a10, a11, a12, a13⟩ := hagree c
      rw [Cert.BlendRefIdeal.Read.val_main_v90_eq, a0, a1, a2, a3, a4, a5, a6, a7, a8, a9, a10, a11, a12, a13]
      exact same_hf m c

end Cert.BlendProof
end
-- ==== Proof.CoeffRow.lean ====
module

public import Idealize.ShloMosaic.PureOps.Ideal.Laws
public import Idealize.ShloMosaic.Lib.Pointwise

/-! The discretised state space of one group of 64 complex states, and the gradient of its parameters. -/

@[expose] public section

noncomputable section

open Idealize.ShloMosaic

namespace Cert.CoeffProof

/-- The largest real part, and one half, as the programs spell them. -/
def cut : EReal := Ideal.ofBits .f32 0xB8D1B717#32
def half : EReal := Ideal.ofBits .f32 0x3F000000#32

/-- One group: the states' real and imaginary parts, the step's logarithm, and the four cotangents. -/
structure Row where
  re : Fin 64 → EReal
  im : Fin 64 → EReal
  step : EReal
  c0 : Fin 64 → EReal
  c1 : Fin 64 → EReal
  c2 : Fin 64 → EReal
  c3 : Fin 64 → EReal

variable (q : Row) (j : Fin 64)

/-- The real part held below the cut, and the gradient of holding it there. -/
def lr : EReal := min (q.re j) cut
def tie : EReal := if q.re j < cut then 1 else if cut = q.re j then half else 0
def dt : EReal := Ideal.exp q.step
def mag : EReal := Ideal.exp (lr q j * dt q)
def cs : EReal := Ideal.cos (q.im j * dt q)
def sn : EReal := Ideal.sin (q.im j * dt q)
/-- The imaginary part of the transition, its real part less one, and the squared length of the state. -/
def ai : EReal := mag q j * sn q j
def xr : EReal := mag q j * cs q j - 1
def den : EReal := lr q j * lr q j + q.im j * q.im j
/-- The numerators of the input's two coefficients. -/
def nr : EReal := xr q j * lr q j + ai q j * q.im j
def ni : EReal := ai q j * lr q j - xr q j * q.im j
/-- The cotangents over the squared length, and the cotangent of that length. -/
def q2 : EReal := Ideal.div (q.c2 j) (den q j)
def q3 : EReal := Ideal.div (q.c3 j) (den q j)
def wt : EReal := -(q.c3 j * Ideal.div 1 (den q j * den q j) * ni q j) + -(q.c2 j * Ideal.div 1 (den q j * den q j) * nr q j)
/-- The cotangents of the transition's two parts. -/
def dai : EReal := q.c1 j + q3 q j * lr q j + q2 q j * q.im j
def dxr : EReal := q.c0 j + -q3 q j * q.im j + q2 q j * lr q j
/-- What the two coefficients give to the state's parts. -/
def dim0 : EReal := xr q j * -q3 q j + ai q j * q2 q j + q.im j * wt q j + wt q j * q.im j
def dre0 : EReal := ai q j * q3 q j + xr q j * q2 q j + lr q j * wt q j + wt q j * lr q j
/-- The cotangents of the sine's and the cosine's angles, and of the magnitude's logarithm. -/
def ds : EReal := mag q j * dai q j * cs q j
def dc : EReal := -(mag q j * dxr q j) * sn q j
def dm : EReal := (dai q j * sn q j + dxr q j * cs q j) * mag q j
/-- The three gradients. -/
def dre : EReal := (dre0 q j + dm q j * dt q) * tie q j
def dim : EReal := dim0 q j + ds q j * dt q + dc q j * dt q
def dstep : EReal := (∑ k, q.im k * ds q k + ∑ k, q.im k * dc q k + ∑ k, lr q k * dm q k) * dt q

end Cert.CoeffProof
end
-- ==== Proof.CoeffKernel.lean ====
module

public import proofs.«01_k».proof.Proof.Gen.CoeffIdeal.Frame
public import proofs.«01_k».proof.Proof.CoeffRow
public import Idealize.ShloMosaic.Lib.Pipeline.ValueKit
public import Idealize.ShloMosaic.Lib.Pointwise

/-! The call's three results, group by group. -/

@[expose] public section

set_option maxRecDepth 16384

noncomputable section

open Idealize.ShloMosaic Idealize.ShloMosaic.TcCoe Idealize.SL.Sem
open Idealize.ShloMosaic.Pipeline (Dat)

namespace Cert.CoeffProof.Tile

open Cert.CoeffIdeal Cert.CoeffIdeal.Gen

variable (x0 x1 : FVec Ideal S64x64 .f32) (x2 : FVec Ideal S64x1 .f32) (x3 x4 x5 x6 : FVec Ideal S64x64 .f32) (r j : Fin 64)

/-- Group `r`. -/
def row : Row := ⟨fun j => x0 (ix2 r j), fun j => x1 (ix2 r j), x2 (ix2 r 0), fun j => x3 (ix2 r j), fun j => x4 (ix2 r j), fun j => x5 (ix2 r j), fun j => x6 (ix2 r j)⟩

theorem im_at : k0_pay37 (F := Ideal) x0 x1 x2 x3 x4 x5 x6 (ix2 r j) = (row x0 x1 x2 x3 x4 x5 x6 r).im j := by
  unfold k0_pay37
  simp (disch := decide) only [View.ld_unit_lit']
  pointwise [k0_pay7]
  rfl

theorem lr_at : k0_pay38 (F := Ideal) x0 x1 x2 x3 x4 x5 x6 (ix2 r j) = lr (row x0 x1 x2 x3 x4 x5 x6 r) j := by
  unfold k0_pay38
  simp (disch := decide) only [View.ld_unit_lit']
  pointwise [k0_pay8, k0_pay6]
  rfl

theorem dt_at : k0_pay39 (F := Ideal) x0 x1 x2 x3 x4 x5 x6 (ix2 r 0) = dt (row x0 x1 x2 x3 x4 x5 x6 r) := by
  unfold k0_pay39
  simp (disch := decide) only [View.ld_unit_lit']
  pointwise [k0_pay10]
  rfl

theorem mag_at : k0_pay40 (F := Ideal) x0 x1 x2 x3 x4 x5 x6 (ix2 r j) = mag (row x0 x1 x2 x3 x4 x5 x6 r) j := by
  unfold k0_pay40
  simp (disch := decide) only [View.ld_unit_lit']
  pointwise [k0_pay11, k0_pay8, k0_pay6, k0_pay10]
  rfl

theorem cs_at : k0_pay41 (F := Ideal) x0 x1 x2 x3 x4 x5 x6 (ix2 r j) = cs (row x0 x1 x2 x3 x4 x5 x6 r) j := by
  unfold k0_pay41
  simp (disch := decide) only [View.ld_unit_lit']
  pointwise [k0_pay13, k0_pay12, k0_pay10, k0_pay7]
  rfl

theorem sn_at : k0_pay42 (F := Ideal) x0 x1 x2 x3 x4 x5 x6 (ix2 r j) = sn (row x0 x1 x2 x3 x4 x5 x6 r) j := by
  unfold k0_pay42
  simp (disch := decide) only [View.ld_unit_lit']
  pointwise [k0_pay14, k0_pay12, k0_pay10, k0_pay7]
  rfl

theorem ai_at : k0_pay43 (F := Ideal) x0 x1 x2 x3 x4 x5 x6 (ix2 r j) = ai (row x0 x1 x2 x3 x4 x5 x6 r) j := by
  unfold k0_pay43
  simp (disch := decide) only [View.ld_unit_lit']
  pointwise [k0_pay18, k0_pay11, k0_pay8, k0_pay6, k0_pay10, k0_pay16, k0_pay15, k0_pay7]
  rfl

theorem den_at : k0_pay44 (F := Ideal) x0 x1 x2 x3 x4 x5 x6 (ix2 r j) = den (row x0 x1 x2 x3 x4 x5 x6 r) j := by
  unfold k0_pay44
  simp (disch := decide) only [View.ld_unit_lit']
  pointwise [k0_pay19, k0_pay8, k0_pay7, k0_pay6]
  rfl

theorem xr_at : k0_pay45 (F := Ideal) x0 x1 x2 x3 x4 x5 x6 (ix2 r j) = xr (row x0 x1 x2 x3 x4 x5 x6 r) j := by
  unfold k0_pay45
  simp (disch := decide) only [View.ld_unit_lit']
  pointwise [k0_pay20, k0_pay11, k0_pay8, k0_pay6, k0_pay10, k0_pay13, k0_pay12, k0_pay7]
  rfl

theorem nr_at : k0_pay46 (F := Ideal) x0 x1 x2 x3 x4 x5 x6 (ix2 r j) = nr (row x0 x1 x2 x3 x4 x5 x6 r) j := by
  unfold k0_pay46
  simp (disch := decide) only [View.ld_unit_lit']
  pointwise [k0_pay21, k0_pay20, k0_pay18, k0_pay11, k0_pay8, k0_pay6, k0_pay10, k0_pay13, k0_pay12, k0_pay16, k0_pay15, k0_pay7]
  rfl

theorem inv_at : k0_pay47 (F := Ideal) x0 x1 x2 x3 x4 x5 x6 (ix2 r j) = Ideal.div 1 (den (row x0 x1 x2 x3 x4 x5 x6 r) j * den (row x0 x1 x2 x3 x4 x5 x6 r) j) := by
  unfold k0_pay47
  simp (disch := decide) only [View.ld_unit_lit']
  pointwise [k0_pay22, k0_pay19, k0_pay8, k0_pay7, k0_pay6]
  rfl

theorem ni_at : k0_pay48 (F := Ideal) x0 x1 x2 x3 x4 x5 x6 (ix2 r j) = ni (row x0 x1 x2 x3 x4 x5 x6 r) j := by
  unfold k0_pay48
  simp (disch := decide) only [View.ld_unit_lit']
  pointwise [k0_pay23, k0_pay20, k0_pay18, k0_pay11, k0_pay8, k0_pay6, k0_pay10, k0_pay13, k0_pay12, k0_pay16, k0_pay15, k0_pay7]
  rfl

theorem sq_at : k0_pay49 (F := Ideal) x0 x1 x2 x3 x4 x5 x6 (ix2 r j) = den (row x0 x1 x2 x3 x4 x5 x6 r) j * den (row x0 x1 x2 x3 x4 x5 x6 r) j := by
  unfold k0_pay49
  simp (disch := decide) only [View.ld_unit_lit']
  pointwise [k0_pay24, k0_pay19, k0_pay8, k0_pay7, k0_pay6]
  rfl

theorem dxr_at : k0_pay50 (F := Ideal) x0 x1 x2 x3 x4 x5 x6 (ix2 r j) = dxr (row x0 x1 x2 x3 x4 x5 x6 r) j := by
  unfold k0_pay50
  simp (disch := decide) only [View.ld_unit_lit']
  pointwise [k0_pay32, k0_pay28, k0_pay27, k0_pay30, k0_pay25, k0_pay26]
  simp only [im_at x0 x1 x2 x3 x4 x5 x6 r, lr_at x0 x1 x2 x3 x4 x5 x6 r, den_at x0 x1 x2 x3 x4 x5 x6 r]
  simp only [zero_sub]
  rfl

theorem dais_at : k0_pay51 (F := Ideal) x0 x1 x2 x3 x4 x5 x6 (ix2 r j) = dai (row x0 x1 x2 x3 x4 x5 x6 r) j * sn (row x0 x1 x2 x3 x4 x5 x6 r) j := by
  unfold k0_pay51
  simp (disch := decide) only [View.ld_unit_lit']
  pointwise [k0_pay35, k0_pay31, k0_pay27, k0_pay30, k0_pay25, k0_pay26, k0_pay16, k0_pay15, k0_pay10, k0_pay7]
  simp only [im_at x0 x1 x2 x3 x4 x5 x6 r, lr_at x0 x1 x2 x3 x4 x5 x6 r, den_at x0 x1 x2 x3 x4 x5 x6 r]
  rfl

theorem ds_at : k0_pay52 (F := Ideal) x0 x1 x2 x3 x4 x5 x6 (ix2 r j) = ds (row x0 x1 x2 x3 x4 x5 x6 r) j := by
  unfold k0_pay52
  simp (disch := decide) only [View.ld_unit_lit']
  pointwise [k0_pay36, k0_pay31, k0_pay27, k0_pay30, k0_pay25, k0_pay26, k0_pay17, k0_pay15, k0_pay10, k0_pay7]
  simp only [im_at x0 x1 x2 x3 x4 x5 x6 r, lr_at x0 x1 x2 x3 x4 x5 x6 r, den_at x0 x1 x2 x3 x4 x5 x6 r, mag_at x0 x1 x2 x3 x4 x5 x6 r]
  rfl

theorem wt_at : k0_pay29 (F := Ideal) (k0_pay46 x0 x1 x2 x3 x4 x5 x6) (k0_pay47 x0 x1 x2 x3 x4 x5 x6) (k0_pay48 x0 x1 x2 x3 x4 x5 x6) (k0_pay49 x0 x1 x2 x3 x4 x5 x6) x5 x6 (ix2 r j) = wt (row x0 x1 x2 x3 x4 x5 x6 r) j := by
  pointwise [k0_pay29, k0_pay26, k0_pay25]
  simp only [nr_at x0 x1 x2 x3 x4 x5 x6 r, inv_at x0 x1 x2 x3 x4 x5 x6 r, ni_at x0 x1 x2 x3 x4 x5 x6 r, sq_at x0 x1 x2 x3 x4 x5 x6 r]
  simp only [zero_sub]
  rfl

theorem dim0_at : k0_pay33 (F := Ideal) (k0_pay37 x0 x1 x2 x3 x4 x5 x6) (k0_pay43 x0 x1 x2 x3 x4 x5 x6) (k0_pay44 x0 x1 x2 x3 x4 x5 x6) (k0_pay45 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) x5 x6 (ix2 r j) = dim0 (row x0 x1 x2 x3 x4 x5 x6 r) j := by
  pointwise [k0_pay33, k0_pay28, k0_pay27, k0_pay26, k0_pay30, k0_pay25]
  simp only [im_at x0 x1 x2 x3 x4 x5 x6 r, ai_at x0 x1 x2 x3 x4 x5 x6 r, den_at x0 x1 x2 x3 x4 x5 x6 r, xr_at x0 x1 x2 x3 x4 x5 x6 r, wt_at x0 x1 x2 x3 x4 x5 x6 r]
  simp only [zero_sub]
  rfl

theorem dre0_at : k0_pay34 (F := Ideal) (k0_pay38 x0 x1 x2 x3 x4 x5 x6) (k0_pay43 x0 x1 x2 x3 x4 x5 x6) (k0_pay44 x0 x1 x2 x3 x4 x5 x6) (k0_pay45 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) x5 x6 (ix2 r j) = dre0 (row x0 x1 x2 x3 x4 x5 x6 r) j := by
  pointwise [k0_pay34, k0_pay27, k0_pay26, k0_pay30, k0_pay25]
  simp only [lr_at x0 x1 x2 x3 x4 x5 x6 r, ai_at x0 x1 x2 x3 x4 x5 x6 r, den_at x0 x1 x2 x3 x4 x5 x6 r, xr_at x0 x1 x2 x3 x4 x5 x6 r, wt_at x0 x1 x2 x3 x4 x5 x6 r]
  rfl

theorem dc_at : k0_pay1 (F := Ideal) (k0_pay40 x0 x1 x2 x3 x4 x5 x6) (k0_pay42 x0 x1 x2 x3 x4 x5 x6) (k0_pay50 x0 x1 x2 x3 x4 x5 x6) (ix2 r j) = dc (row x0 x1 x2 x3 x4 x5 x6 r) j := by
  pointwise [k0_pay1]
  simp only [mag_at x0 x1 x2 x3 x4 x5 x6 r, sn_at x0 x1 x2 x3 x4 x5 x6 r, dxr_at x0 x1 x2 x3 x4 x5 x6 r]
  simp only [zero_sub]
  rfl

theorem dm_at : k0_pay3 (F := Ideal) (k0_pay40 x0 x1 x2 x3 x4 x5 x6) (k0_pay41 x0 x1 x2 x3 x4 x5 x6) (k0_pay50 x0 x1 x2 x3 x4 x5 x6) (k0_pay51 x0 x1 x2 x3 x4 x5 x6) (ix2 r j) = dm (row x0 x1 x2 x3 x4 x5 x6 r) j := by
  pointwise [k0_pay3]
  simp only [mag_at x0 x1 x2 x3 x4 x5 x6 r, cs_at x0 x1 x2 x3 x4 x5 x6 r, dxr_at x0 x1 x2 x3 x4 x5 x6 r, dais_at x0 x1 x2 x3 x4 x5 x6 r]
  rfl

/-- The gradients of the states' two parts and of the step's logarithm. -/
theorem dre_at : out0_7 (F := Ideal) x0 x1 x2 x3 x4 x5 x6 (ix2 r j) = dre (row x0 x1 x2 x3 x4 x5 x6 r) j := by
  unfold out0_7
  simp (disch := decide) only [View.canon_cons_unit_lit', View.ld_unit_lit']
  pointwise [k0_pay5, k0_pay9, k0_pay6]
  simp only [dre0_at x0 x1 x2 x3 x4 x5 x6 r, dm_at x0 x1 x2 x3 x4 x5 x6 r, dt_at x0 x1 x2 x3 x4 x5 x6 r]
  rfl

theorem dim_at : out0_8 (F := Ideal) x0 x1 x2 x3 x4 x5 x6 (ix2 r j) = dim (row x0 x1 x2 x3 x4 x5 x6 r) j := by
  unfold out0_8
  simp (disch := decide) only [View.canon_cons_unit_lit', View.ld_unit_lit']
  pointwise [k0_pay2]
  simp only [dim0_at x0 x1 x2 x3 x4 x5 x6 r, ds_at x0 x1 x2 x3 x4 x5 x6 r, dc_at x0 x1 x2 x3 x4 x5 x6 r, dt_at x0 x1 x2 x3 x4 x5 x6 r]
  rfl

theorem dstep_at : out0_9 (F := Ideal) x0 x1 x2 x3 x4 x5 x6 (ix2 r 0) = dstep (row x0 x1 x2 x3 x4 x5 x6 r) := by
  unfold out0_9
  simp (disch := decide) only [View.canon_cons_unit_lit', View.ld_unit_lit']
  pointwise [k0_pay4]
  simp only [im_at x0 x1 x2 x3 x4 x5 x6 r, ds_at x0 x1 x2 x3 x4 x5 x6 r, dc_at x0 x1 x2 x3 x4 x5 x6 r, lr_at x0 x1 x2 x3 x4 x5 x6 r, dm_at x0 x1 x2 x3 x4 x5 x6 r, dt_at x0 x1 x2 x3 x4 x5 x6 r]
  rfl

end Cert.CoeffProof.Tile
end
-- ==== Proof.CoeffRef.lean ====
module

public import proofs.«01_k».proof.Proof.Gen.CoeffRefIdeal.Read
public import proofs.«01_k».proof.Proof.CoeffRow

/-! The reference of the discretisation's gradient, group by group. -/

@[expose] public section

set_option maxRecDepth 16384

noncomputable section

open Idealize.ShloMosaic Idealize.ShloMosaic.TcCoe Idealize.SL.Sem

namespace Cert.CoeffProof.Ref

open Cert.CoeffRefIdeal Cert.CoeffRefIdeal.Gen Cert.CoeffRefIdeal.Read

variable (x0 x1 : FVec Ideal S4x16x64 .f32) (x2 : FVec Ideal S4x16 .f32) (x3 x4 x5 x6 : FVec Ideal S4x16x64 .f32) (a : Fin 4) (b : Fin 16) (j : Fin 64)

/-- Group `b` of layer `a`. -/
def row : Row := ⟨fun j => x0 (ix3 a b j), fun j => x1 (ix3 a b j), x2 (ix2 a b), fun j => x3 (ix3 a b j), fun j => x4 (ix3 a b j), fun j => x5 (ix3 a b j), fun j => x6 (ix3 a b j)⟩

theorem lr_at : (val_main_v1 (F := Ideal) x0 : FVec Ideal S4x16x64 .f32) (ix3 a b j) = lr (row x0 x1 x2 x3 x4 x5 x6 a b) j := by
  pointwise [val_main_v1, val_main_v0, val_main_cst]
  rfl

theorem tie_at : (val_main_v10 (F := Ideal) x0 : FVec Ideal S4x16x64 .f32) (ix3 a b j) = tie (row x0 x1 x2 x3 x4 x5 x6 a b) j := by
  pointwise [val_main_v10, val_main_v9, val_main_v8, val_main_v7, val_main_v6, val_main_v5, val_main_v4, val_main_v3, val_main_v2, val_main_cst_0, val_main_cst_1, val_main_cst_2, val_main_cst_3, val_main_cst_4]
  rfl

theorem mag_at : (val_main_v15 (F := Ideal) x0 x2 : FVec Ideal S4x16x64 .f32) (ix3 a b j) = mag (row x0 x1 x2 x3 x4 x5 x6 a b) j := by
  pointwise [val_main_v15, val_main_v14, val_main_v13, val_main_v12, val_main_v11]
  simp only [lr_at x0 x1 x2 x3 x4 x5 x6 a b]
  rfl

theorem cs_at : (val_main_v18 (F := Ideal) x1 x2 : FVec Ideal S4x16x64 .f32) (ix3 a b j) = cs (row x0 x1 x2 x3 x4 x5 x6 a b) j := by
  pointwise [val_main_v18, val_main_v17, val_main_v16, val_main_v12, val_main_v11]
  rfl

theorem cs'_at : (val_main_v24 (F := Ideal) x1 x2 : FVec Ideal S4x16x64 .f32) (ix3 a b j) = cs (row x0 x1 x2 x3 x4 x5 x6 a b) j := by
  pointwise [val_main_v24, val_main_v22, val_main_v21, val_main_v12, val_main_v11]
  rfl

theorem sn_at : (val_main_v19 (F := Ideal) x1 x2 : FVec Ideal S4x16x64 .f32) (ix3 a b j) = sn (row x0 x1 x2 x3 x4 x5 x6 a b) j := by
  pointwise [val_main_v19, val_main_v17, val_main_v16, val_main_v12, val_main_v11]
  rfl

theorem sn'_at : (val_main_v23 (F := Ideal) x1 x2 : FVec Ideal S4x16x64 .f32) (ix3 a b j) = sn (row x0 x1 x2 x3 x4 x5 x6 a b) j := by
  pointwise [val_main_v23, val_main_v22, val_main_v21, val_main_v12, val_main_v11]
  rfl

theorem ai_at : (val_main_v25 (F := Ideal) x0 x1 x2 : FVec Ideal S4x16x64 .f32) (ix3 a b j) = ai (row x0 x1 x2 x3 x4 x5 x6 a b) j := by
  pointwise [val_main_v25]
  simp only [mag_at x0 x1 x2 x3 x4 x5 x6 a b, sn'_at x0 x1 x2 x3 x4 x5 x6 a b]
  rfl

theorem xr_at : (val_main_v30 (F := Ideal) x0 x1 x2 : FVec Ideal S4x16x64 .f32) (ix3 a b j) = xr (row x0 x1 x2 x3 x4 x5 x6 a b) j := by
  pointwise [val_main_v30, val_main_v29, val_main_cst_5, val_main_v20]
  simp only [mag_at x0 x1 x2 x3 x4 x5 x6 a b, cs_at x0 x1 x2 x3 x4 x5 x6 a b]
  rfl

theorem den_at : (val_main_v28 (F := Ideal) x0 x1 : FVec Ideal S4x16x64 .f32) (ix3 a b j) = den (row x0 x1 x2 x3 x4 x5 x6 a b) j := by
  pointwise [val_main_v28, val_main_v27, val_main_v26]
  simp only [lr_at x0 x1 x2 x3 x4 x5 x6 a b]
  rfl

theorem nr_at : (val_main_v33 (F := Ideal) x0 x1 x2 : FVec Ideal S4x16x64 .f32) (ix3 a b j) = nr (row x0 x1 x2 x3 x4 x5 x6 a b) j := by
  pointwise [val_main_v33, val_main_v32, val_main_v31]
  simp only [xr_at x0 x1 x2 x3 x4 x5 x6 a b, lr_at x0 x1 x2 x3 x4 x5 x6 a b, ai_at x0 x1 x2 x3 x4 x5 x6 a b]
  rfl

theorem ni_at : (val_main_v40 (F := Ideal) x0 x1 x2 : FVec Ideal S4x16x64 .f32) (ix3 a b j) = ni (row x0 x1 x2 x3 x4 x5 x6 a b) j := by
  pointwise [val_main_v40, val_main_v39, val_main_v38]
  simp only [xr_at x0 x1 x2 x3 x4 x5 x6 a b, lr_at x0 x1 x2 x3 x4 x5 x6 a b, ai_at x0 x1 x2 x3 x4 x5 x6 a b]
  rfl

theorem q2_at : (val_main_v60 (F := Ideal) x0 x1 x5 : FVec Ideal S4x16x64 .f32) (ix3 a b j) = q2 (row x0 x1 x2 x3 x4 x5 x6 a b) j := by
  pointwise [val_main_v60]
  simp only [den_at x0 x1 x2 x3 x4 x5 x6 a b]
  rfl

theorem q3_at : (val_main_v48 (F := Ideal) x0 x1 x6 : FVec Ideal S4x16x64 .f32) (ix3 a b j) = q3 (row x0 x1 x2 x3 x4 x5 x6 a b) j := by
  pointwise [val_main_v48]
  simp only [den_at x0 x1 x2 x3 x4 x5 x6 a b]
  rfl

theorem wt_at : (val_main_v59 (F := Ideal) x0 x1 x2 x5 x6 : FVec Ideal S4x16x64 .f32) (ix3 a b j) = wt (row x0 x1 x2 x3 x4 x5 x6 a b) j := by
  pointwise [val_main_v59, val_main_v58, val_main_v57, val_main_v56, val_main_v47, val_main_v46, val_main_v45, val_main_v44, val_main_v43, val_main_v42, val_main_cst_7, val_main_v37, val_main_v36, val_main_v35, val_main_cst_6]
  simp only [den_at x0 x1 x2 x3 x4 x5 x6 a b, ni_at x0 x1 x2 x3 x4 x5 x6 a b, nr_at x0 x1 x2 x3 x4 x5 x6 a b]
  rfl

theorem dai_at : (val_main_v64 (F := Ideal) x0 x1 x4 x5 x6 : FVec Ideal S4x16x64 .f32) (ix3 a b j) = dai (row x0 x1 x2 x3 x4 x5 x6 a b) j := by
  pointwise [val_main_v64, val_main_v63, val_main_v55, val_main_v54]
  simp only [q3_at x0 x1 x2 x3 x4 x5 x6 a b, q2_at x0 x1 x2 x3 x4 x5 x6 a b, lr_at x0 x1 x2 x3 x4 x5 x6 a b]
  rfl

theorem dxr_at : (val_main_v68 (F := Ideal) x0 x1 x3 x5 x6 : FVec Ideal S4x16x64 .f32) (ix3 a b j) = dxr (row x0 x1 x2 x3 x4 x5 x6 a b) j := by
  pointwise [val_main_v68, val_main_v67, val_main_v52, val_main_v51, val_main_v49]
  simp only [q3_at x0 x1 x2 x3 x4 x5 x6 a b, q2_at x0 x1 x2 x3 x4 x5 x6 a b, lr_at x0 x1 x2 x3 x4 x5 x6 a b]
  rfl

theorem dim0_at : (val_main_v72 (F := Ideal) x0 x1 x2 x5 x6 : FVec Ideal S4x16x64 .f32) (ix3 a b j) = dim0 (row x0 x1 x2 x3 x4 x5 x6 a b) j := by
  pointwise [val_main_v72, val_main_v71, val_main_v70, val_main_v69, val_main_v62, val_main_v61, val_main_v50, val_main_v49]
  simp only [xr_at x0 x1 x2 x3 x4 x5 x6 a b, q3_at x0 x1 x2 x3 x4 x5 x6 a b, ai_at x0 x1 x2 x3 x4 x5 x6 a b, q2_at x0 x1 x2 x3 x4 x5 x6 a b, wt_at x0 x1 x2 x3 x4 x5 x6 a b]
  rfl

theorem dre0_at : (val_main_v76 (F := Ideal) x0 x1 x2 x5 x6 : FVec Ideal S4x16x64 .f32) (ix3 a b j) = dre0 (row x0 x1 x2 x3 x4 x5 x6 a b) j := by
  pointwise [val_main_v76, val_main_v75, val_main_v74, val_main_v73, val_main_v66, val_main_v65, val_main_v53]
  simp only [xr_at x0 x1 x2 x3 x4 x5 x6 a b, q3_at x0 x1 x2 x3 x4 x5 x6 a b, ai_at x0 x1 x2 x3 x4 x5 x6 a b, q2_at x0 x1 x2 x3 x4 x5 x6 a b, wt_at x0 x1 x2 x3 x4 x5 x6 a b, lr_at x0 x1 x2 x3 x4 x5 x6 a b]
  rfl

theorem ds_at : (val_main_v79 (F := Ideal) x0 x1 x2 x4 x5 x6 : FVec Ideal S4x16x64 .f32) (ix3 a b j) = ds (row x0 x1 x2 x3 x4 x5 x6 a b) j := by
  pointwise [val_main_v79, val_main_v77]
  simp only [mag_at x0 x1 x2 x3 x4 x5 x6 a b, dai_at x0 x1 x2 x3 x4 x5 x6 a b, cs'_at x0 x1 x2 x3 x4 x5 x6 a b]
  rfl

theorem dc_at : (val_main_v90 (F := Ideal) x0 x1 x2 x3 x5 x6 : FVec Ideal S4x16x64 .f32) (ix3 a b j) = dc (row x0 x1 x2 x3 x4 x5 x6 a b) j := by
  pointwise [val_main_v90, val_main_v89, val_main_v86]
  simp only [mag_at x0 x1 x2 x3 x4 x5 x6 a b, dxr_at x0 x1 x2 x3 x4 x5 x6 a b, sn_at x0 x1 x2 x3 x4 x5 x6 a b]
  rfl

theorem dm_at : (val_main_v98 (F := Ideal) x0 x1 x2 x3 x4 x5 x6 : FVec Ideal S4x16x64 .f32) (ix3 a b j) = dm (row x0 x1 x2 x3 x4 x5 x6 a b) j := by
  pointwise [val_main_v98, val_main_v88, val_main_v87, val_main_v78]
  simp only [mag_at x0 x1 x2 x3 x4 x5 x6 a b, dai_at x0 x1 x2 x3 x4 x5 x6 a b, sn'_at x0 x1 x2 x3 x4 x5 x6 a b, dxr_at x0 x1 x2 x3 x4 x5 x6 a b, cs_at x0 x1 x2 x3 x4 x5 x6 a b]
  rfl

theorem dre_at : (val_main_v108 (F := Ideal) x0 x1 x2 x3 x4 x5 x6 : FVec Ideal S4x16x64 .f32) (ix3 a b j) = dre (row x0 x1 x2 x3 x4 x5 x6 a b) j := by
  pointwise [val_main_v108, val_main_v105, val_main_v104, val_main_v103, val_main_v12, val_main_v11]
  simp only [dre0_at x0 x1 x2 x3 x4 x5 x6 a b, dm_at x0 x1 x2 x3 x4 x5 x6 a b, tie_at x0 x1 x2 x3 x4 x5 x6 a b]
  rfl

theorem dim_at : (val_main_v97 (F := Ideal) x0 x1 x2 x3 x4 x5 x6 : FVec Ideal S4x16x64 .f32) (ix3 a b j) = dim (row x0 x1 x2 x3 x4 x5 x6 a b) j := by
  pointwise [val_main_v97, val_main_v96, val_main_v95, val_main_v85, val_main_v84, val_main_v83, val_main_v12, val_main_v11]
  simp only [dim0_at x0 x1 x2 x3 x4 x5 x6 a b, ds_at x0 x1 x2 x3 x4 x5 x6 a b, dc_at x0 x1 x2 x3 x4 x5 x6 a b]
  rfl

theorem dstep_at : (val_main_v107 (F := Ideal) x0 x1 x2 x3 x4 x5 x6 : FVec Ideal S4x16 .f32) (ix2 a b) = dstep (row x0 x1 x2 x3 x4 x5 x6 a b) := by
  pointwise [val_main_v107, val_main_v106, val_main_v102, val_main_v101, val_main_v100, val_main_v99, val_main_v94, val_main_v93, val_main_v92, val_main_v91, val_main_v82, val_main_v81, val_main_v80,
    val_main_cst_8, val_main_cst_9, val_main_cst_10, val_main_cst_11, val_main_v11]
  simp only [Finset.univ_unique, Finset.sum_singleton]
  simp only [lr_at x0 x1 x2 x3 x4 x5 x6 a b, ds_at x0 x1 x2 x3 x4 x5 x6 a b, dc_at x0 x1 x2 x3 x4 x5 x6 a b, dm_at x0 x1 x2 x3 x4 x5 x6 a b]
  rfl

end Cert.CoeffProof.Ref
end
-- ==== Proof.CoeffArr.lean ====
module

public import proofs.«01_k».proof.Proof.CoeffKernel
public import proofs.«01_k».proof.Proof.CoeffRef

/-! The arrays of the discretisation's gradient: 64 groups in the call, 4 layers of 16 groups outside it. -/

@[expose] public section

set_option maxRecDepth 16384

noncomputable section

open Idealize.ShloMosaic Idealize.ShloMosaic.TcCoe Idealize.SL.Sem
open Idealize.ShloMosaic.Pipeline (Dat)

namespace Cert.CoeffProof

open Cert.CoeffIdeal Cert.CoeffIdeal.Gen

variable (m : (ℓ : Loc nD τ sig) → Buf (Elt Ideal) ℓ) (c : Dev nD) (t : Fin cfg0.N)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The arguments. -/
abbrev a0 : FVec Ideal S4x16x64 .f32 := m ((c : Thread nD τ).loc main_arg0)
abbrev a1 : FVec Ideal S4x16x64 .f32 := m ((c : Thread nD τ).loc main_arg1)
abbrev a2 : FVec Ideal S4x16 .f32 := m ((c : Thread nD τ).loc main_arg2)
abbrev a3 : FVec Ideal S4x16x64 .f32 := m ((c : Thread nD τ).loc main_arg3)
abbrev a4 : FVec Ideal S4x16x64 .f32 := m ((c : Thread nD τ).loc main_arg4)
abbrev a5 : FVec Ideal S4x16x64 .f32 := m ((c : Thread nD τ).loc main_arg5)
abbrev a6 : FVec Ideal S4x16x64 .f32 := m ((c : Thread nD τ).loc main_arg6)

/-- The layer and the group of a row of the call, and the row of a layer's group. -/
def hi (r : Fin 64) : Fin 4 := ⟨r.val / 16, by omega⟩
def lo (r : Fin 64) : Fin 16 := ⟨r.val % 16, by omega⟩
def at_ (a : Fin 4) (b : Fin 16) : Fin 64 := ⟨a.val * 16 + b.val, by omega⟩

theorem hi_at (a : Fin 4) (b : Fin 16) : hi (at_ a b) = a := Fin.ext (by simp only [hi, at_]; omega)
theorem lo_at (a : Fin 4) (b : Fin 16) : lo (at_ a b) = b := Fin.ext (by simp only [lo, at_]; omega)

theorem entry0 (r j : Fin 64) : (V m c main_v0 : FVec Ideal S64x64 .f32) (ix2 r j) = a0 m c (ix3 (hi r) (lo r) j) := by
  show (StableHlo.after hostOps0 (fun b => m (c, b)) (Proc.devRef .tc main_v0) : FVec Ideal S64x64 .f32) (ix2 r j) = _
  after_results
  pointwise []
  rfl

theorem entry1 (r j : Fin 64) : (V m c main_v1 : FVec Ideal S64x64 .f32) (ix2 r j) = a1 m c (ix3 (hi r) (lo r) j) := by
  show (StableHlo.after hostOps0 (fun b => m (c, b)) (Proc.devRef .tc main_v1) : FVec Ideal S64x64 .f32) (ix2 r j) = _
  after_results
  pointwise []
  rfl

theorem entry2 (r : Fin 64) : (V m c main_v2 : FVec Ideal S64x1 .f32) (ix2 r 0) = a2 m c (ix2 (hi r) (lo r)) := by
  show (StableHlo.after hostOps0 (fun b => m (c, b)) (Proc.devRef .tc main_v2) : FVec Ideal S64x1 .f32) (ix2 r 0) = _
  after_results
  pointwise []
  rfl

theorem entry3 (r j : Fin 64) : (V m c main_v3 : FVec Ideal S64x64 .f32) (ix2 r j) = a3 m c (ix3 (hi r) (lo r) j) := by
  show (StableHlo.after hostOps0 (fun b => m (c, b)) (Proc.devRef .tc main_v3) : FVec Ideal S64x64 .f32) (ix2 r j) = _
  after_results
  pointwise []
  rfl

theorem entry4 (r j : Fin 64) : (V m c main_v4 : FVec Ideal S64x64 .f32) (ix2 r j) = a4 m c (ix3 (hi r) (lo r) j) := by
  show (StableHlo.after hostOps0 (fun b => m (c, b)) (Proc.devRef .tc main_v4) : FVec Ideal S64x64 .f32) (ix2 r j) = _
  after_results
  pointwise []
  rfl

theorem entry5 (r j : Fin 64) : (V m c main_v5 : FVec Ideal S64x64 .f32) (ix2 r j) = a5 m c (ix3 (hi r) (lo r) j) := by
  show (StableHlo.after hostOps0 (fun b => m (c, b)) (Proc.devRef .tc main_v5) : FVec Ideal S64x64 .f32) (ix2 r j) = _
  after_results
  pointwise []
  rfl

theorem entry6 (r j : Fin 64) : (V m c main_v6 : FVec Ideal S64x64 .f32) (ix2 r j) = a6 m c (ix3 (hi r) (lo r) j) := by
  show (StableHlo.after hostOps0 (fun b => m (c, b)) (Proc.devRef .tc main_v6) : FVec Ideal S64x64 .f32) (ix2 r j) = _
  after_results
  pointwise []
  rfl

theorem blk0 (r j : Fin 64) : (iblk m c 0 t : FVec Ideal S64x64 .f32) (ix2 r j) = a0 m c (ix3 (hi r) (lo r) j) := by
  refine Eq.trans ?_ (entry0 m c r j)
  blk_point [iblk, idx t]

theorem blk1 (r j : Fin 64) : (iblk m c 1 t : FVec Ideal S64x64 .f32) (ix2 r j) = a1 m c (ix3 (hi r) (lo r) j) := by
  refine Eq.trans ?_ (entry1 m c r j)
  blk_point [iblk, idx t]

theorem blk2 (r : Fin 64) : (iblk m c 2 t : FVec Ideal S64x1 .f32) (ix2 r 0) = a2 m c (ix2 (hi r) (lo r)) := by
  refine Eq.trans ?_ (entry2 m c r)
  blk_point [iblk, idx t]

theorem blk3 (r j : Fin 64) : (iblk m c 3 t : FVec Ideal S64x64 .f32) (ix2 r j) = a3 m c (ix3 (hi r) (lo r) j) := by
  refine Eq.trans ?_ (entry3 m c r j)
  blk_point [iblk, idx t]

theorem blk4 (r j : Fin 64) : (iblk m c 4 t : FVec Ideal S64x64 .f32) (ix2 r j) = a4 m c (ix3 (hi r) (lo r) j) := by
  refine Eq.trans ?_ (entry4 m c r j)
  blk_point [iblk, idx t]

theorem blk5 (r j : Fin 64) : (iblk m c 5 t : FVec Ideal S64x64 .f32) (ix2 r j) = a5 m c (ix3 (hi r) (lo r) j) := by
  refine Eq.trans ?_ (entry5 m c r j)
  blk_point [iblk, idx t]

theorem blk6 (r j : Fin 64) : (iblk m c 6 t : FVec Ideal S64x64 .f32) (ix2 r j) = a6 m c (ix3 (hi r) (lo r) j) := by
  refine Eq.trans ?_ (entry6 m c r j)
  blk_point [iblk, idx t]

/-- The call's group `r` is the reference's group. -/
theorem group (r : Fin 64) : Tile.row (iblk m c 0 t) (iblk m c 1 t) (iblk m c 2 t) (iblk m c 3 t) (iblk m c 4 t) (iblk m c 5 t) (iblk m c 6 t) r = Ref.row (a0 m c) (a1 m c) (a2 m c) (a3 m c) (a4 m c) (a5 m c) (a6 m c) (hi r) (lo r) := by
  unfold Tile.row Ref.row
  simp only [Row.mk.injEq]
  exact ⟨funext fun j => blk0 m c t r j, funext fun j => blk1 m c t r j, blk2 m c t r, funext fun j => blk3 m c t r j,
    funext fun j => blk4 m c t r j, funext fun j => blk5 m c t r j, funext fun j => blk6 m c t r j⟩

theorem tile_dre (r j : Fin 64) : out0_7 (F := Ideal) (iblk m c 0 t) (iblk m c 1 t) (iblk m c 2 t) (iblk m c 3 t) (iblk m c 4 t) (iblk m c 5 t) (iblk m c 6 t) (ix2 r j) = dre (Ref.row (a0 m c) (a1 m c) (a2 m c) (a3 m c) (a4 m c) (a5 m c) (a6 m c) (hi r) (lo r)) j := by
  rw [Tile.dre_at, group]

theorem arr7 : ((dats m 0 c).arrAt 7 cfg0.N : FVec Ideal S64x64 .f32) = fun i => dre (Ref.row (a0 m c) (a1 m c) (a2 m c) (a3 m c) (a4 m c) (a5 m c) (a6 m c) (hi (i 0)) (lo (i 0))) (i 1) := by
  refine (dats m 0 c).arrAt_eq_of_covers 7 _ (by decide +kernel) fun t _ y => ?_
  blk_simp
  rw [after0_7]
  have e0 : ((win0_7.blk t).view.emb y 0 : Fin 64) = y 0 := Fin.ext (by blk_simp [idx t])
  have e1 : ((win0_7.blk t).view.emb y 1 : Fin 64) = y 1 := Fin.ext (by blk_simp [idx t])
  rw [e0, e1]
  exact (congrArg _ (ValueIdx.eq_ix2 (n0 := 64) (n1 := 64) y)).trans (tile_dre m c t (y 0) (y 1))

theorem tile_dim (r j : Fin 64) : out0_8 (F := Ideal) (iblk m c 0 t) (iblk m c 1 t) (iblk m c 2 t) (iblk m c 3 t) (iblk m c 4 t) (iblk m c 5 t) (iblk m c 6 t) (ix2 r j) = dim (Ref.row (a0 m c) (a1 m c) (a2 m c) (a3 m c) (a4 m c) (a5 m c) (a6 m c) (hi r) (lo r)) j := by
  rw [Tile.dim_at, group]

theorem arr8 : ((dats m 0 c).arrAt 8 cfg0.N : FVec Ideal S64x64 .f32) = fun i => dim (Ref.row (a0 m c) (a1 m c) (a2 m c) (a3 m c) (a4 m c) (a5 m c) (a6 m c) (hi (i 0)) (lo (i 0))) (i 1) := by
  refine (dats m 0 c).arrAt_eq_of_covers 8 _ (by decide +kernel) fun t _ y => ?_
  blk_simp
  rw [after0_8]
  have e0 : ((win0_8.blk t).view.emb y 0 : Fin 64) = y 0 := Fin.ext (by blk_simp [idx t])
  have e1 : ((win0_8.blk t).view.emb y 1 : Fin 64) = y 1 := Fin.ext (by blk_simp [idx t])
  rw [e0, e1]
  exact (congrArg _ (ValueIdx.eq_ix2 (n0 := 64) (n1 := 64) y)).trans (tile_dim m c t (y 0) (y 1))

theorem tile_dstep (r : Fin 64) (u : Fin 1) : out0_9 (F := Ideal) (iblk m c 0 t) (iblk m c 1 t) (iblk m c 2 t) (iblk m c 3 t) (iblk m c 4 t) (iblk m c 5 t) (iblk m c 6 t) (ix2 r u) = dstep (Ref.row (a0 m c) (a1 m c) (a2 m c) (a3 m c) (a4 m c) (a5 m c) (a6 m c) (hi r) (lo r)) := by
  rw [Subsingleton.elim u 0, Tile.dstep_at, group]

theorem arr9 : ((dats m 0 c).arrAt 9 cfg0.N : FVec Ideal S64x1 .f32) = fun i => dstep (Ref.row (a0 m c) (a1 m c) (a2 m c) (a3 m c) (a4 m c) (a5 m c) (a6 m c) (hi (i 0)) (lo (i 0))) := by
  refine (dats m 0 c).arrAt_eq_of_covers 9 _ (by decide +kernel) fun t _ y => ?_
  blk_simp
  rw [after0_9]
  have e0 : ((win0_9.blk t).view.emb y 0 : Fin 64) = y 0 := Fin.ext (by blk_simp [idx t])
  rw [e0]
  exact (congrArg _ (ValueIdx.eq_ix2 (n0 := 64) (n1 := 1) y)).trans (tile_dstep m c t (y 0) (y 1))

theorem tail_dre (a : Fin 4) (b : Fin 16) (j : Fin 64) : (Pipeline.afterTail₀ cfgs (dats m) 0 (V0 m) [hostOps1] c main_v8 : FVec Ideal S4x16x64 .f32) (ix3 a b j) = dre (Ref.row (a0 m c) (a1 m c) (a2 m c) (a3 m c) (a4 m c) (a5 m c) (a6 m c) a b) j := by
  have e : (Pipeline.withArrays spec0 c (V0 m c) (fun w => (dats m 0 c).arrAt w cfg0.N) (Proc.devRef .tc main_v7_0) : FVec Ideal S64x64 .f32) = fun i => dre (Ref.row (a0 m c) (a1 m c) (a2 m c) (a3 m c) (a4 m c) (a5 m c) (a6 m c) (hi (i 0)) (lo (i 0))) (i 1) :=
    (Pipeline.withArrays_arr spec0 (by decide) c (V0 m c) (fun w => (dats m 0 c).arrAt w cfg0.N) 7).trans (arr7 m c)
  show (StableHlo.after hostOps1 (Pipeline.withArrays spec0 c (V0 m c) (fun w => (dats m 0 c).arrAt w cfg0.N)) (Proc.devRef .tc main_v8) : FVec Ideal S4x16x64 .f32) (ix3 a b j) = _
  after_results
  rw [e]
  pointwise []
  show dre (Ref.row (a0 m c) (a1 m c) (a2 m c) (a3 m c) (a4 m c) (a5 m c) (a6 m c) (hi (at_ a b)) (lo (at_ a b))) j = _
  rw [hi_at, lo_at]

theorem tail_dim (a : Fin 4) (b : Fin 16) (j : Fin 64) : (Pipeline.afterTail₀ cfgs (dats m) 0 (V0 m) [hostOps1] c main_v9 : FVec Ideal S4x16x64 .f32) (ix3 a b j) = dim (Ref.row (a0 m c) (a1 m c) (a2 m c) (a3 m c) (a4 m c) (a5 m c) (a6 m c) a b) j := by
  have e : (Pipeline.withArrays spec0 c (V0 m c) (fun w => (dats m 0 c).arrAt w cfg0.N) (Proc.devRef .tc main_v7_1) : FVec Ideal S64x64 .f32) = fun i => dim (Ref.row (a0 m c) (a1 m c) (a2 m c) (a3 m c) (a4 m c) (a5 m c) (a6 m c) (hi (i 0)) (lo (i 0))) (i 1) :=
    (Pipeline.withArrays_arr spec0 (by decide) c (V0 m c) (fun w => (dats m 0 c).arrAt w cfg0.N) 8).trans (arr8 m c)
  show (StableHlo.after hostOps1 (Pipeline.withArrays spec0 c (V0 m c) (fun w => (dats m 0 c).arrAt w cfg0.N)) (Proc.devRef .tc main_v9) : FVec Ideal S4x16x64 .f32) (ix3 a b j) = _
  after_results
  rw [e]
  pointwise []
  show dim (Ref.row (a0 m c) (a1 m c) (a2 m c) (a3 m c) (a4 m c) (a5 m c) (a6 m c) (hi (at_ a b)) (lo (at_ a b))) j = _
  rw [hi_at, lo_at]

theorem tail_dstep (a : Fin 4) (b : Fin 16) : (Pipeline.afterTail₀ cfgs (dats m) 0 (V0 m) [hostOps1] c main_v10 : FVec Ideal S4x16 .f32) (ix2 a b) = dstep (Ref.row (a0 m c) (a1 m c) (a2 m c) (a3 m c) (a4 m c) (a5 m c) (a6 m c) a b) := by
  have e : (Pipeline.withArrays spec0 c (V0 m c) (fun w => (dats m 0 c).arrAt w cfg0.N) (Proc.devRef .tc main_v7_2) : FVec Ideal S64x1 .f32) = fun i => dstep (Ref.row (a0 m c) (a1 m c) (a2 m c) (a3 m c) (a4 m c) (a5 m c) (a6 m c) (hi (i 0)) (lo (i 0))) :=
    (Pipeline.withArrays_arr spec0 (by decide) c (V0 m c) (fun w => (dats m 0 c).arrAt w cfg0.N) 9).trans (arr9 m c)
  show (StableHlo.after hostOps1 (Pipeline.withArrays spec0 c (V0 m c) (fun w => (dats m 0 c).arrAt w cfg0.N)) (Proc.devRef .tc main_v10) : FVec Ideal S4x16 .f32) (ix2 a b) = _
  after_results
  rw [e]
  pointwise []
  show dstep (Ref.row (a0 m c) (a1 m c) (a2 m c) (a3 m c) (a4 m c) (a5 m c) (a6 m c) (hi (at_ a b)) (lo (at_ a b))) = _
  rw [hi_at, lo_at]

end Cert.CoeffProof
end
-- ==== Proof.CoeffEq.lean ====
module

public import proofs.«01_k».proof.Defs
public import proofs.«01_k».proof.Proof.CoeffArr
public import proofs.«01_k».proof.Proof.Gen.CoeffIdeal
public import proofs.«01_k».proof.Proof.Gen.CoeffRefIdeal
public import proofs.«01_k».proof.Proof.Gen.CoeffRefIdeal.Run
public import Idealize.ShloMosaic.Lib.Claim

/-! The call computes the reference's gradients of the discretisation. -/

@[expose] public section

set_option maxRecDepth 16384

noncomputable section

namespace Cert.CoeffProof

open Idealize.ShloMosaic Idealize.ShloMosaic.TcCoe Idealize.SL.Sem

theorem ref_frame (m : (ℓ : Loc Cert.CoeffRefIdeal.nD Cert.CoeffRefIdeal.τ Cert.CoeffRefIdeal.sig) → Buf (Elt Ideal) ℓ) (ρ : Dev Cert.CoeffRefIdeal.nD → PrngReg) :
    θ_run (Cert.CoeffRefIdeal.defs (F := Ideal)) (onTc (τ := Cert.CoeffRefIdeal.τ) (Cert.CoeffRefIdeal.main (F := Ideal))) ⟨m, fun _ => 0, ρ⟩ (fun r => (∀ c : Dev Cert.CoeffRefIdeal.nD,
      r.2.mem ((c.tc : Thread Cert.CoeffRefIdeal.nD Cert.CoeffRefIdeal.τ).loc Cert.CoeffRefIdeal.main_arg0) = m ((c.tc : Thread Cert.CoeffRefIdeal.nD Cert.CoeffRefIdeal.τ).loc Cert.CoeffRefIdeal.main_arg0)
      ∧ r.2.mem ((c.tc : Thread Cert.CoeffRefIdeal.nD Cert.CoeffRefIdeal.τ).loc Cert.CoeffRefIdeal.main_arg1) = m ((c.tc : Thread Cert.CoeffRefIdeal.nD Cert.CoeffRefIdeal.τ).loc Cert.CoeffRefIdeal.main_arg1)
      ∧ r.2.mem ((c.tc : Thread Cert.CoeffRefIdeal.nD Cert.CoeffRefIdeal.τ).loc Cert.CoeffRefIdeal.main_arg2) = m ((c.tc : Thread Cert.CoeffRefIdeal.nD Cert.CoeffRefIdeal.τ).loc Cert.CoeffRefIdeal.main_arg2)
      ∧ r.2.mem ((c.tc : Thread Cert.CoeffRefIdeal.nD Cert.CoeffRefIdeal.τ).loc Cert.CoeffRefIdeal.main_arg3) = m ((c.tc : Thread Cert.CoeffRefIdeal.nD Cert.CoeffRefIdeal.τ).loc Cert.CoeffRefIdeal.main_arg3)
      ∧ r.2.mem ((c.tc : Thread Cert.CoeffRefIdeal.nD Cert.CoeffRefIdeal.τ).loc Cert.CoeffRefIdeal.main_arg4) = m ((c.tc : Thread Cert.CoeffRefIdeal.nD Cert.CoeffRefIdeal.τ).loc Cert.CoeffRefIdeal.main_arg4)
      ∧ r.2.mem ((c.tc : Thread Cert.CoeffRefIdeal.nD Cert.CoeffRefIdeal.τ).loc Cert.CoeffRefIdeal.main_arg5) = m ((c.tc : Thread Cert.CoeffRefIdeal.nD Cert.CoeffRefIdeal.τ).loc Cert.CoeffRefIdeal.main_arg5)
      ∧ r.2.mem ((c.tc : Thread Cert.CoeffRefIdeal.nD Cert.CoeffRefIdeal.τ).loc Cert.CoeffRefIdeal.main_arg6) = m ((c.tc : Thread Cert.CoeffRefIdeal.nD Cert.CoeffRefIdeal.τ).loc Cert.CoeffRefIdeal.main_arg6))
      ∧ r.2.sem = fun _ => 0) :=
  (θ_run _ _ _).mono (fun r h => ⟨fun c => (h c).2.2.2, Idealize.ShloMosaic.sem_eq_zero_of_no_sems (by decide) r.2⟩)
    (Cert.CoeffRefIdeal.Value.run (F := Ideal) m ρ)

section
open Cert.CoeffIdeal Cert.CoeffIdeal.Gen

variable (m : (ℓ : Loc nD τ sig) → Buf (Elt Ideal) ℓ) (ρ : Dev nD → PrngReg) (c : Dev nD)

/-- Every run ends with the three gradients, and the arguments unchanged. -/
theorem ends : θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_v9) = Pipeline.afterTail₀ cfgs (dats m) 0 (V0 m) [hostOps1] c main_v9
      ∧ r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).2 main_v8 (Pipeline.mem_restRefs_of main_v8 (by decide) (by decide)),
    (h.1 c).2 main_v9 (Pipeline.mem_restRefs_of main_v9 (by decide) (by decide)), (h.1 c).2 main_v10 (Pipeline.mem_restRefs_of main_v10 (by decide) (by decide)), h.2 c⟩)
    (θ_run_and (run_main m ρ) (unchanged m ρ))

theorem same_dre : (Cert.CoeffRefIdeal.Read.val_main_v108 (F := Ideal) (a0 m c) (a1 m c) (a2 m c) (a3 m c) (a4 m c) (a5 m c) (a6 m c) : FVec Ideal S4x16x64 .f32)
    = Pipeline.afterTail₀ cfgs (dats m) 0 (V0 m) [hostOps1] c main_v8 := by
  funext i
  obtain ⟨a, b, j, rfl⟩ : ∃ a b j, i = ix3 a b j := ⟨i 0, i 1, i 2, ValueIdx.eq_ix3 i⟩
  exact (Ref.dre_at (a0 m c) (a1 m c) (a2 m c) (a3 m c) (a4 m c) (a5 m c) (a6 m c) a b j).trans (tail_dre m c a b j).symm

theorem same_dim : (Cert.CoeffRefIdeal.Read.val_main_v97 (F := Ideal) (a0 m c) (a1 m c) (a2 m c) (a3 m c) (a4 m c) (a5 m c) (a6 m c) : FVec Ideal S4x16x64 .f32)
    = Pipeline.afterTail₀ cfgs (dats m) 0 (V0 m) [hostOps1] c main_v9 := by
  funext i
  obtain ⟨a, b, j, rfl⟩ : ∃ a b j, i = ix3 a b j := ⟨i 0, i 1, i 2, ValueIdx.eq_ix3 i⟩
  exact (Ref.dim_at (a0 m c) (a1 m c) (a2 m c) (a3 m c) (a4 m c) (a5 m c) (a6 m c) a b j).trans (tail_dim m c a b j).symm

theorem same_dstep : (Cert.CoeffRefIdeal.Read.val_main_v107 (F := Ideal) (a0 m c) (a1 m c) (a2 m c) (a3 m c) (a4 m c) (a5 m c) (a6 m c) : FVec Ideal S4x16 .f32)
    = Pipeline.afterTail₀ cfgs (dats m) 0 (V0 m) [hostOps1] c main_v10 := by
  funext i
  obtain ⟨a, b, rfl⟩ : ∃ a b, i = ix2 a b := ⟨i 0, i 1, ValueIdx.eq_ix2 i⟩
  exact (Ref.dstep_at (a0 m c) (a1 m c) (a2 m c) (a3 m c) (a4 m c) (a5 m c) (a6 m c) a b).trans (tail_dstep m c a b).symm

end

/-- The reference's run, its results read at an index. -/
theorem ref_run (m : (ℓ : Loc Cert.CoeffRefIdeal.nD Cert.CoeffRefIdeal.τ Cert.CoeffRefIdeal.sig) → Buf (Elt Ideal) ℓ) (ρ : Dev Cert.CoeffRefIdeal.nD → PrngReg) :
    θ_run (Cert.CoeffRefIdeal.defs (F := Ideal)) (onTc (τ := Cert.CoeffRefIdeal.τ) (Cert.CoeffRefIdeal.main (F := Ideal))) ⟨m, fun _ => 0, ρ⟩ (fun r => ∀ c : Dev Cert.CoeffRefIdeal.nD,
      r.2.mem ((c.tc : Thread Cert.CoeffRefIdeal.nD Cert.CoeffRefIdeal.τ).loc Cert.CoeffRefIdeal.main_v108)
        = Cert.CoeffRefIdeal.Read.val_main_v108 (F := Ideal) (m ((c.tc : Thread Cert.CoeffRefIdeal.nD Cert.CoeffRefIdeal.τ).loc Cert.CoeffRefIdeal.main_arg0)) (m ((c.tc : Thread Cert.CoeffRefIdeal.nD Cert.CoeffRefIdeal.τ).loc Cert.CoeffRefIdeal.main_arg1)) (m ((c.tc : Thread Cert.CoeffRefIdeal.nD Cert.CoeffRefIdeal.τ).loc Cert.CoeffRefIdeal.main_arg2)) (m ((c.tc : Thread Cert.CoeffRefIdeal.nD Cert.CoeffRefIdeal.τ).loc Cert.CoeffRefIdeal.main_arg3)) (m ((c.tc : Thread Cert.CoeffRefIdeal.nD Cert.CoeffRefIdeal.τ).loc Cert.CoeffRefIdeal.main_arg4)) (m ((c.tc : Thread Cert.CoeffRefIdeal.nD Cert.CoeffRefIdeal.τ).loc Cert.CoeffRefIdeal.main_arg5)) (m ((c.tc : Thread Cert.CoeffRefIdeal.nD Cert.CoeffRefIdeal.τ).loc Cert.CoeffRefIdeal.main_arg6))
      ∧ r.2.mem ((c.tc : Thread Cert.CoeffRefIdeal.nD Cert.CoeffRefIdeal.τ).loc Cert.CoeffRefIdeal.main_v97)
        = Cert.CoeffRefIdeal.Read.val_main_v97 (F := Ideal) (m ((c.tc : Thread Cert.CoeffRefIdeal.nD Cert.CoeffRefIdeal.τ).loc Cert.CoeffRefIdeal.main_arg0)) (m ((c.tc : Thread Cert.CoeffRefIdeal.nD Cert.CoeffRefIdeal.τ).loc Cert.CoeffRefIdeal.main_arg1)) (m ((c.tc : Thread Cert.CoeffRefIdeal.nD Cert.CoeffRefIdeal.τ).loc Cert.CoeffRefIdeal.main_arg2)) (m ((c.tc : Thread Cert.CoeffRefIdeal.nD Cert.CoeffRefIdeal.τ).loc Cert.CoeffRefIdeal.main_arg3)) (m ((c.tc : Thread Cert.CoeffRefIdeal.nD Cert.CoeffRefIdeal.τ).loc Cert.CoeffRefIdeal.main_arg4)) (m ((c.tc : Thread Cert.CoeffRefIdeal.nD Cert.CoeffRefIdeal.τ).loc Cert.CoeffRefIdeal.main_arg5)) (m ((c.tc : Thread Cert.CoeffRefIdeal.nD Cert.CoeffRefIdeal.τ).loc Cert.CoeffRefIdeal.main_arg6))
      ∧ r.2.mem ((c.tc : Thread Cert.CoeffRefIdeal.nD Cert.CoeffRefIdeal.τ).loc Cert.CoeffRefIdeal.main_v107)
        = Cert.CoeffRefIdeal.Read.val_main_v107 (F := Ideal) (m ((c.tc : Thread Cert.CoeffRefIdeal.nD Cert.CoeffRefIdeal.τ).loc Cert.CoeffRefIdeal.main_arg0)) (m ((c.tc : Thread Cert.CoeffRefIdeal.nD Cert.CoeffRefIdeal.τ).loc Cert.CoeffRefIdeal.main_arg1)) (m ((c.tc : Thread Cert.CoeffRefIdeal.nD Cert.CoeffRefIdeal.τ).loc Cert.CoeffRefIdeal.main_arg2)) (m ((c.tc : Thread Cert.CoeffRefIdeal.nD Cert.CoeffRefIdeal.τ).loc Cert.CoeffRefIdeal.main_arg3)) (m ((c.tc : Thread Cert.CoeffRefIdeal.nD Cert.CoeffRefIdeal.τ).loc Cert.CoeffRefIdeal.main_arg4)) (m ((c.tc : Thread Cert.CoeffRefIdeal.nD Cert.CoeffRefIdeal.τ).loc Cert.CoeffRefIdeal.main_arg5)) (m ((c.tc : Thread Cert.CoeffRefIdeal.nD Cert.CoeffRefIdeal.τ).loc Cert.CoeffRefIdeal.main_arg6))
      ∧ r.2.mem ((c.tc : Thread Cert.CoeffRefIdeal.nD Cert.CoeffRefIdeal.τ).loc Cert.CoeffRefIdeal.main_arg0) = m ((c.tc : Thread Cert.CoeffRefIdeal.nD Cert.CoeffRefIdeal.τ).loc Cert.CoeffRefIdeal.main_arg0)
      ∧ r.2.mem ((c.tc : Thread Cert.CoeffRefIdeal.nD Cert.CoeffRefIdeal.τ).loc Cert.CoeffRefIdeal.main_arg1) = m ((c.tc : Thread Cert.CoeffRefIdeal.nD Cert.CoeffRefIdeal.τ).loc Cert.CoeffRefIdeal.main_arg1)
      ∧ r.2.mem ((c.tc : Thread Cert.CoeffRefIdeal.nD Cert.CoeffRefIdeal.τ).loc Cert.CoeffRefIdeal.main_arg2) = m ((c.tc : Thread Cert.CoeffRefIdeal.nD Cert.CoeffRefIdeal.τ).loc Cert.CoeffRefIdeal.main_arg2)
      ∧ r.2.mem ((c.tc : Thread Cert.CoeffRefIdeal.nD Cert.CoeffRefIdeal.τ).loc Cert.CoeffRefIdeal.main_arg3) = m ((c.tc : Thread Cert.CoeffRefIdeal.nD Cert.CoeffRefIdeal.τ).loc Cert.CoeffRefIdeal.main_arg3)
      ∧ r.2.mem ((c.tc : Thread Cert.CoeffRefIdeal.nD Cert.CoeffRefIdeal.τ).loc Cert.CoeffRefIdeal.main_arg4) = m ((c.tc : Thread Cert.CoeffRefIdeal.nD Cert.CoeffRefIdeal.τ).loc Cert.CoeffRefIdeal.main_arg4)
      ∧ r.2.mem ((c.tc : Thread Cert.CoeffRefIdeal.nD Cert.CoeffRefIdeal.τ).loc Cert.CoeffRefIdeal.main_arg5) = m ((c.tc : Thread Cert.CoeffRefIdeal.nD Cert.CoeffRefIdeal.τ).loc Cert.CoeffRefIdeal.main_arg5)
      ∧ r.2.mem ((c.tc : Thread Cert.CoeffRefIdeal.nD Cert.CoeffRefIdeal.τ).loc Cert.CoeffRefIdeal.main_arg6) = m ((c.tc : Thread Cert.CoeffRefIdeal.nD Cert.CoeffRefIdeal.τ).loc Cert.CoeffRefIdeal.main_arg6)) :=
  (θ_run _ _ _).mono (fun r h c => ⟨(h c).1.trans (Cert.CoeffRefIdeal.Read.val_main_v108_eq m c), (h c).2.1.trans (Cert.CoeffRefIdeal.Read.val_main_v97_eq m c),
    (h c).2.2.1.trans (Cert.CoeffRefIdeal.Read.val_main_v107_eq m c), (h c).2.2.2⟩) (Cert.CoeffRefIdeal.Value.run (F := Ideal) m ρ)

theorem algebraic : Cert.algebraic_CoeffIdeal_CoeffRefIdeal := by
  pair_intro
  · run_from Cert.CoeffProof.ends m g
  · refine (θ_run _ _ _).mono (fun r h c => ?_) (ref_run m' g')
    obtain ⟨a0, a1, a2, a3, a4, a5, a6⟩ := hagree c
    obtain ⟨k1, k2, k3, k⟩ := h c
    refine ⟨k1.trans ?_, k2.trans ?_, k3.trans ?_, k⟩ <;> rw [a0, a1, a2, a3, a4, a5, a6]
    · exact same_dre m c
    · exact same_dim m c
    · exact same_dstep m c

end Cert.CoeffProof
end
-- ==== Proof.DiscRow.lean ====
module

public import Idealize.ShloMosaic.PureOps.Ideal.Laws
public import Idealize.ShloMosaic.Lib.Pointwise

/-! One complex state: its discretised transition and the coefficient of its input. -/

@[expose] public section

noncomputable section

open Idealize.ShloMosaic

namespace Cert.DiscProof

/-- A state's real and imaginary part `p + i q` and its step's logarithm `d`. -/
structure State where
  p : EReal
  q : EReal
  d : EReal

namespace State

variable (s : State)

/-- The real part, held below the programs' cut, and the step. -/
def lr : EReal := min s.p (Ideal.ofBits .f32 0xB8D1B717#32)
def dt : EReal := Ideal.exp s.d
def mag : EReal := Ideal.exp (s.lr * s.dt)
/-- The transition's two parts. -/
def ar : EReal := s.mag * Ideal.cos (s.q * s.dt)
def ai : EReal := s.mag * Ideal.sin (s.q * s.dt)
def den : EReal := s.lr * s.lr + s.q * s.q
/-- The input's two coefficients. -/
def fr : EReal := Ideal.div ((s.ar - 1) * s.lr + s.ai * s.q) s.den
def fi : EReal := Ideal.div (s.ai * s.lr - (s.ar - 1) * s.q) s.den

end State

end Cert.DiscProof
end
-- ==== Proof.DiscTile.lean ====
module

public import proofs.«01_k».proof.Proof.Gen.DiscRefIdeal.Read
public import proofs.«01_k».proof.Proof.Gen.DiscIdeal.Frame
public import proofs.«01_k».proof.Proof.DiscRow
public import Idealize.ShloMosaic.Lib.Pipeline.ValueKit

/-! The reference and the call, state by state. -/

@[expose] public section

set_option maxRecDepth 16384

noncomputable section

open Idealize.ShloMosaic Idealize.ShloMosaic.TcCoe Idealize.SL.Sem
open Idealize.ShloMosaic.Pipeline (Dat)

namespace Cert.DiscProof

namespace Ref

open Cert.DiscRefIdeal Cert.DiscRefIdeal.Gen Cert.DiscRefIdeal.Read

variable (x0 x1 : FVec Ideal S4x16x64 .f32) (x2 : FVec Ideal S4x16 .f32) (a : Fin 4) (b : Fin 16) (j : Fin 64)

def state : State := ⟨x0 (ix3 a b j), x1 (ix3 a b j), x2 (ix2 a b)⟩

theorem ar_at : (val_main_v10 (F := Ideal) x0 x1 x2 : FVec Ideal S4x16x64 .f32) (ix3 a b j) = (state x0 x1 x2 a b j).ar := by
  pointwise [val_main_v10, val_main_v6, val_main_v5, val_main_v4, val_main_v3, val_main_v2, val_main_v1, val_main_v0, val_main_v9, val_main_v8, val_main_v7, val_main_cst]
  rfl

theorem ai_at : (val_main_v14 (F := Ideal) x0 x1 x2 : FVec Ideal S4x16x64 .f32) (ix3 a b j) = (state x0 x1 x2 a b j).ai := by
  pointwise [val_main_v14, val_main_v6, val_main_v5, val_main_v4, val_main_v3, val_main_v2, val_main_v1, val_main_v0, val_main_v13, val_main_v12, val_main_v11, val_main_cst]
  rfl

theorem fr_at : (val_main_v23 (F := Ideal) x0 x1 x2 : FVec Ideal S4x16x64 .f32) (ix3 a b j) = (state x0 x1 x2 a b j).fr := by
  pointwise [val_main_v23, val_main_v22, val_main_v21, val_main_v20, val_main_v19, val_main_v18, val_main_v17, val_main_v16, val_main_v15, val_main_cst_0, val_main_v1, val_main_v0, val_main_cst]
  simp only [ar_at x0 x1 x2, ai_at x0 x1 x2]
  rfl

theorem fi_at : (val_main_v27 (F := Ideal) x0 x1 x2 : FVec Ideal S4x16x64 .f32) (ix3 a b j) = (state x0 x1 x2 a b j).fi := by
  pointwise [val_main_v27, val_main_v26, val_main_v25, val_main_v24, val_main_v19, val_main_v18, val_main_v17, val_main_v16, val_main_v15, val_main_cst_0, val_main_v1, val_main_v0, val_main_cst]
  simp only [ar_at x0 x1 x2, ai_at x0 x1 x2]
  rfl

end Ref

namespace Tile

open Cert.DiscIdeal Cert.DiscIdeal.Gen

variable (x0 x1 : FVec Ideal S64x64 .f32) (x2 : FVec Ideal S64x1 .f32) (r j : Fin 64)

def state : State := ⟨x0 (ix2 r j), x1 (ix2 r j), x2 (ix2 r 0)⟩

theorem ar_pay : k0_pay5 (F := Ideal) x0 x1 x2 (ix2 r j) = (state x0 x1 x2 r j).ar := by
  pointwise [k0_pay5, k0_pay4, k0_pay3, k0_pay2, k0_pay1]
  rfl

theorem ai_pay : k0_pay6 (F := Ideal) x0 x1 x2 (ix2 r j) = (state x0 x1 x2 r j).ai := by
  pointwise [k0_pay6, k0_pay4, k0_pay3, k0_pay2, k0_pay1]
  rfl

theorem fr_pay : k0_pay9 (F := Ideal) x0 x1 x2 (ix2 r j) = (state x0 x1 x2 r j).fr := by
  pointwise [k0_pay9, k0_pay8, k0_pay7, k0_pay2, k0_pay1]
  simp only [ar_pay x0 x1 x2, ai_pay x0 x1 x2]
  rfl

theorem fi_pay : k0_pay10 (F := Ideal) x0 x1 x2 (ix2 r j) = (state x0 x1 x2 r j).fi := by
  pointwise [k0_pay10, k0_pay8, k0_pay7, k0_pay2, k0_pay1]
  simp only [ar_pay x0 x1 x2, ai_pay x0 x1 x2]
  rfl

theorem ar_at : out0_3 (F := Ideal) x0 x1 x2 (ix2 r j) = (state x0 x1 x2 r j).ar := by
  unfold out0_3
  simp (disch := decide) only [View.canon_cons_unit_lit', View.ld_unit_lit']
  exact ar_pay x0 x1 x2 r j

theorem ai_at : out0_4 (F := Ideal) x0 x1 x2 (ix2 r j) = (state x0 x1 x2 r j).ai := by
  unfold out0_4
  simp (disch := decide) only [View.canon_cons_unit_lit', View.ld_unit_lit']
  exact ai_pay x0 x1 x2 r j

theorem fr_at : out0_5 (F := Ideal) x0 x1 x2 (ix2 r j) = (state x0 x1 x2 r j).fr := by
  unfold out0_5
  simp (disch := decide) only [View.canon_cons_unit_lit', View.ld_unit_lit']
  exact fr_pay x0 x1 x2 r j

theorem fi_at : out0_6 (F := Ideal) x0 x1 x2 (ix2 r j) = (state x0 x1 x2 r j).fi := by
  unfold out0_6
  simp (disch := decide) only [View.canon_cons_unit_lit', View.ld_unit_lit']
  exact fi_pay x0 x1 x2 r j

end Tile

end Cert.DiscProof
end
-- ==== Proof.DiscArr.lean ====
module

public import proofs.«01_k».proof.Proof.DiscTile

/-! The arrays of the discretisation: 64 groups in the call, 4 layers of 16 groups outside it. -/

@[expose] public section

set_option maxRecDepth 16384

noncomputable section

open Idealize.ShloMosaic Idealize.ShloMosaic.TcCoe Idealize.SL.Sem
open Idealize.ShloMosaic.Pipeline (Dat)

namespace Cert.DiscProof

open Cert.DiscIdeal Cert.DiscIdeal.Gen

variable (m : (ℓ : Loc nD τ sig) → Buf (Elt Ideal) ℓ) (c : Dev nD) (t : Fin cfg0.N)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The arguments. -/
abbrev a0 : FVec Ideal S4x16x64 .f32 := m ((c : Thread nD τ).loc main_arg0)
abbrev a1 : FVec Ideal S4x16x64 .f32 := m ((c : Thread nD τ).loc main_arg1)
abbrev a2 : FVec Ideal S4x16 .f32 := m ((c : Thread nD τ).loc main_arg2)

/-- The layer and the group of a row of the call, and the row of a layer's group. -/
def hi (r : Fin 64) : Fin 4 := ⟨r.val / 16, by omega⟩
def lo (r : Fin 64) : Fin 16 := ⟨r.val % 16, by omega⟩
def at_ (a : Fin 4) (b : Fin 16) : Fin 64 := ⟨a.val * 16 + b.val, by omega⟩

theorem hi_at (a : Fin 4) (b : Fin 16) : hi (at_ a b) = a := Fin.ext (by simp only [hi, at_]; omega)
theorem lo_at (a : Fin 4) (b : Fin 16) : lo (at_ a b) = b := Fin.ext (by simp only [lo, at_]; omega)

theorem entry0 (r j : Fin 64) : (V m c main_v0 : FVec Ideal S64x64 .f32) (ix2 r j) = a0 m c (ix3 (hi r) (lo r) j) := by
  show (StableHlo.after hostOps0 (fun b => m (c, b)) (Proc.devRef .tc main_v0) : FVec Ideal S64x64 .f32) (ix2 r j) = _
  after_results
  pointwise []
  rfl

theorem blk0 (r j : Fin 64) : (iblk m c 0 t : FVec Ideal S64x64 .f32) (ix2 r j) = a0 m c (ix3 (hi r) (lo r) j) := by
  refine Eq.trans ?_ (entry0 m c r j)
  blk_point [iblk, idx t]

theorem entry1 (r j : Fin 64) : (V m c main_v1 : FVec Ideal S64x64 .f32) (ix2 r j) = a1 m c (ix3 (hi r) (lo r) j) := by
  show (StableHlo.after hostOps0 (fun b => m (c, b)) (Proc.devRef .tc main_v1) : FVec Ideal S64x64 .f32) (ix2 r j) = _
  after_results
  pointwise []
  rfl

theorem blk1 (r j : Fin 64) : (iblk m c 1 t : FVec Ideal S64x64 .f32) (ix2 r j) = a1 m c (ix3 (hi r) (lo r) j) := by
  refine Eq.trans ?_ (entry1 m c r j)
  blk_point [iblk, idx t]

theorem entry2 (r : Fin 64) : (V m c main_v2 : FVec Ideal S64x1 .f32) (ix2 r 0) = a2 m c (ix2 (hi r) (lo r)) := by
  show (StableHlo.after hostOps0 (fun b => m (c, b)) (Proc.devRef .tc main_v2) : FVec Ideal S64x1 .f32) (ix2 r 0) = _
  after_results
  pointwise []
  rfl

theorem blk2 (r : Fin 64) : (iblk m c 2 t : FVec Ideal S64x1 .f32) (ix2 r 0) = a2 m c (ix2 (hi r) (lo r)) := by
  refine Eq.trans ?_ (entry2 m c r)
  blk_point [iblk, idx t]

/-- The call's state is the reference's. -/
theorem state_eq (r j : Fin 64) : Tile.state (iblk m c 0 t) (iblk m c 1 t) (iblk m c 2 t) r j = Ref.state (a0 m c) (a1 m c) (a2 m c) (hi r) (lo r) j := by
  unfold Tile.state Ref.state
  rw [blk0, blk1, blk2]

theorem tile_ar (r j : Fin 64) : out0_3 (F := Ideal) (iblk m c 0 t) (iblk m c 1 t) (iblk m c 2 t) (ix2 r j) = (Ref.state (a0 m c) (a1 m c) (a2 m c) (hi r) (lo r) j).ar := by
  rw [Tile.ar_at, state_eq]

theorem arr3 : ((dats m 0 c).arrAt 3 cfg0.N : FVec Ideal S64x64 .f32) = fun i => (Ref.state (a0 m c) (a1 m c) (a2 m c) (hi (i 0)) (lo (i 0)) (i 1)).ar := by
  refine (dats m 0 c).arrAt_eq_of_covers 3 _ (by decide +kernel) fun t _ y => ?_
  blk_simp
  rw [after0_3]
  have e0 : ((win0_3.blk t).view.emb y 0 : Fin 64) = y 0 := Fin.ext (by blk_simp [idx t])
  have e1 : ((win0_3.blk t).view.emb y 1 : Fin 64) = y 1 := Fin.ext (by blk_simp [idx t])
  rw [e0, e1]
  exact (congrArg _ (ValueIdx.eq_ix2 (n0 := 64) (n1 := 64) y)).trans (tile_ar m c t (y 0) (y 1))

theorem tail_ar (a : Fin 4) (b : Fin 16) (j : Fin 64) : (Pipeline.afterTail₀ cfgs (dats m) 0 (V0 m) [hostOps1] c main_v4 : FVec Ideal S4x16x64 .f32) (ix3 a b j) = (Ref.state (a0 m c) (a1 m c) (a2 m c) a b j).ar := by
  have e : (Pipeline.withArrays spec0 c (V0 m c) (fun w => (dats m 0 c).arrAt w cfg0.N) (Proc.devRef .tc main_v3_0) : FVec Ideal S64x64 .f32) = fun i => (Ref.state (a0 m c) (a1 m c) (a2 m c) (hi (i 0)) (lo (i 0)) (i 1)).ar :=
    (Pipeline.withArrays_arr spec0 (by decide) c (V0 m c) (fun w => (dats m 0 c).arrAt w cfg0.N) 3).trans (arr3 m c)
  show (StableHlo.after hostOps1 (Pipeline.withArrays spec0 c (V0 m c) (fun w => (dats m 0 c).arrAt w cfg0.N)) (Proc.devRef .tc main_v4) : FVec Ideal S4x16x64 .f32) (ix3 a b j) = _
  after_results
  rw [e]
  pointwise []
  show (Ref.state (a0 m c) (a1 m c) (a2 m c) (hi (at_ a b)) (lo (at_ a b)) j).ar = _
  rw [hi_at, lo_at]

theorem tile_ai (r j : Fin 64) : out0_4 (F := Ideal) (iblk m c 0 t) (iblk m c 1 t) (iblk m c 2 t) (ix2 r j) = (Ref.state (a0 m c) (a1 m c) (a2 m c) (hi r) (lo r) j).ai := by
  rw [Tile.ai_at, state_eq]

theorem arr4 : ((dats m 0 c).arrAt 4 cfg0.N : FVec Ideal S64x64 .f32) = fun i => (Ref.state (a0 m c) (a1 m c) (a2 m c) (hi (i 0)) (lo (i 0)) (i 1)).ai := by
  refine (dats m 0 c).arrAt_eq_of_covers 4 _ (by decide +kernel) fun t _ y => ?_
  blk_simp
  rw [after0_4]
  have e0 : ((win0_4.blk t).view.emb y 0 : Fin 64) = y 0 := Fin.ext (by blk_simp [idx t])
  have e1 : ((win0_4.blk t).view.emb y 1 : Fin 64) = y 1 := Fin.ext (by blk_simp [idx t])
  rw [e0, e1]
  exact (congrArg _ (ValueIdx.eq_ix2 (n0 := 64) (n1 := 64) y)).trans (tile_ai m c t (y 0) (y 1))

theorem tail_ai (a : Fin 4) (b : Fin 16) (j : Fin 64) : (Pipeline.afterTail₀ cfgs (dats m) 0 (V0 m) [hostOps1] c main_v5 : FVec Ideal S4x16x64 .f32) (ix3 a b j) = (Ref.state (a0 m c) (a1 m c) (a2 m c) a b j).ai := by
  have e : (Pipeline.withArrays spec0 c (V0 m c) (fun w => (dats m 0 c).arrAt w cfg0.N) (Proc.devRef .tc main_v3_1) : FVec Ideal S64x64 .f32) = fun i => (Ref.state (a0 m c) (a1 m c) (a2 m c) (hi (i 0)) (lo (i 0)) (i 1)).ai :=
    (Pipeline.withArrays_arr spec0 (by decide) c (V0 m c) (fun w => (dats m 0 c).arrAt w cfg0.N) 4).trans (arr4 m c)
  show (StableHlo.after hostOps1 (Pipeline.withArrays spec0 c (V0 m c) (fun w => (dats m 0 c).arrAt w cfg0.N)) (Proc.devRef .tc main_v5) : FVec Ideal S4x16x64 .f32) (ix3 a b j) = _
  after_results
  rw [e]
  pointwise []
  show (Ref.state (a0 m c) (a1 m c) (a2 m c) (hi (at_ a b)) (lo (at_ a b)) j).ai = _
  rw [hi_at, lo_at]

theorem tile_fr (r j : Fin 64) : out0_5 (F := Ideal) (iblk m c 0 t) (iblk m c 1 t) (iblk m c 2 t) (ix2 r j) = (Ref.state (a0 m c) (a1 m c) (a2 m c) (hi r) (lo r) j).fr := by
  rw [Tile.fr_at, state_eq]

theorem arr5 : ((dats m 0 c).arrAt 5 cfg0.N : FVec Ideal S64x64 .f32) = fun i => (Ref.state (a0 m c) (a1 m c) (a2 m c) (hi (i 0)) (lo (i 0)) (i 1)).fr := by
  refine (dats m 0 c).arrAt_eq_of_covers 5 _ (by decide +kernel) fun t _ y => ?_
  blk_simp
  rw [after0_5]
  have e0 : ((win0_5.blk t).view.emb y 0 : Fin 64) = y 0 := Fin.ext (by blk_simp [idx t])
  have e1 : ((win0_5.blk t).view.emb y 1 : Fin 64) = y 1 := Fin.ext (by blk_simp [idx t])
  rw [e0, e1]
  exact (congrArg _ (ValueIdx.eq_ix2 (n0 := 64) (n1 := 64) y)).trans (tile_fr m c t (y 0) (y 1))

theorem tail_fr (a : Fin 4) (b : Fin 16) (j : Fin 64) : (Pipeline.afterTail₀ cfgs (dats m) 0 (V0 m) [hostOps1] c main_v6 : FVec Ideal S4x16x64 .f32) (ix3 a b j) = (Ref.state (a0 m c) (a1 m c) (a2 m c) a b j).fr := by
  have e : (Pipeline.withArrays spec0 c (V0 m c) (fun w => (dats m 0 c).arrAt w cfg0.N) (Proc.devRef .tc main_v3_2) : FVec Ideal S64x64 .f32) = fun i => (Ref.state (a0 m c) (a1 m c) (a2 m c) (hi (i 0)) (lo (i 0)) (i 1)).fr :=
    (Pipeline.withArrays_arr spec0 (by decide) c (V0 m c) (fun w => (dats m 0 c).arrAt w cfg0.N) 5).trans (arr5 m c)
  show (StableHlo.after hostOps1 (Pipeline.withArrays spec0 c (V0 m c) (fun w => (dats m 0 c).arrAt w cfg0.N)) (Proc.devRef .tc main_v6) : FVec Ideal S4x16x64 .f32) (ix3 a b j) = _
  after_results
  rw [e]
  pointwise []
  show (Ref.state (a0 m c) (a1 m c) (a2 m c) (hi (at_ a b)) (lo (at_ a b)) j).fr = _
  rw [hi_at, lo_at]

theorem tile_fi (r j : Fin 64) : out0_6 (F := Ideal) (iblk m c 0 t) (iblk m c 1 t) (iblk m c 2 t) (ix2 r j) = (Ref.state (a0 m c) (a1 m c) (a2 m c) (hi r) (lo r) j).fi := by
  rw [Tile.fi_at, state_eq]

theorem arr6 : ((dats m 0 c).arrAt 6 cfg0.N : FVec Ideal S64x64 .f32) = fun i => (Ref.state (a0 m c) (a1 m c) (a2 m c) (hi (i 0)) (lo (i 0)) (i 1)).fi := by
  refine (dats m 0 c).arrAt_eq_of_covers 6 _ (by decide +kernel) fun t _ y => ?_
  blk_simp
  rw [after0_6]
  have e0 : ((win0_6.blk t).view.emb y 0 : Fin 64) = y 0 := Fin.ext (by blk_simp [idx t])
  have e1 : ((win0_6.blk t).view.emb y 1 : Fin 64) = y 1 := Fin.ext (by blk_simp [idx t])
  rw [e0, e1]
  exact (congrArg _ (ValueIdx.eq_ix2 (n0 := 64) (n1 := 64) y)).trans (tile_fi m c t (y 0) (y 1))

theorem tail_fi (a : Fin 4) (b : Fin 16) (j : Fin 64) : (Pipeline.afterTail₀ cfgs (dats m) 0 (V0 m) [hostOps1] c main_v7 : FVec Ideal S4x16x64 .f32) (ix3 a b j) = (Ref.state (a0 m c) (a1 m c) (a2 m c) a b j).fi := by
  have e : (Pipeline.withArrays spec0 c (V0 m c) (fun w => (dats m 0 c).arrAt w cfg0.N) (Proc.devRef .tc main_v3_3) : FVec Ideal S64x64 .f32) = fun i => (Ref.state (a0 m c) (a1 m c) (a2 m c) (hi (i 0)) (lo (i 0)) (i 1)).fi :=
    (Pipeline.withArrays_arr spec0 (by decide) c (V0 m c) (fun w => (dats m 0 c).arrAt w cfg0.N) 6).trans (arr6 m c)
  show (StableHlo.after hostOps1 (Pipeline.withArrays spec0 c (V0 m c) (fun w => (dats m 0 c).arrAt w cfg0.N)) (Proc.devRef .tc main_v7) : FVec Ideal S4x16x64 .f32) (ix3 a b j) = _
  after_results
  rw [e]
  pointwise []
  show (Ref.state (a0 m c) (a1 m c) (a2 m c) (hi (at_ a b)) (lo (at_ a b)) j).fi = _
  rw [hi_at, lo_at]

end Cert.DiscProof
end
-- ==== Proof.DiscEq.lean ====
module

public import proofs.«01_k».proof.Defs
public import proofs.«01_k».proof.Proof.DiscArr
public import proofs.«01_k».proof.Proof.Gen.DiscIdeal
public import proofs.«01_k».proof.Proof.Gen.DiscRefIdeal
public import proofs.«01_k».proof.Proof.Gen.DiscRefIdeal.Run
public import Idealize.ShloMosaic.Lib.Claim

/-! The call computes the reference's discretisation. -/

@[expose] public section

set_option maxRecDepth 16384

noncomputable section

namespace Cert.DiscProof

open Idealize.ShloMosaic Idealize.ShloMosaic.TcCoe Idealize.SL.Sem

theorem ref_frame (m : (ℓ : Loc Cert.DiscRefIdeal.nD Cert.DiscRefIdeal.τ Cert.DiscRefIdeal.sig) → Buf (Elt Ideal) ℓ) (ρ : Dev Cert.DiscRefIdeal.nD → PrngReg) :
    θ_run (Cert.DiscRefIdeal.defs (F := Ideal)) (onTc (τ := Cert.DiscRefIdeal.τ) (Cert.DiscRefIdeal.main (F := Ideal))) ⟨m, fun _ => 0, ρ⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2))
      ∧ r.2.sem = fun _ => 0) :=
  (θ_run _ _ _).mono (fun r h => ⟨fun c => (h c).2.2.2.2, Idealize.ShloMosaic.sem_eq_zero_of_no_sems (by decide) r.2⟩)
    (Cert.DiscRefIdeal.Value.run (F := Ideal) m ρ)

section
open Cert.DiscIdeal Cert.DiscIdeal.Gen

variable (m : (ℓ : Loc nD τ sig) → Buf (Elt Ideal) ℓ) (ρ : Dev nD → PrngReg) (c : Dev nD)

/-- Every run ends with the four coefficients, and the arguments unchanged. -/
theorem ends : θ_run defs (onTc (τ := τ) (main (F := Ideal))) ⟨m, fun _ => 0, ρ⟩ (fun r => ∀ c : Dev nD,
      r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_v7) = Pipeline.afterTail₀ cfgs (dats m) 0 (V0 m) [hostOps1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).2 main_v4 (Pipeline.mem_restRefs_of main_v4 (by decide) (by decide)), (h.1 c).2 main_v5 (Pipeline.mem_restRefs_of main_v5 (by decide) (by decide)),
    (h.1 c).2 main_v6 (Pipeline.mem_restRefs_of main_v6 (by decide) (by decide)), (h.1 c).2 main_v7 (Pipeline.mem_restRefs_of main_v7 (by decide) (by decide)), h.2 c⟩)
    (θ_run_and (run_main m ρ) (unchanged m ρ))

theorem same_ar : (Cert.DiscRefIdeal.Read.val_main_v10 (F := Ideal) (a0 m c) (a1 m c) (a2 m c) : FVec Ideal S4x16x64 .f32)
    = Pipeline.afterTail₀ cfgs (dats m) 0 (V0 m) [hostOps1] c main_v4 := by
  funext i
  obtain ⟨a, b, j, rfl⟩ : ∃ a b j, i = ix3 a b j := ⟨i 0, i 1, i 2, ValueIdx.eq_ix3 i⟩
  exact (Ref.ar_at (a0 m c) (a1 m c) (a2 m c) a b j).trans (tail_ar m c a b j).symm

theorem same_ai : (Cert.DiscRefIdeal.Read.val_main_v14 (F := Ideal) (a0 m c) (a1 m c) (a2 m c) : FVec Ideal S4x16x64 .f32)
    = Pipeline.afterTail₀ cfgs (dats m) 0 (V0 m) [hostOps1] c main_v5 := by
  funext i
  obtain ⟨a, b, j, rfl⟩ : ∃ a b j, i = ix3 a b j := ⟨i 0, i 1, i 2, ValueIdx.eq_ix3 i⟩
  exact (Ref.ai_at (a0 m c) (a1 m c) (a2 m c) a b j).trans (tail_ai m c a b j).symm

theorem same_fr : (Cert.DiscRefIdeal.Read.val_main_v23 (F := Ideal) (a0 m c) (a1 m c) (a2 m c) : FVec Ideal S4x16x64 .f32)
    = Pipeline.afterTail₀ cfgs (dats m) 0 (V0 m) [hostOps1] c main_v6 := by
  funext i
  obtain ⟨a, b, j, rfl⟩ : ∃ a b j, i = ix3 a b j := ⟨i 0, i 1, i 2, ValueIdx.eq_ix3 i⟩
  exact (Ref.fr_at (a0 m c) (a1 m c) (a2 m c) a b j).trans (tail_fr m c a b j).symm

theorem same_fi : (Cert.DiscRefIdeal.Read.val_main_v27 (F := Ideal) (a0 m c) (a1 m c) (a2 m c) : FVec Ideal S4x16x64 .f32)
    = Pipeline.afterTail₀ cfgs (dats m) 0 (V0 m) [hostOps1] c main_v7 := by
  funext i
  obtain ⟨a, b, j, rfl⟩ : ∃ a b j, i = ix3 a b j := ⟨i 0, i 1, i 2, ValueIdx.eq_ix3 i⟩
  exact (Ref.fi_at (a0 m c) (a1 m c) (a2 m c) a b j).trans (tail_fi m c a b j).symm

end

/-- The reference's run, its results read at an index. -/
theorem ref_run (m : (ℓ : Loc Cert.DiscRefIdeal.nD Cert.DiscRefIdeal.τ Cert.DiscRefIdeal.sig) → Buf (Elt Ideal) ℓ) (ρ : Dev Cert.DiscRefIdeal.nD → PrngReg) :
    θ_run (Cert.DiscRefIdeal.defs (F := Ideal)) (onTc (τ := Cert.DiscRefIdeal.τ) (Cert.DiscRefIdeal.main (F := Ideal))) ⟨m, fun _ => 0, ρ⟩ (fun r => ∀ c : Dev Cert.DiscRefIdeal.nD,
      r.2.mem ((c.tc : Thread Cert.DiscRefIdeal.nD Cert.DiscRefIdeal.τ).loc Cert.DiscRefIdeal.main_v10)
        = Cert.DiscRefIdeal.Read.val_main_v10 (F := Ideal) (m ((c.tc : Thread Cert.DiscRefIdeal.nD Cert.DiscRefIdeal.τ).loc Cert.DiscRefIdeal.main_arg0)) (m ((c.tc : Thread Cert.DiscRefIdeal.nD Cert.DiscRefIdeal.τ).loc Cert.DiscRefIdeal.main_arg1)) (m ((c.tc : Thread Cert.DiscRefIdeal.nD Cert.DiscRefIdeal.τ).loc Cert.DiscRefIdeal.main_arg2))
      ∧ r.2.mem ((c.tc : Thread Cert.DiscRefIdeal.nD Cert.DiscRefIdeal.τ).loc Cert.DiscRefIdeal.main_v14)
        = Cert.DiscRefIdeal.Read.val_main_v14 (F := Ideal) (m ((c.tc : Thread Cert.DiscRefIdeal.nD Cert.DiscRefIdeal.τ).loc Cert.DiscRefIdeal.main_arg0)) (m ((c.tc : Thread Cert.DiscRefIdeal.nD Cert.DiscRefIdeal.τ).loc Cert.DiscRefIdeal.main_arg1)) (m ((c.tc : Thread Cert.DiscRefIdeal.nD Cert.DiscRefIdeal.τ).loc Cert.DiscRefIdeal.main_arg2))
      ∧ r.2.mem ((c.tc : Thread Cert.DiscRefIdeal.nD Cert.DiscRefIdeal.τ).loc Cert.DiscRefIdeal.main_v23)
        = Cert.DiscRefIdeal.Read.val_main_v23 (F := Ideal) (m ((c.tc : Thread Cert.DiscRefIdeal.nD Cert.DiscRefIdeal.τ).loc Cert.DiscRefIdeal.main_arg0)) (m ((c.tc : Thread Cert.DiscRefIdeal.nD Cert.DiscRefIdeal.τ).loc Cert.DiscRefIdeal.main_arg1)) (m ((c.tc : Thread Cert.DiscRefIdeal.nD Cert.DiscRefIdeal.τ).loc Cert.DiscRefIdeal.main_arg2))
      ∧ r.2.mem ((c.tc : Thread Cert.DiscRefIdeal.nD Cert.DiscRefIdeal.τ).loc Cert.DiscRefIdeal.main_v27)
        = Cert.DiscRefIdeal.Read.val_main_v27 (F := Ideal) (m ((c.tc : Thread Cert.DiscRefIdeal.nD Cert.DiscRefIdeal.τ).loc Cert.DiscRefIdeal.main_arg0)) (m ((c.tc : Thread Cert.DiscRefIdeal.nD Cert.DiscRefIdeal.τ).loc Cert.DiscRefIdeal.main_arg1)) (m ((c.tc : Thread Cert.DiscRefIdeal.nD Cert.DiscRefIdeal.τ).loc Cert.DiscRefIdeal.main_arg2))
      ∧ r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)) :=
  (θ_run _ _ _).mono (fun r h c => ⟨(h c).1.trans (Cert.DiscRefIdeal.Read.val_main_v10_eq _ _ _), (h c).2.1.trans (Cert.DiscRefIdeal.Read.val_main_v14_eq _ _ _),
    (h c).2.2.1.trans (Cert.DiscRefIdeal.Read.val_main_v23_eq _ _ _), (h c).2.2.2.1.trans (Cert.DiscRefIdeal.Read.val_main_v27_eq _ _ _), (h c).2.2.2.2⟩) (Cert.DiscRefIdeal.Value.run (F := Ideal) m ρ)

theorem algebraic : Cert.algebraic_DiscIdeal_DiscRefIdeal := by
  pair_intro
  · run_from Cert.DiscProof.ends m g
  · refine (θ_run _ _ _).mono (fun r h c => ?_) (ref_run m' g')
    obtain ⟨a0, a1, a2⟩ := hagree c
    obtain ⟨k1, k2, k3, k4, k⟩ := h c
    refine ⟨k1.trans ?_, k2.trans ?_, k3.trans ?_, k4.trans ?_, k⟩ <;> rw [a0, a1, a2]
    · exact same_ar m c
    · exact same_ai m c
    · exact same_fr m c
    · exact same_fi m c

end Cert.DiscProof
end
-- ==== Proof.ActValue.lean ====
module

public import proofs.«01_k».proof.Proof.Gen.ActIdeal.Value
public import proofs.«01_k».proof.Proof.Gen.ActRefIdeal.Run
public import proofs.«01_k».proof.Proof.Gen.ActRefIdeal.Read
public import Idealize.ShloMosaic.Lib.Pipeline.ValueKit
public import Idealize.ShloMosaic.Lib.Pointwise

/-! The two halves of the first product and the gated product `silu gate * up`, block by block, against the reference's terms. -/

@[expose] public section

set_option maxRecDepth 16384

noncomputable section

open Idealize.ShloMosaic Idealize.ShloMosaic.TcCoe Idealize.SL.Sem
open Idealize.ShloMosaic.Pipeline (Dat)

namespace Cert.ActIdeal.Value

open Cert.ActIdeal Cert.ActIdeal.Gen

variable (m : (ℓ : Loc nD τ sig) → Buf (Elt Ideal) ℓ)

theorem idx : ∀ t : Fin cfg0.N, win0_0.index t = ![t.val / 2, 0] ∧ win0_1.index t = ![0, t.val % 2]
    ∧ win0_2.index t = ![0, t.val % 2 + 2] ∧ win0_3.index t = ![t.val / 2, t.val % 2]
    ∧ win0_4.index t = ![t.val / 2, t.val % 2] ∧ win0_5.index t = ![t.val / 2, t.val % 2] :=
  (by decide +kernel : ∀ t : Fin grid0.N, _)

/-- The product's left and right halves, and the gated product of the two. -/
def gate (X0 : FVec Ideal S8192x1024 .bf16) (X1 : FVec Ideal S1024x5632 .bf16) : FVec Ideal S8192x2816 .bf16 :=
  fun i => ∑ k : Fin 1024, X0 (ix2 (i 0) k) * X1 (ix2 k ⟨(i 1).val, Nat.lt_of_lt_of_le (i 1).isLt (by decide)⟩)

def up (X0 : FVec Ideal S8192x1024 .bf16) (X1 : FVec Ideal S1024x5632 .bf16) : FVec Ideal S8192x2816 .bf16 :=
  fun i => ∑ k : Fin 1024, X0 (ix2 (i 0) k) * X1 (ix2 k ⟨2816 + (i 1).val, Nat.add_lt_add_left (i 1).isLt 2816⟩)

def act (X0 : FVec Ideal S8192x1024 .bf16) (X1 : FVec Ideal S1024x5632 .bf16) : FVec Ideal S8192x2816 .bf16 :=
  fun i => gate X0 X1 i * Ideal.logistic (gate X0 X1 i) * up X0 X1 i

theorem final3 (c : Dev nD) : (dats m 0 c).arrAt 3 (cfgs 0).N
    = gate (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  canon_tiles x h using (View.cover_of_tiledBy _ ![512, 128] (by sl_kernel_rfl) y)
  all_goals (open_payloads; pointwise [gate])
  all_goals blk_point [iblk, V, idx t]

theorem final4 (c : Dev nD) : (dats m 0 c).arrAt 4 (cfgs 0).N
    = up (m ((c : Thread nD τ).loc main_arg0)) (m ((c : Thread nD τ).loc main_arg1)) := by
  refine (dats m 0 c).arrAt_eq_of_covers 4 _ (by decide +kernel) fun t _ y => ?_
  blk_simp
  rw [after0_4]; unfold outsAt0; frame_out
  canon_tiles x h using (View.cover_of_tiledBy _ ![512, 128] (by sl_kernel_rfl) y)
  all_goals (open_payloads; pointwise [up])
  all_goals blk_point [iblk, V, idx t]

theorem final5 (c : Dev nD) : (dats m 0 c).arrAt 5 (cfgs 0).N
    = act (m ((c : Thread nD τ).loc main_arg0)) (m ((c : Thread nD τ).loc main_arg1)) := by
  refine (dats m 0 c).arrAt_eq_of_covers 5 _ (by decide +kernel) fun t _ y => ?_
  blk_simp
  rw [after0_5]; unfold outsAt0; frame_out
  canon_tiles x h using (View.cover_of_tiledBy _ ![512, 128] (by sl_kernel_rfl) y)
  all_goals (open_payloads; pointwise [act, gate, up])
  all_goals blk_point [iblk, V, idx t]

end Cert.ActIdeal.Value

namespace Cert.ActRefIdeal.Value

open Cert.ActRefIdeal Cert.ActRefIdeal.Gen

theorem ref_gate (x0 : FVec Ideal S8192x1024 .bf16) (x1 : FVec Ideal S1024x5632 .bf16) :
    Read.val_main_v5 (F := Ideal) x0 x1 = Cert.ActIdeal.Value.gate x0 x1 := by
  funext i
  rw [← Read.val_main_v5_eq]
  pointwise [Cert.ActIdeal.Value.gate]

theorem ref_up (x0 : FVec Ideal S8192x1024 .bf16) (x1 : FVec Ideal S1024x5632 .bf16) :
    Read.val_main_v6 (F := Ideal) x0 x1 = Cert.ActIdeal.Value.up x0 x1 := by
  funext i
  rw [← Read.val_main_v6_eq]
  pointwise [Cert.ActIdeal.Value.up]

theorem ref_act (x0 : FVec Ideal S8192x1024 .bf16) (x1 : FVec Ideal S1024x5632 .bf16) :
    Read.val_main_v9 (F := Ideal) x0 x1 = Cert.ActIdeal.Value.act x0 x1 := by
  funext i
  rw [← Read.val_main_v9_eq]
  pointwise [Cert.ActIdeal.Value.act, Cert.ActIdeal.Value.gate, Cert.ActIdeal.Value.up]
  rfl

end Cert.ActRefIdeal.Value

end
-- ==== Proof.ActEq.lean ====
module

public import proofs.«01_k».proof.Defs
public import proofs.«01_k».proof.Proof.ActValue
public import proofs.«01_k».proof.Proof.Gen.ActRefIdeal
public import proofs.«01_k».proof.Proof.Gen.ActIdeal
public import Idealize.ShloMosaic.Lib.Claim

/-! The gated product's forward call computes the reference's halves and product. -/

@[expose] public section

set_option maxRecDepth 16384

noncomputable section

namespace Cert.ActProof

open Idealize.ShloMosaic Idealize.ShloMosaic.TcCoe Idealize.SL.Sem

theorem ref_frame (m : (ℓ : Loc Cert.ActRefIdeal.nD Cert.ActRefIdeal.τ Cert.ActRefIdeal.sig) → Buf (Elt Ideal) ℓ) (ρ : Dev Cert.ActRefIdeal.nD → PrngReg) :
    θ_run (Cert.ActRefIdeal.defs (F := Ideal)) (onTc (τ := Cert.ActRefIdeal.τ) (Cert.ActRefIdeal.main (F := Ideal))) ⟨m, fun _ => 0, ρ⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0) :=
  (θ_run _ _ _).mono (fun r h => ⟨fun c => (h c).2.2.2, Idealize.ShloMosaic.sem_eq_zero_of_no_sems (by decide) r.2⟩)
    (Cert.ActRefIdeal.Value.run (F := Ideal) m ρ)

theorem algebraic : Cert.algebraic_ActIdeal_ActRefIdeal := by
  pair_intro
  · run_from Cert.ActIdeal.Value.run_blocks m g
  · run_from Cert.ActRefIdeal.Value.run m' g'
    · exact (Cert.ActRefIdeal.Value.ref_gate _ _).trans (Cert.ActIdeal.Value.final3 m c).symm
    · exact (Cert.ActRefIdeal.Value.ref_up _ _).trans (Cert.ActIdeal.Value.final4 m c).symm
    · exact (Cert.ActRefIdeal.Value.ref_act _ _).trans (Cert.ActIdeal.Value.final5 m c).symm

end Cert.ActProof

end
-- ==== Proof.TapsValue.lean ====
module
public import proofs.«01_k».proof.Proof.Gen.TapsIdeal.Value
public import Idealize.ShloMosaic.Lib.Pipeline.ValueKit
public import Idealize.ShloMosaic.Lib.Pipeline.ReadBack
public import Idealize.ShloMosaic.Lib.Pointwise

/-! The depthwise convolution, tile by tile: the rows a tile works on, their shifted copies, and the sum over the taps. -/

@[expose] public section

set_option maxRecDepth 16384

noncomputable section
open Idealize.ShloMosaic Idealize.ShloMosaic.TcCoe Idealize.SL.Sem
open Idealize.ShloMosaic.Pipeline (Dat)
namespace Cert.TapsIdeal.Value
open Cert.TapsIdeal Cert.TapsIdeal.Gen
variable (m : (ℓ : Loc nD τ sig) → Buf (Elt Ideal) ℓ)
theorem idx : ∀ t : Fin cfg0.N, win0_0.index t = ![t.val, 8] ∧ win0_1.index t = ![t.val * 16 - 1, 8] ∧ win0_2.index t = ![0, 0]
    ∧ win0_3.index t = ![0, 0] ∧ win0_4.index t = ![t.val, 0] :=
  (by decide +kernel : ∀ t : Fin grid0.N, _)

theorem first : ∀ t : Fin cfg0.N, Scalar.cmpi .sgt (BitVec.ofNat 32 (grid0.coords t 1).val) 0#32 = if t.val % 8 = 0 then 0#1 else 1#1 :=
  (by decide +kernel : ∀ t : Fin grid0.N, _)

/-- Seven copies of the rows, copy `b` moved up by `b + 1`. -/
def shifted (E : FVec Ideal S544x256 .f32) : FVec Ideal S7x536x256 .f32 :=
  View.canon (Val := Elt Ideal) (s := S7x536x256) (e := .f32) [⟨Rect.unit (s := S7x536x256) ![6, 0, 0] ![1, 536, 256] inb_S7x536x256_S1x536x256_6_0_0, k0_pay10 (F := Ideal) fun j => E ((Rect.unit (s := S544x256) ![7, 0] ![536, 256] inb_S544x256_S536x256_7_0).toLoadRect.idx j)⟩,
      ⟨Rect.unit (s := S7x536x256) ![5, 0, 0] ![1, 536, 256] inb_S7x536x256_S1x536x256_5_0_0, k0_pay9 (F := Ideal) fun j => E ((Rect.unit (s := S544x256) ![6, 0] ![536, 256] inb_S544x256_S536x256_6_0).toLoadRect.idx j)⟩,
      ⟨Rect.unit (s := S7x536x256) ![4, 0, 0] ![1, 536, 256] inb_S7x536x256_S1x536x256_4_0_0, k0_pay8 (F := Ideal) fun j => E ((Rect.unit (s := S544x256) ![5, 0] ![536, 256] inb_S544x256_S536x256_5_0).toLoadRect.idx j)⟩,
      ⟨Rect.unit (s := S7x536x256) ![3, 0, 0] ![1, 536, 256] inb_S7x536x256_S1x536x256_3_0_0, k0_pay7 (F := Ideal) fun j => E ((Rect.unit (s := S544x256) ![4, 0] ![536, 256] inb_S544x256_S536x256_4_0).toLoadRect.idx j)⟩,
      ⟨Rect.unit (s := S7x536x256) ![2, 0, 0] ![1, 536, 256] inb_S7x536x256_S1x536x256_2_0_0, k0_pay6 (F := Ideal) fun j => E ((Rect.unit (s := S544x256) ![3, 0] ![536, 256] inb_S544x256_S536x256_3_0).toLoadRect.idx j)⟩,
      ⟨Rect.unit (s := S7x536x256) ![1, 0, 0] ![1, 536, 256] inb_S7x536x256_S1x536x256_1_0_0, k0_pay5 (F := Ideal) fun j => E ((Rect.unit (s := S544x256) ![2, 0] ![536, 256] inb_S544x256_S536x256_2_0).toLoadRect.idx j)⟩,
      ⟨Rect.unit (s := S7x536x256) ![0, 0, 0] ![1, 536, 256] inb_S7x536x256_S1x536x256_0_0_0, k0_pay4 (F := Ideal) fun j => E ((Rect.unit (s := S544x256) ![1, 0] ![536, 256] inb_S544x256_S536x256_1_0).toLoadRect.idx j)⟩]

theorem copies (E : FVec Ideal S544x256 .f32) (i : S7x536x256.Idx) :
    shifted E i
    = E (ix2 ⟨(i 1).val + (i 0).val + 1, Nat.lt_of_le_of_lt (Nat.succ_le_succ (Nat.add_le_add (Nat.le_pred_of_lt (i 1).isLt) (Nat.le_pred_of_lt (i 0).isLt))) (by decide)⟩ (i 2)) := by
  unfold shifted
  canon_tiles x h using (View.cover_of_tiledBy _ ![1, 536, 256] (by sl_kernel_rfl) i)
  all_goals open_payloads
  all_goals pointwise []
  all_goals exact congrArg E (congrArg₂ ix2 (Fin.ext (by dsimp only; omega)) (Fin.ext h2.symm))

/-- The rows a tile works on: the last 32 rows before it, then its own. -/
def tile (p : grid0.Coords) (c : FVec Ideal S512x512 .f32) (q : FVec Ideal S32x512 .f32) : FVec Ideal S544x256 .f32 :=
  View.canon (Val := Elt Ideal) (s := S544x256) (e := .f32) [⟨Rect.unit (s := S544x256) ![32, 0] S512x256.size inb_S544x256_S512x256_32_0, k0_pay3 (F := Ideal) c⟩,
    ⟨Rect.unit (s := S544x256) ![0, 0] S32x256.size inb_S544x256_S32x256_0_0, k0_pay2 (F := Ideal) p q⟩]

/-- Seven stores read back together. -/
def pieces (p6 p5 p4 p3 p2 p1 p0 : View.Piece (Elt Ideal) S7x536x256 .f32) : FVec Ideal S7x536x256 .f32 := View.canon [p6, p5, p4, p3, p2, p1, p0]

/-- Row `n` of the gated input, the sequences one after the other. -/
def glu (C : FVec Ideal S2x4096x512 .f32) (n : ℕ) (j : Fin 256) : EReal :=
  C (ix3 (Fin.ofNat 2 (n / 4096)) (Fin.ofNat 4096 n) ⟨j.val, by omega⟩) * Ideal.logistic (C (ix3 (Fin.ofNat 2 (n / 4096)) (Fin.ofNat 4096 n) ⟨256 + j.val, by omega⟩))

/-- Row `n` of the rows tile `t` works on: its own start at row 32, the first tile of a sequence has zeros before them. -/
def row (C : FVec Ideal S2x4096x512 .f32) (t n : ℕ) (j : Fin 256) : EReal :=
  if n < 32 ∧ t % 8 = 0 then 0 else glu C (t * 512 + n - 32) j

/-- The depthwise convolution at position `p` of tile `t`. -/
def tapsAt (C : FVec Ideal S2x4096x512 .f32) (W : FVec Ideal S31x256 .f32) (B : FVec Ideal S256 .f32) (t p : ℕ) (j : Fin 256) : EReal :=
  B (ix1 j) + ∑ k ∈ Finset.range 31, W (ix2 (Fin.ofNat 31 k) j) * row C t (2 + k + p) j

def taps (C : FVec Ideal S2x4096x512 .f32) (W : FVec Ideal S31x256 .f32) (B : FVec Ideal S256 .f32) : FVec Ideal S8192x256 .f32 :=
  fun i => tapsAt C W B ((i 0).val / 512) ((i 0).val % 512) (i 1)

theorem taps_tile (C : FVec Ideal S2x4096x512 .f32) (W : FVec Ideal S31x256 .f32) (B : FVec Ideal S256 .f32) (t p : ℕ) (hp : p < 512) (h : t * 512 + p < 8192) (j : Fin 256) :
    taps C W B (ix2 ⟨t * 512 + p, h⟩ j) = tapsAt C W B t p j := by
  show tapsAt C W B ((t * 512 + p) / 512) ((t * 512 + p) % 512) j = _
  rw [show (t * 512 + p) / 512 = t by omega, show (t * 512 + p) % 512 = p by omega]

variable (c : Dev nD) (t : Fin cfg0.N)

theorem entry_z (r : Fin 8192) (j : Fin 512) : (V m c main_v2 : FVec Ideal S8192x4608 .f32) (ix2 r ⟨4096 + j.val, by omega⟩)
    = (m ((c : Thread nD τ).loc main_arg0) : FVec Ideal S2x4096x512 .f32) (ix3 (Fin.ofNat 2 (r.val / 4096)) (Fin.ofNat 4096 r.val) j) := by
  show (StableHlo.after hostOps0 (fun b => m (c, b)) (Proc.devRef .tc main_v2) : FVec Ideal S8192x4608 .f32) (ix2 r ⟨4096 + j.val, by omega⟩) = _
  after_results
  pointwise []
  exact congrArg _ (congrArg₂ (fun a b => ix3 a b j) (Fin.ext (Nat.mod_eq_of_lt (by omega)).symm) (Fin.ext rfl))

theorem entry_b (u : Fin 1) (j : Fin 256) : (V m c main_v3 : FVec Ideal S1x256 .f32) (ix2 u j) = (m ((c : Thread nD τ).loc main_arg2) : FVec Ideal S256 .f32) (ix1 j) := by
  show (StableHlo.after hostOps0 (fun b => m (c, b)) (Proc.devRef .tc main_v3) : FVec Ideal S1x256 .f32) (ix2 u j) = _
  after_results
  pointwise []

theorem blk_w (k : Fin 31) (j : Fin 256) : (iblk m c 2 t : FVec Ideal S31x256 .f32) (ix2 k j) = (m ((c : Thread nD τ).loc main_arg1) : FVec Ideal S31x256 .f32) (ix2 k j) := by
  blk_point [iblk, idx t, V]

theorem blk_b (j : Fin 256) : (iblk m c 3 t : FVec Ideal S1x256 .f32) (ix2 0 j) = (m ((c : Thread nD τ).loc main_arg2) : FVec Ideal S256 .f32) (ix1 j) := by
  refine Eq.trans ?_ (entry_b m c 0 j)
  blk_point [iblk, idx t]

/-- A tile's block of the convolution's columns, and the 32 rows before it. -/
theorem blk_c (r : Fin 512) (j : Fin 512) : (iblk m c 0 t : FVec Ideal S512x512 .f32) (ix2 r j)
    = (m ((c : Thread nD τ).loc main_arg0) : FVec Ideal S2x4096x512 .f32) (ix3 (Fin.ofNat 2 ((t.val * 512 + r.val) / 4096)) (Fin.ofNat 4096 (t.val * 512 + r.val)) j) := by
  have ht : t.val < 16 := t.isLt
  refine Eq.trans ?_ (entry_z m c ⟨t.val * 512 + r.val, by omega⟩ j)
  blk_point [iblk, idx t]

theorem blk_p (h8 : ¬ t.val % 8 = 0) (r : Fin 32) (j : Fin 512) : (iblk m c 1 t : FVec Ideal S32x512 .f32) (ix2 r j)
    = (m ((c : Thread nD τ).loc main_arg0) : FVec Ideal S2x4096x512 .f32) (ix3 (Fin.ofNat 2 ((t.val * 512 + r.val - 32) / 4096)) (Fin.ofNat 4096 (t.val * 512 + r.val - 32)) j) := by
  have ht : t.val < 16 := t.isLt
  refine Eq.trans ?_ (entry_z m c ⟨t.val * 512 + r.val - 32, by omega⟩ j)
  blk_point [iblk, idx t]

theorem tile_at (n : ℕ) (h : n < 544) (j : Fin 256) :
    tile (grid0.coords t) (iblk m c 0 t) (iblk m c 1 t) (ix2 ⟨n, h⟩ j) = row (m ((c : Thread nD τ).loc main_arg0)) t.val n j := by
  unfold tile
  canon_tiles x h using (View.cover_of_tiledBy _ ![32, 256] (by sl_kernel_rfl) (ix2 ⟨n, h⟩ j))
  all_goals open_payloads
  all_goals pointwise []
  all_goals change n = _ at h0
  all_goals change j.val = _ at h1
  · obtain ⟨r, q, rfl⟩ : ∃ (r : Fin 512) (q : Fin 256), x = ix2 r q := ⟨x 0, x 1, ValueIdx.eq_ix2 x⟩
    change n = 32 + r.val at h0
    obtain rfl : j = q := Fin.ext h1
    subst h0
    rw [row, if_neg (by omega), glu, show t.val * 512 + (32 + r.val) - 32 = t.val * 512 + r.val by omega]
    exact congrArg₂ (fun a b => a * Ideal.logistic b) (blk_c m c t r ⟨j.val, by omega⟩) (blk_c m c t r ⟨256 + j.val, by omega⟩)
  · obtain ⟨r, q, rfl⟩ : ∃ (r : Fin 32) (q : Fin 256), x = ix2 r q := ⟨x 0, x 1, ValueIdx.eq_ix2 x⟩
    change n = r.val at h0
    obtain rfl : j = q := Fin.ext h1
    subst h0
    rw [first t, row]
    by_cases h8 : t.val % 8 = 0
    · rw [if_pos h8, if_pos ⟨r.isLt, h8⟩]
      exact if_neg (by decide)
    · rw [if_neg h8, if_neg (fun hh => h8 hh.2), glu]
      refine (if_pos rfl).trans ?_
      exact congrArg₂ (fun a b => a * Ideal.logistic b) (blk_p m c t h8 r ⟨j.val, by omega⟩) (blk_p m c t h8 r ⟨256 + j.val, by omega⟩)

set_option maxHeartbeats 4000000 in
theorem final : (dats m 0 c).arrAt 4 (cfgs 0).N
    = taps (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0; frame_out
  simp only [View.readCov_eq_canon']
  change View.canon (Val := Elt Ideal) (s := S512x256) (e := .f32) _ y = _
  rw [show View.canon (Val := Elt Ideal) (s := S544x256) (e := .f32) [⟨Rect.unit (s := S544x256) ![32, 0] S512x256.size inb_S544x256_S512x256_32_0, k0_pay3 (F := Ideal) (iblk m c 0 t)⟩,
    ⟨Rect.unit (s := S544x256) ![0, 0] S32x256.size inb_S544x256_S32x256_0_0, k0_pay2 (F := Ideal) (grid0.coords t) (iblk m c 1 t)⟩] = tile (grid0.coords t) (iblk m c 0 t) (iblk m c 1 t) from rfl]
  have hE := tile_at m c t
  have hC : ∀ (b : Fin 7) (n : Fin 536) (j : Fin 256), shifted (tile (grid0.coords t) (iblk m c 0 t) (iblk m c 1 t)) (ix3 b n j)
      = row (m ((c : Thread nD τ).loc main_arg0)) t.val (b.val + 1 + n.val) j :=
    fun b n j => ((copies _ _).trans (hE _ _ _)).trans (congrArg (row _ _ · j) (by show n.val + b.val + 1 = _; omega))
  generalize tile (grid0.coords t) (iblk m c 0 t) (iblk m c 1 t) = E at hE hC ⊢
  rw [show ∀ (p6 p5 p4 p3 p2 p1 p0 : View.Piece (Elt Ideal) S7x536x256 .f32), View.canon [p6,p5,p4,p3,p2,p1,p0] = pieces p6 p5 p4 p3 p2 p1 p0 from fun _ _ _ _ _ _ _ => rfl]
  generalize hP : pieces _ _ _ _ _ _ _ = P
  obtain rfl : P = shifted E := hP.symm.trans rfl
  clear hP
  generalize shifted E = P at hC ⊢
  canon_tiles x h using (View.cover_of_tiledBy _ ![64, 256] (by sl_kernel_rfl) y)
  all_goals
    obtain ⟨r, j, rfl⟩ : ∃ (r : Fin 64) (j : Fin 256), x = ix2 r j := ⟨x 0, x 1, ValueIdx.eq_ix2 x⟩
    open_payloads
    pointwise []
    change (y 0).val = _ at h0
    change (y 1).val = j.val at h1
    have y0 : (y 0).val < 512 := (y 0).isLt
    have ht : t.val < 16 := t.isLt
    have e : ((View.whole main_v4).slice (win0_4.rect t)).emb y = ix2 ⟨t.val * 512 + (y 0).val, by omega⟩ j := by
      blk_ext! [idx t]
    rw [e, taps_tile _ _ _ _ _ y0, h0]
    simp only [hC, hE, blk_w, blk_b, tapsAt, Finset.sum_range_succ, Finset.sum_range_zero, zero_add, add_zero, ← add_assoc, Fin.isValue, Fin.coe_ofNat_eq_mod, Nat.reduceAdd, Nat.reduceMod]
    try rfl
end Cert.TapsIdeal.Value
end
-- ==== Proof.TapsRef.lean ====
module

public import proofs.«01_k».proof.Proof.TapsValue
public import proofs.«01_k».proof.Proof.Gen.TapsRefIdeal.Run
public import proofs.«01_k».proof.Proof.Gen.TapsRefIdeal.Read

/-! The reference's sum over shifted rows is the same convolution. -/

@[expose] public section

set_option maxRecDepth 16384

noncomputable section

open Idealize.ShloMosaic Idealize.ShloMosaic.TcCoe Idealize.SL.Sem
open Cert.TapsRefIdeal Cert.TapsRefIdeal.Gen Idealize.ShloMosaic Idealize.ShloMosaic.TcCoe Idealize.SL.Sem Idealize.ShloMosaic.StableHlo
open Cert.TapsIdeal.Value (glu row tapsAt taps)

namespace Cert.TapsRefIdeal.Value

open Cert.TapsRefIdeal Cert.TapsRefIdeal.Gen

variable (V0 : Valuation τ sig (Elt Ideal))

/-- The reference's rows, thirty of zeros before each sequence. -/
theorem rows (s : Fin 2) (p : Fin 4126) (j : Fin 256) :
    (res_main_v10 V0 : FVec Ideal S2x4126x256 .f32) (ix3 s p j) = if p.val < 30 then 0 else glu (V0 (Proc.devRef .tc main_arg0)) (s.val * 4096 + p.val - 30) j := by
  unfold res_main_v10
  generalize (V0 (Proc.devRef .tc main_arg0) : FVec Ideal S2x4096x512 .f32) = C
  change FVec Ideal S2x4096x512 .f32 at C
  pointwise []
  by_cases h : p.val < 30
  · exact (dif_pos h).trans (if_pos h).symm
  refine (dif_neg h).trans (Eq.trans ?_ (if_neg h).symm)
  have h' : 30 ≤ p.val := Nat.le_of_not_lt h
  have e0 : (Fin.ofNat 2 ((s.val * 4096 + p.val - 30) / 4096) : Fin 2) = s := Fin.ext (by rw [Fin.val_ofNat]; omega)
  have e1 : (Fin.ofNat 4096 (s.val * 4096 + p.val - 30) : Fin 4096) = ⟨p.val - 30, by omega⟩ := Fin.ext (by rw [Fin.val_ofNat]; dsimp only; omega)
  show _ = C (ix3 (Fin.ofNat 2 ((s.val * 4096 + p.val - 30) / 4096)) (Fin.ofNat 4096 (s.val * 4096 + p.val - 30)) ⟨j.val, _⟩) * Ideal.logistic (C (ix3 (Fin.ofNat 2 ((s.val * 4096 + p.val - 30) / 4096)) (Fin.ofNat 4096 (s.val * 4096 + p.val - 30)) ⟨256 + j.val, _⟩))
  rw [e0, e1]
  rfl

/-- A tile's row `k + 2` places after the row asked for is the reference's. -/
theorem row_eq (C : FVec Ideal S2x4096x512 .f32) (n k : ℕ) (j : Fin 256) :
    row C (n / 512) (2 + k + n % 512) j = if k + n % 4096 < 30 then 0 else glu C (n / 4096 * 4096 + (k + n % 4096) - 30) j := by
  show (if 2 + k + n % 512 < 32 ∧ n / 512 % 8 = 0 then (0 : EReal) else glu C (n / 512 * 512 + (2 + k + n % 512) - 32) j) = _
  rw [show n / 512 * 512 + (2 + k + n % 512) - 32 = n / 4096 * 4096 + (k + n % 4096) - 30 by omega]
  exact if_ctx_congr (by omega) (fun _ => rfl) fun _ => rfl

theorem ref_sum (n : Fin 8192) (j : Fin 256) :
    (Read.val_main_v232 (F := Ideal) (V0 (Proc.devRef .tc main_arg0)) (V0 (Proc.devRef .tc main_arg1)) (V0 (Proc.devRef .tc main_arg2)) : FVec Ideal S8192x256 .f32) (ix2 n j)
    = taps (V0 (Proc.devRef .tc main_arg0)) (V0 (Proc.devRef .tc main_arg1)) (V0 (Proc.devRef .tc main_arg2)) (ix2 n j) := by
  rw [← Read.val_main_v232_eq]
  unfold res_main_v165 res_main_v88
  have hU := rows V0
  generalize (res_main_v10 V0 : FVec Ideal S2x4126x256 .f32) = U at hU ⊢
  pointwise []
  simp only [hU]
  show _ = tapsAt _ _ _ (n.val / 512) (n.val % 512) j
  unfold tapsAt
  rw [add_comm, Finset.sum_congr rfl fun k _ => (congrArg _ (row_eq _ n.val k j)).trans (mul_comm _ _)]
  simp only [Finset.sum_range_succ, Finset.sum_range_zero, zero_add]
  rfl

theorem ref_taps :
    (Read.val_main_v232 (F := Ideal) (V0 (Proc.devRef .tc main_arg0)) (V0 (Proc.devRef .tc main_arg1)) (V0 (Proc.devRef .tc main_arg2)) : FVec Ideal S8192x256 .f32)
    = taps (V0 (Proc.devRef .tc main_arg0)) (V0 (Proc.devRef .tc main_arg1)) (V0 (Proc.devRef .tc main_arg2)) := by
  funext i
  obtain ⟨n, j, rfl⟩ : ∃ (n : Fin 8192) (j : Fin 256), i = ix2 n j := ⟨i 0, i 1, ValueIdx.eq_ix2 i⟩
  exact ref_sum V0 n j

end Cert.TapsRefIdeal.Value

end
-- ==== Proof.TapsEq.lean ====
module

public import proofs.«01_k».proof.Defs
public import proofs.«01_k».proof.Proof.TapsRef
public import proofs.«01_k».proof.Proof.Gen.TapsRefIdeal
public import proofs.«01_k».proof.Proof.Gen.TapsIdeal
public import Idealize.ShloMosaic.Lib.Claim

/-! The convolution's forward call computes the reference's sum over shifted rows. -/

@[expose] public section

set_option maxRecDepth 16384

noncomputable section

namespace Cert.TapsProof

open Idealize.ShloMosaic Idealize.ShloMosaic.TcCoe Idealize.SL.Sem

theorem ref_frame (m : (ℓ : Loc Cert.TapsRefIdeal.nD Cert.TapsRefIdeal.τ Cert.TapsRefIdeal.sig) → Buf (Elt Ideal) ℓ) (ρ : Dev Cert.TapsRefIdeal.nD → PrngReg) :
    θ_run (Cert.TapsRefIdeal.defs (F := Ideal)) (onTc (τ := Cert.TapsRefIdeal.τ) (Cert.TapsRefIdeal.main (F := Ideal))) ⟨m, fun _ => 0, ρ⟩ (fun r => (∀ c : Dev Cert.TapsRefIdeal.nD,
      r.2.mem ((c.tc : Thread Cert.TapsRefIdeal.nD Cert.TapsRefIdeal.τ).loc Cert.TapsRefIdeal.main_arg0) = m ((c.tc : Thread Cert.TapsRefIdeal.nD Cert.TapsRefIdeal.τ).loc Cert.TapsRefIdeal.main_arg0)
      ∧ r.2.mem ((c.tc : Thread Cert.TapsRefIdeal.nD Cert.TapsRefIdeal.τ).loc Cert.TapsRefIdeal.main_arg1) = m ((c.tc : Thread Cert.TapsRefIdeal.nD Cert.TapsRefIdeal.τ).loc Cert.TapsRefIdeal.main_arg1)
      ∧ r.2.mem ((c.tc : Thread Cert.TapsRefIdeal.nD Cert.TapsRefIdeal.τ).loc Cert.TapsRefIdeal.main_arg2) = m ((c.tc : Thread Cert.TapsRefIdeal.nD Cert.TapsRefIdeal.τ).loc Cert.TapsRefIdeal.main_arg2))
      ∧ r.2.sem = fun _ => 0) :=
  (θ_run _ _ _).mono (fun r h => ⟨fun c => (h c).2, Idealize.ShloMosaic.sem_eq_zero_of_no_sems (by decide) r.2⟩)
    (Cert.TapsRefIdeal.Value.run (F := Ideal) m ρ)

theorem algebraic : Cert.algebraic_TapsIdeal_TapsRefIdeal := by
  pair_intro
  · run_from Cert.TapsIdeal.Value.run_blocks m g
  · refine (θ_run _ _ _).mono (fun r h c => ?_) (Cert.TapsRefIdeal.Value.run (F := Ideal) m' g')
    obtain ⟨a0, a1, a2⟩ := hagree c
    refine ⟨(h c).1.trans (((Cert.TapsRefIdeal.Read.val_main_v232_eq (StableHlo.launchContents m' c)).trans (Cert.TapsRefIdeal.Value.ref_taps (StableHlo.launchContents m' c))).trans ?_), (h c).2⟩
    refine Eq.trans ?_ (Cert.TapsIdeal.Value.final m c).symm
    rw [← a0, ← a1, ← a2]

end Cert.TapsProof

end
-- ==== Proof.ConvFrame.lean ====
module

public import proofs.«01_k».proof.Defs
public import proofs.«01_k».proof.Proof.Gen.ConvRefIdeal.Run
public import proofs.«01_k».proof.Proof.Gen.ConvRefIdeal
public import Idealize.ShloMosaic.Lib.Claim

/-! The reference of the convolution's backward call runs to its end and leaves its arguments as they were. -/

@[expose] public section

set_option maxRecDepth 16384

noncomputable section

namespace Cert.ConvProof

open Idealize.ShloMosaic Idealize.ShloMosaic.TcCoe Idealize.SL.Sem

theorem ref_frame (m : (ℓ : Loc Cert.ConvRefIdeal.nD Cert.ConvRefIdeal.τ Cert.ConvRefIdeal.sig) → Buf (Elt Ideal) ℓ) (ρ : Dev Cert.ConvRefIdeal.nD → PrngReg) :
    θ_run (Cert.ConvRefIdeal.defs (F := Ideal)) (onTc (τ := Cert.ConvRefIdeal.τ) (Cert.ConvRefIdeal.main (F := Ideal))) ⟨m, fun _ => 0, ρ⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0) :=
  (θ_run _ _ _).mono (fun r h => ⟨fun c => (h c).2.2, Idealize.ShloMosaic.sem_eq_zero_of_no_sems (by decide) r.2⟩)
    (Cert.ConvRefIdeal.Value.run (F := Ideal) m ρ)

end Cert.ConvProof

end
-- ==== Proof.DxValue.lean ====
module

public import proofs.«01_k».proof.Proof.Gen.DxIdeal.Value
public import proofs.«01_k».proof.Proof.Gen.DxRefIdeal.Run
public import proofs.«01_k».proof.Proof.Gen.DxRefIdeal.Read
public import Idealize.ShloMosaic.Lib.Pipeline.ValueKit
public import Idealize.ShloMosaic.Lib.Pointwise

/-! The gradient of the normalised rows: the two halves' products, block by block, against the reference's sum. -/

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The gate half's product with the left columns of the weight and the up half's with the right ones, added. -/
def dx (X0 X1 : FVec Ideal S8192x2816 .bf16) (X2 : FVec Ideal S1024x5632 .bf16) : FVec Ideal S8192x1024 .f32 :=
  fun i => (∑ k : Fin 2816, X0 (ix2 (i 0) k) * X2 (ix2 (i 1) ⟨k.val, Nat.lt_of_lt_of_le k.isLt (by decide)⟩))
    + ∑ k : Fin 2816, X1 (ix2 (i 0) k) * X2 (ix2 (i 1) ⟨2816 + k.val, Nat.add_lt_add_left k.isLt 2816⟩)

theorem final3 (c : Dev nD) : (dats m 0 c).arrAt 3 (cfgs 0).N = dx (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  open_payloads; pointwise [dx]
  all_goals blk_point [iblk, V, idx t]

end Cert.DxIdeal.Value

namespace Cert.DxRefIdeal.Value

open Cert.DxRefIdeal Cert.DxRefIdeal.Gen

theorem ref_dx (x0 x1 : FVec Ideal S8192x2816 .bf16) (x2 : FVec Ideal S1024x5632 .bf16) :
    Read.val_main_v10 (F := Ideal) x0 x1 x2 = Cert.DxIdeal.Value.dx x0 x1 x2 := by
  funext i
  rw [← Read.val_main_v10_eq]
  pointwise [Cert.DxIdeal.Value.dx]
  exact add_comm _ _

end Cert.DxRefIdeal.Value

end
-- ==== Proof.DxEq.lean ====
module

public import proofs.«01_k».proof.Defs
public import proofs.«01_k».proof.Proof.DxValue
public import proofs.«01_k».proof.Proof.Gen.DxRefIdeal
public import proofs.«01_k».proof.Proof.Gen.DxIdeal
public import Idealize.ShloMosaic.Lib.Claim

/-! The backward call of the first product computes the reference's gradient of its input. -/

@[expose] public section

set_option maxRecDepth 16384

noncomputable section

namespace Cert.DxProof

open Idealize.ShloMosaic Idealize.ShloMosaic.TcCoe Idealize.SL.Sem

theorem ref_frame (m : (ℓ : Loc Cert.DxRefIdeal.nD Cert.DxRefIdeal.τ Cert.DxRefIdeal.sig) → Buf (Elt Ideal) ℓ) (ρ : Dev Cert.DxRefIdeal.nD → PrngReg) :
    θ_run (Cert.DxRefIdeal.defs (F := Ideal)) (onTc (τ := Cert.DxRefIdeal.τ) (Cert.DxRefIdeal.main (F := Ideal))) ⟨m, fun _ => 0, ρ⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0) :=
  (θ_run _ _ _).mono (fun r h => ⟨fun c => (h c).2, Idealize.ShloMosaic.sem_eq_zero_of_no_sems (by decide) r.2⟩)
    (Cert.DxRefIdeal.Value.run (F := Ideal) m ρ)

theorem algebraic : Cert.algebraic_DxIdeal_DxRefIdeal := by
  pair_intro
  · run_from Cert.DxIdeal.Value.run_blocks m g
  · run_from Cert.DxRefIdeal.Value.run m' g'
    exact (Cert.DxRefIdeal.Value.ref_dx _ _ _).trans (Cert.DxIdeal.Value.final3 m c).symm

end Cert.DxProof

end
-- ==== Proof.AddValue.lean ====
module

public import proofs.«01_k».proof.Proof.Gen.AddIdeal.Value
public import proofs.«01_k».proof.Proof.Gen.AddRefIdeal.Run
public import proofs.«01_k».proof.Proof.Gen.AddRefIdeal.Read
public import Idealize.ShloMosaic.Lib.Pipeline.ValueKit
public import Idealize.ShloMosaic.Lib.Pointwise

/-! The product added to the rows it updates, block by block, against the reference's terms. -/

@[expose] public section

set_option maxRecDepth 16384

noncomputable section

open Idealize.ShloMosaic Idealize.ShloMosaic.TcCoe Idealize.SL.Sem
open Idealize.ShloMosaic.Pipeline (Dat)

namespace Cert.AddIdeal.Value

open Cert.AddIdeal Cert.AddIdeal.Gen

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The product added to the rows. -/
def sum (X0 : FVec Ideal S8192x2816 .bf16) (X1 : FVec Ideal S2816x1024 .bf16) (X2 : FVec Ideal S8192x1024 .f32) : FVec Ideal S8192x1024 .f32 :=
  fun i => X2 i + ∑ k : Fin 2816, X0 (ix2 (i 0) k) * X1 (ix2 k (i 1))

theorem final3 (c : Dev nD) : (dats m 0 c).arrAt 3 (cfgs 0).N = sum (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  open_payloads; pointwise [sum]
  all_goals blk_point [iblk, V, idx t]

end Cert.AddIdeal.Value

namespace Cert.AddRefIdeal.Value

open Cert.AddRefIdeal Cert.AddRefIdeal.Gen

theorem ref_sum (x0 : FVec Ideal S8192x2816 .bf16) (x1 : FVec Ideal S2816x1024 .bf16) (x2 : FVec Ideal S8192x1024 .f32) :
    Read.val_main_v3 (F := Ideal) x0 x1 x2 = Cert.AddIdeal.Value.sum x0 x1 x2 := by
  funext i
  rw [← Read.val_main_v3_eq]
  pointwise [Cert.AddIdeal.Value.sum]

end Cert.AddRefIdeal.Value

end
-- ==== Proof.AddEq.lean ====
module

public import proofs.«01_k».proof.Defs
public import proofs.«01_k».proof.Proof.AddValue
public import proofs.«01_k».proof.Proof.Gen.AddRefIdeal
public import proofs.«01_k».proof.Proof.Gen.AddIdeal
public import Idealize.ShloMosaic.Lib.Claim

/-! The forward call of the last product computes the reference's sum. -/

@[expose] public section

set_option maxRecDepth 16384

noncomputable section

namespace Cert.AddProof

open Idealize.ShloMosaic Idealize.ShloMosaic.TcCoe Idealize.SL.Sem

theorem ref_frame (m : (ℓ : Loc Cert.AddRefIdeal.nD Cert.AddRefIdeal.τ Cert.AddRefIdeal.sig) → Buf (Elt Ideal) ℓ) (ρ : Dev Cert.AddRefIdeal.nD → PrngReg) :
    θ_run (Cert.AddRefIdeal.defs (F := Ideal)) (onTc (τ := Cert.AddRefIdeal.τ) (Cert.AddRefIdeal.main (F := Ideal))) ⟨m, fun _ => 0, ρ⟩ (fun r => (∀ c : Dev Cert.AddRefIdeal.nD,
      r.2.mem ((c.tc : Thread Cert.AddRefIdeal.nD Cert.AddRefIdeal.τ).loc Cert.AddRefIdeal.main_arg0) = m ((c.tc : Thread Cert.AddRefIdeal.nD Cert.AddRefIdeal.τ).loc Cert.AddRefIdeal.main_arg0)
      ∧ r.2.mem ((c.tc : Thread Cert.AddRefIdeal.nD Cert.AddRefIdeal.τ).loc Cert.AddRefIdeal.main_arg1) = m ((c.tc : Thread Cert.AddRefIdeal.nD Cert.AddRefIdeal.τ).loc Cert.AddRefIdeal.main_arg1)
      ∧ r.2.mem ((c.tc : Thread Cert.AddRefIdeal.nD Cert.AddRefIdeal.τ).loc Cert.AddRefIdeal.main_arg2) = m ((c.tc : Thread Cert.AddRefIdeal.nD Cert.AddRefIdeal.τ).loc Cert.AddRefIdeal.main_arg2))
      ∧ r.2.sem = fun _ => 0) :=
  (θ_run _ _ _).mono (fun r h => ⟨fun c => (h c).2, Idealize.ShloMosaic.sem_eq_zero_of_no_sems (by decide) r.2⟩)
    (Cert.AddRefIdeal.Value.run (F := Ideal) m ρ)

theorem algebraic : Cert.algebraic_AddIdeal_AddRefIdeal := by
  pair_intro
  · run_from Cert.AddIdeal.Value.run_blocks m g
  · run_from Cert.AddRefIdeal.Value.run m' g'
    exact (Cert.AddRefIdeal.Value.ref_sum _ _ _).trans (Cert.AddIdeal.Value.final3 m c).symm

end Cert.AddProof

end
-- ==== Proof.WgradValue.lean ====
module

public import proofs.«01_k».proof.Proof.Gen.WgradIdeal.Value
public import proofs.«01_k».proof.Proof.Gen.WgradRefIdeal.Run
public import proofs.«01_k».proof.Proof.Gen.WgradRefIdeal.Read
public import Idealize.ShloMosaic.Lib.Pipeline.ValueKit
public import Idealize.ShloMosaic.Lib.Pointwise

/-! The gradient of a weight: the products of the row tiles added up, against the reference's product. -/

@[expose] public section

set_option maxRecDepth 16384

noncomputable section

open Idealize.ShloMosaic Idealize.ShloMosaic.TcCoe Idealize.SL.Sem
open Idealize.ShloMosaic.Pipeline (Dat)

namespace Cert.WgradIdeal.Value

open Cert.WgradIdeal Cert.WgradIdeal.Gen

variable (m : (ℓ : Loc nD τ sig) → Buf (Elt Ideal) ℓ)

theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The product of the transposed rows with the gradient. -/
def grad (X0 : FVec Ideal S8192x1024 .bf16) (X1 : FVec Ideal S8192x4608 .bf16) : FVec Ideal S1024x4608 .f32 :=
  fun i => ∑ r : Fin 8192, X0 (ix2 r (i 0)) * X1 (ix2 r (i 1))

/-- Row `r` of row tile `n`, and column `j` of column block `n`. -/
def row (n : ℕ) (r : Fin 1024) : Fin 8192 := Fin.ofNat 8192 (n % 8 * 1024 + r.val)

def col (n : ℕ) (j : Fin 1536) : Fin 4608 := Fin.ofNat 4608 (n / 8 * 1536 + j.val)

theorem row_val (n : ℕ) (r : Fin 1024) : (row n r).val = n % 8 * 1024 + r.val :=
  Nat.mod_eq_of_lt (by have := r.2; omega)

theorem col_val (n : ℕ) (h : n < 24) (j : Fin 1536) : (col n j).val = n / 8 * 1536 + j.val :=
  Nat.mod_eq_of_lt (by have := j.2; omega)

theorem col_eq (n : ℕ) (h : n < 24) (j : Fin 1536) : col n j = ⟨n / 8 * 1536 + j.val, by have := j.2; omega⟩ :=
  Fin.ext (col_val n h j)

theorem lt_t (t : Fin cfg0.N) : t.val < 24 := t.2

variable (c : Dev nD) (t : Fin cfg0.N)

theorem blk_a (r : Fin 1024) (j : Fin 1024) : (iblk m c 0 t : FVec Ideal S1024x1024 .bf16) (ix2 r j) = (m ((c : Thread nD τ).loc main_arg0) : FVec Ideal S8192x1024 .bf16) (ix2 (row t.val r) j) := by
  have e := row_val t.val r
  blk_point [iblk, V, idx t, e]

theorem blk_b (r : Fin 1024) (j : Fin 1536) : (iblk m c 1 t : FVec Ideal S1024x1536 .bf16) (ix2 r j) = (m ((c : Thread nD τ).loc main_arg1) : FVec Ideal S8192x4608 .bf16) (ix2 (row t.val r) (col t.val j)) := by
  have e := row_val t.val r
  have e' := col_val t.val (lt_t t) j
  blk_point [iblk, V, idx t, e, e']

/-- What tile `n` adds at an entry of its column block. -/
def part (X0 : FVec Ideal S8192x1024 .bf16) (X1 : FVec Ideal S8192x4608 .bf16) (n : ℕ) (i : S1024x1536.Idx) : EReal :=
  ∑ r : Fin 1024, X0 (ix2 (row n r) (i 0)) * X1 (ix2 (row n r) (col n (i 1)))

theorem step (Y : FVec Ideal S1024x1536 .f32) (i : S1024x1536.Idx) :
    k0_pay2 (F := Ideal) Y (iblk m c 0 t) (iblk m c 1 t) i = Y i + part (m ((c : Thread nD τ).loc main_arg0)) (m ((c : Thread nD τ).loc main_arg1)) t.val i := by
  idx_vars i
  pointwise [k0_pay2, part]
  simp only [blk_a, blk_b]

theorem first (h : t.val % 8 = 0) : outsAt0 m c t.val t.isLt = k0_pay2 (F := Ideal) (k0_pay1 (F := Ideal)) (iblk m c 0 t) (iblk m c 1 t) :=
  (outsAt0_A m c t h).trans (out_A_2_eq _ _ _ _ _ _ _ _ _ _ _)

theorem next (h : ¬ t.val % 8 = 0) : outsAt0 m c t.val t.isLt
    = k0_pay2 (F := Ideal) (outsAt0 m c (t.val - 1) (Nat.lt_of_le_of_lt (Nat.sub_le _ _) t.isLt)) (iblk m c 0 t) (iblk m c 1 t) :=
  (outsAt0_B m c t h).trans (out_B_2_eq _ _ _ _ _ _ _ _ _ _ _ _)

/-- A sum over 8192 rows is 8 sums over tiles of 1024. -/
theorem sum_tiles (f : ℕ → EReal) : ∑ t ∈ Finset.range 8, ∑ r : Fin 1024, f (t * 1024 + r) = ∑ r : Fin 8192, f r := by
  rw [Finset.sum_range, Fin.sum_univ_eq_sum_range f 8192, ← Fin.sum_univ_eq_sum_range f 8192]
  rw [← Finset.sum_product' (f := fun (t : Fin 8) (r : Fin 1024) => f (t * 1024 + r))]
  refine Finset.sum_bij' (fun p _ => (finProdFinEquiv (m := 8) (n := 1024) p : Fin 8192)) (fun q _ => (finProdFinEquiv (m := 8) (n := 1024)).symm q) ?_ ?_ ?_ ?_ ?_
  · intros; simp
  · intros; simp
  · intro p _; exact (finProdFinEquiv (m := 8) (n := 1024)).symm_apply_apply p
  · intro q _; exact (finProdFinEquiv (m := 8) (n := 1024)).apply_symm_apply q
  · intro p _
    congr 1
    show p.1.val * 1024 + p.2.val = p.2.val + 1024 * p.1.val
    omega

/-- The tiles' parts add up to the entry of the whole product. -/
theorem sum_parts (X0 : FVec Ideal S8192x1024 .bf16) (X1 : FVec Ideal S8192x4608 .bf16) (n : ℕ) (i : S1024x1536.Idx) :
    (0 : EReal) + ∑ s ∈ Finset.range (7 + 1), part X0 X1 (8 * (n / 8) + s) i = grad X0 X1 (ix2 (i 0) (col n (i 1))) := by
  rw [zero_add]
  refine Eq.trans (Finset.sum_congr rfl fun s hs => ?_) ((sum_tiles fun q =>
    X0 (ix2 (Fin.ofNat 8192 q) (i 0)) * X1 (ix2 (Fin.ofNat 8192 q) (col n (i 1)))).trans
    (Finset.sum_congr rfl fun r _ => ?_))
  · have h8 : s < 8 := Finset.mem_range.mp hs
    have e : (8 * (n / 8) + s) % 8 = s := by omega
    have e' : (8 * (n / 8) + s) / 8 = n / 8 := by omega
    unfold part row col
    rw [e, e']
  · rw [show Fin.ofNat 8192 r.val = r from Fin.ext (Nat.mod_eq_of_lt r.2)]
    rfl

theorem total : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [after0_2]
  refine (Pipeline.eq_sum_of_reset_step_apply_of_mod (fun n h => outsAt0 m c n h) 8 (fun _ => 0) (fun n i => part (m ((c : Thread nD τ).loc main_arg0)) (m ((c : Thread nD τ).loc main_arg1)) n i)
    (fun t h i => (congrFun (first m c t h) i).trans ((step m c t _ i).trans (congrArg (· + _) (by idx_vars i; pointwise [k0_pay1]))))
    (fun t h i => (congrFun (next m c t h) i).trans (step m c t _ i)) t ((flush0_2 t).mp hf) y).trans ?_
  have e0 : ((win0_2.blk t).view.emb y 0 : Fin 1024) = y 0 := Fin.ext (by blk_simp [idx t])
  have e1 : ((win0_2.blk t).view.emb y 1 : Fin 4608) = col t.val (y 1) := Eq.trans (Fin.ext (by blk_simp [idx t])) (col_eq t.val (lt_t t) (y 1)).symm
  unfold grad
  rw [e0, e1]
  exact sum_parts _ _ t.val y

end Cert.WgradIdeal.Value

namespace Cert.WgradRefIdeal.Value

open Cert.WgradRefIdeal Cert.WgradRefIdeal.Gen

theorem ref_grad (x0 : FVec Ideal S8192x1024 .bf16) (x1 : FVec Ideal S8192x4608 .bf16) :
    Read.val_main_v5 (F := Ideal) x0 x1 = Cert.WgradIdeal.Value.grad x0 x1 := by
  funext i
  rw [← Read.val_main_v5_eq]
  pointwise [Cert.WgradIdeal.Value.grad]
  exact Finset.sum_congr rfl fun r _ => mul_comm _ _

end Cert.WgradRefIdeal.Value

end
-- ==== Proof.WgradEq.lean ====
module

public import proofs.«01_k».proof.Defs
public import proofs.«01_k».proof.Proof.WgradValue
public import proofs.«01_k».proof.Proof.Gen.WgradRefIdeal
public import proofs.«01_k».proof.Proof.Gen.WgradIdeal
public import Idealize.ShloMosaic.Lib.Claim

/-! The weight gradient's call computes the reference's product. -/

@[expose] public section

set_option maxRecDepth 16384

noncomputable section

namespace Cert.WgradProof

open Idealize.ShloMosaic Idealize.ShloMosaic.TcCoe Idealize.SL.Sem

theorem ref_frame (m : (ℓ : Loc Cert.WgradRefIdeal.nD Cert.WgradRefIdeal.τ Cert.WgradRefIdeal.sig) → Buf (Elt Ideal) ℓ) (ρ : Dev Cert.WgradRefIdeal.nD → PrngReg) :
    θ_run (Cert.WgradRefIdeal.defs (F := Ideal)) (onTc (τ := Cert.WgradRefIdeal.τ) (Cert.WgradRefIdeal.main (F := Ideal))) ⟨m, fun _ => 0, ρ⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0) :=
  (θ_run _ _ _).mono (fun r h => ⟨fun c => (h c).2, Idealize.ShloMosaic.sem_eq_zero_of_no_sems (by decide) r.2⟩)
    (Cert.WgradRefIdeal.Value.run (F := Ideal) m ρ)

theorem algebraic : Cert.algebraic_WgradIdeal_WgradRefIdeal := by
  pair_intro
  · run_from Cert.WgradIdeal.Value.run_blocks m g
  · run_from Cert.WgradRefIdeal.Value.run m' g'
    exact (Cert.WgradRefIdeal.Value.ref_grad _ _).trans (Cert.WgradIdeal.Value.total m c).symm

end Cert.WgradProof

end
-- ==== Proof.AdamValue.lean ====
module

public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Pointwise

/-! One device's rows of the last product's weight: the eight parts of the gradient added up, and the optimiser's update of the rows. -/

@[expose] public section

set_option maxRecDepth 16384

noncomputable section

open Idealize.ShloMosaic Idealize.ShloMosaic.TcCoe Idealize.SL.Sem
open Idealize.ShloMosaic.Pipeline (Dat)

namespace Cert.AdamIdeal.Value

open Cert.AdamIdeal Cert.AdamIdeal.Gen

variable (m : (ℓ : Loc nD τ sig) → Buf (Elt Ideal) ℓ)

theorem idx : ∀ t : Fin cfg0.N, win0_0.index t = ![0, t.val, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] :=
  (by decide +kernel : ∀ t : Fin grid0.N, _)

theorem lt_t (t : Fin cfg0.N) : t.val < 4 := t.2

/-- The parts of layer `l`. -/
def layer (x0 x1 x2 x3 : FVec Ideal S8x352x1024 .bf16) (l : ℕ) : FVec Ideal S8x352x1024 .bf16 :=
  if l = 0 then x0 else if l = 1 then x1 else if l = 2 then x2 else x3

/-- The eight parts of an entry, added. -/
def grad (x0 x1 x2 x3 : FVec Ideal S8x352x1024 .bf16) (l : Fin 4) (r : Fin 352) (j : Fin 1024) : EReal :=
  ∑ d : Fin 8, layer x0 x1 x2 x3 l.val (ix3 d r j)

/-- The two averages and the step, from the gradient and the old values. -/
def avg (g p : EReal) : EReal := Ideal.ofBits .f32 0x3F666666#32 * p + Ideal.ofBits .f32 0x3DCCCCCD#32 * g

def sqAvg (g p : EReal) : EReal := Ideal.ofBits .f32 0x3F7FBE77#32 * p + Ideal.ofBits .f32 0x3A83126F#32 * (g * g)

def delta (g w p q : EReal) : EReal :=
  Ideal.ofBits .f32 0xBA83126F#32 * (Ideal.div (Ideal.div (avg g p) (Ideal.ofBits .f32 0x3F26BD02#32))
    (Ideal.sqrt (Ideal.div (sqAvg g q) (Ideal.ofBits .f32 0x3C231ACC#32)) + Ideal.ofBits .f32 0x322BCC77#32)
    + Ideal.ofBits .f32 0x3C23D70A#32 * w)

variable (c : Dev nD) (t : Fin cfg0.N)

theorem entry (l : ℕ) (hl : l < 4) (d : Fin 8) (r : Fin 352) (j : Fin 1024) :
    (V m c main_v0 : FVec Ideal S8x1408x1024 .bf16) (ix3 d ⟨l * 352 + r.val, by have := r.2; omega⟩ j)
      = layer (m ((c : Thread nD τ).loc main_arg0)) (m ((c : Thread nD τ).loc main_arg1)) (m ((c : Thread nD τ).loc main_arg2)) (m ((c : Thread nD τ).loc main_arg3)) l (ix3 d r j) := by
  show (StableHlo.after hostOps0 (fun b => m (c, b)) (Proc.devRef .tc main_v0) : FVec Ideal S8x1408x1024 .bf16) _ = _
  after_results
  have hr := r.2
  rcases (by omega : l = 0 ∨ l = 1 ∨ l = 2 ∨ l = 3) with h | h | h | h <;> subst h <;> pointwise [layer]
  · refine (dif_neg (by omega)).trans ((dif_neg (by omega)).trans ((dif_pos (by omega)).trans ?_))
    exact congrArg (fun q => (m (c, Proc.devRef .tc main_arg2) : FVec Ideal S8x352x1024 .bf16) (ix3 d q j)) (Fin.ext (by show 704 + r.val - 352 - 352 = r.val; omega))
  · refine (dif_neg (by omega)).trans ((dif_neg (by omega)).trans ((dif_neg (by omega)).trans ?_))
    exact congrArg (fun q => (m (c, Proc.devRef .tc main_arg3) : FVec Ideal S8x352x1024 .bf16) (ix3 d q j)) (Fin.ext (by show 1056 + r.val - 352 - 352 - 352 = r.val; omega))

/-- The layer of a grid point. -/
def at_ : Fin 4 := ⟨t.val, lt_t t⟩

theorem blk_g (d : Fin 8) (r : Fin 352) (j : Fin 1024) : (iblk m c 0 t : FVec Ideal S8x352x1024 .bf16) (ix3 d r j)
    = layer (m ((c : Thread nD τ).loc main_arg0)) (m ((c : Thread nD τ).loc main_arg1)) (m ((c : Thread nD τ).loc main_arg2)) (m ((c : Thread nD τ).loc main_arg3)) t.val (ix3 d r j) := by
  refine Eq.trans ?_ (entry m c t.val (lt_t t) d r j)
  blk_point [iblk, idx t]

theorem blk_w (u : Fin 1) (r : Fin 352) (j : Fin 1024) : (iblk m c 1 t : FVec Ideal S1x352x1024 .f32) (ix3 u r j)
    = ((m ((c : Thread nD τ).loc main_arg4)) : FVec Ideal S4x352x1024 .f32) (ix3 (at_ t) r j) := by
  refine Eq.trans ?_ (congrFun (V_main_arg4 m c) _)
  show (iblk m c 1 t : FVec Ideal S1x352x1024 .f32) (ix3 u r j) = _
  have hu : u = 0 := Fin.eq_zero u
  subst hu
  blk_point [iblk, idx t, at_]

theorem blk_m (u : Fin 1) (r : Fin 352) (j : Fin 1024) : (iblk m c 2 t : FVec Ideal S1x352x1024 .f32) (ix3 u r j)
    = ((m ((c : Thread nD τ).loc main_arg5)) : FVec Ideal S4x352x1024 .f32) (ix3 (at_ t) r j) := by
  refine Eq.trans ?_ (congrFun (V_main_arg5 m c) _)
  show (iblk m c 2 t : FVec Ideal S1x352x1024 .f32) (ix3 u r j) = _
  have hu : u = 0 := Fin.eq_zero u
  subst hu
  blk_point [iblk, idx t, at_]

theorem blk_v (u : Fin 1) (r : Fin 352) (j : Fin 1024) : (iblk m c 3 t : FVec Ideal S1x352x1024 .f32) (ix3 u r j)
    = ((m ((c : Thread nD τ).loc main_arg6)) : FVec Ideal S4x352x1024 .f32) (ix3 (at_ t) r j) := by
  refine Eq.trans ?_ (congrFun (V_main_arg6 m c) _)
  show (iblk m c 3 t : FVec Ideal S1x352x1024 .f32) (ix3 u r j) = _
  have hu : u = 0 := Fin.eq_zero u
  subst hu
  blk_point [iblk, idx t, at_]

abbrev gr (r : Fin 352) (j : Fin 1024) : EReal := grad (m ((c : Thread nD τ).loc main_arg0)) (m ((c : Thread nD τ).loc main_arg1)) (m ((c : Thread nD τ).loc main_arg2)) (m ((c : Thread nD τ).loc main_arg3)) (at_ t) r j

theorem sum8 (r : Fin 352) (j : Fin 1024) :
    k0_pay8 (F := Ideal) (iblk m c 0 t) (iblk m c 1 t) (iblk m c 2 t) (iblk m c 3 t) (ix2 r j) = gr m c t r j := by
  pointwise [k0_pay8, k0_pay3]
  simp only [blk_g]
  exact (Fin.sum_univ_eight fun d => layer (m ((c : Thread nD τ).loc main_arg0)) (m ((c : Thread nD τ).loc main_arg1)) (m ((c : Thread nD τ).loc main_arg2)) (m ((c : Thread nD τ).loc main_arg3)) t.val (ix3 d r j)).symm

theorem tile4 (u : Fin 1) (r : Fin 352) (j : Fin 1024) :
    k0_pay6 (F := Ideal) (k0_pay8 (iblk m c 0 t) (iblk m c 1 t) (iblk m c 2 t) (iblk m c 3 t)) (ix3 u r j) = gr m c t r j := by
  pointwise [k0_pay6]
  exact sum8 m c t r j

theorem tile6 (u : Fin 1) (r : Fin 352) (j : Fin 1024) :
    k0_pay1 (F := Ideal) (k0_pay4 (k0_pay8 (iblk m c 0 t) (iblk m c 1 t) (iblk m c 2 t) (iblk m c 3 t)) (iblk m c 2 t)) (ix3 u r j)
      = avg (gr m c t r j) (((m ((c : Thread nD τ).loc main_arg5)) : FVec Ideal S4x352x1024 .f32) (ix3 (at_ t) r j)) := by
  pointwise [k0_pay1, k0_pay4, avg]
  rw [sum8, blk_m]

theorem tile7 (u : Fin 1) (r : Fin 352) (j : Fin 1024) :
    k0_pay2 (F := Ideal) (k0_pay5 (k0_pay8 (iblk m c 0 t) (iblk m c 1 t) (iblk m c 2 t) (iblk m c 3 t)) (iblk m c 3 t)) (ix3 u r j)
      = sqAvg (gr m c t r j) (((m ((c : Thread nD τ).loc main_arg6)) : FVec Ideal S4x352x1024 .f32) (ix3 (at_ t) r j)) := by
  pointwise [k0_pay2, k0_pay5, sqAvg]
  rw [sum8, blk_v]

theorem tile5 (u : Fin 1) (r : Fin 352) (j : Fin 1024) :
    k0_pay7 (F := Ideal) (k0_pay8 (iblk m c 0 t) (iblk m c 1 t) (iblk m c 2 t) (iblk m c 3 t)) (iblk m c 1 t) (iblk m c 2 t) (iblk m c 3 t) (ix3 u r j)
      = delta (gr m c t r j) (((m ((c : Thread nD τ).loc main_arg4)) : FVec Ideal S4x352x1024 .f32) (ix3 (at_ t) r j)) (((m ((c : Thread nD τ).loc main_arg5)) : FVec Ideal S4x352x1024 .f32) (ix3 (at_ t) r j))
        (((m ((c : Thread nD τ).loc main_arg6)) : FVec Ideal S4x352x1024 .f32) (ix3 (at_ t) r j)) := by
  pointwise [k0_pay7, k0_pay4, k0_pay5, delta, avg, sqAvg]
  rw [sum8, blk_w, blk_m, blk_v]

theorem final4 : ((dats m 0 c).arrAt 4 (cfgs 0).N : FVec Ideal S4x352x1024 .f32) = fun i => (grad (m ((c : Thread nD τ).loc main_arg0)) (m ((c : Thread nD τ).loc main_arg1)) (m ((c : Thread nD τ).loc main_arg2)) (m ((c : Thread nD τ).loc main_arg3)) (i 0) (i 1) (i 2)) := by
  refine (dats m 0 c).arrAt_eq_of_covers 4 _ (by decide +kernel) fun t _ y => ?_
  blk_simp
  rw [after0_4]; frame_out
  have h0 : (y 0).val = 0 := by
    have h : (y 0).val < 1 := (y 0).isLt
    omega
  have e0 : ((win0_4.blk t).view.emb y 0 : Fin 4) = at_ t := Fin.ext (by blk_simp [idx t, at_, h0])
  have e1 : ((win0_4.blk t).view.emb y 1 : Fin 352) = y 1 := Fin.ext (by blk_simp [idx t])
  have e2 : ((win0_4.blk t).view.emb y 2 : Fin 1024) = y 2 := Fin.ext (by blk_simp [idx t])
  rw [e0, e1, e2]
  exact (congrArg _ (ValueIdx.eq_ix3 (n0 := 1) (n1 := 352) (n2 := 1024) y)).trans (tile4 m c t (y 0) (y 1) (y 2))

theorem final5 : ((dats m 0 c).arrAt 5 (cfgs 0).N : FVec Ideal S4x352x1024 .f32) = fun i => delta (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg4)) : FVec Ideal S4x352x1024 .f32) (ix3 (i 0) (i 1) (i 2))) (((m ((c : Thread nD τ).loc main_arg5)) : FVec Ideal S4x352x1024 .f32) (ix3 (i 0) (i 1) (i 2))) (((m ((c : Thread nD τ).loc main_arg6)) : FVec Ideal S4x352x1024 .f32) (ix3 (i 0) (i 1) (i 2))) := by
  refine (dats m 0 c).arrAt_eq_of_covers 5 _ (by decide +kernel) fun t _ y => ?_
  blk_simp
  rw [after0_5]; frame_out
  have h0 : (y 0).val = 0 := by
    have h : (y 0).val < 1 := (y 0).isLt
    omega
  have e0 : ((win0_5.blk t).view.emb y 0 : Fin 4) = at_ t := Fin.ext (by blk_simp [idx t, at_, h0])
  have e1 : ((win0_5.blk t).view.emb y 1 : Fin 352) = y 1 := Fin.ext (by blk_simp [idx t])
  have e2 : ((win0_5.blk t).view.emb y 2 : Fin 1024) = y 2 := Fin.ext (by blk_simp [idx t])
  rw [e0, e1, e2]
  exact (congrArg _ (ValueIdx.eq_ix3 (n0 := 1) (n1 := 352) (n2 := 1024) y)).trans (tile5 m c t (y 0) (y 1) (y 2))

theorem final6 : ((dats m 0 c).arrAt 6 (cfgs 0).N : FVec Ideal S4x352x1024 .f32) = fun i => avg (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg5)) : FVec Ideal S4x352x1024 .f32) (ix3 (i 0) (i 1) (i 2))) := by
  refine (dats m 0 c).arrAt_eq_of_covers 6 _ (by decide +kernel) fun t _ y => ?_
  blk_simp
  rw [after0_6]; frame_out
  have h0 : (y 0).val = 0 := by
    have h : (y 0).val < 1 := (y 0).isLt
    omega
  have e0 : ((win0_6.blk t).view.emb y 0 : Fin 4) = at_ t := Fin.ext (by blk_simp [idx t, at_, h0])
  have e1 : ((win0_6.blk t).view.emb y 1 : Fin 352) = y 1 := Fin.ext (by blk_simp [idx t])
  have e2 : ((win0_6.blk t).view.emb y 2 : Fin 1024) = y 2 := Fin.ext (by blk_simp [idx t])
  rw [e0, e1, e2]
  exact (congrArg _ (ValueIdx.eq_ix3 (n0 := 1) (n1 := 352) (n2 := 1024) y)).trans (tile6 m c t (y 0) (y 1) (y 2))

theorem final7 : ((dats m 0 c).arrAt 7 (cfgs 0).N : FVec Ideal S4x352x1024 .f32) = fun i => sqAvg (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg6)) : FVec Ideal S4x352x1024 .f32) (ix3 (i 0) (i 1) (i 2))) := by
  refine (dats m 0 c).arrAt_eq_of_covers 7 _ (by decide +kernel) fun t _ y => ?_
  blk_simp
  rw [after0_7]; frame_out
  have h0 : (y 0).val = 0 := by
    have h : (y 0).val < 1 := (y 0).isLt
    omega
  have e0 : ((win0_7.blk t).view.emb y 0 : Fin 4) = at_ t := Fin.ext (by blk_simp [idx t, at_, h0])
  have e1 : ((win0_7.blk t).view.emb y 1 : Fin 352) = y 1 := Fin.ext (by blk_simp [idx t])
  have e2 : ((win0_7.blk t).view.emb y 2 : Fin 1024) = y 2 := Fin.ext (by blk_simp [idx t])
  rw [e0, e1, e2]
  exact (congrArg _ (ValueIdx.eq_ix3 (n0 := 1) (n1 := 352) (n2 := 1024) y)).trans (tile7 m c t (y 0) (y 1) (y 2))

end Cert.AdamIdeal.Value

namespace Cert.AdamRefIdeal.Value

open Cert.AdamRefIdeal Cert.AdamRefIdeal.Gen

open Cert.AdamIdeal.Value (grad layer avg sqAvg delta)

variable (x0 x1 x2 x3 : FVec Ideal S8x352x1024 .bf16) (x4 x5 x6 : FVec Ideal S4x352x1024 .f32)

theorem ref_grad : Read.val_main_v12 (F := Ideal) x0 x1 x2 x3 = fun i => grad x0 x1 x2 x3 (i 0) (i 1) (i 2) := by
  funext i
  rw [← Read.val_main_v12_eq]
  idx_vars i
  fin_cases i0 <;> pointwise [grad, layer]

theorem ref_avg : Read.val_main_v17 (F := Ideal) x0 x1 x2 x3 x5 = fun i => avg (grad x0 x1 x2 x3 (i 0) (i 1) (i 2)) (x5 (ix3 (i 0) (i 1) (i 2))) := by
  unfold Read.val_main_v17 Read.val_main_v16
  rw [ref_grad]
  funext i
  idx_vars i
  pointwise [avg, Read.val_main_v14, Read.val_main_v13, Read.val_main_cst_3, Read.val_main_v15, Read.val_main_cst_4]

theorem ref_sqAvg : Read.val_main_v23 (F := Ideal) x0 x1 x2 x3 x6 = fun i => sqAvg (grad x0 x1 x2 x3 (i 0) (i 1) (i 2)) (x6 (ix3 (i 0) (i 1) (i 2))) := by
  unfold Read.val_main_v23 Read.val_main_v22 Read.val_main_v20
  rw [ref_grad]
  funext i
  idx_vars i
  pointwise [sqAvg, Read.val_main_v19, Read.val_main_v18, Read.val_main_cst_5, Read.val_main_v21, Read.val_main_cst_6]

theorem ref_delta : Read.val_main_v36 (F := Ideal) x0 x1 x2 x3 x4 x5 x6 = fun i => delta (grad x0 x1 x2 x3 (i 0) (i 1) (i 2))
    (x4 (ix3 (i 0) (i 1) (i 2))) (x5 (ix3 (i 0) (i 1) (i 2))) (x6 (ix3 (i 0) (i 1) (i 2))) := by
  unfold Read.val_main_v36 Read.val_main_v34 Read.val_main_v31 Read.val_main_v30 Read.val_main_v28 Read.val_main_v27 Read.val_main_v25
  rw [ref_avg, ref_sqAvg]
  funext i
  idx_vars i
  pointwise [delta, Read.val_main_v35, Read.val_main_cst_11, Read.val_main_v33, Read.val_main_v32, Read.val_main_cst_10, Read.val_main_v29, Read.val_main_cst_9, Read.val_main_v26, Read.val_main_cst_8, Read.val_main_v24, Read.val_main_cst_7]

end Cert.AdamRefIdeal.Value

end
-- ==== Proof.AdamEq.lean ====
module

public import proofs.«01_k».proof.Defs
public import proofs.«01_k».proof.Proof.AdamValue
public import proofs.«01_k».proof.Proof.Gen.AdamRefIdeal
public import proofs.«01_k».proof.Proof.Gen.AdamIdeal
public import Idealize.ShloMosaic.Lib.Claim

/-! The optimiser's call on one device's rows computes the reference's gradient, step and averages. -/

@[expose] public section

set_option maxRecDepth 16384

noncomputable section

namespace Cert.AdamProof

open Idealize.ShloMosaic Idealize.ShloMosaic.TcCoe Idealize.SL.Sem

theorem ref_frame (m : (ℓ : Loc Cert.AdamRefIdeal.nD Cert.AdamRefIdeal.τ Cert.AdamRefIdeal.sig) → Buf (Elt Ideal) ℓ) (ρ : Dev Cert.AdamRefIdeal.nD → PrngReg) :
    θ_run (Cert.AdamRefIdeal.defs (F := Ideal)) (onTc (τ := Cert.AdamRefIdeal.τ) (Cert.AdamRefIdeal.main (F := Ideal))) ⟨m, fun _ => 0, ρ⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6))
      ∧ r.2.sem = fun _ => 0) :=
  (θ_run _ _ _).mono (fun r h => ⟨fun c => (h c).2.2.2.2, Idealize.ShloMosaic.sem_eq_zero_of_no_sems (by decide) r.2⟩)
    (Cert.AdamRefIdeal.Value.run (F := Ideal) m ρ)

theorem algebraic : Cert.algebraic_AdamIdeal_AdamRefIdeal := by
  pair_intro
  · run_from Cert.AdamIdeal.Value.run_blocks m g
  · run_from Cert.AdamRefIdeal.Value.run m' g'
    · exact (Cert.AdamRefIdeal.Value.ref_grad _ _ _ _).trans (Cert.AdamIdeal.Value.final4 m c).symm
    · obtain ⟨a0, a1, a2, a3, a4, a5, a6⟩ := hagree c
      refine (Cert.AdamRefIdeal.Read.val_main_v36_eq _ _).trans ((Cert.AdamRefIdeal.Value.ref_delta _ _ _ _ _ _ _).trans (Eq.trans ?_ (Cert.AdamIdeal.Value.final5 m c).symm))
      rw [a0, a1, a2, a3, a4, a5, a6]
      rfl
    · exact (Cert.AdamRefIdeal.Value.ref_avg _ _ _ _ _).trans (Cert.AdamIdeal.Value.final6 m c).symm
    · exact (Cert.AdamRefIdeal.Value.ref_sqAvg _ _ _ _ _).trans (Cert.AdamIdeal.Value.final7 m c).symm

end Cert.AdamProof

end
-- ==== Proof.FlatValue.lean ====
module

public import proofs.«01_k».proof.Proof.Gen.FlatIdeal.Value
public import proofs.«01_k».proof.Proof.Gen.FlatRefIdeal.Run
public import proofs.«01_k».proof.Proof.Gen.FlatRefIdeal.Read
public import Idealize.ShloMosaic.Lib.Pipeline.ValueKit
public import Idealize.ShloMosaic.Lib.Pointwise

/-! The packed replicated weights: the eight devices' parts of the gradient added up, and the optimiser's update. -/

@[expose] public section

set_option maxRecDepth 16384

noncomputable section

open Idealize.ShloMosaic Idealize.ShloMosaic.TcCoe Idealize.SL.Sem
open Idealize.ShloMosaic.Pipeline (Dat)

namespace Cert.FlatIdeal.Value

open Cert.FlatIdeal Cert.FlatIdeal.Gen

variable (m : (ℓ : Loc nD τ sig) → Buf (Elt Ideal) ℓ)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lt_t (t : Fin cfg0.N) : t.val < 5 := t.2

/-- The eight parts of an entry, added. -/
def grad (x0 : FVec Ideal S8x2560x128 .f32) (r : Fin 2560) (j : Fin 128) : EReal :=
  ∑ d : Fin 8, x0 (ix3 d r j)

/-- The two averages and the step, from the gradient and the old values. -/
def avg (g p : EReal) : EReal := Ideal.ofBits .f32 0x3F666666#32 * p + Ideal.ofBits .f32 0x3DCCCCCD#32 * g

def sqAvg (g p : EReal) : EReal := Ideal.ofBits .f32 0x3F7FBE77#32 * p + Ideal.ofBits .f32 0x3A83126F#32 * (g * g)

def delta (g w p q : EReal) : EReal :=
  Ideal.ofBits .f32 0xBA83126F#32 * (Ideal.div (Ideal.div (avg g p) (Ideal.ofBits .f32 0x3F26BD02#32))
    (Ideal.sqrt (Ideal.div (sqAvg g q) (Ideal.ofBits .f32 0x3C231ACC#32)) + Ideal.ofBits .f32 0x322BCC77#32)
    + Ideal.ofBits .f32 0x3C23D70A#32 * w)

variable (c : Dev nD) (t : Fin cfg0.N)

/-- The row of the packed array at row `r` of a block. -/
def at_ (r : Fin 512) : Fin 2560 := ⟨t.val * 512 + r.val, by have := lt_t t; have := r.2; omega⟩

theorem blk_g (d : Fin 8) (r : Fin 512) (j : Fin 128) : (iblk m c 0 t : FVec Ideal S8x512x128 .f32) (ix3 d r j)
    = ((m ((c : Thread nD τ).loc main_arg0)) : FVec Ideal S8x2560x128 .f32) (ix3 d (at_ t r) j) := by
  refine Eq.trans ?_ (congrFun (V_main_arg0 m c) _)
  show (iblk m c 0 t : FVec Ideal S8x512x128 .f32) (ix3 d r j) = _
  blk_point [iblk, idx t, at_]

theorem blk_w (r : Fin 512) (j : Fin 128) : (iblk m c 1 t : FVec Ideal S512x128 .f32) (ix2 r j)
    = ((m ((c : Thread nD τ).loc main_arg1)) : FVec Ideal S2560x128 .f32) (ix2 (at_ t r) j) := by
  refine Eq.trans ?_ (congrFun (V_main_arg1 m c) _)
  show (iblk m c 1 t : FVec Ideal S512x128 .f32) (ix2 r j) = _
  blk_point [iblk, idx t, at_]

theorem blk_m (r : Fin 512) (j : Fin 128) : (iblk m c 2 t : FVec Ideal S512x128 .f32) (ix2 r j)
    = ((m ((c : Thread nD τ).loc main_arg2)) : FVec Ideal S2560x128 .f32) (ix2 (at_ t r) j) := by
  refine Eq.trans ?_ (congrFun (V_main_arg2 m c) _)
  show (iblk m c 2 t : FVec Ideal S512x128 .f32) (ix2 r j) = _
  blk_point [iblk, idx t, at_]

theorem blk_v (r : Fin 512) (j : Fin 128) : (iblk m c 3 t : FVec Ideal S512x128 .f32) (ix2 r j)
    = ((m ((c : Thread nD τ).loc main_arg3)) : FVec Ideal S2560x128 .f32) (ix2 (at_ t r) j) := by
  refine Eq.trans ?_ (congrFun (V_main_arg3 m c) _)
  show (iblk m c 3 t : FVec Ideal S512x128 .f32) (ix2 r j) = _
  blk_point [iblk, idx t, at_]

abbrev gr (r : Fin 512) (j : Fin 128) : EReal := grad (m ((c : Thread nD τ).loc main_arg0)) (at_ t r) j

theorem sum_parts (f : Fin 8 → EReal) : f 0 + f 1 + f 2 + f 3 + f 4 + f 5 + f 6 + f 7 = ∑ d : Fin 8, f d :=
  (Fin.sum_univ_eight f).symm

theorem sum8 (r : Fin 512) (j : Fin 128) :
    k0_pay6 (F := Ideal) (iblk m c 0 t) (iblk m c 1 t) (iblk m c 2 t) (iblk m c 3 t) (ix2 r j) = gr m c t r j := by
  pointwise [k0_pay6, k0_pay4]
  simp only [blk_g]
  exact sum_parts fun d => ((m ((c : Thread nD τ).loc main_arg0)) : FVec Ideal S8x2560x128 .f32) (ix3 d (at_ t r) j)

theorem part7 (r : Fin 512) (j : Fin 128) :
    k0_pay7 (F := Ideal) (iblk m c 0 t) (iblk m c 1 t) (iblk m c 2 t) (iblk m c 3 t) (ix2 r j) = Ideal.ofBits .f32 0x3F666666#32 * (((m ((c : Thread nD τ).loc main_arg2)) : FVec Ideal S2560x128 .f32) (ix2 (at_ t r) j)) := by
  pointwise [k0_pay7, k0_pay5]
  rw [blk_m]

theorem tile6 (r : Fin 512) (j : Fin 128) :
    k0_pay1 (F := Ideal) (k0_pay6 (iblk m c 0 t) (iblk m c 1 t) (iblk m c 2 t) (iblk m c 3 t)) (k0_pay7 (iblk m c 0 t) (iblk m c 1 t) (iblk m c 2 t) (iblk m c 3 t)) (ix2 r j) = avg (gr m c t r j) (((m ((c : Thread nD τ).loc main_arg2)) : FVec Ideal S2560x128 .f32) (ix2 (at_ t r) j)) := by
  pointwise [k0_pay1, avg]
  rw [sum8, part7]

theorem tile7 (r : Fin 512) (j : Fin 128) :
    k0_pay2 (F := Ideal) (k0_pay6 (iblk m c 0 t) (iblk m c 1 t) (iblk m c 2 t) (iblk m c 3 t)) (iblk m c 3 t) (ix2 r j) = sqAvg (gr m c t r j) (((m ((c : Thread nD τ).loc main_arg3)) : FVec Ideal S2560x128 .f32) (ix2 (at_ t r) j)) := by
  pointwise [k0_pay2, sqAvg]
  rw [sum8, blk_v]

theorem tile5 (r : Fin 512) (j : Fin 128) :
    k0_pay3 (F := Ideal) (k0_pay6 (iblk m c 0 t) (iblk m c 1 t) (iblk m c 2 t) (iblk m c 3 t)) (iblk m c 1 t) (iblk m c 3 t) (k0_pay7 (iblk m c 0 t) (iblk m c 1 t) (iblk m c 2 t) (iblk m c 3 t)) (ix2 r j) = delta (gr m c t r j) (((m ((c : Thread nD τ).loc main_arg1)) : FVec Ideal S2560x128 .f32) (ix2 (at_ t r) j)) (((m ((c : Thread nD τ).loc main_arg2)) : FVec Ideal S2560x128 .f32) (ix2 (at_ t r) j)) (((m ((c : Thread nD τ).loc main_arg3)) : FVec Ideal S2560x128 .f32) (ix2 (at_ t r) j)) := by
  pointwise [k0_pay3, k0_pay1, k0_pay2, delta, avg, sqAvg]
  rw [sum8, part7, blk_w, blk_v]

theorem final4 : ((dats m 0 c).arrAt 4 (cfgs 0).N : FVec Ideal S2560x128 .f32) = fun i => (grad (m ((c : Thread nD τ).loc main_arg0)) (i 0) (i 1)) := by
  refine (dats m 0 c).arrAt_eq_of_covers 4 _ (by decide +kernel) fun t _ y => ?_
  blk_simp
  rw [after0_4]; frame_out
  have e0 : ((win0_4.blk t).view.emb y 0 : Fin 2560) = at_ t (y 0) := Fin.ext (by blk_simp [idx t, at_])
  have e1 : ((win0_4.blk t).view.emb y 1 : Fin 128) = y 1 := Fin.ext (by blk_simp [idx t])
  rw [e0, e1]
  exact (congrArg _ (ValueIdx.eq_ix2 (n0 := 512) (n1 := 128) y)).trans (sum8 m c t (y 0) (y 1))

theorem final5 : ((dats m 0 c).arrAt 5 (cfgs 0).N : FVec Ideal S2560x128 .f32) = fun i => delta (grad (m ((c : Thread nD τ).loc main_arg0)) (i 0) (i 1)) (((m ((c : Thread nD τ).loc main_arg1)) : FVec Ideal S2560x128 .f32) (ix2 (i 0) (i 1))) (((m ((c : Thread nD τ).loc main_arg2)) : FVec Ideal S2560x128 .f32) (ix2 (i 0) (i 1))) (((m ((c : Thread nD τ).loc main_arg3)) : FVec Ideal S2560x128 .f32) (ix2 (i 0) (i 1))) := by
  refine (dats m 0 c).arrAt_eq_of_covers 5 _ (by decide +kernel) fun t _ y => ?_
  blk_simp
  rw [after0_5]; frame_out
  have e0 : ((win0_5.blk t).view.emb y 0 : Fin 2560) = at_ t (y 0) := Fin.ext (by blk_simp [idx t, at_])
  have e1 : ((win0_5.blk t).view.emb y 1 : Fin 128) = y 1 := Fin.ext (by blk_simp [idx t])
  rw [e0, e1]
  exact (congrArg _ (ValueIdx.eq_ix2 (n0 := 512) (n1 := 128) y)).trans (tile5 m c t (y 0) (y 1))

theorem final6 : ((dats m 0 c).arrAt 6 (cfgs 0).N : FVec Ideal S2560x128 .f32) = fun i => avg (grad (m ((c : Thread nD τ).loc main_arg0)) (i 0) (i 1)) (((m ((c : Thread nD τ).loc main_arg2)) : FVec Ideal S2560x128 .f32) (ix2 (i 0) (i 1))) := by
  refine (dats m 0 c).arrAt_eq_of_covers 6 _ (by decide +kernel) fun t _ y => ?_
  blk_simp
  rw [after0_6]; frame_out
  have e0 : ((win0_6.blk t).view.emb y 0 : Fin 2560) = at_ t (y 0) := Fin.ext (by blk_simp [idx t, at_])
  have e1 : ((win0_6.blk t).view.emb y 1 : Fin 128) = y 1 := Fin.ext (by blk_simp [idx t])
  rw [e0, e1]
  exact (congrArg _ (ValueIdx.eq_ix2 (n0 := 512) (n1 := 128) y)).trans (tile6 m c t (y 0) (y 1))

theorem final7 : ((dats m 0 c).arrAt 7 (cfgs 0).N : FVec Ideal S2560x128 .f32) = fun i => sqAvg (grad (m ((c : Thread nD τ).loc main_arg0)) (i 0) (i 1)) (((m ((c : Thread nD τ).loc main_arg3)) : FVec Ideal S2560x128 .f32) (ix2 (i 0) (i 1))) := by
  refine (dats m 0 c).arrAt_eq_of_covers 7 _ (by decide +kernel) fun t _ y => ?_
  blk_simp
  rw [after0_7]; frame_out
  have e0 : ((win0_7.blk t).view.emb y 0 : Fin 2560) = at_ t (y 0) := Fin.ext (by blk_simp [idx t, at_])
  have e1 : ((win0_7.blk t).view.emb y 1 : Fin 128) = y 1 := Fin.ext (by blk_simp [idx t])
  rw [e0, e1]
  exact (congrArg _ (ValueIdx.eq_ix2 (n0 := 512) (n1 := 128) y)).trans (tile7 m c t (y 0) (y 1))

end Cert.FlatIdeal.Value

namespace Cert.FlatRefIdeal.Value

open Cert.FlatRefIdeal Cert.FlatRefIdeal.Gen

open Cert.FlatIdeal.Value (grad avg sqAvg delta)

variable (x0 : FVec Ideal S8x2560x128 .f32) (x1 x2 x3 : FVec Ideal S2560x128 .f32)

theorem ref_grad : Read.val_main_v0 (F := Ideal) x0 = fun i => grad x0 (i 0) (i 1) := by
  funext i
  rw [← Read.val_main_v0_eq]
  idx_vars i
  pointwise [grad]

theorem ref_avg : Read.val_main_v5 (F := Ideal) x0 x2 = fun i => avg (grad x0 (i 0) (i 1)) (x2 (ix2 (i 0) (i 1))) := by
  unfold Read.val_main_v5 Read.val_main_v4
  rw [ref_grad]
  funext i
  idx_vars i
  pointwise [avg, Read.val_main_v2, Read.val_main_v1, Read.val_main_cst_0, Read.val_main_v3, Read.val_main_cst_1]

theorem ref_sqAvg : Read.val_main_v11 (F := Ideal) x0 x3 = fun i => sqAvg (grad x0 (i 0) (i 1)) (x3 (ix2 (i 0) (i 1))) := by
  unfold Read.val_main_v11 Read.val_main_v10 Read.val_main_v8
  rw [ref_grad]
  funext i
  idx_vars i
  pointwise [sqAvg, Read.val_main_v7, Read.val_main_v6, Read.val_main_cst_2, Read.val_main_v9, Read.val_main_cst_3]

theorem ref_delta : Read.val_main_v24 (F := Ideal) x0 x1 x2 x3 = fun i => delta (grad x0 (i 0) (i 1)) (x1 (ix2 (i 0) (i 1))) (x2 (ix2 (i 0) (i 1))) (x3 (ix2 (i 0) (i 1))) := by
  unfold Read.val_main_v24 Read.val_main_v22 Read.val_main_v19 Read.val_main_v18 Read.val_main_v16 Read.val_main_v15 Read.val_main_v13
  rw [ref_avg, ref_sqAvg]
  funext i
  idx_vars i
  pointwise [delta, Read.val_main_v23, Read.val_main_cst_8, Read.val_main_v21, Read.val_main_v20, Read.val_main_cst_7, Read.val_main_v17, Read.val_main_cst_6, Read.val_main_v14, Read.val_main_cst_5, Read.val_main_v12, Read.val_main_cst_4]

end Cert.FlatRefIdeal.Value

end
-- ==== Proof.FlatEq.lean ====
module

public import proofs.«01_k».proof.Defs
public import proofs.«01_k».proof.Proof.FlatValue
public import proofs.«01_k».proof.Proof.Gen.FlatRefIdeal
public import proofs.«01_k».proof.Proof.Gen.FlatIdeal
public import Idealize.ShloMosaic.Lib.Claim

/-! The optimiser's call on the packed replicated weights computes the reference's gradient, step and averages. -/

@[expose] public section

set_option maxRecDepth 16384

noncomputable section

namespace Cert.FlatProof

open Idealize.ShloMosaic Idealize.ShloMosaic.TcCoe Idealize.SL.Sem

theorem ref_frame (m : (ℓ : Loc Cert.FlatRefIdeal.nD Cert.FlatRefIdeal.τ Cert.FlatRefIdeal.sig) → Buf (Elt Ideal) ℓ) (ρ : Dev Cert.FlatRefIdeal.nD → PrngReg) :
    θ_run (Cert.FlatRefIdeal.defs (F := Ideal)) (onTc (τ := Cert.FlatRefIdeal.τ) (Cert.FlatRefIdeal.main (F := Ideal))) ⟨m, fun _ => 0, ρ⟩ (fun r => (∀ c : Dev Cert.FlatRefIdeal.nD,
      r.2.mem ((c.tc : Thread Cert.FlatRefIdeal.nD Cert.FlatRefIdeal.τ).loc Cert.FlatRefIdeal.main_arg0) = m ((c.tc : Thread Cert.FlatRefIdeal.nD Cert.FlatRefIdeal.τ).loc Cert.FlatRefIdeal.main_arg0)
      ∧ r.2.mem ((c.tc : Thread Cert.FlatRefIdeal.nD Cert.FlatRefIdeal.τ).loc Cert.FlatRefIdeal.main_arg1) = m ((c.tc : Thread Cert.FlatRefIdeal.nD Cert.FlatRefIdeal.τ).loc Cert.FlatRefIdeal.main_arg1)
      ∧ r.2.mem ((c.tc : Thread Cert.FlatRefIdeal.nD Cert.FlatRefIdeal.τ).loc Cert.FlatRefIdeal.main_arg2) = m ((c.tc : Thread Cert.FlatRefIdeal.nD Cert.FlatRefIdeal.τ).loc Cert.FlatRefIdeal.main_arg2)
      ∧ r.2.mem ((c.tc : Thread Cert.FlatRefIdeal.nD Cert.FlatRefIdeal.τ).loc Cert.FlatRefIdeal.main_arg3) = m ((c.tc : Thread Cert.FlatRefIdeal.nD Cert.FlatRefIdeal.τ).loc Cert.FlatRefIdeal.main_arg3))
      ∧ r.2.sem = fun _ => 0) :=
  (θ_run _ _ _).mono (fun r h => ⟨fun c => (h c).2.2.2.2, Idealize.ShloMosaic.sem_eq_zero_of_no_sems (by decide) r.2⟩)
    (Cert.FlatRefIdeal.Value.run (F := Ideal) m ρ)

theorem algebraic : Cert.algebraic_FlatIdeal_FlatRefIdeal := by
  pair_intro
  · run_from Cert.FlatIdeal.Value.run_blocks m g
  · refine Idealize.ShloMosaic.θ_run_mono (Cert.FlatRefIdeal.Value.run m' g') ?_
    intro r hr c
    obtain ⟨h0, h1, h2, h3, k0, k1, k2, k3⟩ := hr c
    obtain ⟨a0, a1, a2, a3⟩ := hagree c
    refine ⟨?_, ?_, ?_, ?_, k0, k1, k2, k3⟩
    · refine h0.trans (((Cert.FlatRefIdeal.Read.val_main_v0_eq _).trans (Cert.FlatRefIdeal.Value.ref_grad _)).trans (Eq.trans ?_ (Cert.FlatIdeal.Value.final4 m c).symm))
      rw [a0]
      rfl
    · refine h1.trans (((Cert.FlatRefIdeal.Read.val_main_v24_eq _ _ _ _).trans (Cert.FlatRefIdeal.Value.ref_delta _ _ _ _)).trans (Eq.trans ?_ (Cert.FlatIdeal.Value.final5 m c).symm))
      rw [a0, a1, a2, a3]
      rfl
    · refine h2.trans (((Cert.FlatRefIdeal.Read.val_main_v5_eq _ _).trans (Cert.FlatRefIdeal.Value.ref_avg _ _)).trans (Eq.trans ?_ (Cert.FlatIdeal.Value.final6 m c).symm))
      rw [a0, a2]
      rfl
    · refine h3.trans (((Cert.FlatRefIdeal.Read.val_main_v11_eq _ _).trans (Cert.FlatRefIdeal.Value.ref_sqAvg _ _)).trans (Eq.trans ?_ (Cert.FlatIdeal.Value.final7 m c).symm))
      rw [a0, a3]
      rfl

end Cert.FlatProof

end
-- ==== Proof.ColsValue.lean ====
module

public import proofs.«01_k».proof.Proof.Gen.ColsIdeal.Value
public import proofs.«01_k».proof.Proof.Gen.ColsRefIdeal.Run
public import proofs.«01_k».proof.Proof.Gen.ColsRefIdeal.Read
public import Idealize.ShloMosaic.Lib.Pipeline.ValueKit
public import Idealize.ShloMosaic.Lib.Pointwise

/-! The fourth projection weight of each layer: the eight parts of the gradient added up, and the optimiser's update. -/

@[expose] public section

set_option maxRecDepth 16384

noncomputable section

open Idealize.ShloMosaic Idealize.ShloMosaic.TcCoe Idealize.SL.Sem
open Idealize.ShloMosaic.Pipeline (Dat)

namespace Cert.ColsIdeal.Value

open Cert.ColsIdeal Cert.ColsIdeal.Gen

variable (m : (ℓ : Loc nD τ sig) → Buf (Elt Ideal) ℓ)

theorem idx : ∀ t : Fin cfg0.N, win0_0.index t = ![0, 25 * t.val + 24, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] :=
  (by decide +kernel : ∀ t : Fin grid0.N, _)

theorem lt_t (t : Fin cfg0.N) : t.val < 4 := t.2

/-- The parts of layer `l`. -/
def layer (x0 x1 x2 x3 : FVec Ideal S8x6400x128 .bf16) (l : ℕ) : FVec Ideal S8x6400x128 .bf16 :=
  if l = 0 then x0 else if l = 1 then x1 else if l = 2 then x2 else x3

/-- Where a row of the block lies among a layer's rows. -/
def place (r : Fin 256) : Fin 6400 := ⟨6144 + r.val, by have := r.2; omega⟩

/-- The eight parts of an entry, added. -/
def grad (x0 x1 x2 x3 : FVec Ideal S8x6400x128 .bf16) (l : Fin 4) (r : Fin 256) (j : Fin 128) : EReal :=
  ∑ d : Fin 8, layer x0 x1 x2 x3 l.val (ix3 d (place r) j)

/-- The two averages and the step, from the gradient and the old values. -/
def avg (g p : EReal) : EReal := Ideal.ofBits .f32 0x3F666666#32 * p + Ideal.ofBits .f32 0x3DCCCCCD#32 * g

def sqAvg (g p : EReal) : EReal := Ideal.ofBits .f32 0x3F7FBE77#32 * p + Ideal.ofBits .f32 0x3A83126F#32 * (g * g)

def delta (g w p q : EReal) : EReal :=
  Ideal.ofBits .f32 0xBA83126F#32 * (Ideal.div (Ideal.div (avg g p) (Ideal.ofBits .f32 0x3F26BD02#32))
    (Ideal.sqrt (Ideal.div (sqAvg g q) (Ideal.ofBits .f32 0x3C231ACC#32)) + Ideal.ofBits .f32 0x322BCC77#32)
    + Ideal.ofBits .f32 0x3C23D70A#32 * w)

variable (c : Dev nD) (t : Fin cfg0.N)

theorem entry (l : ℕ) (hl : l < 4) (d : Fin 8) (r : Fin 256) (j : Fin 128) :
    (V m c main_v0 : FVec Ideal S8x25600x128 .bf16) (ix3 d ⟨l * 6400 + (6144 + r.val), by have := r.2; omega⟩ j)
      = layer (m ((c : Thread nD τ).loc main_arg0)) (m ((c : Thread nD τ).loc main_arg1)) (m ((c : Thread nD τ).loc main_arg2)) (m ((c : Thread nD τ).loc main_arg3)) l (ix3 d (place r) j) := by
  show (StableHlo.after hostOps0 (fun b => m (c, b)) (Proc.devRef .tc main_v0) : FVec Ideal S8x25600x128 .bf16) _ = _
  after_results
  have hr := r.2
  rcases (by omega : l = 0 ∨ l = 1 ∨ l = 2 ∨ l = 3) with h | h | h | h <;> subst h <;> pointwise [layer, place]
  · exact dif_pos (by omega)
  · exact dif_pos (by omega)
  · refine (dif_neg (by omega)).trans ((dif_neg (by omega)).trans ((dif_pos (by omega)).trans ?_))
    exact congrArg (fun q => (m (c, Proc.devRef .tc main_arg2) : FVec Ideal S8x6400x128 .bf16) (ix3 d q j)) (Fin.ext (by show 12800 + (6144 + r.val) - 6400 - 6400 = 6144 + r.val; omega))
  · refine (dif_neg (by omega)).trans ((dif_neg (by omega)).trans ((dif_neg (by omega)).trans ?_))
    exact congrArg (fun q => (m (c, Proc.devRef .tc main_arg3) : FVec Ideal S8x6400x128 .bf16) (ix3 d q j)) (Fin.ext (by show 19200 + (6144 + r.val) - 6400 - 6400 - 6400 = 6144 + r.val; omega))
/-- The layer of a grid point. -/
def at_ : Fin 4 := ⟨t.val, lt_t t⟩

theorem blk_g (d : Fin 8) (r : Fin 256) (j : Fin 128) : (iblk m c 0 t : FVec Ideal S8x256x128 .bf16) (ix3 d r j)
    = layer (m ((c : Thread nD τ).loc main_arg0)) (m ((c : Thread nD τ).loc main_arg1)) (m ((c : Thread nD τ).loc main_arg2)) (m ((c : Thread nD τ).loc main_arg3)) t.val (ix3 d (place r) j) := by
  refine Eq.trans ?_ (entry m c t.val (lt_t t) d r j)
  blk_point [iblk, idx t]

theorem blk_w (u : Fin 1) (r : Fin 256) (j : Fin 128) : (iblk m c 1 t : FVec Ideal S1x256x128 .f32) (ix3 u r j)
    = ((m ((c : Thread nD τ).loc main_arg4)) : FVec Ideal S4x256x128 .f32) (ix3 (at_ t) r j) := by
  refine Eq.trans ?_ (congrFun (V_main_arg4 m c) _)
  show (iblk m c 1 t : FVec Ideal S1x256x128 .f32) (ix3 u r j) = _
  have hu : u = 0 := Fin.eq_zero u
  subst hu
  blk_point [iblk, idx t, at_]

theorem blk_m (u : Fin 1) (r : Fin 256) (j : Fin 128) : (iblk m c 2 t : FVec Ideal S1x256x128 .f32) (ix3 u r j)
    = ((m ((c : Thread nD τ).loc main_arg5)) : FVec Ideal S4x256x128 .f32) (ix3 (at_ t) r j) := by
  refine Eq.trans ?_ (congrFun (V_main_arg5 m c) _)
  show (iblk m c 2 t : FVec Ideal S1x256x128 .f32) (ix3 u r j) = _
  have hu : u = 0 := Fin.eq_zero u
  subst hu
  blk_point [iblk, idx t, at_]

theorem blk_v (u : Fin 1) (r : Fin 256) (j : Fin 128) : (iblk m c 3 t : FVec Ideal S1x256x128 .f32) (ix3 u r j)
    = ((m ((c : Thread nD τ).loc main_arg6)) : FVec Ideal S4x256x128 .f32) (ix3 (at_ t) r j) := by
  refine Eq.trans ?_ (congrFun (V_main_arg6 m c) _)
  show (iblk m c 3 t : FVec Ideal S1x256x128 .f32) (ix3 u r j) = _
  have hu : u = 0 := Fin.eq_zero u
  subst hu
  blk_point [iblk, idx t, at_]

abbrev gr (r : Fin 256) (j : Fin 128) : EReal := grad (m ((c : Thread nD τ).loc main_arg0)) (m ((c : Thread nD τ).loc main_arg1)) (m ((c : Thread nD τ).loc main_arg2)) (m ((c : Thread nD τ).loc main_arg3)) (at_ t) r j

theorem sum8 (r : Fin 256) (j : Fin 128) :
    k0_pay8 (F := Ideal) (iblk m c 0 t) (iblk m c 1 t) (iblk m c 2 t) (iblk m c 3 t) (ix2 r j) = gr m c t r j := by
  pointwise [k0_pay8, k0_pay3]
  simp only [blk_g]
  exact (Fin.sum_univ_eight fun d => layer (m ((c : Thread nD τ).loc main_arg0)) (m ((c : Thread nD τ).loc main_arg1)) (m ((c : Thread nD τ).loc main_arg2)) (m ((c : Thread nD τ).loc main_arg3)) t.val (ix3 d (place r) j)).symm

theorem tile4 (u : Fin 1) (r : Fin 256) (j : Fin 128) :
    k0_pay6 (F := Ideal) (k0_pay8 (iblk m c 0 t) (iblk m c 1 t) (iblk m c 2 t) (iblk m c 3 t)) (ix3 u r j) = gr m c t r j := by
  pointwise [k0_pay6]
  exact sum8 m c t r j

theorem tile6 (u : Fin 1) (r : Fin 256) (j : Fin 128) :
    k0_pay1 (F := Ideal) (k0_pay4 (k0_pay8 (iblk m c 0 t) (iblk m c 1 t) (iblk m c 2 t) (iblk m c 3 t)) (iblk m c 2 t)) (ix3 u r j)
      = avg (gr m c t r j) (((m ((c : Thread nD τ).loc main_arg5)) : FVec Ideal S4x256x128 .f32) (ix3 (at_ t) r j)) := by
  pointwise [k0_pay1, k0_pay4, avg]
  rw [sum8, blk_m]

theorem tile7 (u : Fin 1) (r : Fin 256) (j : Fin 128) :
    k0_pay2 (F := Ideal) (k0_pay5 (k0_pay8 (iblk m c 0 t) (iblk m c 1 t) (iblk m c 2 t) (iblk m c 3 t)) (iblk m c 3 t)) (ix3 u r j)
      = sqAvg (gr m c t r j) (((m ((c : Thread nD τ).loc main_arg6)) : FVec Ideal S4x256x128 .f32) (ix3 (at_ t) r j)) := by
  pointwise [k0_pay2, k0_pay5, sqAvg]
  rw [sum8, blk_v]

theorem tile5 (u : Fin 1) (r : Fin 256) (j : Fin 128) :
    k0_pay7 (F := Ideal) (k0_pay8 (iblk m c 0 t) (iblk m c 1 t) (iblk m c 2 t) (iblk m c 3 t)) (iblk m c 1 t) (iblk m c 2 t) (iblk m c 3 t) (ix3 u r j)
      = delta (gr m c t r j) (((m ((c : Thread nD τ).loc main_arg4)) : FVec Ideal S4x256x128 .f32) (ix3 (at_ t) r j)) (((m ((c : Thread nD τ).loc main_arg5)) : FVec Ideal S4x256x128 .f32) (ix3 (at_ t) r j))
        (((m ((c : Thread nD τ).loc main_arg6)) : FVec Ideal S4x256x128 .f32) (ix3 (at_ t) r j)) := by
  pointwise [k0_pay7, k0_pay4, k0_pay5, delta, avg, sqAvg]
  rw [sum8, blk_w, blk_m, blk_v]

theorem final4 : ((dats m 0 c).arrAt 4 (cfgs 0).N : FVec Ideal S4x256x128 .f32) = fun i => (grad (m ((c : Thread nD τ).loc main_arg0)) (m ((c : Thread nD τ).loc main_arg1)) (m ((c : Thread nD τ).loc main_arg2)) (m ((c : Thread nD τ).loc main_arg3)) (i 0) (i 1) (i 2)) := by
  refine (dats m 0 c).arrAt_eq_of_covers 4 _ (by decide +kernel) fun t _ y => ?_
  blk_simp
  rw [after0_4]; frame_out
  have h0 : (y 0).val = 0 := by
    have h : (y 0).val < 1 := (y 0).isLt
    omega
  have e0 : ((win0_4.blk t).view.emb y 0 : Fin 4) = at_ t := Fin.ext (by blk_simp [idx t, at_, h0])
  have e1 : ((win0_4.blk t).view.emb y 1 : Fin 256) = y 1 := Fin.ext (by blk_simp [idx t])
  have e2 : ((win0_4.blk t).view.emb y 2 : Fin 128) = y 2 := Fin.ext (by blk_simp [idx t])
  rw [e0, e1, e2]
  exact (congrArg _ (ValueIdx.eq_ix3 (n0 := 1) (n1 := 256) (n2 := 128) y)).trans (tile4 m c t (y 0) (y 1) (y 2))

theorem final5 : ((dats m 0 c).arrAt 5 (cfgs 0).N : FVec Ideal S4x256x128 .f32) = fun i => delta (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg4)) : FVec Ideal S4x256x128 .f32) (ix3 (i 0) (i 1) (i 2))) (((m ((c : Thread nD τ).loc main_arg5)) : FVec Ideal S4x256x128 .f32) (ix3 (i 0) (i 1) (i 2))) (((m ((c : Thread nD τ).loc main_arg6)) : FVec Ideal S4x256x128 .f32) (ix3 (i 0) (i 1) (i 2))) := by
  refine (dats m 0 c).arrAt_eq_of_covers 5 _ (by decide +kernel) fun t _ y => ?_
  blk_simp
  rw [after0_5]; frame_out
  have h0 : (y 0).val = 0 := by
    have h : (y 0).val < 1 := (y 0).isLt
    omega
  have e0 : ((win0_5.blk t).view.emb y 0 : Fin 4) = at_ t := Fin.ext (by blk_simp [idx t, at_, h0])
  have e1 : ((win0_5.blk t).view.emb y 1 : Fin 256) = y 1 := Fin.ext (by blk_simp [idx t])
  have e2 : ((win0_5.blk t).view.emb y 2 : Fin 128) = y 2 := Fin.ext (by blk_simp [idx t])
  rw [e0, e1, e2]
  exact (congrArg _ (ValueIdx.eq_ix3 (n0 := 1) (n1 := 256) (n2 := 128) y)).trans (tile5 m c t (y 0) (y 1) (y 2))

theorem final6 : ((dats m 0 c).arrAt 6 (cfgs 0).N : FVec Ideal S4x256x128 .f32) = fun i => avg (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg5)) : FVec Ideal S4x256x128 .f32) (ix3 (i 0) (i 1) (i 2))) := by
  refine (dats m 0 c).arrAt_eq_of_covers 6 _ (by decide +kernel) fun t _ y => ?_
  blk_simp
  rw [after0_6]; frame_out
  have h0 : (y 0).val = 0 := by
    have h : (y 0).val < 1 := (y 0).isLt
    omega
  have e0 : ((win0_6.blk t).view.emb y 0 : Fin 4) = at_ t := Fin.ext (by blk_simp [idx t, at_, h0])
  have e1 : ((win0_6.blk t).view.emb y 1 : Fin 256) = y 1 := Fin.ext (by blk_simp [idx t])
  have e2 : ((win0_6.blk t).view.emb y 2 : Fin 128) = y 2 := Fin.ext (by blk_simp [idx t])
  rw [e0, e1, e2]
  exact (congrArg _ (ValueIdx.eq_ix3 (n0 := 1) (n1 := 256) (n2 := 128) y)).trans (tile6 m c t (y 0) (y 1) (y 2))

theorem final7 : ((dats m 0 c).arrAt 7 (cfgs 0).N : FVec Ideal S4x256x128 .f32) = fun i => sqAvg (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg6)) : FVec Ideal S4x256x128 .f32) (ix3 (i 0) (i 1) (i 2))) := by
  refine (dats m 0 c).arrAt_eq_of_covers 7 _ (by decide +kernel) fun t _ y => ?_
  blk_simp
  rw [after0_7]; frame_out
  have h0 : (y 0).val = 0 := by
    have h : (y 0).val < 1 := (y 0).isLt
    omega
  have e0 : ((win0_7.blk t).view.emb y 0 : Fin 4) = at_ t := Fin.ext (by blk_simp [idx t, at_, h0])
  have e1 : ((win0_7.blk t).view.emb y 1 : Fin 256) = y 1 := Fin.ext (by blk_simp [idx t])
  have e2 : ((win0_7.blk t).view.emb y 2 : Fin 128) = y 2 := Fin.ext (by blk_simp [idx t])
  rw [e0, e1, e2]
  exact (congrArg _ (ValueIdx.eq_ix3 (n0 := 1) (n1 := 256) (n2 := 128) y)).trans (tile7 m c t (y 0) (y 1) (y 2))

end Cert.ColsIdeal.Value

namespace Cert.ColsRefIdeal.Value

open Cert.ColsRefIdeal Cert.ColsRefIdeal.Gen

open Cert.ColsIdeal.Value (grad layer place avg sqAvg delta)

variable (x0 x1 x2 x3 : FVec Ideal S8x6400x128 .bf16) (x4 x5 x6 : FVec Ideal S4x256x128 .f32)

theorem ref_grad : Read.val_main_v16 (F := Ideal) x0 x1 x2 x3 = fun i => grad x0 x1 x2 x3 (i 0) (i 1) (i 2) := by
  funext i
  rw [← Read.val_main_v16_eq]
  idx_vars i
  fin_cases i0 <;> pointwise [grad, layer, place]

theorem ref_avg : Read.val_main_v21 (F := Ideal) x0 x1 x2 x3 x5 = fun i => avg (grad x0 x1 x2 x3 (i 0) (i 1) (i 2)) (x5 (ix3 (i 0) (i 1) (i 2))) := by
  unfold Read.val_main_v21 Read.val_main_v20
  rw [ref_grad]
  funext i
  idx_vars i
  pointwise [avg, Read.val_main_v18, Read.val_main_v17, Read.val_main_cst_3, Read.val_main_v19, Read.val_main_cst_4]

theorem ref_sqAvg : Read.val_main_v27 (F := Ideal) x0 x1 x2 x3 x6 = fun i => sqAvg (grad x0 x1 x2 x3 (i 0) (i 1) (i 2)) (x6 (ix3 (i 0) (i 1) (i 2))) := by
  unfold Read.val_main_v27 Read.val_main_v26 Read.val_main_v24
  rw [ref_grad]
  funext i
  idx_vars i
  pointwise [sqAvg, Read.val_main_v23, Read.val_main_v22, Read.val_main_cst_5, Read.val_main_v25, Read.val_main_cst_6]

theorem ref_delta : Read.val_main_v40 (F := Ideal) x0 x1 x2 x3 x4 x5 x6 = fun i => delta (grad x0 x1 x2 x3 (i 0) (i 1) (i 2))
    (x4 (ix3 (i 0) (i 1) (i 2))) (x5 (ix3 (i 0) (i 1) (i 2))) (x6 (ix3 (i 0) (i 1) (i 2))) := by
  unfold Read.val_main_v40 Read.val_main_v38 Read.val_main_v35 Read.val_main_v34 Read.val_main_v32 Read.val_main_v31 Read.val_main_v29
  rw [ref_avg, ref_sqAvg]
  funext i
  idx_vars i
  pointwise [delta, Read.val_main_v39, Read.val_main_cst_11, Read.val_main_v37, Read.val_main_v36, Read.val_main_cst_10, Read.val_main_v33, Read.val_main_cst_9, Read.val_main_v30, Read.val_main_cst_8, Read.val_main_v28, Read.val_main_cst_7]

end Cert.ColsRefIdeal.Value

end
-- ==== Proof.ColsEq.lean ====
module

public import proofs.«01_k».proof.Defs
public import proofs.«01_k».proof.Proof.ColsValue
public import proofs.«01_k».proof.Proof.Gen.ColsRefIdeal
public import proofs.«01_k».proof.Proof.Gen.ColsIdeal
public import Idealize.ShloMosaic.Lib.Claim

/-! The optimiser's call on the fourth projection weight computes the reference's gradient, step and averages. -/

@[expose] public section

set_option maxRecDepth 16384

noncomputable section

namespace Cert.ColsProof

open Idealize.ShloMosaic Idealize.ShloMosaic.TcCoe Idealize.SL.Sem

theorem ref_frame (m : (ℓ : Loc Cert.ColsRefIdeal.nD Cert.ColsRefIdeal.τ Cert.ColsRefIdeal.sig) → Buf (Elt Ideal) ℓ) (ρ : Dev Cert.ColsRefIdeal.nD → PrngReg) :
    θ_run (Cert.ColsRefIdeal.defs (F := Ideal)) (onTc (τ := Cert.ColsRefIdeal.τ) (Cert.ColsRefIdeal.main (F := Ideal))) ⟨m, fun _ => 0, ρ⟩ (fun r => (∀ c : Dev Cert.ColsRefIdeal.nD,
      r.2.mem ((c.tc : Thread Cert.ColsRefIdeal.nD Cert.ColsRefIdeal.τ).loc Cert.ColsRefIdeal.main_arg0) = m ((c.tc : Thread Cert.ColsRefIdeal.nD Cert.ColsRefIdeal.τ).loc Cert.ColsRefIdeal.main_arg0)
      ∧ r.2.mem ((c.tc : Thread Cert.ColsRefIdeal.nD Cert.ColsRefIdeal.τ).loc Cert.ColsRefIdeal.main_arg1) = m ((c.tc : Thread Cert.ColsRefIdeal.nD Cert.ColsRefIdeal.τ).loc Cert.ColsRefIdeal.main_arg1)
      ∧ r.2.mem ((c.tc : Thread Cert.ColsRefIdeal.nD Cert.ColsRefIdeal.τ).loc Cert.ColsRefIdeal.main_arg2) = m ((c.tc : Thread Cert.ColsRefIdeal.nD Cert.ColsRefIdeal.τ).loc Cert.ColsRefIdeal.main_arg2)
      ∧ r.2.mem ((c.tc : Thread Cert.ColsRefIdeal.nD Cert.ColsRefIdeal.τ).loc Cert.ColsRefIdeal.main_arg3) = m ((c.tc : Thread Cert.ColsRefIdeal.nD Cert.ColsRefIdeal.τ).loc Cert.ColsRefIdeal.main_arg3)
      ∧ r.2.mem ((c.tc : Thread Cert.ColsRefIdeal.nD Cert.ColsRefIdeal.τ).loc Cert.ColsRefIdeal.main_arg4) = m ((c.tc : Thread Cert.ColsRefIdeal.nD Cert.ColsRefIdeal.τ).loc Cert.ColsRefIdeal.main_arg4)
      ∧ r.2.mem ((c.tc : Thread Cert.ColsRefIdeal.nD Cert.ColsRefIdeal.τ).loc Cert.ColsRefIdeal.main_arg5) = m ((c.tc : Thread Cert.ColsRefIdeal.nD Cert.ColsRefIdeal.τ).loc Cert.ColsRefIdeal.main_arg5)
      ∧ r.2.mem ((c.tc : Thread Cert.ColsRefIdeal.nD Cert.ColsRefIdeal.τ).loc Cert.ColsRefIdeal.main_arg6) = m ((c.tc : Thread Cert.ColsRefIdeal.nD Cert.ColsRefIdeal.τ).loc Cert.ColsRefIdeal.main_arg6))
      ∧ r.2.sem = fun _ => 0) :=
  (θ_run _ _ _).mono (fun r h => ⟨fun c => (h c).2.2.2.2, Idealize.ShloMosaic.sem_eq_zero_of_no_sems (by decide) r.2⟩)
    (Cert.ColsRefIdeal.Value.run (F := Ideal) m ρ)

theorem algebraic : Cert.algebraic_ColsIdeal_ColsRefIdeal := by
  pair_intro
  · run_from Cert.ColsIdeal.Value.run_blocks m g
  · run_from Cert.ColsRefIdeal.Value.run m' g'
    · exact (Cert.ColsRefIdeal.Value.ref_grad _ _ _ _).trans (Cert.ColsIdeal.Value.final4 m c).symm
    · obtain ⟨a0, a1, a2, a3, a4, a5, a6⟩ := hagree c
      refine (Cert.ColsRefIdeal.Read.val_main_v40_eq _ _).trans ((Cert.ColsRefIdeal.Value.ref_delta _ _ _ _ _ _ _).trans (Eq.trans ?_ (Cert.ColsIdeal.Value.final5 m c).symm))
      rw [a0, a1, a2, a3, a4, a5, a6]
      rfl
    · exact (Cert.ColsRefIdeal.Value.ref_avg _ _ _ _ _).trans (Cert.ColsIdeal.Value.final6 m c).symm
    · exact (Cert.ColsRefIdeal.Value.ref_sqAvg _ _ _ _ _).trans (Cert.ColsIdeal.Value.final7 m c).symm

end Cert.ColsProof

end
-- ==== Proof.KernValue.lean ====
module

public import proofs.«01_k».proof.Proof.Gen.KernIdeal.Value
public import proofs.«01_k».proof.Proof.Gen.KernRefIdeal.Run
public import proofs.«01_k».proof.Proof.Gen.KernRefIdeal.Read
public import Idealize.ShloMosaic.Lib.Pipeline.ValueKit
public import Idealize.ShloMosaic.Lib.Pointwise

/-! The convolution's taps of each layer: the eight parts of the gradient added up, and the optimiser's update. -/

@[expose] public section

set_option maxRecDepth 16384

noncomputable section

open Idealize.ShloMosaic Idealize.ShloMosaic.TcCoe Idealize.SL.Sem
open Idealize.ShloMosaic.Pipeline (Dat)

namespace Cert.KernIdeal.Value

open Cert.KernIdeal Cert.KernIdeal.Gen

variable (m : (ℓ : Loc nD τ sig) → Buf (Elt Ideal) ℓ)

theorem idx : ∀ t : Fin cfg0.N, win0_0.index t = ![0, 208 * t.val + 200, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] :=
  (by decide +kernel : ∀ t : Fin grid0.N, _)

theorem lt_t (t : Fin cfg0.N) : t.val < 4 := t.2

/-- The parts of layer `l`. -/
def layer (x0 x1 x2 x3 : FVec Ideal S8x6656x128 .bf16) (l : ℕ) : FVec Ideal S8x6656x128 .bf16 :=
  if l = 0 then x0 else if l = 1 then x1 else if l = 2 then x2 else x3

/-- Where a row of the block lies among a layer's rows. -/
def place (r : Fin 32) : Fin 6656 := ⟨6400 + r.val, by have := r.2; omega⟩

/-- The eight parts of an entry, added. -/
def grad (x0 x1 x2 x3 : FVec Ideal S8x6656x128 .bf16) (l : Fin 4) (r : Fin 31) (j : Fin 32) : EReal :=
  ∑ d : Fin 8, layer x0 x1 x2 x3 l.val (ix3 d (place ⟨r.val, by have := r.2; omega⟩) ⟨j.val, by have := j.2; omega⟩)

/-- The two averages and the step, from the gradient and the old values. -/
def avg (g p : EReal) : EReal := Ideal.ofBits .f32 0x3F666666#32 * p + Ideal.ofBits .f32 0x3DCCCCCD#32 * g

def sqAvg (g p : EReal) : EReal := Ideal.ofBits .f32 0x3F7FBE77#32 * p + Ideal.ofBits .f32 0x3A83126F#32 * (g * g)

def delta (g w p q : EReal) : EReal :=
  Ideal.ofBits .f32 0xBA83126F#32 * (Ideal.div (Ideal.div (avg g p) (Ideal.ofBits .f32 0x3F26BD02#32))
    (Ideal.sqrt (Ideal.div (sqAvg g q) (Ideal.ofBits .f32 0x3C231ACC#32)) + Ideal.ofBits .f32 0x322BCC77#32)
    + Ideal.ofBits .f32 0x3C23D70A#32 * w)

variable (c : Dev nD) (t : Fin cfg0.N)

theorem entry (l : ℕ) (hl : l < 4) (d : Fin 8) (r : Fin 32) (j : Fin 128) :
    (V m c main_v0 : FVec Ideal S8x26624x128 .bf16) (ix3 d ⟨l * 6656 + (6400 + r.val), by have := r.2; omega⟩ j)
      = layer (m ((c : Thread nD τ).loc main_arg0)) (m ((c : Thread nD τ).loc main_arg1)) (m ((c : Thread nD τ).loc main_arg2)) (m ((c : Thread nD τ).loc main_arg3)) l (ix3 d (place r) j) := by
  show (StableHlo.after hostOps0 (fun b => m (c, b)) (Proc.devRef .tc main_v0) : FVec Ideal S8x26624x128 .bf16) _ = _
  after_results
  have hr := r.2
  rcases (by omega : l = 0 ∨ l = 1 ∨ l = 2 ∨ l = 3) with h | h | h | h <;> subst h <;> pointwise [layer, place]
  · exact dif_pos (by omega)
  · exact dif_pos (by omega)
  · refine (dif_neg (by omega)).trans ((dif_neg (by omega)).trans ((dif_pos (by omega)).trans ?_))
    exact congrArg (fun q => (m (c, Proc.devRef .tc main_arg2) : FVec Ideal S8x6656x128 .bf16) (ix3 d q j)) (Fin.ext (by show 13312 + (6400 + r.val) - 6656 - 6656 = 6400 + r.val; omega))
  · refine (dif_neg (by omega)).trans ((dif_neg (by omega)).trans ((dif_neg (by omega)).trans ?_))
    exact congrArg (fun q => (m (c, Proc.devRef .tc main_arg3) : FVec Ideal S8x6656x128 .bf16) (ix3 d q j)) (Fin.ext (by show 19968 + (6400 + r.val) - 6656 - 6656 - 6656 = 6400 + r.val; omega))
/-- The layer of a grid point. -/
def at_ : Fin 4 := ⟨t.val, lt_t t⟩

theorem blk_g (d : Fin 8) (r : Fin 32) (j : Fin 128) : (iblk m c 0 t : FVec Ideal S8x32x128 .bf16) (ix3 d r j)
    = layer (m ((c : Thread nD τ).loc main_arg0)) (m ((c : Thread nD τ).loc main_arg1)) (m ((c : Thread nD τ).loc main_arg2)) (m ((c : Thread nD τ).loc main_arg3)) t.val (ix3 d (place r) j) := by
  refine Eq.trans ?_ (entry m c t.val (lt_t t) d r j)
  blk_point [iblk, idx t]

theorem blk_w (u : Fin 1) (r : Fin 31) (j : Fin 32) : (iblk m c 1 t : FVec Ideal S1x31x32 .f32) (ix3 u r j)
    = ((m ((c : Thread nD τ).loc main_arg4)) : FVec Ideal S4x31x32 .f32) (ix3 (at_ t) r j) := by
  refine Eq.trans ?_ (congrFun (V_main_arg4 m c) _)
  show (iblk m c 1 t : FVec Ideal S1x31x32 .f32) (ix3 u r j) = _
  have hu : u = 0 := Fin.eq_zero u
  subst hu
  blk_point [iblk, idx t, at_]

theorem blk_m (u : Fin 1) (r : Fin 31) (j : Fin 32) : (iblk m c 2 t : FVec Ideal S1x31x32 .f32) (ix3 u r j)
    = ((m ((c : Thread nD τ).loc main_arg5)) : FVec Ideal S4x31x32 .f32) (ix3 (at_ t) r j) := by
  refine Eq.trans ?_ (congrFun (V_main_arg5 m c) _)
  show (iblk m c 2 t : FVec Ideal S1x31x32 .f32) (ix3 u r j) = _
  have hu : u = 0 := Fin.eq_zero u
  subst hu
  blk_point [iblk, idx t, at_]

theorem blk_v (u : Fin 1) (r : Fin 31) (j : Fin 32) : (iblk m c 3 t : FVec Ideal S1x31x32 .f32) (ix3 u r j)
    = ((m ((c : Thread nD τ).loc main_arg6)) : FVec Ideal S4x31x32 .f32) (ix3 (at_ t) r j) := by
  refine Eq.trans ?_ (congrFun (V_main_arg6 m c) _)
  show (iblk m c 3 t : FVec Ideal S1x31x32 .f32) (ix3 u r j) = _
  have hu : u = 0 := Fin.eq_zero u
  subst hu
  blk_point [iblk, idx t, at_]

abbrev gr (r : Fin 31) (j : Fin 32) : EReal := grad (m ((c : Thread nD τ).loc main_arg0)) (m ((c : Thread nD τ).loc main_arg1)) (m ((c : Thread nD τ).loc main_arg2)) (m ((c : Thread nD τ).loc main_arg3)) (at_ t) r j

theorem sum8 (r : Fin 31) (j : Fin 32) :
    k0_pay8 (F := Ideal) (iblk m c 0 t) (iblk m c 1 t) (iblk m c 2 t) (iblk m c 3 t) (ix2 r j) = gr m c t r j := by
  pointwise [k0_pay8, k0_pay3]
  simp only [blk_g]
  exact (Fin.sum_univ_eight fun d => layer (m ((c : Thread nD τ).loc main_arg0)) (m ((c : Thread nD τ).loc main_arg1)) (m ((c : Thread nD τ).loc main_arg2)) (m ((c : Thread nD τ).loc main_arg3)) t.val (ix3 d (place ⟨r.val, by have := r.2; omega⟩) ⟨j.val, by have := j.2; omega⟩)).symm

theorem tile4 (u : Fin 1) (r : Fin 31) (j : Fin 32) :
    k0_pay6 (F := Ideal) (k0_pay8 (iblk m c 0 t) (iblk m c 1 t) (iblk m c 2 t) (iblk m c 3 t)) (ix3 u r j) = gr m c t r j := by
  pointwise [k0_pay6]
  exact sum8 m c t r j

theorem tile6 (u : Fin 1) (r : Fin 31) (j : Fin 32) :
    k0_pay1 (F := Ideal) (k0_pay4 (k0_pay8 (iblk m c 0 t) (iblk m c 1 t) (iblk m c 2 t) (iblk m c 3 t)) (iblk m c 2 t)) (ix3 u r j)
      = avg (gr m c t r j) (((m ((c : Thread nD τ).loc main_arg5)) : FVec Ideal S4x31x32 .f32) (ix3 (at_ t) r j)) := by
  pointwise [k0_pay1, k0_pay4, avg]
  rw [sum8, blk_m]

theorem tile7 (u : Fin 1) (r : Fin 31) (j : Fin 32) :
    k0_pay2 (F := Ideal) (k0_pay5 (k0_pay8 (iblk m c 0 t) (iblk m c 1 t) (iblk m c 2 t) (iblk m c 3 t)) (iblk m c 3 t)) (ix3 u r j)
      = sqAvg (gr m c t r j) (((m ((c : Thread nD τ).loc main_arg6)) : FVec Ideal S4x31x32 .f32) (ix3 (at_ t) r j)) := by
  pointwise [k0_pay2, k0_pay5, sqAvg]
  rw [sum8, blk_v]

theorem tile5 (u : Fin 1) (r : Fin 31) (j : Fin 32) :
    k0_pay7 (F := Ideal) (k0_pay8 (iblk m c 0 t) (iblk m c 1 t) (iblk m c 2 t) (iblk m c 3 t)) (iblk m c 1 t) (iblk m c 2 t) (iblk m c 3 t) (ix3 u r j)
      = delta (gr m c t r j) (((m ((c : Thread nD τ).loc main_arg4)) : FVec Ideal S4x31x32 .f32) (ix3 (at_ t) r j)) (((m ((c : Thread nD τ).loc main_arg5)) : FVec Ideal S4x31x32 .f32) (ix3 (at_ t) r j))
        (((m ((c : Thread nD τ).loc main_arg6)) : FVec Ideal S4x31x32 .f32) (ix3 (at_ t) r j)) := by
  pointwise [k0_pay7, k0_pay4, k0_pay5, delta, avg, sqAvg]
  rw [sum8, blk_w, blk_m, blk_v]

theorem final4 : ((dats m 0 c).arrAt 4 (cfgs 0).N : FVec Ideal S4x31x32 .f32) = fun i => (grad (m ((c : Thread nD τ).loc main_arg0)) (m ((c : Thread nD τ).loc main_arg1)) (m ((c : Thread nD τ).loc main_arg2)) (m ((c : Thread nD τ).loc main_arg3)) (i 0) (i 1) (i 2)) := by
  refine (dats m 0 c).arrAt_eq_of_covers 4 _ (by decide +kernel) fun t _ y => ?_
  blk_simp
  rw [after0_4]; frame_out
  have h0 : (y 0).val = 0 := by
    have h : (y 0).val < 1 := (y 0).isLt
    omega
  have e0 : ((win0_4.blk t).view.emb y 0 : Fin 4) = at_ t := Fin.ext (by blk_simp [idx t, at_, h0])
  have e1 : ((win0_4.blk t).view.emb y 1 : Fin 31) = y 1 := Fin.ext (by blk_simp [idx t])
  have e2 : ((win0_4.blk t).view.emb y 2 : Fin 32) = y 2 := Fin.ext (by blk_simp [idx t])
  rw [e0, e1, e2]
  exact (congrArg _ (ValueIdx.eq_ix3 (n0 := 1) (n1 := 31) (n2 := 32) y)).trans (tile4 m c t (y 0) (y 1) (y 2))

theorem final5 : ((dats m 0 c).arrAt 5 (cfgs 0).N : FVec Ideal S4x31x32 .f32) = fun i => delta (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg4)) : FVec Ideal S4x31x32 .f32) (ix3 (i 0) (i 1) (i 2))) (((m ((c : Thread nD τ).loc main_arg5)) : FVec Ideal S4x31x32 .f32) (ix3 (i 0) (i 1) (i 2))) (((m ((c : Thread nD τ).loc main_arg6)) : FVec Ideal S4x31x32 .f32) (ix3 (i 0) (i 1) (i 2))) := by
  refine (dats m 0 c).arrAt_eq_of_covers 5 _ (by decide +kernel) fun t _ y => ?_
  blk_simp
  rw [after0_5]; frame_out
  have h0 : (y 0).val = 0 := by
    have h : (y 0).val < 1 := (y 0).isLt
    omega
  have e0 : ((win0_5.blk t).view.emb y 0 : Fin 4) = at_ t := Fin.ext (by blk_simp [idx t, at_, h0])
  have e1 : ((win0_5.blk t).view.emb y 1 : Fin 31) = y 1 := Fin.ext (by blk_simp [idx t])
  have e2 : ((win0_5.blk t).view.emb y 2 : Fin 32) = y 2 := Fin.ext (by blk_simp [idx t])
  rw [e0, e1, e2]
  exact (congrArg _ (ValueIdx.eq_ix3 (n0 := 1) (n1 := 31) (n2 := 32) y)).trans (tile5 m c t (y 0) (y 1) (y 2))

theorem final6 : ((dats m 0 c).arrAt 6 (cfgs 0).N : FVec Ideal S4x31x32 .f32) = fun i => avg (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg5)) : FVec Ideal S4x31x32 .f32) (ix3 (i 0) (i 1) (i 2))) := by
  refine (dats m 0 c).arrAt_eq_of_covers 6 _ (by decide +kernel) fun t _ y => ?_
  blk_simp
  rw [after0_6]; frame_out
  have h0 : (y 0).val = 0 := by
    have h : (y 0).val < 1 := (y 0).isLt
    omega
  have e0 : ((win0_6.blk t).view.emb y 0 : Fin 4) = at_ t := Fin.ext (by blk_simp [idx t, at_, h0])
  have e1 : ((win0_6.blk t).view.emb y 1 : Fin 31) = y 1 := Fin.ext (by blk_simp [idx t])
  have e2 : ((win0_6.blk t).view.emb y 2 : Fin 32) = y 2 := Fin.ext (by blk_simp [idx t])
  rw [e0, e1, e2]
  exact (congrArg _ (ValueIdx.eq_ix3 (n0 := 1) (n1 := 31) (n2 := 32) y)).trans (tile6 m c t (y 0) (y 1) (y 2))

theorem final7 : ((dats m 0 c).arrAt 7 (cfgs 0).N : FVec Ideal S4x31x32 .f32) = fun i => sqAvg (grad (m ((c : Thread nD τ).loc main_arg0)) (m ((c : Thread nD τ).loc main_arg1)) (m ((c : Thread nD τ).loc main_arg2)) (m ((c : Thread nD τ).loc main_arg3)) (i 0) (i 1) (i 2)) (((m ((c : Thread nD τ).loc main_arg6)) : FVec Ideal S4x31x32 .f32) (ix3 (i 0) (i 1) (i 2))) := by
  refine (dats m 0 c).arrAt_eq_of_covers 7 _ (by decide +kernel) fun t _ y => ?_
  blk_simp
  rw [after0_7]; frame_out
  have h0 : (y 0).val = 0 := by
    have h : (y 0).val < 1 := (y 0).isLt
    omega
  have e0 : ((win0_7.blk t).view.emb y 0 : Fin 4) = at_ t := Fin.ext (by blk_simp [idx t, at_, h0])
  have e1 : ((win0_7.blk t).view.emb y 1 : Fin 31) = y 1 := Fin.ext (by blk_simp [idx t])
  have e2 : ((win0_7.blk t).view.emb y 2 : Fin 32) = y 2 := Fin.ext (by blk_simp [idx t])
  rw [e0, e1, e2]
  exact (congrArg _ (ValueIdx.eq_ix3 (n0 := 1) (n1 := 31) (n2 := 32) y)).trans (tile7 m c t (y 0) (y 1) (y 2))

end Cert.KernIdeal.Value

namespace Cert.KernRefIdeal.Value

open Cert.KernRefIdeal Cert.KernRefIdeal.Gen

open Cert.KernIdeal.Value (grad layer place avg sqAvg delta)

variable (x0 x1 x2 x3 : FVec Ideal S8x6656x128 .bf16) (x4 x5 x6 : FVec Ideal S4x31x32 .f32)

theorem ref_grad : Read.val_main_v16 (F := Ideal) x0 x1 x2 x3 = fun i => grad x0 x1 x2 x3 (i 0) (i 1) (i 2) := by
  funext i
  rw [← Read.val_main_v16_eq]
  idx_vars i
  fin_cases i0 <;> pointwise [grad, layer, place]

theorem ref_avg : Read.val_main_v21 (F := Ideal) x0 x1 x2 x3 x5 = fun i => avg (grad x0 x1 x2 x3 (i 0) (i 1) (i 2)) (x5 (ix3 (i 0) (i 1) (i 2))) := by
  unfold Read.val_main_v21 Read.val_main_v20
  rw [ref_grad]
  funext i
  idx_vars i
  pointwise [avg, Read.val_main_v18, Read.val_main_v17, Read.val_main_cst_3, Read.val_main_v19, Read.val_main_cst_4]

theorem ref_sqAvg : Read.val_main_v27 (F := Ideal) x0 x1 x2 x3 x6 = fun i => sqAvg (grad x0 x1 x2 x3 (i 0) (i 1) (i 2)) (x6 (ix3 (i 0) (i 1) (i 2))) := by
  unfold Read.val_main_v27 Read.val_main_v26 Read.val_main_v24
  rw [ref_grad]
  funext i
  idx_vars i
  pointwise [sqAvg, Read.val_main_v23, Read.val_main_v22, Read.val_main_cst_5, Read.val_main_v25, Read.val_main_cst_6]

theorem ref_delta : Read.val_main_v40 (F := Ideal) x0 x1 x2 x3 x4 x5 x6 = fun i => delta (grad x0 x1 x2 x3 (i 0) (i 1) (i 2))
    (x4 (ix3 (i 0) (i 1) (i 2))) (x5 (ix3 (i 0) (i 1) (i 2))) (x6 (ix3 (i 0) (i 1) (i 2))) := by
  unfold Read.val_main_v40 Read.val_main_v38 Read.val_main_v35 Read.val_main_v34 Read.val_main_v32 Read.val_main_v31 Read.val_main_v29
  rw [ref_avg, ref_sqAvg]
  funext i
  idx_vars i
  pointwise [delta, Read.val_main_v39, Read.val_main_cst_11, Read.val_main_v37, Read.val_main_v36, Read.val_main_cst_10, Read.val_main_v33, Read.val_main_cst_9, Read.val_main_v30, Read.val_main_cst_8, Read.val_main_v28, Read.val_main_cst_7]

end Cert.KernRefIdeal.Value

end
-- ==== Proof.KernEq.lean ====
module

public import proofs.«01_k».proof.Defs
public import proofs.«01_k».proof.Proof.KernValue
public import proofs.«01_k».proof.Proof.Gen.KernRefIdeal
public import proofs.«01_k».proof.Proof.Gen.KernIdeal
public import Idealize.ShloMosaic.Lib.Claim

/-! The optimiser's call on the convolution's taps computes the reference's gradient, step and averages. -/

@[expose] public section

set_option maxRecDepth 16384

noncomputable section

namespace Cert.KernProof

open Idealize.ShloMosaic Idealize.ShloMosaic.TcCoe Idealize.SL.Sem

theorem ref_frame (m : (ℓ : Loc Cert.KernRefIdeal.nD Cert.KernRefIdeal.τ Cert.KernRefIdeal.sig) → Buf (Elt Ideal) ℓ) (ρ : Dev Cert.KernRefIdeal.nD → PrngReg) :
    θ_run (Cert.KernRefIdeal.defs (F := Ideal)) (onTc (τ := Cert.KernRefIdeal.τ) (Cert.KernRefIdeal.main (F := Ideal))) ⟨m, fun _ => 0, ρ⟩ (fun r => (∀ c : Dev Cert.KernRefIdeal.nD,
      r.2.mem ((c.tc : Thread Cert.KernRefIdeal.nD Cert.KernRefIdeal.τ).loc Cert.KernRefIdeal.main_arg0) = m ((c.tc : Thread Cert.KernRefIdeal.nD Cert.KernRefIdeal.τ).loc Cert.KernRefIdeal.main_arg0)
      ∧ r.2.mem ((c.tc : Thread Cert.KernRefIdeal.nD Cert.KernRefIdeal.τ).loc Cert.KernRefIdeal.main_arg1) = m ((c.tc : Thread Cert.KernRefIdeal.nD Cert.KernRefIdeal.τ).loc Cert.KernRefIdeal.main_arg1)
      ∧ r.2.mem ((c.tc : Thread Cert.KernRefIdeal.nD Cert.KernRefIdeal.τ).loc Cert.KernRefIdeal.main_arg2) = m ((c.tc : Thread Cert.KernRefIdeal.nD Cert.KernRefIdeal.τ).loc Cert.KernRefIdeal.main_arg2)
      ∧ r.2.mem ((c.tc : Thread Cert.KernRefIdeal.nD Cert.KernRefIdeal.τ).loc Cert.KernRefIdeal.main_arg3) = m ((c.tc : Thread Cert.KernRefIdeal.nD Cert.KernRefIdeal.τ).loc Cert.KernRefIdeal.main_arg3)
      ∧ r.2.mem ((c.tc : Thread Cert.KernRefIdeal.nD Cert.KernRefIdeal.τ).loc Cert.KernRefIdeal.main_arg4) = m ((c.tc : Thread Cert.KernRefIdeal.nD Cert.KernRefIdeal.τ).loc Cert.KernRefIdeal.main_arg4)
      ∧ r.2.mem ((c.tc : Thread Cert.KernRefIdeal.nD Cert.KernRefIdeal.τ).loc Cert.KernRefIdeal.main_arg5) = m ((c.tc : Thread Cert.KernRefIdeal.nD Cert.KernRefIdeal.τ).loc Cert.KernRefIdeal.main_arg5)
      ∧ r.2.mem ((c.tc : Thread Cert.KernRefIdeal.nD Cert.KernRefIdeal.τ).loc Cert.KernRefIdeal.main_arg6) = m ((c.tc : Thread Cert.KernRefIdeal.nD Cert.KernRefIdeal.τ).loc Cert.KernRefIdeal.main_arg6))
      ∧ r.2.sem = fun _ => 0) :=
  (θ_run _ _ _).mono (fun r h => ⟨fun c => (h c).2.2.2.2, Idealize.ShloMosaic.sem_eq_zero_of_no_sems (by decide) r.2⟩)
    (Cert.KernRefIdeal.Value.run (F := Ideal) m ρ)

theorem algebraic : Cert.algebraic_KernIdeal_KernRefIdeal := by
  pair_intro
  · run_from Cert.KernIdeal.Value.run_blocks m g
  · run_from Cert.KernRefIdeal.Value.run m' g'
    · exact (Cert.KernRefIdeal.Value.ref_grad _ _ _ _).trans (Cert.KernIdeal.Value.final4 m c).symm
    · obtain ⟨a0, a1, a2, a3, a4, a5, a6⟩ := hagree c
      refine (Cert.KernRefIdeal.Read.val_main_v40_eq _ _).trans ((Cert.KernRefIdeal.Value.ref_delta _ _ _ _ _ _ _).trans (Eq.trans ?_ (Cert.KernIdeal.Value.final5 m c).symm))
      rw [a0, a1, a2, a3, a4, a5, a6]
      rfl
    · exact (Cert.KernRefIdeal.Value.ref_avg _ _ _ _ _).trans (Cert.KernIdeal.Value.final6 m c).symm
    · exact (Cert.KernRefIdeal.Value.ref_sqAvg _ _ _ _ _).trans (Cert.KernIdeal.Value.final7 m c).symm

end Cert.KernProof

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_ffn_finite
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnEq
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.AttnEq
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.PleEq
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.NormRefIdeal.Read
public import proofs.«01_k».proof.Proof.NormEq
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.LossEq
public import proofs.«01_k».proof.Proof.Gen.Blend
public import proofs.«01_k».proof.Proof.Gen.Blend.Skeleton
public import proofs.«01_k».proof.Proof.Gen.Blend.Launch
public import proofs.«01_k».proof.Proof.Gen.Blend.Points
public import proofs.«01_k».proof.Proof.Gen.Blend.Frame
public import proofs.«01_k».proof.Proof.Gen.BlendIdeal
public import proofs.«01_k».proof.Proof.Gen.BlendIdeal.Skeleton
public import proofs.«01_k».proof.Proof.Gen.BlendIdeal.Launch
public import proofs.«01_k».proof.Proof.Gen.BlendIdeal.Points
public import proofs.«01_k».proof.Proof.Gen.BlendIdeal.Frame
public import proofs.«01_k».proof.Proof.Gen.BlendIdeal.Value
public import proofs.«01_k».proof.Proof.Gen.BlendRefIdeal
public import proofs.«01_k».proof.Proof.Gen.BlendRefIdeal.Run
public import proofs.«01_k».proof.Proof.Gen.BlendRefIdeal.Read
public import proofs.«01_k».proof.Proof.BlendEq
public import proofs.«01_k».proof.Proof.Gen.Coeff
public import proofs.«01_k».proof.Proof.Gen.Coeff.Skeleton
public import proofs.«01_k».proof.Proof.Gen.Coeff.Launch
public import proofs.«01_k».proof.Proof.Gen.Coeff.Points
public import proofs.«01_k».proof.Proof.Gen.Coeff.Frame
public import proofs.«01_k».proof.Proof.Gen.CoeffIdeal
public import proofs.«01_k».proof.Proof.Gen.CoeffIdeal.Skeleton
public import proofs.«01_k».proof.Proof.Gen.CoeffIdeal.Launch
public import proofs.«01_k».proof.Proof.Gen.CoeffIdeal.Points
public import proofs.«01_k».proof.Proof.Gen.CoeffIdeal.Frame
public import proofs.«01_k».proof.Proof.Gen.CoeffRefIdeal
public import proofs.«01_k».proof.Proof.Gen.CoeffRefIdeal.Run
public import proofs.«01_k».proof.Proof.Gen.CoeffRefIdeal.Read
public import proofs.«01_k».proof.Proof.CoeffEq
public import proofs.«01_k».proof.Proof.Gen.Disc
public import proofs.«01_k».proof.Proof.Gen.Disc.Skeleton
public import proofs.«01_k».proof.Proof.Gen.Disc.Launch
public import proofs.«01_k».proof.Proof.Gen.Disc.Points
public import proofs.«01_k».proof.Proof.Gen.Disc.Frame
public import proofs.«01_k».proof.Proof.Gen.DiscIdeal
public import proofs.«01_k».proof.Proof.Gen.DiscIdeal.Skeleton
public import proofs.«01_k».proof.Proof.Gen.DiscIdeal.Launch
public import proofs.«01_k».proof.Proof.Gen.DiscIdeal.Points
public import proofs.«01_k».proof.Proof.Gen.DiscIdeal.Frame
public import proofs.«01_k».proof.Proof.Gen.DiscRefIdeal
public import proofs.«01_k».proof.Proof.Gen.DiscRefIdeal.Run
public import proofs.«01_k».proof.Proof.Gen.DiscRefIdeal.Read
public import proofs.«01_k».proof.Proof.DiscEq
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.ActEq
public import proofs.«01_k».proof.Proof.Gen.Taps
public import proofs.«01_k».proof.Proof.Gen.Taps.Skeleton
public import proofs.«01_k».proof.Proof.Gen.Taps.Launch
public import proofs.«01_k».proof.Proof.Gen.Taps.Points
public import proofs.«01_k».proof.Proof.Gen.Taps.Frame
public import proofs.«01_k».proof.Proof.Gen.TapsIdeal
public import proofs.«01_k».proof.Proof.Gen.TapsIdeal.Skeleton
public import proofs.«01_k».proof.Proof.Gen.TapsIdeal.Launch
public import proofs.«01_k».proof.Proof.Gen.TapsIdeal.Points
public import proofs.«01_k».proof.Proof.Gen.TapsIdeal.Frame
public import proofs.«01_k».proof.Proof.Gen.TapsIdeal.Value
public import proofs.«01_k».proof.Proof.Gen.TapsRefIdeal
public import proofs.«01_k».proof.Proof.Gen.TapsRefIdeal.Run
public import proofs.«01_k».proof.Proof.Gen.TapsRefIdeal.Read
public import proofs.«01_k».proof.Proof.TapsEq
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.ConvFrame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxIdeal.Value
public import proofs.«01_k».proof.Proof.Gen.DxRefIdeal.Run
public import proofs.«01_k».proof.Proof.Gen.DxRefIdeal.Read
public import proofs.«01_k».proof.Proof.DxEq
public import proofs.«01_k».proof.Proof.Gen.Add
public import proofs.«01_k».proof.Proof.Gen.Add.Skeleton
public import proofs.«01_k».proof.Proof.Gen.Add.Launch
public import proofs.«01_k».proof.Proof.Gen.Add.Points
public import proofs.«01_k».proof.Proof.Gen.Add.Frame
public import proofs.«01_k».proof.Proof.Gen.AddIdeal
public import proofs.«01_k».proof.Proof.Gen.AddIdeal.Skeleton
public import proofs.«01_k».proof.Proof.Gen.AddIdeal.Launch
public import proofs.«01_k».proof.Proof.Gen.AddIdeal.Points
public import proofs.«01_k».proof.Proof.Gen.AddIdeal.Frame
public import proofs.«01_k».proof.Proof.Gen.AddRefIdeal
public import proofs.«01_k».proof.Proof.Gen.AddIdeal.Value
public import proofs.«01_k».proof.Proof.Gen.AddRefIdeal.Run
public import proofs.«01_k».proof.Proof.Gen.AddRefIdeal.Read
public import proofs.«01_k».proof.Proof.AddEq
public import proofs.«01_k».proof.Proof.Gen.Wgrad.Frame
public import proofs.«01_k».proof.Proof.Gen.WgradIdeal.Value
public import proofs.«01_k».proof.Proof.Gen.WgradRefIdeal.Run
public import proofs.«01_k».proof.Proof.Gen.WgradRefIdeal.Read
public import proofs.«01_k».proof.Proof.WgradEq
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamEq
public import proofs.«01_k».proof.Proof.Gen.Flat
public import proofs.«01_k».proof.Proof.Gen.Flat.Skeleton
public import proofs.«01_k».proof.Proof.Gen.Flat.Launch
public import proofs.«01_k».proof.Proof.Gen.Flat.Points
public import proofs.«01_k».proof.Proof.Gen.Flat.Frame
public import proofs.«01_k».proof.Proof.Gen.FlatIdeal
public import proofs.«01_k».proof.Proof.Gen.FlatIdeal.Skeleton
public import proofs.«01_k».proof.Proof.Gen.FlatIdeal.Launch
public import proofs.«01_k».proof.Proof.Gen.FlatIdeal.Points
public import proofs.«01_k».proof.Proof.Gen.FlatIdeal.Frame
public import proofs.«01_k».proof.Proof.Gen.FlatRefIdeal
public import proofs.«01_k».proof.Proof.Gen.FlatIdeal.Value
public import proofs.«01_k».proof.Proof.Gen.FlatRefIdeal.Run
public import proofs.«01_k».proof.Proof.Gen.FlatRefIdeal.Read
public import proofs.«01_k».proof.Proof.FlatEq
public import proofs.«01_k».proof.Proof.Gen.Cols
public import proofs.«01_k».proof.Proof.Gen.Cols.Skeleton
public import proofs.«01_k».proof.Proof.Gen.Cols.Launch
public import proofs.«01_k».proof.Proof.Gen.Cols.Points
public import proofs.«01_k».proof.Proof.Gen.Cols.Frame
public import proofs.«01_k».proof.Proof.Gen.ColsIdeal
public import proofs.«01_k».proof.Proof.Gen.ColsIdeal.Skeleton
public import proofs.«01_k».proof.Proof.Gen.ColsIdeal.Launch
public import proofs.«01_k».proof.Proof.Gen.ColsIdeal.Points
public import proofs.«01_k».proof.Proof.Gen.ColsIdeal.Frame
public import proofs.«01_k».proof.Proof.Gen.ColsRefIdeal
public import proofs.«01_k».proof.Proof.Gen.ColsIdeal.Value
public import proofs.«01_k».proof.Proof.Gen.ColsRefIdeal.Run
public import proofs.«01_k».proof.Proof.Gen.ColsRefIdeal.Read
public import proofs.«01_k».proof.Proof.ColsEq
public import proofs.«01_k».proof.Proof.Gen.Kern
public import proofs.«01_k».proof.Proof.Gen.Kern.Skeleton
public import proofs.«01_k».proof.Proof.Gen.Kern.Launch
public import proofs.«01_k».proof.Proof.Gen.Kern.Points
public import proofs.«01_k».proof.Proof.Gen.Kern.Frame
public import proofs.«01_k».proof.Proof.Gen.KernIdeal
public import proofs.«01_k».proof.Proof.Gen.KernIdeal.Skeleton
public import proofs.«01_k».proof.Proof.Gen.KernIdeal.Launch
public import proofs.«01_k».proof.Proof.Gen.KernIdeal.Points
public import proofs.«01_k».proof.Proof.Gen.KernIdeal.Frame
public import proofs.«01_k».proof.Proof.Gen.KernRefIdeal
public import proofs.«01_k».proof.Proof.Gen.KernIdeal.Value
public import proofs.«01_k».proof.Proof.Gen.KernRefIdeal.Run
public import proofs.«01_k».proof.Proof.Gen.KernRefIdeal.Read
public import proofs.«01_k».proof.Proof.KernEq
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.Attn.Gen.facts, Cert.AttnIdeal.Gen.facts, Cert.AttnRefIdeal.Gen.facts,
  Cert.Ple.Gen.facts, Cert.PleIdeal.Gen.facts, Cert.PleRefIdeal.Gen.facts,
  Cert.Norm.Gen.facts, Cert.NormIdeal.Gen.facts, Cert.NormRefIdeal.Gen.facts,
  Cert.Loss.Gen.facts, Cert.LossIdeal.Gen.facts, Cert.LossRefIdeal.Gen.facts,
  Cert.Blend.Gen.facts, Cert.BlendIdeal.Gen.facts, Cert.BlendRefIdeal.Gen.facts,
  Cert.Coeff.Gen.facts, Cert.CoeffIdeal.Gen.facts, Cert.CoeffRefIdeal.Gen.facts,
  Cert.Disc.Gen.facts, Cert.DiscIdeal.Gen.facts, Cert.DiscRefIdeal.Gen.facts,
  Cert.Act.Gen.facts, Cert.ActIdeal.Gen.facts, Cert.ActRefIdeal.Gen.facts,
  Cert.Taps.Gen.facts, Cert.TapsIdeal.Gen.facts, Cert.TapsRefIdeal.Gen.facts,
  Cert.Conv.Gen.facts, Cert.ConvIdeal.Gen.facts, Cert.ConvRefIdeal.Gen.facts,
  Cert.Dx.Gen.facts, Cert.DxIdeal.Gen.facts, Cert.DxRefIdeal.Gen.facts,
  Cert.Add.Gen.facts, Cert.AddIdeal.Gen.facts, Cert.AddRefIdeal.Gen.facts,
  Cert.Wgrad.Gen.facts, Cert.WgradIdeal.Gen.facts, Cert.WgradRefIdeal.Gen.facts,
  Cert.Adam.Gen.facts, Cert.AdamIdeal.Gen.facts, Cert.AdamRefIdeal.Gen.facts,
  Cert.Flat.Gen.facts, Cert.FlatIdeal.Gen.facts, Cert.FlatRefIdeal.Gen.facts,
  Cert.Cols.Gen.facts, Cert.ColsIdeal.Gen.facts, Cert.ColsRefIdeal.Gen.facts,
  Cert.Kern.Gen.facts, Cert.KernIdeal.Gen.facts, Cert.KernRefIdeal.Gen.facts,
  Cert.Pre_ffn_finite.Gen.facts, Cert.Pre_attn_finite.Gen.facts,
  fun m ρ _ => Cert.Ffn.Gen.frame m ρ, fun m ρ _ => Cert.FfnIdeal.Gen.frame m ρ, fun m ρ _ => Cert.FfnIdeal.Gen.frame m ρ,
  fun m ρ _ => Cert.FfnProof.ref_frame m ρ, fun m ρ _ => Cert.FfnProof.ref_frame m ρ,
  fun m ρ _ => Cert.Attn.Gen.frame m ρ, fun m ρ _ => Cert.AttnIdeal.Gen.frame m ρ, fun m ρ _ => Cert.AttnIdeal.Gen.frame m ρ,
  fun m ρ _ => Cert.AttnProof.ref_frame m ρ, fun m ρ _ => Cert.AttnProof.ref_frame m ρ,
  fun m ρ _ => Cert.Ple.Gen.frame m ρ, fun m ρ _ => Cert.PleIdeal.Gen.frame m ρ, fun m ρ _ => Cert.PleProof.ref_frame m ρ,
  fun m ρ _ => Cert.Norm.Gen.frame m ρ, fun m ρ _ => Cert.NormIdeal.Gen.frame m ρ, fun m ρ _ => Cert.NormProof.ref_frame m ρ,
  fun m ρ _ => Cert.Loss.Gen.frame m ρ, fun m ρ _ => Cert.LossIdeal.Gen.frame m ρ, fun m ρ _ => Cert.LossProof.ref_frame m ρ,
  fun m ρ _ => Cert.Blend.Gen.frame m ρ, fun m ρ _ => Cert.BlendIdeal.Gen.frame m ρ, fun m ρ _ => Cert.BlendProof.ref_frame m ρ,
  fun m ρ _ => Cert.Coeff.Gen.frame m ρ, fun m ρ _ => Cert.CoeffIdeal.Gen.frame m ρ, fun m ρ _ => Cert.CoeffProof.ref_frame m ρ,
  fun m ρ _ => Cert.Disc.Gen.frame m ρ, fun m ρ _ => Cert.DiscIdeal.Gen.frame m ρ, fun m ρ _ => Cert.DiscProof.ref_frame m ρ,
  fun m ρ _ => Cert.Act.Gen.frame m ρ, fun m ρ _ => Cert.ActIdeal.Gen.frame m ρ, fun m ρ _ => Cert.ActProof.ref_frame m ρ,
  fun m ρ _ => Cert.Taps.Gen.frame m ρ, fun m ρ _ => Cert.TapsIdeal.Gen.frame m ρ, fun m ρ _ => Cert.TapsProof.ref_frame m ρ,
  fun m ρ _ => Cert.Conv.Gen.frame m ρ, fun m ρ _ => Cert.ConvIdeal.Gen.frame m ρ, fun m ρ _ => Cert.ConvProof.ref_frame m ρ,
  fun m ρ _ => Cert.Dx.Gen.frame m ρ, fun m ρ _ => Cert.DxIdeal.Gen.frame m ρ, fun m ρ _ => Cert.DxProof.ref_frame m ρ,
  fun m ρ _ => Cert.Add.Gen.frame m ρ, fun m ρ _ => Cert.AddIdeal.Gen.frame m ρ, fun m ρ _ => Cert.AddProof.ref_frame m ρ,
  fun m ρ _ => Cert.Wgrad.Gen.frame m ρ, fun m ρ _ => Cert.WgradIdeal.Gen.frame m ρ, fun m ρ _ => Cert.WgradProof.ref_frame m ρ,
  fun m ρ _ => Cert.Adam.Gen.frame m ρ, fun m ρ _ => Cert.AdamIdeal.Gen.frame m ρ, fun m ρ _ => Cert.AdamProof.ref_frame m ρ,
  fun m ρ _ => Cert.Flat.Gen.frame m ρ, fun m ρ _ => Cert.FlatIdeal.Gen.frame m ρ, fun m ρ _ => Cert.FlatProof.ref_frame m ρ,
  fun m ρ _ => Cert.Cols.Gen.frame m ρ, fun m ρ _ => Cert.ColsIdeal.Gen.frame m ρ, fun m ρ _ => Cert.ColsProof.ref_frame m ρ,
  fun m ρ _ => Cert.Kern.Gen.frame m ρ, fun m ρ _ => Cert.KernIdeal.Gen.frame m ρ, fun m ρ _ => Cert.KernProof.ref_frame m ρ,
  trivial, Cert.FfnProof.algebraic,
  IdealRules.named_const.statement _ _ _ _ _ rfl, Cert.AttnProof.algebraic,
  trivial, Cert.PleProof.algebraic,
  trivial, Cert.NormProof.algebraic,
  trivial, Cert.LossProof.algebraic,
  trivial, Cert.BlendProof.algebraic,
  trivial, Cert.CoeffProof.algebraic,
  trivial, Cert.DiscProof.algebraic,
  trivial, Cert.ActProof.algebraic,
  trivial, Cert.TapsProof.algebraic,
  trivial,
  trivial, Cert.DxProof.algebraic,
  trivial, Cert.AddProof.algebraic,
  trivial, Cert.WgradProof.algebraic,
  trivial, Cert.AdamProof.algebraic,
  trivial, Cert.FlatProof.algebraic,
  trivial, Cert.ColsProof.algebraic,
  trivial, Cert.KernProof.algebraic⟩

end Cert.Proof

end
